-- ==== Defs.lean ====
def Pre_HgrnPrompt (m : (ℓ : Loc Cert.HgrnPrompt.nD Cert.HgrnPrompt.τ Cert.HgrnPrompt.sig) → Buf (Elt Bits) ℓ) : Prop :=
  True

def Pre_HgrnPromptIdeal (m : (ℓ : Loc Cert.HgrnPromptIdeal.nD Cert.HgrnPromptIdeal.τ Cert.HgrnPromptIdeal.sig) → Buf (Elt Ideal) ℓ) : Prop :=
  True

def Pre_HgrnPromptRefIdeal (m : (ℓ : Loc Cert.HgrnPromptRefIdeal.nD Cert.HgrnPromptRefIdeal.τ Cert.HgrnPromptRefIdeal.sig) → Buf (Elt Ideal) ℓ) : Prop :=
  True

def Pre_MoeFfn [hPre_experts_exist : Cert.Pre_experts_exist.Facts] (m : (ℓ : Loc Cert.MoeFfn.nD Cert.MoeFfn.τ Cert.MoeFfn.sig) → Buf (Elt Bits) ℓ) : Prop :=
  ∀ c : Dev Cert.MoeFfn.nD,
    (Cert.Pre_experts_exist.fn (F := Bits) (m ((c.tc : Thread Cert.MoeFfn.nD Cert.MoeFfn.τ).loc Cert.MoeFfn.main_arg0)) (m ((c.tc : Thread Cert.MoeFfn.nD Cert.MoeFfn.τ).loc Cert.MoeFfn.main_arg1)) (m ((c.tc : Thread Cert.MoeFfn.nD Cert.MoeFfn.τ).loc Cert.MoeFfn.main_arg2)) (m ((c.tc : Thread Cert.MoeFfn.nD Cert.MoeFfn.τ).loc Cert.MoeFfn.main_arg3)) (m ((c.tc : Thread Cert.MoeFfn.nD Cert.MoeFfn.τ).loc Cert.MoeFfn.main_arg4)) (m ((c.tc : Thread Cert.MoeFfn.nD Cert.MoeFfn.τ).loc Cert.MoeFfn.main_arg5))) = (fun _ => 1#1)

def Pre_MoeFfnIdeal [hPre_experts_exist : Cert.Pre_experts_exist.Facts] (m : (ℓ : Loc Cert.MoeFfnIdeal.nD Cert.MoeFfnIdeal.τ Cert.MoeFfnIdeal.sig) → Buf (Elt Ideal) ℓ) : Prop :=
  ∀ c : Dev Cert.MoeFfnIdeal.nD,
    (Cert.Pre_experts_exist.fn (F := Ideal) (m ((c.tc : Thread Cert.MoeFfnIdeal.nD Cert.MoeFfnIdeal.τ).loc Cert.MoeFfnIdeal.main_arg0)) (m ((c.tc : Thread Cert.MoeFfnIdeal.nD Cert.MoeFfnIdeal.τ).loc Cert.MoeFfnIdeal.main_arg1)) (m ((c.tc : Thread Cert.MoeFfnIdeal.nD Cert.MoeFfnIdeal.τ).loc Cert.MoeFfnIdeal.main_arg2)) (m ((c.tc : Thread Cert.MoeFfnIdeal.nD Cert.MoeFfnIdeal.τ).loc Cert.MoeFfnIdeal.main_arg3)) (m ((c.tc : Thread Cert.MoeFfnIdeal.nD Cert.MoeFfnIdeal.τ).loc Cert.MoeFfnIdeal.main_arg4)) (m ((c.tc : Thread Cert.MoeFfnIdeal.nD Cert.MoeFfnIdeal.τ).loc Cert.MoeFfnIdeal.main_arg5))) = (fun _ => 1#1)

def Pre_MoeFfnRefIdeal [hPre_experts_exist : Cert.Pre_experts_exist.Facts] (m : (ℓ : Loc Cert.MoeFfnRefIdeal.nD Cert.MoeFfnRefIdeal.τ Cert.MoeFfnRefIdeal.sig) → Buf (Elt Ideal) ℓ) : Prop :=
  ∀ c : Dev Cert.MoeFfnRefIdeal.nD,
    (Cert.Pre_experts_exist.fn (F := Ideal) (m ((c.tc : Thread Cert.MoeFfnRefIdeal.nD Cert.MoeFfnRefIdeal.τ).loc Cert.MoeFfnRefIdeal.main_arg0)) (m ((c.tc : Thread Cert.MoeFfnRefIdeal.nD Cert.MoeFfnRefIdeal.τ).loc Cert.MoeFfnRefIdeal.main_arg1)) (m ((c.tc : Thread Cert.MoeFfnRefIdeal.nD Cert.MoeFfnRefIdeal.τ).loc Cert.MoeFfnRefIdeal.main_arg2)) (m ((c.tc : Thread Cert.MoeFfnRefIdeal.nD Cert.MoeFfnRefIdeal.τ).loc Cert.MoeFfnRefIdeal.main_arg3)) (m ((c.tc : Thread Cert.MoeFfnRefIdeal.nD Cert.MoeFfnRefIdeal.τ).loc Cert.MoeFfnRefIdeal.main_arg4)) (m ((c.tc : Thread Cert.MoeFfnRefIdeal.nD Cert.MoeFfnRefIdeal.τ).loc Cert.MoeFfnRefIdeal.main_arg5))) = (fun _ => 1#1)

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_ProjH4 (m : (ℓ : Loc Cert.ProjH4.nD Cert.ProjH4.τ Cert.ProjH4.sig) → Buf (Elt Bits) ℓ) : Prop :=
  True

def Pre_ProjH4Ideal (m : (ℓ : Loc Cert.ProjH4Ideal.nD Cert.ProjH4Ideal.τ Cert.ProjH4Ideal.sig) → Buf (Elt Ideal) ℓ) : Prop :=
  True

def Pre_ProjH4RefIdeal (m : (ℓ : Loc Cert.ProjH4RefIdeal.nD Cert.ProjH4RefIdeal.τ Cert.ProjH4RefIdeal.sig) → Buf (Elt Ideal) ℓ) : Prop :=
  True

def Pre_ProjMg (m : (ℓ : Loc Cert.ProjMg.nD Cert.ProjMg.τ Cert.ProjMg.sig) → Buf (Elt Bits) ℓ) : Prop :=
  True

def Pre_ProjMgIdeal (m : (ℓ : Loc Cert.ProjMgIdeal.nD Cert.ProjMgIdeal.τ Cert.ProjMgIdeal.sig) → Buf (Elt Ideal) ℓ) : Prop :=
  True

def Pre_ProjMgRefIdeal (m : (ℓ : Loc Cert.ProjMgRefIdeal.nD Cert.ProjMgRefIdeal.τ Cert.ProjMgRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_TailMix (m : (ℓ : Loc Cert.TailMix.nD Cert.TailMix.τ Cert.TailMix.sig) → Buf (Elt Bits) ℓ) : Prop :=
  True

def Pre_TailMixIdeal (m : (ℓ : Loc Cert.TailMixIdeal.nD Cert.TailMixIdeal.τ Cert.TailMixIdeal.sig) → Buf (Elt Ideal) ℓ) : Prop :=
  True

def Pre_TailMixRefIdeal (m : (ℓ : Loc Cert.TailMixRefIdeal.nD Cert.TailMixRefIdeal.τ Cert.TailMixRefIdeal.sig) → Buf (Elt Ideal) ℓ) : Prop :=
  True

def Pre_ProjNg (m : (ℓ : Loc Cert.ProjNg.nD Cert.ProjNg.τ Cert.ProjNg.sig) → Buf (Elt Bits) ℓ) : Prop :=
  True

def Pre_ProjNgIdeal (m : (ℓ : Loc Cert.ProjNgIdeal.nD Cert.ProjNgIdeal.τ Cert.ProjNgIdeal.sig) → Buf (Elt Ideal) ℓ) : Prop :=
  True

def Pre_ProjNgRefIdeal (m : (ℓ : Loc Cert.ProjNgRefIdeal.nD Cert.ProjNgRefIdeal.τ Cert.ProjNgRefIdeal.sig) → Buf (Elt Ideal) ℓ) : Prop :=
  True

def quiescent_HgrnPrompt [hHgrnPrompt : Cert.HgrnPrompt.Facts] : Prop :=
  ∀ (m : (ℓ : Loc Cert.HgrnPrompt.nD Cert.HgrnPrompt.τ Cert.HgrnPrompt.sig) → Buf (Elt Bits) ℓ) (g : Dev Cert.HgrnPrompt.nD → PrngReg), Pre_HgrnPrompt m →
    θ_run (Cert.HgrnPrompt.defs (F := Bits)) (onTc (τ := Cert.HgrnPrompt.τ) (Cert.HgrnPrompt.main (F := Bits))) ⟨m, fun _ => 0, g⟩ (fun r => (∀ c : Dev Cert.HgrnPrompt.nD,
      r.2.mem ((c.tc : Thread Cert.HgrnPrompt.nD Cert.HgrnPrompt.τ).loc Cert.HgrnPrompt.main_arg0) = m ((c.tc : Thread Cert.HgrnPrompt.nD Cert.HgrnPrompt.τ).loc Cert.HgrnPrompt.main_arg0)
      ∧ r.2.mem ((c.tc : Thread Cert.HgrnPrompt.nD Cert.HgrnPrompt.τ).loc Cert.HgrnPrompt.main_arg1) = m ((c.tc : Thread Cert.HgrnPrompt.nD Cert.HgrnPrompt.τ).loc Cert.HgrnPrompt.main_arg1)
      ∧ r.2.mem ((c.tc : Thread Cert.HgrnPrompt.nD Cert.HgrnPrompt.τ).loc Cert.HgrnPrompt.main_arg2) = m ((c.tc : Thread Cert.HgrnPrompt.nD Cert.HgrnPrompt.τ).loc Cert.HgrnPrompt.main_arg2))
      ∧ r.2.sem = fun _ => 0)

def quiescent_HgrnPromptIdeal [hHgrnPromptIdeal : Cert.HgrnPromptIdeal.Facts] : Prop :=
  ∀ (m : (ℓ : Loc Cert.HgrnPromptIdeal.nD Cert.HgrnPromptIdeal.τ Cert.HgrnPromptIdeal.sig) → Buf (Elt Ideal) ℓ) (g : Dev Cert.HgrnPromptIdeal.nD → PrngReg), Pre_HgrnPromptIdeal m →
    θ_run (Cert.HgrnPromptIdeal.defs (F := Ideal)) (onTc (τ := Cert.HgrnPromptIdeal.τ) (Cert.HgrnPromptIdeal.main (F := Ideal))) ⟨m, fun _ => 0, g⟩ (fun r => (∀ c : Dev Cert.HgrnPromptIdeal.nD,
      r.2.mem ((c.tc : Thread Cert.HgrnPromptIdeal.nD Cert.HgrnPromptIdeal.τ).loc Cert.HgrnPromptIdeal.main_arg0) = m ((c.tc : Thread Cert.HgrnPromptIdeal.nD Cert.HgrnPromptIdeal.τ).loc Cert.HgrnPromptIdeal.main_arg0)
      ∧ r.2.mem ((c.tc : Thread Cert.HgrnPromptIdeal.nD Cert.HgrnPromptIdeal.τ).loc Cert.HgrnPromptIdeal.main_arg1) = m ((c.tc : Thread Cert.HgrnPromptIdeal.nD Cert.HgrnPromptIdeal.τ).loc Cert.HgrnPromptIdeal.main_arg1)
      ∧ r.2.mem ((c.tc : Thread Cert.HgrnPromptIdeal.nD Cert.HgrnPromptIdeal.τ).loc Cert.HgrnPromptIdeal.main_arg2) = m ((c.tc : Thread Cert.HgrnPromptIdeal.nD Cert.HgrnPromptIdeal.τ).loc Cert.HgrnPromptIdeal.main_arg2))
      ∧ r.2.sem = fun _ => 0)

def quiescent_HgrnPromptRefIdeal [hHgrnPromptRefIdeal : Cert.HgrnPromptRefIdeal.Facts] : Prop :=
  ∀ (m : (ℓ : Loc Cert.HgrnPromptRefIdeal.nD Cert.HgrnPromptRefIdeal.τ Cert.HgrnPromptRefIdeal.sig) → Buf (Elt Ideal) ℓ) (g : Dev Cert.HgrnPromptRefIdeal.nD → PrngReg), Pre_HgrnPromptRefIdeal m →
    θ_run (Cert.HgrnPromptRefIdeal.defs (F := Ideal)) (onTc (τ := Cert.HgrnPromptRefIdeal.τ) (Cert.HgrnPromptRefIdeal.main (F := Ideal))) ⟨m, fun _ => 0, g⟩ (fun r => (∀ c : Dev Cert.HgrnPromptRefIdeal.nD,
      r.2.mem ((c.tc : Thread Cert.HgrnPromptRefIdeal.nD Cert.HgrnPromptRefIdeal.τ).loc Cert.HgrnPromptRefIdeal.main_arg0) = m ((c.tc : Thread Cert.HgrnPromptRefIdeal.nD Cert.HgrnPromptRefIdeal.τ).loc Cert.HgrnPromptRefIdeal.main_arg0)
      ∧ r.2.mem ((c.tc : Thread Cert.HgrnPromptRefIdeal.nD Cert.HgrnPromptRefIdeal.τ).loc Cert.HgrnPromptRefIdeal.main_arg1) = m ((c.tc : Thread Cert.HgrnPromptRefIdeal.nD Cert.HgrnPromptRefIdeal.τ).loc Cert.HgrnPromptRefIdeal.main_arg1)
      ∧ r.2.mem ((c.tc : Thread Cert.HgrnPromptRefIdeal.nD Cert.HgrnPromptRefIdeal.τ).loc Cert.HgrnPromptRefIdeal.main_arg2) = m ((c.tc : Thread Cert.HgrnPromptRefIdeal.nD Cert.HgrnPromptRefIdeal.τ).loc Cert.HgrnPromptRefIdeal.main_arg2))
      ∧ r.2.sem = fun _ => 0)

def quiescent_MoeFfn [hMoeFfn : Cert.MoeFfn.Facts] [hPre_experts_exist : Cert.Pre_experts_exist.Facts] : Prop :=
  ∀ (m : (ℓ : Loc Cert.MoeFfn.nD Cert.MoeFfn.τ Cert.MoeFfn.sig) → Buf (Elt Bits) ℓ) (g : Dev Cert.MoeFfn.nD → PrngReg), Pre_MoeFfn m →
    θ_run (Cert.MoeFfn.defs (F := Bits)) (onTc (τ := Cert.MoeFfn.τ) (Cert.MoeFfn.main (F := Bits))) ⟨m, fun _ => 0, g⟩ (fun r => (∀ c : Dev Cert.MoeFfn.nD,
      r.2.mem ((c.tc : Thread Cert.MoeFfn.nD Cert.MoeFfn.τ).loc Cert.MoeFfn.main_arg0) = m ((c.tc : Thread Cert.MoeFfn.nD Cert.MoeFfn.τ).loc Cert.MoeFfn.main_arg0)
      ∧ r.2.mem ((c.tc : Thread Cert.MoeFfn.nD Cert.MoeFfn.τ).loc Cert.MoeFfn.main_arg1) = m ((c.tc : Thread Cert.MoeFfn.nD Cert.MoeFfn.τ).loc Cert.MoeFfn.main_arg1)
      ∧ r.2.mem ((c.tc : Thread Cert.MoeFfn.nD Cert.MoeFfn.τ).loc Cert.MoeFfn.main_arg2) = m ((c.tc : Thread Cert.MoeFfn.nD Cert.MoeFfn.τ).loc Cert.MoeFfn.main_arg2)
      ∧ r.2.mem ((c.tc : Thread Cert.MoeFfn.nD Cert.MoeFfn.τ).loc Cert.MoeFfn.main_arg3) = m ((c.tc : Thread Cert.MoeFfn.nD Cert.MoeFfn.τ).loc Cert.MoeFfn.main_arg3)
      ∧ r.2.mem ((c.tc : Thread Cert.MoeFfn.nD Cert.MoeFfn.τ).loc Cert.MoeFfn.main_arg4) = m ((c.tc : Thread Cert.MoeFfn.nD Cert.MoeFfn.τ).loc Cert.MoeFfn.main_arg4)
      ∧ r.2.mem ((c.tc : Thread Cert.MoeFfn.nD Cert.MoeFfn.τ).loc Cert.MoeFfn.main_arg5) = m ((c.tc : Thread Cert.MoeFfn.nD Cert.MoeFfn.τ).loc Cert.MoeFfn.main_arg5))
      ∧ r.2.sem = fun _ => 0)

def quiescent_MoeFfnIdeal [hMoeFfnIdeal : Cert.MoeFfnIdeal.Facts] [hPre_experts_exist : Cert.Pre_experts_exist.Facts] : Prop :=
  ∀ (m : (ℓ : Loc Cert.MoeFfnIdeal.nD Cert.MoeFfnIdeal.τ Cert.MoeFfnIdeal.sig) → Buf (Elt Ideal) ℓ) (g : Dev Cert.MoeFfnIdeal.nD → PrngReg), Pre_MoeFfnIdeal m →
    θ_run (Cert.MoeFfnIdeal.defs (F := Ideal)) (onTc (τ := Cert.MoeFfnIdeal.τ) (Cert.MoeFfnIdeal.main (F := Ideal))) ⟨m, fun _ => 0, g⟩ (fun r => (∀ c : Dev Cert.MoeFfnIdeal.nD,
      r.2.mem ((c.tc : Thread Cert.MoeFfnIdeal.nD Cert.MoeFfnIdeal.τ).loc Cert.MoeFfnIdeal.main_arg0) = m ((c.tc : Thread Cert.MoeFfnIdeal.nD Cert.MoeFfnIdeal.τ).loc Cert.MoeFfnIdeal.main_arg0)
      ∧ r.2.mem ((c.tc : Thread Cert.MoeFfnIdeal.nD Cert.MoeFfnIdeal.τ).loc Cert.MoeFfnIdeal.main_arg1) = m ((c.tc : Thread Cert.MoeFfnIdeal.nD Cert.MoeFfnIdeal.τ).loc Cert.MoeFfnIdeal.main_arg1)
      ∧ r.2.mem ((c.tc : Thread Cert.MoeFfnIdeal.nD Cert.MoeFfnIdeal.τ).loc Cert.MoeFfnIdeal.main_arg2) = m ((c.tc : Thread Cert.MoeFfnIdeal.nD Cert.MoeFfnIdeal.τ).loc Cert.MoeFfnIdeal.main_arg2)
      ∧ r.2.mem ((c.tc : Thread Cert.MoeFfnIdeal.nD Cert.MoeFfnIdeal.τ).loc Cert.MoeFfnIdeal.main_arg3) = m ((c.tc : Thread Cert.MoeFfnIdeal.nD Cert.MoeFfnIdeal.τ).loc Cert.MoeFfnIdeal.main_arg3)
      ∧ r.2.mem ((c.tc : Thread Cert.MoeFfnIdeal.nD Cert.MoeFfnIdeal.τ).loc Cert.MoeFfnIdeal.main_arg4) = m ((c.tc : Thread Cert.MoeFfnIdeal.nD Cert.MoeFfnIdeal.τ).loc Cert.MoeFfnIdeal.main_arg4)
      ∧ r.2.mem ((c.tc : Thread Cert.MoeFfnIdeal.nD Cert.MoeFfnIdeal.τ).loc Cert.MoeFfnIdeal.main_arg5) = m ((c.tc : Thread Cert.MoeFfnIdeal.nD Cert.MoeFfnIdeal.τ).loc Cert.MoeFfnIdeal.main_arg5))
      ∧ r.2.sem = fun _ => 0)

def quiescent_MoeFfnRefIdeal [hMoeFfnRefIdeal : Cert.MoeFfnRefIdeal.Facts] [hPre_experts_exist : Cert.Pre_experts_exist.Facts] : Prop :=
  ∀ (m : (ℓ : Loc Cert.MoeFfnRefIdeal.nD Cert.MoeFfnRefIdeal.τ Cert.MoeFfnRefIdeal.sig) → Buf (Elt Ideal) ℓ) (g : Dev Cert.MoeFfnRefIdeal.nD → PrngReg), Pre_MoeFfnRefIdeal m →
    θ_run (Cert.MoeFfnRefIdeal.defs (F := Ideal)) (onTc (τ := Cert.MoeFfnRefIdeal.τ) (Cert.MoeFfnRefIdeal.main (F := Ideal))) ⟨m, fun _ => 0, g⟩ (fun r => (∀ c : Dev Cert.MoeFfnRefIdeal.nD,
      r.2.mem ((c.tc : Thread Cert.MoeFfnRefIdeal.nD Cert.MoeFfnRefIdeal.τ).loc Cert.MoeFfnRefIdeal.main_arg0) = m ((c.tc : Thread Cert.MoeFfnRefIdeal.nD Cert.MoeFfnRefIdeal.τ).loc Cert.MoeFfnRefIdeal.main_arg0)
      ∧ r.2.mem ((c.tc : Thread Cert.MoeFfnRefIdeal.nD Cert.MoeFfnRefIdeal.τ).loc Cert.MoeFfnRefIdeal.main_arg1) = m ((c.tc : Thread Cert.MoeFfnRefIdeal.nD Cert.MoeFfnRefIdeal.τ).loc Cert.MoeFfnRefIdeal.main_arg1)
      ∧ r.2.mem ((c.tc : Thread Cert.MoeFfnRefIdeal.nD Cert.MoeFfnRefIdeal.τ).loc Cert.MoeFfnRefIdeal.main_arg2) = m ((c.tc : Thread Cert.MoeFfnRefIdeal.nD Cert.MoeFfnRefIdeal.τ).loc Cert.MoeFfnRefIdeal.main_arg2)
      ∧ r.2.mem ((c.tc : Thread Cert.MoeFfnRefIdeal.nD Cert.MoeFfnRefIdeal.τ).loc Cert.MoeFfnRefIdeal.main_arg3) = m ((c.tc : Thread Cert.MoeFfnRefIdeal.nD Cert.MoeFfnRefIdeal.τ).loc Cert.MoeFfnRefIdeal.main_arg3)
      ∧ r.2.mem ((c.tc : Thread Cert.MoeFfnRefIdeal.nD Cert.MoeFfnRefIdeal.τ).loc Cert.MoeFfnRefIdeal.main_arg4) = m ((c.tc : Thread Cert.MoeFfnRefIdeal.nD Cert.MoeFfnRefIdeal.τ).loc Cert.MoeFfnRefIdeal.main_arg4)
      ∧ r.2.mem ((c.tc : Thread Cert.MoeFfnRefIdeal.nD Cert.MoeFfnRefIdeal.τ).loc Cert.MoeFfnRefIdeal.main_arg5) = m ((c.tc : Thread Cert.MoeFfnRefIdeal.nD Cert.MoeFfnRefIdeal.τ).loc Cert.MoeFfnRefIdeal.main_arg5))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1)
      ∧ r.2.mem ((c.tc : Thread Cert.ProjKv.nD Cert.ProjKv.τ).loc Cert.ProjKv.main_arg2) = m ((c.tc : Thread Cert.ProjKv.nD Cert.ProjKv.τ).loc Cert.ProjKv.main_arg2)
      ∧ r.2.mem ((c.tc : Thread Cert.ProjKv.nD Cert.ProjKv.τ).loc Cert.ProjKv.main_arg3) = m ((c.tc : Thread Cert.ProjKv.nD Cert.ProjKv.τ).loc Cert.ProjKv.main_arg3)
      ∧ r.2.mem ((c.tc : Thread Cert.ProjKv.nD Cert.ProjKv.τ).loc Cert.ProjKv.main_arg4) = m ((c.tc : Thread Cert.ProjKv.nD Cert.ProjKv.τ).loc Cert.ProjKv.main_arg4))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
      ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
      ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3)
      ∧ r.2.mem ((c.tc : Thread Cert.ProjKvIdeal.nD Cert.ProjKvIdeal.τ).loc Cert.ProjKvIdeal.main_arg4) = m ((c.tc : Thread Cert.ProjKvIdeal.nD Cert.ProjKvIdeal.τ).loc Cert.ProjKvIdeal.main_arg4))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1)
      ∧ r.2.mem ((c.tc : Thread Cert.ProjKvRefIdeal.nD Cert.ProjKvRefIdeal.τ).loc Cert.ProjKvRefIdeal.main_arg2) = m ((c.tc : Thread Cert.ProjKvRefIdeal.nD Cert.ProjKvRefIdeal.τ).loc Cert.ProjKvRefIdeal.main_arg2)
      ∧ r.2.mem ((c.tc : Thread Cert.ProjKvRefIdeal.nD Cert.ProjKvRefIdeal.τ).loc Cert.ProjKvRefIdeal.main_arg3) = m ((c.tc : Thread Cert.ProjKvRefIdeal.nD Cert.ProjKvRefIdeal.τ).loc Cert.ProjKvRefIdeal.main_arg3)
      ∧ r.2.mem ((c.tc : Thread Cert.ProjKvRefIdeal.nD Cert.ProjKvRefIdeal.τ).loc Cert.ProjKvRefIdeal.main_arg4) = m ((c.tc : Thread Cert.ProjKvRefIdeal.nD Cert.ProjKvRefIdeal.τ).loc Cert.ProjKvRefIdeal.main_arg4))
      ∧ r.2.sem = fun _ => 0)

def quiescent_ProjH4 [hProjH4 : Cert.ProjH4.Facts] : Prop :=
  ∀ (m : (ℓ : Loc Cert.ProjH4.nD Cert.ProjH4.τ Cert.ProjH4.sig) → Buf (Elt Bits) ℓ) (g : Dev Cert.ProjH4.nD → PrngReg), Pre_ProjH4 m →
    θ_run (Cert.ProjH4.defs (F := Bits)) (onTc (τ := Cert.ProjH4.τ) (Cert.ProjH4.main (F := Bits))) ⟨m, fun _ => 0, g⟩ (fun r => (∀ c : Dev Cert.ProjH4.nD,
      r.2.mem ((c.tc : Thread Cert.ProjH4.nD Cert.ProjH4.τ).loc Cert.ProjH4.main_arg0) = m ((c.tc : Thread Cert.ProjH4.nD Cert.ProjH4.τ).loc Cert.ProjH4.main_arg0)
      ∧ r.2.mem ((c.tc : Thread Cert.ProjH4.nD Cert.ProjH4.τ).loc Cert.ProjH4.main_arg1) = m ((c.tc : Thread Cert.ProjH4.nD Cert.ProjH4.τ).loc Cert.ProjH4.main_arg1)
      ∧ r.2.mem ((c.tc : Thread Cert.ProjH4.nD Cert.ProjH4.τ).loc Cert.ProjH4.main_arg2) = m ((c.tc : Thread Cert.ProjH4.nD Cert.ProjH4.τ).loc Cert.ProjH4.main_arg2)
      ∧ r.2.mem ((c.tc : Thread Cert.ProjH4.nD Cert.ProjH4.τ).loc Cert.ProjH4.main_arg3) = m ((c.tc : Thread Cert.ProjH4.nD Cert.ProjH4.τ).loc Cert.ProjH4.main_arg3))
      ∧ r.2.sem = fun _ => 0)

def quiescent_ProjH4Ideal [hProjH4Ideal : Cert.ProjH4Ideal.Facts] : Prop :=
  ∀ (m : (ℓ : Loc Cert.ProjH4Ideal.nD Cert.ProjH4Ideal.τ Cert.ProjH4Ideal.sig) → Buf (Elt Ideal) ℓ) (g : Dev Cert.ProjH4Ideal.nD → PrngReg), Pre_ProjH4Ideal m →
    θ_run (Cert.ProjH4Ideal.defs (F := Ideal)) (onTc (τ := Cert.ProjH4Ideal.τ) (Cert.ProjH4Ideal.main (F := Ideal))) ⟨m, fun _ => 0, g⟩ (fun r => (∀ c : Dev Cert.ProjH4Ideal.nD,
      r.2.mem ((c.tc : Thread Cert.ProjH4Ideal.nD Cert.ProjH4Ideal.τ).loc Cert.ProjH4Ideal.main_arg0) = m ((c.tc : Thread Cert.ProjH4Ideal.nD Cert.ProjH4Ideal.τ).loc Cert.ProjH4Ideal.main_arg0)
      ∧ r.2.mem ((c.tc : Thread Cert.ProjH4Ideal.nD Cert.ProjH4Ideal.τ).loc Cert.ProjH4Ideal.main_arg1) = m ((c.tc : Thread Cert.ProjH4Ideal.nD Cert.ProjH4Ideal.τ).loc Cert.ProjH4Ideal.main_arg1)
      ∧ r.2.mem ((c.tc : Thread Cert.ProjH4Ideal.nD Cert.ProjH4Ideal.τ).loc Cert.ProjH4Ideal.main_arg2) = m ((c.tc : Thread Cert.ProjH4Ideal.nD Cert.ProjH4Ideal.τ).loc Cert.ProjH4Ideal.main_arg2)
      ∧ r.2.mem ((c.tc : Thread Cert.ProjH4Ideal.nD Cert.ProjH4Ideal.τ).loc Cert.ProjH4Ideal.main_arg3) = m ((c.tc : Thread Cert.ProjH4Ideal.nD Cert.ProjH4Ideal.τ).loc Cert.ProjH4Ideal.main_arg3))
      ∧ r.2.sem = fun _ => 0)

def quiescent_ProjH4RefIdeal [hProjH4RefIdeal : Cert.ProjH4RefIdeal.Facts] : Prop :=
  ∀ (m : (ℓ : Loc Cert.ProjH4RefIdeal.nD Cert.ProjH4RefIdeal.τ Cert.ProjH4RefIdeal.sig) → Buf (Elt Ideal) ℓ) (g : Dev Cert.ProjH4RefIdeal.nD → PrngReg), Pre_ProjH4RefIdeal m →
    θ_run (Cert.ProjH4RefIdeal.defs (F := Ideal)) (onTc (τ := Cert.ProjH4RefIdeal.τ) (Cert.ProjH4RefIdeal.main (F := Ideal))) ⟨m, fun _ => 0, g⟩ (fun r => (∀ c : Dev Cert.ProjH4RefIdeal.nD,
      r.2.mem ((c.tc : Thread Cert.ProjH4RefIdeal.nD Cert.ProjH4RefIdeal.τ).loc Cert.ProjH4RefIdeal.main_arg0) = m ((c.tc : Thread Cert.ProjH4RefIdeal.nD Cert.ProjH4RefIdeal.τ).loc Cert.ProjH4RefIdeal.main_arg0)
      ∧ r.2.mem ((c.tc : Thread Cert.ProjH4RefIdeal.nD Cert.ProjH4RefIdeal.τ).loc Cert.ProjH4RefIdeal.main_arg1) = m ((c.tc : Thread Cert.ProjH4RefIdeal.nD Cert.ProjH4RefIdeal.τ).loc Cert.ProjH4RefIdeal.main_arg1)
      ∧ r.2.mem ((c.tc : Thread Cert.ProjH4RefIdeal.nD Cert.ProjH4RefIdeal.τ).loc Cert.ProjH4RefIdeal.main_arg2) = m ((c.tc : Thread Cert.ProjH4RefIdeal.nD Cert.ProjH4RefIdeal.τ).loc Cert.ProjH4RefIdeal.main_arg2)
      ∧ r.2.mem ((c.tc : Thread Cert.ProjH4RefIdeal.nD Cert.ProjH4RefIdeal.τ).loc Cert.ProjH4RefIdeal.main_arg3) = m ((c.tc : Thread Cert.ProjH4RefIdeal.nD Cert.ProjH4RefIdeal.τ).loc Cert.ProjH4RefIdeal.main_arg3))
      ∧ r.2.sem = fun _ => 0)

def quiescent_ProjMg [hProjMg : Cert.ProjMg.Facts] : Prop :=
  ∀ (m : (ℓ : Loc Cert.ProjMg.nD Cert.ProjMg.τ Cert.ProjMg.sig) → Buf (Elt Bits) ℓ) (g : Dev Cert.ProjMg.nD → PrngReg), Pre_ProjMg m →
    θ_run (Cert.ProjMg.defs (F := Bits)) (onTc (τ := Cert.ProjMg.τ) (Cert.ProjMg.main (F := Bits))) ⟨m, fun _ => 0, g⟩ (fun r => (∀ c : Dev Cert.ProjMg.nD,
      r.2.mem ((c.tc : Thread Cert.ProjMg.nD Cert.ProjMg.τ).loc Cert.ProjMg.main_arg0) = m ((c.tc : Thread Cert.ProjMg.nD Cert.ProjMg.τ).loc Cert.ProjMg.main_arg0)
      ∧ r.2.mem ((c.tc : Thread Cert.ProjMg.nD Cert.ProjMg.τ).loc Cert.ProjMg.main_arg1) = m ((c.tc : Thread Cert.ProjMg.nD Cert.ProjMg.τ).loc Cert.ProjMg.main_arg1)
      ∧ r.2.mem ((c.tc : Thread Cert.ProjMg.nD Cert.ProjMg.τ).loc Cert.ProjMg.main_arg2) = m ((c.tc : Thread Cert.ProjMg.nD Cert.ProjMg.τ).loc Cert.ProjMg.main_arg2)
      ∧ r.2.mem ((c.tc : Thread Cert.ProjMg.nD Cert.ProjMg.τ).loc Cert.ProjMg.main_arg3) = m ((c.tc : Thread Cert.ProjMg.nD Cert.ProjMg.τ).loc Cert.ProjMg.main_arg3))
      ∧ r.2.sem = fun _ => 0)

def quiescent_ProjMgIdeal [hProjMgIdeal : Cert.ProjMgIdeal.Facts] : Prop :=
  ∀ (m : (ℓ : Loc Cert.ProjMgIdeal.nD Cert.ProjMgIdeal.τ Cert.ProjMgIdeal.sig) → Buf (Elt Ideal) ℓ) (g : Dev Cert.ProjMgIdeal.nD → PrngReg), Pre_ProjMgIdeal m →
    θ_run (Cert.ProjMgIdeal.defs (F := Ideal)) (onTc (τ := Cert.ProjMgIdeal.τ) (Cert.ProjMgIdeal.main (F := Ideal))) ⟨m, fun _ => 0, g⟩ (fun r => (∀ c : Dev Cert.ProjMgIdeal.nD,
      r.2.mem ((c.tc : Thread Cert.ProjMgIdeal.nD Cert.ProjMgIdeal.τ).loc Cert.ProjMgIdeal.main_arg0) = m ((c.tc : Thread Cert.ProjMgIdeal.nD Cert.ProjMgIdeal.τ).loc Cert.ProjMgIdeal.main_arg0)
      ∧ r.2.mem ((c.tc : Thread Cert.ProjMgIdeal.nD Cert.ProjMgIdeal.τ).loc Cert.ProjMgIdeal.main_arg1) = m ((c.tc : Thread Cert.ProjMgIdeal.nD Cert.ProjMgIdeal.τ).loc Cert.ProjMgIdeal.main_arg1)
      ∧ r.2.mem ((c.tc : Thread Cert.ProjMgIdeal.nD Cert.ProjMgIdeal.τ).loc Cert.ProjMgIdeal.main_arg2) = m ((c.tc : Thread Cert.ProjMgIdeal.nD Cert.ProjMgIdeal.τ).loc Cert.ProjMgIdeal.main_arg2)
      ∧ r.2.mem ((c.tc : Thread Cert.ProjMgIdeal.nD Cert.ProjMgIdeal.τ).loc Cert.ProjMgIdeal.main_arg3) = m ((c.tc : Thread Cert.ProjMgIdeal.nD Cert.ProjMgIdeal.τ).loc Cert.ProjMgIdeal.main_arg3))
      ∧ r.2.sem = fun _ => 0)

def quiescent_ProjMgRefIdeal [hProjMgRefIdeal : Cert.ProjMgRefIdeal.Facts] : Prop :=
  ∀ (m : (ℓ : Loc Cert.ProjMgRefIdeal.nD Cert.ProjMgRefIdeal.τ Cert.ProjMgRefIdeal.sig) → Buf (Elt Ideal) ℓ) (g : Dev Cert.ProjMgRefIdeal.nD → PrngReg), Pre_ProjMgRefIdeal m →
    θ_run (Cert.ProjMgRefIdeal.defs (F := Ideal)) (onTc (τ := Cert.ProjMgRefIdeal.τ) (Cert.ProjMgRefIdeal.main (F := Ideal))) ⟨m, fun _ => 0, g⟩ (fun r => (∀ c : Dev Cert.ProjMgRefIdeal.nD,
      r.2.mem ((c.tc : Thread Cert.ProjMgRefIdeal.nD Cert.ProjMgRefIdeal.τ).loc Cert.ProjMgRefIdeal.main_arg0) = m ((c.tc : Thread Cert.ProjMgRefIdeal.nD Cert.ProjMgRefIdeal.τ).loc Cert.ProjMgRefIdeal.main_arg0)
      ∧ r.2.mem ((c.tc : Thread Cert.ProjMgRefIdeal.nD Cert.ProjMgRefIdeal.τ).loc Cert.ProjMgRefIdeal.main_arg1) = m ((c.tc : Thread Cert.ProjMgRefIdeal.nD Cert.ProjMgRefIdeal.τ).loc Cert.ProjMgRefIdeal.main_arg1)
      ∧ r.2.mem ((c.tc : Thread Cert.ProjMgRefIdeal.nD Cert.ProjMgRefIdeal.τ).loc Cert.ProjMgRefIdeal.main_arg2) = m ((c.tc : Thread Cert.ProjMgRefIdeal.nD Cert.ProjMgRefIdeal.τ).loc Cert.ProjMgRefIdeal.main_arg2)
      ∧ r.2.mem ((c.tc : Thread Cert.ProjMgRefIdeal.nD Cert.ProjMgRefIdeal.τ).loc Cert.ProjMgRefIdeal.main_arg3) = m ((c.tc : Thread Cert.ProjMgRefIdeal.nD Cert.ProjMgRefIdeal.τ).loc Cert.ProjMgRefIdeal.main_arg3))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2)
      ∧ r.2.mem ((c.tc : Thread Cert.ProjQ.nD Cert.ProjQ.τ).loc Cert.ProjQ.main_arg3) = m ((c.tc : Thread Cert.ProjQ.nD Cert.ProjQ.τ).loc Cert.ProjQ.main_arg3))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2)
      ∧ r.2.mem ((c.tc : Thread Cert.ProjQRefIdeal.nD Cert.ProjQRefIdeal.τ).loc Cert.ProjQRefIdeal.main_arg3) = m ((c.tc : Thread Cert.ProjQRefIdeal.nD Cert.ProjQRefIdeal.τ).loc Cert.ProjQRefIdeal.main_arg3))
      ∧ r.2.sem = fun _ => 0)

def quiescent_TailMix [hTailMix : Cert.TailMix.Facts] : Prop :=
  ∀ (m : (ℓ : Loc Cert.TailMix.nD Cert.TailMix.τ Cert.TailMix.sig) → Buf (Elt Bits) ℓ) (g : Dev Cert.TailMix.nD → PrngReg), Pre_TailMix m →
    θ_run (Cert.TailMix.defs (F := Bits)) (onTc (τ := Cert.TailMix.τ) (Cert.TailMix.main (F := Bits))) ⟨m, fun _ => 0, g⟩ (fun r => (∀ c : Dev Cert.TailMix.nD,
      r.2.mem ((c.tc : Thread Cert.TailMix.nD Cert.TailMix.τ).loc Cert.TailMix.main_arg0) = m ((c.tc : Thread Cert.TailMix.nD Cert.TailMix.τ).loc Cert.TailMix.main_arg0)
      ∧ r.2.mem ((c.tc : Thread Cert.TailMix.nD Cert.TailMix.τ).loc Cert.TailMix.main_arg1) = m ((c.tc : Thread Cert.TailMix.nD Cert.TailMix.τ).loc Cert.TailMix.main_arg1)
      ∧ r.2.mem ((c.tc : Thread Cert.TailMix.nD Cert.TailMix.τ).loc Cert.TailMix.main_arg2) = m ((c.tc : Thread Cert.TailMix.nD Cert.TailMix.τ).loc Cert.TailMix.main_arg2)
      ∧ r.2.mem ((c.tc : Thread Cert.TailMix.nD Cert.TailMix.τ).loc Cert.TailMix.main_arg3) = m ((c.tc : Thread Cert.TailMix.nD Cert.TailMix.τ).loc Cert.TailMix.main_arg3)
      ∧ r.2.mem ((c.tc : Thread Cert.TailMix.nD Cert.TailMix.τ).loc Cert.TailMix.main_arg4) = m ((c.tc : Thread Cert.TailMix.nD Cert.TailMix.τ).loc Cert.TailMix.main_arg4))
      ∧ r.2.sem = fun _ => 0)

def quiescent_TailMixIdeal [hTailMixIdeal : Cert.TailMixIdeal.Facts] : Prop :=
  ∀ (m : (ℓ : Loc Cert.TailMixIdeal.nD Cert.TailMixIdeal.τ Cert.TailMixIdeal.sig) → Buf (Elt Ideal) ℓ) (g : Dev Cert.TailMixIdeal.nD → PrngReg), Pre_TailMixIdeal m →
    θ_run (Cert.TailMixIdeal.defs (F := Ideal)) (onTc (τ := Cert.TailMixIdeal.τ) (Cert.TailMixIdeal.main (F := Ideal))) ⟨m, fun _ => 0, g⟩ (fun r => (∀ c : Dev Cert.TailMixIdeal.nD,
      r.2.mem ((c.tc : Thread Cert.TailMixIdeal.nD Cert.TailMixIdeal.τ).loc Cert.TailMixIdeal.main_arg0) = m ((c.tc : Thread Cert.TailMixIdeal.nD Cert.TailMixIdeal.τ).loc Cert.TailMixIdeal.main_arg0)
      ∧ r.2.mem ((c.tc : Thread Cert.TailMixIdeal.nD Cert.TailMixIdeal.τ).loc Cert.TailMixIdeal.main_arg1) = m ((c.tc : Thread Cert.TailMixIdeal.nD Cert.TailMixIdeal.τ).loc Cert.TailMixIdeal.main_arg1)
      ∧ r.2.mem ((c.tc : Thread Cert.TailMixIdeal.nD Cert.TailMixIdeal.τ).loc Cert.TailMixIdeal.main_arg2) = m ((c.tc : Thread Cert.TailMixIdeal.nD Cert.TailMixIdeal.τ).loc Cert.TailMixIdeal.main_arg2)
      ∧ r.2.mem ((c.tc : Thread Cert.TailMixIdeal.nD Cert.TailMixIdeal.τ).loc Cert.TailMixIdeal.main_arg3) = m ((c.tc : Thread Cert.TailMixIdeal.nD Cert.TailMixIdeal.τ).loc Cert.TailMixIdeal.main_arg3)
      ∧ r.2.mem ((c.tc : Thread Cert.TailMixIdeal.nD Cert.TailMixIdeal.τ).loc Cert.TailMixIdeal.main_arg4) = m ((c.tc : Thread Cert.TailMixIdeal.nD Cert.TailMixIdeal.τ).loc Cert.TailMixIdeal.main_arg4))
      ∧ r.2.sem = fun _ => 0)

def quiescent_TailMixRefIdeal [hTailMixRefIdeal : Cert.TailMixRefIdeal.Facts] : Prop :=
  ∀ (m : (ℓ : Loc Cert.TailMixRefIdeal.nD Cert.TailMixRefIdeal.τ Cert.TailMixRefIdeal.sig) → Buf (Elt Ideal) ℓ) (g : Dev Cert.TailMixRefIdeal.nD → PrngReg), Pre_TailMixRefIdeal m →
    θ_run (Cert.TailMixRefIdeal.defs (F := Ideal)) (onTc (τ := Cert.TailMixRefIdeal.τ) (Cert.TailMixRefIdeal.main (F := Ideal))) ⟨m, fun _ => 0, g⟩ (fun r => (∀ c : Dev Cert.TailMixRefIdeal.nD,
      r.2.mem ((c.tc : Thread Cert.TailMixRefIdeal.nD Cert.TailMixRefIdeal.τ).loc Cert.TailMixRefIdeal.main_arg0) = m ((c.tc : Thread Cert.TailMixRefIdeal.nD Cert.TailMixRefIdeal.τ).loc Cert.TailMixRefIdeal.main_arg0)
      ∧ r.2.mem ((c.tc : Thread Cert.TailMixRefIdeal.nD Cert.TailMixRefIdeal.τ).loc Cert.TailMixRefIdeal.main_arg1) = m ((c.tc : Thread Cert.TailMixRefIdeal.nD Cert.TailMixRefIdeal.τ).loc Cert.TailMixRefIdeal.main_arg1)
      ∧ r.2.mem ((c.tc : Thread Cert.TailMixRefIdeal.nD Cert.TailMixRefIdeal.τ).loc Cert.TailMixRefIdeal.main_arg2) = m ((c.tc : Thread Cert.TailMixRefIdeal.nD Cert.TailMixRefIdeal.τ).loc Cert.TailMixRefIdeal.main_arg2)
      ∧ r.2.mem ((c.tc : Thread Cert.TailMixRefIdeal.nD Cert.TailMixRefIdeal.τ).loc Cert.TailMixRefIdeal.main_arg3) = m ((c.tc : Thread Cert.TailMixRefIdeal.nD Cert.TailMixRefIdeal.τ).loc Cert.TailMixRefIdeal.main_arg3)
      ∧ r.2.mem ((c.tc : Thread Cert.TailMixRefIdeal.nD Cert.TailMixRefIdeal.τ).loc Cert.TailMixRefIdeal.main_arg4) = m ((c.tc : Thread Cert.TailMixRefIdeal.nD Cert.TailMixRefIdeal.τ).loc Cert.TailMixRefIdeal.main_arg4))
      ∧ r.2.sem = fun _ => 0)

def quiescent_ProjNg [hProjNg : Cert.ProjNg.Facts] : Prop :=
  ∀ (m : (ℓ : Loc Cert.ProjNg.nD Cert.ProjNg.τ Cert.ProjNg.sig) → Buf (Elt Bits) ℓ) (g : Dev Cert.ProjNg.nD → PrngReg), Pre_ProjNg m →
    θ_run (Cert.ProjNg.defs (F := Bits)) (onTc (τ := Cert.ProjNg.τ) (Cert.ProjNg.main (F := Bits))) ⟨m, fun _ => 0, g⟩ (fun r => (∀ c : Dev Cert.ProjNg.nD,
      r.2.mem ((c.tc : Thread Cert.ProjNg.nD Cert.ProjNg.τ).loc Cert.ProjNg.main_arg0) = m ((c.tc : Thread Cert.ProjNg.nD Cert.ProjNg.τ).loc Cert.ProjNg.main_arg0)
      ∧ r.2.mem ((c.tc : Thread Cert.ProjNg.nD Cert.ProjNg.τ).loc Cert.ProjNg.main_arg1) = m ((c.tc : Thread Cert.ProjNg.nD Cert.ProjNg.τ).loc Cert.ProjNg.main_arg1)
      ∧ r.2.mem ((c.tc : Thread Cert.ProjNg.nD Cert.ProjNg.τ).loc Cert.ProjNg.main_arg2) = m ((c.tc : Thread Cert.ProjNg.nD Cert.ProjNg.τ).loc Cert.ProjNg.main_arg2)
      ∧ r.2.mem ((c.tc : Thread Cert.ProjNg.nD Cert.ProjNg.τ).loc Cert.ProjNg.main_arg3) = m ((c.tc : Thread Cert.ProjNg.nD Cert.ProjNg.τ).loc Cert.ProjNg.main_arg3))
      ∧ r.2.sem = fun _ => 0)

def quiescent_ProjNgIdeal [hProjNgIdeal : Cert.ProjNgIdeal.Facts] : Prop :=
  ∀ (m : (ℓ : Loc Cert.ProjNgIdeal.nD Cert.ProjNgIdeal.τ Cert.ProjNgIdeal.sig) → Buf (Elt Ideal) ℓ) (g : Dev Cert.ProjNgIdeal.nD → PrngReg), Pre_ProjNgIdeal m →
    θ_run (Cert.ProjNgIdeal.defs (F := Ideal)) (onTc (τ := Cert.ProjNgIdeal.τ) (Cert.ProjNgIdeal.main (F := Ideal))) ⟨m, fun _ => 0, g⟩ (fun r => (∀ c : Dev Cert.ProjNgIdeal.nD,
      r.2.mem ((c.tc : Thread Cert.ProjNgIdeal.nD Cert.ProjNgIdeal.τ).loc Cert.ProjNgIdeal.main_arg0) = m ((c.tc : Thread Cert.ProjNgIdeal.nD Cert.ProjNgIdeal.τ).loc Cert.ProjNgIdeal.main_arg0)
      ∧ r.2.mem ((c.tc : Thread Cert.ProjNgIdeal.nD Cert.ProjNgIdeal.τ).loc Cert.ProjNgIdeal.main_arg1) = m ((c.tc : Thread Cert.ProjNgIdeal.nD Cert.ProjNgIdeal.τ).loc Cert.ProjNgIdeal.main_arg1)
      ∧ r.2.mem ((c.tc : Thread Cert.ProjNgIdeal.nD Cert.ProjNgIdeal.τ).loc Cert.ProjNgIdeal.main_arg2) = m ((c.tc : Thread Cert.ProjNgIdeal.nD Cert.ProjNgIdeal.τ).loc Cert.ProjNgIdeal.main_arg2)
      ∧ r.2.mem ((c.tc : Thread Cert.ProjNgIdeal.nD Cert.ProjNgIdeal.τ).loc Cert.ProjNgIdeal.main_arg3) = m ((c.tc : Thread Cert.ProjNgIdeal.nD Cert.ProjNgIdeal.τ).loc Cert.ProjNgIdeal.main_arg3))
      ∧ r.2.sem = fun _ => 0)

def quiescent_ProjNgRefIdeal [hProjNgRefIdeal : Cert.ProjNgRefIdeal.Facts] : Prop :=
  ∀ (m : (ℓ : Loc Cert.ProjNgRefIdeal.nD Cert.ProjNgRefIdeal.τ Cert.ProjNgRefIdeal.sig) → Buf (Elt Ideal) ℓ) (g : Dev Cert.ProjNgRefIdeal.nD → PrngReg), Pre_ProjNgRefIdeal m →
    θ_run (Cert.ProjNgRefIdeal.defs (F := Ideal)) (onTc (τ := Cert.ProjNgRefIdeal.τ) (Cert.ProjNgRefIdeal.main (F := Ideal))) ⟨m, fun _ => 0, g⟩ (fun r => (∀ c : Dev Cert.ProjNgRefIdeal.nD,
      r.2.mem ((c.tc : Thread Cert.ProjNgRefIdeal.nD Cert.ProjNgRefIdeal.τ).loc Cert.ProjNgRefIdeal.main_arg0) = m ((c.tc : Thread Cert.ProjNgRefIdeal.nD Cert.ProjNgRefIdeal.τ).loc Cert.ProjNgRefIdeal.main_arg0)
      ∧ r.2.mem ((c.tc : Thread Cert.ProjNgRefIdeal.nD Cert.ProjNgRefIdeal.τ).loc Cert.ProjNgRefIdeal.main_arg1) = m ((c.tc : Thread Cert.ProjNgRefIdeal.nD Cert.ProjNgRefIdeal.τ).loc Cert.ProjNgRefIdeal.main_arg1)
      ∧ r.2.mem ((c.tc : Thread Cert.ProjNgRefIdeal.nD Cert.ProjNgRefIdeal.τ).loc Cert.ProjNgRefIdeal.main_arg2) = m ((c.tc : Thread Cert.ProjNgRefIdeal.nD Cert.ProjNgRefIdeal.τ).loc Cert.ProjNgRefIdeal.main_arg2)
      ∧ r.2.mem ((c.tc : Thread Cert.ProjNgRefIdeal.nD Cert.ProjNgRefIdeal.τ).loc Cert.ProjNgRefIdeal.main_arg3) = m ((c.tc : Thread Cert.ProjNgRefIdeal.nD Cert.ProjNgRefIdeal.τ).loc Cert.ProjNgRefIdeal.main_arg3))
      ∧ r.2.sem = fun _ => 0)

def preserves_HgrnPrompt_HgrnPromptIdeal : Prop :=
  True

def algebraic_HgrnPromptIdeal_HgrnPromptRefIdeal [hHgrnPromptIdeal : Cert.HgrnPromptIdeal.Facts] [hHgrnPromptRefIdeal : Cert.HgrnPromptRefIdeal.Facts] : Prop :=
  ∀ (m : (ℓ : Loc Cert.HgrnPromptIdeal.nD Cert.HgrnPromptIdeal.τ Cert.HgrnPromptIdeal.sig) → Buf (Elt Ideal) ℓ) (g : Dev Cert.HgrnPromptIdeal.nD → PrngReg)
    (m' : (ℓ : Loc Cert.HgrnPromptRefIdeal.nD Cert.HgrnPromptRefIdeal.τ Cert.HgrnPromptRefIdeal.sig) → Buf (Elt Ideal) ℓ) (g' : Dev Cert.HgrnPromptRefIdeal.nD → PrngReg), Pre_HgrnPromptIdeal m →
    (∀ c : Dev Cert.HgrnPromptIdeal.nD,
      m' ((c.tc : Thread Cert.HgrnPromptRefIdeal.nD Cert.HgrnPromptRefIdeal.τ).loc Cert.HgrnPromptRefIdeal.main_arg0) = m ((c.tc : Thread Cert.HgrnPromptIdeal.nD Cert.HgrnPromptIdeal.τ).loc Cert.HgrnPromptIdeal.main_arg0)
      ∧ m' ((c.tc : Thread Cert.HgrnPromptRefIdeal.nD Cert.HgrnPromptRefIdeal.τ).loc Cert.HgrnPromptRefIdeal.main_arg1) = m ((c.tc : Thread Cert.HgrnPromptIdeal.nD Cert.HgrnPromptIdeal.τ).loc Cert.HgrnPromptIdeal.main_arg1)
      ∧ m' ((c.tc : Thread Cert.HgrnPromptRefIdeal.nD Cert.HgrnPromptRefIdeal.τ).loc Cert.HgrnPromptRefIdeal.main_arg2) = m ((c.tc : Thread Cert.HgrnPromptIdeal.nD Cert.HgrnPromptIdeal.τ).loc Cert.HgrnPromptIdeal.main_arg2)) →
    ∃ (v0 : (c : Dev Cert.HgrnPromptIdeal.nD) → Buf (Elt Ideal) ((c.tc : Thread Cert.HgrnPromptIdeal.nD Cert.HgrnPromptIdeal.τ).loc Cert.HgrnPromptIdeal.main_v19_0)) (v1 : (c : Dev Cert.HgrnPromptIdeal.nD) → Buf (Elt Ideal) ((c.tc : Thread Cert.HgrnPromptIdeal.nD Cert.HgrnPromptIdeal.τ).loc Cert.HgrnPromptIdeal.main_v19_1)),
      θ_run (Cert.HgrnPromptIdeal.defs (F := Ideal)) (onTc (τ := Cert.HgrnPromptIdeal.τ) (Cert.HgrnPromptIdeal.main (F := Ideal))) ⟨m, fun _ => 0, g⟩ (fun r => ∀ c : Dev Cert.HgrnPromptIdeal.nD,
          r.2.mem ((c.tc : Thread Cert.HgrnPromptIdeal.nD Cert.HgrnPromptIdeal.τ).loc Cert.HgrnPromptIdeal.main_v19_0) = v0 c
          ∧ r.2.mem ((c.tc : Thread Cert.HgrnPromptIdeal.nD Cert.HgrnPromptIdeal.τ).loc Cert.HgrnPromptIdeal.main_v19_1) = v1 c
          ∧ r.2.mem ((c.tc : Thread Cert.HgrnPromptIdeal.nD Cert.HgrnPromptIdeal.τ).loc Cert.HgrnPromptIdeal.main_arg0) = m ((c.tc : Thread Cert.HgrnPromptIdeal.nD Cert.HgrnPromptIdeal.τ).loc Cert.HgrnPromptIdeal.main_arg0)
          ∧ r.2.mem ((c.tc : Thread Cert.HgrnPromptIdeal.nD Cert.HgrnPromptIdeal.τ).loc Cert.HgrnPromptIdeal.main_arg1) = m ((c.tc : Thread Cert.HgrnPromptIdeal.nD Cert.HgrnPromptIdeal.τ).loc Cert.HgrnPromptIdeal.main_arg1)
          ∧ r.2.mem ((c.tc : Thread Cert.HgrnPromptIdeal.nD Cert.HgrnPromptIdeal.τ).loc Cert.HgrnPromptIdeal.main_arg2) = m ((c.tc : Thread Cert.HgrnPromptIdeal.nD Cert.HgrnPromptIdeal.τ).loc Cert.HgrnPromptIdeal.main_arg2))
      ∧ θ_run (Cert.HgrnPromptRefIdeal.defs (F := Ideal)) (onTc (τ := Cert.HgrnPromptRefIdeal.τ) (Cert.HgrnPromptRefIdeal.main (F := Ideal))) ⟨m', fun _ => 0, g'⟩ (fun r => ∀ c : Dev Cert.HgrnPromptRefIdeal.nD,
          r.2.mem ((c.tc : Thread Cert.HgrnPromptRefIdeal.nD Cert.HgrnPromptRefIdeal.τ).loc Cert.HgrnPromptRefIdeal.main_v77) = v0 c
          ∧ r.2.mem ((c.tc : Thread Cert.HgrnPromptRefIdeal.nD Cert.HgrnPromptRefIdeal.τ).loc Cert.HgrnPromptRefIdeal.main_v78) = v1 c
          ∧ r.2.mem ((c.tc : Thread Cert.HgrnPromptRefIdeal.nD Cert.HgrnPromptRefIdeal.τ).loc Cert.HgrnPromptRefIdeal.main_arg0) = m' ((c.tc : Thread Cert.HgrnPromptRefIdeal.nD Cert.HgrnPromptRefIdeal.τ).loc Cert.HgrnPromptRefIdeal.main_arg0)
          ∧ r.2.mem ((c.tc : Thread Cert.HgrnPromptRefIdeal.nD Cert.HgrnPromptRefIdeal.τ).loc Cert.HgrnPromptRefIdeal.main_arg1) = m' ((c.tc : Thread Cert.HgrnPromptRefIdeal.nD Cert.HgrnPromptRefIdeal.τ).loc Cert.HgrnPromptRefIdeal.main_arg1)
          ∧ r.2.mem ((c.tc : Thread Cert.HgrnPromptRefIdeal.nD Cert.HgrnPromptRefIdeal.τ).loc Cert.HgrnPromptRefIdeal.main_arg2) = m' ((c.tc : Thread Cert.HgrnPromptRefIdeal.nD Cert.HgrnPromptRefIdeal.τ).loc Cert.HgrnPromptRefIdeal.main_arg2))

def preserves_MoeFfn_MoeFfnIdeal : Prop :=
  True

def algebraic_MoeFfnIdeal_MoeFfnRefIdeal [hMoeFfnIdeal : Cert.MoeFfnIdeal.Facts] [hMoeFfnRefIdeal : Cert.MoeFfnRefIdeal.Facts] [hPre_experts_exist : Cert.Pre_experts_exist.Facts] : Prop :=
  ∀ (m : (ℓ : Loc Cert.MoeFfnIdeal.nD Cert.MoeFfnIdeal.τ Cert.MoeFfnIdeal.sig) → Buf (Elt Ideal) ℓ) (g : Dev Cert.MoeFfnIdeal.nD → PrngReg)
    (m' : (ℓ : Loc Cert.MoeFfnRefIdeal.nD Cert.MoeFfnRefIdeal.τ Cert.MoeFfnRefIdeal.sig) → Buf (Elt Ideal) ℓ) (g' : Dev Cert.MoeFfnRefIdeal.nD → PrngReg), Pre_MoeFfnIdeal m →
    (∀ c : Dev Cert.MoeFfnIdeal.nD,
      m' ((c.tc : Thread Cert.MoeFfnRefIdeal.nD Cert.MoeFfnRefIdeal.τ).loc Cert.MoeFfnRefIdeal.main_arg0) = m ((c.tc : Thread Cert.MoeFfnIdeal.nD Cert.MoeFfnIdeal.τ).loc Cert.MoeFfnIdeal.main_arg0)
      ∧ m' ((c.tc : Thread Cert.MoeFfnRefIdeal.nD Cert.MoeFfnRefIdeal.τ).loc Cert.MoeFfnRefIdeal.main_arg1) = m ((c.tc : Thread Cert.MoeFfnIdeal.nD Cert.MoeFfnIdeal.τ).loc Cert.MoeFfnIdeal.main_arg1)
      ∧ m' ((c.tc : Thread Cert.MoeFfnRefIdeal.nD Cert.MoeFfnRefIdeal.τ).loc Cert.MoeFfnRefIdeal.main_arg2) = m ((c.tc : Thread Cert.MoeFfnIdeal.nD Cert.MoeFfnIdeal.τ).loc Cert.MoeFfnIdeal.main_arg2)
      ∧ m' ((c.tc : Thread Cert.MoeFfnRefIdeal.nD Cert.MoeFfnRefIdeal.τ).loc Cert.MoeFfnRefIdeal.main_arg3) = m ((c.tc : Thread Cert.MoeFfnIdeal.nD Cert.MoeFfnIdeal.τ).loc Cert.MoeFfnIdeal.main_arg3)
      ∧ m' ((c.tc : Thread Cert.MoeFfnRefIdeal.nD Cert.MoeFfnRefIdeal.τ).loc Cert.MoeFfnRefIdeal.main_arg4) = m ((c.tc : Thread Cert.MoeFfnIdeal.nD Cert.MoeFfnIdeal.τ).loc Cert.MoeFfnIdeal.main_arg4)
      ∧ m' ((c.tc : Thread Cert.MoeFfnRefIdeal.nD Cert.MoeFfnRefIdeal.τ).loc Cert.MoeFfnRefIdeal.main_arg5) = m ((c.tc : Thread Cert.MoeFfnIdeal.nD Cert.MoeFfnIdeal.τ).loc Cert.MoeFfnIdeal.main_arg5)) →
    ∃ (v0 : (c : Dev Cert.MoeFfnIdeal.nD) → Buf (Elt Ideal) ((c.tc : Thread Cert.MoeFfnIdeal.nD Cert.MoeFfnIdeal.τ).loc Cert.MoeFfnIdeal.main_v4)),
      θ_run (Cert.MoeFfnIdeal.defs (F := Ideal)) (onTc (τ := Cert.MoeFfnIdeal.τ) (Cert.MoeFfnIdeal.main (F := Ideal))) ⟨m, fun _ => 0, g⟩ (fun r => ∀ c : Dev Cert.MoeFfnIdeal.nD,
          r.2.mem ((c.tc : Thread Cert.MoeFfnIdeal.nD Cert.MoeFfnIdeal.τ).loc Cert.MoeFfnIdeal.main_v4) = v0 c
          ∧ r.2.mem ((c.tc : Thread Cert.MoeFfnIdeal.nD Cert.MoeFfnIdeal.τ).loc Cert.MoeFfnIdeal.main_arg0) = m ((c.tc : Thread Cert.MoeFfnIdeal.nD Cert.MoeFfnIdeal.τ).loc Cert.MoeFfnIdeal.main_arg0)
          ∧ r.2.mem ((c.tc : Thread Cert.MoeFfnIdeal.nD Cert.MoeFfnIdeal.τ).loc Cert.MoeFfnIdeal.main_arg1) = m ((c.tc : Thread Cert.MoeFfnIdeal.nD Cert.MoeFfnIdeal.τ).loc Cert.MoeFfnIdeal.main_arg1)
          ∧ r.2.mem ((c.tc : Thread Cert.MoeFfnIdeal.nD Cert.MoeFfnIdeal.τ).loc Cert.MoeFfnIdeal.main_arg2) = m ((c.tc : Thread Cert.MoeFfnIdeal.nD Cert.MoeFfnIdeal.τ).loc Cert.MoeFfnIdeal.main_arg2)
          ∧ r.2.mem ((c.tc : Thread Cert.MoeFfnIdeal.nD Cert.MoeFfnIdeal.τ).loc Cert.MoeFfnIdeal.main_arg3) = m ((c.tc : Thread Cert.MoeFfnIdeal.nD Cert.MoeFfnIdeal.τ).loc Cert.MoeFfnIdeal.main_arg3)
          ∧ r.2.mem ((c.tc : Thread Cert.MoeFfnIdeal.nD Cert.MoeFfnIdeal.τ).loc Cert.MoeFfnIdeal.main_arg4) = m ((c.tc : Thread Cert.MoeFfnIdeal.nD Cert.MoeFfnIdeal.τ).loc Cert.MoeFfnIdeal.main_arg4)
          ∧ r.2.mem ((c.tc : Thread Cert.MoeFfnIdeal.nD Cert.MoeFfnIdeal.τ).loc Cert.MoeFfnIdeal.main_arg5) = m ((c.tc : Thread Cert.MoeFfnIdeal.nD Cert.MoeFfnIdeal.τ).loc Cert.MoeFfnIdeal.main_arg5))
      ∧ θ_run (Cert.MoeFfnRefIdeal.defs (F := Ideal)) (onTc (τ := Cert.MoeFfnRefIdeal.τ) (Cert.MoeFfnRefIdeal.main (F := Ideal))) ⟨m', fun _ => 0, g'⟩ (fun r => ∀ c : Dev Cert.MoeFfnRefIdeal.nD,
          r.2.mem ((c.tc : Thread Cert.MoeFfnRefIdeal.nD Cert.MoeFfnRefIdeal.τ).loc Cert.MoeFfnRefIdeal.main_v27) = v0 c
          ∧ r.2.mem ((c.tc : Thread Cert.MoeFfnRefIdeal.nD Cert.MoeFfnRefIdeal.τ).loc Cert.MoeFfnRefIdeal.main_arg0) = m' ((c.tc : Thread Cert.MoeFfnRefIdeal.nD Cert.MoeFfnRefIdeal.τ).loc Cert.MoeFfnRefIdeal.main_arg0)
          ∧ r.2.mem ((c.tc : Thread Cert.MoeFfnRefIdeal.nD Cert.MoeFfnRefIdeal.τ).loc Cert.MoeFfnRefIdeal.main_arg1) = m' ((c.tc : Thread Cert.MoeFfnRefIdeal.nD Cert.MoeFfnRefIdeal.τ).loc Cert.MoeFfnRefIdeal.main_arg1)
          ∧ r.2.mem ((c.tc : Thread Cert.MoeFfnRefIdeal.nD Cert.MoeFfnRefIdeal.τ).loc Cert.MoeFfnRefIdeal.main_arg2) = m' ((c.tc : Thread Cert.MoeFfnRefIdeal.nD Cert.MoeFfnRefIdeal.τ).loc Cert.MoeFfnRefIdeal.main_arg2)
          ∧ r.2.mem ((c.tc : Thread Cert.MoeFfnRefIdeal.nD Cert.MoeFfnRefIdeal.τ).loc Cert.MoeFfnRefIdeal.main_arg3) = m' ((c.tc : Thread Cert.MoeFfnRefIdeal.nD Cert.MoeFfnRefIdeal.τ).loc Cert.MoeFfnRefIdeal.main_arg3)
          ∧ r.2.mem ((c.tc : Thread Cert.MoeFfnRefIdeal.nD Cert.MoeFfnRefIdeal.τ).loc Cert.MoeFfnRefIdeal.main_arg4) = m' ((c.tc : Thread Cert.MoeFfnRefIdeal.nD Cert.MoeFfnRefIdeal.τ).loc Cert.MoeFfnRefIdeal.main_arg4)
          ∧ r.2.mem ((c.tc : Thread Cert.MoeFfnRefIdeal.nD Cert.MoeFfnRefIdeal.τ).loc Cert.MoeFfnRefIdeal.main_arg5) = m' ((c.tc : Thread Cert.MoeFfnRefIdeal.nD Cert.MoeFfnRefIdeal.τ).loc Cert.MoeFfnRefIdeal.main_arg5))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)
      ∧ m' ((c.tc : Thread Cert.ProjKvRefIdeal.nD Cert.ProjKvRefIdeal.τ).loc Cert.ProjKvRefIdeal.main_arg2) = m ((c.tc : Thread Cert.ProjKvIdeal.nD Cert.ProjKvIdeal.τ).loc Cert.ProjKvIdeal.main_arg2)
      ∧ m' ((c.tc : Thread Cert.ProjKvRefIdeal.nD Cert.ProjKvRefIdeal.τ).loc Cert.ProjKvRefIdeal.main_arg3) = m ((c.tc : Thread Cert.ProjKvIdeal.nD Cert.ProjKvIdeal.τ).loc Cert.ProjKvIdeal.main_arg3)
      ∧ m' ((c.tc : Thread Cert.ProjKvRefIdeal.nD Cert.ProjKvRefIdeal.τ).loc Cert.ProjKvRefIdeal.main_arg4) = m ((c.tc : Thread Cert.ProjKvIdeal.nD Cert.ProjKvIdeal.τ).loc Cert.ProjKvIdeal.main_arg4)) →
    ∃ (v0 : (c : Dev Cert.ProjKvIdeal.nD) → Buf (Elt Ideal) ((c.tc : Thread Cert.ProjKvIdeal.nD Cert.ProjKvIdeal.τ).loc Cert.ProjKvIdeal.main_v15)) (v1 : (c : Dev Cert.ProjKvIdeal.nD) → Buf (Elt Ideal) ((c.tc : Thread Cert.ProjKvIdeal.nD Cert.ProjKvIdeal.τ).loc Cert.ProjKvIdeal.main_v16)) (v2 : (c : Dev Cert.ProjKvIdeal.nD) → Buf (Elt Ideal) ((c.tc : Thread Cert.ProjKvIdeal.nD Cert.ProjKvIdeal.τ).loc Cert.ProjKvIdeal.main_v17)) (v3 : (c : Dev Cert.ProjKvIdeal.nD) → Buf (Elt Ideal) ((c.tc : Thread Cert.ProjKvIdeal.nD Cert.ProjKvIdeal.τ).loc Cert.ProjKvIdeal.main_v20)) (v4 : (c : Dev Cert.ProjKvIdeal.nD) → Buf (Elt Ideal) ((c.tc : Thread Cert.ProjKvIdeal.nD Cert.ProjKvIdeal.τ).loc Cert.ProjKvIdeal.main_v10_1)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v15) = v0 c
          ∧ r.2.mem ((c.tc : Thread Cert.ProjKvIdeal.nD Cert.ProjKvIdeal.τ).loc Cert.ProjKvIdeal.main_v16) = v1 c
          ∧ r.2.mem ((c.tc : Thread Cert.ProjKvIdeal.nD Cert.ProjKvIdeal.τ).loc Cert.ProjKvIdeal.main_v17) = v2 c
          ∧ r.2.mem ((c.tc : Thread Cert.ProjKvIdeal.nD Cert.ProjKvIdeal.τ).loc Cert.ProjKvIdeal.main_v20) = v3 c
          ∧ r.2.mem ((c.tc : Thread Cert.ProjKvIdeal.nD Cert.ProjKvIdeal.τ).loc Cert.ProjKvIdeal.main_v10_1) = v4 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
          ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
          ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3)
          ∧ r.2.mem ((c.tc : Thread Cert.ProjKvIdeal.nD Cert.ProjKvIdeal.τ).loc Cert.ProjKvIdeal.main_arg4) = m ((c.tc : Thread Cert.ProjKvIdeal.nD Cert.ProjKvIdeal.τ).loc Cert.ProjKvIdeal.main_arg4))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v23) = v0 c
          ∧ r.2.mem ((c.tc : Thread Cert.ProjKvRefIdeal.nD Cert.ProjKvRefIdeal.τ).loc Cert.ProjKvRefIdeal.main_v25) = v1 c
          ∧ r.2.mem ((c.tc : Thread Cert.ProjKvRefIdeal.nD Cert.ProjKvRefIdeal.τ).loc Cert.ProjKvRefIdeal.main_v27) = v2 c
          ∧ r.2.mem ((c.tc : Thread Cert.ProjKvRefIdeal.nD Cert.ProjKvRefIdeal.τ).loc Cert.ProjKvRefIdeal.main_v29) = v3 c
          ∧ r.2.mem ((c.tc : Thread Cert.ProjKvRefIdeal.nD Cert.ProjKvRefIdeal.τ).loc Cert.ProjKvRefIdeal.main_v31) = v4 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1)
          ∧ r.2.mem ((c.tc : Thread Cert.ProjKvRefIdeal.nD Cert.ProjKvRefIdeal.τ).loc Cert.ProjKvRefIdeal.main_arg2) = m' ((c.tc : Thread Cert.ProjKvRefIdeal.nD Cert.ProjKvRefIdeal.τ).loc Cert.ProjKvRefIdeal.main_arg2)
          ∧ r.2.mem ((c.tc : Thread Cert.ProjKvRefIdeal.nD Cert.ProjKvRefIdeal.τ).loc Cert.ProjKvRefIdeal.main_arg3) = m' ((c.tc : Thread Cert.ProjKvRefIdeal.nD Cert.ProjKvRefIdeal.τ).loc Cert.ProjKvRefIdeal.main_arg3)
          ∧ r.2.mem ((c.tc : Thread Cert.ProjKvRefIdeal.nD Cert.ProjKvRefIdeal.τ).loc Cert.ProjKvRefIdeal.main_arg4) = m' ((c.tc : Thread Cert.ProjKvRefIdeal.nD Cert.ProjKvRefIdeal.τ).loc Cert.ProjKvRefIdeal.main_arg4))

def preserves_ProjH4_ProjH4Ideal : Prop :=
  True

def algebraic_ProjH4Ideal_ProjH4RefIdeal [hProjH4Ideal : Cert.ProjH4Ideal.Facts] [hProjH4RefIdeal : Cert.ProjH4RefIdeal.Facts] : Prop :=
  ∀ (m : (ℓ : Loc Cert.ProjH4Ideal.nD Cert.ProjH4Ideal.τ Cert.ProjH4Ideal.sig) → Buf (Elt Ideal) ℓ) (g : Dev Cert.ProjH4Ideal.nD → PrngReg)
    (m' : (ℓ : Loc Cert.ProjH4RefIdeal.nD Cert.ProjH4RefIdeal.τ Cert.ProjH4RefIdeal.sig) → Buf (Elt Ideal) ℓ) (g' : Dev Cert.ProjH4RefIdeal.nD → PrngReg), Pre_ProjH4Ideal m →
    (∀ c : Dev Cert.ProjH4Ideal.nD,
      m' ((c.tc : Thread Cert.ProjH4RefIdeal.nD Cert.ProjH4RefIdeal.τ).loc Cert.ProjH4RefIdeal.main_arg0) = m ((c.tc : Thread Cert.ProjH4Ideal.nD Cert.ProjH4Ideal.τ).loc Cert.ProjH4Ideal.main_arg0)
      ∧ m' ((c.tc : Thread Cert.ProjH4RefIdeal.nD Cert.ProjH4RefIdeal.τ).loc Cert.ProjH4RefIdeal.main_arg1) = m ((c.tc : Thread Cert.ProjH4Ideal.nD Cert.ProjH4Ideal.τ).loc Cert.ProjH4Ideal.main_arg1)
      ∧ m' ((c.tc : Thread Cert.ProjH4RefIdeal.nD Cert.ProjH4RefIdeal.τ).loc Cert.ProjH4RefIdeal.main_arg2) = m ((c.tc : Thread Cert.ProjH4Ideal.nD Cert.ProjH4Ideal.τ).loc Cert.ProjH4Ideal.main_arg2)
      ∧ m' ((c.tc : Thread Cert.ProjH4RefIdeal.nD Cert.ProjH4RefIdeal.τ).loc Cert.ProjH4RefIdeal.main_arg3) = m ((c.tc : Thread Cert.ProjH4Ideal.nD Cert.ProjH4Ideal.τ).loc Cert.ProjH4Ideal.main_arg3)) →
    ∃ (v0 : (c : Dev Cert.ProjH4Ideal.nD) → Buf (Elt Ideal) ((c.tc : Thread Cert.ProjH4Ideal.nD Cert.ProjH4Ideal.τ).loc Cert.ProjH4Ideal.main_v10)),
      θ_run (Cert.ProjH4Ideal.defs (F := Ideal)) (onTc (τ := Cert.ProjH4Ideal.τ) (Cert.ProjH4Ideal.main (F := Ideal))) ⟨m, fun _ => 0, g⟩ (fun r => ∀ c : Dev Cert.ProjH4Ideal.nD,
          r.2.mem ((c.tc : Thread Cert.ProjH4Ideal.nD Cert.ProjH4Ideal.τ).loc Cert.ProjH4Ideal.main_v10) = v0 c
          ∧ r.2.mem ((c.tc : Thread Cert.ProjH4Ideal.nD Cert.ProjH4Ideal.τ).loc Cert.ProjH4Ideal.main_arg0) = m ((c.tc : Thread Cert.ProjH4Ideal.nD Cert.ProjH4Ideal.τ).loc Cert.ProjH4Ideal.main_arg0)
          ∧ r.2.mem ((c.tc : Thread Cert.ProjH4Ideal.nD Cert.ProjH4Ideal.τ).loc Cert.ProjH4Ideal.main_arg1) = m ((c.tc : Thread Cert.ProjH4Ideal.nD Cert.ProjH4Ideal.τ).loc Cert.ProjH4Ideal.main_arg1)
          ∧ r.2.mem ((c.tc : Thread Cert.ProjH4Ideal.nD Cert.ProjH4Ideal.τ).loc Cert.ProjH4Ideal.main_arg2) = m ((c.tc : Thread Cert.ProjH4Ideal.nD Cert.ProjH4Ideal.τ).loc Cert.ProjH4Ideal.main_arg2)
          ∧ r.2.mem ((c.tc : Thread Cert.ProjH4Ideal.nD Cert.ProjH4Ideal.τ).loc Cert.ProjH4Ideal.main_arg3) = m ((c.tc : Thread Cert.ProjH4Ideal.nD Cert.ProjH4Ideal.τ).loc Cert.ProjH4Ideal.main_arg3))
      ∧ θ_run (Cert.ProjH4RefIdeal.defs (F := Ideal)) (onTc (τ := Cert.ProjH4RefIdeal.τ) (Cert.ProjH4RefIdeal.main (F := Ideal))) ⟨m', fun _ => 0, g'⟩ (fun r => ∀ c : Dev Cert.ProjH4RefIdeal.nD,
          r.2.mem ((c.tc : Thread Cert.ProjH4RefIdeal.nD Cert.ProjH4RefIdeal.τ).loc Cert.ProjH4RefIdeal.main_v16) = v0 c
          ∧ r.2.mem ((c.tc : Thread Cert.ProjH4RefIdeal.nD Cert.ProjH4RefIdeal.τ).loc Cert.ProjH4RefIdeal.main_arg0) = m' ((c.tc : Thread Cert.ProjH4RefIdeal.nD Cert.ProjH4RefIdeal.τ).loc Cert.ProjH4RefIdeal.main_arg0)
          ∧ r.2.mem ((c.tc : Thread Cert.ProjH4RefIdeal.nD Cert.ProjH4RefIdeal.τ).loc Cert.ProjH4RefIdeal.main_arg1) = m' ((c.tc : Thread Cert.ProjH4RefIdeal.nD Cert.ProjH4RefIdeal.τ).loc Cert.ProjH4RefIdeal.main_arg1)
          ∧ r.2.mem ((c.tc : Thread Cert.ProjH4RefIdeal.nD Cert.ProjH4RefIdeal.τ).loc Cert.ProjH4RefIdeal.main_arg2) = m' ((c.tc : Thread Cert.ProjH4RefIdeal.nD Cert.ProjH4RefIdeal.τ).loc Cert.ProjH4RefIdeal.main_arg2)
          ∧ r.2.mem ((c.tc : Thread Cert.ProjH4RefIdeal.nD Cert.ProjH4RefIdeal.τ).loc Cert.ProjH4RefIdeal.main_arg3) = m' ((c.tc : Thread Cert.ProjH4RefIdeal.nD Cert.ProjH4RefIdeal.τ).loc Cert.ProjH4RefIdeal.main_arg3))

def preserves_ProjMg_ProjMgIdeal : Prop :=
  True

def algebraic_ProjMgIdeal_ProjMgRefIdeal [hProjMgIdeal : Cert.ProjMgIdeal.Facts] [hProjMgRefIdeal : Cert.ProjMgRefIdeal.Facts] : Prop :=
  ∀ (m : (ℓ : Loc Cert.ProjMgIdeal.nD Cert.ProjMgIdeal.τ Cert.ProjMgIdeal.sig) → Buf (Elt Ideal) ℓ) (g : Dev Cert.ProjMgIdeal.nD → PrngReg)
    (m' : (ℓ : Loc Cert.ProjMgRefIdeal.nD Cert.ProjMgRefIdeal.τ Cert.ProjMgRefIdeal.sig) → Buf (Elt Ideal) ℓ) (g' : Dev Cert.ProjMgRefIdeal.nD → PrngReg), Pre_ProjMgIdeal m →
    (∀ c : Dev Cert.ProjMgIdeal.nD,
      m' ((c.tc : Thread Cert.ProjMgRefIdeal.nD Cert.ProjMgRefIdeal.τ).loc Cert.ProjMgRefIdeal.main_arg0) = m ((c.tc : Thread Cert.ProjMgIdeal.nD Cert.ProjMgIdeal.τ).loc Cert.ProjMgIdeal.main_arg0)
      ∧ m' ((c.tc : Thread Cert.ProjMgRefIdeal.nD Cert.ProjMgRefIdeal.τ).loc Cert.ProjMgRefIdeal.main_arg1) = m ((c.tc : Thread Cert.ProjMgIdeal.nD Cert.ProjMgIdeal.τ).loc Cert.ProjMgIdeal.main_arg1)
      ∧ m' ((c.tc : Thread Cert.ProjMgRefIdeal.nD Cert.ProjMgRefIdeal.τ).loc Cert.ProjMgRefIdeal.main_arg2) = m ((c.tc : Thread Cert.ProjMgIdeal.nD Cert.ProjMgIdeal.τ).loc Cert.ProjMgIdeal.main_arg2)
      ∧ m' ((c.tc : Thread Cert.ProjMgRefIdeal.nD Cert.ProjMgRefIdeal.τ).loc Cert.ProjMgRefIdeal.main_arg3) = m ((c.tc : Thread Cert.ProjMgIdeal.nD Cert.ProjMgIdeal.τ).loc Cert.ProjMgIdeal.main_arg3)) →
    ∃ (v0 : (c : Dev Cert.ProjMgIdeal.nD) → Buf (Elt Ideal) ((c.tc : Thread Cert.ProjMgIdeal.nD Cert.ProjMgIdeal.τ).loc Cert.ProjMgIdeal.main_v10)),
      θ_run (Cert.ProjMgIdeal.defs (F := Ideal)) (onTc (τ := Cert.ProjMgIdeal.τ) (Cert.ProjMgIdeal.main (F := Ideal))) ⟨m, fun _ => 0, g⟩ (fun r => ∀ c : Dev Cert.ProjMgIdeal.nD,
          r.2.mem ((c.tc : Thread Cert.ProjMgIdeal.nD Cert.ProjMgIdeal.τ).loc Cert.ProjMgIdeal.main_v10) = v0 c
          ∧ r.2.mem ((c.tc : Thread Cert.ProjMgIdeal.nD Cert.ProjMgIdeal.τ).loc Cert.ProjMgIdeal.main_arg0) = m ((c.tc : Thread Cert.ProjMgIdeal.nD Cert.ProjMgIdeal.τ).loc Cert.ProjMgIdeal.main_arg0)
          ∧ r.2.mem ((c.tc : Thread Cert.ProjMgIdeal.nD Cert.ProjMgIdeal.τ).loc Cert.ProjMgIdeal.main_arg1) = m ((c.tc : Thread Cert.ProjMgIdeal.nD Cert.ProjMgIdeal.τ).loc Cert.ProjMgIdeal.main_arg1)
          ∧ r.2.mem ((c.tc : Thread Cert.ProjMgIdeal.nD Cert.ProjMgIdeal.τ).loc Cert.ProjMgIdeal.main_arg2) = m ((c.tc : Thread Cert.ProjMgIdeal.nD Cert.ProjMgIdeal.τ).loc Cert.ProjMgIdeal.main_arg2)
          ∧ r.2.mem ((c.tc : Thread Cert.ProjMgIdeal.nD Cert.ProjMgIdeal.τ).loc Cert.ProjMgIdeal.main_arg3) = m ((c.tc : Thread Cert.ProjMgIdeal.nD Cert.ProjMgIdeal.τ).loc Cert.ProjMgIdeal.main_arg3))
      ∧ θ_run (Cert.ProjMgRefIdeal.defs (F := Ideal)) (onTc (τ := Cert.ProjMgRefIdeal.τ) (Cert.ProjMgRefIdeal.main (F := Ideal))) ⟨m', fun _ => 0, g'⟩ (fun r => ∀ c : Dev Cert.ProjMgRefIdeal.nD,
          r.2.mem ((c.tc : Thread Cert.ProjMgRefIdeal.nD Cert.ProjMgRefIdeal.τ).loc Cert.ProjMgRefIdeal.main_v16) = v0 c
          ∧ r.2.mem ((c.tc : Thread Cert.ProjMgRefIdeal.nD Cert.ProjMgRefIdeal.τ).loc Cert.ProjMgRefIdeal.main_arg0) = m' ((c.tc : Thread Cert.ProjMgRefIdeal.nD Cert.ProjMgRefIdeal.τ).loc Cert.ProjMgRefIdeal.main_arg0)
          ∧ r.2.mem ((c.tc : Thread Cert.ProjMgRefIdeal.nD Cert.ProjMgRefIdeal.τ).loc Cert.ProjMgRefIdeal.main_arg1) = m' ((c.tc : Thread Cert.ProjMgRefIdeal.nD Cert.ProjMgRefIdeal.τ).loc Cert.ProjMgRefIdeal.main_arg1)
          ∧ r.2.mem ((c.tc : Thread Cert.ProjMgRefIdeal.nD Cert.ProjMgRefIdeal.τ).loc Cert.ProjMgRefIdeal.main_arg2) = m' ((c.tc : Thread Cert.ProjMgRefIdeal.nD Cert.ProjMgRefIdeal.τ).loc Cert.ProjMgRefIdeal.main_arg2)
          ∧ r.2.mem ((c.tc : Thread Cert.ProjMgRefIdeal.nD Cert.ProjMgRefIdeal.τ).loc Cert.ProjMgRefIdeal.main_arg3) = m' ((c.tc : Thread Cert.ProjMgRefIdeal.nD Cert.ProjMgRefIdeal.τ).loc Cert.ProjMgRefIdeal.main_arg3))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)
      ∧ m' ((c.tc : Thread Cert.ProjQRefIdeal.nD Cert.ProjQRefIdeal.τ).loc Cert.ProjQRefIdeal.main_arg3) = m ((c.tc : Thread Cert.ProjQIdeal.nD Cert.ProjQIdeal.τ).loc Cert.ProjQIdeal.main_arg3)) →
    ∃ (v0 : (c : Dev Cert.ProjQIdeal.nD) → Buf (Elt Ideal) ((c.tc : Thread Cert.ProjQIdeal.nD Cert.ProjQIdeal.τ).loc Cert.ProjQIdeal.main_v10)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v10) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
          ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v19) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2)
          ∧ r.2.mem ((c.tc : Thread Cert.ProjQRefIdeal.nD Cert.ProjQRefIdeal.τ).loc Cert.ProjQRefIdeal.main_arg3) = m' ((c.tc : Thread Cert.ProjQRefIdeal.nD Cert.ProjQRefIdeal.τ).loc Cert.ProjQRefIdeal.main_arg3))

def preserves_TailMix_TailMixIdeal : Prop :=
  True

def algebraic_TailMixIdeal_TailMixRefIdeal [hTailMixIdeal : Cert.TailMixIdeal.Facts] [hTailMixRefIdeal : Cert.TailMixRefIdeal.Facts] : Prop :=
  ∀ (m : (ℓ : Loc Cert.TailMixIdeal.nD Cert.TailMixIdeal.τ Cert.TailMixIdeal.sig) → Buf (Elt Ideal) ℓ) (g : Dev Cert.TailMixIdeal.nD → PrngReg)
    (m' : (ℓ : Loc Cert.TailMixRefIdeal.nD Cert.TailMixRefIdeal.τ Cert.TailMixRefIdeal.sig) → Buf (Elt Ideal) ℓ) (g' : Dev Cert.TailMixRefIdeal.nD → PrngReg), Pre_TailMixIdeal m →
    (∀ c : Dev Cert.TailMixIdeal.nD,
      m' ((c.tc : Thread Cert.TailMixRefIdeal.nD Cert.TailMixRefIdeal.τ).loc Cert.TailMixRefIdeal.main_arg0) = m ((c.tc : Thread Cert.TailMixIdeal.nD Cert.TailMixIdeal.τ).loc Cert.TailMixIdeal.main_arg0)
      ∧ m' ((c.tc : Thread Cert.TailMixRefIdeal.nD Cert.TailMixRefIdeal.τ).loc Cert.TailMixRefIdeal.main_arg1) = m ((c.tc : Thread Cert.TailMixIdeal.nD Cert.TailMixIdeal.τ).loc Cert.TailMixIdeal.main_arg1)
      ∧ m' ((c.tc : Thread Cert.TailMixRefIdeal.nD Cert.TailMixRefIdeal.τ).loc Cert.TailMixRefIdeal.main_arg2) = m ((c.tc : Thread Cert.TailMixIdeal.nD Cert.TailMixIdeal.τ).loc Cert.TailMixIdeal.main_arg2)
      ∧ m' ((c.tc : Thread Cert.TailMixRefIdeal.nD Cert.TailMixRefIdeal.τ).loc Cert.TailMixRefIdeal.main_arg3) = m ((c.tc : Thread Cert.TailMixIdeal.nD Cert.TailMixIdeal.τ).loc Cert.TailMixIdeal.main_arg3)
      ∧ m' ((c.tc : Thread Cert.TailMixRefIdeal.nD Cert.TailMixRefIdeal.τ).loc Cert.TailMixRefIdeal.main_arg4) = m ((c.tc : Thread Cert.TailMixIdeal.nD Cert.TailMixIdeal.τ).loc Cert.TailMixIdeal.main_arg4)) →
    ∃ (v0 : (c : Dev Cert.TailMixIdeal.nD) → Buf (Elt Ideal) ((c.tc : Thread Cert.TailMixIdeal.nD Cert.TailMixIdeal.τ).loc Cert.TailMixIdeal.main_v4)),
      θ_run (Cert.TailMixIdeal.defs (F := Ideal)) (onTc (τ := Cert.TailMixIdeal.τ) (Cert.TailMixIdeal.main (F := Ideal))) ⟨m, fun _ => 0, g⟩ (fun r => ∀ c : Dev Cert.TailMixIdeal.nD,
          r.2.mem ((c.tc : Thread Cert.TailMixIdeal.nD Cert.TailMixIdeal.τ).loc Cert.TailMixIdeal.main_v4) = v0 c
          ∧ r.2.mem ((c.tc : Thread Cert.TailMixIdeal.nD Cert.TailMixIdeal.τ).loc Cert.TailMixIdeal.main_arg0) = m ((c.tc : Thread Cert.TailMixIdeal.nD Cert.TailMixIdeal.τ).loc Cert.TailMixIdeal.main_arg0)
          ∧ r.2.mem ((c.tc : Thread Cert.TailMixIdeal.nD Cert.TailMixIdeal.τ).loc Cert.TailMixIdeal.main_arg1) = m ((c.tc : Thread Cert.TailMixIdeal.nD Cert.TailMixIdeal.τ).loc Cert.TailMixIdeal.main_arg1)
          ∧ r.2.mem ((c.tc : Thread Cert.TailMixIdeal.nD Cert.TailMixIdeal.τ).loc Cert.TailMixIdeal.main_arg2) = m ((c.tc : Thread Cert.TailMixIdeal.nD Cert.TailMixIdeal.τ).loc Cert.TailMixIdeal.main_arg2)
          ∧ r.2.mem ((c.tc : Thread Cert.TailMixIdeal.nD Cert.TailMixIdeal.τ).loc Cert.TailMixIdeal.main_arg3) = m ((c.tc : Thread Cert.TailMixIdeal.nD Cert.TailMixIdeal.τ).loc Cert.TailMixIdeal.main_arg3)
          ∧ r.2.mem ((c.tc : Thread Cert.TailMixIdeal.nD Cert.TailMixIdeal.τ).loc Cert.TailMixIdeal.main_arg4) = m ((c.tc : Thread Cert.TailMixIdeal.nD Cert.TailMixIdeal.τ).loc Cert.TailMixIdeal.main_arg4))
      ∧ θ_run (Cert.TailMixRefIdeal.defs (F := Ideal)) (onTc (τ := Cert.TailMixRefIdeal.τ) (Cert.TailMixRefIdeal.main (F := Ideal))) ⟨m', fun _ => 0, g'⟩ (fun r => ∀ c : Dev Cert.TailMixRefIdeal.nD,
          r.2.mem ((c.tc : Thread Cert.TailMixRefIdeal.nD Cert.TailMixRefIdeal.τ).loc Cert.TailMixRefIdeal.main_v26) = v0 c
          ∧ r.2.mem ((c.tc : Thread Cert.TailMixRefIdeal.nD Cert.TailMixRefIdeal.τ).loc Cert.TailMixRefIdeal.main_arg0) = m' ((c.tc : Thread Cert.TailMixRefIdeal.nD Cert.TailMixRefIdeal.τ).loc Cert.TailMixRefIdeal.main_arg0)
          ∧ r.2.mem ((c.tc : Thread Cert.TailMixRefIdeal.nD Cert.TailMixRefIdeal.τ).loc Cert.TailMixRefIdeal.main_arg1) = m' ((c.tc : Thread Cert.TailMixRefIdeal.nD Cert.TailMixRefIdeal.τ).loc Cert.TailMixRefIdeal.main_arg1)
          ∧ r.2.mem ((c.tc : Thread Cert.TailMixRefIdeal.nD Cert.TailMixRefIdeal.τ).loc Cert.TailMixRefIdeal.main_arg2) = m' ((c.tc : Thread Cert.TailMixRefIdeal.nD Cert.TailMixRefIdeal.τ).loc Cert.TailMixRefIdeal.main_arg2)
          ∧ r.2.mem ((c.tc : Thread Cert.TailMixRefIdeal.nD Cert.TailMixRefIdeal.τ).loc Cert.TailMixRefIdeal.main_arg3) = m' ((c.tc : Thread Cert.TailMixRefIdeal.nD Cert.TailMixRefIdeal.τ).loc Cert.TailMixRefIdeal.main_arg3)
          ∧ r.2.mem ((c.tc : Thread Cert.TailMixRefIdeal.nD Cert.TailMixRefIdeal.τ).loc Cert.TailMixRefIdeal.main_arg4) = m' ((c.tc : Thread Cert.TailMixRefIdeal.nD Cert.TailMixRefIdeal.τ).loc Cert.TailMixRefIdeal.main_arg4))

def preserves_ProjNg_ProjNgIdeal : Prop :=
  True

def algebraic_ProjNgIdeal_ProjNgRefIdeal [hProjNgIdeal : Cert.ProjNgIdeal.Facts] [hProjNgRefIdeal : Cert.ProjNgRefIdeal.Facts] : Prop :=
  ∀ (m : (ℓ : Loc Cert.ProjNgIdeal.nD Cert.ProjNgIdeal.τ Cert.ProjNgIdeal.sig) → Buf (Elt Ideal) ℓ) (g : Dev Cert.ProjNgIdeal.nD → PrngReg)
    (m' : (ℓ : Loc Cert.ProjNgRefIdeal.nD Cert.ProjNgRefIdeal.τ Cert.ProjNgRefIdeal.sig) → Buf (Elt Ideal) ℓ) (g' : Dev Cert.ProjNgRefIdeal.nD → PrngReg), Pre_ProjNgIdeal m →
    (∀ c : Dev Cert.ProjNgIdeal.nD,
      m' ((c.tc : Thread Cert.ProjNgRefIdeal.nD Cert.ProjNgRefIdeal.τ).loc Cert.ProjNgRefIdeal.main_arg0) = m ((c.tc : Thread Cert.ProjNgIdeal.nD Cert.ProjNgIdeal.τ).loc Cert.ProjNgIdeal.main_arg0)
      ∧ m' ((c.tc : Thread Cert.ProjNgRefIdeal.nD Cert.ProjNgRefIdeal.τ).loc Cert.ProjNgRefIdeal.main_arg1) = m ((c.tc : Thread Cert.ProjNgIdeal.nD Cert.ProjNgIdeal.τ).loc Cert.ProjNgIdeal.main_arg1)
      ∧ m' ((c.tc : Thread Cert.ProjNgRefIdeal.nD Cert.ProjNgRefIdeal.τ).loc Cert.ProjNgRefIdeal.main_arg2) = m ((c.tc : Thread Cert.ProjNgIdeal.nD Cert.ProjNgIdeal.τ).loc Cert.ProjNgIdeal.main_arg2)
      ∧ m' ((c.tc : Thread Cert.ProjNgRefIdeal.nD Cert.ProjNgRefIdeal.τ).loc Cert.ProjNgRefIdeal.main_arg3) = m ((c.tc : Thread Cert.ProjNgIdeal.nD Cert.ProjNgIdeal.τ).loc Cert.ProjNgIdeal.main_arg3)) →
    ∃ (v0 : (c : Dev Cert.ProjNgIdeal.nD) → Buf (Elt Ideal) ((c.tc : Thread Cert.ProjNgIdeal.nD Cert.ProjNgIdeal.τ).loc Cert.ProjNgIdeal.main_v13)) (v1 : (c : Dev Cert.ProjNgIdeal.nD) → Buf (Elt Ideal) ((c.tc : Thread Cert.ProjNgIdeal.nD Cert.ProjNgIdeal.τ).loc Cert.ProjNgIdeal.main_v14)),
      θ_run (Cert.ProjNgIdeal.defs (F := Ideal)) (onTc (τ := Cert.ProjNgIdeal.τ) (Cert.ProjNgIdeal.main (F := Ideal))) ⟨m, fun _ => 0, g⟩ (fun r => ∀ c : Dev Cert.ProjNgIdeal.nD,
          r.2.mem ((c.tc : Thread Cert.ProjNgIdeal.nD Cert.ProjNgIdeal.τ).loc Cert.ProjNgIdeal.main_v13) = v0 c
          ∧ r.2.mem ((c.tc : Thread Cert.ProjNgIdeal.nD Cert.ProjNgIdeal.τ).loc Cert.ProjNgIdeal.main_v14) = v1 c
          ∧ r.2.mem ((c.tc : Thread Cert.ProjNgIdeal.nD Cert.ProjNgIdeal.τ).loc Cert.ProjNgIdeal.main_arg0) = m ((c.tc : Thread Cert.ProjNgIdeal.nD Cert.ProjNgIdeal.τ).loc Cert.ProjNgIdeal.main_arg0)
          ∧ r.2.mem ((c.tc : Thread Cert.ProjNgIdeal.nD Cert.ProjNgIdeal.τ).loc Cert.ProjNgIdeal.main_arg1) = m ((c.tc : Thread Cert.ProjNgIdeal.nD Cert.ProjNgIdeal.τ).loc Cert.ProjNgIdeal.main_arg1)
          ∧ r.2.mem ((c.tc : Thread Cert.ProjNgIdeal.nD Cert.ProjNgIdeal.τ).loc Cert.ProjNgIdeal.main_arg2) = m ((c.tc : Thread Cert.ProjNgIdeal.nD Cert.ProjNgIdeal.τ).loc Cert.ProjNgIdeal.main_arg2)
          ∧ r.2.mem ((c.tc : Thread Cert.ProjNgIdeal.nD Cert.ProjNgIdeal.τ).loc Cert.ProjNgIdeal.main_arg3) = m ((c.tc : Thread Cert.ProjNgIdeal.nD Cert.ProjNgIdeal.τ).loc Cert.ProjNgIdeal.main_arg3))
      ∧ θ_run (Cert.ProjNgRefIdeal.defs (F := Ideal)) (onTc (τ := Cert.ProjNgRefIdeal.τ) (Cert.ProjNgRefIdeal.main (F := Ideal))) ⟨m', fun _ => 0, g'⟩ (fun r => ∀ c : Dev Cert.ProjNgRefIdeal.nD,
          r.2.mem ((c.tc : Thread Cert.ProjNgRefIdeal.nD Cert.ProjNgRefIdeal.τ).loc Cert.ProjNgRefIdeal.main_v13) = v0 c
          ∧ r.2.mem ((c.tc : Thread Cert.ProjNgRefIdeal.nD Cert.ProjNgRefIdeal.τ).loc Cert.ProjNgRefIdeal.main_v15) = v1 c
          ∧ r.2.mem ((c.tc : Thread Cert.ProjNgRefIdeal.nD Cert.ProjNgRefIdeal.τ).loc Cert.ProjNgRefIdeal.main_arg0) = m' ((c.tc : Thread Cert.ProjNgRefIdeal.nD Cert.ProjNgRefIdeal.τ).loc Cert.ProjNgRefIdeal.main_arg0)
          ∧ r.2.mem ((c.tc : Thread Cert.ProjNgRefIdeal.nD Cert.ProjNgRefIdeal.τ).loc Cert.ProjNgRefIdeal.main_arg1) = m' ((c.tc : Thread Cert.ProjNgRefIdeal.nD Cert.ProjNgRefIdeal.τ).loc Cert.ProjNgRefIdeal.main_arg1)
          ∧ r.2.mem ((c.tc : Thread Cert.ProjNgRefIdeal.nD Cert.ProjNgRefIdeal.τ).loc Cert.ProjNgRefIdeal.main_arg2) = m' ((c.tc : Thread Cert.ProjNgRefIdeal.nD Cert.ProjNgRefIdeal.τ).loc Cert.ProjNgRefIdeal.main_arg2)
          ∧ r.2.mem ((c.tc : Thread Cert.ProjNgRefIdeal.nD Cert.ProjNgRefIdeal.τ).loc Cert.ProjNgRefIdeal.main_arg3) = m' ((c.tc : Thread Cert.ProjNgRefIdeal.nD Cert.ProjNgRefIdeal.τ).loc Cert.ProjNgRefIdeal.main_arg3))

def Claim : Prop :=
  ∃ (hHgrnPrompt : Cert.HgrnPrompt.Facts) (hHgrnPromptIdeal : Cert.HgrnPromptIdeal.Facts) (hHgrnPromptRefIdeal : Cert.HgrnPromptRefIdeal.Facts) (hMoeFfn : Cert.MoeFfn.Facts) (hMoeFfnIdeal : Cert.MoeFfnIdeal.Facts) (hMoeFfnRefIdeal : Cert.MoeFfnRefIdeal.Facts) (hProjKv : Cert.ProjKv.Facts) (hProjKvIdeal : Cert.ProjKvIdeal.Facts) (hProjKvRefIdeal : Cert.ProjKvRefIdeal.Facts) (hProjH4 : Cert.ProjH4.Facts) (hProjH4Ideal : Cert.ProjH4Ideal.Facts) (hProjH4RefIdeal : Cert.ProjH4RefIdeal.Facts) (hProjMg : Cert.ProjMg.Facts) (hProjMgIdeal : Cert.ProjMgIdeal.Facts) (hProjMgRefIdeal : Cert.ProjMgRefIdeal.Facts) (hProjQ : Cert.ProjQ.Facts) (hProjQIdeal : Cert.ProjQIdeal.Facts) (hProjQRefIdeal : Cert.ProjQRefIdeal.Facts) (hTailMix : Cert.TailMix.Facts) (hTailMixIdeal : Cert.TailMixIdeal.Facts) (hTailMixRefIdeal : Cert.TailMixRefIdeal.Facts) (hProjNg : Cert.ProjNg.Facts) (hProjNgIdeal : Cert.ProjNgIdeal.Facts) (hProjNgRefIdeal : Cert.ProjNgRefIdeal.Facts) (hPre_experts_exist : Cert.Pre_experts_exist.Facts),
    quiescent_HgrnPrompt (hHgrnPrompt := hHgrnPrompt)
    ∧ quiescent_HgrnPromptIdeal (hHgrnPromptIdeal := hHgrnPromptIdeal)
    ∧ quiescent_HgrnPromptRefIdeal (hHgrnPromptRefIdeal := hHgrnPromptRefIdeal)
    ∧ quiescent_MoeFfn (hMoeFfn := hMoeFfn) (hPre_experts_exist := hPre_experts_exist)
    ∧ quiescent_MoeFfnIdeal (hMoeFfnIdeal := hMoeFfnIdeal) (hPre_experts_exist := hPre_experts_exist)
    ∧ quiescent_MoeFfnRefIdeal (hMoeFfnRefIdeal := hMoeFfnRefIdeal) (hPre_experts_exist := hPre_experts_exist)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_ProjH4 (hProjH4 := hProjH4)
    ∧ quiescent_ProjH4Ideal (hProjH4Ideal := hProjH4Ideal)
    ∧ quiescent_ProjH4RefIdeal (hProjH4RefIdeal := hProjH4RefIdeal)
    ∧ quiescent_ProjMg (hProjMg := hProjMg)
    ∧ quiescent_ProjMgIdeal (hProjMgIdeal := hProjMgIdeal)
    ∧ quiescent_ProjMgRefIdeal (hProjMgRefIdeal := hProjMgRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_TailMix (hTailMix := hTailMix)
    ∧ quiescent_TailMixIdeal (hTailMixIdeal := hTailMixIdeal)
    ∧ quiescent_TailMixRefIdeal (hTailMixRefIdeal := hTailMixRefIdeal)
    ∧ quiescent_ProjNg (hProjNg := hProjNg)
    ∧ quiescent_ProjNgIdeal (hProjNgIdeal := hProjNgIdeal)
    ∧ quiescent_ProjNgRefIdeal (hProjNgRefIdeal := hProjNgRefIdeal)
    ∧ preserves_HgrnPrompt_HgrnPromptIdeal
    ∧ algebraic_HgrnPromptIdeal_HgrnPromptRefIdeal (hHgrnPromptIdeal := hHgrnPromptIdeal) (hHgrnPromptRefIdeal := hHgrnPromptRefIdeal)
    ∧ preserves_MoeFfn_MoeFfnIdeal
    ∧ algebraic_MoeFfnIdeal_MoeFfnRefIdeal (hMoeFfnIdeal := hMoeFfnIdeal) (hMoeFfnRefIdeal := hMoeFfnRefIdeal) (hPre_experts_exist := hPre_experts_exist)
    ∧ preserves_ProjKv_ProjKvIdeal
    ∧ algebraic_ProjKvIdeal_ProjKvRefIdeal (hProjKvIdeal := hProjKvIdeal) (hProjKvRefIdeal := hProjKvRefIdeal)
    ∧ preserves_ProjH4_ProjH4Ideal
    ∧ algebraic_ProjH4Ideal_ProjH4RefIdeal (hProjH4Ideal := hProjH4Ideal) (hProjH4RefIdeal := hProjH4RefIdeal)
    ∧ preserves_ProjMg_ProjMgIdeal
    ∧ algebraic_ProjMgIdeal_ProjMgRefIdeal (hProjMgIdeal := hProjMgIdeal) (hProjMgRefIdeal := hProjMgRefIdeal)
    ∧ preserves_ProjQ_ProjQIdeal
    ∧ algebraic_ProjQIdeal_ProjQRefIdeal (hProjQIdeal := hProjQIdeal) (hProjQRefIdeal := hProjQRefIdeal)
    ∧ preserves_TailMix_TailMixIdeal
    ∧ algebraic_TailMixIdeal_TailMixRefIdeal (hTailMixIdeal := hTailMixIdeal) (hTailMixRefIdeal := hTailMixRefIdeal)
    ∧ preserves_ProjNg_ProjNgIdeal
    ∧ algebraic_ProjNgIdeal_ProjNgRefIdeal (hProjNgIdeal := hProjNgIdeal) (hProjNgRefIdeal := hProjNgRefIdeal)
-- ==== Pre_experts_exist.lean ====
abbrev S97 : Shape := ⟨1, ![97]⟩
abbrev S1 : Shape := ⟨1, ![1]⟩
abbrev S24832x2048 : Shape := ⟨2, ![24832, 2048]⟩
abbrev S1x32x2048x512 : Shape := ⟨4, ![1, 32, 2048, 512]⟩
abbrev S1x32x512x2048 : Shape := ⟨4, ![1, 32, 512, 2048]⟩
abbrev S_ : Shape := ⟨0, ![]⟩

class Facts : Prop where
  bcast_S_S97 : S_.BroadcastsInDim S97 (![] : Fin 0 → Fin S97.rank)
  reducesTo_S97_S_d0 : S97.ReducesTo [0] S_
  h_S_ : 0 < S_.numel
  shapeCasts_S1_S_ : S1.ShapeCasts S_

variable [Facts]

def fn {F : FTy → Type} [FloatOps F] (main_arg0 : IVec S97 32) (main_arg1 : IVec S1 32) (main_arg2 : FVec F S24832x2048 .f32) (main_arg3 : FVec F S1x32x2048x512 .f32) (main_arg4 : FVec F S1x32x2048x512 .f32) (main_arg5 : FVec F S1x32x512x2048 .f32) : IVec S_ 1 :=
  let main_c : IVec S_ 32 := constantI S_ 32 0#32
  let main_v0 : IVec S97 32 := broadcastInDim S97 ![] bcast_S_S97 main_c
  let main_v1 : IVec S97 1 := cmpi .sge main_arg0 main_v0
  let main_c_0 : IVec S_ 1 := constantI S_ 1 1#1
  let main_v2 : IVec S_ 1 := (fun x v => Host.reduce IntOp.andi x v reducesTo_S97_S_d0 h_S_) main_v1 main_c_0
  let main_c_1 : IVec S_ 32 := constantI S_ 32 32#32
  let main_v3 : IVec S97 32 := broadcastInDim S97 ![] bcast_S_S97 main_c_1
  let main_v4 : IVec S97 1 := cmpi .slt main_arg0 main_v3
  let main_c_2 : IVec S_ 1 := constantI S_ 1 1#1
  let main_v5 : IVec S_ 1 := (fun x v => Host.reduce IntOp.andi x v reducesTo_S97_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  main_v9
-- ==== HgrnPrompt.lean ====
abbrev S8320x4096 : Shape := ⟨2, ![8320, 4096]⟩
abbrev S2x1024 : Shape := ⟨2, ![2, 1024]⟩
abbrev S1x8x128 : Shape := ⟨3, ![1, 8, 128]⟩
abbrev S_ : Shape := ⟨0, ![]⟩
abbrev S1024 : Shape := ⟨1, ![1024]⟩
abbrev S1x1024 : Shape := ⟨2, ![1, 1024]⟩
abbrev S8x128 : Shape := ⟨2, ![8, 128]⟩
abbrev S2x8x128x128 : Shape := ⟨4, ![2, 8, 128, 128]⟩
abbrev S8x1x128 : Shape := ⟨3, ![8, 1, 128]⟩
abbrev S8192x1024 : Shape := ⟨2, ![8192, 1024]⟩
abbrev S512x1024 : Shape := ⟨2, ![512, 1024]⟩
abbrev S1x8x128x128 : Shape := ⟨4, ![1, 8, 128, 128]⟩
abbrev S8x128x128 : Shape := ⟨3, ![8, 128, 128]⟩
abbrev S512x128 : Shape := ⟨2, ![512, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S16x32x128 : Shape := ⟨3, ![16, 32, 128]⟩
abbrev S16x1x128 : Shape := ⟨3, ![16, 1, 128]⟩
abbrev S16x32x32 : Shape := ⟨3, ![16, 32, 32]⟩
abbrev S32x32 : Shape := ⟨2, ![32, 32]⟩
abbrev S1x32x32 : Shape := ⟨3, ![1, 32, 32]⟩
abbrev S1x32x128 : Shape := ⟨3, ![1, 32, 128]⟩
abbrev S32x128 : Shape := ⟨2, ![32, 128]⟩
abbrev S512 : Shape := ⟨1, ![512]⟩
abbrev S512x1 : Shape := ⟨2, ![512, 1]⟩
abbrev S1x1x128x128 : Shape := ⟨4, ![1, 1, 128, 128]⟩

abbrev nBuf : Space → Nat
  | .hbm => 30
  | .vmem => 17
  | .smem => 0
  | _ => 0

abbrev bufTy : (tb : Table) → Fin (tcTables nBuf tb) → BufTy
  | .hbm, ⟨0, _⟩ => ⟨S8320x4096, .f32⟩
  | .hbm, ⟨1, _⟩ => ⟨S2x1024, .f32⟩
  | .hbm, ⟨2, _⟩ => ⟨S1x8x128, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S8x128, .f32⟩
  | .hbm, ⟨23, _⟩ => ⟨S_, .f32⟩
  | .hbm, ⟨24, _⟩ => ⟨S2x8x128x128, .f32⟩
  | .hbm, ⟨25, _⟩ => ⟨S8x128, .f32⟩
  | .hbm, ⟨26, _⟩ => ⟨S8x1x128, .f32⟩
  | .hbm, ⟨27, _⟩ => ⟨S8x1x128, .f32⟩
  | .hbm, ⟨28, _⟩ => ⟨S8192x1024, .bf16⟩
  | .hbm, ⟨29, _⟩ => ⟨S2x8x128x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1x128, .f32⟩
  | .local _ .vmem, ⟨9, _⟩ => ⟨S8x1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S512x1024, .bf16⟩
  | .local _ .vmem, ⟨13, _⟩ => ⟨S512x1024, .bf16⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c1_i32 : BitVec 32 := 1#32
  let v3 : BitVec 32 := Scalar.addi c1_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.addi c2_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c3_i32 : BitVec 32 := 3#32
  let v3 : BitVec 32 := Scalar.addi c3_i32 arg1
  let c0_i32_0 : BitVec 32 := 0#32
  ![v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S8x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnPromptRefIdeal.lean ====
abbrev S8320x4096 : Shape := ⟨2, ![8320, 4096]⟩
abbrev S2x1024 : Shape := ⟨2, ![2, 1024]⟩
abbrev S1x8x128 : Shape := ⟨3, ![1, 8, 128]⟩
abbrev S_ : Shape := ⟨0, ![]⟩
abbrev S1024 : Shape := ⟨1, ![1024]⟩
abbrev S1x1024 : Shape := ⟨2, ![1, 1024]⟩
abbrev S8x128 : Shape := ⟨2, ![8, 128]⟩
abbrev S8192x1024 : Shape := ⟨2, ![8192, 1024]⟩
abbrev S2x4096x8x128 : Shape := ⟨4, ![2, 4096, 8, 128]⟩
abbrev S1x1x8x128 : Shape := ⟨4, ![1, 1, 8, 128]⟩
abbrev S2x8x128x128 : Shape := ⟨4, ![2, 8, 128, 128]⟩
abbrev S32x32 : Shape := ⟨2, ![32, 32]⟩
abbrev S2x128x32x8x128 : Shape := ⟨5, ![2, 128, 32, 8, 128]⟩
abbrev S128x2x8x32x128 : Shape := ⟨5, ![128, 2, 8, 32, 128]⟩
abbrev S1x2x8x32x128 : Shape := ⟨5, ![1, 2, 8, 32, 128]⟩
abbrev S2x8x32x128 : Shape := ⟨4, ![2, 8, 32, 128]⟩
abbrev S2x8x32x32 : Shape := ⟨4, ![2, 8, 32, 32]⟩
abbrev S2x8x1x128 : Shape := ⟨4, ![2, 8, 1, 128]⟩
abbrev S2x8x128 : Shape := ⟨3, ![2, 8, 128]⟩
abbrev S2x8x128x1 : Shape := ⟨4, ![2, 8, 128, 1]⟩
abbrev S2x4096x8 : Shape := ⟨3, ![2, 4096, 8]⟩
abbrev S2x4096x8x1 : Shape := ⟨4, ![2, 4096, 8, 1]⟩

abbrev nBuf : Space → Nat
  | .hbm => 200
  | .vmem => 0
  | .smem => 0
  | _ => 0

abbrev hbmTy0_0 (i : Nat) : BufTy := match i % 128 with
  | 0 => ⟨S8320x4096, .f32⟩
  | 1 => ⟨S2x1024, .f32⟩
  | 2 => ⟨S1x8x128, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x1024, .f32⟩
  | 21 => ⟨S1024, .f32⟩
  | 22 => ⟨S8x128, .f32⟩
  | 23 => ⟨S8192x1024, .f32⟩
  | 24 => ⟨S2x4096x8x128, .f32⟩
  | 25 => ⟨S2x4096x8x128, .f32⟩
  | 26 => ⟨S2x4096x8x128, .f32⟩
  | 27 => ⟨S_, .f32⟩
  | 28 => ⟨S2x4096x8x128, .f32⟩
  | 29 => ⟨S2x4096x8x128, .f32⟩
  | 30 => ⟨S_, .f32⟩
  | 31 => ⟨S2x4096x8x128, .f32⟩
  | 32 => ⟨S2x4096x8x128, .f32⟩
  | 33 => ⟨S2x4096x8x128, .f32⟩
  | 34 => ⟨S_, .f32⟩
  | 35 => ⟨S8x128, .f32⟩
  | 36 => ⟨S8x128, .f32⟩
  | 37 => ⟨S8192x1024, .f32⟩
  | 38 => ⟨S2x4096x8x128, .f32⟩
  | 39 => ⟨S2x4096x8x128, .f32⟩
  | 40 => ⟨S2x4096x8x128, .f32⟩
  | 41 => ⟨S_, .f32⟩
  | 42 => ⟨S2x4096x8x128, .f32⟩
  | 43 => ⟨S2x4096x8x128, .f32⟩
  | 44 => ⟨S_, .f32⟩
  | 45 => ⟨S2x4096x8x128, .f32⟩
  | 46 => ⟨S2x4096x8x128, .f32⟩
  | 47 => ⟨S1x1x8x128, .f32⟩
  | 48 => ⟨S2x4096x8x128, .f32⟩
  | 49 => ⟨S2x4096x8x128, .f32⟩
  | 50 => ⟨S1x1x8x128, .f32⟩
  | 51 => ⟨S2x4096x8x128, .f32⟩
  | 52 => ⟨S2x4096x8x128, .f32⟩
  | 53 => ⟨S8192x1024, .f32⟩
  | 54 => ⟨S2x4096x8x128, .f32⟩
  | 55 => ⟨S_, .f32⟩
  | 56 => ⟨S2x8x128x128, .f32⟩
  | 57 => ⟨S_, .f32⟩
  | 58 => ⟨S2x4096x8x128, .f32⟩
  | 59 => ⟨S2x4096x8x128, .f32⟩
  | 60 => ⟨S2x4096x8x128, .f32⟩
  | 61 => ⟨S_, .i1⟩
  | 62 => ⟨S32x32, .i1⟩
  | 63 => ⟨S32x32, .i32⟩
  | 64 => ⟨S_, .i32⟩
  | 65 => ⟨S32x32, .i32⟩
  | 66 => ⟨S32x32, .i32⟩
  | 67 => ⟨S32x32, .i32⟩
  | 68 => ⟨S32x32, .i1⟩
  | 69 => ⟨S_, .i1⟩
  | 70 => ⟨S32x32, .i1⟩
  | 71 => ⟨S32x32, .i1⟩
  | 72 => ⟨S_, .i32⟩
  | 73 => ⟨S_, .f32⟩
  | 74 => ⟨S2x4096x8x128, .f32⟩
  | 75 => ⟨S2x128x32x8x128, .f32⟩
  | 76 => ⟨S128x2x8x32x128, .f32⟩
  | 77 => ⟨S_, .i32⟩
  | 78 => ⟨S_, .f32⟩
  | 79 => ⟨S2x4096x8x128, .f32⟩
  | 80 => ⟨S2x128x32x8x128, .f32⟩
  | 81 => ⟨S128x2x8x32x128, .f32⟩
  | 82 => ⟨S_, .i32⟩
  | 83 => ⟨S_, .f32⟩
  | 84 => ⟨S2x4096x8x128, .f32⟩
  | 85 => ⟨S2x128x32x8x128, .f32⟩
  | 86 => ⟨S128x2x8x32x128, .f32⟩
  | 87 => ⟨S_, .i32⟩
  | 88 => ⟨S_, .f32⟩
  | 89 => ⟨S2x4096x8x128, .f32⟩
  | 90 => ⟨S2x128x32x8x128, .f32⟩
  | 91 => ⟨S128x2x8x32x128, .f32⟩
  | 92 => ⟨S_, .f32⟩
  | 93 => ⟨S128x2x8x32x128, .f32⟩
  | 94 => ⟨S_, .i32⟩
  | 95 => ⟨S128x2x8x32x128, .f32⟩
  | 96 => ⟨S128x2x8x32x128, .f32⟩
  | 97 => ⟨S128x2x8x32x128, .f32⟩
  | 98 => ⟨S128x2x8x32x128, .f32⟩
  | 99 => ⟨S32x32, .i1⟩
  | 100 => ⟨S_, .i32⟩
  | 101 => ⟨S2x8x128x128, .f32⟩
  | 102 => ⟨S128x2x8x32x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x2x8x32x128, .f32⟩
  | 110 => ⟨S2x8x32x128, .f32⟩
  | 111 => ⟨S_, .i32⟩
  | 112 => ⟨S_, .i32⟩
  | 113 => ⟨S_, .i32⟩
  | 114 => ⟨S_, .i32⟩
  | 115 => ⟨S1x2x8x32x128, .f32⟩
  | 116 => ⟨S2x8x32x128, .f32⟩
  | 117 => ⟨S_, .i32⟩
  | 118 => ⟨S_, .i32⟩
  | 119 => ⟨S_, .i32⟩
  | 120 => ⟨S_, .i32⟩
  | 121 => ⟨S1x2x8x32x128, .f32⟩
  | 122 => ⟨S2x8x32x128, .f32⟩
  | 123 => ⟨S_, .i32⟩
  | 124 => ⟨S_, .i32⟩
  | 125 => ⟨S_, .i32⟩
  | 126 => ⟨S_, .i32⟩
  | 127 => ⟨S1x2x8x32x128, .f32⟩
  | _ => ⟨S8320x4096, .f32⟩

abbrev hbmTy0_1 (i : Nat) : BufTy := match i % 128 with
  | 0 => ⟨S2x8x32x128, .f32⟩
  | 1 => ⟨S_, .f32⟩
  | 2 => ⟨S_, .f32⟩
  | 3 => ⟨S2x8x32x128, .f32⟩
  | 4 => ⟨S2x8x32x128, .f32⟩
  | 5 => ⟨S2x8x32x128, .f32⟩
  | 6 => ⟨S2x8x32x128, .f32⟩
  | 7 => ⟨S2x8x32x128, .f32⟩
  | 8 => ⟨S2x8x32x128, .f32⟩
  | 9 => ⟨S2x8x32x32, .f32⟩
  | 10 => ⟨S_, .f32⟩
  | 11 => ⟨S_, .f32⟩
  | 12 => ⟨S2x8x32x32, .i1⟩
  | 13 => ⟨S2x8x32x32, .f32⟩
  | 14 => ⟨S2x8x32x32, .f32⟩
  | 15 => ⟨S2x8x32x128, .f32⟩
  | 16 => ⟨S2x8x32x128, .f32⟩
  | 17 => ⟨S2x8x32x128, .f32⟩
  | 18 => ⟨S2x8x1x128, .f32⟩
  | 19 => ⟨S2x8x128, .f32⟩
  | 20 => ⟨S2x8x128x1, .f32⟩
  | 21 => ⟨S2x8x128x1, .f32⟩
  | 22 => ⟨S2x8x128x128, .f32⟩
  | 23 => ⟨S2x8x128x128, .f32⟩
  | 24 => ⟨S2x8x32x128, .f32⟩
  | 25 => ⟨S2x8x32x128, .f32⟩
  | 26 => ⟨S2x8x32x128, .f32⟩
  | 27 => ⟨S2x8x32x128, .f32⟩
  | 28 => ⟨S2x8x128x128, .f32⟩
  | 29 => ⟨S2x8x128x128, .f32⟩
  | 30 => ⟨S1x2x8x32x128, .f32⟩
  | 31 => ⟨S_, .i32⟩
  | 32 => ⟨S_, .i32⟩
  | 33 => ⟨S_, .i32⟩
  | 34 => ⟨S_, .i32⟩
  | 35 => ⟨S128x2x8x32x128, .f32⟩
  | 36 => ⟨S_, .i32⟩
  | 37 => ⟨S_, .i32⟩
  | 38 => ⟨S2x128x32x8x128, .f32⟩
  | 39 => ⟨S2x4096x8x128, .f32⟩
  | 40 => ⟨S2x4096x8x128, .f32⟩
  | 41 => ⟨S_, .f32⟩
  | 42 => ⟨S2x4096x8, .f32⟩
  | 43 => ⟨S2x4096x8x1, .f32⟩
  | 44 => ⟨S_, .f32⟩
  | 45 => ⟨S2x4096x8x1, .f32⟩
  | 46 => ⟨S2x4096x8x1, .f32⟩
  | 47 => ⟨S_, .f32⟩
  | 48 => ⟨S2x4096x8x1, .f32⟩
  | 49 => ⟨S2x4096x8x1, .f32⟩
  | 50 => ⟨S2x4096x8x1, .f32⟩
  | 51 => ⟨S2x4096x8x128, .f32⟩
  | 52 => ⟨S2x4096x8x128, .f32⟩
  | 53 => ⟨S8x128, .f32⟩
  | 54 => ⟨S1x1x8x128, .f32⟩
  | 55 => ⟨S2x4096x8x128, .f32⟩
  | 56 => ⟨S2x4096x8x128, .f32⟩
  | 57 => ⟨S8192x1024, .f32⟩
  | 58 => ⟨S2x4096x8x128, .f32⟩
  | 59 => ⟨S2x4096x8x128, .f32⟩
  | 60 => ⟨S2x4096x8x128, .f32⟩
  | 61 => ⟨S_, .f32⟩
  | 62 => ⟨S2x4096x8x128, .f32⟩
  | 63 => ⟨S2x4096x8x128, .f32⟩
  | 64 => ⟨S_, .f32⟩
  | 65 => ⟨S2x4096x8x128, .f32⟩
  | 66 => ⟨S2x4096x8x128, .f32⟩
  | 67 => ⟨S2x4096x8x128, .f32⟩
  | 68 => ⟨S2x4096x8x128, .f32⟩
  | 69 => ⟨S8192x1024, .f32⟩
  | 70 => ⟨S8192x1024, .bf16⟩
  | 71 => ⟨S2x8x128x128, .f32⟩
  | _ => ⟨S8320x4096, .f32⟩

abbrev hbmTy (i : Nat) : BufTy := match i / 128 with
  | 0 => hbmTy0_0 i
  | 1 => hbmTy0_1 i
  | _ => ⟨S8320x4096, .f32⟩

abbrev bufTy : (tb : Table) → Fin (tcTables nBuf tb) → BufTy
  | .hbm, ⟨i, _⟩ => hbmTy i
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v41 : Ref sig .tc := ⟨.hbm, 71, rfl⟩
abbrev main_c_7 : Ref sig .tc := ⟨.hbm, 72, rfl⟩
abbrev main_call3_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_call4_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_9 : Ref sig .tc := ⟨.hbm, 82, rfl⟩
abbrev main_call5_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_call6_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_c_12 : Ref sig .tc := ⟨.hbm, 94, rfl⟩
abbrev main_v55_0 : Ref sig .tc := ⟨.hbm, 95, rfl⟩
abbrev main_v55_1 : Ref sig .tc := ⟨.hbm, 96, rfl⟩
abbrev main_v55_2 : Ref sig .tc := ⟨.hbm, 97, rfl⟩
abbrev main_v55_3 : Ref sig .tc := ⟨.hbm, 98, rfl⟩
abbrev main_v55_4 : Ref sig .tc := ⟨.hbm, 99, rfl⟩
abbrev main_v55_5 : Ref sig .tc := ⟨.hbm, 100, rfl⟩
abbrev main_v55_6 : Ref sig .tc := ⟨.hbm, 101, rfl⟩
abbrev main_v55_7 : Ref sig .tc := ⟨.hbm, 102, rfl⟩
abbrev main_while0c_c_23 : Ref sig .tc := ⟨.hbm, 103, rfl⟩
abbrev main_while0c_v79 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_call7_v0 : Ref sig .tc := ⟨.hbm, 109, rfl⟩
abbrev main_while0b_v79 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_c_2 : Ref sig .tc := ⟨.hbm, 114, rfl⟩
abbrev main_while0b_call8_v0 : Ref sig .tc := ⟨.hbm, 115, rfl⟩
abbrev main_while0b_v80 : Ref sig .tc := ⟨.hbm, 116, rfl⟩
abbrev main_while0b_call9_c : Ref sig .tc := ⟨.hbm, 117, rfl⟩
abbrev main_while0b_call9_c_0 : Ref sig .tc := ⟨.hbm, 118, rfl⟩
abbrev main_while0b_call9_c_1 : Ref sig .tc := ⟨.hbm, 119, rfl⟩
abbrev main_while0b_call9_c_2 : Ref sig .tc := ⟨.hbm, 120, rfl⟩
abbrev main_while0b_call9_v0 : Ref sig .tc := ⟨.hbm, 121, rfl⟩
abbrev main_while0b_v81 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_c_2 : Ref sig .tc := ⟨.hbm, 126, rfl⟩
abbrev main_while0b_call10_v0 : Ref sig .tc := ⟨.hbm, 127, rfl⟩
abbrev main_while0b_v82 : Ref sig .tc := ⟨.hbm, 128, rfl⟩
abbrev main_while0b_call11_call0_cst : Ref sig .tc := ⟨.hbm, 129, rfl⟩
abbrev main_while0b_call11_call0_v0 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_cst_23 : Ref sig .tc := ⟨.hbm, 138, rfl⟩
abbrev main_while0b_call12_v0 : Ref sig .tc := ⟨.hbm, 139, rfl⟩
abbrev main_while0b_call12_v1 : Ref sig .tc := ⟨.hbm, 140, rfl⟩
abbrev main_while0b_call12_v2 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_v96 : Ref sig .tc := ⟨.hbm, 148, rfl⟩
abbrev main_while0b_v97 : Ref sig .tc := ⟨.hbm, 149, rfl⟩
abbrev main_while0b_v98 : Ref sig .tc := ⟨.hbm, 150, rfl⟩
abbrev main_while0b_v99 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_call13_v0 : Ref sig .tc := ⟨.hbm, 158, rfl⟩
abbrev main_while0b_call13_c : Ref sig .tc := ⟨.hbm, 159, rfl⟩
abbrev main_while0b_call13_c_0 : Ref sig .tc := ⟨.hbm, 160, rfl⟩
abbrev main_while0b_call13_c_1 : Ref sig .tc := ⟨.hbm, 161, rfl⟩
abbrev main_while0b_call13_c_2 : Ref sig .tc := ⟨.hbm, 162, rfl⟩
abbrev main_while0b_v106 : Ref sig .tc := ⟨.hbm, 163, rfl⟩
abbrev main_while0b_c_24 : Ref sig .tc := ⟨.hbm, 164, rfl⟩
abbrev main_while0b_v107 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_cst_13 : Ref sig .tc := ⟨.hbm, 169, rfl⟩
abbrev main_v59 : Ref sig .tc := ⟨.hbm, 170, rfl⟩
abbrev main_v60 : Ref sig .tc := ⟨.hbm, 171, rfl⟩
abbrev main_cst_14 : Ref sig .tc := ⟨.hbm, 172, rfl⟩
abbrev main_v61 : Ref sig .tc := ⟨.hbm, 173, rfl⟩
abbrev main_v62 : Ref sig .tc := ⟨.hbm, 174, rfl⟩
abbrev main_cst_15 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_call14_v0 : Ref sig .tc := ⟨.hbm, 187, rfl⟩
abbrev main_call14_v1 : Ref sig .tc := ⟨.hbm, 188, rfl⟩
abbrev main_call14_cst : Ref sig .tc := ⟨.hbm, 189, rfl⟩
abbrev main_call14_v2 : Ref sig .tc := ⟨.hbm, 190, rfl⟩
abbrev main_call14_v3 : Ref sig .tc := ⟨.hbm, 191, rfl⟩
abbrev main_call14_cst_0 : Ref sig .tc := ⟨.hbm, 192, rfl⟩
abbrev main_call14_v4 : Ref sig .tc := ⟨.hbm, 193, rfl⟩
abbrev main_call14_v5 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩

abbrev nD : Nat := 1
abbrev τ : Topo := Topo.v7x

variable {F : FTy → Type} [FloatOps F]

abbrev main_while0_count : Scf.Loop 32 := ⟨0#32, 128#32, 1#32⟩
-- ==== MoeFfn.lean ====
abbrev S97 : Shape := ⟨1, ![97]⟩
abbrev S1 : Shape := ⟨1, ![1]⟩
abbrev S24832x2048 : Shape := ⟨2, ![24832, 2048]⟩
abbrev S1x32x2048x512 : Shape := ⟨4, ![1, 32, 2048, 512]⟩
abbrev S1x32x512x2048 : Shape := ⟨4, ![1, 32, 512, 2048]⟩
abbrev S397312x128 : Shape := ⟨2, ![397312, 128]⟩
abbrev S32x2048x512 : Shape := ⟨3, ![32, 2048, 512]⟩
abbrev S32x512x2048 : Shape := ⟨3, ![32, 512, 2048]⟩
abbrev S4096x128 : Shape := ⟨2, ![4096, 128]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x128 : Shape := ⟨2, ![256, 128]⟩
abbrev S256x2048 : Shape := ⟨2, ![256, 2048]⟩
abbrev S256x512 : Shape := ⟨2, ![256, 512]⟩

abbrev nBuf : Space → Nat
  | .hbm => 9
  | .vmem => 13
  | .smem => 2
  | _ => 0

abbrev bufTy : (tb : Table) → Fin (tcTables nBuf tb) → BufTy
  | .hbm, ⟨0, _⟩ => ⟨S24832x2048, .f32⟩
  | .hbm, ⟨1, _⟩ => ⟨S1x32x2048x512, .f32⟩
  | .hbm, ⟨2, _⟩ => ⟨S1x32x2048x512, .f32⟩
  | .hbm, ⟨3, _⟩ => ⟨S1x32x512x2048, .f32⟩
  | .hbm, ⟨4, _⟩ => ⟨S397312x128, .f32⟩
  | .hbm, ⟨5, _⟩ => ⟨S32x2048x512, .f32⟩
  | .hbm, ⟨6, _⟩ => ⟨S32x2048x512, .f32⟩
  | .hbm, ⟨7, _⟩ => ⟨S32x512x2048, .f32⟩
  | .hbm, ⟨8, _⟩ => ⟨S397312x128, .f32⟩
  | .local _ .vmem, ⟨0, _⟩ => ⟨S4096x128, .f32⟩
  | .local _ .vmem, ⟨1, _⟩ => ⟨S4096x128, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S4096x128, .f32⟩
  | .local _ .vmem, ⟨9, _⟩ => ⟨S4096x128, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S97, .i32⟩
  | .local _ .smem, ⟨1, _⟩ => ⟨S1, .i32⟩
  | _, _ => ⟨S24832x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![97], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeFfnRefIdeal.lean ====
abbrev S97 : Shape := ⟨1, ![97]⟩
abbrev S1 : Shape := ⟨1, ![1]⟩
abbrev S24832x2048 : Shape := ⟨2, ![24832, 2048]⟩
abbrev S1x32x2048x512 : Shape := ⟨4, ![1, 32, 2048, 512]⟩
abbrev S1x32x512x2048 : Shape := ⟨4, ![1, 32, 512, 2048]⟩
abbrev S97x256 : Shape := ⟨2, ![97, 256]⟩
abbrev S24832 : Shape := ⟨1, ![24832]⟩
abbrev S_ : Shape := ⟨0, ![]⟩
abbrev S24832x1 : Shape := ⟨2, ![24832, 1]⟩
abbrev S1x32 : Shape := ⟨2, ![1, 32]⟩
abbrev S24832x32 : Shape := ⟨2, ![24832, 32]⟩
abbrev S32x2048x512 : Shape := ⟨3, ![32, 2048, 512]⟩
abbrev S32x512x24832 : Shape := ⟨3, ![32, 512, 24832]⟩
abbrev S32x24832x512 : Shape := ⟨3, ![32, 24832, 512]⟩
abbrev S32x24832 : Shape := ⟨2, ![32, 24832]⟩
abbrev S32x24832x1 : Shape := ⟨3, ![32, 24832, 1]⟩
abbrev S32x512x2048 : Shape := ⟨3, ![32, 512, 2048]⟩
abbrev S397312x128 : Shape := ⟨2, ![397312, 128]⟩

abbrev nBuf : Space → Nat
  | .hbm => 47
  | .vmem => 0
  | .smem => 0
  | _ => 0

abbrev bufTy : (tb : Table) → Fin (tcTables nBuf tb) → BufTy
  | .hbm, ⟨0, _⟩ => ⟨S97, .i32⟩
  | .hbm, ⟨1, _⟩ => ⟨S1, .i32⟩
  | .hbm, ⟨2, _⟩ => ⟨S24832x2048, .f32⟩
  | .hbm, ⟨3, _⟩ => ⟨S1x32x2048x512, .f32⟩
  | .hbm, ⟨4, _⟩ => ⟨S1x32x2048x512, .f32⟩
  | .hbm, ⟨5, _⟩ => ⟨S1x32x512x2048, .f32⟩
  | .hbm, ⟨6, _⟩ => ⟨S97x256, .i32⟩
  | .hbm, ⟨7, _⟩ => ⟨S24832, .i32⟩
  | .hbm, ⟨8, _⟩ => ⟨S97, .i32⟩
  | .hbm, ⟨9, _⟩ => ⟨S_, .i32⟩
  | .hbm, ⟨10, _⟩ => ⟨S97, .i32⟩
  | .hbm, ⟨11, _⟩ => ⟨S97, .i1⟩
  | .hbm, ⟨12, _⟩ => ⟨S97x256, .i1⟩
  | .hbm, ⟨13, _⟩ => ⟨S24832, .i1⟩
  | .hbm, ⟨14, _⟩ => ⟨S24832x1, .i32⟩
  | .hbm, ⟨15, _⟩ => ⟨S1x32, .i32⟩
  | .hbm, ⟨16, _⟩ => ⟨S24832x32, .i32⟩
  | .hbm, ⟨17, _⟩ => ⟨S24832x32, .i32⟩
  | .hbm, ⟨18, _⟩ => ⟨S24832x32, .i1⟩
  | .hbm, ⟨19, _⟩ => ⟨S24832x32, .f32⟩
  | .hbm, ⟨20, _⟩ => ⟨S24832x1, .i1⟩
  | .hbm, ⟨21, _⟩ => ⟨S24832x1, .f32⟩
  | .hbm, ⟨22, _⟩ => ⟨S24832x32, .f32⟩
  | .hbm, ⟨23, _⟩ => ⟨S24832x32, .f32⟩
  | .hbm, ⟨24, _⟩ => ⟨S32x2048x512, .f32⟩
  | .hbm, ⟨25, _⟩ => ⟨S32x512x24832, .f32⟩
  | .hbm, ⟨26, _⟩ => ⟨S32x24832x512, .f32⟩
  | .hbm, ⟨27, _⟩ => ⟨S32x24832x512, .f32⟩
  | .hbm, ⟨28, _⟩ => ⟨S32x24832x512, .f32⟩
  | .hbm, ⟨29, _⟩ => ⟨S_, .f32⟩
  | .hbm, ⟨30, _⟩ => ⟨S32x24832x512, .f32⟩
  | .hbm, ⟨31, _⟩ => ⟨S32x24832x512, .f32⟩
  | .hbm, ⟨32, _⟩ => ⟨S_, .f32⟩
  | .hbm, ⟨33, _⟩ => ⟨S32x24832x512, .f32⟩
  | .hbm, ⟨34, _⟩ => ⟨S32x24832x512, .f32⟩
  | .hbm, ⟨35, _⟩ => ⟨S32x24832x512, .f32⟩
  | .hbm, ⟨36, _⟩ => ⟨S32x2048x512, .f32⟩
  | .hbm, ⟨37, _⟩ => ⟨S32x512x24832, .f32⟩
  | .hbm, ⟨38, _⟩ => ⟨S32x24832x512, .f32⟩
  | .hbm, ⟨39, _⟩ => ⟨S32x24832x512, .f32⟩
  | .hbm, ⟨40, _⟩ => ⟨S32x24832, .f32⟩
  | .hbm, ⟨41, _⟩ => ⟨S32x24832x1, .f32⟩
  | .hbm, ⟨42, _⟩ => ⟨S32x24832x512, .f32⟩
  | .hbm, ⟨43, _⟩ => ⟨S32x24832x512, .f32⟩
  | .hbm, ⟨44, _⟩ => ⟨S32x512x2048, .f32⟩
  | .hbm, ⟨45, _⟩ => ⟨S24832x2048, .f32⟩
  | .hbm, ⟨46, _⟩ => ⟨S397312x128, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== ProjKv.lean ====
abbrev S2x4096x2048 : Shape := ⟨3, ![2, 4096, 2048]⟩
abbrev S32x4x2048 : Shape := ⟨3, ![32, 4, 2048]⟩
abbrev S1x32x512x2x4x64 : Shape := ⟨6, ![1, 32, 512, 2, 4, 64]⟩
abbrev S1x2048x10800 : Shape := ⟨3, ![1, 2048, 10800]⟩
abbrev S1x10800 : Shape := ⟨2, ![1, 10800]⟩
abbrev S8192x2048 : Shape := ⟨2, ![8192, 2048]⟩
abbrev S128x2048 : Shape := ⟨2, ![128, 2048]⟩
abbrev S8320x2048 : Shape := ⟨2, ![8320, 2048]⟩
abbrev S2048x10800 : Shape := ⟨2, ![2048, 10800]⟩
abbrev S10800 : Shape := ⟨1, ![10800]⟩
abbrev S2048x1536 : Shape := ⟨2, ![2048, 1536]⟩
abbrev S1536 : Shape := ⟨1, ![1536]⟩
abbrev S1x1536 : Shape := ⟨2, ![1, 1536]⟩
abbrev S8320x1536 : Shape := ⟨2, ![8320, 1536]⟩
abbrev S24x8320x64 : Shape := ⟨3, ![24, 8320, 64]⟩
abbrev S1664x2048 : Shape := ⟨2, ![1664, 2048]⟩
abbrev S2048x512 : Shape := ⟨2, ![2048, 512]⟩
abbrev S1x512 : Shape := ⟨2, ![1, 512]⟩
abbrev S1664x512 : Shape := ⟨2, ![1664, 512]⟩
abbrev S8x1664x64 : Shape := ⟨3, ![8, 1664, 64]⟩
abbrev S1664x64 : Shape := ⟨2, ![1664, 64]⟩
abbrev S1x1664x64 : Shape := ⟨3, ![1, 1664, 64]⟩
abbrev S8192x1536 : Shape := ⟨2, ![8192, 1536]⟩
abbrev S1x2x4096x6x4x64 : Shape := ⟨6, ![1, 2, 4096, 6, 4, 64]⟩
abbrev S128x1536 : Shape := ⟨2, ![128, 1536]⟩
abbrev S1x32x4x6x4x64 : Shape := ⟨6, ![1, 32, 4, 6, 4, 64]⟩
abbrev S1x2x4096x4x4x64 : Shape := ⟨6, ![1, 2, 4096, 4, 4, 64]⟩
abbrev S1x32x4x4x4x64 : Shape := ⟨6, ![1, 32, 4, 4, 4, 64]⟩
abbrev S1x2x512x2x4x64 : Shape := ⟨6, ![1, 2, 512, 2, 4, 64]⟩
abbrev S1x32x4x2x4x64 : Shape := ⟨6, ![1, 32, 4, 2, 4, 64]⟩
abbrev S1x32x516x2x4x64 : Shape := ⟨6, ![1, 32, 516, 2, 4, 64]⟩

abbrev nBuf : Space → Nat
  | .hbm => 27
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x32x512x2x4x64, .f32⟩
  | .hbm, ⟨3, _⟩ => ⟨S1x2048x10800, .f32⟩
  | .hbm, ⟨4, _⟩ => ⟨S1x10800, .f32⟩
  | .hbm, ⟨5, _⟩ => ⟨S8192x2048, .f32⟩
  | .hbm, ⟨6, _⟩ => ⟨S128x2048, .f32⟩
  | .hbm, ⟨7, _⟩ => ⟨S8320x2048, .f32⟩
  | .hbm, ⟨8, _⟩ => ⟨S8320x2048, .bf16⟩
  | .hbm, ⟨9, _⟩ => ⟨S2048x10800, .f32⟩
  | .hbm, ⟨10, _⟩ => ⟨S10800, .f32⟩
  | .hbm, ⟨11, _⟩ => ⟨S2048x1536, .f32⟩
  | .hbm, ⟨12, _⟩ => ⟨S1536, .f32⟩
  | .hbm, ⟨13, _⟩ => ⟨S2048x1536, .bf16⟩
  | .hbm, ⟨14, _⟩ => ⟨S1x1536, .f32⟩
  | .hbm, ⟨15, _⟩ => ⟨S8320x1536, .f32⟩
  | .hbm, ⟨16, _⟩ => ⟨S24x8320x64, .bf16⟩
  | .hbm, ⟨17, _⟩ => ⟨S8192x1536, .f32⟩
  | .hbm, ⟨18, _⟩ => ⟨S1x2x4096x6x4x64, .f32⟩
  | .hbm, ⟨19, _⟩ => ⟨S128x1536, .f32⟩
  | .hbm, ⟨20, _⟩ => ⟨S1x32x4x6x4x64, .f32⟩
  | .hbm, ⟨21, _⟩ => ⟨S1x2x4096x4x4x64, .f32⟩
  | .hbm, ⟨22, _⟩ => ⟨S1x32x4x4x4x64, .f32⟩
  | .hbm, ⟨23, _⟩ => ⟨S1x2x512x2x4x64, .f32⟩
  | .hbm, ⟨24, _⟩ => ⟨S1x32x4x2x4x64, .f32⟩
  | .hbm, ⟨25, _⟩ => ⟨S1x32x516x2x4x64, .f32⟩
  | .hbm, ⟨26, _⟩ => ⟨S1x32x512x2x4x64, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1664x512, .f32⟩
  | .local _ .vmem, ⟨7, _⟩ => ⟨S1664x512, .f32⟩
  | .local _ .vmem, ⟨8, _⟩ => ⟨S8x1664x64, .bf16⟩
  | .local _ .vmem, ⟨9, _⟩ => ⟨S8x1664x64, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1664x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjKvRefIdeal.lean ====
abbrev S2x4096x2048 : Shape := ⟨3, ![2, 4096, 2048]⟩
abbrev S32x4x2048 : Shape := ⟨3, ![32, 4, 2048]⟩
abbrev S1x32x512x2x4x64 : Shape := ⟨6, ![1, 32, 512, 2, 4, 64]⟩
abbrev S1x2048x10800 : Shape := ⟨3, ![1, 2048, 10800]⟩
abbrev S1x10800 : Shape := ⟨2, ![1, 10800]⟩
abbrev S2048x10800 : Shape := ⟨2, ![2048, 10800]⟩
abbrev S10800 : Shape := ⟨1, ![10800]⟩
abbrev S2x4096x10800 : Shape := ⟨3, ![2, 4096, 10800]⟩
abbrev S1x1x10800 : Shape := ⟨3, ![1, 1, 10800]⟩
abbrev S2x4096x1536 : Shape := ⟨3, ![2, 4096, 1536]⟩
abbrev S2x4096x6x4x64 : Shape := ⟨5, ![2, 4096, 6, 4, 64]⟩
abbrev S32x4x10800 : Shape := ⟨3, ![32, 4, 10800]⟩
abbrev S32x4x1536 : Shape := ⟨3, ![32, 4, 1536]⟩
abbrev S32x4x6x4x64 : Shape := ⟨5, ![32, 4, 6, 4, 64]⟩
abbrev S32x512x2x4x64 : Shape := ⟨5, ![32, 512, 2, 4, 64]⟩
abbrev S32x4x2x4x64 : Shape := ⟨5, ![32, 4, 2, 4, 64]⟩
abbrev S32x516x2x4x64 : Shape := ⟨5, ![32, 516, 2, 4, 64]⟩
abbrev S8192x24x64 : Shape := ⟨3, ![8192, 24, 64]⟩
abbrev S128x24x64 : Shape := ⟨3, ![128, 24, 64]⟩
abbrev S8320x24x64 : Shape := ⟨3, ![8320, 24, 64]⟩
abbrev S2x4096x4x4x64 : Shape := ⟨5, ![2, 4096, 4, 4, 64]⟩
abbrev S1x2x4096x4x4x64 : Shape := ⟨6, ![1, 2, 4096, 4, 4, 64]⟩
abbrev S32x4x4x4x64 : Shape := ⟨5, ![32, 4, 4, 4, 64]⟩
abbrev S1x32x4x4x4x64 : Shape := ⟨6, ![1, 32, 4, 4, 4, 64]⟩
abbrev S2x512x2x4x64 : Shape := ⟨5, ![2, 512, 2, 4, 64]⟩
abbrev S1x2x512x2x4x64 : Shape := ⟨6, ![1, 2, 512, 2, 4, 64]⟩
abbrev S24x8320x64 : Shape := ⟨3, ![24, 8320, 64]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x32x512x2x4x64, .f32⟩
  | .hbm, ⟨3, _⟩ => ⟨S1x2048x10800, .f32⟩
  | .hbm, ⟨4, _⟩ => ⟨S1x10800, .f32⟩
  | .hbm, ⟨5, _⟩ => ⟨S2048x10800, .f32⟩
  | .hbm, ⟨6, _⟩ => ⟨S10800, .f32⟩
  | .hbm, ⟨7, _⟩ => ⟨S2x4096x10800, .f32⟩
  | .hbm, ⟨8, _⟩ => ⟨S1x1x10800, .f32⟩
  | .hbm, ⟨9, _⟩ => ⟨S2x4096x10800, .f32⟩
  | .hbm, ⟨10, _⟩ => ⟨S2x4096x10800, .f32⟩
  | .hbm, ⟨11, _⟩ => ⟨S2x4096x1536, .f32⟩
  | .hbm, ⟨12, _⟩ => ⟨S2x4096x6x4x64, .f32⟩
  | .hbm, ⟨13, _⟩ => ⟨S2048x10800, .f32⟩
  | .hbm, ⟨14, _⟩ => ⟨S10800, .f32⟩
  | .hbm, ⟨15, _⟩ => ⟨S32x4x10800, .f32⟩
  | .hbm, ⟨16, _⟩ => ⟨S1x1x10800, .f32⟩
  | .hbm, ⟨17, _⟩ => ⟨S32x4x10800, .f32⟩
  | .hbm, ⟨18, _⟩ => ⟨S32x4x10800, .f32⟩
  | .hbm, ⟨19, _⟩ => ⟨S32x4x1536, .f32⟩
  | .hbm, ⟨20, _⟩ => ⟨S32x4x6x4x64, .f32⟩
  | .hbm, ⟨21, _⟩ => ⟨S32x512x2x4x64, .f32⟩
  | .hbm, ⟨22, _⟩ => ⟨S32x4x2x4x64, .f32⟩
  | .hbm, ⟨23, _⟩ => ⟨S32x516x2x4x64, .f32⟩
  | .hbm, ⟨24, _⟩ => ⟨S8192x24x64, .f32⟩
  | .hbm, ⟨25, _⟩ => ⟨S128x24x64, .f32⟩
  | .hbm, ⟨26, _⟩ => ⟨S8320x24x64, .f32⟩
  | .hbm, ⟨27, _⟩ => ⟨S2x4096x4x4x64, .f32⟩
  | .hbm, ⟨28, _⟩ => ⟨S1x2x4096x4x4x64, .f32⟩
  | .hbm, ⟨29, _⟩ => ⟨S32x4x4x4x64, .f32⟩
  | .hbm, ⟨30, _⟩ => ⟨S1x32x4x4x4x64, .f32⟩
  | .hbm, ⟨31, _⟩ => ⟨S2x512x2x4x64, .f32⟩
  | .hbm, ⟨32, _⟩ => ⟨S1x2x512x2x4x64, .f32⟩
  | .hbm, ⟨33, _⟩ => ⟨S32x512x2x4x64, .f32⟩
  | .hbm, ⟨34, _⟩ => ⟨S1x32x512x2x4x64, .f32⟩
  | .hbm, ⟨35, _⟩ => ⟨S24x8320x64, .f32⟩
  | .hbm, ⟨36, _⟩ => ⟨S24x8320x64, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== ProjH4.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S8192x2048 : Shape := ⟨2, ![8192, 2048]⟩
abbrev S128x2048 : Shape := ⟨2, ![128, 2048]⟩
abbrev S8320x2048 : Shape := ⟨2, ![8320, 2048]⟩
abbrev S2048x10800 : Shape := ⟨2, ![2048, 10800]⟩
abbrev S10800 : Shape := ⟨1, ![10800]⟩
abbrev S2048x4096 : Shape := ⟨2, ![2048, 4096]⟩
abbrev S4096 : Shape := ⟨1, ![4096]⟩
abbrev S1x4096 : Shape := ⟨2, ![1, 4096]⟩
abbrev S8320x4096 : Shape := ⟨2, ![8320, 4096]⟩
abbrev S1664x2048 : Shape := ⟨2, ![1664, 2048]⟩
abbrev S2048x512 : Shape := ⟨2, ![2048, 512]⟩
abbrev S1x512 : Shape := ⟨2, ![1, 512]⟩
abbrev S1664x512 : Shape := ⟨2, ![1664, 512]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S8320x2048, .bf16⟩
  | .hbm, ⟨8, _⟩ => ⟨S2048x10800, .f32⟩
  | .hbm, ⟨9, _⟩ => ⟨S10800, .f32⟩
  | .hbm, ⟨10, _⟩ => ⟨S2048x4096, .f32⟩
  | .hbm, ⟨11, _⟩ => ⟨S4096, .f32⟩
  | .hbm, ⟨12, _⟩ => ⟨S2048x4096, .bf16⟩
  | .hbm, ⟨13, _⟩ => ⟨S1x4096, .f32⟩
  | .hbm, ⟨14, _⟩ => ⟨S8320x4096, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1664x512, .f32⟩
  | .local _ .vmem, ⟨7, _⟩ => ⟨S1664x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjH4RefIdeal.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S2048x10800 : Shape := ⟨2, ![2048, 10800]⟩
abbrev S2x4096x10800 : Shape := ⟨3, ![2, 4096, 10800]⟩
abbrev S10800 : Shape := ⟨1, ![10800]⟩
abbrev S1x1x10800 : Shape := ⟨3, ![1, 1, 10800]⟩
abbrev S32x4x10800 : Shape := ⟨3, ![32, 4, 10800]⟩
abbrev S2x4096x4096 : Shape := ⟨3, ![2, 4096, 4096]⟩
abbrev S8192x4096 : Shape := ⟨2, ![8192, 4096]⟩
abbrev S32x4x4096 : Shape := ⟨3, ![32, 4, 4096]⟩
abbrev S128x4096 : Shape := ⟨2, ![128, 4096]⟩
abbrev S8320x4096 : Shape := ⟨2, ![8320, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S2048x10800, .f32⟩
  | .hbm, ⟨5, _⟩ => ⟨S2x4096x10800, .f32⟩
  | .hbm, ⟨6, _⟩ => ⟨S10800, .f32⟩
  | .hbm, ⟨7, _⟩ => ⟨S1x1x10800, .f32⟩
  | .hbm, ⟨8, _⟩ => ⟨S2x4096x10800, .f32⟩
  | .hbm, ⟨9, _⟩ => ⟨S2x4096x10800, .f32⟩
  | .hbm, ⟨10, _⟩ => ⟨S2048x10800, .f32⟩
  | .hbm, ⟨11, _⟩ => ⟨S32x4x10800, .f32⟩
  | .hbm, ⟨12, _⟩ => ⟨S10800, .f32⟩
  | .hbm, ⟨13, _⟩ => ⟨S1x1x10800, .f32⟩
  | .hbm, ⟨14, _⟩ => ⟨S32x4x10800, .f32⟩
  | .hbm, ⟨15, _⟩ => ⟨S32x4x10800, .f32⟩
  | .hbm, ⟨16, _⟩ => ⟨S2x4096x4096, .f32⟩
  | .hbm, ⟨17, _⟩ => ⟨S8192x4096, .f32⟩
  | .hbm, ⟨18, _⟩ => ⟨S32x4x4096, .f32⟩
  | .hbm, ⟨19, _⟩ => ⟨S128x4096, .f32⟩
  | .hbm, ⟨20, _⟩ => ⟨S8320x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== ProjMg.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S8192x2048 : Shape := ⟨2, ![8192, 2048]⟩
abbrev S128x2048 : Shape := ⟨2, ![128, 2048]⟩
abbrev S8320x2048 : Shape := ⟨2, ![8320, 2048]⟩
abbrev S2048x10800 : Shape := ⟨2, ![2048, 10800]⟩
abbrev S10800 : Shape := ⟨1, ![10800]⟩
abbrev S2048x4096 : Shape := ⟨2, ![2048, 4096]⟩
abbrev S4096 : Shape := ⟨1, ![4096]⟩
abbrev S1x4096 : Shape := ⟨2, ![1, 4096]⟩
abbrev S8320x4096 : Shape := ⟨2, ![8320, 4096]⟩
abbrev S1664x2048 : Shape := ⟨2, ![1664, 2048]⟩
abbrev S2048x512 : Shape := ⟨2, ![2048, 512]⟩
abbrev S1x512 : Shape := ⟨2, ![1, 512]⟩
abbrev S1664x512 : Shape := ⟨2, ![1664, 512]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S8320x2048, .bf16⟩
  | .hbm, ⟨8, _⟩ => ⟨S2048x10800, .f32⟩
  | .hbm, ⟨9, _⟩ => ⟨S10800, .f32⟩
  | .hbm, ⟨10, _⟩ => ⟨S2048x4096, .f32⟩
  | .hbm, ⟨11, _⟩ => ⟨S4096, .f32⟩
  | .hbm, ⟨12, _⟩ => ⟨S2048x4096, .bf16⟩
  | .hbm, ⟨13, _⟩ => ⟨S1x4096, .f32⟩
  | .hbm, ⟨14, _⟩ => ⟨S8320x4096, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1664x512, .f32⟩
  | .local _ .vmem, ⟨7, _⟩ => ⟨S1664x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjMgRefIdeal.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S2048x10800 : Shape := ⟨2, ![2048, 10800]⟩
abbrev S2x4096x10800 : Shape := ⟨3, ![2, 4096, 10800]⟩
abbrev S10800 : Shape := ⟨1, ![10800]⟩
abbrev S1x1x10800 : Shape := ⟨3, ![1, 1, 10800]⟩
abbrev S32x4x10800 : Shape := ⟨3, ![32, 4, 10800]⟩
abbrev S2x4096x4096 : Shape := ⟨3, ![2, 4096, 4096]⟩
abbrev S8192x4096 : Shape := ⟨2, ![8192, 4096]⟩
abbrev S32x4x4096 : Shape := ⟨3, ![32, 4, 4096]⟩
abbrev S128x4096 : Shape := ⟨2, ![128, 4096]⟩
abbrev S8320x4096 : Shape := ⟨2, ![8320, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S2048x10800, .f32⟩
  | .hbm, ⟨5, _⟩ => ⟨S2x4096x10800, .f32⟩
  | .hbm, ⟨6, _⟩ => ⟨S10800, .f32⟩
  | .hbm, ⟨7, _⟩ => ⟨S1x1x10800, .f32⟩
  | .hbm, ⟨8, _⟩ => ⟨S2x4096x10800, .f32⟩
  | .hbm, ⟨9, _⟩ => ⟨S2x4096x10800, .f32⟩
  | .hbm, ⟨10, _⟩ => ⟨S2048x10800, .f32⟩
  | .hbm, ⟨11, _⟩ => ⟨S32x4x10800, .f32⟩
  | .hbm, ⟨12, _⟩ => ⟨S10800, .f32⟩
  | .hbm, ⟨13, _⟩ => ⟨S1x1x10800, .f32⟩
  | .hbm, ⟨14, _⟩ => ⟨S32x4x10800, .f32⟩
  | .hbm, ⟨15, _⟩ => ⟨S32x4x10800, .f32⟩
  | .hbm, ⟨16, _⟩ => ⟨S2x4096x4096, .f32⟩
  | .hbm, ⟨17, _⟩ => ⟨S8192x4096, .f32⟩
  | .hbm, ⟨18, _⟩ => ⟨S32x4x4096, .f32⟩
  | .hbm, ⟨19, _⟩ => ⟨S128x4096, .f32⟩
  | .hbm, ⟨20, _⟩ => ⟨S8320x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== ProjQ.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S8192x2048 : Shape := ⟨2, ![8192, 2048]⟩
abbrev S128x2048 : Shape := ⟨2, ![128, 2048]⟩
abbrev S8320x2048 : Shape := ⟨2, ![8320, 2048]⟩
abbrev S2048x10800 : Shape := ⟨2, ![2048, 10800]⟩
abbrev S10800 : Shape := ⟨1, ![10800]⟩
abbrev S2048x1024 : Shape := ⟨2, ![2048, 1024]⟩
abbrev S1024 : Shape := ⟨1, ![1024]⟩
abbrev S1x1024 : Shape := ⟨2, ![1, 1024]⟩
abbrev S16x8320x64 : Shape := ⟨3, ![16, 8320, 64]⟩
abbrev S1664x2048 : Shape := ⟨2, ![1664, 2048]⟩
abbrev S2048x512 : Shape := ⟨2, ![2048, 512]⟩
abbrev S1x512 : Shape := ⟨2, ![1, 512]⟩
abbrev S8x1664x64 : Shape := ⟨3, ![8, 1664, 64]⟩
abbrev S1664x512 : Shape := ⟨2, ![1664, 512]⟩
abbrev S1664x64 : Shape := ⟨2, ![1664, 64]⟩
abbrev S1x1664x64 : Shape := ⟨3, ![1, 1664, 64]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S8320x2048, .bf16⟩
  | .hbm, ⟨8, _⟩ => ⟨S2048x10800, .f32⟩
  | .hbm, ⟨9, _⟩ => ⟨S10800, .f32⟩
  | .hbm, ⟨10, _⟩ => ⟨S2048x1024, .f32⟩
  | .hbm, ⟨11, _⟩ => ⟨S1024, .f32⟩
  | .hbm, ⟨12, _⟩ => ⟨S2048x1024, .bf16⟩
  | .hbm, ⟨13, _⟩ => ⟨S1x1024, .f32⟩
  | .hbm, ⟨14, _⟩ => ⟨S16x8320x64, .bf16⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S8x1664x64, .bf16⟩
  | .local _ .vmem, ⟨7, _⟩ => ⟨S8x1664x64, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1664x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQRefIdeal.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S2048x10800 : Shape := ⟨2, ![2048, 10800]⟩
abbrev S2x4096x10800 : Shape := ⟨3, ![2, 4096, 10800]⟩
abbrev S10800 : Shape := ⟨1, ![10800]⟩
abbrev S1x1x10800 : Shape := ⟨3, ![1, 1, 10800]⟩
abbrev S32x4x10800 : Shape := ⟨3, ![32, 4, 10800]⟩
abbrev S2x4096x1024 : Shape := ⟨3, ![2, 4096, 1024]⟩
abbrev S8192x1024 : Shape := ⟨2, ![8192, 1024]⟩
abbrev S32x4x1024 : Shape := ⟨3, ![32, 4, 1024]⟩
abbrev S128x1024 : Shape := ⟨2, ![128, 1024]⟩
abbrev S8320x1024 : Shape := ⟨2, ![8320, 1024]⟩
abbrev S8320x16x64 : Shape := ⟨3, ![8320, 16, 64]⟩
abbrev S16x8320x64 : Shape := ⟨3, ![16, 8320, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S2048x10800, .f32⟩
  | .hbm, ⟨5, _⟩ => ⟨S2x4096x10800, .f32⟩
  | .hbm, ⟨6, _⟩ => ⟨S10800, .f32⟩
  | .hbm, ⟨7, _⟩ => ⟨S1x1x10800, .f32⟩
  | .hbm, ⟨8, _⟩ => ⟨S2x4096x10800, .f32⟩
  | .hbm, ⟨9, _⟩ => ⟨S2x4096x10800, .f32⟩
  | .hbm, ⟨10, _⟩ => ⟨S2048x10800, .f32⟩
  | .hbm, ⟨11, _⟩ => ⟨S32x4x10800, .f32⟩
  | .hbm, ⟨12, _⟩ => ⟨S10800, .f32⟩
  | .hbm, ⟨13, _⟩ => ⟨S1x1x10800, .f32⟩
  | .hbm, ⟨14, _⟩ => ⟨S32x4x10800, .f32⟩
  | .hbm, ⟨15, _⟩ => ⟨S32x4x10800, .f32⟩
  | .hbm, ⟨16, _⟩ => ⟨S2x4096x1024, .f32⟩
  | .hbm, ⟨17, _⟩ => ⟨S8192x1024, .f32⟩
  | .hbm, ⟨18, _⟩ => ⟨S32x4x1024, .f32⟩
  | .hbm, ⟨19, _⟩ => ⟨S128x1024, .f32⟩
  | .hbm, ⟨20, _⟩ => ⟨S8320x1024, .f32⟩
  | .hbm, ⟨21, _⟩ => ⟨S8320x16x64, .f32⟩
  | .hbm, ⟨22, _⟩ => ⟨S16x8320x64, .f32⟩
  | .hbm, ⟨23, _⟩ => ⟨S16x8320x64, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== TailMix.lean ====
abbrev S8320x1024 : Shape := ⟨2, ![8320, 1024]⟩
abbrev S8320x4096 : Shape := ⟨2, ![8320, 4096]⟩
abbrev S1x1024x2048 : Shape := ⟨3, ![1, 1024, 2048]⟩
abbrev S1024x2048 : Shape := ⟨2, ![1024, 2048]⟩
abbrev S8320x2048 : Shape := ⟨2, ![8320, 2048]⟩
abbrev S320x1024 : Shape := ⟨2, ![320, 1024]⟩
abbrev S320x2048 : Shape := ⟨2, ![320, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x4096, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S8320x2048, .bf16⟩
  | .local _ .vmem, ⟨0, _⟩ => ⟨S320x1024, .bf16⟩
  | .local _ .vmem, ⟨1, _⟩ => ⟨S320x1024, .bf16⟩
  | .local _ .vmem, ⟨2, _⟩ => ⟨S320x1024, .bf16⟩
  | .local _ .vmem, ⟨3, _⟩ => ⟨S320x1024, .bf16⟩
  | .local _ .vmem, ⟨4, _⟩ => ⟨S320x2048, .f32⟩
  | .local _ .vmem, ⟨5, _⟩ => ⟨S320x2048, .f32⟩
  | .local _ .vmem, ⟨6, _⟩ => ⟨S320x2048, .f32⟩
  | .local _ .vmem, ⟨7, _⟩ => ⟨S320x2048, .f32⟩
  | .local _ .vmem, ⟨8, _⟩ => ⟨S1024x2048, .bf16⟩
  | .local _ .vmem, ⟨9, _⟩ => ⟨S1024x2048, .bf16⟩
  | .local _ .vmem, ⟨10, _⟩ => ⟨S320x2048, .bf16⟩
  | .local _ .vmem, ⟨11, _⟩ => ⟨S320x2048, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== TailMixRefIdeal.lean ====
abbrev S8320x1024 : Shape := ⟨2, ![8320, 1024]⟩
abbrev S8320x4096 : Shape := ⟨2, ![8320, 4096]⟩
abbrev S1x1024x2048 : Shape := ⟨3, ![1, 1024, 2048]⟩
abbrev S8320x2x2048 : Shape := ⟨3, ![8320, 2, 2048]⟩
abbrev S1024x2048 : Shape := ⟨2, ![1024, 2048]⟩
abbrev S8320x2048 : Shape := ⟨2, ![8320, 2048]⟩
abbrev S8320x1x2048 : Shape := ⟨3, ![8320, 1, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x4096, .f32⟩
  | .hbm, ⟨3, _⟩ => ⟨S1x1024x2048, .f32⟩
  | .hbm, ⟨4, _⟩ => ⟨S1x1024x2048, .f32⟩
  | .hbm, ⟨5, _⟩ => ⟨S8320x2x2048, .f32⟩
  | .hbm, ⟨6, _⟩ => ⟨S8320x1024, .f32⟩
  | .hbm, ⟨7, _⟩ => ⟨S1024x2048, .f32⟩
  | .hbm, ⟨8, _⟩ => ⟨S8320x2048, .f32⟩
  | .hbm, ⟨9, _⟩ => ⟨S8320x1024, .f32⟩
  | .hbm, ⟨10, _⟩ => ⟨S1024x2048, .f32⟩
  | .hbm, ⟨11, _⟩ => ⟨S8320x2048, .f32⟩
  | .hbm, ⟨12, _⟩ => ⟨S8320x1x2048, .f32⟩
  | .hbm, ⟨13, _⟩ => ⟨S8320x2048, .f32⟩
  | .hbm, ⟨14, _⟩ => ⟨S8320x2048, .f32⟩
  | .hbm, ⟨15, _⟩ => ⟨S8320x2048, .f32⟩
  | .hbm, ⟨16, _⟩ => ⟨S_, .f32⟩
  | .hbm, ⟨17, _⟩ => ⟨S8320x2048, .f32⟩
  | .hbm, ⟨18, _⟩ => ⟨S8320x2048, .f32⟩
  | .hbm, ⟨19, _⟩ => ⟨S_, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S8320x1x2048, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S_, .f32⟩
  | .hbm, ⟨28, _⟩ => ⟨S8320x2048, .f32⟩
  | .hbm, ⟨29, _⟩ => ⟨S8320x2048, .f32⟩
  | .hbm, ⟨30, _⟩ => ⟨S_, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S8320x2048, .f32⟩
  | .hbm, ⟨35, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== ProjNg.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S8192x2048 : Shape := ⟨2, ![8192, 2048]⟩
abbrev S128x2048 : Shape := ⟨2, ![128, 2048]⟩
abbrev S8320x2048 : Shape := ⟨2, ![8320, 2048]⟩
abbrev S2048x10800 : Shape := ⟨2, ![2048, 10800]⟩
abbrev S10800 : Shape := ⟨1, ![10800]⟩
abbrev S2048x48 : Shape := ⟨2, ![2048, 48]⟩
abbrev S48 : Shape := ⟨1, ![48]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S8320x128 : Shape := ⟨2, ![8320, 128]⟩
abbrev S1664x2048 : Shape := ⟨2, ![1664, 2048]⟩
abbrev S1664x128 : Shape := ⟨2, ![1664, 128]⟩
abbrev S8192x48 : Shape := ⟨2, ![8192, 48]⟩
abbrev S128x48 : Shape := ⟨2, ![128, 48]⟩

abbrev nBuf : Space → Nat
  | .hbm => 23
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S8320x2048, .bf16⟩
  | .hbm, ⟨8, _⟩ => ⟨S2048x10800, .f32⟩
  | .hbm, ⟨9, _⟩ => ⟨S10800, .f32⟩
  | .hbm, ⟨10, _⟩ => ⟨S2048x48, .f32⟩
  | .hbm, ⟨11, _⟩ => ⟨S48, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S2048x128, .bf16⟩
  | .hbm, ⟨19, _⟩ => ⟨S1x128, .f32⟩
  | .hbm, ⟨20, _⟩ => ⟨S8320x128, .f32⟩
  | .hbm, ⟨21, _⟩ => ⟨S8192x48, .f32⟩
  | .hbm, ⟨22, _⟩ => ⟨S128x48, .f32⟩
  | .local _ .vmem, ⟨0, _⟩ => ⟨S1664x2048, .bf16⟩
  | .local _ .vmem, ⟨1, _⟩ => ⟨S1664x2048, .bf16⟩
  | .local _ .vmem, ⟨2, _⟩ => ⟨S2048x128, .bf16⟩
  | .local _ .vmem, ⟨3, _⟩ => ⟨S1x128, .f32⟩
  | .local _ .vmem, ⟨4, _⟩ => ⟨S1664x128, .f32⟩
  | .local _ .vmem, ⟨5, _⟩ => ⟨S1664x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1664x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjNgRefIdeal.lean ====
abbrev S2x4096x2048 : Shape := ⟨3, ![2, 4096, 2048]⟩
abbrev S32x4x2048 : Shape := ⟨3, ![32, 4, 2048]⟩
abbrev S1x2048x10800 : Shape := ⟨3, ![1, 2048, 10800]⟩
abbrev S1x10800 : Shape := ⟨2, ![1, 10800]⟩
abbrev S2048x10800 : Shape := ⟨2, ![2048, 10800]⟩
abbrev S2x4096x10800 : Shape := ⟨3, ![2, 4096, 10800]⟩
abbrev S10800 : Shape := ⟨1, ![10800]⟩
abbrev S1x1x10800 : Shape := ⟨3, ![1, 1, 10800]⟩
abbrev S32x4x10800 : Shape := ⟨3, ![32, 4, 10800]⟩
abbrev S2x4096x48 : Shape := ⟨3, ![2, 4096, 48]⟩
abbrev S8192x48 : Shape := ⟨2, ![8192, 48]⟩
abbrev S32x4x48 : Shape := ⟨3, ![32, 4, 48]⟩
abbrev S128x48 : Shape := ⟨2, ![128, 48]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x4x2048, .f32⟩
  | .hbm, ⟨2, _⟩ => ⟨S1x2048x10800, .f32⟩
  | .hbm, ⟨3, _⟩ => ⟨S1x10800, .f32⟩
  | .hbm, ⟨4, _⟩ => ⟨S2048x10800, .f32⟩
  | .hbm, ⟨5, _⟩ => ⟨S2x4096x10800, .f32⟩
  | .hbm, ⟨6, _⟩ => ⟨S10800, .f32⟩
  | .hbm, ⟨7, _⟩ => ⟨S1x1x10800, .f32⟩
  | .hbm, ⟨8, _⟩ => ⟨S2x4096x10800, .f32⟩
  | .hbm, ⟨9, _⟩ => ⟨S2x4096x10800, .f32⟩
  | .hbm, ⟨10, _⟩ => ⟨S2048x10800, .f32⟩
  | .hbm, ⟨11, _⟩ => ⟨S32x4x10800, .f32⟩
  | .hbm, ⟨12, _⟩ => ⟨S10800, .f32⟩
  | .hbm, ⟨13, _⟩ => ⟨S1x1x10800, .f32⟩
  | .hbm, ⟨14, _⟩ => ⟨S32x4x10800, .f32⟩
  | .hbm, ⟨15, _⟩ => ⟨S32x4x10800, .f32⟩
  | .hbm, ⟨16, _⟩ => ⟨S2x4096x48, .f32⟩
  | .hbm, ⟨17, _⟩ => ⟨S8192x48, .f32⟩
  | .hbm, ⟨18, _⟩ => ⟨S32x4x48, .f32⟩
  | .hbm, ⟨19, _⟩ => ⟨S128x48, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.LoopRun.lean ====
/- The reference's run over the step of its loop: at a valuation that holds a state (the carried buffers, the set-up
   values, the trip's number) every value of one trip is the step's, one lemma each; so the results of the whole run are
   read off the step iterated from what comes before the loop. -/
module

public import proofs.«01_k».proof.Proof.Gen.HgrnPromptRefIdeal.Run
public import proofs.«01_k».proof.Proof.Gen.HgrnPromptRefIdeal.Step

@[expose] public section

noncomputable section

namespace Cert.HgrnPromptRefIdeal.LoopRun

open Idealize.ShloMosaic Idealize.ShloMosaic.TcCoe Idealize.SL.Sem Idealize.ShloMosaic.StableHlo
open Cert.HgrnPromptRefIdeal Cert.HgrnPromptRefIdeal.Gen Cert.HgrnPromptRefIdeal.Value
open Cert.HgrnPromptRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v55_6) = s.main_v55_6
  f_7 : V0 (Proc.devRef .tc main_v55_7) = s.main_v55_7
  f_0 : V0 (Proc.devRef .tc main_v55_0) = s.main_v55_0
  f_1 : V0 (Proc.devRef .tc main_v55_1) = s.main_v55_1
  f_2 : V0 (Proc.devRef .tc main_v55_2) = s.main_v55_2
  f_3 : V0 (Proc.devRef .tc main_v55_3) = s.main_v55_3
  n_5 : V0 (Proc.devRef .tc main_v55_5) = constantI S_ 32 (BitVec.ofNat 32 j)
  k_4 : V0 (Proc.devRef .tc main_v55_4) = Cert.HgrnPromptRefIdeal.Step.K_main_v41 (F := F)

variable {V0 s j}

set_option maxRecDepth 8192 in
/-- The loop body's value `call7_c` is the step's. -/
theorem al_0 (h : Holds V0 s j) : (constantI S_ 32 0#32 : (Proc.devRef .tc main_while0b_call7_c : DevRef τ sig).ty.Contents (Elt F)) = Cert.HgrnPromptRefIdeal.Step.b0 j s := by
  unfold Cert.HgrnPromptRefIdeal.Step.b0
  rfl
set_option maxRecDepth 8192 in
/-- The loop body's value `call7_c_0` is the step's. -/
theorem al_1 (h : Holds V0 s j) : (constantI S_ 32 0#32 : (Proc.devRef .tc main_while0b_call7_c_0 : DevRef τ sig).ty.Contents (Elt F)) = Cert.HgrnPromptRefIdeal.Step.b1 j s := by
  unfold Cert.HgrnPromptRefIdeal.Step.b1
  rfl
set_option maxRecDepth 8192 in
/-- The loop body's value `call7_c_1` is the step's. -/
theorem al_2 (h : Holds V0 s j) : (constantI S_ 32 0#32 : (Proc.devRef .tc main_while0b_call7_c_1 : DevRef τ sig).ty.Contents (Elt F)) = Cert.HgrnPromptRefIdeal.Step.b2 j s := by
  unfold Cert.HgrnPromptRefIdeal.Step.b2
  rfl
set_option maxRecDepth 8192 in
/-- The loop body's value `call7_c_2` is the step's. -/
theorem al_3 (h : Holds V0 s j) : (constantI S_ 32 0#32 : (Proc.devRef .tc main_while0b_call7_c_2 : DevRef τ sig).ty.Contents (Elt F)) = Cert.HgrnPromptRefIdeal.Step.b3 j s := by
  unfold Cert.HgrnPromptRefIdeal.Step.b3
  rfl
set_option maxRecDepth 8192 in
/-- The loop body's value `call7_v0` is the step's. -/
theorem al_4 (h : Holds V0 s j) : (Host.dynamicSlice S1x2x8x32x128 (V0 (Proc.devRef .tc main_v55_0)) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x32x128_S1x2x8x32x128 : (Proc.devRef .tc main_while0b_call7_v0 : DevRef τ sig).ty.Contents (Elt F)) = Cert.HgrnPromptRefIdeal.Step.b4 j s := by
  unfold Cert.HgrnPromptRefIdeal.Step.b4
  rw [← al_0 h, ← al_1 h, ← al_2 h, ← al_3 h, h.f_0, h.n_5]
  try rfl
set_option maxRecDepth 8192 in
/-- The loop body's value `v79` is the step's. -/
theorem al_5 (h : Holds V0 s j) : (shapeCast S2x8x32x128 (Host.dynamicSlice S1x2x8x32x128 (V0 (Proc.devRef .tc main_v55_0)) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x32x128_S1x2x8x32x128) shapeCasts_S1x2x8x32x128_S2x8x32x128 : (Proc.devRef .tc main_while0b_v79 : DevRef τ sig).ty.Contents (Elt F)) = Cert.HgrnPromptRefIdeal.Step.b5 j s := by
  unfold Cert.HgrnPromptRefIdeal.Step.b5
  rw [← al_4 h]
  try rfl
set_option maxRecDepth 8192 in
/-- The loop body's value `call8_c` is the step's. -/
theorem al_6 (h : Holds V0 s j) : (constantI S_ 32 0#32 : (Proc.devRef .tc main_while0b_call8_c : DevRef τ sig).ty.Contents (Elt F)) = Cert.HgrnPromptRefIdeal.Step.b6 j s := by
  unfold Cert.HgrnPromptRefIdeal.Step.b6
  rfl
set_option maxRecDepth 8192 in
/-- The loop body's value `call8_c_0` is the step's. -/
theorem al_7 (h : Holds V0 s j) : (constantI S_ 32 0#32 : (Proc.devRef .tc main_while0b_call8_c_0 : DevRef τ sig).ty.Contents (Elt F)) = Cert.HgrnPromptRefIdeal.Step.b7 j s := by
  unfold Cert.HgrnPromptRefIdeal.Step.b7
  rfl
set_option maxRecDepth 8192 in
/-- The loop body's value `call8_c_1` is the step's. -/
theorem al_8 (h : Holds V0 s j) : (constantI S_ 32 0#32 : (Proc.devRef .tc main_while0b_call8_c_1 : DevRef τ sig).ty.Contents (Elt F)) = Cert.HgrnPromptRefIdeal.Step.b8 j s := by
  unfold Cert.HgrnPromptRefIdeal.Step.b8
  rfl
set_option maxRecDepth 8192 in
/-- The loop body's value `call8_c_2` is the step's. -/
theorem al_9 (h : Holds V0 s j) : (constantI S_ 32 0#32 : (Proc.devRef .tc main_while0b_call8_c_2 : DevRef τ sig).ty.Contents (Elt F)) = Cert.HgrnPromptRefIdeal.Step.b9 j s := by
  unfold Cert.HgrnPromptRefIdeal.Step.b9
  rfl
set_option maxRecDepth 8192 in
/-- The loop body's value `call8_v0` is the step's. -/
theorem al_10 (h : Holds V0 s j) : (Host.dynamicSlice S1x2x8x32x128 (V0 (Proc.devRef .tc main_v55_1)) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x32x128_S1x2x8x32x128 : (Proc.devRef .tc main_while0b_call8_v0 : DevRef τ sig).ty.Contents (Elt F)) = Cert.HgrnPromptRefIdeal.Step.b10 j s := by
  unfold Cert.HgrnPromptRefIdeal.Step.b10
  rw [← al_6 h, ← al_7 h, ← al_8 h, ← al_9 h, h.f_1, h.n_5]
  try rfl
set_option maxRecDepth 8192 in
/-- The loop body's value `v80` is the step's. -/
theorem al_11 (h : Holds V0 s j) : (res_main_while0b_v80 V0 : (Proc.devRef .tc main_while0b_v80 : DevRef τ sig).ty.Contents (Elt F)) = Cert.HgrnPromptRefIdeal.Step.b11 j s := by
  unfold res_main_while0b_v80 Cert.HgrnPromptRefIdeal.Step.b11
  rw [← al_10 h]
  try rfl
set_option maxRecDepth 8192 in
/-- The loop body's value `call9_c` is the step's. -/
theorem al_12 (h : Holds V0 s j) : (constantI S_ 32 0#32 : (Proc.devRef .tc main_while0b_call9_c : DevRef τ sig).ty.Contents (Elt F)) = Cert.HgrnPromptRefIdeal.Step.b12 j s := by
  unfold Cert.HgrnPromptRefIdeal.Step.b12
  rfl
set_option maxRecDepth 8192 in
/-- The loop body's value `call9_c_0` is the step's. -/
theorem al_13 (h : Holds V0 s j) : (constantI S_ 32 0#32 : (Proc.devRef .tc main_while0b_call9_c_0 : DevRef τ sig).ty.Contents (Elt F)) = Cert.HgrnPromptRefIdeal.Step.b13 j s := by
  unfold Cert.HgrnPromptRefIdeal.Step.b13
  rfl
set_option maxRecDepth 8192 in
/-- The loop body's value `call9_c_1` is the step's. -/
theorem al_14 (h : Holds V0 s j) : (constantI S_ 32 0#32 : (Proc.devRef .tc main_while0b_call9_c_1 : DevRef τ sig).ty.Contents (Elt F)) = Cert.HgrnPromptRefIdeal.Step.b14 j s := by
  unfold Cert.HgrnPromptRefIdeal.Step.b14
  rfl
set_option maxRecDepth 8192 in
/-- The loop body's value `call9_c_2` is the step's. -/
theorem al_15 (h : Holds V0 s j) : (constantI S_ 32 0#32 : (Proc.devRef .tc main_while0b_call9_c_2 : DevRef τ sig).ty.Contents (Elt F)) = Cert.HgrnPromptRefIdeal.Step.b15 j s := by
  unfold Cert.HgrnPromptRefIdeal.Step.b15
  rfl
set_option maxRecDepth 8192 in
/-- The loop body's value `call9_v0` is the step's. -/
theorem al_16 (h : Holds V0 s j) : (Host.dynamicSlice S1x2x8x32x128 (V0 (Proc.devRef .tc main_v55_2)) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x32x128_S1x2x8x32x128 : (Proc.devRef .tc main_while0b_call9_v0 : DevRef τ sig).ty.Contents (Elt F)) = Cert.HgrnPromptRefIdeal.Step.b16 j s := by
  unfold Cert.HgrnPromptRefIdeal.Step.b16
  rw [← al_12 h, ← al_13 h, ← al_14 h, ← al_15 h, h.f_2, h.n_5]
  try rfl
set_option maxRecDepth 8192 in
/-- The loop body's value `v81` is the step's. -/
theorem al_17 (h : Holds V0 s j) : (res_main_while0b_v81 V0 : (Proc.devRef .tc main_while0b_v81 : DevRef τ sig).ty.Contents (Elt F)) = Cert.HgrnPromptRefIdeal.Step.b17 j s := by
  unfold res_main_while0b_v81 Cert.HgrnPromptRefIdeal.Step.b17
  rw [← al_16 h]
  try rfl
set_option maxRecDepth 8192 in
/-- The loop body's value `call10_c` is the step's. -/
theorem al_18 (h : Holds V0 s j) : (constantI S_ 32 0#32 : (Proc.devRef .tc main_while0b_call10_c : DevRef τ sig).ty.Contents (Elt F)) = Cert.HgrnPromptRefIdeal.Step.b18 j s := by
  unfold Cert.HgrnPromptRefIdeal.Step.b18
  rfl
set_option maxRecDepth 8192 in
/-- The loop body's value `call10_c_0` is the step's. -/
theorem al_19 (h : Holds V0 s j) : (constantI S_ 32 0#32 : (Proc.devRef .tc main_while0b_call10_c_0 : DevRef τ sig).ty.Contents (Elt F)) = Cert.HgrnPromptRefIdeal.Step.b19 j s := by
  unfold Cert.HgrnPromptRefIdeal.Step.b19
  rfl
set_option maxRecDepth 8192 in
/-- The loop body's value `call10_c_1` is the step's. -/
theorem al_20 (h : Holds V0 s j) : (constantI S_ 32 0#32 : (Proc.devRef .tc main_while0b_call10_c_1 : DevRef τ sig).ty.Contents (Elt F)) = Cert.HgrnPromptRefIdeal.Step.b20 j s := by
  unfold Cert.HgrnPromptRefIdeal.Step.b20
  rfl
set_option maxRecDepth 8192 in
/-- The loop body's value `call10_c_2` is the step's. -/
theorem al_21 (h : Holds V0 s j) : (constantI S_ 32 0#32 : (Proc.devRef .tc main_while0b_call10_c_2 : DevRef τ sig).ty.Contents (Elt F)) = Cert.HgrnPromptRefIdeal.Step.b21 j s := by
  unfold Cert.HgrnPromptRefIdeal.Step.b21
  rfl
set_option maxRecDepth 8192 in
/-- The loop body's value `call10_v0` is the step's. -/
theorem al_22 (h : Holds V0 s j) : (Host.dynamicSlice S1x2x8x32x128 (V0 (Proc.devRef .tc main_v55_3)) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x32x128_S1x2x8x32x128 : (Proc.devRef .tc main_while0b_call10_v0 : DevRef τ sig).ty.Contents (Elt F)) = Cert.HgrnPromptRefIdeal.Step.b22 j s := by
  unfold Cert.HgrnPromptRefIdeal.Step.b22
  rw [← al_18 h, ← al_19 h, ← al_20 h, ← al_21 h, h.f_3, h.n_5]
  try rfl
set_option maxRecDepth 8192 in
/-- The loop body's value `v82` is the step's. -/
theorem al_23 (h : Holds V0 s j) : (shapeCast S2x8x32x128 (Host.dynamicSlice S1x2x8x32x128 (V0 (Proc.devRef .tc main_v55_3)) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x32x128_S1x2x8x32x128) shapeCasts_S1x2x8x32x128_S2x8x32x128 : (Proc.devRef .tc main_while0b_v82 : DevRef τ sig).ty.Contents (Elt F)) = Cert.HgrnPromptRefIdeal.Step.b23 j s := by
  unfold Cert.HgrnPromptRefIdeal.Step.b23
  rw [← al_22 h]
  try rfl
set_option maxRecDepth 8192 in
/-- The loop body's value `call11_call0_cst` is the step's. -/
theorem al_24 (h : Holds V0 s j) : (constant S_ .f32 0x00000000#32 : (Proc.devRef .tc main_while0b_call11_call0_cst : DevRef τ sig).ty.Contents (Elt F)) = Cert.HgrnPromptRefIdeal.Step.b24 j s := by
  unfold Cert.HgrnPromptRefIdeal.Step.b24
  rfl
set_option maxRecDepth 8192 in
/-- The loop body's value `call11_call0_v0` is the step's. -/
theorem al_25 (h : Holds V0 s j) : (broadcastInDim S_ ![] bcast_S_S_ (constant S_ .f32 0x00000000#32) : (Proc.devRef .tc main_while0b_call11_call0_v0 : DevRef τ sig).ty.Contents (Elt F)) = Cert.HgrnPromptRefIdeal.Step.b25 j s := by
  unfold Cert.HgrnPromptRefIdeal.Step.b25
  rw [← al_24 h]
  try rfl
set_option maxRecDepth 8192 in
/-- The loop body's value `v83` is the step's. -/
theorem al_26 (h : Holds V0 s j) : (res_main_while0b_v83 V0 : (Proc.devRef .tc main_while0b_v83 : DevRef τ sig).ty.Contents (Elt F)) = Cert.HgrnPromptRefIdeal.Step.b26 j s := by
  unfold res_main_while0b_v83 Cert.HgrnPromptRefIdeal.Step.b26
  rw [← al_23 h, ← al_25 h]
  try rfl
set_option maxRecDepth 8192 in
/-- The loop body's value `v84` is the step's. -/
theorem al_27 (h : Holds V0 s j) : (Host.exp (res_main_while0b_v83 V0) : (Proc.devRef .tc main_while0b_v84 : DevRef τ sig).ty.Contents (Elt F)) = Cert.HgrnPromptRefIdeal.Step.b27 j s := by
  unfold Cert.HgrnPromptRefIdeal.Step.b27
  rw [← al_26 h]
  try rfl
set_option maxRecDepth 8192 in
/-- The loop body's value `v85` is the step's. -/
theorem al_28 (h : Holds V0 s j) : (res_main_while0b_v85 V0 : (Proc.devRef .tc main_while0b_v85 : DevRef τ sig).ty.Contents (Elt F)) = Cert.HgrnPromptRefIdeal.Step.b28 j s := by
  unfold res_main_while0b_v85 Cert.HgrnPromptRefIdeal.Step.b28
  rw [← al_5 h, ← al_27 h]
  try rfl
set_option maxRecDepth 8192 in
/-- The loop body's value `v86` is the step's. -/
theorem al_29 (h : Holds V0 s j) : (Host.negf (res_main_while0b_v83 V0) : (Proc.devRef .tc main_while0b_v86 : DevRef τ sig).ty.Contents (Elt F)) = Cert.HgrnPromptRefIdeal.Step.b29 j s := by
  unfold Cert.HgrnPromptRefIdeal.Step.b29
  rw [← al_26 h]
  try rfl
set_option maxRecDepth 8192 in
/-- The loop body's value `v87` is the step's. -/
theorem al_30 (h : Holds V0 s j) : (Host.exp (Host.negf (res_main_while0b_v83 V0)) : (Proc.devRef .tc main_while0b_v87 : DevRef τ sig).ty.Contents (Elt F)) = Cert.HgrnPromptRefIdeal.Step.b30 j s := by
  unfold Cert.HgrnPromptRefIdeal.Step.b30
  rw [← al_29 h]
  try rfl
set_option maxRecDepth 8192 in
/-- The loop body's value `v88` is the step's. -/
theorem al_31 (h : Holds V0 s j) : (mulf (res_main_while0b_v80 V0) (Host.exp (Host.negf (res_main_while0b_v83 V0))) : (Proc.devRef .tc main_while0b_v88 : DevRef τ sig).ty.Contents (Elt F)) = Cert.HgrnPromptRefIdeal.Step.b31 j s := by
  unfold Cert.HgrnPromptRefIdeal.Step.b31
  rw [← al_11 h, ← al_30 h]
  try rfl
set_option maxRecDepth 8192 in
/-- The loop body's value `v89` is the step's. -/
theorem al_32 (h : Holds V0 s j) : (Host.dotGeneral dot_S2x8x32x128_S2x8x32x128_S2x8x32x32_3_3_2_2_01_01 none (res_main_while0b_v85 V0) (mulf (res_main_while0b_v80 V0) (Host.exp (Host.negf (res_main_while0b_v83 V0)))) : (Proc.devRef .tc main_while0b_v89 : DevRef τ sig).ty.Contents (Elt F)) = Cert.HgrnPromptRefIdeal.Step.b32 j s := by
  unfold Cert.HgrnPromptRefIdeal.Step.b32
  rw [← al_28 h, ← al_31 h]
  try rfl
set_option maxRecDepth 8192 in
/-- The loop body's value `cst_23` is the step's. -/
theorem al_33 (h : Holds V0 s j) : (constant S_ .f32 0x00000000#32 : (Proc.devRef .tc main_while0b_cst_23 : DevRef τ sig).ty.Contents (Elt F)) = Cert.HgrnPromptRefIdeal.Step.b33 j s := by
  unfold Cert.HgrnPromptRefIdeal.Step.b33
  rfl
set_option maxRecDepth 8192 in
/-- The loop body's value `call12_v0` is the step's. -/
theorem al_34 (h : Holds V0 s j) : (id (constant S_ .f32 0x00000000#32) : (Proc.devRef .tc main_while0b_call12_v0 : DevRef τ sig).ty.Contents (Elt F)) = Cert.HgrnPromptRefIdeal.Step.b34 j s := by
  unfold Cert.HgrnPromptRefIdeal.Step.b34
  rw [← al_33 h]
  try rfl
set_option maxRecDepth 8192 in
/-- The loop body's value `call12_v1` is the step's. -/
theorem al_35 (h : Holds V0 s j) : (broadcastInDim S2x8x32x32 ![2, 3] bcast_S32x32_S2x8x32x32_2_3 (V0 (Proc.devRef .tc main_v55_4)) : (Proc.devRef .tc main_while0b_call12_v1 : DevRef τ sig).ty.Contents (Elt F)) = Cert.HgrnPromptRefIdeal.Step.b35 j s := by
  unfold Cert.HgrnPromptRefIdeal.Step.b35
  rw [h.k_4]
  try rfl
set_option maxRecDepth 8192 in
/-- The loop body's value `call12_v2` is the step's. -/
theorem al_36 (h : Holds V0 s j) : (broadcastInDim S2x8x32x32 ![] bcast_S_S2x8x32x32 (id (constant S_ .f32 0x00000000#32)) : (Proc.devRef .tc main_while0b_call12_v2 : DevRef τ sig).ty.Contents (Elt F)) = Cert.HgrnPromptRefIdeal.Step.b36 j s := by
  unfold Cert.HgrnPromptRefIdeal.Step.b36
  rw [← al_34 h]
  try rfl
set_option maxRecDepth 8192 in
/-- The loop body's value `v90` is the step's. -/
theorem al_37 (h : Holds V0 s j) : (select (broadcastInDim S2x8x32x32 ![2, 3] bcast_S32x32_S2x8x32x32_2_3 (V0 (Proc.devRef .tc main_v55_4))) (Host.dotGeneral dot_S2x8x32x128_S2x8x32x128_S2x8x32x32_3_3_2_2_01_01 none (res_main_while0b_v85 V0) (mulf (res_main_while0b_v80 V0) (Host.exp (Host.negf (res_main_while0b_v83 V0))))) (broadcastInDim S2x8x32x32 ![] bcast_S_S2x8x32x32 (id (constant S_ .f32 0x00000000#32))) : (Proc.devRef .tc main_while0b_v90 : DevRef τ sig).ty.Contents (Elt F)) = Cert.HgrnPromptRefIdeal.Step.b37 j s := by
  unfold Cert.HgrnPromptRefIdeal.Step.b37
  rw [← al_35 h, ← al_32 h, ← al_36 h]
  try rfl
set_option maxRecDepth 8192 in
/-- The loop body's value `v91` is the step's. -/
theorem al_38 (h : Holds V0 s j) : (Host.dotGeneral dot_S2x8x32x128_S2x8x128x128_S2x8x32x128_3_2_2_3_01_01 none (res_main_while0b_v85 V0) (V0 (Proc.devRef .tc main_v55_6)) : (Proc.devRef .tc main_while0b_v91 : DevRef τ sig).ty.Contents (Elt F)) = Cert.HgrnPromptRefIdeal.Step.b38 j s := by
  unfold Cert.HgrnPromptRefIdeal.Step.b38
  rw [← al_28 h, h.f_6]
  try rfl
set_option maxRecDepth 8192 in
/-- The loop body's value `v92` is the step's. -/
theorem al_39 (h : Holds V0 s j) : (Host.dotGeneral dot_S2x8x32x32_S2x8x32x128_S2x8x32x128_3_2_2_3_01_01 none (select (broadcastInDim S2x8x32x32 ![2, 3] bcast_S32x32_S2x8x32x32_2_3 (V0 (Proc.devRef .tc main_v55_4))) (Host.dotGeneral dot_S2x8x32x128_S2x8x32x128_S2x8x32x32_3_3_2_2_01_01 none (res_main_while0b_v85 V0) (mulf (res_main_while0b_v80 V0) (Host.exp (Host.negf (res_main_while0b_v83 V0))))) (broadcastInDim S2x8x32x32 ![] bcast_S_S2x8x32x32 (id (constant S_ .f32 0x00000000#32)))) (res_main_while0b_v81 V0) : (Proc.devRef .tc main_while0b_v92 : DevRef τ sig).ty.Contents (Elt F)) = Cert.HgrnPromptRefIdeal.Step.b39 j s := by
  unfold Cert.HgrnPromptRefIdeal.Step.b39
  rw [← al_37 h, ← al_17 h]
  try rfl
set_option maxRecDepth 8192 in
/-- The loop body's value `v93` is the step's. -/
theorem al_40 (h : Holds V0 s j) : (addf (Host.dotGeneral dot_S2x8x32x128_S2x8x128x128_S2x8x32x128_3_2_2_3_01_01 none (res_main_while0b_v85 V0) (V0 (Proc.devRef .tc main_v55_6))) (Host.dotGeneral dot_S2x8x32x32_S2x8x32x128_S2x8x32x128_3_2_2_3_01_01 none (select (broadcastInDim S2x8x32x32 ![2, 3] bcast_S32x32_S2x8x32x32_2_3 (V0 (Proc.devRef .tc main_v55_4))) (Host.dotGeneral dot_S2x8x32x128_S2x8x32x128_S2x8x32x32_3_3_2_2_01_01 none (res_main_while0b_v85 V0) (mulf (res_main_while0b_v80 V0) (Host.exp (Host.negf (res_main_while0b_v83 V0))))) (broadcastInDim S2x8x32x32 ![] bcast_S_S2x8x32x32 (id (constant S_ .f32 0x00000000#32)))) (res_main_while0b_v81 V0)) : (Proc.devRef .tc main_while0b_v93 : DevRef τ sig).ty.Contents (Elt F)) = Cert.HgrnPromptRefIdeal.Step.b40 j s := by
  unfold Cert.HgrnPromptRefIdeal.Step.b40
  rw [← al_38 h, ← al_39 h]
  try rfl
set_option maxRecDepth 8192 in
/-- The loop body's value `v94` is the step's. -/
theorem al_41 (h : Holds V0 s j) : (res_main_while0b_v94 V0 : (Proc.devRef .tc main_while0b_v94 : DevRef τ sig).ty.Contents (Elt F)) = Cert.HgrnPromptRefIdeal.Step.b41 j s := by
  unfold res_main_while0b_v94 Cert.HgrnPromptRefIdeal.Step.b41
  rw [← al_26 h]
  try rfl
set_option maxRecDepth 8192 in
/-- The loop body's value `v95` is the step's. -/
theorem al_42 (h : Holds V0 s j) : (shapeCast S2x8x128 (res_main_while0b_v94 V0) shapeCasts_S2x8x1x128_S2x8x128 : (Proc.devRef .tc main_while0b_v95 : DevRef τ sig).ty.Contents (Elt F)) = Cert.HgrnPromptRefIdeal.Step.b42 j s := by
  unfold Cert.HgrnPromptRefIdeal.Step.b42
  rw [← al_41 h]
  try rfl
set_option maxRecDepth 8192 in
/-- The loop body's value `v96` is the step's. -/
theorem al_43 (h : Holds V0 s j) : (broadcastInDim S2x8x128x1 ![0, 1, 2] bcast_S2x8x128_S2x8x128x1_0_1_2 (shapeCast S2x8x128 (res_main_while0b_v94 V0) shapeCasts_S2x8x1x128_S2x8x128) : (Proc.devRef .tc main_while0b_v96 : DevRef τ sig).ty.Contents (Elt F)) = Cert.HgrnPromptRefIdeal.Step.b43 j s := by
  unfold Cert.HgrnPromptRefIdeal.Step.b43
  rw [← al_42 h]
  try rfl
set_option maxRecDepth 8192 in
/-- The loop body's value `v97` is the step's. -/
theorem al_44 (h : Holds V0 s j) : (Host.exp (broadcastInDim S2x8x128x1 ![0, 1, 2] bcast_S2x8x128_S2x8x128x1_0_1_2 (shapeCast S2x8x128 (res_main_while0b_v94 V0) shapeCasts_S2x8x1x128_S2x8x128)) : (Proc.devRef .tc main_while0b_v97 : DevRef τ sig).ty.Contents (Elt F)) = Cert.HgrnPromptRefIdeal.Step.b44 j s := by
  unfold Cert.HgrnPromptRefIdeal.Step.b44
  rw [← al_43 h]
  try rfl
set_option maxRecDepth 8192 in
/-- The loop body's value `v98` is the step's. -/
theorem al_45 (h : Holds V0 s j) : (broadcastInDim S2x8x128x128 ![0, 1, 2, 3] bcast_S2x8x128x1_S2x8x128x128_0_1_2_3 (Host.exp (broadcastInDim S2x8x128x1 ![0, 1, 2] bcast_S2x8x128_S2x8x128x1_0_1_2 (shapeCast S2x8x128 (res_main_while0b_v94 V0) shapeCasts_S2x8x1x128_S2x8x128))) : (Proc.devRef .tc main_while0b_v98 : DevRef τ sig).ty.Contents (Elt F)) = Cert.HgrnPromptRefIdeal.Step.b45 j s := by
  unfold Cert.HgrnPromptRefIdeal.Step.b45
  rw [← al_44 h]
  try rfl
set_option maxRecDepth 8192 in
/-- The loop body's value `v99` is the step's. -/
theorem al_46 (h : Holds V0 s j) : (mulf (broadcastInDim S2x8x128x128 ![0, 1, 2, 3] bcast_S2x8x128x1_S2x8x128x128_0_1_2_3 (Host.exp (broadcastInDim S2x8x128x1 ![0, 1, 2] bcast_S2x8x128_S2x8x128x1_0_1_2 (shapeCast S2x8x128 (res_main_while0b_v94 V0) shapeCasts_S2x8x1x128_S2x8x128)))) (V0 (Proc.devRef .tc main_v55_6)) : (Proc.devRef .tc main_while0b_v99 : DevRef τ sig).ty.Contents (Elt F)) = Cert.HgrnPromptRefIdeal.Step.b46 j s := by
  unfold Cert.HgrnPromptRefIdeal.Step.b46
  rw [← al_45 h, h.f_6]
  try rfl
set_option maxRecDepth 8192 in
/-- The loop body's value `v100` is the step's. -/
theorem al_47 (h : Holds V0 s j) : (broadcastInDim S2x8x32x128 ![0, 1, 2, 3] bcast_S2x8x1x128_S2x8x32x128_0_1_2_3 (res_main_while0b_v94 V0) : (Proc.devRef .tc main_while0b_v100 : DevRef τ sig).ty.Contents (Elt F)) = Cert.HgrnPromptRefIdeal.Step.b47 j s := by
  unfold Cert.HgrnPromptRefIdeal.Step.b47
  rw [← al_41 h]
  try rfl
set_option maxRecDepth 8192 in
/-- The loop body's value `v101` is the step's. -/
theorem al_48 (h : Holds V0 s j) : (subf (broadcastInDim S2x8x32x128 ![0, 1, 2, 3] bcast_S2x8x1x128_S2x8x32x128_0_1_2_3 (res_main_while0b_v94 V0)) (res_main_while0b_v83 V0) : (Proc.devRef .tc main_while0b_v101 : DevRef τ sig).ty.Contents (Elt F)) = Cert.HgrnPromptRefIdeal.Step.b48 j s := by
  unfold Cert.HgrnPromptRefIdeal.Step.b48
  rw [← al_47 h, ← al_26 h]
  try rfl
set_option maxRecDepth 8192 in
/-- The loop body's value `v102` is the step's. -/
theorem al_49 (h : Holds V0 s j) : (Host.exp (subf (broadcastInDim S2x8x32x128 ![0, 1, 2, 3] bcast_S2x8x1x128_S2x8x32x128_0_1_2_3 (res_main_while0b_v94 V0)) (res_main_while0b_v83 V0)) : (Proc.devRef .tc main_while0b_v102 : DevRef τ sig).ty.Contents (Elt F)) = Cert.HgrnPromptRefIdeal.Step.b49 j s := by
  unfold Cert.HgrnPromptRefIdeal.Step.b49
  rw [← al_48 h]
  try rfl
set_option maxRecDepth 8192 in
/-- The loop body's value `v103` is the step's. -/
theorem al_50 (h : Holds V0 s j) : (mulf (res_main_while0b_v80 V0) (Host.exp (subf (broadcastInDim S2x8x32x128 ![0, 1, 2, 3] bcast_S2x8x1x128_S2x8x32x128_0_1_2_3 (res_main_while0b_v94 V0)) (res_main_while0b_v83 V0))) : (Proc.devRef .tc main_while0b_v103 : DevRef τ sig).ty.Contents (Elt F)) = Cert.HgrnPromptRefIdeal.Step.b50 j s := by
  unfold Cert.HgrnPromptRefIdeal.Step.b50
  rw [← al_11 h, ← al_49 h]
  try rfl
set_option maxRecDepth 8192 in
/-- The loop body's value `v104` is the step's. -/
theorem al_51 (h : Holds V0 s j) : (Host.dotGeneral dot_S2x8x32x128_S2x8x32x128_S2x8x128x128_2_2_3_3_01_01 none (mulf (res_main_while0b_v80 V0) (Host.exp (subf (broadcastInDim S2x8x32x128 ![0, 1, 2, 3] bcast_S2x8x1x128_S2x8x32x128_0_1_2_3 (res_main_while0b_v94 V0)) (res_main_while0b_v83 V0)))) (res_main_while0b_v81 V0) : (Proc.devRef .tc main_while0b_v104 : DevRef τ sig).ty.Contents (Elt F)) = Cert.HgrnPromptRefIdeal.Step.b51 j s := by
  unfold Cert.HgrnPromptRefIdeal.Step.b51
  rw [← al_50 h, ← al_17 h]
  try rfl
set_option maxRecDepth 8192 in
/-- The loop body's value `v105` is the step's. -/
theorem al_52 (h : Holds V0 s j) : (addf (mulf (broadcastInDim S2x8x128x128 ![0, 1, 2, 3] bcast_S2x8x128x1_S2x8x128x128_0_1_2_3 (Host.exp (broadcastInDim S2x8x128x1 ![0, 1, 2] bcast_S2x8x128_S2x8x128x1_0_1_2 (shapeCast S2x8x128 (res_main_while0b_v94 V0) shapeCasts_S2x8x1x128_S2x8x128)))) (V0 (Proc.devRef .tc main_v55_6))) (Host.dotGeneral dot_S2x8x32x128_S2x8x32x128_S2x8x128x128_2_2_3_3_01_01 none (mulf (res_main_while0b_v80 V0) (Host.exp (subf (broadcastInDim S2x8x32x128 ![0, 1, 2, 3] bcast_S2x8x1x128_S2x8x32x128_0_1_2_3 (res_main_while0b_v94 V0)) (res_main_while0b_v83 V0)))) (res_main_while0b_v81 V0)) : (Proc.devRef .tc main_while0b_v105 : DevRef τ sig).ty.Contents (Elt F)) = Cert.HgrnPromptRefIdeal.Step.b52 j s := by
  unfold Cert.HgrnPromptRefIdeal.Step.b52
  rw [← al_46 h, ← al_51 h]
  try rfl
set_option maxRecDepth 8192 in
/-- The loop body's value `call13_v0` is the step's. -/
theorem al_53 (h : Holds V0 s j) : (broadcastInDim S1x2x8x32x128 ![1, 2, 3, 4] bcast_S2x8x32x128_S1x2x8x32x128_1_2_3_4 (addf (Host.dotGeneral dot_S2x8x32x128_S2x8x128x128_S2x8x32x128_3_2_2_3_01_01 none (res_main_while0b_v85 V0) (V0 (Proc.devRef .tc main_v55_6))) (Host.dotGeneral dot_S2x8x32x32_S2x8x32x128_S2x8x32x128_3_2_2_3_01_01 none (select (broadcastInDim S2x8x32x32 ![2, 3] bcast_S32x32_S2x8x32x32_2_3 (V0 (Proc.devRef .tc main_v55_4))) (Host.dotGeneral dot_S2x8x32x128_S2x8x32x128_S2x8x32x32_3_3_2_2_01_01 none (res_main_while0b_v85 V0) (mulf (res_main_while0b_v80 V0) (Host.exp (Host.negf (res_main_while0b_v83 V0))))) (broadcastInDim S2x8x32x32 ![] bcast_S_S2x8x32x32 (id (constant S_ .f32 0x00000000#32)))) (res_main_while0b_v81 V0))) : (Proc.devRef .tc main_while0b_call13_v0 : DevRef τ sig).ty.Contents (Elt F)) = Cert.HgrnPromptRefIdeal.Step.b53 j s := by
  unfold Cert.HgrnPromptRefIdeal.Step.b53
  rw [← al_40 h]
  try rfl
set_option maxRecDepth 8192 in
/-- The loop body's value `call13_c` is the step's. -/
theorem al_54 (h : Holds V0 s j) : (constantI S_ 32 0#32 : (Proc.devRef .tc main_while0b_call13_c : DevRef τ sig).ty.Contents (Elt F)) = Cert.HgrnPromptRefIdeal.Step.b54 j s := by
  unfold Cert.HgrnPromptRefIdeal.Step.b54
  rfl
set_option maxRecDepth 8192 in
/-- The loop body's value `call13_c_0` is the step's. -/
theorem al_55 (h : Holds V0 s j) : (constantI S_ 32 0#32 : (Proc.devRef .tc main_while0b_call13_c_0 : DevRef τ sig).ty.Contents (Elt F)) = Cert.HgrnPromptRefIdeal.Step.b55 j s := by
  unfold Cert.HgrnPromptRefIdeal.Step.b55
  rfl
set_option maxRecDepth 8192 in
/-- The loop body's value `call13_c_1` is the step's. -/
theorem al_56 (h : Holds V0 s j) : (constantI S_ 32 0#32 : (Proc.devRef .tc main_while0b_call13_c_1 : DevRef τ sig).ty.Contents (Elt F)) = Cert.HgrnPromptRefIdeal.Step.b56 j s := by
  unfold Cert.HgrnPromptRefIdeal.Step.b56
  rfl
set_option maxRecDepth 8192 in
/-- The loop body's value `call13_c_2` is the step's. -/
theorem al_57 (h : Holds V0 s j) : (constantI S_ 32 0#32 : (Proc.devRef .tc main_while0b_call13_c_2 : DevRef τ sig).ty.Contents (Elt F)) = Cert.HgrnPromptRefIdeal.Step.b57 j s := by
  unfold Cert.HgrnPromptRefIdeal.Step.b57
  rfl
set_option maxRecDepth 8192 in
/-- The loop body's value `v106` is the step's. -/
theorem al_58 (h : Holds V0 s j) : (Host.dynamicUpdateSlice (V0 (Proc.devRef .tc main_v55_7)) (broadcastInDim S1x2x8x32x128 ![1, 2, 3, 4] bcast_S2x8x32x128_S1x2x8x32x128_1_2_3_4 (addf (Host.dotGeneral dot_S2x8x32x128_S2x8x128x128_S2x8x32x128_3_2_2_3_01_01 none (res_main_while0b_v85 V0) (V0 (Proc.devRef .tc main_v55_6))) (Host.dotGeneral dot_S2x8x32x32_S2x8x32x128_S2x8x32x128_3_2_2_3_01_01 none (select (broadcastInDim S2x8x32x32 ![2, 3] bcast_S32x32_S2x8x32x32_2_3 (V0 (Proc.devRef .tc main_v55_4))) (Host.dotGeneral dot_S2x8x32x128_S2x8x32x128_S2x8x32x32_3_3_2_2_01_01 none (res_main_while0b_v85 V0) (mulf (res_main_while0b_v80 V0) (Host.exp (Host.negf (res_main_while0b_v83 V0))))) (broadcastInDim S2x8x32x32 ![] bcast_S_S2x8x32x32 (id (constant S_ .f32 0x00000000#32)))) (res_main_while0b_v81 V0)))) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) updateFits_S128x2x8x32x128_S1x2x8x32x128 : (Proc.devRef .tc main_while0b_v106 : DevRef τ sig).ty.Contents (Elt F)) = Cert.HgrnPromptRefIdeal.Step.b58 j s := by
  unfold Cert.HgrnPromptRefIdeal.Step.b58
  rw [← al_53 h, ← al_54 h, ← al_55 h, ← al_56 h, ← al_57 h, h.f_7, h.n_5]
  try rfl

/-! One trip's step of the carried values is `step`, field by field; a counter steps to the next number. -/

/-- The loop's step leaves the next state; -/
theorem step_6 (h : Holds V0 s j) : step_main_v55_6 V0 = (step j s).main_v55_6 := by
  unfold step_main_v55_6 Cert.HgrnPromptRefIdeal.Step.step
  show id (addf (mulf (broadcastInDim S2x8x128x128 ![0, 1, 2, 3] bcast_S2x8x128x1_S2x8x128x128_0_1_2_3 (Host.exp (broadcastInDim S2x8x128x1 ![0, 1, 2] bcast_S2x8x128_S2x8x128x1_0_1_2 (shapeCast S2x8x128 (res_main_while0b_v94 V0) shapeCasts_S2x8x1x128_S2x8x128)))) (V0 (Proc.devRef .tc main_v55_6))) (Host.dotGeneral dot_S2x8x32x128_S2x8x32x128_S2x8x128x128_2_2_3_3_01_01 none (mulf (res_main_while0b_v80 V0) (Host.exp (subf (broadcastInDim S2x8x32x128 ![0, 1, 2, 3] bcast_S2x8x1x128_S2x8x32x128_0_1_2_3 (res_main_while0b_v94 V0)) (res_main_while0b_v83 V0)))) (res_main_while0b_v81 V0))) = _
  rw [al_52 h]
  try rfl
/-- the outputs with one chunk more; -/
theorem step_7 (h : Holds V0 s j) : step_main_v55_7 V0 = (step j s).main_v55_7 := by
  unfold step_main_v55_7 Cert.HgrnPromptRefIdeal.Step.step
  show id (Host.dynamicUpdateSlice (V0 (Proc.devRef .tc main_v55_7)) (broadcastInDim S1x2x8x32x128 ![1, 2, 3, 4] bcast_S2x8x32x128_S1x2x8x32x128_1_2_3_4 (addf (Host.dotGeneral dot_S2x8x32x128_S2x8x128x128_S2x8x32x128_3_2_2_3_01_01 none (res_main_while0b_v85 V0) (V0 (Proc.devRef .tc main_v55_6))) (Host.dotGeneral dot_S2x8x32x32_S2x8x32x128_S2x8x32x128_3_2_2_3_01_01 none (select (broadcastInDim S2x8x32x32 ![2, 3] bcast_S32x32_S2x8x32x32_2_3 (V0 (Proc.devRef .tc main_v55_4))) (Host.dotGeneral dot_S2x8x32x128_S2x8x32x128_S2x8x32x32_3_3_2_2_01_01 none (res_main_while0b_v85 V0) (mulf (res_main_while0b_v80 V0) (Host.exp (Host.negf (res_main_while0b_v83 V0))))) (broadcastInDim S2x8x32x32 ![] bcast_S_S2x8x32x32 (id (constant S_ .f32 0x00000000#32)))) (res_main_while0b_v81 V0)))) (fun k => (((![V0 (Proc.devRef .tc main_v55_5), constantI S_ 32 0#32, constantI S_ 32 0#32, constantI S_ 32 0#32, constantI S_ 32 0#32] : Fin 5 → (⟨S_, .i32⟩ : BufTy).Contents (Elt F))) k (Shape.Idx.first h_S_)).toInt) updateFits_S128x2x8x32x128_S1x2x8x32x128) = _
  exact al_58 h
/-- the counter one higher. -/
theorem step_5 (h : Holds V0 s j) : step_main_v55_5 V0 = constantI S_ 32 (BitVec.ofNat 32 (j + 1)) := by
  unfold step_main_v55_5
  rw [h.n_5]
  funext i
  show BitVec.ofNat 32 j + 1#32 = BitVec.ofNat 32 (j + 1)
  simp only [BitVec.ofNat_add]

set_option maxRecDepth 8192 in
/-- The outputs after the loop, from the loop's last variables. -/
theorem out_main_v77_holds (h : Holds V0 s j) {x_main_arg0 : (⟨S8320x4096, .f32⟩ : BufTy).Contents (Elt F)} (h_main_arg0 : V0 (Proc.devRef .tc main_arg0) = x_main_arg0) {x_main_arg2 : (⟨S1x8x128, .f32⟩ : BufTy).Contents (Elt F)} (h_main_arg2 : V0 (Proc.devRef .tc main_arg2) = x_main_arg2) : out_main_v77 V0 = Cert.HgrnPromptRefIdeal.Step.R_main_v77 s x_main_arg0 x_main_arg2 := by
  unfold out_main_v77 Cert.HgrnPromptRefIdeal.Step.R_main_v77
  rw [h.f_7, h_main_arg0, h_main_arg2]
  try rfl

set_option maxRecDepth 8192 in
/-- The final states after the loop. -/
theorem out_main_v78_holds (h : Holds V0 s j) : out_main_v78 V0 = Cert.HgrnPromptRefIdeal.Step.R_main_v78 s := by
  unfold out_main_v78 Cert.HgrnPromptRefIdeal.Step.R_main_v78
  rw [h.f_6]
  try rfl

/-- One trip keeps the valuation holding: `step` of the state, the same set-up values, the next number. -/
theorem holds_step (h : Holds V0 s j) : Holds (STEP V0) (step j s) (j + 1) where
  f_6 := (STEP_main_v55_6 V0).trans (step_6 h)
  f_7 := (STEP_main_v55_7 V0).trans (step_7 h)
  n_5 := (STEP_main_v55_5 V0).trans (step_5 h)
  k_4 := (STEP_main_v55_4 V0).trans h.k_4
  f_0 := (STEP_main_v55_0 V0).trans h.f_0
  f_1 := (STEP_main_v55_1 V0).trans h.f_1
  f_2 := (STEP_main_v55_2 V0).trans h.f_2
  f_3 := (STEP_main_v55_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `HgrnPromptRefIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v77) = Cert.HgrnPromptRefIdeal.Step.R_main_v77 (it c 128) (m ((c.tc : Thread nD τ).loc main_arg0)) (m ((c.tc : Thread nD τ).loc main_arg2))
      ∧ r.2.mem ((c.tc : Thread nD τ).loc main_v78) = Cert.HgrnPromptRefIdeal.Step.R_main_v78 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 128
    ⟨(h c).1.trans (out_main_v77_holds hk (iter_main_arg0 m c 128) (iter_main_arg2 m c 128)), (h c).2.1.trans (out_main_v78_holds hk), (h c).2.2.1, (h c).2.2.2.1, (h c).2.2.2.2⟩) (Value.run m ρ)

end Cert.HgrnPromptRefIdeal.LoopRun

end
-- ==== Proof.Spec.lean ====
/- The recurrence as sums over the extended reals: one head of one sequence, its time steps numbered from 0 and cut into
   chunks of 32. Both programs are shown to compute these functions. -/
module

public import Idealize.ShloMosaic.Lib.Pointwise

@[expose] public section

noncomputable section

namespace Cert.Hgrn

open Idealize.ShloMosaic

/-- One value per time step and channel. -/
abbrev Seq : Type := ℕ → Fin 128 → EReal

/-- One value per pair of channels: a state, value channel first. -/
abbrev St : Type := Fin 128 → Fin 128 → EReal

/-- Sequence `b`'s 128 columns of part `k` (query, gate, value, output gate) for head `h`, out of the projected rows: 4096 rows
    per sequence, 1024 columns per part. (The remainders only make the function total.) -/
def seqOf (x : (⟨2, ![8320, 4096]⟩ : Shape).Idx → EReal) (k b : ℕ) (h : Fin 8) : Seq := fun t d =>
  x (ix2 ⟨(4096 * b + t) % 8320, Nat.mod_lt _ (by decide)⟩ ⟨(k * 1024 + (128 * h.val + d.val)) % 4096, Nat.mod_lt _ (by decide)⟩)

/-- The logistic function. -/
def sg (x : EReal) : EReal := Ideal.div 1 (1 + Ideal.exp (-x))

/-- The decay gate. -/
def gate (lb : Fin 128 → EReal) (f : Seq) : Seq := fun t d => lb d + (1 - lb d) * sg (f t d)

/-- The query. -/
def qry (q : Seq) : Seq := fun t d => q t d * sg (q t d)

/-- The key. -/
def key (lb : Fin 128 → EReal) (f : Seq) : Seq := fun t d => 1 - gate lb f t d

/-- The sum of the log decays from the start of the chunk of `t` up to `t`. -/
def cum (lb : Fin 128 → EReal) (f : Seq) : Seq := fun t d =>
  ∑ u ∈ Finset.range (t % 32 + 1), Ideal.log (gate lb f (t - u) d)

/-- The state after chunk `n` from the state before it. -/
def stp (lb : Fin 128 → EReal) (f v : Seq) (n : ℕ) (S : St) : St := fun e d =>
  S e d * Ideal.exp (cum lb f (32 * n + 31) d) + ∑ x : Fin 32, v (32 * n + x.val) e *
    (key lb f (32 * n + x.val) d * Ideal.exp (cum lb f (32 * n + 31) d - cum lb f (32 * n + x.val) d))

/-- The state before chunk `n`, from nothing. -/
def stt (lb : Fin 128 → EReal) (f v : Seq) : ℕ → St
  | 0 => fun _ _ => 0
  | n + 1 => stp lb f v n (stt lb f v n)

/-- The output at row `s` of chunk `n`, channel `e`, from the state before the chunk. -/
def out (lb : Fin 128 → EReal) (q f v : Seq) (n s : ℕ) (S : St) (e : Fin 128) : EReal :=
  ∑ d : Fin 128, qry q (32 * n + s) d * Ideal.exp (cum lb f (32 * n + s) d) * S e d
  + ∑ x : Fin 32, if x.val ≤ s then
      (∑ d : Fin 128, qry q (32 * n + s) d * Ideal.exp (cum lb f (32 * n + s) d)
        * (key lb f (32 * n + x.val) d * Ideal.exp (-cum lb f (32 * n + x.val) d))) * v (32 * n + x.val) e
    else 0

/-- The outputs of a sequence. -/
def outT (lb : Fin 128 → EReal) (q f v : Seq) : Seq := fun t e => out lb q f v (t / 32) (t % 32) (stt lb f v (t / 32)) e

/-- A row divided by its root mean square, times the norm's weights, times the gate. -/
def fin (x : Seq) (nrm : Fin 128 → EReal) (g : Seq) : Seq := fun t e =>
  x t e * Ideal.rsqrt (Ideal.div (∑ d : Fin 128, x t d * x t d) (Ideal.ofBits FTy.f32 0x43000000#32) + Ideal.ofBits FTy.f32 0x3727C5AC#32)
    * nrm e * (g t e * sg (g t e))

/-- The sum over the last `m` rows, and not beyond the chunk's start. -/
def upto (m : ℕ) (f : ℕ → EReal) (r : ℕ) : EReal := ∑ u ∈ Finset.range (min (r % 32 + 1) m), f (r - u)

/-- A window of one term is the term. -/
theorem upto_one (f : ℕ → EReal) (r : ℕ) : upto 1 f r = f r := by
  unfold upto
  rw [show min (r % 32 + 1) 1 = 1 from by omega, Finset.sum_range_one, Nat.sub_zero]

/-- Doubling the number of rows summed. -/
theorem upto_double (m : ℕ) (f : ℕ → EReal) (r : ℕ) :
    upto m f r + (if m ≤ r % 32 then upto m f (r - m) else 0) = upto (m + m) f r := by
  unfold upto
  by_cases h : m ≤ r % 32
  · rw [if_pos h]
    have h1 : (r - m) % 32 = r % 32 - m := by
      have := Nat.mod_lt r (show 0 < 32 by decide)
      omega
    rw [h1, show min (r % 32 + 1) (m + m) = m + min (r % 32 - m + 1) m from by omega,
      show min (r % 32 + 1) m = m from by omega, Finset.sum_range_add]
    congr 1
    refine Finset.sum_congr rfl fun u _ => ?_
    rw [Nat.sub_sub]
  · rw [if_neg h, add_zero, show min (r % 32 + 1) (m + m) = min (r % 32 + 1) m from by omega]

/-- A window of the whole chunk is the running sum. -/
theorem upto_full (f : ℕ → EReal) (r : ℕ) : upto 32 f r = ∑ u ∈ Finset.range (r % 32 + 1), f (r - u) := by
  unfold upto
  rw [show min (r % 32 + 1) 32 = r % 32 + 1 from by omega]

end Cert.Hgrn

end
-- ==== Proof.RefIn.lean ====
/- What the reference's loop starts from, element by element. -/
module

public import proofs.«01_k».proof.Proof.Spec
public import proofs.«01_k».proof.Proof.Gen.HgrnPromptRefIdeal.Step

@[expose] public section

set_option maxRecDepth 16384

noncomputable section

namespace Cert.HgrnPromptRefIdeal.RefIn

open Cert.HgrnPromptRefIdeal Cert.HgrnPromptRefIdeal.Gen Cert.HgrnPromptRefIdeal.Step Idealize.ShloMosaic Cert

variable (a0 : (⟨S8320x4096, .f32⟩ : BufTy).Contents (Elt Ideal)) (a1 : (⟨S2x1024, .f32⟩ : BufTy).Contents (Elt Ideal))

/-- Head `h`'s lower bounds. -/
abbrev LB (h : Fin 8) (d : Fin 128) : EReal := A_main_v14 (F := Ideal) a0 a1 (ix2 h d)

/-- An entry of the projected columns, read as a token's entry of a head. -/
theorem seqOf_congr {k b : ℕ} {h : Fin 8} {t : ℕ} {d : Fin 128} (i : Fin 8320) (j : Fin 4096) (hi : i.val = 4096 * b + t) (hj : j.val = k * 1024 + (128 * h.val + d.val)) :
    a0 (ix2 i j) = Hgrn.seqOf a0 k b h t d := by
  unfold Hgrn.seqOf
  congr 1
  have h1 := i.isLt
  have h2 := j.isLt
  rw [show i = ⟨(4096 * b + t) % 8320, Nat.mod_lt _ (by decide)⟩ from Fin.ext (by show i.val = _ % _; omega),
    show j = ⟨(k * 1024 + (128 * h.val + d.val)) % 4096, Nat.mod_lt _ (by decide)⟩ from Fin.ext (by show j.val = _ % _; omega)]

/-- Part 0 of the projections, cut into heads. -/
theorem v16 (b : Fin 2) (t : Fin 4096) (h : Fin 8) (d : Fin 128) : A_main_v16 (F := Ideal) a0 a1 (ix4 b t h d) = Hgrn.seqOf a0 0 b.val h t.val d := by
  unfold A_main_v16 A_main_v15
  pointwise
  exact seqOf_congr a0 _ _ (by show b.val * 4096 + t.val = _; omega) (by show _ = _; dsimp only; omega)

/-- Part 1 of the projections, cut into heads. -/
theorem v21 (b : Fin 2) (t : Fin 4096) (h : Fin 8) (d : Fin 128) : A_main_v21 (F := Ideal) a0 a1 (ix4 b t h d) = Hgrn.seqOf a0 1 b.val h t.val d := by
  unfold A_main_v21 A_main_v20
  pointwise
  exact seqOf_congr a0 _ _ (by show b.val * 4096 + t.val = _; omega) (by show _ = _; dsimp only; omega)

/-- Part 2 of the projections, cut into heads. -/
theorem v35 (b : Fin 2) (t : Fin 4096) (h : Fin 8) (d : Fin 128) : A_main_v35 (F := Ideal) a0 a1 (ix4 b t h d) = Hgrn.seqOf a0 2 b.val h t.val d := by
  unfold A_main_v35 A_main_v34
  pointwise
  exact seqOf_congr a0 _ _ (by show b.val * 4096 + t.val = _; omega) (by show _ = _; dsimp only; omega)

/-- The query. -/
theorem v17 (b : Fin 2) (t : Fin 4096) (h : Fin 8) (d : Fin 128) : A_main_v17 (F := Ideal) a0 a1 (ix4 b t h d) = Hgrn.qry (Hgrn.seqOf a0 0 b.val h) t.val d := by
  unfold A_main_v17 A_main_call1_v5 A_main_call1_v3 A_main_call1_v1 A_main_call1_v0 K_main_call1_v2 K_main_call1_v4 K_main_call1_cst K_main_call1_cst_0
  pointwise
  rw [v16]
  rfl

/-- The decay gate. -/
theorem v33 (b : Fin 2) (t : Fin 4096) (h : Fin 8) (d : Fin 128) : A_main_v33 (F := Ideal) a0 a1 (ix4 b t h d) = Hgrn.gate (LB a0 a1 h) (Hgrn.seqOf a0 1 b.val h) t.val d := by
  unfold A_main_v33 A_main_v32 A_main_v31 A_main_v30 A_main_v29 A_main_v28 A_main_v27 A_main_v25 A_main_v23 A_main_v22 A_main_v19 K_main_v18 K_main_v24 K_main_v26 K_main_cst_2 K_main_cst_3 K_main_cst_4
  pointwise
  rw [v21]
  rfl

/-- The key. -/
theorem v38 (b : Fin 2) (t : Fin 4096) (h : Fin 8) (d : Fin 128) : A_main_v38 (F := Ideal) a0 a1 (ix4 b t h d) = Hgrn.key (LB a0 a1 h) (Hgrn.seqOf a0 1 b.val h) t.val d := by
  unfold A_main_v38 K_main_v37 K_main_cst_6
  pointwise
  rw [v33]
  rfl

/-- The logarithm of the decay gate. -/
theorem v39 (b : Fin 2) (t : Fin 4096) (h : Fin 8) (d : Fin 128) : A_main_v39 (F := Ideal) a0 a1 (ix4 b t h d) = Ideal.log (Hgrn.gate (LB a0 a1 h) (Hgrn.seqOf a0 1 b.val h) t.val d) := by
  unfold A_main_v39
  pointwise
  rw [v33]

/-- In chunks. -/
theorem v44 (n : Fin 128) (b : Fin 2) (h : Fin 8) (r : Fin 32) (d : Fin 128) : A_main_v44 (F := Ideal) a0 a1 (ix5 n b h r d) = Hgrn.qry (Hgrn.seqOf a0 0 b.val h) (32 * n.val + r.val) d := by
  unfold A_main_v44 A_main_v43 A_main_v42
  pointwise
  rw [dif_pos (show n.val * 32 + r.val < 4096 by omega), v17]
  exact congrArg (fun t => Hgrn.qry (Hgrn.seqOf a0 0 b.val h) t d) (by dsimp only; omega)

/-- In chunks. -/
theorem v47 (n : Fin 128) (b : Fin 2) (h : Fin 8) (r : Fin 32) (d : Fin 128) : A_main_v47 (F := Ideal) a0 a1 (ix5 n b h r d) = Hgrn.key (LB a0 a1 h) (Hgrn.seqOf a0 1 b.val h) (32 * n.val + r.val) d := by
  unfold A_main_v47 A_main_v46 A_main_v45
  pointwise
  rw [dif_pos (show n.val * 32 + r.val < 4096 by omega), v38]
  exact congrArg (fun t => Hgrn.key (LB a0 a1 h) (Hgrn.seqOf a0 1 b.val h) t d) (by dsimp only; omega)

/-- In chunks. -/
theorem v50 (n : Fin 128) (b : Fin 2) (h : Fin 8) (r : Fin 32) (d : Fin 128) : A_main_v50 (F := Ideal) a0 a1 (ix5 n b h r d) = Hgrn.seqOf a0 2 b.val h (32 * n.val + r.val) d := by
  unfold A_main_v50 A_main_v49 A_main_v48
  pointwise
  rw [dif_pos (show n.val * 32 + r.val < 4096 by omega), v35]
  exact congrArg (fun t => Hgrn.seqOf a0 2 b.val h t d) (by dsimp only; omega)

/-- In chunks. -/
theorem v53 (n : Fin 128) (b : Fin 2) (h : Fin 8) (r : Fin 32) (d : Fin 128) : A_main_v53 (F := Ideal) a0 a1 (ix5 n b h r d) = Ideal.log (Hgrn.gate (LB a0 a1 h) (Hgrn.seqOf a0 1 b.val h) (32 * n.val + r.val) d) := by
  unfold A_main_v53 A_main_v52 A_main_v51
  pointwise
  rw [dif_pos (show n.val * 32 + r.val < 4096 by omega), v39]
  exact congrArg (fun t => Ideal.log (Hgrn.gate (LB a0 a1 h) (Hgrn.seqOf a0 1 b.val h) t d)) (by dsimp only; omega)

end Cert.HgrnPromptRefIdeal.RefIn

end
-- ==== Proof.RefStep.lean ====
/- One trip of the reference's loop, element by element. -/
module

public import proofs.«01_k».proof.Proof.RefIn
public import Idealize.ShloMosaic.Lib.DynamicIndex

@[expose] public section

set_option maxRecDepth 16384

noncomputable section

namespace Cert.HgrnPromptRefIdeal.RefStep

open Cert.HgrnPromptRefIdeal Cert.HgrnPromptRefIdeal.Gen Cert.HgrnPromptRefIdeal.Step Idealize.ShloMosaic Cert

/-- A left fold that adds is a sum. -/
theorem foldl_add (n : ℕ) (g : Fin n → EReal) (z : EReal) : (List.finRange n).foldl (fun r k => r + g k) z = z + ∑ k : Fin n, g k := by
  rw [Fin.sum_univ_def]
  generalize List.finRange n = l
  induction l generalizing z with
  | nil => simp
  | cons a l ih => rw [List.foldl_cons, ih, List.map_cons, List.sum_cons, add_assoc]

/-- A window of 32 rows ending at row `r`, over rows padded in front by zeros, sums the rows up to `r`. -/
theorem window_sum (f : ℕ → EReal) (r : ℕ) (hr : r < 32) :
    ∑ n : Fin 32, (if 31 ≤ r + n.val then f (r + n.val - 31) else 0) = ∑ u ∈ Finset.range (r + 1), f (r - u) := by
  rw [Fin.sum_univ_eq_sum_range (fun n => if 31 ≤ r + n then f (r + n - 31) else 0) 32,
    ← Finset.sum_range_reflect (fun n => if 31 ≤ r + n then f (r + n - 31) else 0) 32]
  refine Eq.trans ?_ (Finset.sum_subset (s₁ := Finset.range (r + 1)) (s₂ := Finset.range 32) (f := fun u => if u ≤ r then f (r - u) else 0) ?_ ?_).symm |>.trans ?_
  · refine Finset.sum_congr rfl fun u hu => ?_
    have := Finset.mem_range.1 hu
    by_cases h : u ≤ r
    · rw [if_pos h, if_pos (by omega)]
      congr 1
      omega
    · rw [if_neg h, if_neg (by omega)]
  · intro u hu
    have := Finset.mem_range.1 hu
    exact Finset.mem_range.2 (by omega)
  · intro u _ hu
    exact if_neg fun h => hu (Finset.mem_range.2 (by omega))
  · refine Finset.sum_congr rfl fun u hu => ?_
    have := Finset.mem_range.1 hu
    exact if_pos (by omega)

/-- The window's shape. -/
abbrev W : Shape := ⟨4, ![1, 1, 32, 1]⟩

/-- The offsets of the windowed sum. -/
theorem win_at : ∀ n : Fin W.numel, (W.rowMajor.symm n 0).val = 0 ∧ (W.rowMajor.symm n 1).val = 0 ∧ (W.rowMajor.symm n 2).val = n.val
    ∧ (W.rowMajor.symm n 3).val = 0 := by decide +kernel

/-- The running sum down the rows of a chunk. -/
theorem cumsum4 (x : Vec Ideal S2x8x32x128 .f32) (z : Vec Ideal S_ .f32) (hz : z (Shape.Idx.first h_S_) = (0 : EReal)) (b : Fin 2) (h : Fin 8) (d : Fin 128)
    (f : ℕ → EReal) (hf : ∀ r : Fin 32, x (ix4 b h r d) = f r.val) (r : Fin 32) :
    Host.reduceWindowAdd (F := Ideal) (φ := .f32) ![1, 1, 32, 1] ![1, 1, 1, 1] ![0, 0, 31, 0] ![0, 0, 0, 0] x z reduceWindows_S2x8x32x128_S2x8x32x128_w1s1p0_0_w1s1p0_0_w32s1p31_0_w1s1p0_0 h_S_ (ix4 b h r d)
      = ∑ u ∈ Finset.range (r.val + 1), f (r.val - u) := by
  rw [← window_sum f r.val r.isLt]
  unfold Host.reduceWindowAdd
  rw [Ideal.hostReduceWindowAdd_def]
  unfold Ideal.hostReduceWindowAdd Host.reduceWindow
  dsimp only
  refine (foldl_add W.numel _ _).trans ?_
  rw [hz, zero_add]
  show ∑ n : Fin 32, _ = ∑ n : Fin 32, _
  refine Finset.sum_congr rfl fun n _ => ?_
  obtain ⟨h0, h1, h2, h3⟩ := win_at n
  have hn : n.val < 32 := n.isLt
  have hr := r.isLt
  by_cases hc : 31 ≤ r.val + n.val
  · rw [if_pos hc, dif_pos]
    · refine (congrArg x ?_).trans (hf ⟨r.val + n.val - 31, by omega⟩)
      funext a
      refine Fin.ext ?_
      match a with
      | ⟨0, _⟩ => show b.val * 1 + (W.rowMajor.symm n 0).val - 0 = b.val; rw [h0]; omega
      | ⟨1, _⟩ => show h.val * 1 + (W.rowMajor.symm n 1).val - 0 = h.val; rw [h1]; omega
      | ⟨2, _⟩ => show r.val * 1 + (W.rowMajor.symm n 2).val - 31 = r.val + n.val - 31; rw [h2]; omega
      | ⟨3, _⟩ => show d.val * 1 + (W.rowMajor.symm n 3).val - 0 = d.val; rw [h3]; omega
    · intro a
      match a with
      | ⟨0, _⟩ => show 0 ≤ b.val * 1 + (W.rowMajor.symm n 0).val ∧ b.val * 1 + (W.rowMajor.symm n 0).val - 0 < 2; rw [h0]; omega
      | ⟨1, _⟩ => show 0 ≤ h.val * 1 + (W.rowMajor.symm n 1).val ∧ h.val * 1 + (W.rowMajor.symm n 1).val - 0 < 8; rw [h1]; omega
      | ⟨2, _⟩ => show 31 ≤ r.val * 1 + (W.rowMajor.symm n 2).val ∧ r.val * 1 + (W.rowMajor.symm n 2).val - 31 < 32; rw [h2]; omega
      | ⟨3, _⟩ => show 0 ≤ d.val * 1 + (W.rowMajor.symm n 3).val ∧ d.val * 1 + (W.rowMajor.symm n 3).val - 0 < 128; rw [h3]; omega
  · rw [if_neg hc, dif_neg]
    intro hin
    have h31 : 31 ≤ r.val * 1 + (W.rowMajor.symm n 2).val := (hin 2).1
    rw [h2] at h31
    omega

/-- The trip's number as the loop's word, read signed. -/
theorem word (j : Fin 128) : (BitVec.ofNat 32 j.val).toInt = (j.val : Int) := by
  revert j
  decide +kernel

/-- The chunk a trip reads. -/
theorem slc (j : Fin 128) (x : (⟨S128x2x8x32x128, .f32⟩ : BufTy).Contents (Elt Ideal)) (st : Fin 5 → Int) (hst : st = ![(j.val : Int), 0, 0, 0, 0]) (b : Fin 2) (h : Fin 8) (r : Fin 32) (d : Fin 128) :
    shapeCast S2x8x32x128 (Host.dynamicSlice S1x2x8x32x128 x st sliceFits_S128x2x8x32x128_S1x2x8x32x128) shapeCasts_S1x2x8x32x128_S2x8x32x128 (ix4 b h r d)
      = x (ix5 j b h r d) := by
  have e : shapeCast S2x8x32x128 (Host.dynamicSlice S1x2x8x32x128 x st sliceFits_S128x2x8x32x128_S1x2x8x32x128) shapeCasts_S1x2x8x32x128_S2x8x32x128 (ix4 b h r d)
      = Host.dynamicSlice S1x2x8x32x128 x st sliceFits_S128x2x8x32x128_S1x2x8x32x128 (ix5 0 b h r d) := by
    generalize Host.dynamicSlice S1x2x8x32x128 x st sliceFits_S128x2x8x32x128_S1x2x8x32x128 = y
    pointwise
  rw [e]
  subst hst
  unfold Host.dynamicSlice extractStridedSlice
  refine congrArg x ?_
  funext a
  refine Fin.ext ?_
  match a with
  | ⟨0, _⟩ => show (min (max (j.val : Int) 0) ((128 - 1 : ℕ) : Int)).toNat + 0 = j.val; omega
  | ⟨1, _⟩ => show (min (max (0 : Int) 0) ((2 - 2 : ℕ) : Int)).toNat + b.val = b.val; omega
  | ⟨2, _⟩ => show (min (max (0 : Int) 0) ((8 - 8 : ℕ) : Int)).toNat + h.val = h.val; omega
  | ⟨3, _⟩ => show (min (max (0 : Int) 0) ((32 - 32 : ℕ) : Int)).toNat + r.val = r.val; omega
  | ⟨4, _⟩ => show (min (max (0 : Int) 0) ((128 - 128 : ℕ) : Int)).toNat + d.val = d.val; omega

/-- The chunk a trip writes. -/
theorem upd (j : Fin 128) (x : (⟨S128x2x8x32x128, .f32⟩ : BufTy).Contents (Elt Ideal)) (u : (⟨S1x2x8x32x128, .f32⟩ : BufTy).Contents (Elt Ideal)) (st : Fin 5 → Int) (hst : st = ![(j.val : Int), 0, 0, 0, 0]) (i : Fin 128) (b : Fin 2) (h : Fin 8) (r : Fin 32) (d : Fin 128) :
    Host.dynamicUpdateSlice x u st updateFits_S128x2x8x32x128_S1x2x8x32x128 (ix5 i b h r d) = if i = j then u (ix5 0 b h r d) else x (ix5 i b h r d) := by
  subst hst
  unfold Host.dynamicUpdateSlice updateSlice
  have hj := j.isLt
  have e0 : (min (max (j.val : Int) 0) ((128 - 1 : ℕ) : Int)).toNat = j.val := by omega
  by_cases hij : i = j
  · subst hij
    rw [if_pos rfl]
    refine (dif_pos ?_).trans (congrArg u ?_)
    · intro a
      match a with
      | ⟨0, _⟩ => show (min (max (i.val : Int) 0) ((128 - 1 : ℕ) : Int)).toNat ≤ i.val ∧ i.val < (min (max (i.val : Int) 0) ((128 - 1 : ℕ) : Int)).toNat + 1; omega
      | ⟨1, _⟩ => show (min (max (0 : Int) 0) ((2 - 2 : ℕ) : Int)).toNat ≤ b.val ∧ b.val < (min (max (0 : Int) 0) ((2 - 2 : ℕ) : Int)).toNat + 2; omega
      | ⟨2, _⟩ => show (min (max (0 : Int) 0) ((8 - 8 : ℕ) : Int)).toNat ≤ h.val ∧ h.val < (min (max (0 : Int) 0) ((8 - 8 : ℕ) : Int)).toNat + 8; omega
      | ⟨3, _⟩ => show (min (max (0 : Int) 0) ((32 - 32 : ℕ) : Int)).toNat ≤ r.val ∧ r.val < (min (max (0 : Int) 0) ((32 - 32 : ℕ) : Int)).toNat + 32; omega
      | ⟨4, _⟩ => show (min (max (0 : Int) 0) ((128 - 128 : ℕ) : Int)).toNat ≤ d.val ∧ d.val < (min (max (0 : Int) 0) ((128 - 128 : ℕ) : Int)).toNat + 128; omega
    · funext a
      refine Fin.ext ?_
      match a with
      | ⟨0, _⟩ => show i.val - (min (max (i.val : Int) 0) ((128 - 1 : ℕ) : Int)).toNat = 0; omega
      | ⟨1, _⟩ => show b.val - (min (max (0 : Int) 0) ((2 - 2 : ℕ) : Int)).toNat = b.val; omega
      | ⟨2, _⟩ => show h.val - (min (max (0 : Int) 0) ((8 - 8 : ℕ) : Int)).toNat = h.val; omega
      | ⟨3, _⟩ => show r.val - (min (max (0 : Int) 0) ((32 - 32 : ℕ) : Int)).toNat = r.val; omega
      | ⟨4, _⟩ => show d.val - (min (max (0 : Int) 0) ((128 - 128 : ℕ) : Int)).toNat = d.val; omega
  · rw [if_neg hij]
    refine dif_neg fun hin => hij (Fin.ext ?_)
    have h0 : (min (max (j.val : Int) 0) ((128 - 1 : ℕ) : Int)).toNat ≤ i.val ∧ i.val < (min (max (j.val : Int) 0) ((128 - 1 : ℕ) : Int)).toNat + 1 := hin 0
    omega

/-- What the loop's state holds before chunk `n`. -/
structure Inv (LB : Fin 8 → Fin 128 → EReal) (Q FF V : Fin 2 → Fin 8 → Hgrn.Seq) (n : ℕ) (s : State Ideal) : Prop where
  hq : ∀ (j : Fin 128) (b : Fin 2) (h : Fin 8) (r : Fin 32) (d : Fin 128), s.main_v55_0 (ix5 j b h r d) = Hgrn.qry (Q b h) (32 * j.val + r.val) d
  hk : ∀ (j : Fin 128) (b : Fin 2) (h : Fin 8) (r : Fin 32) (d : Fin 128), s.main_v55_1 (ix5 j b h r d) = Hgrn.key (LB h) (FF b h) (32 * j.val + r.val) d
  hv : ∀ (j : Fin 128) (b : Fin 2) (h : Fin 8) (r : Fin 32) (d : Fin 128), s.main_v55_2 (ix5 j b h r d) = V b h (32 * j.val + r.val) d
  hl : ∀ (j : Fin 128) (b : Fin 2) (h : Fin 8) (r : Fin 32) (d : Fin 128), s.main_v55_3 (ix5 j b h r d) = Ideal.log (Hgrn.gate (LB h) (FF b h) (32 * j.val + r.val) d)
  hS : ∀ (b : Fin 2) (h : Fin 8) (d e : Fin 128), s.main_v55_6 (ix4 b h d e) = Hgrn.stt (LB h) (FF b h) (V b h) n e d
  hO : ∀ (j : Fin 128) (b : Fin 2) (h : Fin 8) (r : Fin 32) (e : Fin 128), j.val < n →
    s.main_v55_7 (ix5 j b h r e) = Hgrn.outT (LB h) (Q b h) (FF b h) (V b h) (32 * j.val + r.val) e

section Trip

variable {LB : Fin 8 → Fin 128 → EReal} {Q FF V : Fin 2 → Fin 8 → Hgrn.Seq} (j : Fin 128) {s : State Ideal} (H : Inv LB Q FF V j.val s)
include H

/-- Where the slices of chunk `j` start. -/
theorem start (z0 z1 z2 z3 : (⟨S_, .i32⟩ : BufTy).Contents (Elt Ideal)) (h0 : z0 = constantI S_ 32 0#32) (h1 : z1 = constantI S_ 32 0#32) (h2 : z2 = constantI S_ 32 0#32) (h3 : z3 = constantI S_ 32 0#32) :
    (fun k => (((![(constantI S_ 32 (BitVec.ofNat 32 j.val) : (⟨S_, .i32⟩ : BufTy).Contents (Elt Ideal)), z0, z1, z2, z3] : Fin 5 → (⟨S_, .i32⟩ : BufTy).Contents (Elt Ideal))) k (Shape.Idx.first h_S_)).toInt)
      = ![(j.val : Int), 0, 0, 0, 0] := by
  subst h0 h1 h2 h3
  funext k
  match k with
  | ⟨0, _⟩ => exact word j
  | ⟨1, _⟩ => rfl
  | ⟨2, _⟩ => rfl
  | ⟨3, _⟩ => rfl
  | ⟨4, _⟩ => rfl

variable (b : Fin 2) (h : Fin 8)

/-- The chunk's queries; -/
theorem b5_at (r : Fin 32) (d : Fin 128) : b5 j.val s (ix4 b h r d) = Hgrn.qry (Q b h) (32 * j.val + r.val) d := by
  unfold b5 b4
  exact (slc j _ _ (start j H _ _ _ _ rfl rfl rfl rfl) b h r d).trans (H.hq j b h r d)

/-- its keys; -/
theorem b11_at (r : Fin 32) (d : Fin 128) : b11 j.val s (ix4 b h r d) = Hgrn.key (LB h) (FF b h) (32 * j.val + r.val) d := by
  unfold b11 b10
  exact (slc j _ _ (start j H _ _ _ _ rfl rfl rfl rfl) b h r d).trans (H.hk j b h r d)

/-- its values; -/
theorem b17_at (r : Fin 32) (d : Fin 128) : b17 j.val s (ix4 b h r d) = V b h (32 * j.val + r.val) d := by
  unfold b17 b16
  exact (slc j _ _ (start j H _ _ _ _ rfl rfl rfl rfl) b h r d).trans (H.hv j b h r d)

/-- its log gates. -/
theorem b23_at (r : Fin 32) (d : Fin 128) : b23 j.val s (ix4 b h r d) = Ideal.log (Hgrn.gate (LB h) (FF b h) (32 * j.val + r.val) d) := by
  unfold b23 b22
  exact (slc j _ _ (start j H _ _ _ _ rfl rfl rfl rfl) b h r d).trans (H.hl j b h r d)

/-- The running sums of the log decays. -/
theorem b26_at (r : Fin 32) (d : Fin 128) : b26 j.val s (ix4 b h r d) = Hgrn.cum (LB h) (FF b h) (32 * j.val + r.val) d := by
  unfold b26
  refine (cumsum4 _ _ (Ideal.ofBits_zero .f32) b h d (fun u => Ideal.log (Hgrn.gate (LB h) (FF b h) (32 * j.val + u) d)) (fun r => b23_at j H b h r d) r).trans ?_
  unfold Hgrn.cum
  rw [show (32 * j.val + r.val) % 32 = r.val by omega]
  refine Finset.sum_congr rfl fun u hu => ?_
  have := Finset.mem_range.1 hu
  rw [show 32 * j.val + (r.val - u) = 32 * j.val + r.val - u by omega]

/-- The query times its decay. -/
theorem b28_at (r : Fin 32) (d : Fin 128) : b28 j.val s (ix4 b h r d)
    = Hgrn.qry (Q b h) (32 * j.val + r.val) d * Ideal.exp (Hgrn.cum (LB h) (FF b h) (32 * j.val + r.val) d) := by
  unfold b28 b27
  pointwise
  rw [b5_at j H, b26_at j H]

/-- The key over its decay. -/
theorem b31_at (r : Fin 32) (d : Fin 128) : b31 j.val s (ix4 b h r d)
    = Hgrn.key (LB h) (FF b h) (32 * j.val + r.val) d * Ideal.exp (-Hgrn.cum (LB h) (FF b h) (32 * j.val + r.val) d) := by
  unfold b31 b30 b29
  pointwise
  rw [b11_at j H, b26_at j H]

/-- The key times the decay from its row to the chunk's end. -/
theorem b50_at (r : Fin 32) (d : Fin 128) : b50 j.val s (ix4 b h r d)
    = Hgrn.key (LB h) (FF b h) (32 * j.val + r.val) d * Ideal.exp (Hgrn.cum (LB h) (FF b h) (32 * j.val + 31) d - Hgrn.cum (LB h) (FF b h) (32 * j.val + r.val) d) := by
  unfold b50 b49 b48 b47 b41
  pointwise
  rw [b11_at j H, b26_at j H, b26_at j H]
  rfl

end Trip

/-- The causal mask. -/
theorem mask (r x : Fin 32) : K_main_v41 (F := Ideal) (ix2 r x) = if x.val ≤ r.val then 1#1 else 0#1 := by
  revert r x
  decide +kernel

section Trip2

variable {LB : Fin 8 → Fin 128 → EReal} {Q FF V : Fin 2 → Fin 8 → Hgrn.Seq} (j : Fin 128) {s : State Ideal} (H : Inv LB Q FF V j.val s)
include H
variable (b : Fin 2) (h : Fin 8)

/-- The masked weights. -/
theorem b37_at (r x : Fin 32) : b37 j.val s (ix4 b h r x) = if x.val ≤ r.val then
      (∑ d : Fin 128, Hgrn.qry (Q b h) (32 * j.val + r.val) d * Ideal.exp (Hgrn.cum (LB h) (FF b h) (32 * j.val + r.val) d)
        * (Hgrn.key (LB h) (FF b h) (32 * j.val + x.val) d * Ideal.exp (-Hgrn.cum (LB h) (FF b h) (32 * j.val + x.val) d))) else 0 := by
  unfold b37 b36 b35 b34 b33 b32
  pointwise
  rw [mask]
  by_cases hx : x.val ≤ r.val
  · rw [if_pos hx, if_pos hx]
    refine (if_pos rfl).trans (Finset.sum_congr rfl fun d _ => ?_)
    rw [b28_at j H, b31_at j H]
  · rw [if_neg hx, if_neg hx]
    exact if_neg (by decide)

/-- A chunk's outputs. -/
theorem b40_at (r : Fin 32) (e : Fin 128) : b40 j.val s (ix4 b h r e)
    = Hgrn.outT (LB h) (Q b h) (FF b h) (V b h) (32 * j.val + r.val) e := by
  unfold b40 b39 b38
  pointwise
  unfold Hgrn.outT Hgrn.out
  rw [show (32 * j.val + r.val) / 32 = j.val by omega, show (32 * j.val + r.val) % 32 = r.val by omega]
  refine congrArg₂ (· + ·) (Finset.sum_congr rfl fun d _ => ?_) (Finset.sum_congr rfl fun x _ => ?_)
  · rw [b28_at j H, H.hS]
  · rw [b37_at j H, b17_at j H]
    by_cases hx : x.val ≤ r.val
    · rw [if_pos hx, if_pos hx]
    · rw [if_neg hx, if_neg hx, zero_mul]

/-- The state after the chunk. -/
theorem b52_at (d e : Fin 128) : b52 j.val s (ix4 b h d e) = Hgrn.stt (LB h) (FF b h) (V b h) (j.val + 1) e d := by
  unfold b52 b51 b46 b45 b44 b43 b42 b41
  pointwise
  unfold Hgrn.stt Hgrn.stp
  refine congrArg₂ (· + ·) ?_ (Finset.sum_congr rfl fun x _ => ?_)
  · rw [b26_at j H, H.hS, mul_comm]
    rfl
  · rw [b50_at j H, b17_at j H, mul_comm]

/-- One trip keeps the invariant. -/
theorem step_inv : Inv LB Q FF V (j.val + 1) (step j.val s) where
  hq := H.hq
  hk := H.hk
  hv := H.hv
  hl := H.hl
  hS b h d e := b52_at j H b h d e
  hO i b h r e hi := by
    show b58 j.val s _ = _
    unfold b58
    refine (upd j _ _ _ (start j H _ _ _ _ rfl rfl rfl rfl) i b h r e).trans ?_
    by_cases hij : i = j
    · subst hij
      rw [if_pos rfl]
      refine Eq.trans ?_ (b40_at i H b h r e)
      unfold b53
      pointwise
    · rw [if_neg hij]
      exact H.hO i b h r e (by have : i.val ≠ j.val := fun e => hij (Fin.ext e); omega)

end Trip2

end Cert.HgrnPromptRefIdeal.RefStep

end
-- ==== Proof.RefOut.lean ====
/- The reference's results, element by element. -/
module

public import proofs.«01_k».proof.Proof.RefStep

@[expose] public section

set_option maxRecDepth 16384

noncomputable section

namespace Cert.HgrnPromptRefIdeal.RefOut

open Cert.HgrnPromptRefIdeal Cert.HgrnPromptRefIdeal.Gen Cert.HgrnPromptRefIdeal.Step Cert.HgrnPromptRefIdeal.RefIn Cert.HgrnPromptRefIdeal.RefStep Idealize.ShloMosaic Cert

variable (a0 : (⟨S8320x4096, .f32⟩ : BufTy).Contents (Elt Ideal)) (a1 : (⟨S2x1024, .f32⟩ : BufTy).Contents (Elt Ideal)) (a2 : (⟨S1x8x128, .f32⟩ : BufTy).Contents (Elt Ideal))

/-- The states of the loop. -/
def it : ℕ → State Ideal
  | 0 => Step.init a0 a1
  | n + 1 => step n (it n)

/-- The invariant at every trip. -/
theorem inv : ∀ n, n ≤ 128 → Inv (LB a0 a1) (fun b h => Hgrn.seqOf a0 0 b.val h) (fun b h => Hgrn.seqOf a0 1 b.val h) (fun b h => Hgrn.seqOf a0 2 b.val h) n (it a0 a1 n)
  | 0, _ => {
      hq := v44 a0 a1
      hk := v47 a0 a1
      hv := v50 a0 a1
      hl := v53 a0 a1
      hS := fun b h d e => Ideal.ofBits_zero .f32
      hO := fun j b h r e hj => absurd hj (Nat.not_lt_zero _) }
  | n + 1, hn => step_inv ⟨n, hn⟩ (inv n (Nat.le_of_succ_le hn))

/-- The normalised, gated outputs. -/
theorem out (s : State Ideal) (O : Fin 2 → Fin 8 → Hgrn.Seq)
    (hO : ∀ (j : Fin 128) (b : Fin 2) (h : Fin 8) (r : Fin 32) (e : Fin 128), s.main_v55_7 (ix5 j b h r e) = O b h (32 * j.val + r.val) e)
    (b : Fin 2) (t : Fin 4096) (h : Fin 8) (e : Fin 128) (i : S8192x1024.Idx) (hi : i = ix2 ⟨4096 * b.val + t.val, by omega⟩ ⟨128 * h.val + e.val, by omega⟩) :
    R_main_v77 s a0 a2 i = Hgrn.fin (O b h) (fun d => a2 (ix3 0 h d)) (Hgrn.seqOf a0 3 b.val h) t.val e := by
  subst hi
  unfold R_main_v77
  pointwise
  have hx : ∀ x : Fin 128, s.main_v55_7 (ix5 ⟨t.val / 32, by omega⟩ b h ⟨t.val % 32, by omega⟩ x) = O b h t.val x := fun x =>
    (hO _ b h _ x).trans (congrArg (fun u => O b h u x) (by show 32 * (t.val / 32) + t.val % 32 = t.val; omega))
  have hg := seqOf_congr a0 (k := 3) (b := b.val) (h := h) (t := t.val) (d := e) ⟨b.val * 4096 + t.val, by omega⟩ ⟨3072 + (h.val * 128 + e.val), by omega⟩
    (by show b.val * 4096 + t.val = _; omega) (by show 3072 + (h.val * 128 + e.val) = _; omega)
  simp only [hx, hg]
  rfl

/-- The final states. -/
theorem fin (b : Fin 2) (h : Fin 8) (e d : Fin 128) :
    R_main_v78 (it a0 a1 128) (ix4 b h e d) = Hgrn.stt (LB a0 a1 h) (Hgrn.seqOf a0 1 b.val h) (Hgrn.seqOf a0 2 b.val h) 128 e d := by
  unfold R_main_v78
  pointwise
  exact (inv a0 a1 128 (Nat.le_refl _)).hS b h d e

end Cert.HgrnPromptRefIdeal.RefOut

end
-- ==== Proof.RefRun.lean ====
/- The reference's run, with the loop's states given by `RefOut.it`. -/
module

public import proofs.«01_k».proof.Proof.LoopRun
public import proofs.«01_k».proof.Proof.RefOut
public import Idealize.ShloMosaic.Lib.Quiescent

@[expose] public section

set_option maxRecDepth 16384

noncomputable section

namespace Cert.HgrnPromptRefIdeal.RefRun

open Idealize.ShloMosaic Idealize.ShloMosaic.TcCoe Idealize.SL.Sem Cert Cert.HgrnPromptRefIdeal Cert.HgrnPromptRefIdeal.Gen

/-- The reference's results are read off the state after the 128 steps of its loop; its arguments are unchanged;
    no semaphore is declared, so none is left raised. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v77) = Step.R_main_v77 (RefOut.it (m ((c.tc : Thread nD τ).loc main_arg0)) (m ((c.tc : Thread nD τ).loc main_arg1)) 128)
          (m ((c.tc : Thread nD τ).loc main_arg0)) (m ((c.tc : Thread nD τ).loc main_arg2))
      ∧ r.2.mem ((c.tc : Thread nD τ).loc main_v78) = Step.R_main_v78 (RefOut.it (m ((c.tc : Thread nD τ).loc main_arg0)) (m ((c.tc : Thread nD τ).loc main_arg1)) 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run _ _ _).mono (fun _ h => ⟨h, sem_eq_zero_of_no_sems (by decide) _⟩)
    (LoopRun.run_iter m ρ (fun c => RefOut.it (m ((c.tc : Thread nD τ).loc main_arg0)) (m ((c.tc : Thread nD τ).loc main_arg1)))
      (fun _ => rfl) (fun _ _ => rfl))

end Cert.HgrnPromptRefIdeal.RefRun

end
-- ==== Proof.Head.lean ====
/- One head of the recurrence kernel as vector operations: the gates, the running sum of the log decays inside each
   chunk, the in-chunk attention, the carried state chunk after chunk, and the normalised and gated output. Every head of
   the kernel's body computes these same operations on its own columns. -/
module

public import proofs.«01_k».proof.Proof.Gen.HgrnPromptIdeal.Frame

@[expose] public section

set_option maxRecDepth 16384

noncomputable section

namespace Cert.HgrnPromptIdeal.Head

open Cert.HgrnPromptIdeal Cert.HgrnPromptIdeal.Gen Idealize.ShloMosaic Idealize.ShloMosaic.TcCoe Idealize.SL.Sem

variable {F : FTy → Type} [FloatOps F]

/-- The logistic function as the kernel writes it, `1 / (1 + exp (0 - x))`. -/
def sgm (x : FVec F S512x128 .f32) : FVec F S512x128 .f32 :=
  divf (broadcast S512x128 (Scalar.ofBits .f32 0x3F800000#32))
    (addf (broadcast S512x128 (Scalar.ofBits .f32 0x3F800000#32)) (exp (subf (broadcast S512x128 (Scalar.ofBits .f32 0x00000000#32)) x)))

/-- `x` times its logistic. -/
def silu (x : FVec F S512x128 .f32) : FVec F S512x128 .f32 := mulf x (sgm x)

/-- A row of 128 repeated along the 512 rows of a block. -/
def rowB (v : FVec F S1x128 .f32) : FVec F S512x128 .f32 := broadcastTo S512x128 v broadcasts_S1x128_S512x128

/-- The decay gate `lb + (1 - lb) · logistic`. -/
def fg (lb : FVec F S1x128 .f32) (hf : FVec F S512x128 .f32) : FVec F S512x128 .f32 :=
  addf (rowB lb) (mulf (rowB (subf (broadcast S1x128 (Scalar.ofBits .f32 0x3F800000#32)) lb)) (sgm hf))

/-- The key: one minus the decay gate. -/
def kg (lb : FVec F S1x128 .f32) (hf : FVec F S512x128 .f32) : FVec F S512x128 .f32 :=
  subf (broadcast S512x128 (Scalar.ofBits .f32 0x3F800000#32)) (fg lb hf)

/-- One doubling step of the running sum: each row adds the row `n` above it, where that row is in the same chunk. -/
def dbl (n : BitVec 32) (x : FVec F S512x128 .f32) : FVec F S512x128 .f32 :=
  addf x (select (cmpi .sge (k0_pay13) (broadcast S512x128 n)) (dynamicRotate 0 n none x rotates_S512x128_d0)
    (broadcast S512x128 (Scalar.ofBits .f32 0x00000000#32)))

/-- The running sum of the log decays inside each chunk of 32 rows. -/
def bc (lb : FVec F S1x128 .f32) (hf : FVec F S512x128 .f32) : FVec F S512x128 .f32 :=
  dbl 16#32 (dbl 8#32 (dbl 4#32 (dbl 2#32 (dbl 1#32 (log (fg lb hf))))))

/-- A block of 512 rows as 16 chunks of 32. -/
def ch (x : FVec F S512x128 .f32) : FVec F S16x32x128 .f32 := shapeCast S16x32x128 x shapeCasts_S512x128_S16x32x128

/-- The last row of each chunk of the running sum. -/
def bl (lb : FVec F S1x128 .f32) (hf : FVec F S512x128 .f32) : FVec F S16x1x128 .f32 :=
  extractStridedSlice S16x1x128 ![0, 31, 0] (ch (bc lb hf)) slices_S16x32x128_o0_31_0_S16x1x128

/-- The values, chunked. -/
def vb (v : FVec F S512x128 .f32) : FVec F S16x32x128 .bf16 := truncf .bf16 (ch v) bitsLt_bf16_f32

/-- The queries scaled by the decay from the chunk's start. -/
def qe (lb : FVec F S1x128 .f32) (hf hq : FVec F S512x128 .f32) : FVec F S16x32x128 .bf16 :=
  truncf .bf16 (mulf (ch (silu hq)) (exp (ch (bc lb hf)))) bitsLt_bf16_f32

/-- The keys scaled back to the chunk's start. -/
def ke (lb : FVec F S1x128 .f32) (hf : FVec F S512x128 .f32) : FVec F S16x32x128 .bf16 :=
  truncf .bf16 (mulf (ch (kg lb hf)) (exp (subf (broadcast S16x32x128 (Scalar.ofBits .f32 0x00000000#32)) (ch (bc lb hf)))))
    bitsLt_bf16_f32

/-- The keys scaled on to the chunk's end. -/
def kd (lb : FVec F S1x128 .f32) (hf : FVec F S512x128 .f32) : FVec F S16x32x128 .bf16 :=
  truncf .bf16 (mulf (ch (kg lb hf)) (exp (subf (broadcastTo S16x32x128 (bl lb hf) broadcasts_S16x1x128_S16x32x128) (ch (bc lb hf)))))
    bitsLt_bf16_f32

/-- The decay over each whole chunk. -/
def dec (lb : FVec F S1x128 .f32) (hf : FVec F S512x128 .f32) : FVec F S16x1x128 .f32 := exp (bl lb hf)

/-- The attention inside each chunk, rows after the query's masked off. -/
def att (lb : FVec F S1x128 .f32) (hf hq : FVec F S512x128 .f32) : FVec F S16x32x32 .bf16 :=
  truncf .bf16 (select
    (broadcastTo S16x32x32 (shapeCast S1x32x32 (shapeCast S1x32x32 (cmpi .sge (iota .tc S32x32 32 [0] iota_S32x32_d0_w32)
      (iota .tc S32x32 32 [1] iota_S32x32_d1_w32)) shapeCasts_S32x32_S1x32x32) shapeCasts_S1x32x32_S1x32x32) broadcasts_S1x32x32_S16x32x32)
    (matmul dot_S16x32x128_S16x32x128_S16x32x32_2_2_1_1_0_0 none (qe lb hf hq) (ke lb hf) (constant S16x32x32 .f32 0x00000000#32))
    (broadcast S16x32x32 (Scalar.ofBits .f32 0x00000000#32))) bitsLt_bf16_f32

/-- What each chunk's own rows give its outputs. -/
def oi (lb : FVec F S1x128 .f32) (hf hq v : FVec F S512x128 .f32) : FVec F S16x32x128 .f32 :=
  matmul dot_S16x32x32_S16x32x128_S16x32x128_2_1_1_2_0_0 none (att lb hf hq) (vb v) (constant S16x32x128 .f32 0x00000000#32)

/-- A chunk of 32 rows is in range. -/
theorem slC (c : ℕ) (h : c < 16) : S16x32x128.Slices ![c, 0, 0] S1x32x128 :=
  ⟨rfl, fun a => by match a with
    | ⟨0, _⟩ => show c + 1 ≤ 16; omega
    | ⟨1, _⟩ => exact Nat.le_refl 32
    | ⟨2, _⟩ => exact Nat.le_refl 128⟩

/-- A chunk's last row is in range. -/
theorem slD (c : ℕ) (h : c < 16) : S16x1x128.Slices ![c, 0, 0] S1x1x128 :=
  ⟨rfl, fun a => by match a with
    | ⟨0, _⟩ => show c + 1 ≤ 16; omega
    | ⟨1, _⟩ => exact Nat.le_refl 1
    | ⟨2, _⟩ => exact Nat.le_refl 128⟩

/-- Chunk `c` of the chunked rows. -/
def row {α : Type} (c : ℕ) (h : c < 16) (x : S16x32x128.Idx → α) : S32x128.Idx → α :=
  shapeCast S32x128 (extractStridedSlice S1x32x128 ![c, 0, 0] x (slC c h)) shapeCasts_S1x32x128_S32x128

/-- The state after chunk `c` from the state before it. -/
def stp (lb : FVec F S1x128 .f32) (hf v : FVec F S512x128 .f32) (c : ℕ) (h : c < 16) (st : FVec F S128x128 .f32) : FVec F S128x128 .f32 :=
  addf (mulf st (broadcastTo S128x128 (shapeCast S1x128 (extractStridedSlice S1x1x128 ![c, 0, 0] (dec lb hf) (slD c h)) shapeCasts_S1x1x128_S1x128)
      broadcasts_S1x128_S128x128))
    (matmul dot_S32x128_S32x128_S128x128_0_0_1_1_n_n none (row c h (vb v)) (row c h (kd lb hf)) (constant S128x128 .f32 0x00000000#32))

/-- The outputs of chunk `c` from the state before it. -/
def outc (lb : FVec F S1x128 .f32) (hf hq v : FVec F S512x128 .f32) (c : ℕ) (h : c < 16) (st : FVec F S128x128 .f32) : FVec F S32x128 .f32 :=
  addf (matmul dot_S32x128_S128x128_S32x128_1_1_0_0_n_n none (row c h (qe lb hf hq)) (truncf .bf16 st bitsLt_bf16_f32) (constant S32x128 .f32 0x00000000#32))
    (row c h (oi lb hf hq v))

/-- The state before chunk 0. -/
def st0 (_lb : FVec F S1x128 .f32) (_hf _v : FVec F S512x128 .f32) (st : FVec F S128x128 .f32) : FVec F S128x128 .f32 := st
/-- The state after 1 chunk. -/
def st1 (lb : FVec F S1x128 .f32) (hf v : FVec F S512x128 .f32) (st : FVec F S128x128 .f32) : FVec F S128x128 .f32 :=
  stp lb hf v 0 (by decide) (st0 lb hf v st)
/-- The state after 2 chunks. -/
def st2 (lb : FVec F S1x128 .f32) (hf v : FVec F S512x128 .f32) (st : FVec F S128x128 .f32) : FVec F S128x128 .f32 :=
  stp lb hf v 1 (by decide) (st1 lb hf v st)
/-- The state after 3 chunks. -/
def st3 (lb : FVec F S1x128 .f32) (hf v : FVec F S512x128 .f32) (st : FVec F S128x128 .f32) : FVec F S128x128 .f32 :=
  stp lb hf v 2 (by decide) (st2 lb hf v st)
/-- The state after 4 chunks. -/
def st4 (lb : FVec F S1x128 .f32) (hf v : FVec F S512x128 .f32) (st : FVec F S128x128 .f32) : FVec F S128x128 .f32 :=
  stp lb hf v 3 (by decide) (st3 lb hf v st)
/-- The state after 5 chunks. -/
def st5 (lb : FVec F S1x128 .f32) (hf v : FVec F S512x128 .f32) (st : FVec F S128x128 .f32) : FVec F S128x128 .f32 :=
  stp lb hf v 4 (by decide) (st4 lb hf v st)
/-- The state after 6 chunks. -/
def st6 (lb : FVec F S1x128 .f32) (hf v : FVec F S512x128 .f32) (st : FVec F S128x128 .f32) : FVec F S128x128 .f32 :=
  stp lb hf v 5 (by decide) (st5 lb hf v st)
/-- The state after 7 chunks. -/
def st7 (lb : FVec F S1x128 .f32) (hf v : FVec F S512x128 .f32) (st : FVec F S128x128 .f32) : FVec F S128x128 .f32 :=
  stp lb hf v 6 (by decide) (st6 lb hf v st)
/-- The state after 8 chunks. -/
def st8 (lb : FVec F S1x128 .f32) (hf v : FVec F S512x128 .f32) (st : FVec F S128x128 .f32) : FVec F S128x128 .f32 :=
  stp lb hf v 7 (by decide) (st7 lb hf v st)
/-- The state after 9 chunks. -/
def st9 (lb : FVec F S1x128 .f32) (hf v : FVec F S512x128 .f32) (st : FVec F S128x128 .f32) : FVec F S128x128 .f32 :=
  stp lb hf v 8 (by decide) (st8 lb hf v st)
/-- The state after 10 chunks. -/
def st10 (lb : FVec F S1x128 .f32) (hf v : FVec F S512x128 .f32) (st : FVec F S128x128 .f32) : FVec F S128x128 .f32 :=
  stp lb hf v 9 (by decide) (st9 lb hf v st)
/-- The state after 11 chunks. -/
def st11 (lb : FVec F S1x128 .f32) (hf v : FVec F S512x128 .f32) (st : FVec F S128x128 .f32) : FVec F S128x128 .f32 :=
  stp lb hf v 10 (by decide) (st10 lb hf v st)
/-- The state after 12 chunks. -/
def st12 (lb : FVec F S1x128 .f32) (hf v : FVec F S512x128 .f32) (st : FVec F S128x128 .f32) : FVec F S128x128 .f32 :=
  stp lb hf v 11 (by decide) (st11 lb hf v st)
/-- The state after 13 chunks. -/
def st13 (lb : FVec F S1x128 .f32) (hf v : FVec F S512x128 .f32) (st : FVec F S128x128 .f32) : FVec F S128x128 .f32 :=
  stp lb hf v 12 (by decide) (st12 lb hf v st)
/-- The state after 14 chunks. -/
def st14 (lb : FVec F S1x128 .f32) (hf v : FVec F S512x128 .f32) (st : FVec F S128x128 .f32) : FVec F S128x128 .f32 :=
  stp lb hf v 13 (by decide) (st13 lb hf v st)
/-- The state after 15 chunks. -/
def st15 (lb : FVec F S1x128 .f32) (hf v : FVec F S512x128 .f32) (st : FVec F S128x128 .f32) : FVec F S128x128 .f32 :=
  stp lb hf v 14 (by decide) (st14 lb hf v st)
/-- The state after 16 chunks. -/
def st16 (lb : FVec F S1x128 .f32) (hf v : FVec F S512x128 .f32) (st : FVec F S128x128 .f32) : FVec F S128x128 .f32 :=
  stp lb hf v 15 (by decide) (st15 lb hf v st)

/-- The outputs of the 16 chunks, in order. -/
def outs (lb : FVec F S1x128 .f32) (hf hq v : FVec F S512x128 .f32) (st : FVec F S128x128 .f32) : FVec F S512x128 .f32 :=
  concatenate S512x128 0 [⟨S32x128, outc lb hf hq v 0 (by decide) (st0 lb hf v st)⟩, ⟨S32x128, outc lb hf hq v 1 (by decide) (st1 lb hf v st)⟩, ⟨S32x128, outc lb hf hq v 2 (by decide) (st2 lb hf v st)⟩, ⟨S32x128, outc lb hf hq v 3 (by decide) (st3 lb hf v st)⟩, ⟨S32x128, outc lb hf hq v 4 (by decide) (st4 lb hf v st)⟩, ⟨S32x128, outc lb hf hq v 5 (by decide) (st5 lb hf v st)⟩, ⟨S32x128, outc lb hf hq v 6 (by decide) (st6 lb hf v st)⟩, ⟨S32x128, outc lb hf hq v 7 (by decide) (st7 lb hf v st)⟩, ⟨S32x128, outc lb hf hq v 8 (by decide) (st8 lb hf v st)⟩, ⟨S32x128, outc lb hf hq v 9 (by decide) (st9 lb hf v st)⟩, ⟨S32x128, outc lb hf hq v 10 (by decide) (st10 lb hf v st)⟩, ⟨S32x128, outc lb hf hq v 11 (by decide) (st11 lb hf v st)⟩, ⟨S32x128, outc lb hf hq v 12 (by decide) (st12 lb hf v st)⟩, ⟨S32x128, outc lb hf hq v 13 (by decide) (st13 lb hf v st)⟩, ⟨S32x128, outc lb hf hq v 14 (by decide) (st14 lb hf v st)⟩, ⟨S32x128, outc lb hf hq v 15 (by decide) (st15 lb hf v st)⟩]
    concatenates_S32x128_S32x128_S32x128_S32x128_S32x128_S32x128_S32x128_S32x128_S32x128_S32x128_S32x128_S32x128_S32x128_S32x128_S32x128_S32x128_S512x128_d0

/-- The mean square of each row of the outputs. -/
def msq (x : FVec F S512x128 .f32) : FVec F S512x1 .f32 :=
  divf (shapeCast S512x1 (multiReduction .add [1] S512 (mulf x x) 0x00000000#32 reduces_S512x128_S512 (.inl rfl) rfl) shapeCasts_S512_S512x1)
    (broadcast S512x1 (Scalar.ofBits .f32 0x43000000#32))

/-- A head's outputs: each row divided by its root mean square, times the norm's weights, times the gate. -/
def fin (x : FVec F S512x128 .f32) (nrm : FVec F S1x128 .f32) (hg : FVec F S512x128 .f32) : FVec F S512x128 .bf16 :=
  truncf .bf16 (mulf (mulf (mulf x (broadcastTo S512x128 (rsqrt (addf (msq x) (broadcast S512x1 (Scalar.ofBits .f32 0x3727C5AC#32))))
    broadcasts_S512x1_S512x128)) (rowB nrm)) (silu hg)) bitsLt_bf16_f32

/-- A row of 128 read from a block of one row. -/
def r1 (v : Vec F S1x1x128 .f32) : FVec F S1x128 .f32 := shapeCast S1x128 v shapeCasts_S1x1x128_S1x128

/-- A state read from a block of one. -/
def s1 (v : Vec F S1x128x128 .f32) : FVec F S128x128 .f32 := shapeCast S128x128 v shapeCasts_S1x128x128_S128x128

/-- A head's state after the block's 16 chunks. -/
def hst (lb : Vec F S1x1x128 .f32) (hf v : Vec F S512x128 .f32) (st : Vec F S1x128x128 .f32) : FVec F S128x128 .f32 :=
  st16 (r1 lb) hf v (s1 st)

/-- A head's outputs for the block. -/
def hout (lb nrm : Vec F S1x1x128 .f32) (hq hf v hg : Vec F S512x128 .f32) (st : Vec F S1x128x128 .f32) : FVec F S512x128 .bf16 :=
  fin (outs (r1 lb) hf hq v (s1 st)) (r1 nrm) hg

end Cert.HgrnPromptIdeal.Head

end
-- ==== Proof.Pieces.lean ====
/- What the body stores, head by head, in terms of the generic head: its outputs, its states, and the carried states. -/
module

public import proofs.«01_k».proof.Proof.Head

@[expose] public section

set_option maxRecDepth 16384

noncomputable section

namespace Cert.HgrnPromptIdeal.Head

open Cert.HgrnPromptIdeal Cert.HgrnPromptIdeal.Gen Idealize.ShloMosaic Idealize.ShloMosaic.TcCoe Idealize.SL.Sem

variable {F : FTy → Type} [FloatOps F]

/-- Head `h`'s 128 columns of a block, as loaded. -/
def ldc (a : Memref sig .tc .vmem S512x1024 .f32) (ha : a.IsWhole) (x : Vec F S512x1024 .f32) (o : ℕ)
    (ho : ∀ d, ![0, o] d + S512x128.size d ≤ S512x1024.size d) : Vec F S512x128 .f32 :=
  View.readAt (Elt F) a.view (Rect.unit (s := S512x1024) ![0, o] S512x128.size ho).toLoadRect (ha.unread x)

/-- Head `h`'s row of a small operand, as loaded. -/
def ldr (a : Memref sig .tc .vmem S8x1x128 .f32) (ha : a.IsWhole) (x : Vec F S8x1x128 .f32) (h : ℕ)
    (ho : ∀ d, ![h, 0, 0] d + S1x1x128.size d ≤ S8x1x128.size d) : Vec F S1x1x128 .f32 :=
  View.readAt (Elt F) a.view (Rect.unit (s := S8x1x128) ![h, 0, 0] S1x1x128.size ho).toLoadRect (ha.unread x)

/-- Head `h`'s carried state, as loaded. -/
def lds (a : Memref sig .tc .vmem S8x128x128 .f32) (ha : a.IsWhole) (x : Vec F S8x128x128 .f32) (h : ℕ)
    (ho : ∀ d, ![h, 0, 0] d + S1x128x128.size d ≤ S8x128x128.size d) : Vec F S1x128x128 .f32 :=
  View.readAt (Elt F) a.view (Rect.unit (s := S8x128x128) ![h, 0, 0] S1x128x128.size ho).toLoadRect (ha.unread x)

/-- The output block at a later block: one store per head, the last head's first. -/
theorem L7_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : ¬cond0_0 i)
  (x0 x1 x2 x3 : Vec F S512x1024 .f32) (x4 x5 : Vec F S8x1x128 .f32) (x6 : Vec F S1x8x128x128 .f32) (xs0 : Vec F S8x128x128 .f32) :
  (kernelRun0_B (F := F) c i arg3 harg3 arg4 harg4 arg5 harg5 arg6 harg6 arg7 harg7 arg8 harg8 arg9 harg9 arg10 harg10 arg11 harg11 arg12 harg12 hc0 x0 x1 x2 x3 x4 x5 x6 xs0).1 = [
    ⟨Rect.unit ![0, 896] S512x128.size inb_S512x1024_S512x128_0_896, (hout (ldr arg7 harg7 x4 7 inb_S8x1x128_S1x1x128_7_0_0) (ldr arg8 harg8 x5 7 inb_S8x1x128_S1x1x128_7_0_0) (ldc arg3 harg3 x0 896 inb_S512x1024_S512x128_0_896) (ldc arg4 harg4 x1 896 inb_S512x1024_S512x128_0_896) (ldc arg5 harg5 x2 896 inb_S512x1024_S512x128_0_896) (ldc arg6 harg6 x3 896 inb_S512x1024_S512x128_0_896) (lds arg12 harg12 xs0 7 inb_S8x128x128_S1x128x128_7_0_0))⟩,
    ⟨Rect.unit ![0, 768] S512x128.size inb_S512x1024_S512x128_0_768, (hout (ldr arg7 harg7 x4 6 inb_S8x1x128_S1x1x128_6_0_0) (ldr arg8 harg8 x5 6 inb_S8x1x128_S1x1x128_6_0_0) (ldc arg3 harg3 x0 768 inb_S512x1024_S512x128_0_768) (ldc arg4 harg4 x1 768 inb_S512x1024_S512x128_0_768) (ldc arg5 harg5 x2 768 inb_S512x1024_S512x128_0_768) (ldc arg6 harg6 x3 768 inb_S512x1024_S512x128_0_768) (lds arg12 harg12 xs0 6 inb_S8x128x128_S1x128x128_6_0_0))⟩,
    ⟨Rect.unit ![0, 640] S512x128.size inb_S512x1024_S512x128_0_640, (hout (ldr arg7 harg7 x4 5 inb_S8x1x128_S1x1x128_5_0_0) (ldr arg8 harg8 x5 5 inb_S8x1x128_S1x1x128_5_0_0) (ldc arg3 harg3 x0 640 inb_S512x1024_S512x128_0_640) (ldc arg4 harg4 x1 640 inb_S512x1024_S512x128_0_640) (ldc arg5 harg5 x2 640 inb_S512x1024_S512x128_0_640) (ldc arg6 harg6 x3 640 inb_S512x1024_S512x128_0_640) (lds arg12 harg12 xs0 5 inb_S8x128x128_S1x128x128_5_0_0))⟩,
    ⟨Rect.unit ![0, 512] S512x128.size inb_S512x1024_S512x128_0_512, (hout (ldr arg7 harg7 x4 4 inb_S8x1x128_S1x1x128_4_0_0) (ldr arg8 harg8 x5 4 inb_S8x1x128_S1x1x128_4_0_0) (ldc arg3 harg3 x0 512 inb_S512x1024_S512x128_0_512) (ldc arg4 harg4 x1 512 inb_S512x1024_S512x128_0_512) (ldc arg5 harg5 x2 512 inb_S512x1024_S512x128_0_512) (ldc arg6 harg6 x3 512 inb_S512x1024_S512x128_0_512) (lds arg12 harg12 xs0 4 inb_S8x128x128_S1x128x128_4_0_0))⟩,
    ⟨Rect.unit ![0, 384] S512x128.size inb_S512x1024_S512x128_0_384, (hout (ldr arg7 harg7 x4 3 inb_S8x1x128_S1x1x128_3_0_0) (ldr arg8 harg8 x5 3 inb_S8x1x128_S1x1x128_3_0_0) (ldc arg3 harg3 x0 384 inb_S512x1024_S512x128_0_384) (ldc arg4 harg4 x1 384 inb_S512x1024_S512x128_0_384) (ldc arg5 harg5 x2 384 inb_S512x1024_S512x128_0_384) (ldc arg6 harg6 x3 384 inb_S512x1024_S512x128_0_384) (lds arg12 harg12 xs0 3 inb_S8x128x128_S1x128x128_3_0_0))⟩,
    ⟨Rect.unit ![0, 256] S512x128.size inb_S512x1024_S512x128_0_256, (hout (ldr arg7 harg7 x4 2 inb_S8x1x128_S1x1x128_2_0_0) (ldr arg8 harg8 x5 2 inb_S8x1x128_S1x1x128_2_0_0) (ldc arg3 harg3 x0 256 inb_S512x1024_S512x128_0_256) (ldc arg4 harg4 x1 256 inb_S512x1024_S512x128_0_256) (ldc arg5 harg5 x2 256 inb_S512x1024_S512x128_0_256) (ldc arg6 harg6 x3 256 inb_S512x1024_S512x128_0_256) (lds arg12 harg12 xs0 2 inb_S8x128x128_S1x128x128_2_0_0))⟩,
    ⟨Rect.unit ![0, 128] S512x128.size inb_S512x1024_S512x128_0_128, (hout (ldr arg7 harg7 x4 1 inb_S8x1x128_S1x1x128_1_0_0) (ldr arg8 harg8 x5 1 inb_S8x1x128_S1x1x128_1_0_0) (ldc arg3 harg3 x0 128 inb_S512x1024_S512x128_0_128) (ldc arg4 harg4 x1 128 inb_S512x1024_S512x128_0_128) (ldc arg5 harg5 x2 128 inb_S512x1024_S512x128_0_128) (ldc arg6 harg6 x3 128 inb_S512x1024_S512x128_0_128) (lds arg12 harg12 xs0 1 inb_S8x128x128_S1x128x128_1_0_0))⟩,
    ⟨Rect.unit ![0, 0] S512x128.size inb_S512x1024_S512x128_0_0, (hout (ldr arg7 harg7 x4 0 inb_S8x1x128_S1x1x128_0_0_0) (ldr arg8 harg8 x5 0 inb_S8x1x128_S1x1x128_0_0_0) (ldc arg3 harg3 x0 0 inb_S512x1024_S512x128_0_0) (ldc arg4 harg4 x1 0 inb_S512x1024_S512x128_0_0) (ldc arg5 harg5 x2 0 inb_S512x1024_S512x128_0_0) (ldc arg6 harg6 x3 0 inb_S512x1024_S512x128_0_0) (lds arg12 harg12 xs0 0 inb_S8x128x128_S1x128x128_0_0_0))⟩] := by
  sl_kernel_rfl

/-- The block of final states at a later block: one store per head, the last head's first. -/
theorem L8_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : ¬cond0_0 i)
  (x0 x1 x2 x3 : Vec F S512x1024 .f32) (x4 x5 : Vec F S8x1x128 .f32) (x6 : Vec F S1x8x128x128 .f32) (xs0 : Vec F S8x128x128 .f32) :
  (kernelRun0_B (F := F) c i arg3 harg3 arg4 harg4 arg5 harg5 arg6 harg6 arg7 harg7 arg8 harg8 arg9 harg9 arg10 harg10 arg11 harg11 arg12 harg12 hc0 x0 x1 x2 x3 x4 x5 x6 xs0).2.1 = [
    ⟨Rect.unit ![0, 7, 0, 0] S1x1x128x128.size inb_S1x8x128x128_S1x1x128x128_0_7_0_0, shapeCast S1x1x128x128 (hst (ldr arg7 harg7 x4 7 inb_S8x1x128_S1x1x128_7_0_0) (ldc arg4 harg4 x1 896 inb_S512x1024_S512x128_0_896) (ldc arg5 harg5 x2 896 inb_S512x1024_S512x128_0_896) (lds arg12 harg12 xs0 7 inb_S8x128x128_S1x128x128_7_0_0)) shapeCasts_S128x128_S1x1x128x128⟩,
    ⟨Rect.unit ![0, 6, 0, 0] S1x1x128x128.size inb_S1x8x128x128_S1x1x128x128_0_6_0_0, shapeCast S1x1x128x128 (hst (ldr arg7 harg7 x4 6 inb_S8x1x128_S1x1x128_6_0_0) (ldc arg4 harg4 x1 768 inb_S512x1024_S512x128_0_768) (ldc arg5 harg5 x2 768 inb_S512x1024_S512x128_0_768) (lds arg12 harg12 xs0 6 inb_S8x128x128_S1x128x128_6_0_0)) shapeCasts_S128x128_S1x1x128x128⟩,
    ⟨Rect.unit ![0, 5, 0, 0] S1x1x128x128.size inb_S1x8x128x128_S1x1x128x128_0_5_0_0, shapeCast S1x1x128x128 (hst (ldr arg7 harg7 x4 5 inb_S8x1x128_S1x1x128_5_0_0) (ldc arg4 harg4 x1 640 inb_S512x1024_S512x128_0_640) (ldc arg5 harg5 x2 640 inb_S512x1024_S512x128_0_640) (lds arg12 harg12 xs0 5 inb_S8x128x128_S1x128x128_5_0_0)) shapeCasts_S128x128_S1x1x128x128⟩,
    ⟨Rect.unit ![0, 4, 0, 0] S1x1x128x128.size inb_S1x8x128x128_S1x1x128x128_0_4_0_0, shapeCast S1x1x128x128 (hst (ldr arg7 harg7 x4 4 inb_S8x1x128_S1x1x128_4_0_0) (ldc arg4 harg4 x1 512 inb_S512x1024_S512x128_0_512) (ldc arg5 harg5 x2 512 inb_S512x1024_S512x128_0_512) (lds arg12 harg12 xs0 4 inb_S8x128x128_S1x128x128_4_0_0)) shapeCasts_S128x128_S1x1x128x128⟩,
    ⟨Rect.unit ![0, 3, 0, 0] S1x1x128x128.size inb_S1x8x128x128_S1x1x128x128_0_3_0_0, shapeCast S1x1x128x128 (hst (ldr arg7 harg7 x4 3 inb_S8x1x128_S1x1x128_3_0_0) (ldc arg4 harg4 x1 384 inb_S512x1024_S512x128_0_384) (ldc arg5 harg5 x2 384 inb_S512x1024_S512x128_0_384) (lds arg12 harg12 xs0 3 inb_S8x128x128_S1x128x128_3_0_0)) shapeCasts_S128x128_S1x1x128x128⟩,
    ⟨Rect.unit ![0, 2, 0, 0] S1x1x128x128.size inb_S1x8x128x128_S1x1x128x128_0_2_0_0, shapeCast S1x1x128x128 (hst (ldr arg7 harg7 x4 2 inb_S8x1x128_S1x1x128_2_0_0) (ldc arg4 harg4 x1 256 inb_S512x1024_S512x128_0_256) (ldc arg5 harg5 x2 256 inb_S512x1024_S512x128_0_256) (lds arg12 harg12 xs0 2 inb_S8x128x128_S1x128x128_2_0_0)) shapeCasts_S128x128_S1x1x128x128⟩,
    ⟨Rect.unit ![0, 1, 0, 0] S1x1x128x128.size inb_S1x8x128x128_S1x1x128x128_0_1_0_0, shapeCast S1x1x128x128 (hst (ldr arg7 harg7 x4 1 inb_S8x1x128_S1x1x128_1_0_0) (ldc arg4 harg4 x1 128 inb_S512x1024_S512x128_0_128) (ldc arg5 harg5 x2 128 inb_S512x1024_S512x128_0_128) (lds arg12 harg12 xs0 1 inb_S8x128x128_S1x128x128_1_0_0)) shapeCasts_S128x128_S1x1x128x128⟩,
    ⟨Rect.unit ![0, 0, 0, 0] S1x1x128x128.size inb_S1x8x128x128_S1x1x128x128_0_0_0_0, shapeCast S1x1x128x128 (hst (ldr arg7 harg7 x4 0 inb_S8x1x128_S1x1x128_0_0_0) (ldc arg4 harg4 x1 0 inb_S512x1024_S512x128_0_0) (ldc arg5 harg5 x2 0 inb_S512x1024_S512x128_0_0) (lds arg12 harg12 xs0 0 inb_S8x128x128_S1x128x128_0_0_0)) shapeCasts_S128x128_S1x1x128x128⟩] := by
  sl_kernel_rfl

/-- The carried states at a later block: one store per head, the last head's first. -/
theorem LS_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : ¬cond0_0 i)
  (x0 x1 x2 x3 : Vec F S512x1024 .f32) (x4 x5 : Vec F S8x1x128 .f32) (x6 : Vec F S1x8x128x128 .f32) (xs0 : Vec F S8x128x128 .f32) :
  (kernelRun0_B (F := F) c i arg3 harg3 arg4 harg4 arg5 harg5 arg6 harg6 arg7 harg7 arg8 harg8 arg9 harg9 arg10 harg10 arg11 harg11 arg12 harg12 hc0 x0 x1 x2 x3 x4 x5 x6 xs0).2.2.1 = [
    ⟨Rect.unit ![7, 0, 0] S1x128x128.size inb_S8x128x128_S1x128x128_7_0_0, shapeCast S1x128x128 (hst (ldr arg7 harg7 x4 7 inb_S8x1x128_S1x1x128_7_0_0) (ldc arg4 harg4 x1 896 inb_S512x1024_S512x128_0_896) (ldc arg5 harg5 x2 896 inb_S512x1024_S512x128_0_896) (lds arg12 harg12 xs0 7 inb_S8x128x128_S1x128x128_7_0_0)) shapeCasts_S128x128_S1x128x128⟩,
    ⟨Rect.unit ![6, 0, 0] S1x128x128.size inb_S8x128x128_S1x128x128_6_0_0, shapeCast S1x128x128 (hst (ldr arg7 harg7 x4 6 inb_S8x1x128_S1x1x128_6_0_0) (ldc arg4 harg4 x1 768 inb_S512x1024_S512x128_0_768) (ldc arg5 harg5 x2 768 inb_S512x1024_S512x128_0_768) (lds arg12 harg12 xs0 6 inb_S8x128x128_S1x128x128_6_0_0)) shapeCasts_S128x128_S1x128x128⟩,
    ⟨Rect.unit ![5, 0, 0] S1x128x128.size inb_S8x128x128_S1x128x128_5_0_0, shapeCast S1x128x128 (hst (ldr arg7 harg7 x4 5 inb_S8x1x128_S1x1x128_5_0_0) (ldc arg4 harg4 x1 640 inb_S512x1024_S512x128_0_640) (ldc arg5 harg5 x2 640 inb_S512x1024_S512x128_0_640) (lds arg12 harg12 xs0 5 inb_S8x128x128_S1x128x128_5_0_0)) shapeCasts_S128x128_S1x128x128⟩,
    ⟨Rect.unit ![4, 0, 0] S1x128x128.size inb_S8x128x128_S1x128x128_4_0_0, shapeCast S1x128x128 (hst (ldr arg7 harg7 x4 4 inb_S8x1x128_S1x1x128_4_0_0) (ldc arg4 harg4 x1 512 inb_S512x1024_S512x128_0_512) (ldc arg5 harg5 x2 512 inb_S512x1024_S512x128_0_512) (lds arg12 harg12 xs0 4 inb_S8x128x128_S1x128x128_4_0_0)) shapeCasts_S128x128_S1x128x128⟩,
    ⟨Rect.unit ![3, 0, 0] S1x128x128.size inb_S8x128x128_S1x128x128_3_0_0, shapeCast S1x128x128 (hst (ldr arg7 harg7 x4 3 inb_S8x1x128_S1x1x128_3_0_0) (ldc arg4 harg4 x1 384 inb_S512x1024_S512x128_0_384) (ldc arg5 harg5 x2 384 inb_S512x1024_S512x128_0_384) (lds arg12 harg12 xs0 3 inb_S8x128x128_S1x128x128_3_0_0)) shapeCasts_S128x128_S1x128x128⟩,
    ⟨Rect.unit ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (lds arg12 harg12 xs0 2 inb_S8x128x128_S1x128x128_2_0_0)) shapeCasts_S128x128_S1x128x128⟩,
    ⟨Rect.unit ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (lds arg12 harg12 xs0 1 inb_S8x128x128_S1x128x128_1_0_0)) shapeCasts_S128x128_S1x128x128⟩,
    ⟨Rect.unit ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (lds arg12 harg12 xs0 0 inb_S8x128x128_S1x128x128_0_0_0)) shapeCasts_S128x128_S1x128x128⟩] := by
  sl_kernel_rfl

/-- The output block at a sequence's first block: one store per head, the last head's first. -/
theorem L7_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : cond0_0 i)
  (x0 x1 x2 x3 : Vec F S512x1024 .f32) (x4 x5 : Vec F S8x1x128 .f32) (x6 : Vec F S1x8x128x128 .f32) :
  (kernelRun0_A (F := F) c i arg3 harg3 arg4 harg4 arg5 harg5 arg6 harg6 arg7 harg7 arg8 harg8 arg9 harg9 arg10 harg10 arg11 harg11 arg12 harg12 hc0 x0 x1 x2 x3 x4 x5 x6).1 = [
    ⟨Rect.unit ![0, 896] S512x128.size inb_S512x1024_S512x128_0_896, (hout (ldr arg7 harg7 x4 7 inb_S8x1x128_S1x1x128_7_0_0) (ldr arg8 harg8 x5 7 inb_S8x1x128_S1x1x128_7_0_0) (ldc arg3 harg3 x0 896 inb_S512x1024_S512x128_0_896) (ldc arg4 harg4 x1 896 inb_S512x1024_S512x128_0_896) (ldc arg5 harg5 x2 896 inb_S512x1024_S512x128_0_896) (ldc arg6 harg6 x3 896 inb_S512x1024_S512x128_0_896) (kernelRun0_A.sl.v2909 c arg4 harg4 arg5 harg5 arg7 harg7 arg9 harg9 arg12 x1 x2 x4 x6))⟩,
    ⟨Rect.unit ![0, 768] S512x128.size inb_S512x1024_S512x128_0_768, (hout (ldr arg7 harg7 x4 6 inb_S8x1x128_S1x1x128_6_0_0) (ldr arg8 harg8 x5 6 inb_S8x1x128_S1x1x128_6_0_0) (ldc arg3 harg3 x0 768 inb_S512x1024_S512x128_0_768) (ldc arg4 harg4 x1 768 inb_S512x1024_S512x128_0_768) (ldc arg5 harg5 x2 768 inb_S512x1024_S512x128_0_768) (ldc arg6 harg6 x3 768 inb_S512x1024_S512x128_0_768) (kernelRun0_A.sl.v2495 c arg4 harg4 arg5 harg5 arg7 harg7 arg9 harg9 arg12 x1 x2 x4 x6))⟩,
    ⟨Rect.unit ![0, 640] S512x128.size inb_S512x1024_S512x128_0_640, (hout (ldr arg7 harg7 x4 5 inb_S8x1x128_S1x1x128_5_0_0) (ldr arg8 harg8 x5 5 inb_S8x1x128_S1x1x128_5_0_0) (ldc arg3 harg3 x0 640 inb_S512x1024_S512x128_0_640) (ldc arg4 harg4 x1 640 inb_S512x1024_S512x128_0_640) (ldc arg5 harg5 x2 640 inb_S512x1024_S512x128_0_640) (ldc arg6 harg6 x3 640 inb_S512x1024_S512x128_0_640) (kernelRun0_A.sl.v2081 c arg4 harg4 arg5 harg5 arg7 harg7 arg9 harg9 arg12 x1 x2 x4 x6))⟩,
    ⟨Rect.unit ![0, 512] S512x128.size inb_S512x1024_S512x128_0_512, (hout (ldr arg7 harg7 x4 4 inb_S8x1x128_S1x1x128_4_0_0) (ldr arg8 harg8 x5 4 inb_S8x1x128_S1x1x128_4_0_0) (ldc arg3 harg3 x0 512 inb_S512x1024_S512x128_0_512) (ldc arg4 harg4 x1 512 inb_S512x1024_S512x128_0_512) (ldc arg5 harg5 x2 512 inb_S512x1024_S512x128_0_512) (ldc arg6 harg6 x3 512 inb_S512x1024_S512x128_0_512) (kernelRun0_A.sl.v1667 c arg4 harg4 arg5 harg5 arg7 harg7 arg9 harg9 arg12 x1 x2 x4 x6))⟩,
    ⟨Rect.unit ![0, 384] S512x128.size inb_S512x1024_S512x128_0_384, (hout (ldr arg7 harg7 x4 3 inb_S8x1x128_S1x1x128_3_0_0) (ldr arg8 harg8 x5 3 inb_S8x1x128_S1x1x128_3_0_0) (ldc arg3 harg3 x0 384 inb_S512x1024_S512x128_0_384) (ldc arg4 harg4 x1 384 inb_S512x1024_S512x128_0_384) (ldc arg5 harg5 x2 384 inb_S512x1024_S512x128_0_384) (ldc arg6 harg6 x3 384 inb_S512x1024_S512x128_0_384) (kernelRun0_A.sl.v1253 c arg4 harg4 arg5 harg5 arg7 harg7 arg9 harg9 arg12 x1 x2 x4 x6))⟩,
    ⟨Rect.unit ![0, 256] S512x128.size inb_S512x1024_S512x128_0_256, (hout (ldr arg7 harg7 x4 2 inb_S8x1x128_S1x1x128_2_0_0) (ldr arg8 harg8 x5 2 inb_S8x1x128_S1x1x128_2_0_0) (ldc arg3 harg3 x0 256 inb_S512x1024_S512x128_0_256) (ldc arg4 harg4 x1 256 inb_S512x1024_S512x128_0_256) (ldc arg5 harg5 x2 256 inb_S512x1024_S512x128_0_256) (ldc arg6 harg6 x3 256 inb_S512x1024_S512x128_0_256) (kernelRun0_A.sl.v839 c arg4 harg4 arg5 harg5 arg7 harg7 arg9 harg9 arg12 x1 x2 x4 x6))⟩,
    ⟨Rect.unit ![0, 128] S512x128.size inb_S512x1024_S512x128_0_128, (hout (ldr arg7 harg7 x4 1 inb_S8x1x128_S1x1x128_1_0_0) (ldr arg8 harg8 x5 1 inb_S8x1x128_S1x1x128_1_0_0) (ldc arg3 harg3 x0 128 inb_S512x1024_S512x128_0_128) (ldc arg4 harg4 x1 128 inb_S512x1024_S512x128_0_128) (ldc arg5 harg5 x2 128 inb_S512x1024_S512x128_0_128) (ldc arg6 harg6 x3 128 inb_S512x1024_S512x128_0_128) (kernelRun0_A.sl.v425 c arg4 harg4 arg5 harg5 arg7 harg7 arg9 harg9 arg12 x1 x2 x4 x6))⟩,
    ⟨Rect.unit ![0, 0] S512x128.size inb_S512x1024_S512x128_0_0, (hout (ldr arg7 harg7 x4 0 inb_S8x1x128_S1x1x128_0_0_0) (ldr arg8 harg8 x5 0 inb_S8x1x128_S1x1x128_0_0_0) (ldc arg3 harg3 x0 0 inb_S512x1024_S512x128_0_0) (ldc arg4 harg4 x1 0 inb_S512x1024_S512x128_0_0) (ldc arg5 harg5 x2 0 inb_S512x1024_S512x128_0_0) (ldc arg6 harg6 x3 0 inb_S512x1024_S512x128_0_0) (kernelRun0_A.sl.v11 c arg9 harg9 arg12 x6))⟩] := by
  sl_kernel_rfl

/-- The block of final states at a sequence's first block: one store per head, the last head's first. -/
theorem L8_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : cond0_0 i)
  (x0 x1 x2 x3 : Vec F S512x1024 .f32) (x4 x5 : Vec F S8x1x128 .f32) (x6 : Vec F S1x8x128x128 .f32) :
  (kernelRun0_A (F := F) c i arg3 harg3 arg4 harg4 arg5 harg5 arg6 harg6 arg7 harg7 arg8 harg8 arg9 harg9 arg10 harg10 arg11 harg11 arg12 harg12 hc0 x0 x1 x2 x3 x4 x5 x6).2.1 = [
    ⟨Rect.unit ![0, 7, 0, 0] S1x1x128x128.size inb_S1x8x128x128_S1x1x128x128_0_7_0_0, shapeCast S1x1x128x128 (hst (ldr arg7 harg7 x4 7 inb_S8x1x128_S1x1x128_7_0_0) (ldc arg4 harg4 x1 896 inb_S512x1024_S512x128_0_896) (ldc arg5 harg5 x2 896 inb_S512x1024_S512x128_0_896) (kernelRun0_A.sl.v2909 c arg4 harg4 arg5 harg5 arg7 harg7 arg9 harg9 arg12 x1 x2 x4 x6)) shapeCasts_S128x128_S1x1x128x128⟩,
    ⟨Rect.unit ![0, 6, 0, 0] S1x1x128x128.size inb_S1x8x128x128_S1x1x128x128_0_6_0_0, shapeCast S1x1x128x128 (hst (ldr arg7 harg7 x4 6 inb_S8x1x128_S1x1x128_6_0_0) (ldc arg4 harg4 x1 768 inb_S512x1024_S512x128_0_768) (ldc arg5 harg5 x2 768 inb_S512x1024_S512x128_0_768) (kernelRun0_A.sl.v2495 c arg4 harg4 arg5 harg5 arg7 harg7 arg9 harg9 arg12 x1 x2 x4 x6)) shapeCasts_S128x128_S1x1x128x128⟩,
    ⟨Rect.unit ![0, 5, 0, 0] S1x1x128x128.size inb_S1x8x128x128_S1x1x128x128_0_5_0_0, shapeCast S1x1x128x128 (hst (ldr arg7 harg7 x4 5 inb_S8x1x128_S1x1x128_5_0_0) (ldc arg4 harg4 x1 640 inb_S512x1024_S512x128_0_640) (ldc arg5 harg5 x2 640 inb_S512x1024_S512x128_0_640) (kernelRun0_A.sl.v2081 c arg4 harg4 arg5 harg5 arg7 harg7 arg9 harg9 arg12 x1 x2 x4 x6)) shapeCasts_S128x128_S1x1x128x128⟩,
    ⟨Rect.unit ![0, 4, 0, 0] S1x1x128x128.size inb_S1x8x128x128_S1x1x128x128_0_4_0_0, shapeCast S1x1x128x128 (hst (ldr arg7 harg7 x4 4 inb_S8x1x128_S1x1x128_4_0_0) (ldc arg4 harg4 x1 512 inb_S512x1024_S512x128_0_512) (ldc arg5 harg5 x2 512 inb_S512x1024_S512x128_0_512) (kernelRun0_A.sl.v1667 c arg4 harg4 arg5 harg5 arg7 harg7 arg9 harg9 arg12 x1 x2 x4 x6)) shapeCasts_S128x128_S1x1x128x128⟩,
    ⟨Rect.unit ![0, 3, 0, 0] S1x1x128x128.size inb_S1x8x128x128_S1x1x128x128_0_3_0_0, shapeCast S1x1x128x128 (hst (ldr arg7 harg7 x4 3 inb_S8x1x128_S1x1x128_3_0_0) (ldc arg4 harg4 x1 384 inb_S512x1024_S512x128_0_384) (ldc arg5 harg5 x2 384 inb_S512x1024_S512x128_0_384) (kernelRun0_A.sl.v1253 c arg4 harg4 arg5 harg5 arg7 harg7 arg9 harg9 arg12 x1 x2 x4 x6)) shapeCasts_S128x128_S1x1x128x128⟩,
    ⟨Rect.unit ![0, 2, 0, 0] S1x1x128x128.size inb_S1x8x128x128_S1x1x128x128_0_2_0_0, shapeCast S1x1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x1x128x128⟩,
    ⟨Rect.unit ![0, 1, 0, 0] S1x1x128x128.size inb_S1x8x128x128_S1x1x128x128_0_1_0_0, shapeCast S1x1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x1x128x128⟩,
    ⟨Rect.unit ![0, 0, 0, 0] S1x1x128x128.size inb_S1x8x128x128_S1x1x128x128_0_0_0_0, shapeCast S1x1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x1x128x128⟩] := by
  sl_kernel_rfl

/-- The carried states at a sequence's first block: one store per head, the last head's first. -/
theorem LS_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : cond0_0 i)
  (x0 x1 x2 x3 : Vec F S512x1024 .f32) (x4 x5 : Vec F S8x1x128 .f32) (x6 : Vec F S1x8x128x128 .f32) :
  (kernelRun0_A (F := F) c i arg3 harg3 arg4 harg4 arg5 harg5 arg6 harg6 arg7 harg7 arg8 harg8 arg9 harg9 arg10 harg10 arg11 harg11 arg12 harg12 hc0 x0 x1 x2 x3 x4 x5 x6).2.2.1 = [
    ⟨Rect.unit ![7, 0, 0] S1x128x128.size inb_S8x128x128_S1x128x128_7_0_0, shapeCast S1x128x128 (hst (ldr arg7 harg7 x4 7 inb_S8x1x128_S1x1x128_7_0_0) (ldc arg4 harg4 x1 896 inb_S512x1024_S512x128_0_896) (ldc arg5 harg5 x2 896 inb_S512x1024_S512x128_0_896) (kernelRun0_A.sl.v2909 c arg4 harg4 arg5 harg5 arg7 harg7 arg9 harg9 arg12 x1 x2 x4 x6)) shapeCasts_S128x128_S1x128x128⟩,
    ⟨Rect.unit ![6, 0, 0] S1x128x128.size inb_S8x128x128_S1x128x128_6_0_0, shapeCast S1x128x128 (hst (ldr arg7 harg7 x4 6 inb_S8x1x128_S1x1x128_6_0_0) (ldc arg4 harg4 x1 768 inb_S512x1024_S512x128_0_768) (ldc arg5 harg5 x2 768 inb_S512x1024_S512x128_0_768) (kernelRun0_A.sl.v2495 c arg4 harg4 arg5 harg5 arg7 harg7 arg9 harg9 arg12 x1 x2 x4 x6)) shapeCasts_S128x128_S1x128x128⟩,
    ⟨Rect.unit ![5, 0, 0] S1x128x128.size inb_S8x128x128_S1x128x128_5_0_0, shapeCast S1x128x128 (hst (ldr arg7 harg7 x4 5 inb_S8x1x128_S1x1x128_5_0_0) (ldc arg4 harg4 x1 640 inb_S512x1024_S512x128_0_640) (ldc arg5 harg5 x2 640 inb_S512x1024_S512x128_0_640) (kernelRun0_A.sl.v2081 c arg4 harg4 arg5 harg5 arg7 harg7 arg9 harg9 arg12 x1 x2 x4 x6)) shapeCasts_S128x128_S1x128x128⟩,
    ⟨Rect.unit ![4, 0, 0] S1x128x128.size inb_S8x128x128_S1x128x128_4_0_0, shapeCast S1x128x128 (hst (ldr arg7 harg7 x4 4 inb_S8x1x128_S1x1x128_4_0_0) (ldc arg4 harg4 x1 512 inb_S512x1024_S512x128_0_512) (ldc arg5 harg5 x2 512 inb_S512x1024_S512x128_0_512) (kernelRun0_A.sl.v1667 c arg4 harg4 arg5 harg5 arg7 harg7 arg9 harg9 arg12 x1 x2 x4 x6)) shapeCasts_S128x128_S1x128x128⟩,
    ⟨Rect.unit ![3, 0, 0] S1x128x128.size inb_S8x128x128_S1x128x128_3_0_0, shapeCast S1x128x128 (hst (ldr arg7 harg7 x4 3 inb_S8x1x128_S1x1x128_3_0_0) (ldc arg4 harg4 x1 384 inb_S512x1024_S512x128_0_384) (ldc arg5 harg5 x2 384 inb_S512x1024_S512x128_0_384) (kernelRun0_A.sl.v1253 c arg4 harg4 arg5 harg5 arg7 harg7 arg9 harg9 arg12 x1 x2 x4 x6)) shapeCasts_S128x128_S1x128x128⟩,
    ⟨Rect.unit ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x128x128⟩,
    ⟨Rect.unit ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit ![0, 0, 0] S8x128x128.size inb_S8x128x128_S8x128x128_0_0_0, k0_pay4 (View.readAt (Elt F) arg9.view (Rect.unit ![0, 0, 0, 0] S1x8x128x128.size inb_S1x8x128x128_S1x8x128x128_0_0_0_0).toLoadRect (harg9.unread x6))⟩] := by
  sl_kernel_rfl

/-- Head 0's state as a sequence's first block loads it: read back after the initial states and the states of the heads before. -/
theorem LC_0 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v11 c arg9 harg9 arg12 x6) = arg12.view.readCov [
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![0, 0, 0] S1x128x128.size inb_S8x128x128_S1x128x128_0_0_0).toLoadRect := by
  sl_kernel_rfl

/-- Head 1's state as a sequence's first block loads it: read back after the initial states and the states of the heads before. -/
theorem LC_1 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v425 c arg4 harg4 arg5 harg5 arg7 harg7 arg9 harg9 arg12 x1 x2 x4 x6) = arg12.view.readCov [
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![1, 0, 0] S1x128x128.size inb_S8x128x128_S1x128x128_1_0_0).toLoadRect := by
  sl_kernel_rfl

/-- Head 2's state as a sequence's first block loads it: read back after the initial states and the states of the heads before. -/
theorem LC_2 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v839 c arg4 harg4 arg5 harg5 arg7 harg7 arg9 harg9 arg12 x1 x2 x4 x6) = arg12.view.readCov [
    ⟨Rect.unit (s := S8x128x128) ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![2, 0, 0] S1x128x128.size inb_S8x128x128_S1x128x128_2_0_0).toLoadRect := by
  sl_kernel_rfl

/-- Head 3's state as a sequence's first block loads it: read back after the initial states and the states of the heads before. -/
theorem LC_3 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v1253 c arg4 harg4 arg5 harg5 arg7 harg7 arg9 harg9 arg12 x1 x2 x4 x6) = arg12.view.readCov [
    ⟨Rect.unit (s := S8x128x128) ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x128x128⟩,
    ⟨Rect.unit (s := S8x128x128) ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![3, 0, 0] S1x128x128.size inb_S8x128x128_S1x128x128_3_0_0).toLoadRect := by
  sl_kernel_rfl

/-- Head 4's state as a sequence's first block loads it: read back after the initial states and the states of the heads before. -/
theorem LC_4 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v1667 c arg4 harg4 arg5 harg5 arg7 harg7 arg9 harg9 arg12 x1 x2 x4 x6) = arg12.view.readCov [
    ⟨Rect.unit (s := S8x128x128) ![3, 0, 0] S1x128x128.size inb_S8x128x128_S1x128x128_3_0_0, shapeCast S1x128x128 (hst (ldr arg7 harg7 x4 3 inb_S8x1x128_S1x1x128_3_0_0) (ldc arg4 harg4 x1 384 inb_S512x1024_S512x128_0_384) (ldc arg5 harg5 x2 384 inb_S512x1024_S512x128_0_384) (kernelRun0_A.sl.v1253 c arg4 harg4 arg5 harg5 arg7 harg7 arg9 harg9 arg12 x1 x2 x4 x6)) shapeCasts_S128x128_S1x128x128⟩,
    ⟨Rect.unit (s := S8x128x128) ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x128x128⟩,
    ⟨Rect.unit (s := S8x128x128) ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![4, 0, 0] S1x128x128.size inb_S8x128x128_S1x128x128_4_0_0).toLoadRect := by
  sl_kernel_rfl

/-- Head 5's state as a sequence's first block loads it: read back after the initial states and the states of the heads before. -/
theorem LC_5 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v2081 c arg4 harg4 arg5 harg5 arg7 harg7 arg9 harg9 arg12 x1 x2 x4 x6) = arg12.view.readCov [
    ⟨Rect.unit (s := S8x128x128) ![4, 0, 0] S1x128x128.size inb_S8x128x128_S1x128x128_4_0_0, shapeCast S1x128x128 (hst (ldr arg7 harg7 x4 4 inb_S8x1x128_S1x1x128_4_0_0) (ldc arg4 harg4 x1 512 inb_S512x1024_S512x128_0_512) (ldc arg5 harg5 x2 512 inb_S512x1024_S512x128_0_512) (kernelRun0_A.sl.v1667 c arg4 harg4 arg5 harg5 arg7 harg7 arg9 harg9 arg12 x1 x2 x4 x6)) shapeCasts_S128x128_S1x128x128⟩,
    ⟨Rect.unit (s := S8x128x128) ![3, 0, 0] S1x128x128.size inb_S8x128x128_S1x128x128_3_0_0, shapeCast S1x128x128 (hst (ldr arg7 harg7 x4 3 inb_S8x1x128_S1x1x128_3_0_0) (ldc arg4 harg4 x1 384 inb_S512x1024_S512x128_0_384) (ldc arg5 harg5 x2 384 inb_S512x1024_S512x128_0_384) (kernelRun0_A.sl.v1253 c arg4 harg4 arg5 harg5 arg7 harg7 arg9 harg9 arg12 x1 x2 x4 x6)) shapeCasts_S128x128_S1x128x128⟩,
    ⟨Rect.unit (s := S8x128x128) ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x128x128⟩,
    ⟨Rect.unit (s := S8x128x128) ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![5, 0, 0] S1x128x128.size inb_S8x128x128_S1x128x128_5_0_0).toLoadRect := by
  sl_kernel_rfl

/-- Head 6's state as a sequence's first block loads it: read back after the initial states and the states of the heads before. -/
theorem LC_6 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v2495 c arg4 harg4 arg5 harg5 arg7 harg7 arg9 harg9 arg12 x1 x2 x4 x6) = arg12.view.readCov [
    ⟨Rect.unit (s := S8x128x128) ![5, 0, 0] S1x128x128.size inb_S8x128x128_S1x128x128_5_0_0, shapeCast S1x128x128 (hst (ldr arg7 harg7 x4 5 inb_S8x1x128_S1x1x128_5_0_0) (ldc arg4 harg4 x1 640 inb_S512x1024_S512x128_0_640) (ldc arg5 harg5 x2 640 inb_S512x1024_S512x128_0_640) (kernelRun0_A.sl.v2081 c arg4 harg4 arg5 harg5 arg7 harg7 arg9 harg9 arg12 x1 x2 x4 x6)) shapeCasts_S128x128_S1x128x128⟩,
    ⟨Rect.unit (s := S8x128x128) ![4, 0, 0] S1x128x128.size inb_S8x128x128_S1x128x128_4_0_0, shapeCast S1x128x128 (hst (ldr arg7 harg7 x4 4 inb_S8x1x128_S1x1x128_4_0_0) (ldc arg4 harg4 x1 512 inb_S512x1024_S512x128_0_512) (ldc arg5 harg5 x2 512 inb_S512x1024_S512x128_0_512) (kernelRun0_A.sl.v1667 c arg4 harg4 arg5 harg5 arg7 harg7 arg9 harg9 arg12 x1 x2 x4 x6)) shapeCasts_S128x128_S1x128x128⟩,
    ⟨Rect.unit (s := S8x128x128) ![3, 0, 0] S1x128x128.size inb_S8x128x128_S1x128x128_3_0_0, shapeCast S1x128x128 (hst (ldr arg7 harg7 x4 3 inb_S8x1x128_S1x1x128_3_0_0) (ldc arg4 harg4 x1 384 inb_S512x1024_S512x128_0_384) (ldc arg5 harg5 x2 384 inb_S512x1024_S512x128_0_384) (kernelRun0_A.sl.v1253 c arg4 harg4 arg5 harg5 arg7 harg7 arg9 harg9 arg12 x1 x2 x4 x6)) shapeCasts_S128x128_S1x128x128⟩,
    ⟨Rect.unit (s := S8x128x128) ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x128x128⟩,
    ⟨Rect.unit (s := S8x128x128) ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![6, 0, 0] S1x128x128.size inb_S8x128x128_S1x128x128_6_0_0).toLoadRect := by
  sl_kernel_rfl

/-- Head 7's state as a sequence's first block loads it: read back after the initial states and the states of the heads before. -/
theorem LC_7 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec F S512x1024 .f32) (x4 : Vec F S8x1x128 .f32) (x6 : Vec F S1x8x128x128 .f32) :
  (kernelRun0_A.sl.v2909 c arg4 harg4 arg5 harg5 arg7 harg7 arg9 harg9 arg12 x1 x2 x4 x6) = arg12.view.readCov [
    ⟨Rect.unit (s := S8x128x128) ![6, 0, 0] S1x128x128.size inb_S8x128x128_S1x128x128_6_0_0, shapeCast S1x128x128 (hst (ldr arg7 harg7 x4 6 inb_S8x1x128_S1x1x128_6_0_0) (ldc arg4 harg4 x1 768 inb_S512x1024_S512x128_0_768) (ldc arg5 harg5 x2 768 inb_S512x1024_S512x128_0_768) (kernelRun0_A.sl.v2495 c arg4 harg4 arg5 harg5 arg7 harg7 arg9 harg9 arg12 x1 x2 x4 x6)) shapeCasts_S128x128_S1x128x128⟩,
    ⟨Rect.unit (s := S8x128x128) ![5, 0, 0] S1x128x128.size inb_S8x128x128_S1x128x128_5_0_0, shapeCast S1x128x128 (hst (ldr arg7 harg7 x4 5 inb_S8x1x128_S1x1x128_5_0_0) (ldc arg4 harg4 x1 640 inb_S512x1024_S512x128_0_640) (ldc arg5 harg5 x2 640 inb_S512x1024_S512x128_0_640) (kernelRun0_A.sl.v2081 c arg4 harg4 arg5 harg5 arg7 harg7 arg9 harg9 arg12 x1 x2 x4 x6)) shapeCasts_S128x128_S1x128x128⟩,
    ⟨Rect.unit (s := S8x128x128) ![4, 0, 0] S1x128x128.size inb_S8x128x128_S1x128x128_4_0_0, shapeCast S1x128x128 (hst (ldr arg7 harg7 x4 4 inb_S8x1x128_S1x1x128_4_0_0) (ldc arg4 harg4 x1 512 inb_S512x1024_S512x128_0_512) (ldc arg5 harg5 x2 512 inb_S512x1024_S512x128_0_512) (kernelRun0_A.sl.v1667 c arg4 harg4 arg5 harg5 arg7 harg7 arg9 harg9 arg12 x1 x2 x4 x6)) shapeCasts_S128x128_S1x128x128⟩,
    ⟨Rect.unit (s := S8x128x128) ![3, 0, 0] S1x128x128.size inb_S8x128x128_S1x128x128_3_0_0, shapeCast S1x128x128 (hst (ldr arg7 harg7 x4 3 inb_S8x1x128_S1x1x128_3_0_0) (ldc arg4 harg4 x1 384 inb_S512x1024_S512x128_0_384) (ldc arg5 harg5 x2 384 inb_S512x1024_S512x128_0_384) (kernelRun0_A.sl.v1253 c arg4 harg4 arg5 harg5 arg7 harg7 arg9 harg9 arg12 x1 x2 x4 x6)) shapeCasts_S128x128_S1x128x128⟩,
    ⟨Rect.unit (s := S8x128x128) ![2, 0, 0] S1x128x128.size inb_S8x128x128_S1x128x128_2_0_0, shapeCast S1x128x128 (hst (ldr arg7 harg7 x4 2 inb_S8x1x128_S1x1x128_2_0_0) (ldc arg4 harg4 x1 256 inb_S512x1024_S512x128_0_256) (ldc arg5 harg5 x2 256 inb_S512x1024_S512x128_0_256) (kernelRun0_A.sl.v839 c arg4 harg4 arg5 harg5 arg7 harg7 arg9 harg9 arg12 x1 x2 x4 x6)) shapeCasts_S128x128_S1x128x128⟩,
    ⟨Rect.unit (s := S8x128x128) ![1, 0, 0] S1x128x128.size inb_S8x128x128_S1x128x128_1_0_0, shapeCast S1x128x128 (hst (ldr arg7 harg7 x4 1 inb_S8x1x128_S1x1x128_1_0_0) (ldc arg4 harg4 x1 128 inb_S512x1024_S512x128_0_128) (ldc arg5 harg5 x2 128 inb_S512x1024_S512x128_0_128) (kernelRun0_A.sl.v425 c arg4 harg4 arg5 harg5 arg7 harg7 arg9 harg9 arg12 x1 x2 x4 x6)) shapeCasts_S128x128_S1x128x128⟩,
    ⟨Rect.unit (s := S8x128x128) ![0, 0, 0] S1x128x128.size inb_S8x128x128_S1x128x128_0_0_0, shapeCast S1x128x128 (hst (ldr arg7 harg7 x4 0 inb_S8x1x128_S1x1x128_0_0_0) (ldc arg4 harg4 x1 0 inb_S512x1024_S512x128_0_0) (ldc arg5 harg5 x2 0 inb_S512x1024_S512x128_0_0) (kernelRun0_A.sl.v11 c arg9 harg9 arg12 x6)) shapeCasts_S128x128_S1x128x128⟩,
    ⟨Rect.unit (s := S8x128x128) ![0, 0, 0] S8x128x128.size inb_S8x128x128_S8x128x128_0_0_0, k0_pay4 (View.readAt (Elt F) arg9.view (Rect.unit (s := S1x8x128x128) ![0, 0, 0, 0] S1x8x128x128.size inb_S1x8x128x128_S1x8x128x128_0_0_0_0).toLoadRect (harg9.unread x6))⟩]
    (Rect.unit (s := S8x128x128) ![7, 0, 0] S1x128x128.size inb_S8x128x128_S1x128x128_7_0_0).toLoadRect := by
  sl_kernel_rfl

end Cert.HgrnPromptIdeal.Head

end
-- ==== Proof.Elem.lean ====
/- One head of the kernel's body read element by element: its vector operations are the recurrence's sums. -/
module

public import proofs.«01_k».proof.Proof.Head
public import proofs.«01_k».proof.Proof.Spec

@[expose] public section

set_option maxRecDepth 16384

noncomputable section

namespace Cert.HgrnPromptIdeal.Head

open Cert.HgrnPromptIdeal Cert.HgrnPromptIdeal.Gen Idealize.ShloMosaic Idealize.ShloMosaic.TcCoe Idealize.SL.Sem Cert

/-- The logistic function at an element. -/
theorem sgm_apply (x : FVec Ideal S512x128 .f32) (r : Fin 512) (d : Fin 128) : sgm x (ix2 r d) = Hgrn.sg (x (ix2 r d)) := by
  pointwise [sgm, Hgrn.sg]
  rw [zero_sub]

/-- The row's number in its chunk, as the kernel computes it from the row's number. -/
def rowWord (r : ℕ) : BitVec 32 :=
  Scalar.select
      (IntOp.andi
        (IntOp.xori
          (IntOp.cmpi CmpIPredicate.slt
            (IntOp.remsi ArithUnit.vector (BitVec.ofNat 32 r)
              (Scalar.select (Scalar.cmpi CmpIPredicate.eq 32#32 0#32) 1#32 32#32))
            0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 r)
            (Scalar.select (Scalar.cmpi CmpIPredicate.eq 32#32 0#32) 1#32 32#32))
          0#32))
      (IntOp.addi
        (IntOp.remsi ArithUnit.vector (BitVec.ofNat 32 r)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 r)
        (Scalar.select (Scalar.cmpi CmpIPredicate.eq 32#32 0#32) 1#32 32#32))

/-- A row's number within its chunk, as the body forms it. -/
theorem pay13_apply (r : Fin 512) (d : Fin 128) : k0_pay13 (ix2 r d) = rowWord r.val := by
  pointwise [k0_pay13, rowWord]

/-- A row's number within its chunk is the remainder by thirty-two. -/
theorem rowWord_eq : ∀ r : Fin 512, rowWord r.val = BitVec.ofNat 32 (r.val % 32) := by decide +kernel

/-- The comparison with 1, as a condition on numbers. -/
theorem ge_1 : ∀ r : Fin 32, IntOp.cmpi CmpIPredicate.sge (BitVec.ofNat 32 r.val) 1#32 = if 1 ≤ r.val then 1#1 else 0#1 := by decide +kernel
/-- The comparison with 2, as a condition on numbers. -/
theorem ge_2 : ∀ r : Fin 32, IntOp.cmpi CmpIPredicate.sge (BitVec.ofNat 32 r.val) 2#32 = if 2 ≤ r.val then 1#1 else 0#1 := by decide +kernel
/-- The comparison with 4, as a condition on numbers. -/
theorem ge_4 : ∀ r : Fin 32, IntOp.cmpi CmpIPredicate.sge (BitVec.ofNat 32 r.val) 4#32 = if 4 ≤ r.val then 1#1 else 0#1 := by decide +kernel
/-- The comparison with 8, as a condition on numbers. -/
theorem ge_8 : ∀ r : Fin 32, IntOp.cmpi CmpIPredicate.sge (BitVec.ofNat 32 r.val) 8#32 = if 8 ≤ r.val then 1#1 else 0#1 := by decide +kernel
/-- The comparison with 16, as a condition on numbers. -/
theorem ge_16 : ∀ r : Fin 32, IntOp.cmpi CmpIPredicate.sge (BitVec.ofNat 32 r.val) 16#32 = if 16 ≤ r.val then 1#1 else 0#1 := by decide +kernel
/-- The comparison that masks the scores, as a condition on numbers. -/
theorem ge_row : ∀ r s : Fin 32, IntOp.cmpi CmpIPredicate.sge (BitVec.ofNat 32 r.val) (BitVec.ofNat 32 s.val) = if s.val ≤ r.val then 1#1 else 0#1 := by decide +kernel

/-- A select by a condition's bit is a case distinction. -/
theorem select_ite (p : Prop) [Decidable p] (a b : EReal) : Scalar.select (if p then 1#1 else 0#1) a b = if p then a else b := by
  by_cases h : p
  · rw [if_pos h, if_pos h]; rfl
  · rw [if_neg h, if_neg h]; rfl

/-- One doubling step on columns that hold the sum of the last `n` rows leaves the sum of the last `2n`. -/
theorem dbl_upto (n : ℕ) (hn : n = 1 ∨ n = 2 ∨ n = 4 ∨ n = 8 ∨ n = 16) (x : FVec Ideal S512x128 .f32) (d : Fin 128) (f : ℕ → EReal)
    (hx : ∀ r : Fin 512, x (ix2 r d) = Hgrn.upto n f r.val) (r : Fin 512) :
    dbl (BitVec.ofNat 32 n) x (ix2 r d) = Hgrn.upto (n + n) f r.val := by
  have hr := Nat.mod_lt r.val (show 0 < 32 by decide)
  rw [← Hgrn.upto_double]
  rcases hn with rfl | rfl | rfl | rfl | rfl
  all_goals
    pointwise [dbl]
    rw [pay13_apply, rowWord_eq]
    first
      | erw [ge_1 ⟨_, hr⟩] | erw [ge_2 ⟨_, hr⟩] | erw [ge_4 ⟨_, hr⟩] | erw [ge_8 ⟨_, hr⟩] | erw [ge_16 ⟨_, hr⟩]
    rw [select_ite, hx r]
    split_ifs with h
    · rw [hx]
      congr 2
      dsimp only at h ⊢
      omega
    · rfl

variable {lb nrm : FVec Ideal S1x128 .f32} {hq hf v hg : FVec Ideal S512x128 .f32}
  {LB NR : Fin 128 → EReal} {Q FF V G : Hgrn.Seq} {i : ℕ}

/-- The forget gate at an element. -/
theorem fg_apply (hlb : ∀ d, lb (ix2 0 d) = LB d) (hff : ∀ (r : Fin 512) d, hf (ix2 r d) = FF (512 * i + r.val) d) (r : Fin 512) (d : Fin 128) :
    fg lb hf (ix2 r d) = Hgrn.gate LB FF (512 * i + r.val) d := by
  pointwise [fg, rowB, Hgrn.gate]
  rw [sgm_apply, hlb, hff]

/-- The running sum of the log gates at an element. -/
theorem bc_apply (hlb : ∀ d, lb (ix2 0 d) = LB d) (hff : ∀ (r : Fin 512) d, hf (ix2 r d) = FF (512 * i + r.val) d) (r : Fin 512) (d : Fin 128) :
    bc lb hf (ix2 r d) = Hgrn.cum LB FF (512 * i + r.val) d := by
  unfold bc
  rw [dbl_upto 16 (by simp) _ d (fun r => Ideal.log (Hgrn.gate LB FF (512 * i + r) d)) ?_ r]
  · rw [Hgrn.upto_full]
    unfold Hgrn.cum
    rw [show (512 * i + r.val) % 32 = r.val % 32 from by omega]
    refine Finset.sum_congr rfl fun u hu => ?_
    rw [Finset.mem_range] at hu
    rw [show 512 * i + r.val - u = 512 * i + (r.val - u) from by omega]
  refine dbl_upto 8 (by simp) _ d _ ?_
  refine dbl_upto 4 (by simp) _ d _ ?_
  refine dbl_upto 2 (by simp) _ d _ ?_
  refine dbl_upto 1 (by simp) _ d _ ?_
  intro r
  rw [Hgrn.upto_one, ← fg_apply hlb hff]
  rfl

/-- One chunk's update of the state, at an element. -/
theorem stp_apply (hlb : ∀ d, lb (ix2 0 d) = LB d) (hff : ∀ (r : Fin 512) d, hf (ix2 r d) = FF (512 * i + r.val) d)
    (hv : ∀ (r : Fin 512) d, v (ix2 r d) = V (512 * i + r.val) d) (c : ℕ) (h : c < 16) (st : FVec Ideal S128x128 .f32) (S : Hgrn.St)
    (hst : ∀ e d, st (ix2 e d) = S e d) (e d : Fin 128) :
    stp lb hf v c h st (ix2 e d) = Hgrn.stp LB FF V (16 * i + c) S e d := by
  pointwise [stp, row, vb, kd, dec, bl, ch, kg]
  simp only [hst, fg_apply hlb hff, bc_apply hlb hff, hv, Hgrn.stp, Hgrn.key]
  simp only [show ∀ x : ℕ, 512 * i + (c * 32 + x) = 32 * (16 * i + c) + x from fun x => by omega]

/-- One chunk's output at an element. -/
theorem outc_apply (hlb : ∀ d, lb (ix2 0 d) = LB d) (hqq : ∀ (r : Fin 512) d, hq (ix2 r d) = Q (512 * i + r.val) d)
    (hff : ∀ (r : Fin 512) d, hf (ix2 r d) = FF (512 * i + r.val) d)
    (hv : ∀ (r : Fin 512) d, v (ix2 r d) = V (512 * i + r.val) d) (c : ℕ) (h : c < 16) (st : FVec Ideal S128x128 .f32) (S : Hgrn.St)
    (hst : ∀ e d, st (ix2 e d) = S e d) (s : Fin 32) (e : Fin 128) :
    outc lb hf hq v c h st (ix2 s e) = Hgrn.out LB Q FF V (16 * i + c) s.val S e := by
  pointwise [outc, row, oi, att, vb, qe, ke, dec, bl, ch, kg, silu]
  simp only [hst, fg_apply hlb hff, bc_apply hlb hff, hv, hqq, sgm_apply, Hgrn.out, Hgrn.key, Hgrn.qry, ge_row, select_ite, zero_sub]
  simp only [show ∀ x : ℕ, 512 * i + (c * 32 + x) = 32 * (16 * i + c) + x from fun x => by omega]

/-- The normalised, gated output at an element. -/
theorem fin_apply {x : FVec Ideal S512x128 .f32} {X : Hgrn.Seq} (hx : ∀ (r : Fin 512) d, x (ix2 r d) = X (512 * i + r.val) d)
    (hn : ∀ d, nrm (ix2 0 d) = NR d) (hgg : ∀ (r : Fin 512) d, hg (ix2 r d) = G (512 * i + r.val) d) (r : Fin 512) (d : Fin 128) :
    fin x nrm hg (ix2 r d) = Hgrn.fin X NR G (512 * i + r.val) d := by
  pointwise [fin, msq, silu, rowB]
  simp only [hx, hn, hgg, sgm_apply, Hgrn.fin]

end Cert.HgrnPromptIdeal.Head

end
-- ==== Proof.Block.lean ====
/- One head of a block: from the state before the block, its state after the 16 chunks and its outputs. -/
module

public import proofs.«01_k».proof.Proof.Elem

@[expose] public section

set_option maxRecDepth 16384

noncomputable section

namespace Cert.HgrnPromptIdeal.Head

open Cert.HgrnPromptIdeal Cert.HgrnPromptIdeal.Gen Idealize.ShloMosaic Idealize.ShloMosaic.TcCoe Idealize.SL.Sem Cert

variable {lb nrm : FVec Ideal S1x128 .f32} {hq hf v hg : FVec Ideal S512x128 .f32}
  {LB NR : Fin 128 → EReal} {Q FF V G : Hgrn.Seq} {i : ℕ}

set_option maxHeartbeats 4000000 in
/-- Sixteen chunks of 32 rows, one after another, read at row `32 c + s`. -/
theorem cat_apply (y0 y1 y2 y3 y4 y5 y6 y7 y8 y9 y10 y11 y12 y13 y14 y15 : S32x128.Idx → EReal) (P : ℕ → Fin 32 → Fin 128 → EReal)
    (h0 : ∀ s e, y0 (ix2 s e) = P 0 s e)
    (h1 : ∀ s e, y1 (ix2 s e) = P 1 s e)
    (h2 : ∀ s e, y2 (ix2 s e) = P 2 s e)
    (h3 : ∀ s e, y3 (ix2 s e) = P 3 s e)
    (h4 : ∀ s e, y4 (ix2 s e) = P 4 s e)
    (h5 : ∀ s e, y5 (ix2 s e) = P 5 s e)
    (h6 : ∀ s e, y6 (ix2 s e) = P 6 s e)
    (h7 : ∀ s e, y7 (ix2 s e) = P 7 s e)
    (h8 : ∀ s e, y8 (ix2 s e) = P 8 s e)
    (h9 : ∀ s e, y9 (ix2 s e) = P 9 s e)
    (h10 : ∀ s e, y10 (ix2 s e) = P 10 s e)
    (h11 : ∀ s e, y11 (ix2 s e) = P 11 s e)
    (h12 : ∀ s e, y12 (ix2 s e) = P 12 s e)
    (h13 : ∀ s e, y13 (ix2 s e) = P 13 s e)
    (h14 : ∀ s e, y14 (ix2 s e) = P 14 s e)
    (h15 : ∀ s e, y15 (ix2 s e) = P 15 s e)
    (r : Fin 512) (e : Fin 128) :
    concatenate S512x128 0 [⟨S32x128, y0⟩, ⟨S32x128, y1⟩, ⟨S32x128, y2⟩, ⟨S32x128, y3⟩, ⟨S32x128, y4⟩, ⟨S32x128, y5⟩, ⟨S32x128, y6⟩, ⟨S32x128, y7⟩, ⟨S32x128, y8⟩, ⟨S32x128, y9⟩, ⟨S32x128, y10⟩, ⟨S32x128, y11⟩, ⟨S32x128, y12⟩, ⟨S32x128, y13⟩, ⟨S32x128, y14⟩, ⟨S32x128, y15⟩]
      concatenates_S32x128_S32x128_S32x128_S32x128_S32x128_S32x128_S32x128_S32x128_S32x128_S32x128_S32x128_S32x128_S32x128_S32x128_S32x128_S32x128_S512x128_d0 (ix2 r e)
      = P (r.val / 32) ⟨r.val % 32, Nat.mod_lt _ (by decide)⟩ e := by
  have hlt : r.val / 32 < 16 := by omega
  generalize hc : r.val / 32 = c at hlt ⊢
  interval_cases c
  · rw [← h0]
    exact concatenate_apply_piece (t := S512x128) 0 _ _ (ix2 r e) 0 (by exact (by decide : 0 < 16)) S32x128 y0 rfl rfl 0 rfl
      (ix2 ⟨r.val % 32, Nat.mod_lt _ (by decide)⟩ e)
      (fun b hb => by match b with
        | ⟨0, _⟩ => exact absurd rfl hb
        | ⟨1, _⟩ => rfl)
      (by show 0 + r.val % 32 = r.val; omega)
  · rw [← h1]
    exact concatenate_apply_piece (t := S512x128) 0 _ _ (ix2 r e) 1 (by exact (by decide : 1 < 16)) S32x128 y1 rfl rfl 32 rfl
      (ix2 ⟨r.val % 32, Nat.mod_lt _ (by decide)⟩ e)
      (fun b hb => by match b with
        | ⟨0, _⟩ => exact absurd rfl hb
        | ⟨1, _⟩ => rfl)
      (by show 32 + r.val % 32 = r.val; omega)
  · rw [← h2]
    exact concatenate_apply_piece (t := S512x128) 0 _ _ (ix2 r e) 2 (by exact (by decide : 2 < 16)) S32x128 y2 rfl rfl 64 rfl
      (ix2 ⟨r.val % 32, Nat.mod_lt _ (by decide)⟩ e)
      (fun b hb => by match b with
        | ⟨0, _⟩ => exact absurd rfl hb
        | ⟨1, _⟩ => rfl)
      (by show 64 + r.val % 32 = r.val; omega)
  · rw [← h3]
    exact concatenate_apply_piece (t := S512x128) 0 _ _ (ix2 r e) 3 (by exact (by decide : 3 < 16)) S32x128 y3 rfl rfl 96 rfl
      (ix2 ⟨r.val % 32, Nat.mod_lt _ (by decide)⟩ e)
      (fun b hb => by match b with
        | ⟨0, _⟩ => exact absurd rfl hb
        | ⟨1, _⟩ => rfl)
      (by show 96 + r.val % 32 = r.val; omega)
  · rw [← h4]
    exact concatenate_apply_piece (t := S512x128) 0 _ _ (ix2 r e) 4 (by exact (by decide : 4 < 16)) S32x128 y4 rfl rfl 128 rfl
      (ix2 ⟨r.val % 32, Nat.mod_lt _ (by decide)⟩ e)
      (fun b hb => by match b with
        | ⟨0, _⟩ => exact absurd rfl hb
        | ⟨1, _⟩ => rfl)
      (by show 128 + r.val % 32 = r.val; omega)
  · rw [← h5]
    exact concatenate_apply_piece (t := S512x128) 0 _ _ (ix2 r e) 5 (by exact (by decide : 5 < 16)) S32x128 y5 rfl rfl 160 rfl
      (ix2 ⟨r.val % 32, Nat.mod_lt _ (by decide)⟩ e)
      (fun b hb => by match b with
        | ⟨0, _⟩ => exact absurd rfl hb
        | ⟨1, _⟩ => rfl)
      (by show 160 + r.val % 32 = r.val; omega)
  · rw [← h6]
    exact concatenate_apply_piece (t := S512x128) 0 _ _ (ix2 r e) 6 (by exact (by decide : 6 < 16)) S32x128 y6 rfl rfl 192 rfl
      (ix2 ⟨r.val % 32, Nat.mod_lt _ (by decide)⟩ e)
      (fun b hb => by match b with
        | ⟨0, _⟩ => exact absurd rfl hb
        | ⟨1, _⟩ => rfl)
      (by show 192 + r.val % 32 = r.val; omega)
  · rw [← h7]
    exact concatenate_apply_piece (t := S512x128) 0 _ _ (ix2 r e) 7 (by exact (by decide : 7 < 16)) S32x128 y7 rfl rfl 224 rfl
      (ix2 ⟨r.val % 32, Nat.mod_lt _ (by decide)⟩ e)
      (fun b hb => by match b with
        | ⟨0, _⟩ => exact absurd rfl hb
        | ⟨1, _⟩ => rfl)
      (by show 224 + r.val % 32 = r.val; omega)
  · rw [← h8]
    exact concatenate_apply_piece (t := S512x128) 0 _ _ (ix2 r e) 8 (by exact (by decide : 8 < 16)) S32x128 y8 rfl rfl 256 rfl
      (ix2 ⟨r.val % 32, Nat.mod_lt _ (by decide)⟩ e)
      (fun b hb => by match b with
        | ⟨0, _⟩ => exact absurd rfl hb
        | ⟨1, _⟩ => rfl)
      (by show 256 + r.val % 32 = r.val; omega)
  · rw [← h9]
    exact concatenate_apply_piece (t := S512x128) 0 _ _ (ix2 r e) 9 (by exact (by decide : 9 < 16)) S32x128 y9 rfl rfl 288 rfl
      (ix2 ⟨r.val % 32, Nat.mod_lt _ (by decide)⟩ e)
      (fun b hb => by match b with
        | ⟨0, _⟩ => exact absurd rfl hb
        | ⟨1, _⟩ => rfl)
      (by show 288 + r.val % 32 = r.val; omega)
  · rw [← h10]
    exact concatenate_apply_piece (t := S512x128) 0 _ _ (ix2 r e) 10 (by exact (by decide : 10 < 16)) S32x128 y10 rfl rfl 320 rfl
      (ix2 ⟨r.val % 32, Nat.mod_lt _ (by decide)⟩ e)
      (fun b hb => by match b with
        | ⟨0, _⟩ => exact absurd rfl hb
        | ⟨1, _⟩ => rfl)
      (by show 320 + r.val % 32 = r.val; omega)
  · rw [← h11]
    exact concatenate_apply_piece (t := S512x128) 0 _ _ (ix2 r e) 11 (by exact (by decide : 11 < 16)) S32x128 y11 rfl rfl 352 rfl
      (ix2 ⟨r.val % 32, Nat.mod_lt _ (by decide)⟩ e)
      (fun b hb => by match b with
        | ⟨0, _⟩ => exact absurd rfl hb
        | ⟨1, _⟩ => rfl)
      (by show 352 + r.val % 32 = r.val; omega)
  · rw [← h12]
    exact concatenate_apply_piece (t := S512x128) 0 _ _ (ix2 r e) 12 (by exact (by decide : 12 < 16)) S32x128 y12 rfl rfl 384 rfl
      (ix2 ⟨r.val % 32, Nat.mod_lt _ (by decide)⟩ e)
      (fun b hb => by match b with
        | ⟨0, _⟩ => exact absurd rfl hb
        | ⟨1, _⟩ => rfl)
      (by show 384 + r.val % 32 = r.val; omega)
  · rw [← h13]
    exact concatenate_apply_piece (t := S512x128) 0 _ _ (ix2 r e) 13 (by exact (by decide : 13 < 16)) S32x128 y13 rfl rfl 416 rfl
      (ix2 ⟨r.val % 32, Nat.mod_lt _ (by decide)⟩ e)
      (fun b hb => by match b with
        | ⟨0, _⟩ => exact absurd rfl hb
        | ⟨1, _⟩ => rfl)
      (by show 416 + r.val % 32 = r.val; omega)
  · rw [← h14]
    exact concatenate_apply_piece (t := S512x128) 0 _ _ (ix2 r e) 14 (by exact (by decide : 14 < 16)) S32x128 y14 rfl rfl 448 rfl
      (ix2 ⟨r.val % 32, Nat.mod_lt _ (by decide)⟩ e)
      (fun b hb => by match b with
        | ⟨0, _⟩ => exact absurd rfl hb
        | ⟨1, _⟩ => rfl)
      (by show 448 + r.val % 32 = r.val; omega)
  · rw [← h15]
    exact concatenate_apply_piece (t := S512x128) 0 _ _ (ix2 r e) 15 (by exact (by decide : 15 < 16)) S32x128 y15 rfl rfl 480 rfl
      (ix2 ⟨r.val % 32, Nat.mod_lt _ (by decide)⟩ e)
      (fun b hb => by match b with
        | ⟨0, _⟩ => exact absurd rfl hb
        | ⟨1, _⟩ => rfl)
      (by show 480 + r.val % 32 = r.val; omega)

/-- The state after some chunks of a block is the recurrence's. -/
theorem st_apply (hlb : ∀ d, lb (ix2 0 d) = LB d) (hff : ∀ (r : Fin 512) d, hf (ix2 r d) = FF (512 * i + r.val) d)
    (hv : ∀ (r : Fin 512) d, v (ix2 r d) = V (512 * i + r.val) d) (st : FVec Ideal S128x128 .f32)
    (hst : ∀ e d, st (ix2 e d) = Hgrn.stt LB FF V (16 * i) e d) :
    (∀ e d, st0 lb hf v st (ix2 e d) = Hgrn.stt LB FF V (16 * i + 0) e d)
    ∧ (∀ e d, st1 lb hf v st (ix2 e d) = Hgrn.stt LB FF V (16 * i + 1) e d)
    ∧ (∀ e d, st2 lb hf v st (ix2 e d) = Hgrn.stt LB FF V (16 * i + 2) e d)
    ∧ (∀ e d, st3 lb hf v st (ix2 e d) = Hgrn.stt LB FF V (16 * i + 3) e d)
    ∧ (∀ e d, st4 lb hf v st (ix2 e d) = Hgrn.stt LB FF V (16 * i + 4) e d)
    ∧ (∀ e d, st5 lb hf v st (ix2 e d) = Hgrn.stt LB FF V (16 * i + 5) e d)
    ∧ (∀ e d, st6 lb hf v st (ix2 e d) = Hgrn.stt LB FF V (16 * i + 6) e d)
    ∧ (∀ e d, st7 lb hf v st (ix2 e d) = Hgrn.stt LB FF V (16 * i + 7) e d)
    ∧ (∀ e d, st8 lb hf v st (ix2 e d) = Hgrn.stt LB FF V (16 * i + 8) e d)
    ∧ (∀ e d, st9 lb hf v st (ix2 e d) = Hgrn.stt LB FF V (16 * i + 9) e d)
    ∧ (∀ e d, st10 lb hf v st (ix2 e d) = Hgrn.stt LB FF V (16 * i + 10) e d)
    ∧ (∀ e d, st11 lb hf v st (ix2 e d) = Hgrn.stt LB FF V (16 * i + 11) e d)
    ∧ (∀ e d, st12 lb hf v st (ix2 e d) = Hgrn.stt LB FF V (16 * i + 12) e d)
    ∧ (∀ e d, st13 lb hf v st (ix2 e d) = Hgrn.stt LB FF V (16 * i + 13) e d)
    ∧ (∀ e d, st14 lb hf v st (ix2 e d) = Hgrn.stt LB FF V (16 * i + 14) e d)
    ∧ (∀ e d, st15 lb hf v st (ix2 e d) = Hgrn.stt LB FF V (16 * i + 15) e d)
    ∧ (∀ e d, st16 lb hf v st (ix2 e d) = Hgrn.stt LB FF V (16 * i + 16) e d) := by
  have g0 : ∀ e d, st0 lb hf v st (ix2 e d) = Hgrn.stt LB FF V (16 * i + 0) e d := hst
  have g1 : ∀ e d, st1 lb hf v st (ix2 e d) = Hgrn.stt LB FF V (16 * i + 1) e d := stp_apply hlb hff hv 0 (by decide) _ _ g0
  have g2 : ∀ e d, st2 lb hf v st (ix2 e d) = Hgrn.stt LB FF V (16 * i + 2) e d := stp_apply hlb hff hv 1 (by decide) _ _ g1
  have g3 : ∀ e d, st3 lb hf v st (ix2 e d) = Hgrn.stt LB FF V (16 * i + 3) e d := stp_apply hlb hff hv 2 (by decide) _ _ g2
  have g4 : ∀ e d, st4 lb hf v st (ix2 e d) = Hgrn.stt LB FF V (16 * i + 4) e d := stp_apply hlb hff hv 3 (by decide) _ _ g3
  have g5 : ∀ e d, st5 lb hf v st (ix2 e d) = Hgrn.stt LB FF V (16 * i + 5) e d := stp_apply hlb hff hv 4 (by decide) _ _ g4
  have g6 : ∀ e d, st6 lb hf v st (ix2 e d) = Hgrn.stt LB FF V (16 * i + 6) e d := stp_apply hlb hff hv 5 (by decide) _ _ g5
  have g7 : ∀ e d, st7 lb hf v st (ix2 e d) = Hgrn.stt LB FF V (16 * i + 7) e d := stp_apply hlb hff hv 6 (by decide) _ _ g6
  have g8 : ∀ e d, st8 lb hf v st (ix2 e d) = Hgrn.stt LB FF V (16 * i + 8) e d := stp_apply hlb hff hv 7 (by decide) _ _ g7
  have g9 : ∀ e d, st9 lb hf v st (ix2 e d) = Hgrn.stt LB FF V (16 * i + 9) e d := stp_apply hlb hff hv 8 (by decide) _ _ g8
  have g10 : ∀ e d, st10 lb hf v st (ix2 e d) = Hgrn.stt LB FF V (16 * i + 10) e d := stp_apply hlb hff hv 9 (by decide) _ _ g9
  have g11 : ∀ e d, st11 lb hf v st (ix2 e d) = Hgrn.stt LB FF V (16 * i + 11) e d := stp_apply hlb hff hv 10 (by decide) _ _ g10
  have g12 : ∀ e d, st12 lb hf v st (ix2 e d) = Hgrn.stt LB FF V (16 * i + 12) e d := stp_apply hlb hff hv 11 (by decide) _ _ g11
  have g13 : ∀ e d, st13 lb hf v st (ix2 e d) = Hgrn.stt LB FF V (16 * i + 13) e d := stp_apply hlb hff hv 12 (by decide) _ _ g12
  have g14 : ∀ e d, st14 lb hf v st (ix2 e d) = Hgrn.stt LB FF V (16 * i + 14) e d := stp_apply hlb hff hv 13 (by decide) _ _ g13
  have g15 : ∀ e d, st15 lb hf v st (ix2 e d) = Hgrn.stt LB FF V (16 * i + 15) e d := stp_apply hlb hff hv 14 (by decide) _ _ g14
  have g16 : ∀ e d, st16 lb hf v st (ix2 e d) = Hgrn.stt LB FF V (16 * i + 16) e d := stp_apply hlb hff hv 15 (by decide) _ _ g15
  exact ⟨g0, g1, g2, g3, g4, g5, g6, g7, g8, g9, g10, g11, g12, g13, g14, g15, g16⟩

/-- The block's outputs, before they are normalised, are the recurrence's. -/
theorem outs_apply (hlb : ∀ d, lb (ix2 0 d) = LB d) (hqq : ∀ (r : Fin 512) d, hq (ix2 r d) = Q (512 * i + r.val) d)
    (hff : ∀ (r : Fin 512) d, hf (ix2 r d) = FF (512 * i + r.val) d)
    (hv : ∀ (r : Fin 512) d, v (ix2 r d) = V (512 * i + r.val) d) (st : FVec Ideal S128x128 .f32)
    (hst : ∀ e d, st (ix2 e d) = Hgrn.stt LB FF V (16 * i) e d) (r : Fin 512) (e : Fin 128) :
    outs lb hf hq v st (ix2 r e) = Hgrn.outT LB Q FF V (512 * i + r.val) e := by
  obtain ⟨g0, g1, g2, g3, g4, g5, g6, g7, g8, g9, g10, g11, g12, g13, g14, g15, g16⟩ := st_apply hlb hff hv st hst
  unfold outs
  rw [cat_apply _ _ _ _ _ _ _ _ _ _ _ _ _ _ _ _ (fun c s e => Hgrn.out LB Q FF V (16 * i + c) s.val (Hgrn.stt LB FF V (16 * i + c)) e)
    (fun s e => outc_apply hlb hqq hff hv 0 (by decide) _ _ g0 s e)
    (fun s e => outc_apply hlb hqq hff hv 1 (by decide) _ _ g1 s e)
    (fun s e => outc_apply hlb hqq hff hv 2 (by decide) _ _ g2 s e)
    (fun s e => outc_apply hlb hqq hff hv 3 (by decide) _ _ g3 s e)
    (fun s e => outc_apply hlb hqq hff hv 4 (by decide) _ _ g4 s e)
    (fun s e => outc_apply hlb hqq hff hv 5 (by decide) _ _ g5 s e)
    (fun s e => outc_apply hlb hqq hff hv 6 (by decide) _ _ g6 s e)
    (fun s e => outc_apply hlb hqq hff hv 7 (by decide) _ _ g7 s e)
    (fun s e => outc_apply hlb hqq hff hv 8 (by decide) _ _ g8 s e)
    (fun s e => outc_apply hlb hqq hff hv 9 (by decide) _ _ g9 s e)
    (fun s e => outc_apply hlb hqq hff hv 10 (by decide) _ _ g10 s e)
    (fun s e => outc_apply hlb hqq hff hv 11 (by decide) _ _ g11 s e)
    (fun s e => outc_apply hlb hqq hff hv 12 (by decide) _ _ g12 s e)
    (fun s e => outc_apply hlb hqq hff hv 13 (by decide) _ _ g13 s e)
    (fun s e => outc_apply hlb hqq hff hv 14 (by decide) _ _ g14 s e)
    (fun s e => outc_apply hlb hqq hff hv 15 (by decide) _ _ g15 s e)
    r e]
  unfold Hgrn.outT
  rw [show (512 * i + r.val) / 32 = 16 * i + r.val / 32 from by omega, show (512 * i + r.val) % 32 = r.val % 32 from by omega]

end Cert.HgrnPromptIdeal.Head

end
-- ==== Proof.Tiles.lean ====
/- The blocks a grid point loads and stores, read element by element. -/
module

public import proofs.«01_k».proof.Proof.Pieces
public import proofs.«01_k».proof.Proof.Block
public import Idealize.ShloMosaic.Lib.WholeRead

@[expose] public section

set_option maxRecDepth 16384

noncomputable section

namespace Cert.HgrnPromptIdeal.Head

open Cert.HgrnPromptIdeal Cert.HgrnPromptIdeal.Gen Idealize.ShloMosaic Idealize.ShloMosaic.TcCoe Idealize.SL.Sem Cert

/-- Head `h`'s column `d` among the 1024. -/
def col (h : Fin 8) (d : Fin 128) : Fin 1024 := ⟨128 * h.val + d.val, by omega⟩

/-- What a grid point's blocks hold: block `i` of the four sequences of every head, the heads' lower bounds and norms. -/
structure Blk (i : ℕ) (x0 x1 x2 x3 : Vec Ideal S512x1024 .f32) (x4 x5 : Vec Ideal S8x1x128 .f32)
    (Q FF V G : Fin 8 → Hgrn.Seq) (LB NR : Fin 8 → Fin 128 → EReal) : Prop where
  hq : ∀ (h : Fin 8) (r : Fin 512) (d : Fin 128), x0 (ix2 r (col h d)) = Q h (512 * i + r.val) d
  hf : ∀ (h : Fin 8) (r : Fin 512) (d : Fin 128), x1 (ix2 r (col h d)) = FF h (512 * i + r.val) d
  hv : ∀ (h : Fin 8) (r : Fin 512) (d : Fin 128), x2 (ix2 r (col h d)) = V h (512 * i + r.val) d
  hg : ∀ (h : Fin 8) (r : Fin 512) (d : Fin 128), x3 (ix2 r (col h d)) = G h (512 * i + r.val) d
  hl : ∀ (h : Fin 8) (d : Fin 128), x4 (ix3 h 0 d) = LB h d
  hn : ∀ (h : Fin 8) (d : Fin 128), x5 (ix3 h 0 d) = NR h d

/-- A loaded element of head `h`'s columns. -/
theorem ldc_apply (a : Memref sig .tc .vmem S512x1024 .f32) (ha : a.IsWhole) (x : Vec Ideal S512x1024 .f32) (h : Fin 8) (o : ℕ) (ho)
    (e : o = 128 * h.val) (r : Fin 512) (d : Fin 128) : ldc a ha x o ho (ix2 r d) = x (ix2 r (col h d)) := by
  subst e
  unfold ldc
  rw [Memref.IsWhole.readAt_unread]
  congr 1
  funext a
  refine Fin.ext ?_
  match a with
  | ⟨0, _⟩ => show 0 + 1 * r.val = r.val; omega
  | ⟨1, _⟩ => show 128 * h.val + 1 * d.val = 128 * h.val + d.val; omega

/-- A loaded element of head `h`'s row. -/
theorem ldr_apply (a : Memref sig .tc .vmem S8x1x128 .f32) (ha : a.IsWhole) (x : Vec Ideal S8x1x128 .f32) (h : Fin 8) (o : ℕ) (ho)
    (e : o = h.val) (d : Fin 128) : ldr a ha x o ho (ix3 0 0 d) = x (ix3 h 0 d) := by
  subst e
  unfold ldr
  rw [Memref.IsWhole.readAt_unread]
  congr 1
  funext a
  refine Fin.ext ?_
  match a with
  | ⟨0, _⟩ => show h.val + 1 * 0 = h.val; omega
  | ⟨1, _⟩ => rfl
  | ⟨2, _⟩ => show 0 + 1 * d.val = d.val; omega

/-- A loaded element of head `h`'s carried state. -/
theorem lds_apply (a : Memref sig .tc .vmem S8x128x128 .f32) (ha : a.IsWhole) (x : Vec Ideal S8x128x128 .f32) (h : Fin 8) (o : ℕ) (ho)
    (e' : o = h.val) (e d : Fin 128) : lds a ha x o ho (ix3 0 e d) = x (ix3 h e d) := by
  subst e'
  unfold lds
  rw [Memref.IsWhole.readAt_unread]
  congr 1
  funext a
  refine Fin.ext ?_
  match a with
  | ⟨0, _⟩ => show h.val + 1 * 0 = h.val; omega
  | ⟨1, _⟩ => show 0 + 1 * e.val = e.val; omega
  | ⟨2, _⟩ => show 0 + 1 * d.val = d.val; omega

/-- Dropping a row's leading axes. -/
theorem r1_apply (v : Vec Ideal S1x1x128 .f32) (d : Fin 128) : r1 v (ix2 0 d) = v (ix3 0 0 d) := by
  pointwise [r1]

/-- Dropping a state's leading axis. -/
theorem s1_apply (v : Vec Ideal S1x128x128 .f32) (e d : Fin 128) : s1 v (ix2 e d) = v (ix3 0 e d) := by
  pointwise [s1]

section Head

variable {Q FF V G : Hgrn.Seq} {LB NR : Fin 128 → EReal} {i : ℕ}
variable {lb nrm : Vec Ideal S1x1x128 .f32} {hq hf v hg : Vec Ideal S512x128 .f32} {st : Vec Ideal S1x128x128 .f32}

/-- A head's state after a block. -/
theorem hst_apply (hlb : ∀ d, lb (ix3 0 0 d) = LB d) (hff : ∀ (r : Fin 512) d, hf (ix2 r d) = FF (512 * i + r.val) d)
    (hv : ∀ (r : Fin 512) d, v (ix2 r d) = V (512 * i + r.val) d) (hs : ∀ e d, st (ix3 0 e d) = Hgrn.stt LB FF V (16 * i) e d)
    (e d : Fin 128) : hst lb hf v st (ix2 e d) = Hgrn.stt LB FF V (16 * i + 16) e d := by
  obtain ⟨-, -, -, -, -, -, -, -, -, -, -, -, -, -, -, -, g⟩ :=
    st_apply (lb := r1 lb) (fun d => (r1_apply lb d).trans (hlb d)) hff hv (s1 st) (fun e d => (s1_apply st e d).trans (hs e d))
  exact g e d

/-- A head's outputs for a block. -/
theorem hout_apply (hlb : ∀ d, lb (ix3 0 0 d) = LB d) (hnr : ∀ d, nrm (ix3 0 0 d) = NR d)
    (hqq : ∀ (r : Fin 512) d, hq (ix2 r d) = Q (512 * i + r.val) d) (hff : ∀ (r : Fin 512) d, hf (ix2 r d) = FF (512 * i + r.val) d)
    (hv : ∀ (r : Fin 512) d, v (ix2 r d) = V (512 * i + r.val) d) (hgg : ∀ (r : Fin 512) d, hg (ix2 r d) = G (512 * i + r.val) d)
    (hs : ∀ e d, st (ix3 0 e d) = Hgrn.stt LB FF V (16 * i) e d)
    (r : Fin 512) (e : Fin 128) : hout lb nrm hq hf v hg st (ix2 r e) = Hgrn.fin (Hgrn.outT LB Q FF V) NR G (512 * i + r.val) e :=
  fin_apply (x := outs (r1 lb) hf hq v (s1 st))
    (fun r e => outs_apply (lb := r1 lb) (fun d => (r1_apply lb d).trans (hlb d)) hqq hff hv (s1 st)
      (fun e d => (s1_apply st e d).trans (hs e d)) r e)
    (fun d => (r1_apply nrm d).trans (hnr d)) hgg r e

end Head

/-- Contents read back under the last store. -/
theorem canon_on {s : Shape} {ty : EltTy} (r : Rect s) (w : r.shape.Idx → Elt Ideal ty) (L : List (View.Piece (Elt Ideal) s ty)) (y : s.Idx)
    (x : r.shape.Idx) (h : y = r.emb x) : View.canon (Val := Elt Ideal) ((⟨r, w⟩ : View.Piece (Elt Ideal) s ty) :: L) y = w x := by
  rw [h]
  exact View.canon_cons_emb r w L x

/-- Contents read back beside the last store. -/
theorem canon_off {s : Shape} {ty : EltTy} (off size : Fin s.rank → ℕ) (inb) (w : (Rect.unit (s := s) off size inb).shape.Idx → Elt Ideal ty)
    (L : List (View.Piece (Elt Ideal) s ty)) (y : s.Idx) (a : Fin s.rank) (h : (y a).val < off a ∨ off a + size a ≤ (y a).val) :
    View.canon (Val := Elt Ideal) ((⟨Rect.unit (s := s) off size inb, w⟩ : View.Piece (Elt Ideal) s ty) :: L) y = View.canon L y := by
  refine View.canon_cons_of_not_mem _ _ fun hm => ?_
  have := (Rect.mem_set_unit (inb := inb)).mp hm a
  omega

/-- The output block read back past the store of head `k`'s columns. -/
theorem canon7 (k o : ℕ) (ho : o = 128 * k) (inb) (w : S512x128.Idx → Elt Ideal .bf16) (L : List (View.Piece (Elt Ideal) S512x1024 .bf16))
    (h : Fin 8) (r : Fin 512) (d : Fin 128) :
    View.canon (Val := Elt Ideal) ((⟨Rect.unit (s := S512x1024) ![0, o] S512x128.size inb, w⟩ : View.Piece (Elt Ideal) S512x1024 .bf16) :: L) (ix2 r (col h d))
      = if h.val = k then w (ix2 r d) else View.canon L (ix2 r (col h d)) := by
  subst ho
  by_cases hk : h.val = k
  · subst hk
    rw [if_pos rfl]
    refine (canon_on (Rect.unit (s := S512x1024) ![0, 128 * h.val] S512x128.size inb) _ L _ (ix2 r d) ?_).trans ?_
    · funext a
      refine Fin.ext ?_
      match a with
      | ⟨0, _⟩ => show r.val = 0 + 1 * r.val; omega
      | ⟨1, _⟩ => show 128 * h.val + d.val = 128 * h.val + 1 * d.val; omega
    · rfl
  · rw [if_neg hk]
    refine canon_off _ _ inb _ L _ 1 ?_
    show 128 * h.val + d.val < 128 * k ∨ 128 * k + 128 ≤ 128 * h.val + d.val
    omega

/-- The block of states read back past the store of head `k`'s. -/
theorem canon8 (k : ℕ) (inb) (w : S128x128.Idx → Elt Ideal .f32) (hw) (L : List (View.Piece (Elt Ideal) S1x8x128x128 .f32))
    (h : Fin 8) (e d : Fin 128) :
    View.canon (Val := Elt Ideal) ((⟨Rect.unit (s := S1x8x128x128) ![0, k, 0, 0] S1x1x128x128.size inb, shapeCast S1x1x128x128 w hw⟩ : View.Piece (Elt Ideal) S1x8x128x128 .f32) :: L) (ix4 0 h e d)
      = if h.val = k then w (ix2 e d) else View.canon L (ix4 0 h e d) := by
  by_cases hk : h.val = k
  · subst hk
    rw [if_pos rfl]
    refine (canon_on (Rect.unit (s := S1x8x128x128) ![0, h.val, 0, 0] S1x1x128x128.size inb) _ L _ (ix4 0 0 e d) ?_).trans ?_
    · funext a
      refine Fin.ext ?_
      match a with
      | ⟨0, _⟩ => rfl
      | ⟨1, _⟩ => show h.val = h.val + 1 * 0; omega
      | ⟨2, _⟩ => show e.val = 0 + 1 * e.val; omega
      | ⟨3, _⟩ => show d.val = 0 + 1 * d.val; omega
    · pointwise
  · rw [if_neg hk]
    refine canon_off _ _ inb _ L _ 1 ?_
    show h.val < k ∨ k + 1 ≤ h.val
    omega

/-- The carried states read back past the store of head `k`'s. -/
theorem canonS (k : ℕ) (inb) (w : S128x128.Idx → Elt Ideal .f32) (hw) (L : List (View.Piece (Elt Ideal) S8x128x128 .f32))
    (h : Fin 8) (e d : Fin 128) :
    View.canon (Val := Elt Ideal) ((⟨Rect.unit (s := S8x128x128) ![k, 0, 0] S1x128x128.size inb, shapeCast S1x128x128 w hw⟩ : View.Piece (Elt Ideal) S8x128x128 .f32) :: L) (ix3 h e d)
      = if h.val = k then w (ix2 e d) else View.canon L (ix3 h e d) := by
  by_cases hk : h.val = k
  · subst hk
    rw [if_pos rfl]
    refine (canon_on (Rect.unit (s := S8x128x128) ![h.val, 0, 0] S1x128x128.size inb) _ L _ (ix3 0 e d) ?_).trans ?_
    · funext a
      refine Fin.ext ?_
      match a with
      | ⟨0, _⟩ => show h.val = h.val + 1 * 0; omega
      | ⟨1, _⟩ => show e.val = 0 + 1 * e.val; omega
      | ⟨2, _⟩ => show d.val = 0 + 1 * d.val; omega
    · pointwise
  · rw [if_neg hk]
    refine canon_off _ _ inb _ L _ 0 ?_
    show h.val < k ∨ k + 1 ≤ h.val
    omega

/-- The carried states where only the initial ones have been stored. -/
theorem canonW (arg9 : Memref sig .tc .vmem S1x8x128x128 .f32) (harg9 : arg9.IsWhole) (x6 : Vec Ideal S1x8x128x128 .f32) (inb) (inb')
    (L : List (View.Piece (Elt Ideal) S8x128x128 .f32)) (h : Fin 8) (e d : Fin 128) :
    View.canon (Val := Elt Ideal) ((⟨Rect.unit (s := S8x128x128) ![0, 0, 0] S8x128x128.size inb, k0_pay4 (View.readAt (Elt Ideal) arg9.view (Rect.unit (s := S1x8x128x128) ![0, 0, 0, 0] S1x8x128x128.size inb').toLoadRect (harg9.unread x6))⟩ : View.Piece (Elt Ideal) S8x128x128 .f32) :: L) (ix3 h e d)
      = x6 (ix4 0 h e d) := by
  refine (canon_on (Rect.unit (s := S8x128x128) ![0, 0, 0] S8x128x128.size inb) _ L _ (ix3 h e d) ?_).trans ?_
  · funext a
    refine Fin.ext ?_
    match a with
    | ⟨0, _⟩ => show h.val = 0 + 1 * h.val; omega
    | ⟨1, _⟩ => show e.val = 0 + 1 * e.val; omega
    | ⟨2, _⟩ => show d.val = 0 + 1 * d.val; omega
  pointwise [k0_pay4]
  refine (Memref.IsWhole.readAt_unread harg9 x6 _ _).trans ?_
  congr 1
  funext a
  refine Fin.ext ?_
  match a with
  | ⟨0, _⟩ => rfl
  | ⟨1, _⟩ => show 0 + 1 * h.val = h.val; omega
  | ⟨2, _⟩ => show 0 + 1 * e.val = e.val; omega
  | ⟨3, _⟩ => show 0 + 1 * d.val = d.val; omega

/-- Head `h`'s state read back from the carried states. -/
theorem readCov_row (arg12 : Memref sig .tc .vmem S8x128x128 .f32) (L : List (View.Piece (Elt Ideal) S8x128x128 .f32)) (h : Fin 8) (o : ℕ) (ho)
    (eo : o = h.val) (e d : Fin 128) :
    arg12.view.readCov (Val := Elt Ideal) L (Rect.unit (s := S8x128x128) ![o, 0, 0] S1x128x128.size ho).toLoadRect (ix3 0 e d) = View.canon L (ix3 h e d) := by
  subst eo
  rw [View.readCov_eq_canon']
  show View.canon L _ = _
  congr 1
  funext a
  refine Fin.ext ?_
  match a with
  | ⟨0, _⟩ => show h.val + 1 * 0 = h.val; omega
  | ⟨1, _⟩ => show 0 + 1 * e.val = e.val; omega
  | ⟨2, _⟩ => show 0 + 1 * d.val = d.val; omega

end Cert.HgrnPromptIdeal.Head

end
-- ==== Proof.Point.lean ====
/- What one grid point leaves in the two output blocks and in the carried states, element by element. -/
module

public import proofs.«01_k».proof.Proof.Tiles
public import Idealize.ShloMosaic.Lib.WholeRead

@[expose] public section

set_option maxRecDepth 16384

noncomputable section

namespace Cert.HgrnPromptIdeal.Head

open Cert.HgrnPromptIdeal Cert.HgrnPromptIdeal.Gen Idealize.ShloMosaic Idealize.ShloMosaic.TcCoe Idealize.SL.Sem Cert

/-- Head 0's state as a sequence's first block loads it is the initial one. -/
theorem lc_0 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v11 c arg9 harg9 arg12 x6) (ix3 0 e d) = x6 (ix4 0 0 e d) := by
  rw [LC_0 c arg4 harg4 arg5 harg5 arg7 harg7 arg9 harg9 arg12 x1 x2 x4 x6]
  refine (readCov_row _ _ 0 _ _ rfl e d).trans ?_

  exact canonW arg9 harg9 x6 _ _ [] _ e d

/-- Head 1's state as a sequence's first block loads it is the initial one. -/
theorem lc_1 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v425 c arg4 harg4 arg5 harg5 arg7 harg7 arg9 harg9 arg12 x1 x2 x4 x6) (ix3 0 e d) = x6 (ix4 0 1 e d) := by
  rw [LC_1 c arg4 harg4 arg5 harg5 arg7 harg7 arg9 harg9 arg12 x1 x2 x4 x6]
  refine (readCov_row _ _ 1 _ _ rfl e d).trans ?_
  refine (canonS 0 _ _ _ _ _ _ _).trans ?_
  refine (if_neg (show ¬(1 : ℕ) = 0 by decide)).trans ?_
  exact canonW arg9 harg9 x6 _ _ [] _ e d

/-- Head 2's state as a sequence's first block loads it is the initial one. -/
theorem lc_2 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v839 c arg4 harg4 arg5 harg5 arg7 harg7 arg9 harg9 arg12 x1 x2 x4 x6) (ix3 0 e d) = x6 (ix4 0 2 e d) := by
  rw [LC_2 c arg4 harg4 arg5 harg5 arg7 harg7 arg9 harg9 arg12 x1 x2 x4 x6]
  refine (readCov_row _ _ 2 _ _ rfl e d).trans ?_
  refine (canonS 1 _ _ _ _ _ _ _).trans ?_
  refine (if_neg (show ¬(2 : ℕ) = 1 by decide)).trans ?_
  refine (canonS 0 _ _ _ _ _ _ _).trans ?_
  refine (if_neg (show ¬(2 : ℕ) = 0 by decide)).trans ?_
  exact canonW arg9 harg9 x6 _ _ [] _ e d

/-- Head 3's state as a sequence's first block loads it is the initial one. -/
theorem lc_3 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v1253 c arg4 harg4 arg5 harg5 arg7 harg7 arg9 harg9 arg12 x1 x2 x4 x6) (ix3 0 e d) = x6 (ix4 0 3 e d) := by
  rw [LC_3 c arg4 harg4 arg5 harg5 arg7 harg7 arg9 harg9 arg12 x1 x2 x4 x6]
  refine (readCov_row _ _ 3 _ _ rfl e d).trans ?_
  refine (canonS 2 _ _ _ _ _ _ _).trans ?_
  refine (if_neg (show ¬(3 : ℕ) = 2 by decide)).trans ?_
  refine (canonS 1 _ _ _ _ _ _ _).trans ?_
  refine (if_neg (show ¬(3 : ℕ) = 1 by decide)).trans ?_
  refine (canonS 0 _ _ _ _ _ _ _).trans ?_
  refine (if_neg (show ¬(3 : ℕ) = 0 by decide)).trans ?_
  exact canonW arg9 harg9 x6 _ _ [] _ e d

/-- Head 4's state as a sequence's first block loads it is the initial one. -/
theorem lc_4 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v1667 c arg4 harg4 arg5 harg5 arg7 harg7 arg9 harg9 arg12 x1 x2 x4 x6) (ix3 0 e d) = x6 (ix4 0 4 e d) := by
  rw [LC_4 c arg4 harg4 arg5 harg5 arg7 harg7 arg9 harg9 arg12 x1 x2 x4 x6]
  refine (readCov_row _ _ 4 _ _ rfl e d).trans ?_
  refine (canonS 3 _ _ _ _ _ _ _).trans ?_
  refine (if_neg (show ¬(4 : ℕ) = 3 by decide)).trans ?_
  refine (canonS 2 _ _ _ _ _ _ _).trans ?_
  refine (if_neg (show ¬(4 : ℕ) = 2 by decide)).trans ?_
  refine (canonS 1 _ _ _ _ _ _ _).trans ?_
  refine (if_neg (show ¬(4 : ℕ) = 1 by decide)).trans ?_
  refine (canonS 0 _ _ _ _ _ _ _).trans ?_
  refine (if_neg (show ¬(4 : ℕ) = 0 by decide)).trans ?_
  exact canonW arg9 harg9 x6 _ _ [] _ e d

/-- Head 5's state as a sequence's first block loads it is the initial one. -/
theorem lc_5 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v2081 c arg4 harg4 arg5 harg5 arg7 harg7 arg9 harg9 arg12 x1 x2 x4 x6) (ix3 0 e d) = x6 (ix4 0 5 e d) := by
  rw [LC_5 c arg4 harg4 arg5 harg5 arg7 harg7 arg9 harg9 arg12 x1 x2 x4 x6]
  refine (readCov_row _ _ 5 _ _ rfl e d).trans ?_
  refine (canonS 4 _ _ _ _ _ _ _).trans ?_
  refine (if_neg (show ¬(5 : ℕ) = 4 by decide)).trans ?_
  refine (canonS 3 _ _ _ _ _ _ _).trans ?_
  refine (if_neg (show ¬(5 : ℕ) = 3 by decide)).trans ?_
  refine (canonS 2 _ _ _ _ _ _ _).trans ?_
  refine (if_neg (show ¬(5 : ℕ) = 2 by decide)).trans ?_
  refine (canonS 1 _ _ _ _ _ _ _).trans ?_
  refine (if_neg (show ¬(5 : ℕ) = 1 by decide)).trans ?_
  refine (canonS 0 _ _ _ _ _ _ _).trans ?_
  refine (if_neg (show ¬(5 : ℕ) = 0 by decide)).trans ?_
  exact canonW arg9 harg9 x6 _ _ [] _ e d

/-- Head 6's state as a sequence's first block loads it is the initial one. -/
theorem lc_6 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v2495 c arg4 harg4 arg5 harg5 arg7 harg7 arg9 harg9 arg12 x1 x2 x4 x6) (ix3 0 e d) = x6 (ix4 0 6 e d) := by
  rw [LC_6 c arg4 harg4 arg5 harg5 arg7 harg7 arg9 harg9 arg12 x1 x2 x4 x6]
  refine (readCov_row _ _ 6 _ _ rfl e d).trans ?_
  refine (canonS 5 _ _ _ _ _ _ _).trans ?_
  refine (if_neg (show ¬(6 : ℕ) = 5 by decide)).trans ?_
  refine (canonS 4 _ _ _ _ _ _ _).trans ?_
  refine (if_neg (show ¬(6 : ℕ) = 4 by decide)).trans ?_
  refine (canonS 3 _ _ _ _ _ _ _).trans ?_
  refine (if_neg (show ¬(6 : ℕ) = 3 by decide)).trans ?_
  refine (canonS 2 _ _ _ _ _ _ _).trans ?_
  refine (if_neg (show ¬(6 : ℕ) = 2 by decide)).trans ?_
  refine (canonS 1 _ _ _ _ _ _ _).trans ?_
  refine (if_neg (show ¬(6 : ℕ) = 1 by decide)).trans ?_
  refine (canonS 0 _ _ _ _ _ _ _).trans ?_
  refine (if_neg (show ¬(6 : ℕ) = 0 by decide)).trans ?_
  exact canonW arg9 harg9 x6 _ _ [] _ e d

/-- Head 7's state as a sequence's first block loads it is the initial one. -/
theorem lc_7 (c : Dev nD) (arg4 : Memref sig .tc .vmem S512x1024 .f32) (harg4 : arg4.IsWhole) (arg5 : Memref sig .tc .vmem S512x1024 .f32) (harg5 : arg5.IsWhole) (arg7 : Memref sig .tc .vmem S8x1x128 .f32) (harg7 : arg7.IsWhole) (arg9 : Memref sig .tc .vmem S1x8x128x128 .f32) (harg9 : arg9.IsWhole) (arg12 : Memref sig .tc .vmem S8x128x128 .f32) (x1 x2 : Vec Ideal S512x1024 .f32) (x4 : Vec Ideal S8x1x128 .f32) (x6 : Vec Ideal S1x8x128x128 .f32) (e d : Fin 128) :
    (kernelRun0_A.sl.v2909 c arg4 harg4 arg5 harg5 arg7 harg7 arg9 harg9 arg12 x1 x2 x4 x6) (ix3 0 e d) = x6 (ix4 0 7 e d) := by
  rw [LC_7 c arg4 harg4 arg5 harg5 arg7 harg7 arg9 harg9 arg12 x1 x2 x4 x6]
  refine (readCov_row _ _ 7 _ _ rfl e d).trans ?_
  refine (canonS 6 _ _ _ _ _ _ _).trans ?_
  refine (if_neg (show ¬(7 : ℕ) = 6 by decide)).trans ?_
  refine (canonS 5 _ _ _ _ _ _ _).trans ?_
  refine (if_neg (show ¬(7 : ℕ) = 5 by decide)).trans ?_
  refine (canonS 4 _ _ _ _ _ _ _).trans ?_
  refine (if_neg (show ¬(7 : ℕ) = 4 by decide)).trans ?_
  refine (canonS 3 _ _ _ _ _ _ _).trans ?_
  refine (if_neg (show ¬(7 : ℕ) = 3 by decide)).trans ?_
  refine (canonS 2 _ _ _ _ _ _ _).trans ?_
  refine (if_neg (show ¬(7 : ℕ) = 2 by decide)).trans ?_
  refine (canonS 1 _ _ _ _ _ _ _).trans ?_
  refine (if_neg (show ¬(7 : ℕ) = 1 by decide)).trans ?_
  refine (canonS 0 _ _ _ _ _ _ _).trans ?_
  refine (if_neg (show ¬(7 : ℕ) = 0 by decide)).trans ?_
  exact canonW arg9 harg9 x6 _ _ [] _ e d

section Point

variable {Q FF V G : Fin 8 → Hgrn.Seq} {LB NR : Fin 8 → Fin 128 → EReal} {b : ℕ}

/-- The output block after a later block. -/
theorem out7_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : ¬cond0_0 i)
    (x0 x1 x2 x3 : Vec Ideal S512x1024 .f32) (x4 x5 : Vec Ideal S8x1x128 .f32) (x6 : Vec Ideal S1x8x128x128 .f32) (xs0 : Vec Ideal S8x128x128 .f32)
    (H : Blk b x0 x1 x2 x3 x4 x5 Q FF V G LB NR)
    (hs : ∀ (h : Fin 8) e d, xs0 (ix3 h e d) = Hgrn.stt (LB h) (FF h) (V h) (16 * b) e d)
    (h : Fin 8) (r : Fin 512) (e : Fin 128) :
    out0_B_7 (F := Ideal) c i arg3 harg3 arg4 harg4 arg5 harg5 arg6 harg6 arg7 harg7 arg8 harg8 arg9 harg9 arg10 harg10 arg11 harg11 arg12 harg12 hc0 x0 x1 x2 x3 x4 x5 x6 xs0 (ix2 r (col h e)) = Hgrn.fin (Hgrn.outT (LB h) (Q h) (FF h) (V h)) (NR h) (G h) (512 * b + r.val) e := by
  unfold out0_B_7
  rw [View.read_writes_junk_eq_canon, L7_B]
  match h with
  | ⟨0, _⟩ =>
    refine (canon7 7 896 rfl _ _ _ _ _ _).trans ((if_neg (show ¬(0 : ℕ) = 7 by decide)).trans ?_)
    refine (canon7 6 768 rfl _ _ _ _ _ _).trans ((if_neg (show ¬(0 : ℕ) = 6 by decide)).trans ?_)
    refine (canon7 5 640 rfl _ _ _ _ _ _).trans ((if_neg (show ¬(0 : ℕ) = 5 by decide)).trans ?_)
    refine (canon7 4 512 rfl _ _ _ _ _ _).trans ((if_neg (show ¬(0 : ℕ) = 4 by decide)).trans ?_)
    refine (canon7 3 384 rfl _ _ _ _ _ _).trans ((if_neg (show ¬(0 : ℕ) = 3 by decide)).trans ?_)
    refine (canon7 2 256 rfl _ _ _ _ _ _).trans ((if_neg (show ¬(0 : ℕ) = 2 by decide)).trans ?_)
    refine (canon7 1 128 rfl _ _ _ _ _ _).trans ((if_neg (show ¬(0 : ℕ) = 1 by decide)).trans ?_)
    refine (canon7 0 0 rfl _ _ _ _ _ _).trans ((if_pos rfl).trans ?_)
    exact hout_apply (LB := LB 0) (NR := NR 0) (Q := Q 0) (FF := FF 0) (V := V 0) (G := G 0) (i := b) (fun d => (ldr_apply _ _ _ 0 _ _ rfl d).trans (H.hl 0 d)) (fun d => (ldr_apply _ _ _ 0 _ _ rfl d).trans (H.hn 0 d)) (fun r d => (ldc_apply _ _ _ 0 _ _ rfl r d).trans (H.hq 0 r d)) (fun r d => (ldc_apply _ _ _ 0 _ _ rfl r d).trans (H.hf 0 r d)) (fun r d => (ldc_apply _ _ _ 0 _ _ rfl r d).trans (H.hv 0 r d)) (fun r d => (ldc_apply _ _ _ 0 _ _ rfl r d).trans (H.hg 0 r d)) (fun e d => (lds_apply _ _ _ 0 _ _ rfl e d).trans (hs 0 e d)) r e
  | ⟨1, _⟩ =>
    refine (canon7 7 896 rfl _ _ _ _ _ _).trans ((if_neg (show ¬(1 : ℕ) = 7 by decide)).trans ?_)
    refine (canon7 6 768 rfl _ _ _ _ _ _).trans ((if_neg (show ¬(1 : ℕ) = 6 by decide)).trans ?_)
    refine (canon7 5 640 rfl _ _ _ _ _ _).trans ((if_neg (show ¬(1 : ℕ) = 5 by decide)).trans ?_)
    refine (canon7 4 512 rfl _ _ _ _ _ _).trans ((if_neg (show ¬(1 : ℕ) = 4 by decide)).trans ?_)
    refine (canon7 3 384 rfl _ _ _ _ _ _).trans ((if_neg (show ¬(1 : ℕ) = 3 by decide)).trans ?_)
    refine (canon7 2 256 rfl _ _ _ _ _ _).trans ((if_neg (show ¬(1 : ℕ) = 2 by decide)).trans ?_)
    refine (canon7 1 128 rfl _ _ _ _ _ _).trans ((if_pos rfl).trans ?_)
    exact hout_apply (LB := LB 1) (NR := NR 1) (Q := Q 1) (FF := FF 1) (V := V 1) (G := G 1) (i := b) (fun d => (ldr_apply _ _ _ 1 _ _ rfl d).trans (H.hl 1 d)) (fun d => (ldr_apply _ _ _ 1 _ _ rfl d).trans (H.hn 1 d)) (fun r d => (ldc_apply _ _ _ 1 _ _ rfl r d).trans (H.hq 1 r d)) (fun r d => (ldc_apply _ _ _ 1 _ _ rfl r d).trans (H.hf 1 r d)) (fun r d => (ldc_apply _ _ _ 1 _ _ rfl r d).trans (H.hv 1 r d)) (fun r d => (ldc_apply _ _ _ 1 _ _ rfl r d).trans (H.hg 1 r d)) (fun e d => (lds_apply _ _ _ 1 _ _ rfl e d).trans (hs 1 e d)) r e
  | ⟨2, _⟩ =>
    refine (canon7 7 896 rfl _ _ _ _ _ _).trans ((if_neg (show ¬(2 : ℕ) = 7 by decide)).trans ?_)
    refine (canon7 6 768 rfl _ _ _ _ _ _).trans ((if_neg (show ¬(2 : ℕ) = 6 by decide)).trans ?_)
    refine (canon7 5 640 rfl _ _ _ _ _ _).trans ((if_neg (show ¬(2 : ℕ) = 5 by decide)).trans ?_)
    refine (canon7 4 512 rfl _ _ _ _ _ _).trans ((if_neg (show ¬(2 : ℕ) = 4 by decide)).trans ?_)
    refine (canon7 3 384 rfl _ _ _ _ _ _).trans ((if_neg (show ¬(2 : ℕ) = 3 by decide)).trans ?_)
    refine (canon7 2 256 rfl _ _ _ _ _ _).trans ((if_pos rfl).trans ?_)
    exact hout_apply (LB := LB 2) (NR := NR 2) (Q := Q 2) (FF := FF 2) (V := V 2) (G := G 2) (i := b) (fun d => (ldr_apply _ _ _ 2 _ _ rfl d).trans (H.hl 2 d)) (fun d => (ldr_apply _ _ _ 2 _ _ rfl d).trans (H.hn 2 d)) (fun r d => (ldc_apply _ _ _ 2 _ _ rfl r d).trans (H.hq 2 r d)) (fun r d => (ldc_apply _ _ _ 2 _ _ rfl r d).trans (H.hf 2 r d)) (fun r d => (ldc_apply _ _ _ 2 _ _ rfl r d).trans (H.hv 2 r d)) (fun r d => (ldc_apply _ _ _ 2 _ _ rfl r d).trans (H.hg 2 r d)) (fun e d => (lds_apply _ _ _ 2 _ _ rfl e d).trans (hs 2 e d)) r e
  | ⟨3, _⟩ =>
    refine (canon7 7 896 rfl _ _ _ _ _ _).trans ((if_neg (show ¬(3 : ℕ) = 7 by decide)).trans ?_)
    refine (canon7 6 768 rfl _ _ _ _ _ _).trans ((if_neg (show ¬(3 : ℕ) = 6 by decide)).trans ?_)
    refine (canon7 5 640 rfl _ _ _ _ _ _).trans ((if_neg (show ¬(3 : ℕ) = 5 by decide)).trans ?_)
    refine (canon7 4 512 rfl _ _ _ _ _ _).trans ((if_neg (show ¬(3 : ℕ) = 4 by decide)).trans ?_)
    refine (canon7 3 384 rfl _ _ _ _ _ _).trans ((if_pos rfl).trans ?_)
    exact hout_apply (LB := LB 3) (NR := NR 3) (Q := Q 3) (FF := FF 3) (V := V 3) (G := G 3) (i := b) (fun d => (ldr_apply _ _ _ 3 _ _ rfl d).trans (H.hl 3 d)) (fun d => (ldr_apply _ _ _ 3 _ _ rfl d).trans (H.hn 3 d)) (fun r d => (ldc_apply _ _ _ 3 _ _ rfl r d).trans (H.hq 3 r d)) (fun r d => (ldc_apply _ _ _ 3 _ _ rfl r d).trans (H.hf 3 r d)) (fun r d => (ldc_apply _ _ _ 3 _ _ rfl r d).trans (H.hv 3 r d)) (fun r d => (ldc_apply _ _ _ 3 _ _ rfl r d).trans (H.hg 3 r d)) (fun e d => (lds_apply _ _ _ 3 _ _ rfl e d).trans (hs 3 e d)) r e
  | ⟨4, _⟩ =>
    refine (canon7 7 896 rfl _ _ _ _ _ _).trans ((if_neg (show ¬(4 : ℕ) = 7 by decide)).trans ?_)
    refine (canon7 6 768 rfl _ _ _ _ _ _).trans ((if_neg (show ¬(4 : ℕ) = 6 by decide)).trans ?_)
    refine (canon7 5 640 rfl _ _ _ _ _ _).trans ((if_neg (show ¬(4 : ℕ) = 5 by decide)).trans ?_)
    refine (canon7 4 512 rfl _ _ _ _ _ _).trans ((if_pos rfl).trans ?_)
    exact hout_apply (LB := LB 4) (NR := NR 4) (Q := Q 4) (FF := FF 4) (V := V 4) (G := G 4) (i := b) (fun d => (ldr_apply _ _ _ 4 _ _ rfl d).trans (H.hl 4 d)) (fun d => (ldr_apply _ _ _ 4 _ _ rfl d).trans (H.hn 4 d)) (fun r d => (ldc_apply _ _ _ 4 _ _ rfl r d).trans (H.hq 4 r d)) (fun r d => (ldc_apply _ _ _ 4 _ _ rfl r d).trans (H.hf 4 r d)) (fun r d => (ldc_apply _ _ _ 4 _ _ rfl r d).trans (H.hv 4 r d)) (fun r d => (ldc_apply _ _ _ 4 _ _ rfl r d).trans (H.hg 4 r d)) (fun e d => (lds_apply _ _ _ 4 _ _ rfl e d).trans (hs 4 e d)) r e
  | ⟨5, _⟩ =>
    refine (canon7 7 896 rfl _ _ _ _ _ _).trans ((if_neg (show ¬(5 : ℕ) = 7 by decide)).trans ?_)
    refine (canon7 6 768 rfl _ _ _ _ _ _).trans ((if_neg (show ¬(5 : ℕ) = 6 by decide)).trans ?_)
    refine (canon7 5 640 rfl _ _ _ _ _ _).trans ((if_pos rfl).trans ?_)
    exact hout_apply (LB := LB 5) (NR := NR 5) (Q := Q 5) (FF := FF 5) (V := V 5) (G := G 5) (i := b) (fun d => (ldr_apply _ _ _ 5 _ _ rfl d).trans (H.hl 5 d)) (fun d => (ldr_apply _ _ _ 5 _ _ rfl d).trans (H.hn 5 d)) (fun r d => (ldc_apply _ _ _ 5 _ _ rfl r d).trans (H.hq 5 r d)) (fun r d => (ldc_apply _ _ _ 5 _ _ rfl r d).trans (H.hf 5 r d)) (fun r d => (ldc_apply _ _ _ 5 _ _ rfl r d).trans (H.hv 5 r d)) (fun r d => (ldc_apply _ _ _ 5 _ _ rfl r d).trans (H.hg 5 r d)) (fun e d => (lds_apply _ _ _ 5 _ _ rfl e d).trans (hs 5 e d)) r e
  | ⟨6, _⟩ =>
    refine (canon7 7 896 rfl _ _ _ _ _ _).trans ((if_neg (show ¬(6 : ℕ) = 7 by decide)).trans ?_)
    refine (canon7 6 768 rfl _ _ _ _ _ _).trans ((if_pos rfl).trans ?_)
    exact hout_apply (LB := LB 6) (NR := NR 6) (Q := Q 6) (FF := FF 6) (V := V 6) (G := G 6) (i := b) (fun d => (ldr_apply _ _ _ 6 _ _ rfl d).trans (H.hl 6 d)) (fun d => (ldr_apply _ _ _ 6 _ _ rfl d).trans (H.hn 6 d)) (fun r d => (ldc_apply _ _ _ 6 _ _ rfl r d).trans (H.hq 6 r d)) (fun r d => (ldc_apply _ _ _ 6 _ _ rfl r d).trans (H.hf 6 r d)) (fun r d => (ldc_apply _ _ _ 6 _ _ rfl r d).trans (H.hv 6 r d)) (fun r d => (ldc_apply _ _ _ 6 _ _ rfl r d).trans (H.hg 6 r d)) (fun e d => (lds_apply _ _ _ 6 _ _ rfl e d).trans (hs 6 e d)) r e
  | ⟨7, _⟩ =>
    refine (canon7 7 896 rfl _ _ _ _ _ _).trans ((if_pos rfl).trans ?_)
    exact hout_apply (LB := LB 7) (NR := NR 7) (Q := Q 7) (FF := FF 7) (V := V 7) (G := G 7) (i := b) (fun d => (ldr_apply _ _ _ 7 _ _ rfl d).trans (H.hl 7 d)) (fun d => (ldr_apply _ _ _ 7 _ _ rfl d).trans (H.hn 7 d)) (fun r d => (ldc_apply _ _ _ 7 _ _ rfl r d).trans (H.hq 7 r d)) (fun r d => (ldc_apply _ _ _ 7 _ _ rfl r d).trans (H.hf 7 r d)) (fun r d => (ldc_apply _ _ _ 7 _ _ rfl r d).trans (H.hv 7 r d)) (fun r d => (ldc_apply _ _ _ 7 _ _ rfl r d).trans (H.hg 7 r d)) (fun e d => (lds_apply _ _ _ 7 _ _ rfl e d).trans (hs 7 e d)) r e

/-- The block of states after a later block. -/
theorem out8_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : ¬cond0_0 i)
    (x0 x1 x2 x3 : Vec Ideal S512x1024 .f32) (x4 x5 : Vec Ideal S8x1x128 .f32) (x6 : Vec Ideal S1x8x128x128 .f32) (xs0 : Vec Ideal S8x128x128 .f32)
    (H : Blk b x0 x1 x2 x3 x4 x5 Q FF V G LB NR)
    (hs : ∀ (h : Fin 8) e d, xs0 (ix3 h e d) = Hgrn.stt (LB h) (FF h) (V h) (16 * b) e d)
    (h : Fin 8) (e d : Fin 128) :
    out0_B_8 (F := Ideal) c i arg3 harg3 arg4 harg4 arg5 harg5 arg6 harg6 arg7 harg7 arg8 harg8 arg9 harg9 arg10 harg10 arg11 harg11 arg12 harg12 hc0 x0 x1 x2 x3 x4 x5 x6 xs0 (ix4 0 h e d) = Hgrn.stt (LB h) (FF h) (V h) (16 * b + 16) e d := by
  unfold out0_B_8
  rw [View.read_writes_junk_eq_canon, L8_B]
  match h with
  | ⟨0, _⟩ =>
    refine (canon8 7 _ _ _ _ _ _ _).trans ((if_neg (show ¬(0 : ℕ) = 7 by decide)).trans ?_)
    refine (canon8 6 _ _ _ _ _ _ _).trans ((if_neg (show ¬(0 : ℕ) = 6 by decide)).trans ?_)
    refine (canon8 5 _ _ _ _ _ _ _).trans ((if_neg (show ¬(0 : ℕ) = 5 by decide)).trans ?_)
    refine (canon8 4 _ _ _ _ _ _ _).trans ((if_neg (show ¬(0 : ℕ) = 4 by decide)).trans ?_)
    refine (canon8 3 _ _ _ _ _ _ _).trans ((if_neg (show ¬(0 : ℕ) = 3 by decide)).trans ?_)
    refine (canon8 2 _ _ _ _ _ _ _).trans ((if_neg (show ¬(0 : ℕ) = 2 by decide)).trans ?_)
    refine (canon8 1 _ _ _ _ _ _ _).trans ((if_neg (show ¬(0 : ℕ) = 1 by decide)).trans ?_)
    refine (canon8 0 _ _ _ _ _ _ _).trans ((if_pos rfl).trans ?_)
    exact hst_apply (LB := LB 0) (FF := FF 0) (V := V 0) (i := b) (fun d => (ldr_apply _ _ _ 0 _ _ rfl d).trans (H.hl 0 d)) (fun r d => (ldc_apply _ _ _ 0 _ _ rfl r d).trans (H.hf 0 r d)) (fun r d => (ldc_apply _ _ _ 0 _ _ rfl r d).trans (H.hv 0 r d)) (fun e d => (lds_apply _ _ _ 0 _ _ rfl e d).trans (hs 0 e d)) e d
  | ⟨1, _⟩ =>
    refine (canon8 7 _ _ _ _ _ _ _).trans ((if_neg (show ¬(1 : ℕ) = 7 by decide)).trans ?_)
    refine (canon8 6 _ _ _ _ _ _ _).trans ((if_neg (show ¬(1 : ℕ) = 6 by decide)).trans ?_)
    refine (canon8 5 _ _ _ _ _ _ _).trans ((if_neg (show ¬(1 : ℕ) = 5 by decide)).trans ?_)
    refine (canon8 4 _ _ _ _ _ _ _).trans ((if_neg (show ¬(1 : ℕ) = 4 by decide)).trans ?_)
    refine (canon8 3 _ _ _ _ _ _ _).trans ((if_neg (show ¬(1 : ℕ) = 3 by decide)).trans ?_)
    refine (canon8 2 _ _ _ _ _ _ _).trans ((if_neg (show ¬(1 : ℕ) = 2 by decide)).trans ?_)
    refine (canon8 1 _ _ _ _ _ _ _).trans ((if_pos rfl).trans ?_)
    exact hst_apply (LB := LB 1) (FF := FF 1) (V := V 1) (i := b) (fun d => (ldr_apply _ _ _ 1 _ _ rfl d).trans (H.hl 1 d)) (fun r d => (ldc_apply _ _ _ 1 _ _ rfl r d).trans (H.hf 1 r d)) (fun r d => (ldc_apply _ _ _ 1 _ _ rfl r d).trans (H.hv 1 r d)) (fun e d => (lds_apply _ _ _ 1 _ _ rfl e d).trans (hs 1 e d)) e d
  | ⟨2, _⟩ =>
    refine (canon8 7 _ _ _ _ _ _ _).trans ((if_neg (show ¬(2 : ℕ) = 7 by decide)).trans ?_)
    refine (canon8 6 _ _ _ _ _ _ _).trans ((if_neg (show ¬(2 : ℕ) = 6 by decide)).trans ?_)
    refine (canon8 5 _ _ _ _ _ _ _).trans ((if_neg (show ¬(2 : ℕ) = 5 by decide)).trans ?_)
    refine (canon8 4 _ _ _ _ _ _ _).trans ((if_neg (show ¬(2 : ℕ) = 4 by decide)).trans ?_)
    refine (canon8 3 _ _ _ _ _ _ _).trans ((if_neg (show ¬(2 : ℕ) = 3 by decide)).trans ?_)
    refine (canon8 2 _ _ _ _ _ _ _).trans ((if_pos rfl).trans ?_)
    exact hst_apply (LB := LB 2) (FF := FF 2) (V := V 2) (i := b) (fun d => (ldr_apply _ _ _ 2 _ _ rfl d).trans (H.hl 2 d)) (fun r d => (ldc_apply _ _ _ 2 _ _ rfl r d).trans (H.hf 2 r d)) (fun r d => (ldc_apply _ _ _ 2 _ _ rfl r d).trans (H.hv 2 r d)) (fun e d => (lds_apply _ _ _ 2 _ _ rfl e d).trans (hs 2 e d)) e d
  | ⟨3, _⟩ =>
    refine (canon8 7 _ _ _ _ _ _ _).trans ((if_neg (show ¬(3 : ℕ) = 7 by decide)).trans ?_)
    refine (canon8 6 _ _ _ _ _ _ _).trans ((if_neg (show ¬(3 : ℕ) = 6 by decide)).trans ?_)
    refine (canon8 5 _ _ _ _ _ _ _).trans ((if_neg (show ¬(3 : ℕ) = 5 by decide)).trans ?_)
    refine (canon8 4 _ _ _ _ _ _ _).trans ((if_neg (show ¬(3 : ℕ) = 4 by decide)).trans ?_)
    refine (canon8 3 _ _ _ _ _ _ _).trans ((if_pos rfl).trans ?_)
    exact hst_apply (LB := LB 3) (FF := FF 3) (V := V 3) (i := b) (fun d => (ldr_apply _ _ _ 3 _ _ rfl d).trans (H.hl 3 d)) (fun r d => (ldc_apply _ _ _ 3 _ _ rfl r d).trans (H.hf 3 r d)) (fun r d => (ldc_apply _ _ _ 3 _ _ rfl r d).trans (H.hv 3 r d)) (fun e d => (lds_apply _ _ _ 3 _ _ rfl e d).trans (hs 3 e d)) e d
  | ⟨4, _⟩ =>
    refine (canon8 7 _ _ _ _ _ _ _).trans ((if_neg (show ¬(4 : ℕ) = 7 by decide)).trans ?_)
    refine (canon8 6 _ _ _ _ _ _ _).trans ((if_neg (show ¬(4 : ℕ) = 6 by decide)).trans ?_)
    refine (canon8 5 _ _ _ _ _ _ _).trans ((if_neg (show ¬(4 : ℕ) = 5 by decide)).trans ?_)
    refine (canon8 4 _ _ _ _ _ _ _).trans ((if_pos rfl).trans ?_)
    exact hst_apply (LB := LB 4) (FF := FF 4) (V := V 4) (i := b) (fun d => (ldr_apply _ _ _ 4 _ _ rfl d).trans (H.hl 4 d)) (fun r d => (ldc_apply _ _ _ 4 _ _ rfl r d).trans (H.hf 4 r d)) (fun r d => (ldc_apply _ _ _ 4 _ _ rfl r d).trans (H.hv 4 r d)) (fun e d => (lds_apply _ _ _ 4 _ _ rfl e d).trans (hs 4 e d)) e d
  | ⟨5, _⟩ =>
    refine (canon8 7 _ _ _ _ _ _ _).trans ((if_neg (show ¬(5 : ℕ) = 7 by decide)).trans ?_)
    refine (canon8 6 _ _ _ _ _ _ _).trans ((if_neg (show ¬(5 : ℕ) = 6 by decide)).trans ?_)
    refine (canon8 5 _ _ _ _ _ _ _).trans ((if_pos rfl).trans ?_)
    exact hst_apply (LB := LB 5) (FF := FF 5) (V := V 5) (i := b) (fun d => (ldr_apply _ _ _ 5 _ _ rfl d).trans (H.hl 5 d)) (fun r d => (ldc_apply _ _ _ 5 _ _ rfl r d).trans (H.hf 5 r d)) (fun r d => (ldc_apply _ _ _ 5 _ _ rfl r d).trans (H.hv 5 r d)) (fun e d => (lds_apply _ _ _ 5 _ _ rfl e d).trans (hs 5 e d)) e d
  | ⟨6, _⟩ =>
    refine (canon8 7 _ _ _ _ _ _ _).trans ((if_neg (show ¬(6 : ℕ) = 7 by decide)).trans ?_)
    refine (canon8 6 _ _ _ _ _ _ _).trans ((if_pos rfl).trans ?_)
    exact hst_apply (LB := LB 6) (FF := FF 6) (V := V 6) (i := b) (fun d => (ldr_apply _ _ _ 6 _ _ rfl d).trans (H.hl 6 d)) (fun r d => (ldc_apply _ _ _ 6 _ _ rfl r d).trans (H.hf 6 r d)) (fun r d => (ldc_apply _ _ _ 6 _ _ rfl r d).trans (H.hv 6 r d)) (fun e d => (lds_apply _ _ _ 6 _ _ rfl e d).trans (hs 6 e d)) e d
  | ⟨7, _⟩ =>
    refine (canon8 7 _ _ _ _ _ _ _).trans ((if_pos rfl).trans ?_)
    exact hst_apply (LB := LB 7) (FF := FF 7) (V := V 7) (i := b) (fun d => (ldr_apply _ _ _ 7 _ _ rfl d).trans (H.hl 7 d)) (fun r d => (ldc_apply _ _ _ 7 _ _ rfl r d).trans (H.hf 7 r d)) (fun r d => (ldc_apply _ _ _ 7 _ _ rfl r d).trans (H.hv 7 r d)) (fun e d => (lds_apply _ _ _ 7 _ _ rfl e d).trans (hs 7 e d)) e d

/-- The carried states after a later block. -/
theorem outS_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : ¬cond0_0 i)
    (x0 x1 x2 x3 : Vec Ideal S512x1024 .f32) (x4 x5 : Vec Ideal S8x1x128 .f32) (x6 : Vec Ideal S1x8x128x128 .f32) (xs0 : Vec Ideal S8x128x128 .f32)
    (H : Blk b x0 x1 x2 x3 x4 x5 Q FF V G LB NR)
    (hs : ∀ (h : Fin 8) e d, xs0 (ix3 h e d) = Hgrn.stt (LB h) (FF h) (V h) (16 * b) e d)
    (h : Fin 8) (e d : Fin 128) :
    sout0_B_0 (F := Ideal) c i arg3 harg3 arg4 harg4 arg5 harg5 arg6 harg6 arg7 harg7 arg8 harg8 arg9 harg9 arg10 harg10 arg11 harg11 arg12 harg12 hc0 x0 x1 x2 x3 x4 x5 x6 xs0 (ix3 h e d) = Hgrn.stt (LB h) (FF h) (V h) (16 * b + 16) e d := by
  unfold sout0_B_0
  rw [View.read_writes_junk_eq_canon, LS_B]
  match h with
  | ⟨0, _⟩ =>
    refine (canonS 7 _ _ _ _ _ _ _).trans ((if_neg (show ¬(0 : ℕ) = 7 by decide)).trans ?_)
    refine (canonS 6 _ _ _ _ _ _ _).trans ((if_neg (show ¬(0 : ℕ) = 6 by decide)).trans ?_)
    refine (canonS 5 _ _ _ _ _ _ _).trans ((if_neg (show ¬(0 : ℕ) = 5 by decide)).trans ?_)
    refine (canonS 4 _ _ _ _ _ _ _).trans ((if_neg (show ¬(0 : ℕ) = 4 by decide)).trans ?_)
    refine (canonS 3 _ _ _ _ _ _ _).trans ((if_neg (show ¬(0 : ℕ) = 3 by decide)).trans ?_)
    refine (canonS 2 _ _ _ _ _ _ _).trans ((if_neg (show ¬(0 : ℕ) = 2 by decide)).trans ?_)
    refine (canonS 1 _ _ _ _ _ _ _).trans ((if_neg (show ¬(0 : ℕ) = 1 by decide)).trans ?_)
    refine (canonS 0 _ _ _ _ _ _ _).trans ((if_pos rfl).trans ?_)
    exact hst_apply (LB := LB 0) (FF := FF 0) (V := V 0) (i := b) (fun d => (ldr_apply _ _ _ 0 _ _ rfl d).trans (H.hl 0 d)) (fun r d => (ldc_apply _ _ _ 0 _ _ rfl r d).trans (H.hf 0 r d)) (fun r d => (ldc_apply _ _ _ 0 _ _ rfl r d).trans (H.hv 0 r d)) (fun e d => (lds_apply _ _ _ 0 _ _ rfl e d).trans (hs 0 e d)) e d
  | ⟨1, _⟩ =>
    refine (canonS 7 _ _ _ _ _ _ _).trans ((if_neg (show ¬(1 : ℕ) = 7 by decide)).trans ?_)
    refine (canonS 6 _ _ _ _ _ _ _).trans ((if_neg (show ¬(1 : ℕ) = 6 by decide)).trans ?_)
    refine (canonS 5 _ _ _ _ _ _ _).trans ((if_neg (show ¬(1 : ℕ) = 5 by decide)).trans ?_)
    refine (canonS 4 _ _ _ _ _ _ _).trans ((if_neg (show ¬(1 : ℕ) = 4 by decide)).trans ?_)
    refine (canonS 3 _ _ _ _ _ _ _).trans ((if_neg (show ¬(1 : ℕ) = 3 by decide)).trans ?_)
    refine (canonS 2 _ _ _ _ _ _ _).trans ((if_neg (show ¬(1 : ℕ) = 2 by decide)).trans ?_)
    refine (canonS 1 _ _ _ _ _ _ _).trans ((if_pos rfl).trans ?_)
    exact hst_apply (LB := LB 1) (FF := FF 1) (V := V 1) (i := b) (fun d => (ldr_apply _ _ _ 1 _ _ rfl d).trans (H.hl 1 d)) (fun r d => (ldc_apply _ _ _ 1 _ _ rfl r d).trans (H.hf 1 r d)) (fun r d => (ldc_apply _ _ _ 1 _ _ rfl r d).trans (H.hv 1 r d)) (fun e d => (lds_apply _ _ _ 1 _ _ rfl e d).trans (hs 1 e d)) e d
  | ⟨2, _⟩ =>
    refine (canonS 7 _ _ _ _ _ _ _).trans ((if_neg (show ¬(2 : ℕ) = 7 by decide)).trans ?_)
    refine (canonS 6 _ _ _ _ _ _ _).trans ((if_neg (show ¬(2 : ℕ) = 6 by decide)).trans ?_)
    refine (canonS 5 _ _ _ _ _ _ _).trans ((if_neg (show ¬(2 : ℕ) = 5 by decide)).trans ?_)
    refine (canonS 4 _ _ _ _ _ _ _).trans ((if_neg (show ¬(2 : ℕ) = 4 by decide)).trans ?_)
    refine (canonS 3 _ _ _ _ _ _ _).trans ((if_neg (show ¬(2 : ℕ) = 3 by decide)).trans ?_)
    refine (canonS 2 _ _ _ _ _ _ _).trans ((if_pos rfl).trans ?_)
    exact hst_apply (LB := LB 2) (FF := FF 2) (V := V 2) (i := b) (fun d => (ldr_apply _ _ _ 2 _ _ rfl d).trans (H.hl 2 d)) (fun r d => (ldc_apply _ _ _ 2 _ _ rfl r d).trans (H.hf 2 r d)) (fun r d => (ldc_apply _ _ _ 2 _ _ rfl r d).trans (H.hv 2 r d)) (fun e d => (lds_apply _ _ _ 2 _ _ rfl e d).trans (hs 2 e d)) e d
  | ⟨3, _⟩ =>
    refine (canonS 7 _ _ _ _ _ _ _).trans ((if_neg (show ¬(3 : ℕ) = 7 by decide)).trans ?_)
    refine (canonS 6 _ _ _ _ _ _ _).trans ((if_neg (show ¬(3 : ℕ) = 6 by decide)).trans ?_)
    refine (canonS 5 _ _ _ _ _ _ _).trans ((if_neg (show ¬(3 : ℕ) = 5 by decide)).trans ?_)
    refine (canonS 4 _ _ _ _ _ _ _).trans ((if_neg (show ¬(3 : ℕ) = 4 by decide)).trans ?_)
    refine (canonS 3 _ _ _ _ _ _ _).trans ((if_pos rfl).trans ?_)
    exact hst_apply (LB := LB 3) (FF := FF 3) (V := V 3) (i := b) (fun d => (ldr_apply _ _ _ 3 _ _ rfl d).trans (H.hl 3 d)) (fun r d => (ldc_apply _ _ _ 3 _ _ rfl r d).trans (H.hf 3 r d)) (fun r d => (ldc_apply _ _ _ 3 _ _ rfl r d).trans (H.hv 3 r d)) (fun e d => (lds_apply _ _ _ 3 _ _ rfl e d).trans (hs 3 e d)) e d
  | ⟨4, _⟩ =>
    refine (canonS 7 _ _ _ _ _ _ _).trans ((if_neg (show ¬(4 : ℕ) = 7 by decide)).trans ?_)
    refine (canonS 6 _ _ _ _ _ _ _).trans ((if_neg (show ¬(4 : ℕ) = 6 by decide)).trans ?_)
    refine (canonS 5 _ _ _ _ _ _ _).trans ((if_neg (show ¬(4 : ℕ) = 5 by decide)).trans ?_)
    refine (canonS 4 _ _ _ _ _ _ _).trans ((if_pos rfl).trans ?_)
    exact hst_apply (LB := LB 4) (FF := FF 4) (V := V 4) (i := b) (fun d => (ldr_apply _ _ _ 4 _ _ rfl d).trans (H.hl 4 d)) (fun r d => (ldc_apply _ _ _ 4 _ _ rfl r d).trans (H.hf 4 r d)) (fun r d => (ldc_apply _ _ _ 4 _ _ rfl r d).trans (H.hv 4 r d)) (fun e d => (lds_apply _ _ _ 4 _ _ rfl e d).trans (hs 4 e d)) e d
  | ⟨5, _⟩ =>
    refine (canonS 7 _ _ _ _ _ _ _).trans ((if_neg (show ¬(5 : ℕ) = 7 by decide)).trans ?_)
    refine (canonS 6 _ _ _ _ _ _ _).trans ((if_neg (show ¬(5 : ℕ) = 6 by decide)).trans ?_)
    refine (canonS 5 _ _ _ _ _ _ _).trans ((if_pos rfl).trans ?_)
    exact hst_apply (LB := LB 5) (FF := FF 5) (V := V 5) (i := b) (fun d => (ldr_apply _ _ _ 5 _ _ rfl d).trans (H.hl 5 d)) (fun r d => (ldc_apply _ _ _ 5 _ _ rfl r d).trans (H.hf 5 r d)) (fun r d => (ldc_apply _ _ _ 5 _ _ rfl r d).trans (H.hv 5 r d)) (fun e d => (lds_apply _ _ _ 5 _ _ rfl e d).trans (hs 5 e d)) e d
  | ⟨6, _⟩ =>
    refine (canonS 7 _ _ _ _ _ _ _).trans ((if_neg (show ¬(6 : ℕ) = 7 by decide)).trans ?_)
    refine (canonS 6 _ _ _ _ _ _ _).trans ((if_pos rfl).trans ?_)
    exact hst_apply (LB := LB 6) (FF := FF 6) (V := V 6) (i := b) (fun d => (ldr_apply _ _ _ 6 _ _ rfl d).trans (H.hl 6 d)) (fun r d => (ldc_apply _ _ _ 6 _ _ rfl r d).trans (H.hf 6 r d)) (fun r d => (ldc_apply _ _ _ 6 _ _ rfl r d).trans (H.hv 6 r d)) (fun e d => (lds_apply _ _ _ 6 _ _ rfl e d).trans (hs 6 e d)) e d
  | ⟨7, _⟩ =>
    refine (canonS 7 _ _ _ _ _ _ _).trans ((if_pos rfl).trans ?_)
    exact hst_apply (LB := LB 7) (FF := FF 7) (V := V 7) (i := b) (fun d => (ldr_apply _ _ _ 7 _ _ rfl d).trans (H.hl 7 d)) (fun r d => (ldc_apply _ _ _ 7 _ _ rfl r d).trans (H.hf 7 r d)) (fun r d => (ldc_apply _ _ _ 7 _ _ rfl r d).trans (H.hv 7 r d)) (fun e d => (lds_apply _ _ _ 7 _ _ rfl e d).trans (hs 7 e d)) e d

/-- The output block after a sequence's first block. -/
theorem out7_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : cond0_0 i)
    (x0 x1 x2 x3 : Vec Ideal S512x1024 .f32) (x4 x5 : Vec Ideal S8x1x128 .f32) (x6 : Vec Ideal S1x8x128x128 .f32)
    (H : Blk b x0 x1 x2 x3 x4 x5 Q FF V G LB NR)
    (hb : b = 0) (hs : ∀ (h : Fin 8) e d, x6 (ix4 0 h e d) = 0)
    (h : Fin 8) (r : Fin 512) (e : Fin 128) :
    out0_A_7 (F := Ideal) c i arg3 harg3 arg4 harg4 arg5 harg5 arg6 harg6 arg7 harg7 arg8 harg8 arg9 harg9 arg10 harg10 arg11 harg11 arg12 harg12 hc0 x0 x1 x2 x3 x4 x5 x6 (ix2 r (col h e)) = Hgrn.fin (Hgrn.outT (LB h) (Q h) (FF h) (V h)) (NR h) (G h) (512 * b + r.val) e := by
  unfold out0_A_7
  rw [View.read_writes_junk_eq_canon, L7_A]
  match h with
  | ⟨0, _⟩ =>
    refine (canon7 7 896 rfl _ _ _ _ _ _).trans ((if_neg (show ¬(0 : ℕ) = 7 by decide)).trans ?_)
    refine (canon7 6 768 rfl _ _ _ _ _ _).trans ((if_neg (show ¬(0 : ℕ) = 6 by decide)).trans ?_)
    refine (canon7 5 640 rfl _ _ _ _ _ _).trans ((if_neg (show ¬(0 : ℕ) = 5 by decide)).trans ?_)
    refine (canon7 4 512 rfl _ _ _ _ _ _).trans ((if_neg (show ¬(0 : ℕ) = 4 by decide)).trans ?_)
    refine (canon7 3 384 rfl _ _ _ _ _ _).trans ((if_neg (show ¬(0 : ℕ) = 3 by decide)).trans ?_)
    refine (canon7 2 256 rfl _ _ _ _ _ _).trans ((if_neg (show ¬(0 : ℕ) = 2 by decide)).trans ?_)
    refine (canon7 1 128 rfl _ _ _ _ _ _).trans ((if_neg (show ¬(0 : ℕ) = 1 by decide)).trans ?_)
    refine (canon7 0 0 rfl _ _ _ _ _ _).trans ((if_pos rfl).trans ?_)
    exact hout_apply (LB := LB 0) (NR := NR 0) (Q := Q 0) (FF := FF 0) (V := V 0) (G := G 0) (i := b) (fun d => (ldr_apply _ _ _ 0 _ _ rfl d).trans (H.hl 0 d)) (fun d => (ldr_apply _ _ _ 0 _ _ rfl d).trans (H.hn 0 d)) (fun r d => (ldc_apply _ _ _ 0 _ _ rfl r d).trans (H.hq 0 r d)) (fun r d => (ldc_apply _ _ _ 0 _ _ rfl r d).trans (H.hf 0 r d)) (fun r d => (ldc_apply _ _ _ 0 _ _ rfl r d).trans (H.hv 0 r d)) (fun r d => (ldc_apply _ _ _ 0 _ _ rfl r d).trans (H.hg 0 r d)) (fun e d => (lc_0 c arg4 harg4 arg5 harg5 arg7 harg7 arg9 harg9 arg12 x1 x2 x4 x6 e d).trans ((hs 0 e d).trans (by subst hb; rfl))) r e
  | ⟨1, _⟩ =>
    refine (canon7 7 896 rfl _ _ _ _ _ _).trans ((if_neg (show ¬(1 : ℕ) = 7 by decide)).trans ?_)
    refine (canon7 6 768 rfl _ _ _ _ _ _).trans ((if_neg (show ¬(1 : ℕ) = 6 by decide)).trans ?_)
    refine (canon7 5 640 rfl _ _ _ _ _ _).trans ((if_neg (show ¬(1 : ℕ) = 5 by decide)).trans ?_)
    refine (canon7 4 512 rfl _ _ _ _ _ _).trans ((if_neg (show ¬(1 : ℕ) = 4 by decide)).trans ?_)
    refine (canon7 3 384 rfl _ _ _ _ _ _).trans ((if_neg (show ¬(1 : ℕ) = 3 by decide)).trans ?_)
    refine (canon7 2 256 rfl _ _ _ _ _ _).trans ((if_neg (show ¬(1 : ℕ) = 2 by decide)).trans ?_)
    refine (canon7 1 128 rfl _ _ _ _ _ _).trans ((if_pos rfl).trans ?_)
    exact hout_apply (LB := LB 1) (NR := NR 1) (Q := Q 1) (FF := FF 1) (V := V 1) (G := G 1) (i := b) (fun d => (ldr_apply _ _ _ 1 _ _ rfl d).trans (H.hl 1 d)) (fun d => (ldr_apply _ _ _ 1 _ _ rfl d).trans (H.hn 1 d)) (fun r d => (ldc_apply _ _ _ 1 _ _ rfl r d).trans (H.hq 1 r d)) (fun r d => (ldc_apply _ _ _ 1 _ _ rfl r d).trans (H.hf 1 r d)) (fun r d => (ldc_apply _ _ _ 1 _ _ rfl r d).trans (H.hv 1 r d)) (fun r d => (ldc_apply _ _ _ 1 _ _ rfl r d).trans (H.hg 1 r d)) (fun e d => (lc_1 c arg4 harg4 arg5 harg5 arg7 harg7 arg9 harg9 arg12 x1 x2 x4 x6 e d).trans ((hs 1 e d).trans (by subst hb; rfl))) r e
  | ⟨2, _⟩ =>
    refine (canon7 7 896 rfl _ _ _ _ _ _).trans ((if_neg (show ¬(2 : ℕ) = 7 by decide)).trans ?_)
    refine (canon7 6 768 rfl _ _ _ _ _ _).trans ((if_neg (show ¬(2 : ℕ) = 6 by decide)).trans ?_)
    refine (canon7 5 640 rfl _ _ _ _ _ _).trans ((if_neg (show ¬(2 : ℕ) = 5 by decide)).trans ?_)
    refine (canon7 4 512 rfl _ _ _ _ _ _).trans ((if_neg (show ¬(2 : ℕ) = 4 by decide)).trans ?_)
    refine (canon7 3 384 rfl _ _ _ _ _ _).trans ((if_neg (show ¬(2 : ℕ) = 3 by decide)).trans ?_)
    refine (canon7 2 256 rfl _ _ _ _ _ _).trans ((if_pos rfl).trans ?_)
    exact hout_apply (LB := LB 2) (NR := NR 2) (Q := Q 2) (FF := FF 2) (V := V 2) (G := G 2) (i := b) (fun d => (ldr_apply _ _ _ 2 _ _ rfl d).trans (H.hl 2 d)) (fun d => (ldr_apply _ _ _ 2 _ _ rfl d).trans (H.hn 2 d)) (fun r d => (ldc_apply _ _ _ 2 _ _ rfl r d).trans (H.hq 2 r d)) (fun r d => (ldc_apply _ _ _ 2 _ _ rfl r d).trans (H.hf 2 r d)) (fun r d => (ldc_apply _ _ _ 2 _ _ rfl r d).trans (H.hv 2 r d)) (fun r d => (ldc_apply _ _ _ 2 _ _ rfl r d).trans (H.hg 2 r d)) (fun e d => (lc_2 c arg4 harg4 arg5 harg5 arg7 harg7 arg9 harg9 arg12 x1 x2 x4 x6 e d).trans ((hs 2 e d).trans (by subst hb; rfl))) r e
  | ⟨3, _⟩ =>
    refine (canon7 7 896 rfl _ _ _ _ _ _).trans ((if_neg (show ¬(3 : ℕ) = 7 by decide)).trans ?_)
    refine (canon7 6 768 rfl _ _ _ _ _ _).trans ((if_neg (show ¬(3 : ℕ) = 6 by decide)).trans ?_)
    refine (canon7 5 640 rfl _ _ _ _ _ _).trans ((if_neg (show ¬(3 : ℕ) = 5 by decide)).trans ?_)
    refine (canon7 4 512 rfl _ _ _ _ _ _).trans ((if_neg (show ¬(3 : ℕ) = 4 by decide)).trans ?_)
    refine (canon7 3 384 rfl _ _ _ _ _ _).trans ((if_pos rfl).trans ?_)
    exact hout_apply (LB := LB 3) (NR := NR 3) (Q := Q 3) (FF := FF 3) (V := V 3) (G := G 3) (i := b) (fun d => (ldr_apply _ _ _ 3 _ _ rfl d).trans (H.hl 3 d)) (fun d => (ldr_apply _ _ _ 3 _ _ rfl d).trans (H.hn 3 d)) (fun r d => (ldc_apply _ _ _ 3 _ _ rfl r d).trans (H.hq 3 r d)) (fun r d => (ldc_apply _ _ _ 3 _ _ rfl r d).trans (H.hf 3 r d)) (fun r d => (ldc_apply _ _ _ 3 _ _ rfl r d).trans (H.hv 3 r d)) (fun r d => (ldc_apply _ _ _ 3 _ _ rfl r d).trans (H.hg 3 r d)) (fun e d => (lc_3 c arg4 harg4 arg5 harg5 arg7 harg7 arg9 harg9 arg12 x1 x2 x4 x6 e d).trans ((hs 3 e d).trans (by subst hb; rfl))) r e
  | ⟨4, _⟩ =>
    refine (canon7 7 896 rfl _ _ _ _ _ _).trans ((if_neg (show ¬(4 : ℕ) = 7 by decide)).trans ?_)
    refine (canon7 6 768 rfl _ _ _ _ _ _).trans ((if_neg (show ¬(4 : ℕ) = 6 by decide)).trans ?_)
    refine (canon7 5 640 rfl _ _ _ _ _ _).trans ((if_neg (show ¬(4 : ℕ) = 5 by decide)).trans ?_)
    refine (canon7 4 512 rfl _ _ _ _ _ _).trans ((if_pos rfl).trans ?_)
    exact hout_apply (LB := LB 4) (NR := NR 4) (Q := Q 4) (FF := FF 4) (V := V 4) (G := G 4) (i := b) (fun d => (ldr_apply _ _ _ 4 _ _ rfl d).trans (H.hl 4 d)) (fun d => (ldr_apply _ _ _ 4 _ _ rfl d).trans (H.hn 4 d)) (fun r d => (ldc_apply _ _ _ 4 _ _ rfl r d).trans (H.hq 4 r d)) (fun r d => (ldc_apply _ _ _ 4 _ _ rfl r d).trans (H.hf 4 r d)) (fun r d => (ldc_apply _ _ _ 4 _ _ rfl r d).trans (H.hv 4 r d)) (fun r d => (ldc_apply _ _ _ 4 _ _ rfl r d).trans (H.hg 4 r d)) (fun e d => (lc_4 c arg4 harg4 arg5 harg5 arg7 harg7 arg9 harg9 arg12 x1 x2 x4 x6 e d).trans ((hs 4 e d).trans (by subst hb; rfl))) r e
  | ⟨5, _⟩ =>
    refine (canon7 7 896 rfl _ _ _ _ _ _).trans ((if_neg (show ¬(5 : ℕ) = 7 by decide)).trans ?_)
    refine (canon7 6 768 rfl _ _ _ _ _ _).trans ((if_neg (show ¬(5 : ℕ) = 6 by decide)).trans ?_)
    refine (canon7 5 640 rfl _ _ _ _ _ _).trans ((if_pos rfl).trans ?_)
    exact hout_apply (LB := LB 5) (NR := NR 5) (Q := Q 5) (FF := FF 5) (V := V 5) (G := G 5) (i := b) (fun d => (ldr_apply _ _ _ 5 _ _ rfl d).trans (H.hl 5 d)) (fun d => (ldr_apply _ _ _ 5 _ _ rfl d).trans (H.hn 5 d)) (fun r d => (ldc_apply _ _ _ 5 _ _ rfl r d).trans (H.hq 5 r d)) (fun r d => (ldc_apply _ _ _ 5 _ _ rfl r d).trans (H.hf 5 r d)) (fun r d => (ldc_apply _ _ _ 5 _ _ rfl r d).trans (H.hv 5 r d)) (fun r d => (ldc_apply _ _ _ 5 _ _ rfl r d).trans (H.hg 5 r d)) (fun e d => (lc_5 c arg4 harg4 arg5 harg5 arg7 harg7 arg9 harg9 arg12 x1 x2 x4 x6 e d).trans ((hs 5 e d).trans (by subst hb; rfl))) r e
  | ⟨6, _⟩ =>
    refine (canon7 7 896 rfl _ _ _ _ _ _).trans ((if_neg (show ¬(6 : ℕ) = 7 by decide)).trans ?_)
    refine (canon7 6 768 rfl _ _ _ _ _ _).trans ((if_pos rfl).trans ?_)
    exact hout_apply (LB := LB 6) (NR := NR 6) (Q := Q 6) (FF := FF 6) (V := V 6) (G := G 6) (i := b) (fun d => (ldr_apply _ _ _ 6 _ _ rfl d).trans (H.hl 6 d)) (fun d => (ldr_apply _ _ _ 6 _ _ rfl d).trans (H.hn 6 d)) (fun r d => (ldc_apply _ _ _ 6 _ _ rfl r d).trans (H.hq 6 r d)) (fun r d => (ldc_apply _ _ _ 6 _ _ rfl r d).trans (H.hf 6 r d)) (fun r d => (ldc_apply _ _ _ 6 _ _ rfl r d).trans (H.hv 6 r d)) (fun r d => (ldc_apply _ _ _ 6 _ _ rfl r d).trans (H.hg 6 r d)) (fun e d => (lc_6 c arg4 harg4 arg5 harg5 arg7 harg7 arg9 harg9 arg12 x1 x2 x4 x6 e d).trans ((hs 6 e d).trans (by subst hb; rfl))) r e
  | ⟨7, _⟩ =>
    refine (canon7 7 896 rfl _ _ _ _ _ _).trans ((if_pos rfl).trans ?_)
    exact hout_apply (LB := LB 7) (NR := NR 7) (Q := Q 7) (FF := FF 7) (V := V 7) (G := G 7) (i := b) (fun d => (ldr_apply _ _ _ 7 _ _ rfl d).trans (H.hl 7 d)) (fun d => (ldr_apply _ _ _ 7 _ _ rfl d).trans (H.hn 7 d)) (fun r d => (ldc_apply _ _ _ 7 _ _ rfl r d).trans (H.hq 7 r d)) (fun r d => (ldc_apply _ _ _ 7 _ _ rfl r d).trans (H.hf 7 r d)) (fun r d => (ldc_apply _ _ _ 7 _ _ rfl r d).trans (H.hv 7 r d)) (fun r d => (ldc_apply _ _ _ 7 _ _ rfl r d).trans (H.hg 7 r d)) (fun e d => (lc_7 c arg4 harg4 arg5 harg5 arg7 harg7 arg9 harg9 arg12 x1 x2 x4 x6 e d).trans ((hs 7 e d).trans (by subst hb; rfl))) r e

/-- The block of states after a sequence's first block. -/
theorem out8_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : cond0_0 i)
    (x0 x1 x2 x3 : Vec Ideal S512x1024 .f32) (x4 x5 : Vec Ideal S8x1x128 .f32) (x6 : Vec Ideal S1x8x128x128 .f32)
    (H : Blk b x0 x1 x2 x3 x4 x5 Q FF V G LB NR)
    (hb : b = 0) (hs : ∀ (h : Fin 8) e d, x6 (ix4 0 h e d) = 0)
    (h : Fin 8) (e d : Fin 128) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 (ix4 0 h e d) = Hgrn.stt (LB h) (FF h) (V h) (16 * b + 16) e d := by
  unfold out0_A_8
  rw [View.read_writes_junk_eq_canon, L8_A]
  match h with
  | ⟨0, _⟩ =>
    refine (canon8 7 _ _ _ _ _ _ _).trans ((if_neg (show ¬(0 : ℕ) = 7 by decide)).trans ?_)
    refine (canon8 6 _ _ _ _ _ _ _).trans ((if_neg (show ¬(0 : ℕ) = 6 by decide)).trans ?_)
    refine (canon8 5 _ _ _ _ _ _ _).trans ((if_neg (show ¬(0 : ℕ) = 5 by decide)).trans ?_)
    refine (canon8 4 _ _ _ _ _ _ _).trans ((if_neg (show ¬(0 : ℕ) = 4 by decide)).trans ?_)
    refine (canon8 3 _ _ _ _ _ _ _).trans ((if_neg (show ¬(0 : ℕ) = 3 by decide)).trans ?_)
    refine (canon8 2 _ _ _ _ _ _ _).trans ((if_neg (show ¬(0 : ℕ) = 2 by decide)).trans ?_)
    refine (canon8 1 _ _ _ _ _ _ _).trans ((if_neg (show ¬(0 : ℕ) = 1 by decide)).trans ?_)
    refine (canon8 0 _ _ _ _ _ _ _).trans ((if_pos rfl).trans ?_)
    exact hst_apply (LB := LB 0) (FF := FF 0) (V := V 0) (i := b) (fun d => (ldr_apply _ _ _ 0 _ _ rfl d).trans (H.hl 0 d)) (fun r d => (ldc_apply _ _ _ 0 _ _ rfl r d).trans (H.hf 0 r d)) (fun r d => (ldc_apply _ _ _ 0 _ _ rfl r d).trans (H.hv 0 r d)) (fun e d => (lc_0 c arg4 harg4 arg5 harg5 arg7 harg7 arg9 harg9 arg12 x1 x2 x4 x6 e d).trans ((hs 0 e d).trans (by subst hb; rfl))) e d
  | ⟨1, _⟩ =>
    refine (canon8 7 _ _ _ _ _ _ _).trans ((if_neg (show ¬(1 : ℕ) = 7 by decide)).trans ?_)
    refine (canon8 6 _ _ _ _ _ _ _).trans ((if_neg (show ¬(1 : ℕ) = 6 by decide)).trans ?_)
    refine (canon8 5 _ _ _ _ _ _ _).trans ((if_neg (show ¬(1 : ℕ) = 5 by decide)).trans ?_)
    refine (canon8 4 _ _ _ _ _ _ _).trans ((if_neg (show ¬(1 : ℕ) = 4 by decide)).trans ?_)
    refine (canon8 3 _ _ _ _ _ _ _).trans ((if_neg (show ¬(1 : ℕ) = 3 by decide)).trans ?_)
    refine (canon8 2 _ _ _ _ _ _ _).trans ((if_neg (show ¬(1 : ℕ) = 2 by decide)).trans ?_)
    refine (canon8 1 _ _ _ _ _ _ _).trans ((if_pos rfl).trans ?_)
    exact hst_apply (LB := LB 1) (FF := FF 1) (V := V 1) (i := b) (fun d => (ldr_apply _ _ _ 1 _ _ rfl d).trans (H.hl 1 d)) (fun r d => (ldc_apply _ _ _ 1 _ _ rfl r d).trans (H.hf 1 r d)) (fun r d => (ldc_apply _ _ _ 1 _ _ rfl r d).trans (H.hv 1 r d)) (fun e d => (lc_1 c arg4 harg4 arg5 harg5 arg7 harg7 arg9 harg9 arg12 x1 x2 x4 x6 e d).trans ((hs 1 e d).trans (by subst hb; rfl))) e d
  | ⟨2, _⟩ =>
    refine (canon8 7 _ _ _ _ _ _ _).trans ((if_neg (show ¬(2 : ℕ) = 7 by decide)).trans ?_)
    refine (canon8 6 _ _ _ _ _ _ _).trans ((if_neg (show ¬(2 : ℕ) = 6 by decide)).trans ?_)
    refine (canon8 5 _ _ _ _ _ _ _).trans ((if_neg (show ¬(2 : ℕ) = 5 by decide)).trans ?_)
    refine (canon8 4 _ _ _ _ _ _ _).trans ((if_neg (show ¬(2 : ℕ) = 4 by decide)).trans ?_)
    refine (canon8 3 _ _ _ _ _ _ _).trans ((if_neg (show ¬(2 : ℕ) = 3 by decide)).trans ?_)
    refine (canon8 2 _ _ _ _ _ _ _).trans ((if_pos rfl).trans ?_)
    exact hst_apply (LB := LB 2) (FF := FF 2) (V := V 2) (i := b) (fun d => (ldr_apply _ _ _ 2 _ _ rfl d).trans (H.hl 2 d)) (fun r d => (ldc_apply _ _ _ 2 _ _ rfl r d).trans (H.hf 2 r d)) (fun r d => (ldc_apply _ _ _ 2 _ _ rfl r d).trans (H.hv 2 r d)) (fun e d => (lc_2 c arg4 harg4 arg5 harg5 arg7 harg7 arg9 harg9 arg12 x1 x2 x4 x6 e d).trans ((hs 2 e d).trans (by subst hb; rfl))) e d
  | ⟨3, _⟩ =>
    refine (canon8 7 _ _ _ _ _ _ _).trans ((if_neg (show ¬(3 : ℕ) = 7 by decide)).trans ?_)
    refine (canon8 6 _ _ _ _ _ _ _).trans ((if_neg (show ¬(3 : ℕ) = 6 by decide)).trans ?_)
    refine (canon8 5 _ _ _ _ _ _ _).trans ((if_neg (show ¬(3 : ℕ) = 5 by decide)).trans ?_)
    refine (canon8 4 _ _ _ _ _ _ _).trans ((if_neg (show ¬(3 : ℕ) = 4 by decide)).trans ?_)
    refine (canon8 3 _ _ _ _ _ _ _).trans ((if_pos rfl).trans ?_)
    exact hst_apply (LB := LB 3) (FF := FF 3) (V := V 3) (i := b) (fun d => (ldr_apply _ _ _ 3 _ _ rfl d).trans (H.hl 3 d)) (fun r d => (ldc_apply _ _ _ 3 _ _ rfl r d).trans (H.hf 3 r d)) (fun r d => (ldc_apply _ _ _ 3 _ _ rfl r d).trans (H.hv 3 r d)) (fun e d => (lc_3 c arg4 harg4 arg5 harg5 arg7 harg7 arg9 harg9 arg12 x1 x2 x4 x6 e d).trans ((hs 3 e d).trans (by subst hb; rfl))) e d
  | ⟨4, _⟩ =>
    refine (canon8 7 _ _ _ _ _ _ _).trans ((if_neg (show ¬(4 : ℕ) = 7 by decide)).trans ?_)
    refine (canon8 6 _ _ _ _ _ _ _).trans ((if_neg (show ¬(4 : ℕ) = 6 by decide)).trans ?_)
    refine (canon8 5 _ _ _ _ _ _ _).trans ((if_neg (show ¬(4 : ℕ) = 5 by decide)).trans ?_)
    refine (canon8 4 _ _ _ _ _ _ _).trans ((if_pos rfl).trans ?_)
    exact hst_apply (LB := LB 4) (FF := FF 4) (V := V 4) (i := b) (fun d => (ldr_apply _ _ _ 4 _ _ rfl d).trans (H.hl 4 d)) (fun r d => (ldc_apply _ _ _ 4 _ _ rfl r d).trans (H.hf 4 r d)) (fun r d => (ldc_apply _ _ _ 4 _ _ rfl r d).trans (H.hv 4 r d)) (fun e d => (lc_4 c arg4 harg4 arg5 harg5 arg7 harg7 arg9 harg9 arg12 x1 x2 x4 x6 e d).trans ((hs 4 e d).trans (by subst hb; rfl))) e d
  | ⟨5, _⟩ =>
    refine (canon8 7 _ _ _ _ _ _ _).trans ((if_neg (show ¬(5 : ℕ) = 7 by decide)).trans ?_)
    refine (canon8 6 _ _ _ _ _ _ _).trans ((if_neg (show ¬(5 : ℕ) = 6 by decide)).trans ?_)
    refine (canon8 5 _ _ _ _ _ _ _).trans ((if_pos rfl).trans ?_)
    exact hst_apply (LB := LB 5) (FF := FF 5) (V := V 5) (i := b) (fun d => (ldr_apply _ _ _ 5 _ _ rfl d).trans (H.hl 5 d)) (fun r d => (ldc_apply _ _ _ 5 _ _ rfl r d).trans (H.hf 5 r d)) (fun r d => (ldc_apply _ _ _ 5 _ _ rfl r d).trans (H.hv 5 r d)) (fun e d => (lc_5 c arg4 harg4 arg5 harg5 arg7 harg7 arg9 harg9 arg12 x1 x2 x4 x6 e d).trans ((hs 5 e d).trans (by subst hb; rfl))) e d
  | ⟨6, _⟩ =>
    refine (canon8 7 _ _ _ _ _ _ _).trans ((if_neg (show ¬(6 : ℕ) = 7 by decide)).trans ?_)
    refine (canon8 6 _ _ _ _ _ _ _).trans ((if_pos rfl).trans ?_)
    exact hst_apply (LB := LB 6) (FF := FF 6) (V := V 6) (i := b) (fun d => (ldr_apply _ _ _ 6 _ _ rfl d).trans (H.hl 6 d)) (fun r d => (ldc_apply _ _ _ 6 _ _ rfl r d).trans (H.hf 6 r d)) (fun r d => (ldc_apply _ _ _ 6 _ _ rfl r d).trans (H.hv 6 r d)) (fun e d => (lc_6 c arg4 harg4 arg5 harg5 arg7 harg7 arg9 harg9 arg12 x1 x2 x4 x6 e d).trans ((hs 6 e d).trans (by subst hb; rfl))) e d
  | ⟨7, _⟩ =>
    refine (canon8 7 _ _ _ _ _ _ _).trans ((if_pos rfl).trans ?_)
    exact hst_apply (LB := LB 7) (FF := FF 7) (V := V 7) (i := b) (fun d => (ldr_apply _ _ _ 7 _ _ rfl d).trans (H.hl 7 d)) (fun r d => (ldc_apply _ _ _ 7 _ _ rfl r d).trans (H.hf 7 r d)) (fun r d => (ldc_apply _ _ _ 7 _ _ rfl r d).trans (H.hv 7 r d)) (fun e d => (lc_7 c arg4 harg4 arg5 harg5 arg7 harg7 arg9 harg9 arg12 x1 x2 x4 x6 e d).trans ((hs 7 e d).trans (by subst hb; rfl))) e d

/-- The carried states after a sequence's first block. -/
theorem outS_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1x128 .f32) (harg7 : arg7.IsWhole) (arg8 : Memref sig .tc .vmem S8x1x128 .f32) (harg8 : arg8.IsWhole) (arg9 : Memref sig .tc .vmem S1x8x128x128 .f32) (harg9 : arg9.IsWhole) (arg10 : Memref sig .tc .vmem S512x1024 .bf16) (harg10 : arg10.IsWhole) (arg11 : Memref sig .tc .vmem S1x8x128x128 .f32) (harg11 : arg11.IsWhole) (arg12 : Memref sig .tc .vmem S8x128x128 .f32) (harg12 : arg12.IsWhole) (hc0 : cond0_0 i)
    (x0 x1 x2 x3 : Vec Ideal S512x1024 .f32) (x4 x5 : Vec Ideal S8x1x128 .f32) (x6 : Vec Ideal S1x8x128x128 .f32)
    (H : Blk b x0 x1 x2 x3 x4 x5 Q FF V G LB NR)
    (hb : b = 0) (hs : ∀ (h : Fin 8) e d, x6 (ix4 0 h e d) = 0)
    (h : Fin 8) (e d : Fin 128) :
    sout0_A_0 (F := Ideal) c i arg3 harg3 arg4 harg4 arg5 harg5 arg6 harg6 arg7 harg7 arg8 harg8 arg9 harg9 arg10 harg10 arg11 harg11 arg12 harg12 hc0 x0 x1 x2 x3 x4 x5 x6 (ix3 h e d) = Hgrn.stt (LB h) (FF h) (V h) (16 * b + 16) e d := by
  unfold sout0_A_0
  rw [View.read_writes_junk_eq_canon, LS_A]
  match h with
  | ⟨0, _⟩ =>
    refine (canonS 7 _ _ _ _ _ _ _).trans ((if_neg (show ¬(0 : ℕ) = 7 by decide)).trans ?_)
    refine (canonS 6 _ _ _ _ _ _ _).trans ((if_neg (show ¬(0 : ℕ) = 6 by decide)).trans ?_)
    refine (canonS 5 _ _ _ _ _ _ _).trans ((if_neg (show ¬(0 : ℕ) = 5 by decide)).trans ?_)
    refine (canonS 4 _ _ _ _ _ _ _).trans ((if_neg (show ¬(0 : ℕ) = 4 by decide)).trans ?_)
    refine (canonS 3 _ _ _ _ _ _ _).trans ((if_neg (show ¬(0 : ℕ) = 3 by decide)).trans ?_)
    refine (canonS 2 _ _ _ _ _ _ _).trans ((if_neg (show ¬(0 : ℕ) = 2 by decide)).trans ?_)
    refine (canonS 1 _ _ _ _ _ _ _).trans ((if_neg (show ¬(0 : ℕ) = 1 by decide)).trans ?_)
    refine (canonS 0 _ _ _ _ _ _ _).trans ((if_pos rfl).trans ?_)
    exact hst_apply (LB := LB 0) (FF := FF 0) (V := V 0) (i := b) (fun d => (ldr_apply _ _ _ 0 _ _ rfl d).trans (H.hl 0 d)) (fun r d => (ldc_apply _ _ _ 0 _ _ rfl r d).trans (H.hf 0 r d)) (fun r d => (ldc_apply _ _ _ 0 _ _ rfl r d).trans (H.hv 0 r d)) (fun e d => (lc_0 c arg4 harg4 arg5 harg5 arg7 harg7 arg9 harg9 arg12 x1 x2 x4 x6 e d).trans ((hs 0 e d).trans (by subst hb; rfl))) e d
  | ⟨1, _⟩ =>
    refine (canonS 7 _ _ _ _ _ _ _).trans ((if_neg (show ¬(1 : ℕ) = 7 by decide)).trans ?_)
    refine (canonS 6 _ _ _ _ _ _ _).trans ((if_neg (show ¬(1 : ℕ) = 6 by decide)).trans ?_)
    refine (canonS 5 _ _ _ _ _ _ _).trans ((if_neg (show ¬(1 : ℕ) = 5 by decide)).trans ?_)
    refine (canonS 4 _ _ _ _ _ _ _).trans ((if_neg (show ¬(1 : ℕ) = 4 by decide)).trans ?_)
    refine (canonS 3 _ _ _ _ _ _ _).trans ((if_neg (show ¬(1 : ℕ) = 3 by decide)).trans ?_)
    refine (canonS 2 _ _ _ _ _ _ _).trans ((if_neg (show ¬(1 : ℕ) = 2 by decide)).trans ?_)
    refine (canonS 1 _ _ _ _ _ _ _).trans ((if_pos rfl).trans ?_)
    exact hst_apply (LB := LB 1) (FF := FF 1) (V := V 1) (i := b) (fun d => (ldr_apply _ _ _ 1 _ _ rfl d).trans (H.hl 1 d)) (fun r d => (ldc_apply _ _ _ 1 _ _ rfl r d).trans (H.hf 1 r d)) (fun r d => (ldc_apply _ _ _ 1 _ _ rfl r d).trans (H.hv 1 r d)) (fun e d => (lc_1 c arg4 harg4 arg5 harg5 arg7 harg7 arg9 harg9 arg12 x1 x2 x4 x6 e d).trans ((hs 1 e d).trans (by subst hb; rfl))) e d
  | ⟨2, _⟩ =>
    refine (canonS 7 _ _ _ _ _ _ _).trans ((if_neg (show ¬(2 : ℕ) = 7 by decide)).trans ?_)
    refine (canonS 6 _ _ _ _ _ _ _).trans ((if_neg (show ¬(2 : ℕ) = 6 by decide)).trans ?_)
    refine (canonS 5 _ _ _ _ _ _ _).trans ((if_neg (show ¬(2 : ℕ) = 5 by decide)).trans ?_)
    refine (canonS 4 _ _ _ _ _ _ _).trans ((if_neg (show ¬(2 : ℕ) = 4 by decide)).trans ?_)
    refine (canonS 3 _ _ _ _ _ _ _).trans ((if_neg (show ¬(2 : ℕ) = 3 by decide)).trans ?_)
    refine (canonS 2 _ _ _ _ _ _ _).trans ((if_pos rfl).trans ?_)
    exact hst_apply (LB := LB 2) (FF := FF 2) (V := V 2) (i := b) (fun d => (ldr_apply _ _ _ 2 _ _ rfl d).trans (H.hl 2 d)) (fun r d => (ldc_apply _ _ _ 2 _ _ rfl r d).trans (H.hf 2 r d)) (fun r d => (ldc_apply _ _ _ 2 _ _ rfl r d).trans (H.hv 2 r d)) (fun e d => (lc_2 c arg4 harg4 arg5 harg5 arg7 harg7 arg9 harg9 arg12 x1 x2 x4 x6 e d).trans ((hs 2 e d).trans (by subst hb; rfl))) e d
  | ⟨3, _⟩ =>
    refine (canonS 7 _ _ _ _ _ _ _).trans ((if_neg (show ¬(3 : ℕ) = 7 by decide)).trans ?_)
    refine (canonS 6 _ _ _ _ _ _ _).trans ((if_neg (show ¬(3 : ℕ) = 6 by decide)).trans ?_)
    refine (canonS 5 _ _ _ _ _ _ _).trans ((if_neg (show ¬(3 : ℕ) = 5 by decide)).trans ?_)
    refine (canonS 4 _ _ _ _ _ _ _).trans ((if_neg (show ¬(3 : ℕ) = 4 by decide)).trans ?_)
    refine (canonS 3 _ _ _ _ _ _ _).trans ((if_pos rfl).trans ?_)
    exact hst_apply (LB := LB 3) (FF := FF 3) (V := V 3) (i := b) (fun d => (ldr_apply _ _ _ 3 _ _ rfl d).trans (H.hl 3 d)) (fun r d => (ldc_apply _ _ _ 3 _ _ rfl r d).trans (H.hf 3 r d)) (fun r d => (ldc_apply _ _ _ 3 _ _ rfl r d).trans (H.hv 3 r d)) (fun e d => (lc_3 c arg4 harg4 arg5 harg5 arg7 harg7 arg9 harg9 arg12 x1 x2 x4 x6 e d).trans ((hs 3 e d).trans (by subst hb; rfl))) e d
  | ⟨4, _⟩ =>
    refine (canonS 7 _ _ _ _ _ _ _).trans ((if_neg (show ¬(4 : ℕ) = 7 by decide)).trans ?_)
    refine (canonS 6 _ _ _ _ _ _ _).trans ((if_neg (show ¬(4 : ℕ) = 6 by decide)).trans ?_)
    refine (canonS 5 _ _ _ _ _ _ _).trans ((if_neg (show ¬(4 : ℕ) = 5 by decide)).trans ?_)
    refine (canonS 4 _ _ _ _ _ _ _).trans ((if_pos rfl).trans ?_)
    exact hst_apply (LB := LB 4) (FF := FF 4) (V := V 4) (i := b) (fun d => (ldr_apply _ _ _ 4 _ _ rfl d).trans (H.hl 4 d)) (fun r d => (ldc_apply _ _ _ 4 _ _ rfl r d).trans (H.hf 4 r d)) (fun r d => (ldc_apply _ _ _ 4 _ _ rfl r d).trans (H.hv 4 r d)) (fun e d => (lc_4 c arg4 harg4 arg5 harg5 arg7 harg7 arg9 harg9 arg12 x1 x2 x4 x6 e d).trans ((hs 4 e d).trans (by subst hb; rfl))) e d
  | ⟨5, _⟩ =>
    refine (canonS 7 _ _ _ _ _ _ _).trans ((if_neg (show ¬(5 : ℕ) = 7 by decide)).trans ?_)
    refine (canonS 6 _ _ _ _ _ _ _).trans ((if_neg (show ¬(5 : ℕ) = 6 by decide)).trans ?_)
    refine (canonS 5 _ _ _ _ _ _ _).trans ((if_pos rfl).trans ?_)
    exact hst_apply (LB := LB 5) (FF := FF 5) (V := V 5) (i := b) (fun d => (ldr_apply _ _ _ 5 _ _ rfl d).trans (H.hl 5 d)) (fun r d => (ldc_apply _ _ _ 5 _ _ rfl r d).trans (H.hf 5 r d)) (fun r d => (ldc_apply _ _ _ 5 _ _ rfl r d).trans (H.hv 5 r d)) (fun e d => (lc_5 c arg4 harg4 arg5 harg5 arg7 harg7 arg9 harg9 arg12 x1 x2 x4 x6 e d).trans ((hs 5 e d).trans (by subst hb; rfl))) e d
  | ⟨6, _⟩ =>
    refine (canonS 7 _ _ _ _ _ _ _).trans ((if_neg (show ¬(6 : ℕ) = 7 by decide)).trans ?_)
    refine (canonS 6 _ _ _ _ _ _ _).trans ((if_pos rfl).trans ?_)
    exact hst_apply (LB := LB 6) (FF := FF 6) (V := V 6) (i := b) (fun d => (ldr_apply _ _ _ 6 _ _ rfl d).trans (H.hl 6 d)) (fun r d => (ldc_apply _ _ _ 6 _ _ rfl r d).trans (H.hf 6 r d)) (fun r d => (ldc_apply _ _ _ 6 _ _ rfl r d).trans (H.hv 6 r d)) (fun e d => (lc_6 c arg4 harg4 arg5 harg5 arg7 harg7 arg9 harg9 arg12 x1 x2 x4 x6 e d).trans ((hs 6 e d).trans (by subst hb; rfl))) e d
  | ⟨7, _⟩ =>
    refine (canonS 7 _ _ _ _ _ _ _).trans ((if_pos rfl).trans ?_)
    exact hst_apply (LB := LB 7) (FF := FF 7) (V := V 7) (i := b) (fun d => (ldr_apply _ _ _ 7 _ _ rfl d).trans (H.hl 7 d)) (fun r d => (ldc_apply _ _ _ 7 _ _ rfl r d).trans (H.hf 7 r d)) (fun r d => (ldc_apply _ _ _ 7 _ _ rfl r d).trans (H.hv 7 r d)) (fun e d => (lc_7 c arg4 harg4 arg5 harg5 arg7 harg7 arg9 harg9 arg12 x1 x2 x4 x6 e d).trans ((hs 7 e d).trans (by subst hb; rfl))) e d

end Point

end Cert.HgrnPromptIdeal.Head

end
-- ==== Proof.Entry.lean ====
/- What the launch's input blocks hold: rows and columns of the projections, the heads' lower bounds and norms, zeros. -/
module

public import proofs.«01_k».proof.Proof.Point
public import proofs.«01_k».proof.Proof.Gen.HgrnPromptIdeal.Value
public import proofs.«01_k».proof.Proof.Gen.HgrnPromptRefIdeal.Step

@[expose] public section

set_option maxRecDepth 16384

noncomputable section

namespace Cert.HgrnPromptIdeal.Entry

open Cert.HgrnPromptIdeal Cert.HgrnPromptIdeal.Gen Cert.HgrnPromptIdeal.Head Idealize.ShloMosaic Idealize.ShloMosaic.TcCoe Idealize.SL.Sem Cert

variable (m : (ℓ : Loc nD τ sig) → Buf (Elt Ideal) ℓ)

/-- The heads' lower bounds as the launch finds them: the running sum of the softmax, computed as the reference computes it. -/
theorem V17 (c : Dev nD) (a0 : (⟨S8320x4096, .f32⟩ : BufTy).Contents (Elt Ideal)) :
    V m c main_v17 = shapeCast S8x1x128 (Cert.HgrnPromptRefIdeal.Step.A_main_v14 (F := Ideal) a0 (m ((c : Thread nD τ).loc main_arg1))) shapeCasts_S8x128_S8x1x128 := by
  sl_kernel_rfl

/-- The initial states are zeros. -/
theorem V15 (c : Dev nD) : V m c main_v15 = broadcastInDim S2x8x128x128 ![] bcast_S_S2x8x128x128 (constant (F := Ideal) S_ .f32 0x00000000#32) := by
  sl_kernel_rfl

/-- The norm's weights as the launch finds them. -/
theorem V18 (c : Dev nD) : V m c main_v18 = shapeCast S8x1x128 (shapeCast S8x128 (m ((c : Thread nD τ).loc main_arg2)) shapeCasts_S1x8x128_S8x128) shapeCasts_S8x128_S8x1x128 := by
  sl_kernel_rfl

/-- The index of window 0 at a point. -/
theorem idx_0 : ∀ t : Fin grid0.N, win0_0.index t 0 = t.val ∧ win0_0.index t 1 = 0 := by decide +kernel

/-- A block of part 0 of the projections: 512 rows of 1024 columns. -/
theorem x0_0 (c : Dev nD) (t : Fin cfg0.N) (h : Fin 8) (r : Fin 512) (d : Fin 128) :
    X0_0 m c t (ix2 r (col h d)) = Hgrn.seqOf (m ((c : Thread nD τ).loc main_arg0)) 0 (t.val / 8) h (512 * (t.val % 8) + r.val) d := by
  unfold X0_0 Pipeline.Window.fill
  rw [dif_pos (moved0_0 t _)]
  show V m c main_arg0 _ = _
  rw [V_main_arg0]
  unfold Hgrn.seqOf
  congr 1
  have ht : t.val < 16 := lt_of_lt_of_eq t.isLt Gen.N_0
  obtain ⟨i0, i1⟩ := idx_0 t
  funext a
  refine Fin.ext ?_
  match a with
  | ⟨0, _⟩ =>
    show win0_0.index t 0 * 512 + 1 * r.val = (4096 * (t.val / 8) + (512 * (t.val % 8) + r.val)) % 8320
    rw [i0]
    omega
  | ⟨1, _⟩ =>
    show win0_0.index t 1 * 1024 + 1 * (128 * h.val + d.val) = (0 * 1024 + (128 * h.val + d.val)) % 4096
    rw [i1]
    omega

/-- The index of window 1 at a point. -/
theorem idx_1 : ∀ t : Fin grid0.N, win0_1.index t 0 = t.val ∧ win0_1.index t 1 = 1 := by decide +kernel

/-- A block of part 1 of the projections: 512 rows of 1024 columns. -/
theorem x0_1 (c : Dev nD) (t : Fin cfg0.N) (h : Fin 8) (r : Fin 512) (d : Fin 128) :
    X0_1 m c t (ix2 r (col h d)) = Hgrn.seqOf (m ((c : Thread nD τ).loc main_arg0)) 1 (t.val / 8) h (512 * (t.val % 8) + r.val) d := by
  unfold X0_1 Pipeline.Window.fill
  rw [dif_pos (moved0_1 t _)]
  show V m c main_arg0 _ = _
  rw [V_main_arg0]
  unfold Hgrn.seqOf
  congr 1
  have ht : t.val < 16 := lt_of_lt_of_eq t.isLt Gen.N_0
  obtain ⟨i0, i1⟩ := idx_1 t
  funext a
  refine Fin.ext ?_
  match a with
  | ⟨0, _⟩ =>
    show win0_1.index t 0 * 512 + 1 * r.val = (4096 * (t.val / 8) + (512 * (t.val % 8) + r.val)) % 8320
    rw [i0]
    omega
  | ⟨1, _⟩ =>
    show win0_1.index t 1 * 1024 + 1 * (128 * h.val + d.val) = (1 * 1024 + (128 * h.val + d.val)) % 4096
    rw [i1]
    omega

/-- The index of window 2 at a point. -/
theorem idx_2 : ∀ t : Fin grid0.N, win0_2.index t 0 = t.val ∧ win0_2.index t 1 = 2 := by decide +kernel

/-- A block of part 2 of the projections: 512 rows of 1024 columns. -/
theorem x0_2 (c : Dev nD) (t : Fin cfg0.N) (h : Fin 8) (r : Fin 512) (d : Fin 128) :
    X0_2 m c t (ix2 r (col h d)) = Hgrn.seqOf (m ((c : Thread nD τ).loc main_arg0)) 2 (t.val / 8) h (512 * (t.val % 8) + r.val) d := by
  unfold X0_2 Pipeline.Window.fill
  rw [dif_pos (moved0_2 t _)]
  show V m c main_arg0 _ = _
  rw [V_main_arg0]
  unfold Hgrn.seqOf
  congr 1
  have ht : t.val < 16 := lt_of_lt_of_eq t.isLt Gen.N_0
  obtain ⟨i0, i1⟩ := idx_2 t
  funext a
  refine Fin.ext ?_
  match a with
  | ⟨0, _⟩ =>
    show win0_2.index t 0 * 512 + 1 * r.val = (4096 * (t.val / 8) + (512 * (t.val % 8) + r.val)) % 8320
    rw [i0]
    omega
  | ⟨1, _⟩ =>
    show win0_2.index t 1 * 1024 + 1 * (128 * h.val + d.val) = (2 * 1024 + (128 * h.val + d.val)) % 4096
    rw [i1]
    omega

/-- The index of window 3 at a point. -/
theorem idx_3 : ∀ t : Fin grid0.N, win0_3.index t 0 = t.val ∧ win0_3.index t 1 = 3 := by decide +kernel

/-- A block of part 3 of the projections: 512 rows of 1024 columns. -/
theorem x0_3 (c : Dev nD) (t : Fin cfg0.N) (h : Fin 8) (r : Fin 512) (d : Fin 128) :
    X0_3 m c t (ix2 r (col h d)) = Hgrn.seqOf (m ((c : Thread nD τ).loc main_arg0)) 3 (t.val / 8) h (512 * (t.val % 8) + r.val) d := by
  unfold X0_3 Pipeline.Window.fill
  rw [dif_pos (moved0_3 t _)]
  show V m c main_arg0 _ = _
  rw [V_main_arg0]
  unfold Hgrn.seqOf
  congr 1
  have ht : t.val < 16 := lt_of_lt_of_eq t.isLt Gen.N_0
  obtain ⟨i0, i1⟩ := idx_3 t
  funext a
  refine Fin.ext ?_
  match a with
  | ⟨0, _⟩ =>
    show win0_3.index t 0 * 512 + 1 * r.val = (4096 * (t.val / 8) + (512 * (t.val % 8) + r.val)) % 8320
    rw [i0]
    omega
  | ⟨1, _⟩ =>
    show win0_3.index t 1 * 1024 + 1 * (128 * h.val + d.val) = (3 * 1024 + (128 * h.val + d.val)) % 4096
    rw [i1]
    omega

/-- The index of window 4 at a point. -/
theorem idx_4 : ∀ t : Fin grid0.N, win0_4.index t 0 = 0 ∧ win0_4.index t 1 = 0 ∧ win0_4.index t 2 = 0 := by decide +kernel
/-- The index of window 5 at a point. -/
theorem idx_5 : ∀ t : Fin grid0.N, win0_5.index t 0 = 0 ∧ win0_5.index t 1 = 0 ∧ win0_5.index t 2 = 0 := by decide +kernel

/-- The norm's weights reshaped twice, read. -/
theorem shape18 (z : (⟨S1x8x128, .f32⟩ : BufTy).Contents (Elt Ideal)) (h : Fin 8) (d : Fin 128) :
    shapeCast S8x1x128 (shapeCast S8x128 z shapeCasts_S1x8x128_S8x128) shapeCasts_S8x128_S8x1x128 (ix3 h 0 d) = z (ix3 0 h d) := by
  pointwise

/-- The lower bounds reshaped, read. -/
theorem shape17 (z : (⟨S8x128, .f32⟩ : BufTy).Contents (Elt Ideal)) (h : Fin 8) (d : Fin 128) :
    shapeCast S8x1x128 z shapeCasts_S8x128_S8x1x128 (ix3 h 0 d) = z (ix2 h d) := by
  pointwise

/-- The lower bounds' block. -/
theorem x0_4 (c : Dev nD) (t : Fin cfg0.N) (h : Fin 8) (d : Fin 128) :
    iblk m c 4 t (ix3 h 0 d) = Cert.HgrnPromptRefIdeal.Step.A_main_v14 (F := Ideal) (m ((c : Thread nD τ).loc main_arg0)) (m ((c : Thread nD τ).loc main_arg1)) (ix2 h d) := by
  obtain ⟨i0, i1, i2⟩ := idx_4 t
  show V m c main_v17 _ = _
  rw [V17 m c (m ((c : Thread nD τ).loc main_arg0))]
  refine (congrArg _ (?_ : _ = (ix3 h 0 d : S8x1x128.Idx))).trans ?_
  · funext a
    refine Fin.ext ?_
    match a with
    | ⟨0, _⟩ => show win0_4.index t 0 * 8 + 1 * h.val = h.val; rw [i0]; omega
    | ⟨1, _⟩ => show win0_4.index t 1 * 1 + 1 * 0 = 0; rw [i1]
    | ⟨2, _⟩ => show win0_4.index t 2 * 128 + 1 * d.val = d.val; rw [i2]; omega
  · exact shape17 _ h d

/-- The norm's block. -/
theorem x0_5 (c : Dev nD) (t : Fin cfg0.N) (h : Fin 8) (d : Fin 128) :
    iblk m c 5 t (ix3 h 0 d) = m ((c : Thread nD τ).loc main_arg2) (ix3 0 h d) := by
  obtain ⟨i0, i1, i2⟩ := idx_5 t
  show V m c main_v18 _ = _
  rw [V18 m c]
  refine (congrArg _ (?_ : _ = (ix3 h 0 d : S8x1x128.Idx))).trans ?_
  · funext a
    refine Fin.ext ?_
    match a with
    | ⟨0, _⟩ => show win0_5.index t 0 * 8 + 1 * h.val = h.val; rw [i0]; omega
    | ⟨1, _⟩ => show win0_5.index t 1 * 1 + 1 * 0 = 0; rw [i1]
    | ⟨2, _⟩ => show win0_5.index t 2 * 128 + 1 * d.val = d.val; rw [i2]; omega
  · exact shape18 _ h d

/-- The initial states' block. -/
theorem x0_6 (c : Dev nD) (t : Fin cfg0.N) (h : Fin 8) (e d : Fin 128) : iblk m c 6 t (ix4 0 h e d) = (0 : EReal) := by
  show V m c main_v15 _ = _
  rw [V15 m c]
  exact Ideal.ofBits_zero .f32

section Point

variable (c : Dev nD)

/-- Head `h`'s lower bounds. -/
def LB (h : Fin 8) (d : Fin 128) : EReal :=
  Cert.HgrnPromptRefIdeal.Step.A_main_v14 (F := Ideal) (m ((c : Thread nD τ).loc main_arg0)) (m ((c : Thread nD τ).loc main_arg1)) (ix2 h d)
/-- Head `h`'s norm weights. -/
def NR (h : Fin 8) (d : Fin 128) : EReal := m ((c : Thread nD τ).loc main_arg2) (ix3 0 h d)
/-- Sequence `b`'s columns of part `k` for head `h`. -/
def SQ (k b : ℕ) (h : Fin 8) : Hgrn.Seq := Hgrn.seqOf (m ((c : Thread nD τ).loc main_arg0)) k b h

/-- The blocks of a grid point. -/
theorem blk (t : Fin cfg0.N) : Blk (t.val % 8) (X0_0 m c t) (X0_1 m c t) (X0_2 m c t) (X0_3 m c t) (iblk m c 4 t) (iblk m c 5 t)
    (SQ m c 0 (t.val / 8)) (SQ m c 1 (t.val / 8)) (SQ m c 2 (t.val / 8)) (SQ m c 3 (t.val / 8)) (LB m c) (NR m c) where
  hq := x0_0 m c t
  hf := x0_1 m c t
  hv := x0_2 m c t
  hg := x0_3 m c t
  hl := x0_4 m c t
  hn := x0_5 m c t

set_option maxHeartbeats 2000000 in
/-- At a sequence's first block. -/
theorem ptA7 (t : Fin cfg0.N) (h0 : t.val % 8 = 0) (h : Fin 8) (r : Fin 512) (e : Fin 128) :
    (outsAt0 m c t.val t.isLt).1 (ix2 r (col h e)) = Hgrn.fin (Hgrn.outT (LB m c h) (SQ m c 0 (t.val / 8) h) (SQ m c 1 (t.val / 8) h) (SQ m c 2 (t.val / 8) h)) (NR m c h) (SQ m c 3 (t.val / 8) h) (512 * (t.val % 8) + r.val) e :=
  (congrArg (fun q => (q.1 : S512x1024.Idx → EReal) (ix2 r (col h e))) (outsAt0_A m c t h0)).trans
    (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (iblk m c 4 t) (iblk m c 5 t) (iblk m c 6 t) (blk m c t) h0 (x0_6 m c t) h r e)

set_option maxHeartbeats 2000000 in
/-- At a later block, from the states carried in. -/
theorem ptB7 (t : Fin cfg0.N) (h0 : ¬ t.val % 8 = 0)
    (hs : ∀ (h : Fin 8) (e d : Fin 128), (outsAt0 m c (t.val - 1) (lt_of_le_of_lt (Nat.sub_le _ _) t.isLt)).2.2 (ix3 h e d)
      = Hgrn.stt (LB m c h) (SQ m c 1 (t.val / 8) h) (SQ m c 2 (t.val / 8) h) (16 * (t.val % 8)) e d) (h : Fin 8) (r : Fin 512) (e : Fin 128) :
    (outsAt0 m c t.val t.isLt).1 (ix2 r (col h e)) = Hgrn.fin (Hgrn.outT (LB m c h) (SQ m c 0 (t.val / 8) h) (SQ m c 1 (t.val / 8) h) (SQ m c 2 (t.val / 8) h)) (NR m c h) (SQ m c 3 (t.val / 8) h) (512 * (t.val % 8) + r.val) e :=
  (congrArg (fun q => (q.1 : S512x1024.Idx → EReal) (ix2 r (col h e))) (outsAt0_B m c t h0)).trans
    (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (iblk m c 4 t) (iblk m c 5 t) (iblk m c 6 t) _ (blk m c t) hs h r e)

set_option maxHeartbeats 2000000 in
/-- At a sequence's first block. -/
theorem ptA8 (t : Fin cfg0.N) (h0 : t.val % 8 = 0) (h : Fin 8) (e d : Fin 128) :
    (outsAt0 m c t.val t.isLt).2.1 (ix4 0 h e d) = Hgrn.stt (LB m c h) (SQ m c 1 (t.val / 8) h) (SQ m c 2 (t.val / 8) h) (16 * (t.val % 8) + 16) e d :=
  (congrArg (fun q => (q.2.1 : S1x8x128x128.Idx → EReal) (ix4 0 h e d)) (outsAt0_A m c t h0)).trans
    (out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (iblk m c 4 t) (iblk m c 5 t) (iblk m c 6 t) (blk m c t) h0 (x0_6 m c t) h e d)

set_option maxHeartbeats 2000000 in
/-- At a later block, from the states carried in. -/
theorem ptB8 (t : Fin cfg0.N) (h0 : ¬ t.val % 8 = 0)
    (hs : ∀ (h : Fin 8) (e d : Fin 128), (outsAt0 m c (t.val - 1) (lt_of_le_of_lt (Nat.sub_le _ _) t.isLt)).2.2 (ix3 h e d)
      = Hgrn.stt (LB m c h) (SQ m c 1 (t.val / 8) h) (SQ m c 2 (t.val / 8) h) (16 * (t.val % 8)) e d) (h : Fin 8) (e d : Fin 128) :
    (outsAt0 m c t.val t.isLt).2.1 (ix4 0 h e d) = Hgrn.stt (LB m c h) (SQ m c 1 (t.val / 8) h) (SQ m c 2 (t.val / 8) h) (16 * (t.val % 8) + 16) e d :=
  (congrArg (fun q => (q.2.1 : S1x8x128x128.Idx → EReal) (ix4 0 h e d)) (outsAt0_B m c t h0)).trans
    (out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (iblk m c 4 t) (iblk m c 5 t) (iblk m c 6 t) _ (blk m c t) hs h e d)

set_option maxHeartbeats 2000000 in
/-- At a sequence's first block. -/
theorem ptAS (t : Fin cfg0.N) (h0 : t.val % 8 = 0) (h : Fin 8) (e d : Fin 128) :
    (outsAt0 m c t.val t.isLt).2.2 (ix3 h e d) = Hgrn.stt (LB m c h) (SQ m c 1 (t.val / 8) h) (SQ m c 2 (t.val / 8) h) (16 * (t.val % 8) + 16) e d :=
  (congrArg (fun q => (q.2.2 : S8x128x128.Idx → EReal) (ix3 h e d)) (outsAt0_A m c t h0)).trans
    (outS_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (iblk m c 4 t) (iblk m c 5 t) (iblk m c 6 t) (blk m c t) h0 (x0_6 m c t) h e d)

set_option maxHeartbeats 2000000 in
/-- At a later block, from the states carried in. -/
theorem ptBS (t : Fin cfg0.N) (h0 : ¬ t.val % 8 = 0)
    (hs : ∀ (h : Fin 8) (e d : Fin 128), (outsAt0 m c (t.val - 1) (lt_of_le_of_lt (Nat.sub_le _ _) t.isLt)).2.2 (ix3 h e d)
      = Hgrn.stt (LB m c h) (SQ m c 1 (t.val / 8) h) (SQ m c 2 (t.val / 8) h) (16 * (t.val % 8)) e d) (h : Fin 8) (e d : Fin 128) :
    (outsAt0 m c t.val t.isLt).2.2 (ix3 h e d) = Hgrn.stt (LB m c h) (SQ m c 1 (t.val / 8) h) (SQ m c 2 (t.val / 8) h) (16 * (t.val % 8) + 16) e d :=
  (congrArg (fun q => (q.2.2 : S8x128x128.Idx → EReal) (ix3 h e d)) (outsAt0_B m c t h0)).trans
    (outS_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (iblk m c 4 t) (iblk m c 5 t) (iblk m c 6 t) _ (blk m c t) hs h e d)

/-- What the outputs and the carried states hold after each grid point. -/
theorem point : ∀ (n : ℕ) (hn : n < cfg0.N),
    (∀ (h : Fin 8) (r : Fin 512) (e : Fin 128), (outsAt0 m c n hn).1 (ix2 r (col h e))
      = Hgrn.fin (Hgrn.outT (LB m c h) (SQ m c 0 (n / 8) h) (SQ m c 1 (n / 8) h) (SQ m c 2 (n / 8) h)) (NR m c h) (SQ m c 3 (n / 8) h) (512 * (n % 8) + r.val) e)
    ∧ (∀ (h : Fin 8) (e d : Fin 128), (outsAt0 m c n hn).2.1 (ix4 0 h e d) = Hgrn.stt (LB m c h) (SQ m c 1 (n / 8) h) (SQ m c 2 (n / 8) h) (16 * (n % 8) + 16) e d)
    ∧ (∀ (h : Fin 8) (e d : Fin 128), (outsAt0 m c n hn).2.2 (ix3 h e d) = Hgrn.stt (LB m c h) (SQ m c 1 (n / 8) h) (SQ m c 2 (n / 8) h) (16 * (n % 8) + 16) e d) := by
  intro n
  induction n with
  | zero =>
    intro hn
    exact ⟨ptA7 m c ⟨0, hn⟩ rfl, ptA8 m c ⟨0, hn⟩ rfl, ptAS m c ⟨0, hn⟩ rfl⟩
  | succ n ih =>
    intro hn
    by_cases h0 : (n + 1) % 8 = 0
    · exact ⟨ptA7 m c ⟨n + 1, hn⟩ h0, ptA8 m c ⟨n + 1, hn⟩ h0, ptAS m c ⟨n + 1, hn⟩ h0⟩
    · have hS : ∀ (h : Fin 8) (e d : Fin 128), (outsAt0 m c n (Nat.lt_of_succ_lt hn)).2.2 (ix3 h e d)
          = Hgrn.stt (LB m c h) (SQ m c 1 ((n + 1) / 8) h) (SQ m c 2 ((n + 1) / 8) h) (16 * ((n + 1) % 8)) e d := by
        intro h e d
        rw [(ih (Nat.lt_of_succ_lt hn)).2.2 h e d, show (n + 1) / 8 = n / 8 from by omega, show 16 * ((n + 1) % 8) = 16 * (n % 8) + 16 from by omega]
      exact ⟨ptB7 m c ⟨n + 1, hn⟩ h0 hS, ptB8 m c ⟨n + 1, hn⟩ h0 hS, ptBS m c ⟨n + 1, hn⟩ h0 hS⟩

/-- The kernel's outputs, element by element. -/
theorem G7_apply (b : Fin 2) (t : Fin 4096) (h : Fin 8) (e : Fin 128) (i : S8192x1024.Idx) (h0 : (i 0).val = 4096 * b.val + t.val)
    (h1 : (i 1).val = 128 * h.val + e.val) :
    Value.G7 m c i = Hgrn.fin (Hgrn.outT (LB m c h) (SQ m c 0 b.val h) (SQ m c 1 b.val h) (SQ m c 2 b.val h)) (NR m c h) (SQ m c 3 b.val h) t.val e := by
  have hp : Value.pt7Of i = 8 * b.val + t.val / 512 := by
    show 1 * ((i 0).val / 512 - 0) + 1 * ((i 1).val / 1024 - 0) = _
    omega
  have hb := b.isLt
  have hN : Value.pt7Of i < cfg0.N := lt_of_lt_of_eq (by omega) Gen.N_0.symm
  unfold Value.G7
  rw [dif_pos hN]
  refine (congrArg (fun q => (Prod.fst q : S512x1024.Idx → EReal) (Value.loc7Of i)) (Value.outsAt0_sweep m c _ hN).symm).trans ?_
  have hl : Value.loc7Of i = ix2 ⟨t.val % 512, Nat.mod_lt _ (by decide)⟩ (col h e) := by
    funext a
    refine Fin.ext ?_
    match a with
    | ⟨0, _⟩ => show (i 0).val % 512 = t.val % 512; omega
    | ⟨1, _⟩ => show (i 1).val % 1024 = 128 * h.val + e.val; omega
  show (outsAt0 m c (Value.pt7Of i) hN).1 (Value.loc7Of i) = _
  rw [hl, (point m c _ hN).1 h _ e, hp, show (8 * b.val + t.val / 512) / 8 = b.val from by omega,
    show 512 * ((8 * b.val + t.val / 512) % 8) + t.val % 512 = t.val from by omega]

/-- The kernel's final states, element by element. -/
theorem G8_apply (b : Fin 2) (h : Fin 8) (e d : Fin 128) :
    Value.G8 m c (ix4 b h e d) = Hgrn.stt (LB m c h) (SQ m c 1 b.val h) (SQ m c 2 b.val h) 128 e d := by
  have hp : Value.pt8Of (ix4 b h e d) = 8 * b.val + 7 := by
    show 8 * (1 * (b.val / 1 - 0) + 1 * (h.val / 8 - 0) + 1 * (e.val / 128 - 0) + 1 * (d.val / 128 - 0)) + 7 = _
    omega
  have hb := b.isLt
  have hN : Value.pt8Of (ix4 b h e d) < cfg0.N := lt_of_lt_of_eq (by omega) Gen.N_0.symm
  unfold Value.G8
  rw [dif_pos hN]
  have hl : Value.loc8Of (ix4 b h e d) = ix4 0 h e d := by
    funext a
    refine Fin.ext ?_
    match a with
    | ⟨0, _⟩ => show b.val % 1 = 0; omega
    | ⟨1, _⟩ => show h.val % 8 = h.val; omega
    | ⟨2, _⟩ => show e.val % 128 = e.val; omega
    | ⟨3, _⟩ => show d.val % 128 = d.val; omega
  refine (congrArg (fun q => (Prod.fst (Prod.snd q) : S1x8x128x128.Idx → EReal) (Value.loc8Of (ix4 b h e d))) (Value.outsAt0_sweep m c _ hN).symm).trans ?_
  show (outsAt0 m c (Value.pt8Of (ix4 b h e d)) hN).2.1 (Value.loc8Of (ix4 b h e d)) = _
  rw [hl, (point m c _ hN).2.1 h e d, hp, show (8 * b.val + 7) / 8 = b.val from by omega,
    show 16 * ((8 * b.val + 7) % 8) + 16 = 128 from by omega]

end Point

end Cert.HgrnPromptIdeal.Entry

end
-- ==== Proof.Same.lean ====
/- The kernel and the reference end with equal results. -/
module

public import proofs.«01_k».proof.Proof.Entry
public import proofs.«01_k».proof.Proof.RefOut

@[expose] public section

set_option maxRecDepth 16384

noncomputable section

namespace Cert.Same

open Idealize.ShloMosaic Idealize.ShloMosaic.TcCoe Idealize.SL.Sem Cert Cert.HgrnPromptIdeal Cert.HgrnPromptIdeal.Gen

variable (m : (ℓ : Loc nD τ sig) → Buf (Elt Ideal) ℓ) (c : Dev nD)

/-- The reference's loop states, from the kernel's arguments. -/
abbrev st (n : ℕ) : Cert.HgrnPromptRefIdeal.Step.State Ideal :=
  Cert.HgrnPromptRefIdeal.RefOut.it (m ((c : Thread nD τ).loc main_arg0)) (m ((c : Thread nD τ).loc main_arg1)) n

/-- The outputs agree. -/
theorem outputs : (Cert.HgrnPromptRefIdeal.Step.R_main_v77 (st m c 128) (m ((c : Thread nD τ).loc main_arg0)) (m ((c : Thread nD τ).loc main_arg2)) : S8192x1024.Idx → EReal)
    = Value.G7 m c := by
  funext i
  have h0 : (i 0).val < 8192 := (i 0).isLt
  have h1 : (i 1).val < 1024 := (i 1).isLt
  have e1 := Entry.G7_apply m c ⟨(i 0).val / 4096, by omega⟩ ⟨(i 0).val % 4096, by omega⟩ ⟨(i 1).val / 128, by omega⟩ ⟨(i 1).val % 128, by omega⟩ i
    (by show (i 0).val = 4096 * ((i 0).val / 4096) + (i 0).val % 4096; omega) (by show (i 1).val = 128 * ((i 1).val / 128) + (i 1).val % 128; omega)
  have e2 := Cert.HgrnPromptRefIdeal.RefOut.out (m ((c : Thread nD τ).loc main_arg0)) (m ((c : Thread nD τ).loc main_arg2)) (st m c 128) _
    (fun j b h r e => (Cert.HgrnPromptRefIdeal.RefOut.inv _ _ 128 (Nat.le_refl _)).hO j b h r e j.isLt)
    ⟨(i 0).val / 4096, by omega⟩ ⟨(i 0).val % 4096, by omega⟩ ⟨(i 1).val / 128, by omega⟩ ⟨(i 1).val % 128, by omega⟩ i (by
      funext a
      refine Fin.ext ?_
      match a with
      | ⟨0, _⟩ => show (i 0).val = 4096 * ((i 0).val / 4096) + (i 0).val % 4096; omega
      | ⟨1, _⟩ => show (i 1).val = 128 * ((i 1).val / 128) + (i 1).val % 128; omega)
  exact e2.trans e1.symm

/-- The final states agree. -/
theorem states : (Cert.HgrnPromptRefIdeal.Step.R_main_v78 (st m c 128) : S2x8x128x128.Idx → EReal) = Value.G8 m c := by
  funext i
  rw [show i = ix4 (i 0) (i 1) (i 2) (i 3) from eq_ix4 i]
  exact (Cert.HgrnPromptRefIdeal.RefOut.fin _ _ (i 0) (i 1) (i 2) (i 3)).trans (Entry.G8_apply m c (i 0) (i 1) (i 2) (i 3)).symm

end Cert.Same

end
-- ==== Proof.MoeRuns.lean ====
module

public import proofs.«01_k».proof.Proof.Gen.MoeFfnIdeal.Skeleton
public import proofs.«01_k».proof.Proof.Gen.MoeFfnIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! # One point of the expert launch, path by path

At a point the body may first cast the expert's three weight blocks into its scratch buffers
(`Loads`), and then either multiplies the tile's rows through them (`Live`) or stores zeros
(`Spare`). Each of the four combinations is run here on symbolic operands. -/

namespace Cert.MoeFfnIdeal.Moe

open Cert.MoeFfnIdeal Cert.MoeFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The table of experts, one word per tile, whole. -/
abbrev tabE : Memref sig .tc .smem S97 .i32 := Memref.whole main_arg0
/-- The number of tiles used, whole. -/
abbrev tabN : Memref sig .tc .smem S1 .i32 := Memref.whole main_arg1
/-- The scratch holding the expert's gate weights, whole. -/
abbrev scG : Memref sig .tc .vmem S2048x512 .bf16 := Memref.whole cc0_scratch0
/-- The scratch holding the expert's up weights, whole. -/
abbrev scU : Memref sig .tc .vmem S2048x512 .bf16 := Memref.whole cc0_scratch1
/-- The scratch holding the expert's down weights, whole. -/
abbrev scD : Memref sig .tc .vmem S512x2048 .bf16 := Memref.whole cc0_scratch2

/-- The word of the expert table the body reads at offset `k`. -/
abbrev word (T : S97.Idx → Elt Ideal .i32) (k : Fin 1 → ℕ) (h : ∀ a, k a + S1.size a ≤ S97.size a) : Elt Ideal .i32 :=
  View.readAt (Elt Ideal) tabE.view (Rect.unit (s := S97) k S1.size h).toLoadRect T (Shape.Idx.first (numel1_S1.symm ▸ Nat.one_pos))

/-- The number of tiles used, as the body reads it. -/
abbrev used (T : S1.Idx → Elt Ideal .i32) : Elt Ideal .i32 :=
  View.readAt (Elt Ideal) tabN.view (Rect.unit (s := S1) ![0] S1.size inb_S1_S1_0).toLoadRect T (Shape.Idx.first (numel1_S1.symm ▸ Nat.one_pos))

/-- The body casts the weights at this point: it is the first, or its expert is not the one before. -/
abbrev Loads (i : grid0.Coords) (T0 : S97.Idx → Elt Ideal .i32) : Prop :=
  Scalar.cmpi .ne (Scalar.extui (Scalar.ori (Scalar.cmpi .eq (BitVec.ofNat 32 (i 0).val) 0#32)
    (Scalar.cmpi .ne (word T0 (k0_off1 i) (k0_off1_inb i)) (word T0 (k0_off2 i) (k0_off2_inb i))))) 0#32 = 1#1

/-- The tile is used. -/
abbrev Live (i : grid0.Coords) (T1 : S1.Idx → Elt Ideal .i32) : Prop := k0_cond2 i (used T1) = 1#1
/-- The tile is not used. -/
abbrev Spare (i : grid0.Coords) (T1 : S1.Idx → Elt Ideal .i32) : Prop := k0_cond3 i (used T1) = 1#1

set_option backward.proofsInPublic true in
set_option maxHeartbeats 8000000 in
/-- A used tile whose expert is new. The pieces left in the output block and the
scratch contents are read off the run. -/
noncomputable def runLA (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Ideal .i32) (T1 : S1.Idx → Elt Ideal .i32)
    (x0 : S4096x128.Idx → Elt Ideal .f32) (x1 : S1x2048x512.Idx → Elt Ideal .f32) (x2 : S1x2048x512.Idx → Elt Ideal .f32) (x3 : S1x512x2048.Idx → Elt Ideal .f32)

    (hc0 : Loads i T0) (h2 : Live i T1) (h3 : ¬Spare i T1) :
    Σ' (out0 : List (View.Piece (Elt Ideal) S4096x128 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Ideal) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Ideal)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun xa0 xa1 xa2 K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = Scalar.cmpi = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An unused tile whose expert is new. The pieces left in the output block and the
scratch contents are read off the run. -/
noncomputable def runLZ (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Ideal .i32) (T1 : S1.Idx → Elt Ideal .i32)
    (x0 : S4096x128.Idx → Elt Ideal .f32) (x1 : S1x2048x512.Idx → Elt Ideal .f32) (x2 : S1x2048x512.Idx → Elt Ideal .f32) (x3 : S1x512x2048.Idx → Elt Ideal .f32)

    (hc0 : Loads i T0) (h2 : ¬Live i T1) (h3 : Spare i T1) :
    Σ' (out0 : List (View.Piece (Elt Ideal) S4096x128 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Ideal) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Ideal)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun xa0 xa1 xa2 K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = Scalar.cmpi = _; exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A used tile whose expert is that of the tile before. The pieces left in the output block and the
scratch contents are read off the run. -/
noncomputable def runKA (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Ideal .i32) (T1 : S1.Idx → Elt Ideal .i32)
    (x0 : S4096x128.Idx → Elt Ideal .f32) (x1 : S1x2048x512.Idx → Elt Ideal .f32) (x2 : S1x2048x512.Idx → Elt Ideal .f32) (x3 : S1x512x2048.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬Loads i T0) (h2 : Live i T1) (h3 : ¬Spare i T1) :
    Σ' (out0 : List (View.Piece (Elt Ideal) S4096x128 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Ideal) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Ideal)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = ¬(Scalar.cmpi = _); exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An unused tile whose expert is that of the tile before. The pieces left in the output block and the
scratch contents are read off the run. -/
noncomputable def runKZ (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Ideal .i32) (T1 : S1.Idx → Elt Ideal .i32)
    (x0 : S4096x128.Idx → Elt Ideal .f32) (x1 : S1x2048x512.Idx → Elt Ideal .f32) (x2 : S1x2048x512.Idx → Elt Ideal .f32) (x3 : S1x512x2048.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬Loads i T0) (h2 : ¬Live i T1) (h3 : Spare i T1) :
    Σ' (out0 : List (View.Piece (Elt Ideal) S4096x128 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Ideal) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Ideal)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = ¬(Scalar.cmpi = _); exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

end Cert.MoeFfnIdeal.Moe

end
-- ==== Proof.MoeTile.lean ====
module

public import proofs.«01_k».proof.Proof.MoeRuns
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! # What one point computes, as functions of the blocks

A row of the tile lies in sixteen strips of 128 lanes: strip `k` of row `r` is row `16 r + k` of
the block. The body gathers the strips into rows of 2048, multiplies them through the expert's
weights, and lays the result out in strips again. -/

namespace Cert.MoeFfnIdeal.Moe

open Cert.MoeFfnIdeal Cert.MoeFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- Strip `k` of every row of a block. -/
def strip (k : ℕ) (h : ∀ a, S256x128.size a = 0 ∨ (![k, 0] : Fin 2 → ℕ) a + (![16, 1] : Fin 2 → ℕ) a * (S256x128.size a - 1) < S4096x128.size a)
    (x : S4096x128.Idx → Elt Ideal .f32) : S256x128.Idx → Elt Ideal .f32 :=
  fun y => x ((⟨![k, 0], S256x128.size, ![16, 1], h⟩ : LoadRect S4096x128).idx y)

/-- The tile's rows through one expert, the scratch buffers holding its weights. -/
def expert (x : S4096x128.Idx → Elt Ideal .f32) (g u : FVec Ideal S2048x512 .bf16) (d : FVec Ideal S512x2048 .bf16) : FVec Ideal S256x2048 .f32 :=
  k0_pay30 (k0_pay15 (strip 0 inb_S4096x128_S256x128_0_0_s_16_1 x)) (k0_pay16 (strip 1 inb_S4096x128_S256x128_1_0_s_16_1 x)) (k0_pay17 (strip 2 inb_S4096x128_S256x128_2_0_s_16_1 x)) (k0_pay18 (strip 3 inb_S4096x128_S256x128_3_0_s_16_1 x)) (k0_pay19 (strip 4 inb_S4096x128_S256x128_4_0_s_16_1 x)) (k0_pay20 (strip 5 inb_S4096x128_S256x128_5_0_s_16_1 x)) (k0_pay21 (strip 6 inb_S4096x128_S256x128_6_0_s_16_1 x)) (k0_pay22 (strip 7 inb_S4096x128_S256x128_7_0_s_16_1 x)) (k0_pay23 (strip 8 inb_S4096x128_S256x128_8_0_s_16_1 x)) (k0_pay24 (strip 9 inb_S4096x128_S256x128_9_0_s_16_1 x)) (k0_pay25 (strip 10 inb_S4096x128_S256x128_10_0_s_16_1 x)) (k0_pay26 (strip 11 inb_S4096x128_S256x128_11_0_s_16_1 x)) (k0_pay27 (strip 12 inb_S4096x128_S256x128_12_0_s_16_1 x)) (k0_pay28 (strip 13 inb_S4096x128_S256x128_13_0_s_16_1 x)) (k0_pay29 (strip 14 inb_S4096x128_S256x128_14_0_s_16_1 x))
    (strip 15 inb_S4096x128_S256x128_15_0_s_16_1 x) g u d

/-- Rows of 2048 laid out in strips of 128. -/
def strips (E : FVec Ideal S256x2048 .f32) : S4096x128.Idx → Elt Ideal .f32 := fun y =>
  E (fun a => match a with
    | ⟨0, _⟩ => (⟨(y 0).val / 16, Nat.div_lt_of_lt_mul (y 0).isLt⟩ : Fin 256)
    | ⟨1, _⟩ => (⟨128 * ((y 0).val % 16) + (y 1).val, by
        have h1 : (y 1).val < 128 := (y 1).isLt
        have h0 := Nat.mod_lt (y 0).val (show 0 < 16 by decide)
        omega⟩ : Fin 2048))

/-- The gate weights as the scratch holds them. -/
def castG (x : S1x2048x512.Idx → Elt Ideal .f32) : FVec Ideal S2048x512 .bf16 := k0_pay1 (F := Ideal) x
/-- The up weights as the scratch holds them. -/
def castU (x : S1x2048x512.Idx → Elt Ideal .f32) : FVec Ideal S2048x512 .bf16 := k0_pay2 (F := Ideal) x
/-- The down weights as the scratch holds them. -/
def castD (x : S1x512x2048.Idx → Elt Ideal .f32) : FVec Ideal S512x2048 .bf16 := k0_pay3 (F := Ideal) x

/-- The rectangle the body stores strip `k` to. -/
abbrev rect (k : ℕ) (h : ∀ a, S256x128.size a = 0 ∨ (![k, 0] : Fin 2 → ℕ) a + (![16, 1] : Fin 2 → ℕ) a * (S256x128.size a - 1) < S4096x128.size a) : Rect S4096x128 :=
  ⟨⟨![k, 0], S256x128.size, ![16, 1], h⟩, spos_16_1⟩

/-- The sixteen stores of a computed tile, the last first. -/
def pieces (E : FVec Ideal S256x2048 .f32) : List (View.Piece (Elt Ideal) S4096x128 .f32) :=
  [⟨rect 15 inb_S4096x128_S256x128_15_0_s_16_1, extractStridedSlice S256x128 ![0, 1920] E slices_S256x2048_o0_1920_S256x128⟩,
   ⟨rect 14 inb_S4096x128_S256x128_14_0_s_16_1, extractStridedSlice S256x128 ![0, 1792] E slices_S256x2048_o0_1792_S256x128⟩,
   ⟨rect 13 inb_S4096x128_S256x128_13_0_s_16_1, extractStridedSlice S256x128 ![0, 1664] E slices_S256x2048_o0_1664_S256x128⟩,
   ⟨rect 12 inb_S4096x128_S256x128_12_0_s_16_1, extractStridedSlice S256x128 ![0, 1536] E slices_S256x2048_o0_1536_S256x128⟩,
   ⟨rect 11 inb_S4096x128_S256x128_11_0_s_16_1, extractStridedSlice S256x128 ![0, 1408] E slices_S256x2048_o0_1408_S256x128⟩,
   ⟨rect 10 inb_S4096x128_S256x128_10_0_s_16_1, extractStridedSlice S256x128 ![0, 1280] E slices_S256x2048_o0_1280_S256x128⟩,
   ⟨rect 9 inb_S4096x128_S256x128_9_0_s_16_1, extractStridedSlice S256x128 ![0, 1152] E slices_S256x2048_o0_1152_S256x128⟩,
   ⟨rect 8 inb_S4096x128_S256x128_8_0_s_16_1, extractStridedSlice S256x128 ![0, 1024] E slices_S256x2048_o0_1024_S256x128⟩,
   ⟨rect 7 inb_S4096x128_S256x128_7_0_s_16_1, extractStridedSlice S256x128 ![0, 896] E slices_S256x2048_o0_896_S256x128⟩,
   ⟨rect 6 inb_S4096x128_S256x128_6_0_s_16_1, extractStridedSlice S256x128 ![0, 768] E slices_S256x2048_o0_768_S256x128⟩,
   ⟨rect 5 inb_S4096x128_S256x128_5_0_s_16_1, extractStridedSlice S256x128 ![0, 640] E slices_S256x2048_o0_640_S256x128⟩,
   ⟨rect 4 inb_S4096x128_S256x128_4_0_s_16_1, extractStridedSlice S256x128 ![0, 512] E slices_S256x2048_o0_512_S256x128⟩,
   ⟨rect 3 inb_S4096x128_S256x128_3_0_s_16_1, extractStridedSlice S256x128 ![0, 384] E slices_S256x2048_o0_384_S256x128⟩,
   ⟨rect 2 inb_S4096x128_S256x128_2_0_s_16_1, extractStridedSlice S256x128 ![0, 256] E slices_S256x2048_o0_256_S256x128⟩,
   ⟨rect 1 inb_S4096x128_S256x128_1_0_s_16_1, extractStridedSlice S256x128 ![0, 128] E slices_S256x2048_o0_128_S256x128⟩,
   ⟨rect 0 inb_S4096x128_S256x128_0_0_s_16_1, extractStridedSlice S256x128 ![0, 0] E slices_S256x2048_o0_0_S256x128⟩]

/-- Strip `k` of a computed tile, where it is stored, is the tile laid out in strips. -/
theorem piece_apply (E : FVec Ideal S256x2048 .f32) (k o : ℕ) (hk : k < 16) (ho : o = 128 * k) (h) (hs : S256x2048.Slices ![0, o] S256x128)
    (x : (rect k h).shape.Idx) : extractStridedSlice S256x128 ![0, o] E hs x = strips E ((rect k h).emb x) := by
  unfold strips
  unfold extractStridedSlice
  refine congrArg E (funext fun a => Fin.ext (Eq.symm ?_))
  have e0 : ((rect k h).emb x 0).val = k + 16 * (x 0).val := rfl
  have e1 : ((rect k h).emb x 1).val = 0 + 1 * (x 1).val := rfl
  match a with
  | ⟨0, _⟩ =>
    show ((rect k h).emb x 0).val / 16 = 0 + (x 0).val
    rw [e0]; omega
  | ⟨1, _⟩ =>
    show 128 * (((rect k h).emb x 0).val % 16) + ((rect k h).emb x 1).val = o + (x 1).val
    rw [e0, e1]; omega

/-- Row `16 r + k` of a block is in the rectangle of strip `k`. -/
theorem mem_rect (y : S4096x128.Idx) (k : ℕ) (hk : (y 0).val % 16 = k) (h) : y ∈ (rect k h).set := by
  refine (LoadRect.mem_set _).mpr fun a => ?_
  have h0 : (y 0).val < 4096 := (y 0).isLt
  have h1 : (y 1).val < 128 := (y 1).isLt
  match a with
  | ⟨0, _⟩ =>
    refine ⟨(y 0).val / 16, ?_, ?_⟩
    · show (y 0).val / 16 < 256
      omega
    · show (y 0).val = k + 16 * ((y 0).val / 16)
      omega
  | ⟨1, _⟩ =>
    refine ⟨(y 1).val, h1, ?_⟩
    show (y 1).val = 0 + 1 * (y 1).val
    omega

/-- The sixteen stores leave the tile in strips, whatever the block held. -/
theorem read_pieces {sig' : RefSig} {κ : Kind} {sp : Space} (v : View sig' κ sp S4096x128 .f32) (f : v.ty.Contents (Elt Ideal)) (E : FVec Ideal S256x2048 .f32) :
    v.read (Elt Ideal) (v.writes (Elt Ideal) f (pieces E)) = strips E := by
  funext y
  refine View.read_writes_apply_of_pieces v f (strips E) (pieces E) ?_ y ?_
  · unfold pieces
    refine List.forall_mem_cons.mpr ⟨piece_apply E 15 1920 (by decide) rfl inb_S4096x128_S256x128_15_0_s_16_1 slices_S256x2048_o0_1920_S256x128, ?_⟩
    refine List.forall_mem_cons.mpr ⟨piece_apply E 14 1792 (by decide) rfl inb_S4096x128_S256x128_14_0_s_16_1 slices_S256x2048_o0_1792_S256x128, ?_⟩
    refine List.forall_mem_cons.mpr ⟨piece_apply E 13 1664 (by decide) rfl inb_S4096x128_S256x128_13_0_s_16_1 slices_S256x2048_o0_1664_S256x128, ?_⟩
    refine List.forall_mem_cons.mpr ⟨piece_apply E 12 1536 (by decide) rfl inb_S4096x128_S256x128_12_0_s_16_1 slices_S256x2048_o0_1536_S256x128, ?_⟩
    refine List.forall_mem_cons.mpr ⟨piece_apply E 11 1408 (by decide) rfl inb_S4096x128_S256x128_11_0_s_16_1 slices_S256x2048_o0_1408_S256x128, ?_⟩
    refine List.forall_mem_cons.mpr ⟨piece_apply E 10 1280 (by decide) rfl inb_S4096x128_S256x128_10_0_s_16_1 slices_S256x2048_o0_1280_S256x128, ?_⟩
    refine List.forall_mem_cons.mpr ⟨piece_apply E 9 1152 (by decide) rfl inb_S4096x128_S256x128_9_0_s_16_1 slices_S256x2048_o0_1152_S256x128, ?_⟩
    refine List.forall_mem_cons.mpr ⟨piece_apply E 8 1024 (by decide) rfl inb_S4096x128_S256x128_8_0_s_16_1 slices_S256x2048_o0_1024_S256x128, ?_⟩
    refine List.forall_mem_cons.mpr ⟨piece_apply E 7 896 (by decide) rfl inb_S4096x128_S256x128_7_0_s_16_1 slices_S256x2048_o0_896_S256x128, ?_⟩
    refine List.forall_mem_cons.mpr ⟨piece_apply E 6 768 (by decide) rfl inb_S4096x128_S256x128_6_0_s_16_1 slices_S256x2048_o0_768_S256x128, ?_⟩
    refine List.forall_mem_cons.mpr ⟨piece_apply E 5 640 (by decide) rfl inb_S4096x128_S256x128_5_0_s_16_1 slices_S256x2048_o0_640_S256x128, ?_⟩
    refine List.forall_mem_cons.mpr ⟨piece_apply E 4 512 (by decide) rfl inb_S4096x128_S256x128_4_0_s_16_1 slices_S256x2048_o0_512_S256x128, ?_⟩
    refine List.forall_mem_cons.mpr ⟨piece_apply E 3 384 (by decide) rfl inb_S4096x128_S256x128_3_0_s_16_1 slices_S256x2048_o0_384_S256x128, ?_⟩
    refine List.forall_mem_cons.mpr ⟨piece_apply E 2 256 (by decide) rfl inb_S4096x128_S256x128_2_0_s_16_1 slices_S256x2048_o0_256_S256x128, ?_⟩
    refine List.forall_mem_cons.mpr ⟨piece_apply E 1 128 (by decide) rfl inb_S4096x128_S256x128_1_0_s_16_1 slices_S256x2048_o0_128_S256x128, ?_⟩
    refine List.forall_mem_cons.mpr ⟨piece_apply E 0 0 (by decide) rfl inb_S4096x128_S256x128_0_0_s_16_1 slices_S256x2048_o0_0_S256x128, ?_⟩
    intro p hp; exact absurd hp List.not_mem_nil
  · have hlt := Nat.mod_lt (y 0).val (show 0 < 16 by decide)
    unfold pieces
    simp only [List.exists_mem_cons_iff]
    generalize hk : (y 0).val % 16 = k at hlt
    interval_cases k
    · exact Or.inr (Or.inr (Or.inr (Or.inr (Or.inr (Or.inr (Or.inr (Or.inr (Or.inr (Or.inr (Or.inr (Or.inr (Or.inr (Or.inr (Or.inr (Or.inl (mem_rect y 0 hk inb_S4096x128_S256x128_0_0_s_16_1))))))))))))))))
    · exact Or.inr (Or.inr (Or.inr (Or.inr (Or.inr (Or.inr (Or.inr (Or.inr (Or.inr (Or.inr (Or.inr (Or.inr (Or.inr (Or.inr (Or.inl (mem_rect y 1 hk inb_S4096x128_S256x128_1_0_s_16_1)))))))))))))))
    · exact Or.inr (Or.inr (Or.inr (Or.inr (Or.inr (Or.inr (Or.inr (Or.inr (Or.inr (Or.inr (Or.inr (Or.inr (Or.inr (Or.inl (mem_rect y 2 hk inb_S4096x128_S256x128_2_0_s_16_1))))))))))))))
    · exact Or.inr (Or.inr (Or.inr (Or.inr (Or.inr (Or.inr (Or.inr (Or.inr (Or.inr (Or.inr (Or.inr (Or.inr (Or.inl (mem_rect y 3 hk inb_S4096x128_S256x128_3_0_s_16_1)))))))))))))
    · exact Or.inr (Or.inr (Or.inr (Or.inr (Or.inr (Or.inr (Or.inr (Or.inr (Or.inr (Or.inr (Or.inr (Or.inl (mem_rect y 4 hk inb_S4096x128_S256x128_4_0_s_16_1))))))))))))
    · exact Or.inr (Or.inr (Or.inr (Or.inr (Or.inr (Or.inr (Or.inr (Or.inr (Or.inr (Or.inr (Or.inl (mem_rect y 5 hk inb_S4096x128_S256x128_5_0_s_16_1)))))))))))
    · exact Or.inr (Or.inr (Or.inr (Or.inr (Or.inr (Or.inr (Or.inr (Or.inr (Or.inr (Or.inl (mem_rect y 6 hk inb_S4096x128_S256x128_6_0_s_16_1))))))))))
    · exact Or.inr (Or.inr (Or.inr (Or.inr (Or.inr (Or.inr (Or.inr (Or.inr (Or.inl (mem_rect y 7 hk inb_S4096x128_S256x128_7_0_s_16_1)))))))))
    · exact Or.inr (Or.inr (Or.inr (Or.inr (Or.inr (Or.inr (Or.inr (Or.inl (mem_rect y 8 hk inb_S4096x128_S256x128_8_0_s_16_1))))))))
    · exact Or.inr (Or.inr (Or.inr (Or.inr (Or.inr (Or.inr (Or.inl (mem_rect y 9 hk inb_S4096x128_S256x128_9_0_s_16_1)))))))
    · exact Or.inr (Or.inr (Or.inr (Or.inr (Or.inr (Or.inl (mem_rect y 10 hk inb_S4096x128_S256x128_10_0_s_16_1))))))
    · exact Or.inr (Or.inr (Or.inr (Or.inr (Or.inl (mem_rect y 11 hk inb_S4096x128_S256x128_11_0_s_16_1)))))
    · exact Or.inr (Or.inr (Or.inr (Or.inl (mem_rect y 12 hk inb_S4096x128_S256x128_12_0_s_16_1))))
    · exact Or.inr (Or.inr (Or.inl (mem_rect y 13 hk inb_S4096x128_S256x128_13_0_s_16_1)))
    · exact Or.inr (Or.inl (mem_rect y 14 hk inb_S4096x128_S256x128_14_0_s_16_1))
    · exact Or.inl (mem_rect y 15 hk inb_S4096x128_S256x128_15_0_s_16_1)

end Cert.MoeFfnIdeal.Moe

end
-- ==== Proof.MoeBody.lean ====
module

public import proofs.«01_k».proof.Proof.MoeTile
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! # One point's effect

Whatever the path, the scratch buffers end at the casts of the point's weight blocks and the output
block at the tile's rows through them, or at zeros where the tile is not used. -/

namespace Cert.MoeFfnIdeal.Moe

open Cert.MoeFfnIdeal Cert.MoeFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A used tile is not an unused one. -/
theorem not_spare {i : grid0.Coords} {T1 : S1.Idx → Elt Ideal .i32} (h : Live i T1) : ¬Spare i T1 := by
  revert h
  unfold Live Spare
  generalize (used T1 : BitVec 32) = w
  unfold k0_cond2 k0_cond3
  simp only [Scalar.cmpi, IntOp.cmpi, Scalar.extui]
  generalize BitVec.ofNat 32 (i 0).val = v
  rw [BitVec.sle_eq_not_slt]
  cases v.slt w <;> decide

/-- A tile that is not used is an unused one. -/
theorem spare_of_not_live {i : grid0.Coords} {T1 : S1.Idx → Elt Ideal .i32} (h : ¬Live i T1) : Spare i T1 := by
  revert h
  unfold Live Spare
  generalize (used T1 : BitVec 32) = w
  unfold k0_cond2 k0_cond3
  simp only [Scalar.cmpi, IntOp.cmpi, Scalar.extui]
  generalize BitVec.ofNat 32 (i 0).val = v
  rw [BitVec.sle_eq_not_slt]
  cases v.slt w <;> decide

/-- The zeros an unused tile is filled with. -/
def zeros : S4096x128.Idx → Elt Ideal .f32 := k0_pay14 (F := Ideal)

open Classical in
/-- The output block a point leaves. -/
def tile (i : grid0.Coords) (T1 : S1.Idx → Elt Ideal .i32) (x0 : S4096x128.Idx → Elt Ideal .f32) (x1 x2 : S1x2048x512.Idx → Elt Ideal .f32) (x3 : S1x512x2048.Idx → Elt Ideal .f32) :
    S4096x128.Idx → Elt Ideal .f32 :=
  if Live i T1 then strips (expert x0 (castG x1) (castU x2) (castD x3)) else zeros

/-- A view filled whole by one store is the representative of what was stored. -/
theorem writes_full {sig' : RefSig} {κ : Kind} {sp : Space} {s : Shape} {e : EltTy} (v : View sig' κ sp s e) {off : Fin s.rank → ℕ} {inb : ∀ a, off a + s.size a ≤ s.size a}
    (w : s.Idx → Elt Ideal e) : v.writes (Elt Ideal) v.junk [⟨Rect.unit off s.size inb, w⟩] = v.rep w := by
  have h0 : off = fun _ => 0 := funext fun a => by have := inb a; omega
  subst h0
  rfl

section
variable (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Ideal .i32) (T1 : S1.Idx → Elt Ideal .i32)
    (x0 : S4096x128.Idx → Elt Ideal .f32) (x1 : S1x2048x512.Idx → Elt Ideal .f32) (x2 : S1x2048x512.Idx → Elt Ideal .f32) (x3 : S1x512x2048.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

/-- The stores of path `LA` are the computed tile's. -/
theorem storesLA (hc0 : Loads i T0) (h2 : Live i T1) (h3 : ¬Spare i T1) : (runLA c i arg3 harg3 arg4 harg4 arg5 harg5 arg6 harg6 arg7 harg7 T0 T1 x0 x1 x2 x3 hc0 h2 h3).1 = pieces (expert x0 (castG x1) (castU x2) (castD x3)) := by
  have e : (runLA c i arg3 harg3 arg4 harg4 arg5 harg5 arg6 harg6 arg7 harg7 T0 T1 x0 x1 x2 x3 hc0 h2 h3).1 = pieces (runLA.sl.r_3 arg3 arg4 arg5 arg6 x0 x1 x2 x3) := rfl
  rw [e]
  refine congrArg pieces ?_
  unfold runLA.sl.r_3 runLA.sl.v53 runLA.sl.v55 runLA.sl.v67 runLA.sl.HS0_1 runLA.sl.HS1_1 runLA.sl.HS2_1
  unfold runLA.sl.v20 runLA.sl.v22 runLA.sl.v24 runLA.sl.v26 runLA.sl.v28 runLA.sl.v30 runLA.sl.v32 runLA.sl.v34 runLA.sl.v36 runLA.sl.v38 runLA.sl.v40 runLA.sl.v42 runLA.sl.v44 runLA.sl.v46 runLA.sl.v48
  rw [View.readAt_rep_full, View.readAt_rep_full, View.readAt_rep_full, View.readCov_full, View.readCov_full, View.readCov_full]
  simp only [View.readAt_rep]
  rfl

/-- Path `LA` leaves the casts of the weight blocks in the scratch buffers. -/
theorem scratchLA (hc0 : Loads i T0) (h2 : Live i T1) (h3 : ¬Spare i T1) : (runLA c i arg3 harg3 arg4 harg4 arg5 harg5 arg6 harg6 arg7 harg7 T0 T1 x0 x1 x2 x3 hc0 h2 h3).2.1 = scG.view.rep (castG x1) ∧ (runLA c i arg3 harg3 arg4 harg4 arg5 harg5 arg6 harg6 arg7 harg7 T0 T1 x0 x1 x2 x3 hc0 h2 h3).2.2.1 = scU.view.rep (castU x2)
    ∧ (runLA c i arg3 harg3 arg4 harg4 arg5 harg5 arg6 harg6 arg7 harg7 T0 T1 x0 x1 x2 x3 hc0 h2 h3).2.2.2.1 = scD.view.rep (castD x3) := by
  have e0 : (runLA c i arg3 harg3 arg4 harg4 arg5 harg5 arg6 harg6 arg7 harg7 T0 T1 x0 x1 x2 x3 hc0 h2 h3).2.1 = scG.view.writes (Elt Ideal) scG.view.junk (runLA.sl.HS0_1 arg4 x1) := by sl_kernel_rfl
  have e1 : (runLA c i arg3 harg3 arg4 harg4 arg5 harg5 arg6 harg6 arg7 harg7 T0 T1 x0 x1 x2 x3 hc0 h2 h3).2.2.1 = scU.view.writes (Elt Ideal) scU.view.junk (runLA.sl.HS1_1 arg5 x2) := by sl_kernel_rfl
  have e2 : (runLA c i arg3 harg3 arg4 harg4 arg5 harg5 arg6 harg6 arg7 harg7 T0 T1 x0 x1 x2 x3 hc0 h2 h3).2.2.2.1 = scD.view.writes (Elt Ideal) scD.view.junk (runLA.sl.HS2_1 arg6 x3) := by sl_kernel_rfl
  refine ⟨e0.trans ?_, e1.trans ?_, e2.trans ?_⟩
  · unfold runLA.sl.HS0_1; rw [View.readAt_rep_full]; exact writes_full _ _
  · unfold runLA.sl.HS1_1; rw [View.readAt_rep_full]; exact writes_full _ _
  · unfold runLA.sl.HS2_1; rw [View.readAt_rep_full]; exact writes_full _ _

/-- The store of path `LZ` fills the block with zeros. -/
theorem storesLZ (hc0 : Loads i T0) (h2 : ¬Live i T1) (h3 : Spare i T1) : (runLZ c i arg3 harg3 arg4 harg4 arg5 harg5 arg6 harg6 arg7 harg7 T0 T1 x0 x1 x2 x3 hc0 h2 h3).1 = [⟨Rect.unit ![0, 0] S4096x128.size inb_S4096x128_S4096x128_0_0, zeros⟩] := by sl_kernel_rfl

/-- Path `LZ` leaves the casts of the weight blocks in the scratch buffers. -/
theorem scratchLZ (hc0 : Loads i T0) (h2 : ¬Live i T1) (h3 : Spare i T1) : (runLZ c i arg3 harg3 arg4 harg4 arg5 harg5 arg6 harg6 arg7 harg7 T0 T1 x0 x1 x2 x3 hc0 h2 h3).2.1 = scG.view.rep (castG x1) ∧ (runLZ c i arg3 harg3 arg4 harg4 arg5 harg5 arg6 harg6 arg7 harg7 T0 T1 x0 x1 x2 x3 hc0 h2 h3).2.2.1 = scU.view.rep (castU x2)
    ∧ (runLZ c i arg3 harg3 arg4 harg4 arg5 harg5 arg6 harg6 arg7 harg7 T0 T1 x0 x1 x2 x3 hc0 h2 h3).2.2.2.1 = scD.view.rep (castD x3) := by
  have e0 : (runLZ c i arg3 harg3 arg4 harg4 arg5 harg5 arg6 harg6 arg7 harg7 T0 T1 x0 x1 x2 x3 hc0 h2 h3).2.1 = scG.view.writes (Elt Ideal) scG.view.junk (runLZ.sl.HS0_1 arg4 x1) := by sl_kernel_rfl
  have e1 : (runLZ c i arg3 harg3 arg4 harg4 arg5 harg5 arg6 harg6 arg7 harg7 T0 T1 x0 x1 x2 x3 hc0 h2 h3).2.2.1 = scU.view.writes (Elt Ideal) scU.view.junk (runLZ.sl.HS1_1 arg5 x2) := by sl_kernel_rfl
  have e2 : (runLZ c i arg3 harg3 arg4 harg4 arg5 harg5 arg6 harg6 arg7 harg7 T0 T1 x0 x1 x2 x3 hc0 h2 h3).2.2.2.1 = scD.view.writes (Elt Ideal) scD.view.junk (runLZ.sl.HS2_1 arg6 x3) := by sl_kernel_rfl
  refine ⟨e0.trans ?_, e1.trans ?_, e2.trans ?_⟩
  · unfold runLZ.sl.HS0_1; rw [View.readAt_rep_full]; exact writes_full _ _
  · unfold runLZ.sl.HS1_1; rw [View.readAt_rep_full]; exact writes_full _ _
  · unfold runLZ.sl.HS2_1; rw [View.readAt_rep_full]; exact writes_full _ _

/-- The stores of path `KA` are the computed tile's, where the scratch holds the weights' casts. -/
theorem storesKA (hc0 : ¬Loads i T0) (h2 : Live i T1) (h3 : ¬Spare i T1) (e0 : xa0 = scG.view.rep (castG x1)) (e1 : xa1 = scU.view.rep (castU x2)) (e2 : xa2 = scD.view.rep (castD x3)) :
    (runKA c i arg3 harg3 arg4 harg4 arg5 harg5 arg6 harg6 arg7 harg7 T0 T1 x0 x1 x2 x3 xa0 xa1 xa2 hc0 h2 h3).1 = pieces (expert x0 (castG x1) (castU x2) (castD x3)) := by
  subst e0 e1 e2
  have e : (runKA c i arg3 harg3 arg4 harg4 arg5 harg5 arg6 harg6 arg7 harg7 T0 T1 x0 x1 x2 x3 (scG.view.rep (castG x1)) (scU.view.rep (castU x2)) (scD.view.rep (castD x3)) hc0 h2 h3).1
      = pieces (runKA.sl.r_3 c arg3 x0 (scG.view.rep (castG x1)) (scU.view.rep (castU x2)) (scD.view.rep (castD x3))) := rfl
  rw [e]
  refine congrArg pieces ?_
  unfold runKA.sl.r_3
  unfold runKA.sl.v20 runKA.sl.v22 runKA.sl.v24 runKA.sl.v26 runKA.sl.v28 runKA.sl.v30 runKA.sl.v32 runKA.sl.v34 runKA.sl.v36 runKA.sl.v38 runKA.sl.v40 runKA.sl.v42 runKA.sl.v44 runKA.sl.v46 runKA.sl.v48
  rw [View.readAt_rep_full, View.readAt_rep_full, View.readAt_rep_full]
  simp only [View.readAt_rep]
  rfl

/-- Path `KA` leaves the scratch buffers as they were. -/
theorem scratchKA (hc0 : ¬Loads i T0) (h2 : Live i T1) (h3 : ¬Spare i T1) : (runKA c i arg3 harg3 arg4 harg4 arg5 harg5 arg6 harg6 arg7 harg7 T0 T1 x0 x1 x2 x3 xa0 xa1 xa2 hc0 h2 h3).2.1 = xa0 ∧ (runKA c i arg3 harg3 arg4 harg4 arg5 harg5 arg6 harg6 arg7 harg7 T0 T1 x0 x1 x2 x3 xa0 xa1 xa2 hc0 h2 h3).2.2.1 = xa1 ∧ (runKA c i arg3 harg3 arg4 harg4 arg5 harg5 arg6 harg6 arg7 harg7 T0 T1 x0 x1 x2 x3 xa0 xa1 xa2 hc0 h2 h3).2.2.2.1 = xa2 := ⟨rfl, rfl, rfl⟩

/-- The store of path `KZ` fills the block with zeros. -/
theorem storesKZ (hc0 : ¬Loads i T0) (h2 : ¬Live i T1) (h3 : Spare i T1) : (runKZ c i arg3 harg3 arg4 harg4 arg5 harg5 arg6 harg6 arg7 harg7 T0 T1 x0 x1 x2 x3 xa0 xa1 xa2 hc0 h2 h3).1 = [⟨Rect.unit ![0, 0] S4096x128.size inb_S4096x128_S4096x128_0_0, zeros⟩] := by sl_kernel_rfl

/-- Path `KZ` leaves the scratch buffers as they were. -/
theorem scratchKZ (hc0 : ¬Loads i T0) (h2 : ¬Live i T1) (h3 : Spare i T1) : (runKZ c i arg3 harg3 arg4 harg4 arg5 harg5 arg6 harg6 arg7 harg7 T0 T1 x0 x1 x2 x3 xa0 xa1 xa2 hc0 h2 h3).2.1 = xa0 ∧ (runKZ c i arg3 harg3 arg4 harg4 arg5 harg5 arg6 harg6 arg7 harg7 T0 T1 x0 x1 x2 x3 xa0 xa1 xa2 hc0 h2 h3).2.2.1 = xa1 ∧ (runKZ c i arg3 harg3 arg4 harg4 arg5 harg5 arg6 harg6 arg7 harg7 T0 T1 x0 x1 x2 x3 xa0 xa1 xa2 hc0 h2 h3).2.2.2.1 = xa2 := ⟨rfl, rfl, rfl⟩

set_option maxHeartbeats 2000000 in
/-- One point of the launch: from its blocks, the tables, an output block holding anything and the
scratch buffers holding the weights' casts unless the point casts them anew, the body leaves the
output block at `tile` and the scratch buffers at the casts. -/
theorem point (hk : ¬Loads i T0 → xa0 = scG.view.rep (castG x1) ∧ xa1 = scU.view.rep (castU x2) ∧ xa2 = scD.view.rep (castD x3)) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tabE.view.loc (c : Thread nD τ) ↦{fullShare.right} T0)
      ∗ (tabN.view.loc (c : Thread nD τ) ↦{fullShare.right} T1)
      ∗ (∃ d, owns (c : Thread nD τ) arg7 fullShare d)
      ∗ (scG.view.loc (c : Thread nD τ) ↦{fullShare} xa0)
      ∗ (scU.view.loc (c : Thread nD τ) ↦{fullShare} xa1)
      ∗ (scD.view.loc (c : Thread nD τ) ↦{fullShare} xa2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ owns (c : Thread nD τ) arg7 fullShare (tile i T1 x0 x1 x2 x3)
          ∗ (scG.view.loc (c : Thread nD τ) ↦{fullShare} scG.view.rep (castG x1))
          ∗ (scU.view.loc (c : Thread nD τ) ↦{fullShare} scU.view.rep (castU x2))
          ∗ (scD.view.loc (c : Thread nD τ) ↦{fullShare} scD.view.rep (castD x3))) -∗ K ⟨⟩))
      ⊢ wp frame (wpE (defs₀ (F := Ideal)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K := by
  by_cases hL : Loads i T0
  · by_cases hV : Live i T1
    · have hS : ¬Spare i T1 := not_spare hV
      have hst := storesLA c i arg3 harg3 arg4 harg4 arg5 harg5 arg6 harg6 arg7 harg7 T0 T1 x0 x1 x2 x3 hL hV hS
      have hsc := scratchLA c i arg3 harg3 arg4 harg4 arg5 harg5 arg6 harg6 arg7 harg7 T0 T1 x0 x1 x2 x3 hL hV hS
      generalize (runLA c i arg3 harg3 arg4 harg4 arg5 harg5 arg6 harg6 arg7 harg7 T0 T1 x0 x1 x2 x3 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run xa0 xa1 xa2 K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_pos hV]
          exact read_pieces _ _ _
      isplitl [HS0]; · iexact HS0
      isplitl [HS1]; · iexact HS1
      iexact HS2
    · have hS : Spare i T1 := spare_of_not_live hV
      have hst := storesLZ c i arg3 harg3 arg4 harg4 arg5 harg5 arg6 harg6 arg7 harg7 T0 T1 x0 x1 x2 x3 hL hV hS
      have hsc := scratchLZ c i arg3 harg3 arg4 harg4 arg5 harg5 arg6 harg6 arg7 harg7 T0 T1 x0 x1 x2 x3 hL hV hS
      generalize (runLZ c i arg3 harg3 arg4 harg4 arg5 harg5 arg6 harg6 arg7 harg7 T0 T1 x0 x1 x2 x3 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run xa0 xa1 xa2 K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_neg hV]
          exact View.read_writes_full _ _ _ _ _
      isplitl [HS0]; · iexact HS0
      isplitl [HS1]; · iexact HS1
      iexact HS2
  · by_cases hV : Live i T1
    · have hS : ¬Spare i T1 := not_spare hV
      have hst := storesKA c i arg3 harg3 arg4 harg4 arg5 harg5 arg6 harg6 arg7 harg7 T0 T1 x0 x1 x2 x3 xa0 xa1 xa2 hL hV hS (hk hL).1 (hk hL).2.1 (hk hL).2.2
      have hsc := scratchKA c i arg3 harg3 arg4 harg4 arg5 harg5 arg6 harg6 arg7 harg7 T0 T1 x0 x1 x2 x3 xa0 xa1 xa2 hL hV hS
      generalize (runKA c i arg3 harg3 arg4 harg4 arg5 harg5 arg6 harg6 arg7 harg7 T0 T1 x0 x1 x2 x3 xa0 xa1 xa2 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2, (hk hL).1, (hk hL).2.1, (hk hL).2.2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_pos hV]
          exact read_pieces _ _ _
      isplitl [HS0]; · iexact HS0
      isplitl [HS1]; · iexact HS1
      iexact HS2
    · have hS : Spare i T1 := spare_of_not_live hV
      have hst := storesKZ c i arg3 harg3 arg4 harg4 arg5 harg5 arg6 harg6 arg7 harg7 T0 T1 x0 x1 x2 x3 xa0 xa1 xa2 hL hV hS
      have hsc := scratchKZ c i arg3 harg3 arg4 harg4 arg5 harg5 arg6 harg6 arg7 harg7 T0 T1 x0 x1 x2 x3 xa0 xa1 xa2 hL hV hS
      generalize (runKZ c i arg3 harg3 arg4 harg4 arg5 harg5 arg6 harg6 arg7 harg7 T0 T1 x0 x1 x2 x3 xa0 xa1 xa2 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2, (hk hL).1, (hk hL).2.1, (hk hL).2.2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_neg hV]
          exact View.read_writes_full _ _ _ _ _
      isplitl [HS0]; · iexact HS0
      isplitl [HS1]; · iexact HS1
      iexact HS2

end

end Cert.MoeFfnIdeal.Moe

end
-- ==== Proof.MoeCfg.lean ====
module

public import proofs.«01_k».proof.Proof.MoeBody
public import Idealize.ShloMosaic.Lib.Pipeline.Frame
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! # The launch at given tables

Which blocks the windows hold at a point, why they lie inside their arrays, and which points keep
the weights of the point before. -/

namespace Cert.MoeFfnIdeal.Moe

open Cert.MoeFfnIdeal Cert.MoeFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The index maps -/

/-- A point's coordinate is its number. -/
theorem coord_val : ∀ t : Fin grid0.N, ((grid0.coords t) 0).val = t.val := by decide +kernel

/-- The offset of the word before point `t`'s is the offset of point `t - 1`'s word. -/
theorem off2_eq : ∀ t : Fin grid0.N, t.val ≠ 0 → k0_off2 (grid0.coords t) = k0_off1 (grid0.coords ⟨t.val - 1, by omega⟩) := by decide +kernel

/-- A word depends on its offset alone. -/
theorem word_congr (T : S97.Idx → Elt Ideal .i32) {k k' : Fin 1 → ℕ} (e : k = k') (h : ∀ a, k a + S1.size a ≤ S97.size a) (h' : ∀ a, k' a + S1.size a ≤ S97.size a) :
    word T k h = word T k' h' := by subst e; rfl

/-- The rows' window follows the tile, up to the last tile used. -/
theorem ix_rows (pf : pre0.Contents (Elt Ideal)) (i : grid0.Coords) :
    cc0_transform_0 inb_S1_S1_0 numel1_S1 pf i = ![(Scalar.minsi (BitVec.ofNat 32 (i 0).val) (Scalar.subi (used (pf 1)) 1#32)).toNat, 0] := rfl
/-- The gate weights' window follows the expert; -/
theorem ix_gate (pf : pre0.Contents (Elt Ideal)) (i : grid0.Coords) :
    cc0_transform_1 k0_off1_inb numel1_S1 pf i = ![(word (pf 0) (k0_off1 i) (k0_off1_inb i) : BitVec 32).toNat, 0, 0] := rfl
/-- so does the up weights' -/
theorem ix_up (pf : pre0.Contents (Elt Ideal)) (i : grid0.Coords) :
    cc0_transform_2 k0_off1_inb numel1_S1 pf i = ![(word (pf 0) (k0_off1 i) (k0_off1_inb i) : BitVec 32).toNat, 0, 0] := rfl
/-- and the down weights'. -/
theorem ix_down (pf : pre0.Contents (Elt Ideal)) (i : grid0.Coords) :
    cc0_transform_3 k0_off1_inb numel1_S1 pf i = ![(word (pf 0) (k0_off1 i) (k0_off1_inb i) : BitVec 32).toNat, 0, 0] := rfl

/-! ## Tables the launch runs at -/

/-- Every expert the table names exists, and at least one tile is used. -/
structure Sound (pf : pre0.Contents (Elt Ideal)) : Prop where
  expert_lt : ∀ (k : Fin 1 → ℕ) (h : ∀ a, k a + S1.size a ≤ S97.size a), (word (pf 0) k h : BitVec 32).toNat < 32
  used_pos : 1 ≤ (used (pf 1) : BitVec 32).toNat
  used_lt : (used (pf 1) : BitVec 32).toNat < 2 ^ 31

/-- The row block a point reads is the smaller of its own number and the last tile used. -/
theorem rows_ix {w : BitVec 32} (h1 : 1 ≤ w.toNat) (h2 : w.toNat < 2 ^ 31) {n : ℕ} (hn : n < 97) :
    (Scalar.minsi (BitVec.ofNat 32 n) (Scalar.subi w 1#32) : BitVec 32).toNat = min n (w.toNat - 1) := by
  have e1 : (BitVec.ofNat 32 n).toNat = n := by rw [BitVec.toNat_ofNat]; exact Nat.mod_eq_of_lt (by omega)
  have e2 : (Scalar.subi w 1#32 : BitVec 32).toNat = w.toNat - 1 := by
    show (w - 1#32).toNat = _
    rw [BitVec.toNat_sub]; simp only [BitVec.toNat_ofNat]; omega
  have i1 : (BitVec.ofNat 32 n).toInt = n := by rw [BitVec.toInt_eq_toNat_of_lt (by omega), e1]
  have i2 : (Scalar.subi w 1#32 : BitVec 32).toInt = ((w.toNat - 1 : ℕ) : ℤ) := by rw [BitVec.toInt_eq_toNat_of_lt (by omega), e2]
  unfold Scalar.minsi IntOp.minsi
  rw [BitVec.slt_eq_decide, i1, i2]
  by_cases h : n < w.toNat - 1
  · simp only [Int.ofNat_lt, h, decide_true, ↓reduceIte, e1]; omega
  · simp only [Int.ofNat_lt, h, decide_false, Bool.false_eq_true, ↓reduceIte, e2]; omega

/-- At such tables every block lies inside its array. -/
theorem Sound.ok {pf : pre0.Contents (Elt Ideal)} (h : Sound pf) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  · rw [ix_rows, rows_ix h.used_pos h.used_lt (show (i 0).val < 97 from (i 0).isLt)]
    have hi : (i 0).val < 97 := (i 0).isLt
    fin_cases a
    · show (min (i 0).val ((used (pf 1) : BitVec 32).toNat - 1) + 1) * 4096 ≤ 397312
      omega
    · show (0 + 1) * 128 ≤ 128
      omega
  · rw [ix_gate]
    have hw := h.expert_lt (k0_off1 i) (k0_off1_inb i)
    fin_cases a
    · show ((word (pf 0) (k0_off1 i) (k0_off1_inb i) : BitVec 32).toNat + 1) * 1 ≤ 32
      omega
    · show (0 + 1) * 2048 ≤ 2048
      omega
    · show (0 + 1) * 512 ≤ 512
      omega
  · rw [ix_up]
    have hw := h.expert_lt (k0_off1 i) (k0_off1_inb i)
    fin_cases a
    · show ((word (pf 0) (k0_off1 i) (k0_off1_inb i) : BitVec 32).toNat + 1) * 1 ≤ 32
      omega
    · show (0 + 1) * 2048 ≤ 2048
      omega
    · show (0 + 1) * 512 ≤ 512
      omega
  · rw [ix_down]
    have hw := h.expert_lt (k0_off1 i) (k0_off1_inb i)
    fin_cases a
    · show ((word (pf 0) (k0_off1 i) (k0_off1_inb i) : BitVec 32).toNat + 1) * 1 ≤ 32
      omega
    · show (0 + 1) * 512 ≤ 512
      omega
    · show (0 + 1) * 2048 ≤ 2048
      omega

/-! ## The pipeline at the tables -/

variable (a : (pcfg0 (F := Ideal)).Adm)

/-- The pipeline at tables `a`. -/
abbrev cfgA : Cfg sig Λ₀ := cfg0 (F := Ideal) a
/-- The same, as @main's one pipeline. -/
abbrev pcs : Fin 1 → Cfg sig Λ₀ := Pipeline.pin (pcfgs (F := Ideal)) fun _ => a
/-- Point `t`'s coordinates. -/
abbrev crd (t : Fin (cfgA a).N) : (cfgA a).grid.Coords := (cfgA a).grid.coords t

variable (m : (ℓ : Loc nD τ sig) → Buf (Elt Ideal) ℓ)

/-- What a buffer holds when the launch begins: after the reshapes of the arguments. -/
abbrev V (c : Dev nD) (b : Ref sig .tc) : Buf (Elt Ideal) ((c : Thread nD τ).loc b) :=
  StableHlo.after hostOps0 (fun b => m (c, b)) b

/-- Window `w`'s block at point `t`. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (V m c (Pipeline.arrRef (cfgA a).spec w))

/-- The block of gate weights, as the part of the array it is. -/
theorem iblk1_eq (c : Dev nD) (t : Fin (cfgA a).N) : iblk a m c (1 : Fin 5) t
    = fun y => V m c main_v1 ((Rect.block (s := S32x2048x512) S1x2048x512.size (cc0_transform_1 k0_off1_inb numel1_S1 a.1 (crd a t)) (hinb0 a.1 a.2 1 (crd a t))).emb y) := rfl
/-- The block of up weights, likewise; -/
theorem iblk2_eq (c : Dev nD) (t : Fin (cfgA a).N) : iblk a m c (2 : Fin 5) t
    = fun y => V m c main_v2 ((Rect.block (s := S32x2048x512) S1x2048x512.size (cc0_transform_2 k0_off1_inb numel1_S1 a.1 (crd a t)) (hinb0 a.1 a.2 2 (crd a t))).emb y) := rfl
/-- of down weights; -/
theorem iblk3_eq (c : Dev nD) (t : Fin (cfgA a).N) : iblk a m c (3 : Fin 5) t
    = fun y => V m c main_v3 ((Rect.block (s := S32x512x2048) S1x512x2048.size (cc0_transform_3 k0_off1_inb numel1_S1 a.1 (crd a t)) (hinb0 a.1 a.2 3 (crd a t))).emb y) := rfl
/-- and of rows. -/
theorem iblk0_eq (c : Dev nD) (t : Fin (cfgA a).N) : iblk a m c (0 : Fin 5) t
    = fun y => V m c main_v0 ((Rect.block (s := S397312x128) S4096x128.size (cc0_transform_0 inb_S1_S1_0 numel1_S1 a.1 (crd a t)) (hinb0 a.1 a.2 0 (crd a t))).emb y) := rfl

/-- Blocks at equal indices are equal. -/
theorem block_congr {s : Shape} {size ix ix' : Fin s.rank → ℕ} (e : ix = ix') (h : ∀ a, (ix a + 1) * size a ≤ s.size a) (h' : ∀ a, (ix' a + 1) * size a ≤ s.size a) (y) :
    (Rect.block (s := s) size ix h).emb y = (Rect.block (s := s) size ix' h').emb y := by subst e; rfl

/-- A word the table repeats is a word the point before read. -/
theorem not_loads {e e' v : BitVec 32} (h : ¬Scalar.cmpi .ne (Scalar.extui (Scalar.ori (Scalar.cmpi .eq v 0#32) (Scalar.cmpi .ne e e'))) 0#32 = 1#1) :
    v ≠ 0#32 ∧ e = e' := by
  revert h
  simp only [Scalar.cmpi, IntOp.cmpi, Scalar.extui, Scalar.ori, IntOp.ori]
  cases h1 : (v == 0#32) <;> cases h2 : (e != e')
  · intro _
    exact ⟨fun h => by rw [h] at h1; exact absurd h1 (by decide), by rwa [bne_eq_false_iff_eq] at h2⟩
  all_goals intro h; exact absurd h (by decide)

/-- A point that casts nothing is not the first, and its expert's blocks are those of the point before. -/
theorem kept (c : Dev nD) (t : Fin (cfgA a).N) (h : ¬Loads (crd a t) (a.1 0)) :
    ∃ h0 : t.val ≠ 0, iblk a m c (1 : Fin 5) t = iblk a m c (1 : Fin 5) ⟨t.val - 1, by omega⟩ ∧ iblk a m c (2 : Fin 5) t = iblk a m c (2 : Fin 5) ⟨t.val - 1, by omega⟩
      ∧ iblk a m c (3 : Fin 5) t = iblk a m c (3 : Fin 5) ⟨t.val - 1, by omega⟩ := by
  obtain ⟨hv, he⟩ := not_loads h
  have h0 : t.val ≠ 0 := fun h0 => hv (by rw [show ((crd a t) 0).val = t.val from coord_val t, h0])
  refine ⟨h0, ?_⟩
  have hw : word (a.1 0) (k0_off1 (crd a t)) (k0_off1_inb _) = word (a.1 0) (k0_off1 (crd a ⟨t.val - 1, by omega⟩)) (k0_off1_inb _) :=
    he.trans (word_congr (a.1 0) (off2_eq t h0) _ _)
  rw [iblk1_eq, iblk1_eq, iblk2_eq, iblk2_eq, iblk3_eq, iblk3_eq]
  refine ⟨?_, ?_, ?_⟩
  · exact funext fun y => congrArg (V m c main_v1) (block_congr (by rw [ix_gate, ix_gate, hw]) _ _ y)
  · exact funext fun y => congrArg (V m c main_v2) (block_congr (by rw [ix_up, ix_up, hw]) _ _ y)
  · exact funext fun y => congrArg (V m c main_v3) (block_congr (by rw [ix_down, ix_down, hw]) _ _ y)

/-- No point leaves the output block alone. -/
theorem never_idle (t : Fin (cfgA a).N) : (cfgA a).idle (4 : Fin 5) ((cfgA a).grid.coords t) = false := by
  have e : (cfgA a).idle (4 : Fin 5) ((cfgA a).grid.coords t)
      = (!(k0_cond2 (crd a t) (used (a.1 1)) == 1#1) && !(k0_cond3 (crd a t) (used (a.1 1)) == 1#1)) := rfl
  rw [e]
  by_cases hV : Live (crd a t) (a.1 1)
  · rw [show k0_cond2 (crd a t) (used (a.1 1)) = 1#1 from hV]; rfl
  · rw [show k0_cond3 (crd a t) (used (a.1 1)) = 1#1 from spare_of_not_live hV]
    rw [Bool.and_eq_false_iff]; exact .inr rfl

end Cert.MoeFfnIdeal.Moe

end
-- ==== Proof.MoeFrame.lean ====
module

public import proofs.«01_k».proof.Proof.MoeCfg
public import Idealize.ShloMosaic.Lib.Pipeline.Frame
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

/-! # The whole launch

The proof data of the pipeline at given tables, the body obligation at every point, and the run of
the program from a memory holding those tables. -/

namespace Cert.MoeFfnIdeal.Moe

open Cert.MoeFfnIdeal Cert.MoeFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra the pipeline's rounds use. -/
abbrev EP : Emb (UR sig nD τ) 𝕄 := emb₁

variable (a : (pcfg0 (F := Ideal)).Adm) (m : (ℓ : Loc nD τ sig) → Buf (Elt Ideal) ℓ)

/-! ## Staging buffers at a point -/

/-- The staging buffer of window 0 at a point. -/
abbrev ms0 (t : Fin (cfgA a).N) : Memref sig .tc .vmem S4096x128 .f32 := spec0_0.stage ((cfgA a).slots t (0 : Fin 5))
/-- It is whole. -/
abbrev hs0 (t : Fin (cfgA a).N) : (ms0 a t).IsWhole := hstage0_0 (((cfgA a).slots t (0 : Fin 5)).cast nbuf0_0)
/-- The staging buffer of window 1 at a point. -/
abbrev ms1 (t : Fin (cfgA a).N) : Memref sig .tc .vmem S1x2048x512 .f32 := spec0_1.stage ((cfgA a).slots t (1 : Fin 5))
/-- It is whole. -/
abbrev hs1 (t : Fin (cfgA a).N) : (ms1 a t).IsWhole := hstage0_1 (((cfgA a).slots t (1 : Fin 5)).cast nbuf0_1)
/-- The staging buffer of window 2 at a point. -/
abbrev ms2 (t : Fin (cfgA a).N) : Memref sig .tc .vmem S1x2048x512 .f32 := spec0_2.stage ((cfgA a).slots t (2 : Fin 5))
/-- It is whole. -/
abbrev hs2 (t : Fin (cfgA a).N) : (ms2 a t).IsWhole := hstage0_2 (((cfgA a).slots t (2 : Fin 5)).cast nbuf0_2)
/-- The staging buffer of window 3 at a point. -/
abbrev ms3 (t : Fin (cfgA a).N) : Memref sig .tc .vmem S1x512x2048 .f32 := spec0_3.stage ((cfgA a).slots t (3 : Fin 5))
/-- It is whole. -/
abbrev hs3 (t : Fin (cfgA a).N) : (ms3 a t).IsWhole := hstage0_3 (((cfgA a).slots t (3 : Fin 5)).cast nbuf0_3)
/-- The staging buffer of window 4 at a point. -/
abbrev ms4 (t : Fin (cfgA a).N) : Memref sig .tc .vmem S4096x128 .f32 := spec0_4.stage ((cfgA a).slots t (4 : Fin 5))
/-- It is whole. -/
abbrev hs4 (t : Fin (cfgA a).N) : (ms4 a t).IsWhole := hstage0_4 (((cfgA a).slots t (4 : Fin 5)).cast nbuf0_4)

/-! ## The proof data -/

/-- What the output block holds after point `t`. -/
def outAt (c : Dev nD) (t : Fin (cfgA a).N) : S4096x128.Idx → Elt Ideal .f32 :=
  tile (crd a t) (a.1 1) (iblk a m c (0 : Fin 5) t) (iblk a m c (1 : Fin 5) t) (iblk a m c (2 : Fin 5) t) (iblk a m c (3 : Fin 5) t)

/-- The scratch buffers hold the casts of the weight blocks of point `t`. -/
def Holds (c : Dev nD) (t : Fin (cfgA a).N) (xa0 : Buf (Elt Ideal) (scG.view.loc (c : Thread nD τ))) (xa1 : Buf (Elt Ideal) (scU.view.loc (c : Thread nD τ)))
    (xa2 : Buf (Elt Ideal) (scD.view.loc (c : Thread nD τ))) : Prop :=
  xa0 = scG.view.rep (castG (iblk a m c (1 : Fin 5) t)) ∧ xa1 = scU.view.rep (castU (iblk a m c (2 : Fin 5) t)) ∧ xa2 = scD.view.rep (castD (iblk a m c (3 : Fin 5) t))

/-- The invariant before point `n`: the scratch buffers hold the casts the point before left (anything
before the first), the body its halves of the tables. -/
def Phi (c : Dev nD) (n : Fin ((cfgA a).N + 1)) : sProp 𝕄 :=
  iprop((∃ xa0 xa1 xa2, ⌜∀ h : n.val ≠ 0, Holds a m c ⟨n.val - 1, by omega⟩ xa0 xa1 xa2⌝
      ∗ (scG.view.loc (c : Thread nD τ) ↦{fullShare} xa0) ∗ (scU.view.loc (c : Thread nD τ) ↦{fullShare} xa1) ∗ (scD.view.loc (c : Thread nD τ) ↦{fullShare} xa2))
    ∗ (tabE.view.loc (c : Thread nD τ) ↦{fullShare.right} a.1 0) ∗ (tabN.view.loc (c : Thread nD τ) ↦{fullShare.right} a.1 1)
    ∗ (∃ ρ, prngReg c ρ))

/-- The proof data of the one pipeline on core `c`. -/
def dats (_ : Fin 1) (c : Dev nD) : Dat τ (Elt Ideal) Unit ℕ (UR sig nD τ) ℕ (cfgA a) c where
  A w := V m c (Pipeline.arrRef (cfgA a).spec w)
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => outAt a m c t
  Φ t := Phi a m c t
  q _ := fullShare
  owed _ := 0

/-- What window 0 holds after a point. -/
theorem after0 (c : Dev nD) (t : Fin (cfgA a).N) : (dats a m 0 c).after (0 : Fin 5) t = iblk a m c (0 : Fin 5) t := rfl
/-- What window 1 holds after a point. -/
theorem after1 (c : Dev nD) (t : Fin (cfgA a).N) : (dats a m 0 c).after (1 : Fin 5) t = iblk a m c (1 : Fin 5) t := rfl
/-- What window 2 holds after a point. -/
theorem after2 (c : Dev nD) (t : Fin (cfgA a).N) : (dats a m 0 c).after (2 : Fin 5) t = iblk a m c (2 : Fin 5) t := rfl
/-- What window 3 holds after a point. -/
theorem after3 (c : Dev nD) (t : Fin (cfgA a).N) : (dats a m 0 c).after (3 : Fin 5) t = iblk a m c (3 : Fin 5) t := rfl
/-- What window 4 holds after a point. -/
theorem after4 (c : Dev nD) (t : Fin (cfgA a).N) : (dats a m 0 c).after (4 : Fin 5) t = outAt a m c t := rfl

/-- Input window 0 holds its block when the body runs. -/
theorem before0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input window 1 holds its block when the body runs. -/
theorem before1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input window 2 holds its block when the body runs. -/
theorem before2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input window 3 holds its block when the body runs. -/
theorem before3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body obligation -/

/-- The body at point `t` on its staging buffers. -/
abbrev bodyAt (t : Fin (cfgA a).N) : Prog (TpuEff nD τ sig (Elt Ideal) Λ₀ .tc) PUnit :=
  cc0_moe_ffn (crd a t) tabE (Memref.isWhole_whole _) tabN (Memref.isWhole_whole _) (ms0 a t) (hs0 a t) (ms1 a t) (hs1 a t) (ms2 a t) (hs2 a t) (ms3 a t) (hs3 a t) (ms4 a t) (hs4 a t) scG (Memref.isWhole_whole _) scU (Memref.isWhole_whole _) scD (Memref.isWhole_whole _)

set_option maxHeartbeats 2000000 in
/-- The body obligation at point `t`. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 5) t d))
        ∗ (∃ d, owns (c : Thread nD τ) (ms1 a t) fullShare ((dats a m 0 c).before (1 : Fin 5) t d))
        ∗ (∃ d, owns (c : Thread nD τ) (ms2 a t) fullShare ((dats a m 0 c).before (2 : Fin 5) t d))
        ∗ (∃ d, owns (c : Thread nD τ) (ms3 a t) fullShare ((dats a m 0 c).before (3 : Fin 5) t d))
        ∗ (∃ d, owns (c : Thread nD τ) (ms4 a t) fullShare ((dats a m 0 c).before (4 : Fin 5) t d)))
      ⊢ wp frame (wpE (defs₀ (F := Ideal)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [never_idle a t]
  simp only [before0, before1, before2, before3, after0, after1, after2, after3, after4]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨⟨%xa0, %xa1, %xa2, %hh, HS0, HS1, HS2⟩, HT0, HT1, HP⟩, Ho, ⟨%d0, H0⟩, ⟨%d1, H1⟩, ⟨%d2, H2⟩, ⟨%d3, H3⟩, ⟨%d4, H4⟩⟩
  have hk : ¬Loads (crd a t) (a.1 0) → Holds a m c t xa0 xa1 xa2 := fun hn => by
    obtain ⟨h0, e1, e2, e3⟩ := kept a m c t hn
    have := hh h0
    unfold Holds at this ⊢
    rw [e1, e2, e3]
    exact this
  iapply (point c (crd a t) (ms0 a t) (hs0 a t) (ms1 a t) (hs1 a t) (ms2 a t) (hs2 a t) (ms3 a t) (hs3 a t) (ms4 a t) (hs4 a t) (a.1 0) (a.1 1) (iblk a m c (0 : Fin 5) t) (iblk a m c (1 : Fin 5) t) (iblk a m c (2 : Fin 5) t) (iblk a m c (3 : Fin 5) t) xa0 xa1 xa2 hk _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1 HP]
  · isplitl [HS0 HS1 HS2]
    · iexists _, _, _; isplitr; swap
      · isplitl [HS0]; · iexact HS0
        isplitl [HS1]; · iexact HS1
        iexact HS2
      · ipureintro; intro _; exact ⟨rfl, rfl, rfl⟩
    isplitl [HT0]; · iexact HT0
    isplitl [HT1]; · iexact HT1
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-- The library's body obligation, at every point. -/
theorem body_obligation (c : Dev nD) : BodyObligation (dats a m 0 c) (defs₀ (F := Ideal)) Variants.none () Set.univ := fun t => by
  rw [bigSep_W0]
  exact sound_body a m c t

/-! ## The launch -/

/-- Every array is held whole. -/
theorem share_eq (c : Dev nD) (w : Fin (cfgA a).W) : (dats a m 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi_first (c : Dev nD) :
    iprop(Pipeline.ΦA (cfgA a).spec c ∗ Pipeline.ΦT pre0 a.1 c) ⊢ (dats a m 0 c).Φ 0 := by
  rw [show (dats a m 0 c).Φ 0 = Phi a m c 0 from rfl]
  unfold Pipeline.ΦA Pipeline.ΦT
  rw [prefHeld_eq, show (Pipeline.scopedRest (Ix := Unit) (Name := ℕ) (U := UR sig nD τ) (Lvl := ℕ) (Val := Elt Ideal) (cfgA a).spec c : sProp 𝕄) = Pipeline.scopedRest spec0 c from rfl, scopedRest0_eq]
  unfold Phi
  iintro ⟨⟨⟨⟨%a0, HS0⟩, ⟨%a1, HS1⟩, ⟨%a2, HS2⟩⟩, HP⟩, HT0, HT1⟩
  isplitl [HS0 HS1 HS2]
  · iexists a0, a1, a2; isplitr; swap
    · isplitl [HS0]; · iexact HS0
      isplitl [HS1]; · iexact HS1
      iexact HS2
    · ipureintro; intro h; exact absurd rfl h
  isplitl [HT0]; · iexact HT0
  isplitl [HT1]; · iexact HT1
  iexact HP

/-- at the last point it gives the scratch buffers back. -/
theorem phi_last (c : Dev nD) : (dats a m 0 c).Φ (Fin.last (cfgA a).N) ⊢ Pipeline.ΦA (cfgA a).spec c := by
  rw [show (dats a m 0 c).Φ (Fin.last (cfgA a).N) = Phi a m c (Fin.last _) from rfl]
  unfold Pipeline.ΦA
  rw [show (Pipeline.scopedRest (Ix := Unit) (Name := ℕ) (U := UR sig nD τ) (Lvl := ℕ) (Val := Elt Ideal) (cfgA a).spec c : sProp 𝕄) = Pipeline.scopedRest spec0 c from rfl, scopedRest0_eq]
  unfold Phi
  iintro ⟨⟨%a0, %a1, %a2, -, HS0, HS1, HS2⟩, -, -, HP⟩
  isplitr [HP]
  · isplitl [HS0]
    · iexists a0; iexact HS0
    isplitl [HS1]
    · iexists a1; iexact HS1
    iexists a2; iexact HS2
  iexact HP

/-- The reshapes allocate nothing. -/
theorem hostOps0_fresh : (hostOps0 (F := Ideal) : List (HloOp τ sig (Elt Ideal))).Forall fun op => op.fresh = ∅ := by
  simp only [List.Forall]; repeat' constructor

/-- @main up to the launch. -/
theorem hmain : Pipeline.HMainP (Ix := Unit) (Name := ℕ) (U := UR sig nD τ) (Lvl := ℕ) (pcfgs (F := Ideal)) 0 defs₀ Variants.none m (main (F := Ideal)) (V m) :=
  Pipeline.hmainP_prefix (pcfgs (F := Ideal)) 0 defs₀ Variants.none m main hostOps0 hostOps0_sub hostOps0_fresh main_chain

/-- A buffer no reshape writes is as launched. -/
theorem V_arg (c : Dev nD) (b : Ref sig .tc) (h0 : b ≠ main_v0) (h1 : b ≠ main_v1) (h2 : b ≠ main_v2) (h3 : b ≠ main_v3) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2, StableHlo.devRef_ne_of_ne h3⟩))

set_option backward.isDefEq.respectTransparency.types false in
set_option maxHeartbeats 4000000 in
/-- From a memory that holds tables `a`, the program terminates with every array at what the points
wrote, every other buffer as the launch found it, and no semaphore counter raised. -/
theorem run_main (g : Dev nD → PrngReg) (hp : ∀ (c : Dev nD) (k : Fin 2), m ((c : Thread nD τ).loc (pre0.ref k)) = a.1 k) :
    θ_run (defs (F := Ideal)) (onTc (τ := τ) (main (F := Ideal))) ⟨m, fun _ => 0, g⟩
      (fun r => Pipeline.FramePost (pcs a) (dats a m) 0 (V m) r ∧ r.2.sem = fun _ => 0) :=
  Pipeline.θ_run_frameP_track (pcfgs (F := Ideal)) (fun _ => a) (dats a m) 0 launch0 defs₀ Variants.none m g main
    (fun c => (body_obligation a m c).loose) (share_eq a m) (fun _ _ => rfl) (V m) (hmain m) (fun _ _ => rfl)
    (fun c k => by
      fin_cases k
      · exact (V_arg m c main_arg0 (by decide) (by decide) (by decide) (by decide)).trans (hp c 0)
      · exact (V_arg m c main_arg1 (by decide) (by decide) (by decide) (by decide)).trans (hp c 1))
    (phi_first a m) (phi_last a m) (Q' := fun r => Pipeline.FramePost (pcs a) (dats a m) 0 (V m) r ∧ r.2.sem = fun _ => 0)

/-- The program leaves its arguments unchanged. -/
theorem frame_of (g : Dev nD → PrngReg) (hp : ∀ (c : Dev nD) (k : Fin 2), m ((c : Thread nD τ).loc (pre0.ref k)) = a.1 k) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c =>
    ⟨((h.1 c).2 main_arg0 (show main_arg0 ∈ Pipeline.restRefs sig spec0 from by decide)).trans (V_arg m c main_arg0 (by decide) (by decide) (by decide) (by decide)),
     ((h.1 c).2 main_arg1 (show main_arg1 ∈ Pipeline.restRefs sig spec0 from by decide)).trans (V_arg m c main_arg1 (by decide) (by decide) (by decide) (by decide)),
     ((h.1 c).2 main_arg2 (show main_arg2 ∈ Pipeline.restRefs sig spec0 from by decide)).trans (V_arg m c main_arg2 (by decide) (by decide) (by decide) (by decide)),
     ((h.1 c).2 main_arg3 (show main_arg3 ∈ Pipeline.restRefs sig spec0 from by decide)).trans (V_arg m c main_arg3 (by decide) (by decide) (by decide) (by decide)),
     ((h.1 c).2 main_arg4 (show main_arg4 ∈ Pipeline.restRefs sig spec0 from by decide)).trans (V_arg m c main_arg4 (by decide) (by decide) (by decide) (by decide)),
     ((h.1 c).2 main_arg5 (show main_arg5 ∈ Pipeline.restRefs sig spec0 from by decide)).trans (V_arg m c main_arg5 (by decide) (by decide) (by decide) (by decide))⟩, h.2⟩)
    (run_main a m g hp)

end Cert.MoeFfnIdeal.Moe

end
-- ==== Proof.MoePre.lean ====
module

public import proofs.«01_k».proof.Pre_experts_exist
public import Idealize.ShloMosaic.Lib.ReduceAll
public import Idealize.ShloMosaic.Lib.Affine

@[expose] public section

set_option maxRecDepth 16384
set_option Elab.async false

noncomputable section

/-! # What the precondition says of the tables

Every expert the table names is one of the thirty-two, and the number of tiles used is at least one. -/

namespace Cert.Pre_experts_exist

open Idealize.ShloMosaic
open Facts

/-- A signed word from zero up to below thirty-two is a number below thirty-two. -/
theorem toNat_lt_of_signed {w : BitVec 32} (h1 : IntOp.cmpi .sge w 0#32 = 1#1) (h2 : IntOp.cmpi .slt w 32#32 = 1#1) : w.toNat < 32 := by
  revert h1 h2
  simp only [IntOp.cmpi, BitVec.sle_eq_not_slt, BitVec.slt_eq_decide]
  have e0 : (0#32 : BitVec 32).toInt = 0 := by decide
  have e1 : (32#32 : BitVec 32).toInt = 32 := by decide
  rw [e0, e1]
  by_cases a : w.toInt < 0
  · simp [a]
  by_cases b : w.toInt < 32
  · intro _ _
    have := BitVec.toInt_eq_toNat_cond w
    split at this <;> omega
  · simp [b]

/-- A signed word from one up is a number from one up to below `2 ^ 31`. -/
theorem toNat_pos_of_signed {w : BitVec 32} (h : IntOp.cmpi .sge w 1#32 = 1#1) : 1 ≤ w.toNat ∧ w.toNat < 2 ^ 31 := by
  revert h
  simp only [IntOp.cmpi, BitVec.sle_eq_not_slt, BitVec.slt_eq_decide]
  have e0 : (1#32 : BitVec 32).toInt = 1 := by decide
  rw [e0]
  by_cases a : w.toInt < 1
  · simp [a]
  · intro _
    have := BitVec.toInt_eq_toNat_cond w
    have := w.isLt
    split at * <;> omega

/-- A shape with one index. -/
instance : Subsingleton S_.Idx := ⟨fun a b => funext fun k => k.elim0⟩
/-- A shape with one index. -/
instance : Subsingleton S1.Idx := ⟨fun a b => funext fun k => by
  match k with
  | ⟨0, _⟩ => exact Fin.ext (by have h1 : (a 0).val < 1 := (a 0).isLt; have h2 : (b 0).val < 1 := (b 0).isLt; show (a 0).val = (b 0).val; omega)⟩

variable [Facts] {F : FTy → Type} [FloatOps F]

/-- The precondition bounds every word of both tables. -/
theorem bounds (a0 : IVec S97 32) (a1 : IVec S1 32) (a2 : FVec F S24832x2048 .f32) (a3 a4 : FVec F S1x32x2048x512 .f32) (a5 : FVec F S1x32x512x2048 .f32)
    (h : fn a0 a1 a2 a3 a4 a5 = fun _ => 1#1) : (∀ i, (a0 i).toNat < 32) ∧ ∀ i, 1 ≤ (a1 i).toNat ∧ (a1 i).toNat < 2 ^ 31 := by
  have h0 := congrFun h (Shape.Idx.first h_S_)
  obtain ⟨h12, h3⟩ := IntOp.andi_eq_one.1 h0
  obtain ⟨h1, h2⟩ := IntOp.andi_eq_one.1 h12
  refine ⟨fun i => ?_, fun i => ?_⟩
  · exact toNat_lt_of_signed (Host.reduce_andi_all _ _ _ _ _ h1 i) (Host.reduce_andi_all _ _ _ _ _ h2 i)
  · refine toNat_pos_of_signed ?_
    have e : a1 i = shapeCast S_ a1 shapeCasts_S1_S_ (Shape.Idx.first h_S_) := congrArg a1 (Subsingleton.elim _ _)
    rw [e]; exact h3

end Cert.Pre_experts_exist

end
-- ==== Proof.MoeTables.lean ====
module

public import proofs.«01_k».proof.Proof.MoeFrame
public import proofs.«01_k».proof.Proof.MoePre

@[expose] public section

set_option maxRecDepth 16384
set_option Elab.async false

noncomputable section

/-! # The tables a memory holds

Under the precondition they are ones the launch runs at. -/

namespace Cert.MoeFfnIdeal.Moe

open Cert.MoeFfnIdeal Cert.MoeFfnIdeal.Gen
open Idealize.ShloMosaic
open Idealize.ShloMosaic.TcCoe Idealize.ShloMosaic.Tactic
open Idealize.SL.Sem

variable [Cert.Pre_experts_exist.Facts] (m : (ℓ : Loc nD τ sig) → Buf (Elt Ideal) ℓ)

/-- The tables the memory holds. -/
def tabs : pre0.Contents (Elt Ideal) := fun k => m (((0 : Dev nD) : Thread nD τ).loc (pre0.ref k))

/-- The precondition, of one device's arguments. -/
abbrev Good : Prop := ∀ c : Dev nD,
  Cert.Pre_experts_exist.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) = fun _ => 1#1

variable {m}

/-- The tables of a memory under the precondition are sound. -/
theorem sound_tabs (h : Good m) : Sound (tabs m) := by
  obtain ⟨h0, h1⟩ := Cert.Pre_experts_exist.bounds _ _ _ _ _ _ (h 0)
  exact ⟨fun k hk => h0 _, (h1 _).1, (h1 _).2⟩

/-- The same, as tables every block of which lies inside its array. -/
def adm (h : Good m) : (pcfg0 (F := Ideal)).Adm := ⟨tabs m, (sound_tabs h).ok⟩

/-- There is one device, so every device's tables are these. -/
theorem holds_tabs (h : Good m) (c : Dev nD) (k : Fin 2) : m ((c : Thread nD τ).loc (pre0.ref k)) = (adm h).1 k := by
  have : c = 0 := Fin.ext (by have h1 : c.val < 1 := c.isLt; show c.val = 0; omega)
  subst this; rfl

/-- Under the precondition the program terminates, leaves its arguments unchanged and every semaphore at zero. -/
theorem quiet (h : Good m) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_of (adm h) m g (holds_tabs h)

end Cert.MoeFfnIdeal.Moe

end
-- ==== Proof.MoeSpec.lean ====
module

public import Idealize.ShloMosaic.Lib.Pointwise

@[expose] public section

set_option maxRecDepth 16384
set_option Elab.async false

noncomputable section

/-! # The experts' layer as sums over the extended reals

A row of 2048 numbers goes through one expert: two products with its gate and up weights, the first
through `x · σ(x)`, multiplied together, then a product with its down weights. -/

namespace Cert.MoeSpec

open Idealize.ShloMosaic

/-- The logistic function. -/
def sg (x : EReal) : EReal := Ideal.div 1 (1 + Ideal.exp (-x))

/-- Hidden unit `f` of a row `x` at an expert with gate weights `g` and up weights `u`. -/
def hid (x : Fin 2048 → EReal) (g u : Fin 2048 → Fin 512 → EReal) (f : Fin 512) : EReal :=
  (∑ k : Fin 2048, x k * g k f) * sg (∑ k : Fin 2048, x k * g k f) * ∑ k : Fin 2048, x k * u k f

/-- Column `n` of the row's result, the expert's down weights being `d`. -/
def res (x : Fin 2048 → EReal) (g u : Fin 2048 → Fin 512 → EReal) (d : Fin 512 → Fin 2048 → EReal) (n : Fin 2048) : EReal :=
  ∑ f : Fin 512, hid x g u f * d f n

/-- The tile's expert: the table's word, which the precondition keeps below thirty-two. (The remainder only makes the
function total.) -/
def who (a0 : (⟨1, ![97]⟩ : Shape).Idx → BitVec 32) (t : Fin 97) : Fin 32 := ⟨(a0 (ix1 t)).toNat % 32, Nat.mod_lt _ (by decide)⟩

/-- Row `n` of the layer's result, column `j`: the row through its tile's expert where the tile is used, zero where not. -/
def row (a0 : (⟨1, ![97]⟩ : Shape).Idx → BitVec 32) (a1 : (⟨1, ![1]⟩ : Shape).Idx → BitVec 32) (a2 : (⟨2, ![24832, 2048]⟩ : Shape).Idx → EReal)
    (a3 a4 : (⟨4, ![1, 32, 2048, 512]⟩ : Shape).Idx → EReal) (a5 : (⟨4, ![1, 32, 512, 2048]⟩ : Shape).Idx → EReal) (n : Fin 24832) (j : Fin 2048) : EReal :=
  if n.val / 256 < (a1 (ix1 0)).toNat then
    res (fun k => a2 (ix2 n k)) (fun k f => a3 (ix4 0 (who a0 ⟨n.val / 256, by omega⟩) k f)) (fun k f => a4 (ix4 0 (who a0 ⟨n.val / 256, by omega⟩) k f))
      (fun f k => a5 (ix4 0 (who a0 ⟨n.val / 256, by omega⟩) f k)) j
  else 0

/-- The rows of 2048 laid out as sixteen rows of 128 each, as both programs return them. -/
def laid (a0 : (⟨1, ![97]⟩ : Shape).Idx → BitVec 32) (a1 : (⟨1, ![1]⟩ : Shape).Idx → BitVec 32) (a2 : (⟨2, ![24832, 2048]⟩ : Shape).Idx → EReal)
    (a3 a4 : (⟨4, ![1, 32, 2048, 512]⟩ : Shape).Idx → EReal) (a5 : (⟨4, ![1, 32, 512, 2048]⟩ : Shape).Idx → EReal) :
    (⟨2, ![397312, 128]⟩ : Shape).Idx → EReal := fun y =>
  row a0 a1 a2 a3 a4 a5 ⟨(y 0).val / 16, by have h : (y 0).val < 397312 := (y 0).isLt; omega⟩
    ⟨128 * ((y 0).val % 16) + (y 1).val, by have h : (y 1).val < 128 := (y 1).isLt; omega⟩

end Cert.MoeSpec

end
-- ==== Proof.MoeElem.lean ====
module

public import proofs.«01_k».proof.Proof.MoeTile
public import proofs.«01_k».proof.Proof.MoeSpec
public import Idealize.ShloMosaic.Lib.Pipeline.Value

@[expose] public section

set_option maxRecDepth 16384
set_option Elab.async false

noncomputable section

/-! # One tile through one expert, element by element

The body's vector operations are the layer's sums. -/

namespace Cert.MoeFfnIdeal.Moe

open Cert.MoeFfnIdeal Cert.MoeFfnIdeal.Gen
open Idealize.ShloMosaic

/-- Strip `k` at row `r` is row `16 r + k` of the block. -/
theorem strip_apply (k : ℕ) (hk : k < 16) (h) (x : S4096x128.Idx → Elt Ideal .f32) (r : Fin 256) (l : Fin 128) :
    strip k h x (ix2 r l) = x (ix2 ⟨16 * r.val + k, by omega⟩ l) := by
  unfold strip
  refine congrArg x (funext fun a => Fin.ext ?_)
  match a with
  | ⟨0, _⟩ => show k + 16 * r.val = 16 * r.val + k; omega
  | ⟨1, _⟩ => show 0 + 1 * l.val = l.val; omega

/-- Sixteen strips side by side. -/
def beside (p : Fin 16 → FVec Ideal S256x128 .f32) : FVec Ideal S256x2048 .f32 :=
  concatenate S256x2048 1 (List.ofFn fun k : Fin 16 => (⟨S256x128, p k⟩ : (s : Shape) × (s.Idx → EReal))) concatenates_S256x128_S256x128_S256x128_S256x128_S256x128_S256x128_S256x128_S256x128_S256x128_S256x128_S256x128_S256x128_S256x128_S256x128_S256x128_S256x128_S256x2048_d1

/-- A column of the strips side by side is a column of one of them. -/
theorem beside_apply (p : Fin 16 → FVec Ideal S256x128 .f32) (r : Fin 256) (n : Fin 2048) :
    beside p (ix2 r n) = p ⟨n.val / 128, by omega⟩ (ix2 r ⟨n.val % 128, Nat.mod_lt _ (by decide)⟩) := by
  unfold beside
  exact concatenate_ofFn_apply (t := S256x2048) (s₁ := S256x128) 1 p _ rfl 128 rfl (ix2 r n) ⟨n.val / 128, by omega⟩ rfl (ix2 r ⟨n.val % 128, Nat.mod_lt _ (by decide)⟩) rfl
    (fun b hb => match b with | ⟨0, _⟩ => rfl | ⟨1, _⟩ => absurd rfl hb)

/-- Rows through one expert, as the body computes them. -/
def through (X : FVec Ideal S256x2048 .f32) (g u : FVec Ideal S2048x512 .bf16) (d : FVec Ideal S512x2048 .bf16) : FVec Ideal S256x2048 .f32 :=
  let G : FVec Ideal S256x512 .f32 := matmul dot_S256x2048_S2048x512_S256x512_1_0_0_1_n_n none (truncf .bf16 X bitsLt_bf16_f32) g (constant S256x512 .f32 0x00000000#32)
  let U : FVec Ideal S256x512 .f32 := matmul dot_S256x2048_S2048x512_S256x512_1_0_0_1_n_n none (truncf .bf16 X bitsLt_bf16_f32) u (constant S256x512 .f32 0x00000000#32)
  matmul dot_S256x512_S512x2048_S256x2048_1_0_0_1_n_n none
    (truncf .bf16 (mulf (mulf G (divf (broadcast S256x512 (Scalar.ofBits .f32 0x3F800000#32)) (addf (broadcast S256x512 (Scalar.ofBits .f32 0x3F800000#32)) (exp (subf (broadcast S256x512 (Scalar.ofBits .f32 0x00000000#32)) G))))) U) bitsLt_bf16_f32)
    d (constant S256x2048 .f32 0x00000000#32)

/-- They are the layer's sums. -/
theorem through_apply (X : FVec Ideal S256x2048 .f32) (g u : FVec Ideal S2048x512 .bf16) (d : FVec Ideal S512x2048 .bf16) (r : Fin 256) (n : Fin 2048) :
    through X g u d (ix2 r n) = MoeSpec.res (fun k => X (ix2 r k)) (fun k f => g (ix2 k f)) (fun k f => u (ix2 k f)) (fun f k => d (ix2 f k)) n := by
  pointwise [through, MoeSpec.res, MoeSpec.hid, MoeSpec.sg]
  simp only [zero_sub]

/-- The scratch holds the gate weights themselves: over the extended reals a cast changes nothing. -/
theorem castG_apply (x : S1x2048x512.Idx → Elt Ideal .f32) (k : Fin 2048) (f : Fin 512) : castG x (ix2 k f) = x (ix3 0 k f) := by
  pointwise [castG, k0_pay1]
/-- So for the up weights -/
theorem castU_apply (x : S1x2048x512.Idx → Elt Ideal .f32) (k : Fin 2048) (f : Fin 512) : castU x (ix2 k f) = x (ix3 0 k f) := by
  pointwise [castU, k0_pay2]
/-- and the down weights. -/
theorem castD_apply (x : S1x512x2048.Idx → Elt Ideal .f32) (f : Fin 512) (k : Fin 2048) : castD x (ix2 f k) = x (ix3 0 f k) := by
  pointwise [castD, k0_pay3]

/-- Every strip lies inside the block. -/
theorem strip_inb (k : Fin 16) : ∀ a, S256x128.size a = 0 ∨ (![k.val, 0] : Fin 2 → ℕ) a + (![16, 1] : Fin 2 → ℕ) a * (S256x128.size a - 1) < S4096x128.size a := by
  intro a
  have := k.isLt
  match a with
  | ⟨0, _⟩ => right; show k.val + 16 * (256 - 1) < 4096; omega
  | ⟨1, _⟩ => right; show 0 + 1 * (128 - 1) < 128; omega

/-- The block's rows, gathered from their strips. -/
def gathered (x : S4096x128.Idx → Elt Ideal .f32) : FVec Ideal S256x2048 .f32 :=
  beside fun k => shapeCast S256x128 (strip k.val (strip_inb k) x) shapeCasts_S256x128_S256x128

/-- Column `n` of row `r` is lane `n % 128` of its strip `n / 128`. -/
theorem gathered_apply (x : S4096x128.Idx → Elt Ideal .f32) (r : Fin 256) (n : Fin 2048) :
    gathered x (ix2 r n) = x (ix2 ⟨16 * r.val + n.val / 128, by omega⟩ ⟨n.val % 128, Nat.mod_lt _ (by decide)⟩) := by
  unfold gathered
  rw [beside_apply, shapeCast_self]
  exact strip_apply _ (by omega) _ x r _

/-- The body's computation is the rows gathered, then put through the expert. -/
theorem expert_eq (x : S4096x128.Idx → Elt Ideal .f32) (g u : FVec Ideal S2048x512 .bf16) (d : FVec Ideal S512x2048 .bf16) :
    expert x g u d = through (gathered x) g u d := by sl_kernel_rfl

/-- A computed tile, element by element. -/
theorem tile_apply (x0 : S4096x128.Idx → Elt Ideal .f32) (x1 x2 : S1x2048x512.Idx → Elt Ideal .f32) (x3 : S1x512x2048.Idx → Elt Ideal .f32) (y : S4096x128.Idx) :
    strips (expert x0 (castG x1) (castU x2) (castD x3)) y
      = MoeSpec.res (fun k => x0 (ix2 ⟨16 * ((y 0).val / 16) + k.val / 128, by have h : (y 0).val < 4096 := (y 0).isLt; omega⟩ ⟨k.val % 128, Nat.mod_lt _ (by decide)⟩))
          (fun k f => x1 (ix3 0 k f)) (fun k f => x2 (ix3 0 k f)) (fun f k => x3 (ix3 0 f k))
          ⟨128 * ((y 0).val % 16) + (y 1).val, by have h : (y 1).val < 128 := (y 1).isLt; omega⟩ := by
  have h0 : (y 0).val < 4096 := (y 0).isLt
  have h1 : (y 1).val < 128 := (y 1).isLt
  have e : strips (expert x0 (castG x1) (castU x2) (castD x3)) y
      = expert x0 (castG x1) (castU x2) (castD x3) (ix2 ⟨(y 0).val / 16, by omega⟩ ⟨128 * ((y 0).val % 16) + (y 1).val, by omega⟩) := by
    unfold strips
    refine congrArg _ (funext fun a => ?_)
    match a with
    | ⟨0, _⟩ => rfl
    | ⟨1, _⟩ => rfl
  rw [e, expert_eq, through_apply]
  simp only [gathered_apply, castG_apply, castU_apply, castD_apply]

end Cert.MoeFfnIdeal.Moe

end
-- ==== Proof.MoeIn.lean ====
module

public import proofs.«01_k».proof.Proof.MoeTables
public import proofs.«01_k».proof.Proof.MoeElem
public import Idealize.ShloMosaic.Lib.Pipeline.ValueKit

@[expose] public section

set_option maxRecDepth 16384
set_option Elab.async false

noncomputable section

/-! # What the launch's windows read

The arrays the launch's windows read are the arguments reshaped, and the tables' words are the tile's
expert and the number of tiles used. -/

namespace Cert.MoeFfnIdeal.Moe

open Cert.MoeFfnIdeal Cert.MoeFfnIdeal.Gen
open Idealize.ShloMosaic
open Idealize.ShloMosaic.TcCoe Idealize.ShloMosaic.Tactic

variable (m : (ℓ : Loc nD τ sig) → Buf (Elt Ideal) ℓ)

/-! ## The arrays the windows read -/

/-- The rows, laid out in strips; -/
theorem V_rows (c : Dev nD) : V m c main_v0 = shapeCast S397312x128 (m ((c : Thread nD τ).loc main_arg2) : FVec Ideal S24832x2048 .f32) shapeCasts_S24832x2048_S397312x128 := by
  simp only [V, hostOps0]
  after_results_simp <;> rfl
/-- the gate weights, without their leading axis; -/
theorem V_gate (c : Dev nD) : V m c main_v1 = shapeCast S32x2048x512 (m ((c : Thread nD τ).loc main_arg3) : FVec Ideal S1x32x2048x512 .f32) shapeCasts_S1x32x2048x512_S32x2048x512 := by
  simp only [V, hostOps0]
  after_results_simp <;> rfl
/-- the up weights; -/
theorem V_up (c : Dev nD) : V m c main_v2 = shapeCast S32x2048x512 (m ((c : Thread nD τ).loc main_arg4) : FVec Ideal S1x32x2048x512 .f32) shapeCasts_S1x32x2048x512_S32x2048x512 := by
  simp only [V, hostOps0]
  after_results_simp <;> rfl
/-- the down weights. -/
theorem V_down (c : Dev nD) : V m c main_v3 = shapeCast S32x512x2048 (m ((c : Thread nD τ).loc main_arg5) : FVec Ideal S1x32x512x2048 .f32) shapeCasts_S1x32x512x2048_S32x512x2048 := by
  simp only [V, hostOps0]
  after_results_simp <;> rfl

/-- A strip's element is a row's. -/
theorem rows_apply (x : FVec Ideal S24832x2048 .f32) (n : Fin 24832) (k : Fin 2048) :
    shapeCast S397312x128 x shapeCasts_S24832x2048_S397312x128 (ix2 ⟨16 * n.val + k.val / 128, by omega⟩ ⟨k.val % 128, Nat.mod_lt _ (by decide)⟩) = x (ix2 n k) := by
  pointwise

/-- Dropping a weight array's leading axis. -/
theorem gate_apply (x : FVec Ideal S1x32x2048x512 .f32) (e : Fin 32) (k : Fin 2048) (f : Fin 512) :
    shapeCast S32x2048x512 x shapeCasts_S1x32x2048x512_S32x2048x512 (ix3 e k f) = x (ix4 0 e k f) := by
  pointwise

/-- The same for the down weights. -/
theorem down_apply (x : FVec Ideal S1x32x512x2048 .f32) (e : Fin 32) (f : Fin 512) (k : Fin 2048) :
    shapeCast S32x512x2048 x shapeCasts_S1x32x512x2048_S32x512x2048 (ix3 e f k) = x (ix4 0 e f k) := by
  pointwise

/-! ## The tables' words -/

/-- The offset of point `t`'s word is `t`. -/
theorem off1_val : ∀ t : Fin grid0.N, k0_off1 (grid0.coords t) 0 = t.val := by decide +kernel

/-- The word point `t` reads is the table's word `t`. -/
theorem word_at (T : S97.Idx → Elt Ideal .i32) (t : Fin grid0.N) (h) : word T (k0_off1 (grid0.coords t)) h = T (ix1 ⟨t.val, t.isLt⟩) := by
  refine congrArg T (funext fun a => Fin.ext ?_)
  match a with
  | ⟨0, _⟩ => exact (show _ = k0_off1 (grid0.coords t) 0 + 1 * 0 from rfl).trans (by rw [off1_val]; rfl)

/-- The number of tiles used is the second table's word. -/
theorem used_at (T : S1.Idx → Elt Ideal .i32) : used T = T (ix1 0) :=
  congrArg T (funext fun a => Fin.ext (by match a with | ⟨0, _⟩ => rfl))

/-- A tile is used when its number is below the number of tiles used. -/
theorem live_iff (t : Fin grid0.N) (T : S1.Idx → Elt Ideal .i32) (hT : (T (ix1 0) : BitVec 32).toNat < 2 ^ 31) : Live (grid0.coords t) T ↔ t.val < (T (ix1 0) : BitVec 32).toNat := by
  have ht : t.val < 97 := t.isLt
  have e1 : (BitVec.ofNat 32 t.val).toNat = t.val := by rw [BitVec.toNat_ofNat]; exact Nat.mod_eq_of_lt (by omega)
  show k0_cond2 (grid0.coords t) (used T) = 1#1 ↔ _
  unfold k0_cond2
  rw [used_at, coord_val]
  generalize (T (ix1 0) : BitVec 32) = w at hT ⊢
  simp only [Scalar.cmpi, IntOp.cmpi, Scalar.extui, BitVec.slt_eq_decide]
  rw [BitVec.toInt_eq_toNat_of_lt (by omega), BitVec.toInt_eq_toNat_of_lt (x := w) (by omega), e1]
  by_cases h : t.val < w.toNat
  · simp [h]
  · simp [h]

end Cert.MoeFfnIdeal.Moe

end
-- ==== Proof.MoeOut.lean ====
module

public import proofs.«01_k».proof.Proof.MoeIn
public import proofs.«01_k».proof.Proof.MoeFrame
public import proofs.«01_k».proof.Proof.Gen.Pre_experts_exist

@[expose] public section

set_option maxRecDepth 16384
set_option Elab.async false

noncomputable section

/-! # The launch computes the layer

Every point writes its own block of the output array, and what it writes is the layer's result there. -/

namespace Cert.MoeFfnIdeal.Moe

open Cert.MoeFfnIdeal Cert.MoeFfnIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ)

/-- The layer's result at a memory's arguments. -/
def goal (c : Dev nD) : (⟨2, ![397312, 128]⟩ : Shape).Idx → EReal :=
  MoeSpec.laid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable (a : (pcfg0 (F := Ideal)).Adm)

/-! ## The blocks of a point, element by element -/

/-- A block's element along an axis. -/
theorem block_val {s : Shape} {size ix : Fin s.rank → ℕ} (h : ∀ a, (ix a + 1) * size a ≤ s.size a) (y : (⟨s.rank, size⟩ : Shape).Idx) (b : Fin s.rank) :
    ((Rect.block (s := s) size ix h).emb y b).val = ix b * size b + 1 * (y b).val := rfl

/-- The gate block's index at a point, from the table's word; -/
theorem ix_gate_at (t : Fin (cfgA a).N) : cc0_transform_1 k0_off1_inb numel1_S1 a.1 (crd a t) = ![(a.1 0 (ix1 ⟨t.val, t.isLt⟩) : BitVec 32).toNat, 0, 0] :=
  (ix_gate a.1 (crd a t)).trans (congrArg (fun w : BitVec 32 => ![w.toNat, 0, 0]) (word_at (a.1 0) t _))
/-- the up block's, -/
theorem ix_up_at (t : Fin (cfgA a).N) : cc0_transform_2 k0_off1_inb numel1_S1 a.1 (crd a t) = ![(a.1 0 (ix1 ⟨t.val, t.isLt⟩) : BitVec 32).toNat, 0, 0] :=
  (ix_up a.1 (crd a t)).trans (congrArg (fun w : BitVec 32 => ![w.toNat, 0, 0]) (word_at (a.1 0) t _))
/-- the down block's. -/
theorem ix_down_at (t : Fin (cfgA a).N) : cc0_transform_3 k0_off1_inb numel1_S1 a.1 (crd a t) = ![(a.1 0 (ix1 ⟨t.val, t.isLt⟩) : BitVec 32).toNat, 0, 0] :=
  (ix_down a.1 (crd a t)).trans (congrArg (fun w : BitVec 32 => ![w.toNat, 0, 0]) (word_at (a.1 0) t _))
/-- The rows' block's index at a used tile's point is the tile's number. -/
theorem ix_rows_at (t : Fin (cfgA a).N) (hs : Sound a.1) (hl : t.val < (a.1 1 (ix1 0) : BitVec 32).toNat) :
    cc0_transform_0 inb_S1_S1_0 numel1_S1 a.1 (crd a t) = ![t.val, 0] := by
  have hu : (used (a.1 1) : BitVec 32) = a.1 1 (ix1 0) := used_at (a.1 1)
  have hc : ((crd a t) 0).val = t.val := coord_val t
  refine (ix_rows a.1 (crd a t)).trans (congrArg (fun n : ℕ => ![n, 0]) ((rows_ix hs.used_pos hs.used_lt (show ((crd a t) 0).val < 97 from ((crd a t) 0).isLt)).trans ?_))
  have h2 : (used (a.1 1) : BitVec 32).toNat = (a.1 1 (ix1 0) : BitVec 32).toNat := congrArg BitVec.toNat hu
  rw [hc]
  generalize (used (a.1 1) : BitVec 32).toNat = u at h2 ⊢
  omega

/-- The gate block of a point is its expert's; -/
theorem iblk1_apply (c : Dev nD) (t : Fin (cfgA a).N) (e : Fin 32) (he : (a.1 0 (ix1 ⟨t.val, t.isLt⟩) : BitVec 32).toNat = e.val) (k : Fin 2048) (f : Fin 512) :
    iblk a m c (1 : Fin 5) t (ix3 0 k f) = (m ((c : Thread nD τ).loc main_arg3) : FVec Ideal S1x32x2048x512 .f32) (ix4 0 e k f) := by
  rw [iblk1_eq]
  refine Eq.trans (congrArg (V m c main_v1) (?_ : _ = ix3 e k f)) ((congrFun (V_gate m c) _).trans (gate_apply _ e k f))
  funext b
  refine Fin.ext ((block_val _ _ b).trans ?_)
  rw [ix_gate_at]
  match b with
  | ⟨0, _⟩ => show (a.1 0 (ix1 ⟨t.val, t.isLt⟩) : BitVec 32).toNat * 1 + 1 * 0 = e.val; omega
  | ⟨1, _⟩ => show 0 * 2048 + 1 * k.val = k.val; omega
  | ⟨2, _⟩ => show 0 * 512 + 1 * f.val = f.val; omega

/-- so is the up block, -/
theorem iblk2_apply (c : Dev nD) (t : Fin (cfgA a).N) (e : Fin 32) (he : (a.1 0 (ix1 ⟨t.val, t.isLt⟩) : BitVec 32).toNat = e.val) (k : Fin 2048) (f : Fin 512) :
    iblk a m c (2 : Fin 5) t (ix3 0 k f) = (m ((c : Thread nD τ).loc main_arg4) : FVec Ideal S1x32x2048x512 .f32) (ix4 0 e k f) := by
  rw [iblk2_eq]
  refine Eq.trans (congrArg (V m c main_v2) (?_ : _ = ix3 e k f)) ((congrFun (V_up m c) _).trans (gate_apply _ e k f))
  funext b
  refine Fin.ext ((block_val _ _ b).trans ?_)
  rw [ix_up_at]
  match b with
  | ⟨0, _⟩ => show (a.1 0 (ix1 ⟨t.val, t.isLt⟩) : BitVec 32).toNat * 1 + 1 * 0 = e.val; omega
  | ⟨1, _⟩ => show 0 * 2048 + 1 * k.val = k.val; omega
  | ⟨2, _⟩ => show 0 * 512 + 1 * f.val = f.val; omega

/-- and the down block. -/
theorem iblk3_apply (c : Dev nD) (t : Fin (cfgA a).N) (e : Fin 32) (he : (a.1 0 (ix1 ⟨t.val, t.isLt⟩) : BitVec 32).toNat = e.val) (f : Fin 512) (k : Fin 2048) :
    iblk a m c (3 : Fin 5) t (ix3 0 f k) = (m ((c : Thread nD τ).loc main_arg5) : FVec Ideal S1x32x512x2048 .f32) (ix4 0 e f k) := by
  rw [iblk3_eq]
  refine Eq.trans (congrArg (V m c main_v3) (?_ : _ = ix3 e f k)) ((congrFun (V_down m c) _).trans (down_apply _ e f k))
  funext b
  refine Fin.ext ((block_val _ _ b).trans ?_)
  rw [ix_down_at]
  match b with
  | ⟨0, _⟩ => show (a.1 0 (ix1 ⟨t.val, t.isLt⟩) : BitVec 32).toNat * 1 + 1 * 0 = e.val; omega
  | ⟨1, _⟩ => show 0 * 512 + 1 * f.val = f.val; omega
  | ⟨2, _⟩ => show 0 * 2048 + 1 * k.val = k.val; omega

/-- The rows' block of a used tile is the tile's rows. -/
theorem iblk0_apply (c : Dev nD) (t : Fin (cfgA a).N) (hs : Sound a.1) (hl : t.val < (a.1 1 (ix1 0) : BitVec 32).toNat) (r : Fin 256) (k : Fin 2048) :
    iblk a m c (0 : Fin 5) t (ix2 ⟨16 * r.val + k.val / 128, by omega⟩ ⟨k.val % 128, Nat.mod_lt _ (by decide)⟩)
      = (m ((c : Thread nD τ).loc main_arg2) : FVec Ideal S24832x2048 .f32) (ix2 ⟨256 * t.val + r.val, by have h : t.val < 97 := t.isLt; omega⟩ k) := by
  have ht : t.val < 97 := t.isLt
  rw [iblk0_eq]
  refine Eq.trans (congrArg (V m c main_v0) (?_ : _ = ix2 ⟨16 * (256 * t.val + r.val) + k.val / 128, by omega⟩ ⟨k.val % 128, Nat.mod_lt _ (by decide)⟩))
    ((congrFun (V_rows m c) _).trans (rows_apply _ ⟨256 * t.val + r.val, by omega⟩ k))
  funext b
  refine Fin.ext ((block_val _ _ b).trans ?_)
  rw [ix_rows_at a t hs hl]
  match b with
  | ⟨0, _⟩ =>
    show t.val * 4096 + 1 * (16 * r.val + k.val / 128) = 16 * (256 * t.val + r.val) + k.val / 128
    omega
  | ⟨1, _⟩ => show 0 * 128 + 1 * (k.val % 128) = k.val % 128; omega

/-! ## The output block of a point -/

variable {m}

/-- A row's result depends on the row and the weights alone. -/
theorem res_congr {x x' : Fin 2048 → EReal} {g g' u u' : Fin 2048 → Fin 512 → EReal} {d d' : Fin 512 → Fin 2048 → EReal} {j j' : Fin 2048}
    (hx : ∀ k, x k = x' k) (hg : ∀ k f, g k f = g' k f) (hu : ∀ k f, u k f = u' k f) (hd : ∀ f k, d f k = d' f k) (hj : j = j') :
    MoeSpec.res x g u d j = MoeSpec.res x' g' u' d' j' := by
  obtain rfl : x = x' := funext hx
  obtain rfl : g = g' := funext fun k => funext (hg k)
  obtain rfl : u = u' := funext fun k => funext (hu k)
  obtain rfl : d = d' := funext fun k => funext (hd k)
  rw [hj]

/-- The block of an unused tile is zero. -/
theorem zeros_apply (y : S4096x128.Idx) : zeros y = (0 : EReal) := by
  obtain ⟨r, l, rfl⟩ : ∃ (r : Fin 4096) (l : Fin 128), y = ix2 r l := ⟨y 0, y 1, eq_ix2 y⟩
  unfold zeros
  pointwise [k0_pay14]

/-- What point `t` leaves in the output block is the layer's result there. -/
theorem outAt_apply (h : Good m) (t : Fin (cfgA (adm h)).N) (y : S4096x128.Idx) (i : (⟨2, ![397312, 128]⟩ : Shape).Idx)
    (hi0 : (i 0).val = 4096 * t.val + (y 0).val) (hi1 : (i 1).val = (y 1).val) : outAt (adm h) m 0 t y = goal m 0 i := by
  have hs := sound_tabs h
  have ht : t.val < 97 := t.isLt
  have hy0 : (y 0).val < 4096 := (y 0).isLt
  have hy1 : (y 1).val < 128 := (y 1).isLt
  have hw : (((adm h).1 0 (ix1 ⟨t.val, t.isLt⟩) : BitVec 32)).toNat < 32 := by
    have := hs.expert_lt (k0_off1 (grid0.coords t)) (k0_off1_inb _)
    exact lt_of_eq_of_lt (congrArg BitVec.toNat (word_at ((adm h).1 0) t _).symm) this
  have hu : ((adm h).1 1 (ix1 0) : BitVec 32).toNat < 2 ^ 31 :=
    lt_of_eq_of_lt (congrArg BitVec.toNat (used_at ((adm h).1 1)).symm) hs.used_lt
  unfold outAt tile goal MoeSpec.laid MoeSpec.row
  by_cases hl : t.val < ((adm h).1 1 (ix1 0) : BitVec 32).toNat
  · rw [if_pos ((live_iff t _ hu).2 hl)]
    refine Eq.trans ?_ (if_pos (show (i 0).val / 16 / 256 < (m (((0 : Dev nD) : Thread nD τ).loc main_arg1) (ix1 0) : BitVec 32).toNat from ?_)).symm
    · rw [tile_apply]
      have he : (((adm h).1 0 (ix1 ⟨t.val, t.isLt⟩) : BitVec 32)).toNat = (MoeSpec.who (m (((0 : Dev nD) : Thread nD τ).loc main_arg0)) ⟨(i 0).val / 16 / 256, by omega⟩).val := by
        have e : (⟨(i 0).val / 16 / 256, by omega⟩ : Fin 97) = ⟨t.val, t.isLt⟩ := Fin.ext (by show (i 0).val / 16 / 256 = t.val; omega)
        rw [e]
        exact (Nat.mod_eq_of_lt hw).symm
      refine res_congr (fun k => ?_) (fun k f => iblk1_apply m (adm h) 0 t _ he k f) (fun k f => iblk2_apply m (adm h) 0 t _ he k f)
        (fun f k => iblk3_apply m (adm h) 0 t _ he f k) (Fin.ext ?_)
      · exact (iblk0_apply m (adm h) 0 t hs hl ⟨(y 0).val / 16, by omega⟩ k).trans
          (congrArg (fun n : Fin 24832 => (m (((0 : Dev nD) : Thread nD τ).loc main_arg2) : FVec Ideal S24832x2048 .f32) (ix2 n k))
            (Fin.ext (by show 256 * t.val + (y 0).val / 16 = (i 0).val / 16; omega)))
      · show 128 * ((y 0).val % 16) + (y 1).val = 128 * ((i 0).val % 16) + (i 1).val
        omega
    · have : (i 0).val / 16 / 256 = t.val := by omega
      rw [this]; exact hl
  · rw [if_neg (fun hh => hl ((live_iff t _ hu).1 hh))]
    refine Eq.trans ?_ (if_neg (show ¬(i 0).val / 16 / 256 < (m (((0 : Dev nD) : Thread nD τ).loc main_arg1) (ix1 0) : BitVec 32).toNat from ?_)).symm
    · exact zeros_apply y
    · have : (i 0).val / 16 / 256 = t.val := by omega
      rw [this]; exact hl

/-! ## The whole array -/

/-- Every point writes its output block back. -/
theorem flush4 : ∀ t : Fin grid0.N, Window.flushOf grid0 true cc0_transform_4 t = true := by decide +kernel

/-- The output block's index is the point's number. -/
theorem ix_out : ∀ t : Fin grid0.N, cc0_transform_4 (grid0.coords t) 0 = t.val := by decide +kernel

/-- Where an element of point `t`'s output block lies. -/
theorem blk4_val (t : Fin (cfgA a).N) (y : S4096x128.Idx) :
    ((((cfgA a).win (4 : Fin 5)).blk t).view.emb y 0).val = 4096 * t.val + (y 0).val ∧ ((((cfgA a).win (4 : Fin 5)).blk t).view.emb y 1).val = (y 1).val := by
  have e := ix_out t
  constructor
  · show cc0_transform_4 (crd a t) 0 * 4096 + 1 * (y 0).val = _
    rw [e]; omega
  · show 0 * 128 + 1 * (y 1).val = _
    omega

/-- The output array after the run holds the layer's result. -/
theorem arr_eq (h : Good m) : (dats (adm h) m 0 0).arrAt (4 : Fin 5) (cfgA (adm h)).N = goal m 0 := by
  refine (dats (adm h) m 0 0).arrAt_eq_of_cover (4 : Fin 5) _ (fun t _ => ?_) (fun i => ?_)
  · funext y
    have hb := blk4_val (adm h) t y
    exact outAt_apply h t y ((((cfgA (adm h)).win (4 : Fin 5)).blk t).view.emb y) hb.1 hb.2
  · have hi : (i 0).val < 397312 := (i 0).isLt
    refine ⟨⟨(i 0).val / 4096, by show _ < 97; omega⟩, flush4 _, ?_⟩
    have hm := (((cfgA (adm h)).win (4 : Fin 5)).blk ⟨(i 0).val / 4096, by show _ < 97; omega⟩).view.emb_mem_set (ix2 ⟨(i 0).val % 4096, Nat.mod_lt _ (by decide)⟩ (i 1))
    have hb := blk4_val (adm h) ⟨(i 0).val / 4096, by show _ < 97; omega⟩ (ix2 ⟨(i 0).val % 4096, Nat.mod_lt _ (by decide)⟩ (i 1))
    convert hm using 1
    funext b
    refine Fin.ext ?_
    match b with
    | ⟨0, _⟩ => exact Eq.trans (show (i 0).val = 4096 * ((i 0).val / 4096) + (i 0).val % 4096 by omega) hb.1.symm
    | ⟨1, _⟩ => exact hb.2.symm

end Cert.MoeFfnIdeal.Moe

end
-- ==== Proof.MoeRef.lean ====
module

public import proofs.«01_k».proof.Proof.Gen.MoeFfnRefIdeal
public import proofs.«01_k».proof.Proof.MoeSpec

@[expose] public section

set_option maxRecDepth 16384
set_option Elab.async false

noncomputable section

/-! # The reference's result, element by element

Every row goes through every expert, weighted by one where the row's tile is used and names that expert
and by zero elsewhere; the sum over the experts keeps the one term. -/

namespace Cert.MoeFfnRefIdeal.Ref

open Cert.MoeFfnRefIdeal Cert.MoeFfnRefIdeal.Gen
open Idealize.ShloMosaic

variable (a0 : IVec S97 32) (a1 : IVec S1 32) (a2 : FVec Ideal S24832x2048 .f32) (a3 a4 : FVec Ideal S1x32x2048x512 .f32) (a5 : FVec Ideal S1x32x512x2048 .f32)

/-- The weight of each expert in each row. -/
def gate : FVec Ideal S24832x32 .f32 :=
  mulf (uitofp .f32 (cmpi .eq (broadcastInDim S24832x32 ![0, 1] bcast_S24832x1_S24832x32_0_1 (broadcastInDim S24832x1 ![0] bcast_S24832_S24832x1_0 (shapeCast S24832 (broadcastInDim S97x256 ![0] bcast_S97_S97x256_0 a0) shapeCasts_S97x256_S24832)))
      (broadcastInDim S24832x32 ![0, 1] bcast_S1x32_S24832x32_0_1 (iotaInDim S1x32 32 1))))
    (broadcastInDim S24832x32 ![0, 1] bcast_S24832x1_S24832x32_0_1 (uitofp .f32 (broadcastInDim S24832x1 ![0] bcast_S24832_S24832x1_0
      (shapeCast S24832 (broadcastInDim S97x256 ![0] bcast_S97_S97x256_0 (cmpi .slt (iotaInDim S97 32 0) (broadcastInDim S97 ![] bcast_S_S97 (shapeCast S_ a1 shapeCasts_S1_S_)))) shapeCasts_S97x256_S24832))))

/-- Every row through every expert's weights. -/
def lin (w : FVec Ideal S1x32x2048x512 .f32) : FVec Ideal S32x24832x512 .f32 :=
  transpose S32x24832x512 [0, 2, 1] (Host.dotGeneral dot_S32x2048x512_S24832x2048_S32x512x24832_1_1_02_0_n_n none (shapeCast S32x2048x512 w shapeCasts_S1x32x2048x512_S32x2048x512) a2) transposes_S32x512x24832_S32x24832x512_0_2_1

/-- `x · σ(x)`, element by element. -/
def silu (x : FVec Ideal S32x24832x512 .f32) : FVec Ideal S32x24832x512 .f32 :=
  mulf x (Host.divf (broadcastInDim S32x24832x512 ![] bcast_S_S32x24832x512 (constant S_ .f32 0x3F800000#32)) (addf (broadcastInDim S32x24832x512 ![] bcast_S_S32x24832x512 (constant S_ .f32 0x3F800000#32)) (Host.exp (Host.negf x))))

/-- The hidden units, every row at every expert, weighted. -/
def units : FVec Ideal S32x24832x512 .f32 :=
  mulf (mulf (silu (lin a2 a3)) (lin a2 a4)) (broadcastInDim S32x24832x512 ![0, 1, 2] bcast_S32x24832x1_S32x24832x512_0_1_2
    (broadcastInDim S32x24832x1 ![0, 1] bcast_S32x24832_S32x24832x1_0_1 (transpose S32x24832 [1, 0] (gate a0 a1) transposes_S24832x32_S32x24832_1_0)))

/-- The reference's result. -/
def out : FVec Ideal S397312x128 .f32 :=
  shapeCast S397312x128 (Host.dotGeneral dot_S32x24832x512_S32x512x2048_S24832x2048_02_01_1_2_n_n none (units a0 a1 a2 a3 a4) (shapeCast S32x512x2048 a5 shapeCasts_S1x32x512x2048_S32x512x2048)) shapeCasts_S24832x2048_S397312x128

/-- A bit as a number. -/
theorem bit_value (b : BitVec 1) : FloatOps.uitofp (F := Ideal) .f32 b = if b = 1#1 then 1 else 0 := by
  show ((b.toNat : ℝ) : EReal) = _
  rcases bit_eq_zero_or_eq_one b with h | h <;> subst h <;> simp

/-- Two words are equal when their numbers are. -/
theorem eq_bit (w : BitVec 32) (hw : w.toNat < 32) (e : Fin 32) : IntOp.cmpi .eq w (BitVec.ofNat 32 e.val) = 1#1 ↔ (⟨w.toNat % 32, Nat.mod_lt _ (by decide)⟩ : Fin 32) = e := by
  have he := e.isLt
  have e1 : (BitVec.ofNat 32 e.val).toNat = e.val := by rw [BitVec.toNat_ofNat]; exact Nat.mod_eq_of_lt (by omega)
  simp only [IntOp.cmpi]
  rw [Fin.ext_iff]
  show _ ↔ w.toNat % 32 = e.val
  by_cases h : w = BitVec.ofNat 32 e.val
  · have : w.toNat = e.val := by rw [h, e1]
    simp only [h, beq_self_eq_true]
    refine ⟨fun _ => by rw [e1]; omega, fun _ => by decide⟩
  · have hb : (w == BitVec.ofNat 32 e.val) = false := by simpa using h
    rw [hb]
    refine ⟨fun h' => absurd h' (by decide), fun h' => absurd (BitVec.eq_of_toNat_eq (by rw [e1]; omega)) h⟩

/-- A tile's number is below the number of tiles used, as words and as numbers. -/
theorem lt_bit (w : BitVec 32) (hw : w.toNat < 2 ^ 31) (t : ℕ) (ht : t < 97) : IntOp.cmpi .slt (BitVec.ofNat 32 t) w = 1#1 ↔ t < w.toNat := by
  have e1 : (BitVec.ofNat 32 t).toNat = t := by rw [BitVec.toNat_ofNat]; exact Nat.mod_eq_of_lt (by omega)
  simp only [IntOp.cmpi, BitVec.slt_eq_decide]
  rw [BitVec.toInt_eq_toNat_of_lt (by omega), BitVec.toInt_eq_toNat_of_lt (x := w) (by omega), e1]
  by_cases h : t < w.toNat
  · simp [h]
  · simp [h]

/-- A row's weight at an expert, from its tile's words. -/
theorem gate_apply (h0 : ∀ i, (a0 i).toNat < 32) (h1 : (a1 (ix1 0)).toNat < 2 ^ 31) (n : Fin 24832) (e : Fin 32) :
    gate a0 a1 (ix2 n e) = if n.val / 256 < (a1 (ix1 0)).toNat then (if MoeSpec.who a0 ⟨n.val / 256, by omega⟩ = e then 1 else 0) else 0 := by
  pointwise [gate]
  rw [bit_value, bit_value]
  simp only [eq_bit _ (h0 _), lt_bit _ h1 (n.val / 256) (by omega)]
  unfold MoeSpec.who
  split_ifs <;> simp

/-- A row through an expert's weights is a sum over the row. -/
theorem lin_apply (w : FVec Ideal S1x32x2048x512 .f32) (e : Fin 32) (n : Fin 24832) (f : Fin 512) :
    lin a2 w (ix3 e n f) = ∑ k : Fin 2048, a2 (ix2 n k) * w (ix4 0 e k f) := by
  pointwise [lin]
  exact Finset.sum_congr rfl fun k _ => mul_comm _ _

/-- `x · σ(x)` at an element. -/
theorem silu_apply (x : FVec Ideal S32x24832x512 .f32) (e : Fin 32) (n : Fin 24832) (f : Fin 512) :
    silu x (ix3 e n f) = x (ix3 e n f) * MoeSpec.sg (x (ix3 e n f)) := by
  pointwise [silu, MoeSpec.sg]

/-- A hidden unit is the expert's, weighted. -/
theorem units_apply (e : Fin 32) (n : Fin 24832) (f : Fin 512) :
    units a0 a1 a2 a3 a4 (ix3 e n f) = MoeSpec.hid (fun k => a2 (ix2 n k)) (fun k f => a3 (ix4 0 e k f)) (fun k f => a4 (ix4 0 e k f)) f * gate a0 a1 (ix2 n e) := by
  unfold units
  generalize hg : gate a0 a1 = G
  generalize hs : silu (lin a2 a3) = S
  generalize hu : lin a2 a4 = U
  pointwise
  rw [← hs, ← hu, silu_apply, lin_apply, lin_apply]
  rfl

/-- The result sums over experts and hidden units. -/
theorem out_apply (i : Fin 397312) (l : Fin 128) :
    out a0 a1 a2 a3 a4 a5 (ix2 i l) = ∑ e : Fin 32, ∑ f : Fin 512, units a0 a1 a2 a3 a4 (ix3 e ⟨i.val / 16, by omega⟩ f) * a5 (ix4 0 e f ⟨128 * (i.val % 16) + l.val, by omega⟩) := by
  unfold out
  generalize units a0 a1 a2 a3 a4 = U
  pointwise
  refine Finset.sum_congr rfl fun e _ => Finset.sum_congr rfl fun f _ => congrArg₂ (· * ·) rfl (congrArg (fun j => a5 (ix4 0 e f j)) (Fin.ext ?_))
  show i.val % 16 * 128 + l.val = 128 * (i.val % 16) + l.val
  omega

/-- The reference's result is the layer's. -/
theorem out_eq (h0 : ∀ i, (a0 i).toNat < 32) (h1 : (a1 (ix1 0)).toNat < 2 ^ 31) : out a0 a1 a2 a3 a4 a5 = MoeSpec.laid a0 a1 a2 a3 a4 a5 := by
  funext y
  obtain ⟨i, l, rfl⟩ : ∃ (i : Fin 397312) (l : Fin 128), y = ix2 i l := ⟨y 0, y 1, eq_ix2 y⟩
  rw [out_apply]
  simp only [units_apply, gate_apply a0 a1 h0 h1]
  unfold MoeSpec.laid MoeSpec.row
  dsimp only [ix2_0, ix2_1]
  by_cases h : i.val / 16 / 256 < (a1 (ix1 0)).toNat
  · refine Eq.trans ?_ (if_pos h).symm
    simp only [if_pos h, mul_ite, mul_one, mul_zero, ite_mul, zero_mul]
    rw [Finset.sum_eq_single (MoeSpec.who a0 ⟨i.val / 16 / 256, by omega⟩)]
    · simp only [if_pos]
      rfl
    · intro e _ he
      exact Finset.sum_eq_zero fun f _ => if_neg fun h => he h.symm
    · intro h; exact absurd (Finset.mem_univ _) h
  · refine Eq.trans ?_ (if_neg h).symm
    simp only [if_neg h, mul_zero, zero_mul, Finset.sum_const_zero]

end Cert.MoeFfnRefIdeal.Ref

end
-- ==== Proof.MoeSame.lean ====
module

public import proofs.«01_k».proof.Proof.MoeOut
public import proofs.«01_k».proof.Proof.MoeRef

@[expose] public section

set_option maxRecDepth 16384
set_option Elab.async false

noncomputable section

/-! # The launch and the reference compute the same

Both results are the layer's. -/

namespace Cert.MoeSame

open Cert.MoeFfnIdeal Cert.MoeFfnIdeal.Gen Cert.MoeFfnIdeal.Moe
open Idealize.ShloMosaic Idealize.SL.Sem
open Idealize.ShloMosaic.TcCoe Idealize.ShloMosaic.Tactic

/-- The kernel ends with the layer's result in its output and its arguments unchanged. -/
theorem kernel_run {m : (ℓ : Loc nD τ sig) → Buf (Elt Ideal) ℓ} (h : Good m) (g : Dev nD → PrngReg) :
    θ_run (defs (F := Ideal)) (onTc (τ := τ) (main (F := Ideal))) ⟨m, fun _ => 0, g⟩ (fun r => ∀ c : Dev nD,
      r.2.mem ((c.tc : Thread nD τ).loc main_v4) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r hr c => ⟨by
      obtain rfl : c = 0 := Fin.ext (by have h1 : c.val < 1 := c.isLt; show c.val = 0; omega)
      exact ((hr.1 0).1 (4 : Fin 5)).trans (arr_eq h),
     ((hr.1 c).2 main_arg0 (show main_arg0 ∈ Pipeline.restRefs sig spec0 from by decide)).trans (V_arg m c main_arg0 (by decide) (by decide) (by decide) (by decide)),
     ((hr.1 c).2 main_arg1 (show main_arg1 ∈ Pipeline.restRefs sig spec0 from by decide)).trans (V_arg m c main_arg1 (by decide) (by decide) (by decide) (by decide)),
     ((hr.1 c).2 main_arg2 (show main_arg2 ∈ Pipeline.restRefs sig spec0 from by decide)).trans (V_arg m c main_arg2 (by decide) (by decide) (by decide) (by decide)),
     ((hr.1 c).2 main_arg3 (show main_arg3 ∈ Pipeline.restRefs sig spec0 from by decide)).trans (V_arg m c main_arg3 (by decide) (by decide) (by decide) (by decide)),
     ((hr.1 c).2 main_arg4 (show main_arg4 ∈ Pipeline.restRefs sig spec0 from by decide)).trans (V_arg m c main_arg4 (by decide) (by decide) (by decide) (by decide)),
     ((hr.1 c).2 main_arg5 (show main_arg5 ∈ Pipeline.restRefs sig spec0 from by decide)).trans (V_arg m c main_arg5 (by decide) (by decide) (by decide) (by decide))⟩)
    (run_main (adm h) m g (holds_tabs h))

/-- The reference's result, at the kernel's arguments, is the layer's. -/
theorem reference_eq {m : (ℓ : Loc nD τ sig) → Buf (Elt Ideal) ℓ} (h : Good m) (c : Dev nD) :
    Cert.MoeFfnRefIdeal.Ref.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = goal m c := by
  obtain ⟨h0, h1⟩ := Cert.Pre_experts_exist.bounds _ _ _ _ _ _ (h c)
  exact Cert.MoeFfnRefIdeal.Ref.out_eq _ _ _ _ _ _ h0 (h1 _).2

end Cert.MoeSame

end
-- ==== Proof.KvTile.lean ====
module

public import proofs.«01_k».proof.Proof.Gen.ProjKvIdeal.Frame
public import Idealize.ShloMosaic.Lib.Pipeline.ValueKit

@[expose] public section

set_option maxRecDepth 16384
set_option Elab.async false

noncomputable section

/-! # What one block of the projection computes

A block of rows by a block of columns: each element is the row's product with the column, plus the column's
bias. The second output holds the same numbers, cut into heads of 64 columns. -/

namespace Cert.ProjKvIdeal.Kv

open Cert.ProjKvIdeal Cert.ProjKvIdeal.Gen
open Idealize.ShloMosaic
open Idealize.ShloMosaic.TcCoe Idealize.ShloMosaic.Tactic

variable (x : FVec Ideal S1664x2048 .bf16) (w : FVec Ideal S2048x512 .bf16) (b : FVec Ideal S1x512 .f32)

/-- A row's product with a column, plus the column's bias. -/
def dot (r : Fin 1664) (j : Fin 512) : EReal := (∑ k : Fin 2048, x (ix2 r k) * w (ix2 k j)) + b (ix2 0 j)

/-- The block's product is a sum over the row. -/
theorem pay5_apply (r : Fin 1664) (j : Fin 512) : k0_pay5 (F := Ideal) x w b (ix2 r j) = dot x w b r j := by
  pointwise [k0_pay5, dot]

/-- The first output's block, element by element. -/
theorem out3_apply (r : Fin 1664) (j : Fin 512) : out0_3 (F := Ideal) x w b (ix2 r j) = dot x w b r j := by
  unfold_out out0_3
  frame_out
  exact pay5_apply x w b r j

/-- A load of a whole block is the block. -/
theorem ld_rows (x : Vec Ideal S1664x2048 .bf16) : View.ld (Val := Elt Ideal) x r0_0 = x := View.ld_unit_lit _ _ (by decide)
/-- The same for the weights, -/
theorem ld_cols (w : Vec Ideal S2048x512 .bf16) : View.ld (Val := Elt Ideal) w r0_1 = w := View.ld_unit_lit _ _ (by decide)
/-- and the bias. -/
theorem ld_bias (b : Vec Ideal S1x512 .f32) : View.ld (Val := Elt Ideal) b r0_2 = b := View.ld_unit_lit _ _ (by decide)

/-- A head cut out of the block: its column `d` is column `o + d`. -/
theorem head_apply (v : FVec Ideal S1664x512 .f32) (o : ℕ) (hs) (y : S1x1664x64.Idx) (r : Fin 1664) (j : Fin 512) (hr : r.val = (y 1).val)
    (hj : j.val = o + (y 2).val) :
    shapeCast S1x1664x64 (truncf .bf16 (extractStridedSlice S1664x64 ![0, o] v hs) bitsLt_bf16_f32 : FVec Ideal S1664x64 .bf16) shapeCasts_S1664x64_S1x1664x64 y
      = v (ix2 r j) := by
  obtain ⟨u, a, d, rfl⟩ : ∃ (u : Fin 1) (a : Fin 1664) (d : Fin 64), y = ix3 u a d := ⟨y 0, y 1, y 2, eq_ix3 y⟩
  pointwise
  refine congrArg v (congrArg₂ ix2 (Fin.ext ?_) (Fin.ext ?_))
  · exact hr.symm
  · exact hj.symm

/-- The second output's block: head `h`'s column `d` is column `64 h + d`. -/
theorem out4_apply (h : Fin 8) (r : Fin 1664) (d : Fin 64) :
    out0_4 (F := Ideal) x w b (ix3 h r d) = dot x w b r ⟨64 * h.val + d.val, by omega⟩ := by
  unfold_out out0_4
  rw [← pay5_apply]
  canon_tiles y e
  all_goals
    rw [ld_rows, ld_cols, ld_bias]
    have e0' : h.val = _ := e0
    have e1' : r.val = _ := e1
    have e2' : d.val = _ := e2
    refine head_apply (k0_pay5 (F := Ideal) x w b) _ _ y r _ e1' ?_
    show 64 * h.val + d.val = _
    omega

end Cert.ProjKvIdeal.Kv

end
-- ==== Proof.KvIn.lean ====
module

public import proofs.«01_k».proof.Proof.Gen.ProjKvIdeal.Frame
public import Idealize.ShloMosaic.Lib.Pipeline.ValueKit

@[expose] public section

set_option maxRecDepth 16384
set_option Elab.async false

noncomputable section

/-! # The arrays that the projection's launch reads

The rows are the prompt's followed by the sample's; the weights and the bias are the columns from 1024 to 2560. -/

namespace Cert.ProjKvIdeal.Kv

open Cert.ProjKvIdeal Cert.ProjKvIdeal.Gen
open Idealize.ShloMosaic
open Idealize.ShloMosaic.TcCoe Idealize.ShloMosaic.Tactic

/-- Row `r` of the prompt's rows followed by the sample's. -/
def row (xp : FVec Ideal S2x4096x2048 .f32) (xs : FVec Ideal S32x4x2048 .f32) (r : Fin 8320) (k : Fin 2048) : EReal :=
  if h : r.val < 8192 then xp (ix3 ⟨r.val / 4096, by omega⟩ ⟨r.val % 4096, by omega⟩ k)
  else xs (ix3 ⟨(r.val - 8192) / 4, by omega⟩ ⟨(r.val - 8192) % 4, by omega⟩ k)

variable (m : (ℓ : Loc nD τ sig) → Buf (Elt Ideal) ℓ)

/-- The rows the launch reads. -/
theorem V_rows (c : Dev nD) : V m c main_v3 = (truncf .bf16 (concatenate S8320x2048 0
    [⟨S8192x2048, shapeCast S8192x2048 (m ((c : Thread nD τ).loc main_arg0) : FVec Ideal S2x4096x2048 .f32) shapeCasts_S2x4096x2048_S8192x2048⟩,
     ⟨S128x2048, shapeCast S128x2048 (m ((c : Thread nD τ).loc main_arg1) : FVec Ideal S32x4x2048 .f32) shapeCasts_S32x4x2048_S128x2048⟩]
    concatenates_S8192x2048_S128x2048_S8320x2048_d0) bitsLt_bf16_f32 : FVec Ideal S8320x2048 .bf16) := by
  show StableHlo.after (List.flatten [hostOps0]) (fun b => m (c, b)) (Proc.devRef .tc _) = _
  simp only [hostOps0, List.flatten_cons, List.flatten_nil, List.append_nil]
  after_results_simp <;> rfl

/-- The weights the launch reads. -/
theorem V_cols (c : Dev nD) : V m c main_v8 = (truncf .bf16 (extractStridedSlice S2048x1536 ![0, 1024]
    (shapeCast S2048x10800 (m ((c : Thread nD τ).loc main_arg3) : FVec Ideal S1x2048x10800 .f32) shapeCasts_S1x2048x10800_S2048x10800)
    slices_S2048x10800_S2048x1536_0_1024) bitsLt_bf16_f32 : FVec Ideal S2048x1536 .bf16) := by
  show StableHlo.after (List.flatten [hostOps0]) (fun b => m (c, b)) (Proc.devRef .tc _) = _
  simp only [hostOps0, List.flatten_cons, List.flatten_nil, List.append_nil]
  after_results_simp <;> rfl

/-- The bias the launch reads. -/
theorem V_bias (c : Dev nD) : V m c main_v9 = (shapeCast S1x1536 (extractStridedSlice S1536 ![1024]
    (shapeCast S10800 (m ((c : Thread nD τ).loc main_arg4) : FVec Ideal S1x10800 .f32) shapeCasts_S1x10800_S10800)
    slices_S10800_S1536_1024) shapeCasts_S1536_S1x1536 : FVec Ideal S1x1536 .f32) := by
  show StableHlo.after (List.flatten [hostOps0]) (fun b => m (c, b)) (Proc.devRef .tc _) = _
  simp only [hostOps0, List.flatten_cons, List.flatten_nil, List.append_nil]
  after_results_simp <;> rfl

/-- A row's element. -/
theorem rows_apply (xp : FVec Ideal S2x4096x2048 .f32) (xs : FVec Ideal S32x4x2048 .f32) (r : Fin 8320) (k : Fin 2048) :
    (truncf .bf16 (concatenate S8320x2048 0 [⟨S8192x2048, shapeCast S8192x2048 xp shapeCasts_S2x4096x2048_S8192x2048⟩,
      ⟨S128x2048, shapeCast S128x2048 xs shapeCasts_S32x4x2048_S128x2048⟩] concatenates_S8192x2048_S128x2048_S8320x2048_d0) bitsLt_bf16_f32
      : FVec Ideal S8320x2048 .bf16) (ix2 r k) = row xp xs r k := by
  pointwise
  rfl

/-- A weight. -/
theorem cols_apply (w : FVec Ideal S1x2048x10800 .f32) (k : Fin 2048) (j : Fin 1536) :
    (truncf .bf16 (extractStridedSlice S2048x1536 ![0, 1024] (shapeCast S2048x10800 w shapeCasts_S1x2048x10800_S2048x10800)
      slices_S2048x10800_S2048x1536_0_1024) bitsLt_bf16_f32 : FVec Ideal S2048x1536 .bf16) (ix2 k j) = w (ix3 0 k ⟨1024 + j.val, by omega⟩) := by
  pointwise

/-- A bias. -/
theorem bias_apply (b : FVec Ideal S1x10800 .f32) (j : Fin 1536) :
    (shapeCast S1x1536 (extractStridedSlice S1536 ![1024] (shapeCast S10800 b shapeCasts_S1x10800_S10800)
      slices_S10800_S1536_1024) shapeCasts_S1536_S1x1536 : FVec Ideal S1x1536 .f32) (ix2 0 j) = b (ix2 0 ⟨1024 + j.val, by omega⟩) := by
  pointwise

end Cert.ProjKvIdeal.Kv

end
-- ==== Proof.KvArr.lean ====
module

public import proofs.«01_k».proof.Proof.KvTile
public import proofs.«01_k».proof.Proof.KvIn

@[expose] public section

set_option maxRecDepth 16384
set_option Elab.async false

noncomputable section

/-! # What the launch leaves in its two outputs

Row `r`'s product with column `1024 + j` of the weights, plus that column's bias; the second output holds the same
numbers by heads. -/

namespace Cert.ProjKvIdeal.Kv

open Cert.ProjKvIdeal Cert.ProjKvIdeal.Gen
open Idealize.ShloMosaic
open Idealize.ShloMosaic.TcCoe Idealize.ShloMosaic.Tactic
open Idealize.ShloMosaic.Pipeline (Dat Cfg Window)

/-- A row's product with a column of the weights, plus the column's bias. -/
def lin (x : Fin 2048 → EReal) (w : FVec Ideal S1x2048x10800 .f32) (b : FVec Ideal S1x10800 .f32) (j : Fin 10800) : EReal :=
  (∑ k : Fin 2048, x k * w (ix3 0 k j)) + b (ix2 0 j)

variable (m : (ℓ : Loc nD τ sig) → Buf (Elt Ideal) ℓ)

/-- The projection's element at a row and a key or value column. -/
def kvAt (c : Dev nD) (r : Fin 8320) (j : Fin 1536) : EReal :=
  lin (row (m ((c : Thread nD τ).loc main_arg0)) (m ((c : Thread nD τ).loc main_arg1)) r) (m ((c : Thread nD τ).loc main_arg3))
    (m ((c : Thread nD τ).loc main_arg4)) ⟨1024 + j.val, by omega⟩

/-- The block indices of the windows at a point. -/
theorem idx : ∀ t : Fin cfg0.N, (cfg0.win 0).index t = ![t.val / 3, 0] ∧ (cfg0.win 1).index t = ![0, t.val % 3]
    ∧ (cfg0.win 2).index t = ![0, t.val % 3] ∧ (cfg0.win 3).index t = ![t.val / 3, t.val % 3]
    ∧ (cfg0.win 4).index t = ![t.val % 3, t.val / 3, 0] := by decide +kernel

/-- The rows of a point's block. -/
theorem blk_rows (c : Dev nD) (t : Fin cfg0.N) (r : Fin 1664) (k : Fin 2048) (R : Fin 8320) (hR : R.val = 1664 * (t.val / 3) + r.val) :
    iblk m c 0 t (ix2 r k) = row (m ((c : Thread nD τ).loc main_arg0)) (m ((c : Thread nD τ).loc main_arg1)) R k := by
  rw [← rows_apply, ← V_rows]
  refine congrArg (V m c main_v3) (funext fun a => Fin.ext ?_)
  refine (Pipeline.Window.rect_emb_val (cfg0.win 0) t (ix2 r k) a).trans ?_
  rw [(idx t).1]
  match a with
  | ⟨0, _⟩ => show t.val / 3 * 1664 + r.val = R.val; omega
  | ⟨1, _⟩ => show 0 * 2048 + k.val = k.val; omega

/-- The columns of a point's block. -/
theorem blk_cols (c : Dev nD) (t : Fin cfg0.N) (k : Fin 2048) (j : Fin 512) (J : Fin 1536) (hJ : J.val = 512 * (t.val % 3) + j.val) :
    iblk m c 1 t (ix2 k j) = (m ((c : Thread nD τ).loc main_arg3) : FVec Ideal S1x2048x10800 .f32) (ix3 0 k ⟨1024 + J.val, by omega⟩) := by
  refine Eq.trans (congrArg (V m c main_v8) (funext fun a => Fin.ext ?_)) ((congrFun (V_cols m c) (ix2 k J)).trans (cols_apply _ k J))
  refine (Pipeline.Window.rect_emb_val (cfg0.win 1) t (ix2 k j) a).trans ?_
  rw [(idx t).2.1]
  match a with
  | ⟨0, _⟩ => show 0 * 2048 + k.val = k.val; omega
  | ⟨1, _⟩ => show t.val % 3 * 512 + j.val = J.val; omega

/-- The bias of a point's block. -/
theorem blk_bias (c : Dev nD) (t : Fin cfg0.N) (j : Fin 512) (J : Fin 1536) (hJ : J.val = 512 * (t.val % 3) + j.val) :
    iblk m c 2 t (ix2 0 j) = (m ((c : Thread nD τ).loc main_arg4) : FVec Ideal S1x10800 .f32) (ix2 0 ⟨1024 + J.val, by omega⟩) := by
  refine Eq.trans (congrArg (V m c main_v9) (funext fun a => Fin.ext ?_)) ((congrFun (V_bias m c) (ix2 0 J)).trans (bias_apply _  J))
  refine (Pipeline.Window.rect_emb_val (cfg0.win 2) t (ix2 0 j) a).trans ?_
  rw [(idx t).2.2.1]
  match a with
  | ⟨0, _⟩ => rfl
  | ⟨1, _⟩ => show t.val % 3 * 512 + j.val = J.val; omega

/-- A point's block holds the projection there. -/
theorem blk_dot (c : Dev nD) (t : Fin cfg0.N) (r : Fin 1664) (j : Fin 512) (R : Fin 8320) (J : Fin 1536)
    (hR : R.val = 1664 * (t.val / 3) + r.val) (hJ : J.val = 512 * (t.val % 3) + j.val) :
    dot (iblk m c 0 t) (iblk m c 1 t) (iblk m c 2 t) r j = kvAt m c R J := by
  unfold dot kvAt lin
  refine congrArg₂ (· + ·) (Finset.sum_congr rfl fun k _ => congrArg₂ (· * ·) (blk_rows m c t r k R hR) (blk_cols m c t k j J hJ)) (blk_bias m c t j J hJ)

/-- The projection, rows by columns. -/
def flat (c : Dev nD) : S8320x1536.Idx → EReal := fun i => kvAt m c (i 0) (i 1)

/-- The column that a head's column is. -/
def headCol (h : Fin 24) (d : Fin 64) : Fin 1536 := ⟨64 * h.val + d.val, by omega⟩

/-- The projection by heads. -/
def heads (c : Dev nD) : S24x8320x64.Idx → EReal := fun i => kvAt m c (i 1) (headCol (i 0) (i 2))

/-- What a point leaves in the first output's block is the projection there. -/
theorem flat_at (c : Dev nD) (t : Fin cfg0.N) (y : S1664x512.Idx) (i : S8320x1536.Idx)
    (h0 : (i 0).val = t.val / 3 * 1664 + (y 0).val) (h1 : (i 1).val = t.val % 3 * 512 + (y 1).val) :
    out0_3 (F := Ideal) (iblk m c 0 t) (iblk m c 1 t) (iblk m c 2 t) y = flat m c i := by
  obtain ⟨r, j, rfl⟩ : ∃ (r : Fin 1664) (j : Fin 512), y = ix2 r j := ⟨y 0, y 1, eq_ix2 y⟩
  have h0' : (i 0).val = t.val / 3 * 1664 + r.val := h0
  have h1' : (i 1).val = t.val % 3 * 512 + j.val := h1
  exact (out3_apply _ _ _ r j).trans (blk_dot m c t r j (i 0) (i 1) (by omega) (by omega))

/-- The same for the second output's block. -/
theorem heads_at (c : Dev nD) (t : Fin cfg0.N) (y : S8x1664x64.Idx) (i : S24x8320x64.Idx)
    (h0 : (i 0).val = t.val % 3 * 8 + (y 0).val) (h1 : (i 1).val = t.val / 3 * 1664 + (y 1).val) (h2 : (i 2).val = 0 * 64 + (y 2).val) :
    out0_4 (F := Ideal) (iblk m c 0 t) (iblk m c 1 t) (iblk m c 2 t) y = heads m c i := by
  obtain ⟨h, r, d, rfl⟩ : ∃ (h : Fin 8) (r : Fin 1664) (d : Fin 64), y = ix3 h r d := ⟨y 0, y 1, y 2, eq_ix3 y⟩
  have h0' : (i 0).val = t.val % 3 * 8 + h.val := h0
  have h1' : (i 1).val = t.val / 3 * 1664 + r.val := h1
  have h2' : (i 2).val = 0 * 64 + d.val := h2
  refine (out4_apply _ _ _ h r d).trans (blk_dot m c t r _ (i 1) (headCol (i 0) (i 2)) (by omega) ?_)
  show 64 * (i 0).val + (i 2).val = 512 * (t.val % 3) + (64 * h.val + d.val)
  omega

/-- The first output's blocks cover it. -/
theorem cov3 : (cfg0.win 3).Covers := by decide +kernel

/-- The first output after the launch. -/
theorem arr_flat (c : Dev nD) : (dats m 0 c).arrAt 3 cfg0.N = flat m c := by
  refine Dat.arrAt_eq_of_covers (dats m 0 c) 3 (flat m c) cov3 ?_ (Memref.isWhole_whole _)
  intro t hf y
  blk_simp
  rw [after0_3]
  have e0 := Pipeline.Window.rect_emb_val (cfg0.win 3) t y 0
  have e1 := Pipeline.Window.rect_emb_val (cfg0.win 3) t y 1
  rw [(idx t).2.2.2.1] at e0 e1
  exact flat_at m c t y _ e0 e1

/-- The second output's blocks cover it. -/
theorem cov4 : (cfg0.win 4).Covers := by decide +kernel

/-- The second output after the launch. -/
theorem arr_heads (c : Dev nD) : (dats m 0 c).arrAt 4 cfg0.N = heads m c := by
  refine Dat.arrAt_eq_of_covers (dats m 0 c) 4 (heads m c) cov4 ?_ (Memref.isWhole_whole _)
  intro t hf y
  blk_simp
  rw [after0_4]
  have e0 := Pipeline.Window.rect_emb_val (cfg0.win 4) t y 0
  have e1 := Pipeline.Window.rect_emb_val (cfg0.win 4) t y 1
  have e2 := Pipeline.Window.rect_emb_val (cfg0.win 4) t y 2
  rw [(idx t).2.2.2.2] at e0 e1 e2
  exact heads_at m c t y _ e0 e1 e2

end Cert.ProjKvIdeal.Kv

end
-- ==== Proof.KvCut.lean ====
module

public import proofs.«01_k».proof.Proof.KvArr

@[expose] public section

set_option maxRecDepth 16384
set_option Elab.async false

noncomputable section

/-! # The kernel's cuts of the projection, element by element

After the launch the host code cuts the projection into the new cache rows: the four paged slots of prompt and sample,
and the window of the last positions. -/

namespace Cert.ProjKvIdeal.Kv

open Cert.ProjKvIdeal Cert.ProjKvIdeal.Gen
open Idealize.ShloMosaic Idealize.ShloMosaic.Tactic

/-- The prompt's rows of the projection. -/
def cutP (A : FVec Ideal S8320x1536 .f32) : FVec Ideal S1x2x4096x6x4x64 .f32 :=
  shapeCast S1x2x4096x6x4x64 (extractStridedSlice S8192x1536 ![0, 0] A slices_S8320x1536_S8192x1536_0_0) shapeCasts_S8192x1536_S1x2x4096x6x4x64

/-- The sample's rows of the projection. -/
def cutS (A : FVec Ideal S8320x1536 .f32) : FVec Ideal S1x32x4x6x4x64 .f32 :=
  shapeCast S1x32x4x6x4x64 (extractStridedSlice S128x1536 ![8192, 0] A slices_S8320x1536_S128x1536_8192_0) shapeCasts_S128x1536_S1x32x4x6x4x64

/-- The prompt's rows, element by element. -/
theorem cutP_apply (A : FVec Ideal S8320x1536 .f32) (u : Fin 1) (b : Fin 2) (t : Fin 4096) (s : Fin 6) (g : Fin 4) (d : Fin 64) :
    cutP A (ix6 u b t s g d) = A (ix2 ⟨b.val * 4096 + t.val, by omega⟩ ⟨s.val * 256 + g.val * 64 + d.val, by omega⟩) := by
  pointwise [cutP]

/-- The sample's rows, element by element. -/
theorem cutS_apply (A : FVec Ideal S8320x1536 .f32) (u : Fin 1) (b : Fin 32) (t : Fin 4) (s : Fin 6) (g : Fin 4) (d : Fin 64) :
    cutS A (ix6 u b t s g d) = A (ix2 ⟨8192 + (b.val * 4 + t.val), by omega⟩ ⟨s.val * 256 + g.val * 64 + d.val, by omega⟩) := by
  pointwise [cutS]

/-- The paged slots of the prompt. -/
def slotsP (V : FVec Ideal S1x2x4096x6x4x64 .f32) : FVec Ideal S1x2x4096x4x4x64 .f32 :=
  extractStridedSlice S1x2x4096x4x4x64 ![0, 0, 0, 0, 0, 0] V slices_S1x2x4096x6x4x64_S1x2x4096x4x4x64_0_0_0_0_0_0

/-- The paged slots of the sample. -/
def slotsS (V : FVec Ideal S1x32x4x6x4x64 .f32) : FVec Ideal S1x32x4x4x4x64 .f32 :=
  extractStridedSlice S1x32x4x4x4x64 ![0, 0, 0, 0, 0, 0] V slices_S1x32x4x6x4x64_S1x32x4x4x4x64_0_0_0_0_0_0

/-- The window of the prompt's last positions. -/
def winP (V : FVec Ideal S1x2x4096x6x4x64 .f32) : FVec Ideal S1x2x512x2x4x64 .f32 :=
  extractStridedSlice S1x2x512x2x4x64 ![0, 0, 3584, 4, 0, 0] V slices_S1x2x4096x6x4x64_S1x2x512x2x4x64_0_0_3584_4_0_0

/-- The sample's window: the old one followed by the new positions, and of these the last. -/
def winS (C : FVec Ideal S1x32x512x2x4x64 .f32) (V : FVec Ideal S1x32x4x6x4x64 .f32) : FVec Ideal S1x32x512x2x4x64 .f32 :=
  extractStridedSlice S1x32x512x2x4x64 ![0, 0, 4, 0, 0, 0] (concatenate S1x32x516x2x4x64 2
    [⟨S1x32x512x2x4x64, C⟩, ⟨S1x32x4x2x4x64, extractStridedSlice S1x32x4x2x4x64 ![0, 0, 0, 4, 0, 0] V slices_S1x32x4x6x4x64_S1x32x4x2x4x64_0_0_0_4_0_0⟩]
    concatenates_S1x32x512x2x4x64_S1x32x4x2x4x64_S1x32x516x2x4x64_d2) slices_S1x32x516x2x4x64_S1x32x512x2x4x64_0_0_4_0_0_0

/-- The prompt's slots, element by element. -/
theorem slotsP_apply (V : FVec Ideal S1x2x4096x6x4x64 .f32) (u : Fin 1) (b : Fin 2) (t : Fin 4096) (s : Fin 4) (g : Fin 4) (d : Fin 64) :
    slotsP V (ix6 u b t s g d) = V (ix6 0 b t ⟨s.val, by omega⟩ g d) := by
  pointwise [slotsP]

/-- The sample's slots, element by element. -/
theorem slotsS_apply (V : FVec Ideal S1x32x4x6x4x64 .f32) (u : Fin 1) (b : Fin 32) (t : Fin 4) (s : Fin 4) (g : Fin 4) (d : Fin 64) :
    slotsS V (ix6 u b t s g d) = V (ix6 0 b t ⟨s.val, by omega⟩ g d) := by
  pointwise [slotsS]

/-- The prompt's window, element by element. -/
theorem winP_apply (V : FVec Ideal S1x2x4096x6x4x64 .f32) (u : Fin 1) (b : Fin 2) (t : Fin 512) (s : Fin 2) (g : Fin 4) (d : Fin 64) :
    winP V (ix6 u b t s g d) = V (ix6 0 b ⟨3584 + t.val, by omega⟩ ⟨4 + s.val, by omega⟩ g d) := by
  pointwise [winP]

/-- The sample's window, element by element. -/
theorem winS_apply (C : FVec Ideal S1x32x512x2x4x64 .f32) (V : FVec Ideal S1x32x4x6x4x64 .f32) (u : Fin 1) (b : Fin 32) (t : Fin 512) (s : Fin 2) (g : Fin 4) (d : Fin 64) :
    winS C V (ix6 u b t s g d) = if h : 4 + t.val < 512 then C (ix6 0 b ⟨4 + t.val, by omega⟩ s g d)
      else V (ix6 0 b ⟨4 + t.val - 512, by omega⟩ ⟨4 + s.val, by omega⟩ g d) := by
  pointwise [winS]

end Cert.ProjKvIdeal.Kv

end
-- ==== Proof.KvOut.lean ====
module

public import proofs.«01_k».proof.Proof.KvCut

@[expose] public section

set_option maxRecDepth 16384
set_option Elab.async false

noncomputable section

/-! # What the kernel leaves

The five results after the run, and the arguments unchanged. -/

namespace Cert.ProjKvIdeal.Kv

open Cert.ProjKvIdeal Cert.ProjKvIdeal.Gen
open Idealize.ShloMosaic Idealize.SL.Sem
open Idealize.ShloMosaic.TcCoe Idealize.ShloMosaic.Tactic
open Idealize.ShloMosaic.Pipeline (Dat Cfg Window)

variable (m : (ℓ : Loc nD τ sig) → Buf (Elt Ideal) ℓ)

/-- After the launch the first output's array is the projection. -/
theorem with_flat (c : Dev nD) : Pipeline.withArrays (cfgs 0).spec c (V0 m c) (fun w => (dats m 0 c).arrAt w (cfgs 0).N)
    (Proc.tc.devRef main_v10_0) = flat m c :=
  (Pipeline.withArrays_arr spec0 (by decide) c (V0 m c) (fun w => (dats m 0 c).arrAt w (cfgs 0).N) 3).trans (arr_flat m c)

/-- After the launch the sample's old window is as it was. -/
theorem with_cache (c : Dev nD) : Pipeline.withArrays (cfgs 0).spec c (V0 m c) (fun w => (dats m 0 c).arrAt w (cfgs 0).N)
    (Proc.tc.devRef main_arg2) = m ((c : Thread nD τ).loc main_arg2) :=
  (Pipeline.withArrays_of_ne spec0 c (V0 m c) _ main_arg2 (by exact (by decide : ∀ w, Pipeline.arrRef spec0 w ≠ main_arg2))).trans (V_main_arg2 m c)

/-- The new cache rows of the prompt. -/
theorem tail_v15 (c : Dev nD) : Pipeline.afterTail₀ cfgs (dats m) 0 (V0 m) [hostOps1] c main_v15 = slotsP (cutP (flat m c)) := by
  rw [← with_flat m c]
  unfold Pipeline.afterTail₀
  simp only [hostOps1, List.flatten_cons, List.flatten_nil, List.append_nil]
  after_results_simp <;> rfl

/-- The new cache rows of the sample. -/
theorem tail_v16 (c : Dev nD) : Pipeline.afterTail₀ cfgs (dats m) 0 (V0 m) [hostOps1] c main_v16 = slotsS (cutS (flat m c)) := by
  rw [← with_flat m c]
  unfold Pipeline.afterTail₀
  simp only [hostOps1, List.flatten_cons, List.flatten_nil, List.append_nil]
  after_results_simp <;> rfl

/-- The new window of the prompt. -/
theorem tail_v17 (c : Dev nD) : Pipeline.afterTail₀ cfgs (dats m) 0 (V0 m) [hostOps1] c main_v17 = winP (cutP (flat m c)) := by
  rw [← with_flat m c]
  unfold Pipeline.afterTail₀
  simp only [hostOps1, List.flatten_cons, List.flatten_nil, List.append_nil]
  after_results_simp <;> rfl

/-- The new window of the sample. -/
theorem tail_v20 (c : Dev nD) : Pipeline.afterTail₀ cfgs (dats m) 0 (V0 m) [hostOps1] c main_v20 = winS (m ((c : Thread nD τ).loc main_arg2)) (cutS (flat m c)) := by
  rw [← with_flat m c, ← with_cache m c]
  unfold Pipeline.afterTail₀
  simp only [hostOps1, List.flatten_cons, List.flatten_nil, List.append_nil]
  after_results_simp <;> rfl

/-- The kernel ends with the cuts of the projection in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v15) = slotsP (cutP (flat m c))
      ∧ r.2.mem ((c.tc : Thread nD τ).loc main_v16) = slotsS (cutS (flat m c))
      ∧ r.2.mem ((c.tc : Thread nD τ).loc main_v17) = winP (cutP (flat m c))
      ∧ r.2.mem ((c.tc : Thread nD τ).loc main_v20) = winS (m ((c : Thread nD τ).loc main_arg2)) (cutS (flat m c))
      ∧ r.2.mem ((c.tc : Thread nD τ).loc main_v10_1) = heads m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨
     ((h c).2 main_v15 (Pipeline.mem_restRefs_of main_v15 (by decide) (by decide))).trans (tail_v15 m c),
     ((h c).2 main_v16 (Pipeline.mem_restRefs_of main_v16 (by decide) (by decide))).trans (tail_v16 m c),
     ((h c).2 main_v17 (Pipeline.mem_restRefs_of main_v17 (by decide) (by decide))).trans (tail_v17 m c),
     ((h c).2 main_v20 (Pipeline.mem_restRefs_of main_v20 (by decide) (by decide))).trans (tail_v20 m c),
     ((h c).1 4).trans (arr_heads m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m g)

end Cert.ProjKvIdeal.Kv

end
-- ==== Proof.KvRef.lean ====
module

public import proofs.«01_k».proof.Proof.KvArr
public import proofs.«01_k».proof.Proof.Gen.ProjKvRefIdeal.Run

@[expose] public section

set_option maxRecDepth 16384
set_option Elab.async false

noncomputable section

/-! # The reference's results, element by element

The reference projects prompt and sample each by itself on all the columns, keeps the key and value columns, and cuts
them as the kernel does. -/

namespace Cert.ProjKvRefIdeal.Ref

open Cert.ProjKvRefIdeal Cert.ProjKvRefIdeal.Gen
open Idealize.ShloMosaic Idealize.ShloMosaic.Tactic
open Cert.ProjKvIdeal.Kv (lin)

/-- The prompt's key and value columns of the projection. -/
def projP (x : FVec Ideal S2x4096x2048 .f32) (w : FVec Ideal S1x2048x10800 .f32) (b : FVec Ideal S1x10800 .f32) : FVec Ideal S2x4096x6x4x64 .f32 :=
  shapeCast S2x4096x6x4x64 (extractStridedSlice S2x4096x1536 ![0, 0, 1024] (addf (Host.dotGeneral dot_S2x4096x2048_S2048x10800_S2x4096x10800_2_0_01_1_n_n none x (shapeCast S2048x10800 w shapeCasts_S1x2048x10800_S2048x10800)) (broadcastInDim S2x4096x10800 ![0, 1, 2] bcast_S1x1x10800_S2x4096x10800_0_1_2 (broadcastInDim S1x1x10800 ![2] bcast_S10800_S1x1x10800_2 (shapeCast S10800 b shapeCasts_S1x10800_S10800)))) slices_S2x4096x10800_S2x4096x1536_0_0_1024) shapeCasts_S2x4096x1536_S2x4096x6x4x64

/-- The prompt's projection, element by element. -/
theorem projP_apply (x : FVec Ideal S2x4096x2048 .f32) (w : FVec Ideal S1x2048x10800 .f32) (b : FVec Ideal S1x10800 .f32)
    (e : Fin 2) (t : Fin 4096) (s : Fin 6) (g : Fin 4) (d : Fin 64) :
    projP x w b (ix5 e t s g d) = lin (fun k => x (ix3 e t k)) w b ⟨1024 + (s.val * 256 + g.val * 64 + d.val), by omega⟩ := by
  pointwise [projP, lin]

/-- The sample's key and value columns of the projection. -/
def projS (x : FVec Ideal S32x4x2048 .f32) (w : FVec Ideal S1x2048x10800 .f32) (b : FVec Ideal S1x10800 .f32) : FVec Ideal S32x4x6x4x64 .f32 :=
  shapeCast S32x4x6x4x64 (extractStridedSlice S32x4x1536 ![0, 0, 1024] (addf (Host.dotGeneral dot_S32x4x2048_S2048x10800_S32x4x10800_2_0_01_1_n_n none x (shapeCast S2048x10800 w shapeCasts_S1x2048x10800_S2048x10800)) (broadcastInDim S32x4x10800 ![0, 1, 2] bcast_S1x1x10800_S32x4x10800_0_1_2 (broadcastInDim S1x1x10800 ![2] bcast_S10800_S1x1x10800_2 (shapeCast S10800 b shapeCasts_S1x10800_S10800)))) slices_S32x4x10800_S32x4x1536_0_0_1024) shapeCasts_S32x4x1536_S32x4x6x4x64

/-- The sample's projection, element by element. -/
theorem projS_apply (x : FVec Ideal S32x4x2048 .f32) (w : FVec Ideal S1x2048x10800 .f32) (b : FVec Ideal S1x10800 .f32)
    (e : Fin 32) (t : Fin 4) (s : Fin 6) (g : Fin 4) (d : Fin 64) :
    projS x w b (ix5 e t s g d) = lin (fun k => x (ix3 e t k)) w b ⟨1024 + (s.val * 256 + g.val * 64 + d.val), by omega⟩ := by
  pointwise [projS, lin]

/-- The paged slots of the prompt. -/
def slotsP (V : FVec Ideal S2x4096x6x4x64 .f32) : FVec Ideal S1x2x4096x4x4x64 .f32 :=
  broadcastInDim S1x2x4096x4x4x64 ![1, 2, 3, 4, 5] bcast_S2x4096x4x4x64_S1x2x4096x4x4x64_1_2_3_4_5 (extractStridedSlice S2x4096x4x4x64 ![0, 0, 0, 0, 0] V slices_S2x4096x6x4x64_S2x4096x4x4x64_0_0_0_0_0)

/-- The paged slots of the sample. -/
def slotsS (V : FVec Ideal S32x4x6x4x64 .f32) : FVec Ideal S1x32x4x4x4x64 .f32 :=
  broadcastInDim S1x32x4x4x4x64 ![1, 2, 3, 4, 5] bcast_S32x4x4x4x64_S1x32x4x4x4x64_1_2_3_4_5 (extractStridedSlice S32x4x4x4x64 ![0, 0, 0, 0, 0] V slices_S32x4x6x4x64_S32x4x4x4x64_0_0_0_0_0)

/-- The window of the prompt's last positions. -/
def winP (V : FVec Ideal S2x4096x6x4x64 .f32) : FVec Ideal S1x2x512x2x4x64 .f32 :=
  broadcastInDim S1x2x512x2x4x64 ![1, 2, 3, 4, 5] bcast_S2x512x2x4x64_S1x2x512x2x4x64_1_2_3_4_5 (extractStridedSlice S2x512x2x4x64 ![0, 3584, 4, 0, 0] V slices_S2x4096x6x4x64_S2x512x2x4x64_0_3584_4_0_0)

/-- The sample's window: the old one followed by the new positions, and of these the last. -/
def winS (C : FVec Ideal S1x32x512x2x4x64 .f32) (V : FVec Ideal S32x4x6x4x64 .f32) : FVec Ideal S1x32x512x2x4x64 .f32 :=
  broadcastInDim S1x32x512x2x4x64 ![1, 2, 3, 4, 5] bcast_S32x512x2x4x64_S1x32x512x2x4x64_1_2_3_4_5 (extractStridedSlice S32x512x2x4x64 ![0, 4, 0, 0, 0] (concatenate S32x516x2x4x64 1 [⟨S32x512x2x4x64, (shapeCast S32x512x2x4x64 C shapeCasts_S1x32x512x2x4x64_S32x512x2x4x64)⟩, ⟨S32x4x2x4x64, (extractStridedSlice S32x4x2x4x64 ![0, 0, 4, 0, 0] V slices_S32x4x6x4x64_S32x4x2x4x64_0_0_4_0_0)⟩] concatenates_S32x512x2x4x64_S32x4x2x4x64_S32x516x2x4x64_d1) slices_S32x516x2x4x64_S32x512x2x4x64_0_4_0_0_0)

/-- All the rows by heads. -/
def byHead (P : FVec Ideal S2x4096x6x4x64 .f32) (S : FVec Ideal S32x4x6x4x64 .f32) : FVec Ideal S24x8320x64 .bf16 :=
  truncf .bf16 (transpose S24x8320x64 [1, 0, 2] (concatenate S8320x24x64 0 [⟨S8192x24x64, (shapeCast S8192x24x64 P shapeCasts_S2x4096x6x4x64_S8192x24x64)⟩, ⟨S128x24x64, (shapeCast S128x24x64 S shapeCasts_S32x4x6x4x64_S128x24x64)⟩] concatenates_S8192x24x64_S128x24x64_S8320x24x64_d0) transposes_S8320x24x64_S24x8320x64_1_0_2) bitsLt_bf16_f32

/-- The prompt's slots, element by element. -/
theorem slotsP_apply (V : FVec Ideal S2x4096x6x4x64 .f32) (u : Fin 1) (b : Fin 2) (t : Fin 4096) (s : Fin 4) (g : Fin 4) (d : Fin 64) :
    slotsP V (ix6 u b t s g d) = V (ix5 b t ⟨s.val, by omega⟩ g d) := by
  pointwise [slotsP]

/-- The sample's slots, element by element. -/
theorem slotsS_apply (V : FVec Ideal S32x4x6x4x64 .f32) (u : Fin 1) (b : Fin 32) (t : Fin 4) (s : Fin 4) (g : Fin 4) (d : Fin 64) :
    slotsS V (ix6 u b t s g d) = V (ix5 b t ⟨s.val, by omega⟩ g d) := by
  pointwise [slotsS]

/-- The prompt's window, element by element. -/
theorem winP_apply (V : FVec Ideal S2x4096x6x4x64 .f32) (u : Fin 1) (b : Fin 2) (t : Fin 512) (s : Fin 2) (g : Fin 4) (d : Fin 64) :
    winP V (ix6 u b t s g d) = V (ix5 b ⟨3584 + t.val, by omega⟩ ⟨4 + s.val, by omega⟩ g d) := by
  pointwise [winP]

/-- The sample's window, element by element. -/
theorem winS_apply (C : FVec Ideal S1x32x512x2x4x64 .f32) (V : FVec Ideal S32x4x6x4x64 .f32) (u : Fin 1) (b : Fin 32) (t : Fin 512) (s : Fin 2) (g : Fin 4) (d : Fin 64) :
    winS C V (ix6 u b t s g d) = if h : 4 + t.val < 512 then C (ix6 0 b ⟨4 + t.val, by omega⟩ s g d)
      else V (ix5 b ⟨4 + t.val - 512, by omega⟩ ⟨4 + s.val, by omega⟩ g d) := by
  pointwise [winS]

/-- The rows by heads, element by element. -/
theorem byHead_apply (P : FVec Ideal S2x4096x6x4x64 .f32) (S : FVec Ideal S32x4x6x4x64 .f32) (h : Fin 24) (r : Fin 8320) (d : Fin 64) :
    byHead P S (ix3 h r d) = if hr : r.val < 8192 then P (ix5 ⟨r.val / 4096, by omega⟩ ⟨r.val % 4096, by omega⟩ ⟨h.val / 4, by omega⟩ ⟨h.val % 4, by omega⟩ d)
      else S (ix5 ⟨(r.val - 8192) / 4, by omega⟩ ⟨(r.val - 8192) % 4, by omega⟩ ⟨h.val / 4, by omega⟩ ⟨h.val % 4, by omega⟩ d) := by
  pointwise [byHead]

end Cert.ProjKvRefIdeal.Ref

end
-- ==== Proof.KvSame.lean ====
module

public import proofs.«01_k».proof.Proof.KvOut
public import proofs.«01_k».proof.Proof.KvRef

@[expose] public section

set_option maxRecDepth 16384
set_option Elab.async false

noncomputable section

/-! # The kernel and the reference compute the same

Each result of both, element by element, is the projection at the same row and column. -/

namespace Cert.KvSame

open Cert.ProjKvIdeal Cert.ProjKvIdeal.Gen Cert.ProjKvIdeal.Kv
open Idealize.ShloMosaic
open Idealize.ShloMosaic.TcCoe Idealize.ShloMosaic.Tactic
open Cert.ProjKvRefIdeal.Ref (projP projS projP_apply projS_apply byHead byHead_apply)

/-- A prompt row of all the rows. -/
theorem row_prompt (xp : FVec Ideal S2x4096x2048 .f32) (xs : FVec Ideal S32x4x2048 .f32) (b : Fin 2) (t : Fin 4096) (r : Fin 8320)
    (hr : r.val = b.val * 4096 + t.val) : row xp xs r = fun k => xp (ix3 b t k) := by
  funext k
  have h1 : r.val < 8192 := by omega
  have hb : (⟨r.val / 4096, by omega⟩ : Fin 2) = b := Fin.ext (by show r.val / 4096 = b.val; omega)
  have ht : (⟨r.val % 4096, by omega⟩ : Fin 4096) = t := Fin.ext (by show r.val % 4096 = t.val; omega)
  rw [row, dif_pos h1, hb, ht]

/-- A sample row of all the rows. -/
theorem row_sample (xp : FVec Ideal S2x4096x2048 .f32) (xs : FVec Ideal S32x4x2048 .f32) (b : Fin 32) (t : Fin 4) (r : Fin 8320)
    (hr : r.val = 8192 + (b.val * 4 + t.val)) : row xp xs r = fun k => xs (ix3 b t k) := by
  funext k
  have h1 : ¬ r.val < 8192 := by omega
  have hb : (⟨(r.val - 8192) / 4, by omega⟩ : Fin 32) = b := Fin.ext (by show (r.val - 8192) / 4 = b.val; omega)
  have ht : (⟨(r.val - 8192) % 4, by omega⟩ : Fin 4) = t := Fin.ext (by show (r.val - 8192) % 4 = t.val; omega)
  rw [row, dif_neg h1, hb, ht]

variable (m : (ℓ : Loc nD τ sig) → Buf (Elt Ideal) ℓ)

/-- The prompt's rows, in the kernel's projection and in the reference's. -/
theorem cutP_eq (c : Dev nD) (u : Fin 1) (b : Fin 2) (t : Fin 4096) (s : Fin 6) (g : Fin 4) (d : Fin 64) :
    projP (m ((c : Thread nD τ).loc main_arg0)) (m ((c : Thread nD τ).loc main_arg3)) (m ((c : Thread nD τ).loc main_arg4)) (ix5 b t s g d)
      = cutP (flat m c) (ix6 u b t s g d) := by
  rw [projP_apply, cutP_apply]
  exact congrArg (fun x => lin x _ _ _) (row_prompt _ _ b t _ rfl).symm

/-- The sample's rows, in the kernel's projection and in the reference's. -/
theorem cutS_eq (c : Dev nD) (u : Fin 1) (b : Fin 32) (t : Fin 4) (s : Fin 6) (g : Fin 4) (d : Fin 64) :
    projS (m ((c : Thread nD τ).loc main_arg1)) (m ((c : Thread nD τ).loc main_arg3)) (m ((c : Thread nD τ).loc main_arg4)) (ix5 b t s g d)
      = cutS (flat m c) (ix6 u b t s g d) := by
  rw [projS_apply, cutS_apply]
  exact congrArg (fun x => lin x _ _ _) (row_sample _ _ b t _ rfl).symm

/-- The new cache rows of the prompt. -/
theorem slotsP_eq (c : Dev nD) : Cert.ProjKvRefIdeal.Ref.slotsP (projP (m ((c : Thread nD τ).loc main_arg0)) (m ((c : Thread nD τ).loc main_arg3)) (m ((c : Thread nD τ).loc main_arg4)))
    = slotsP (cutP (flat m c)) := by
  funext i
  obtain ⟨u, b, t, s, g, d, rfl⟩ : ∃ (u : Fin 1) (b : Fin 2) (t : Fin 4096) (s : Fin 4) (g : Fin 4) (d : Fin 64), i = ix6 u b t s g d := ⟨i 0, i 1, i 2, i 3, i 4, i 5, eq_ix6 i⟩
  exact (Cert.ProjKvRefIdeal.Ref.slotsP_apply _ u b t s g d).trans ((cutP_eq m c 0 b t _ g d).trans (slotsP_apply _ u b t s g d).symm)

/-- The new cache rows of the sample. -/
theorem slotsS_eq (c : Dev nD) : Cert.ProjKvRefIdeal.Ref.slotsS (projS (m ((c : Thread nD τ).loc main_arg1)) (m ((c : Thread nD τ).loc main_arg3)) (m ((c : Thread nD τ).loc main_arg4)))
    = slotsS (cutS (flat m c)) := by
  funext i
  obtain ⟨u, b, t, s, g, d, rfl⟩ : ∃ (u : Fin 1) (b : Fin 32) (t : Fin 4) (s : Fin 4) (g : Fin 4) (d : Fin 64), i = ix6 u b t s g d := ⟨i 0, i 1, i 2, i 3, i 4, i 5, eq_ix6 i⟩
  exact (Cert.ProjKvRefIdeal.Ref.slotsS_apply _ u b t s g d).trans ((cutS_eq m c 0 b t _ g d).trans (slotsS_apply _ u b t s g d).symm)

/-- The prompt's new window. -/
theorem winP_eq (c : Dev nD) : Cert.ProjKvRefIdeal.Ref.winP (projP (m ((c : Thread nD τ).loc main_arg0)) (m ((c : Thread nD τ).loc main_arg3)) (m ((c : Thread nD τ).loc main_arg4)))
    = winP (cutP (flat m c)) := by
  funext i
  obtain ⟨u, b, t, s, g, d, rfl⟩ : ∃ (u : Fin 1) (b : Fin 2) (t : Fin 512) (s : Fin 2) (g : Fin 4) (d : Fin 64), i = ix6 u b t s g d := ⟨i 0, i 1, i 2, i 3, i 4, i 5, eq_ix6 i⟩
  exact (Cert.ProjKvRefIdeal.Ref.winP_apply _ u b t s g d).trans ((cutP_eq m c 0 b _ _ g d).trans (winP_apply _ u b t s g d).symm)

/-- The sample's new window. -/
theorem winS_eq (c : Dev nD) : Cert.ProjKvRefIdeal.Ref.winS (m ((c : Thread nD τ).loc main_arg2)) (projS (m ((c : Thread nD τ).loc main_arg1)) (m ((c : Thread nD τ).loc main_arg3)) (m ((c : Thread nD τ).loc main_arg4)))
    = winS (m ((c : Thread nD τ).loc main_arg2)) (cutS (flat m c)) := by
  funext i
  obtain ⟨u, b, t, s, g, d, rfl⟩ : ∃ (u : Fin 1) (b : Fin 32) (t : Fin 512) (s : Fin 2) (g : Fin 4) (d : Fin 64), i = ix6 u b t s g d := ⟨i 0, i 1, i 2, i 3, i 4, i 5, eq_ix6 i⟩
  refine (Cert.ProjKvRefIdeal.Ref.winS_apply _ _ u b t s g d).trans (Eq.trans ?_ (winS_apply _ _ u b t s g d).symm)
  split
  · rfl
  · exact cutS_eq m c 0 b _ _ g d

/-- The rows by heads. -/
theorem heads_eq (c : Dev nD) : byHead (projP (m ((c : Thread nD τ).loc main_arg0)) (m ((c : Thread nD τ).loc main_arg3)) (m ((c : Thread nD τ).loc main_arg4)))
    (projS (m ((c : Thread nD τ).loc main_arg1)) (m ((c : Thread nD τ).loc main_arg3)) (m ((c : Thread nD τ).loc main_arg4))) = heads m c := by
  funext i
  obtain ⟨h, r, d, rfl⟩ : ∃ (h : Fin 24) (r : Fin 8320) (d : Fin 64), i = ix3 h r d := ⟨i 0, i 1, i 2, eq_ix3 i⟩
  have hj : 1024 + (h.val / 4 * 256 + h.val % 4 * 64 + d.val) = 1024 + (64 * h.val + d.val) := by omega
  refine (byHead_apply _ _ h r d).trans ?_
  show _ = lin (row _ _ r) _ _ ⟨1024 + (64 * h.val + d.val), _⟩
  split
  · next hr =>
    rw [projP_apply, row_prompt _ _ ⟨r.val / 4096, by omega⟩ ⟨r.val % 4096, by omega⟩ r (by show r.val = r.val / 4096 * 4096 + r.val % 4096; omega)]
    exact congrArg (lin _ _ _) (Fin.ext hj)
  · next hr =>
    rw [projS_apply, row_sample _ _ ⟨(r.val - 8192) / 4, by omega⟩ ⟨(r.val - 8192) % 4, by omega⟩ r (by show r.val = 8192 + ((r.val - 8192) / 4 * 4 + (r.val - 8192) % 4); omega)]
    exact congrArg (lin _ _ _) (Fin.ext hj)

end Cert.KvSame

end
-- ==== Proof.Rows.lean ====
module

public import Idealize.ShloMosaic.Lib.Pipeline.ValueKit

@[expose] public section

set_option maxRecDepth 16384
set_option Elab.async false

noncomputable section

/-! # The projection's mathematics

The rows are the prompt's followed by the sample's. An element of the projection is a row's product with a column of the
weights, plus the column's bias. -/

namespace Cert.Rows

open Idealize.ShloMosaic

/-- Row `r` of the prompt's rows followed by the sample's. -/
def row (xp : FVec Ideal ⟨3, ![2, 4096, 2048]⟩ .f32) (xs : FVec Ideal ⟨3, ![32, 4, 2048]⟩ .f32) (r : Fin 8320) (k : Fin 2048) : EReal :=
  if h : r.val < 8192 then xp (ix3 ⟨r.val / 4096, by omega⟩ ⟨r.val % 4096, by omega⟩ k)
  else xs (ix3 ⟨(r.val - 8192) / 4, by omega⟩ ⟨(r.val - 8192) % 4, by omega⟩ k)

/-- A row's product with a column of the weights, plus the column's bias. -/
def lin (x : Fin 2048 → EReal) (w : FVec Ideal ⟨3, ![1, 2048, 10800]⟩ .f32) (b : FVec Ideal ⟨2, ![1, 10800]⟩ .f32) (j : Fin 10800) : EReal :=
  (∑ k : Fin 2048, x k * w (ix3 0 k j)) + b (ix2 0 j)

/-- The projection at a row and a column. -/
def proj (xp : FVec Ideal ⟨3, ![2, 4096, 2048]⟩ .f32) (xs : FVec Ideal ⟨3, ![32, 4, 2048]⟩ .f32) (w : FVec Ideal ⟨3, ![1, 2048, 10800]⟩ .f32)
    (b : FVec Ideal ⟨2, ![1, 10800]⟩ .f32) (r : Fin 8320) (j : Fin 10800) : EReal := lin (row xp xs r) w b j

/-- The projection of a prompt row, -/
theorem proj_prompt (xp : FVec Ideal ⟨3, ![2, 4096, 2048]⟩ .f32) (xs : FVec Ideal ⟨3, ![32, 4, 2048]⟩ .f32) (w : FVec Ideal ⟨3, ![1, 2048, 10800]⟩ .f32)
    (b : FVec Ideal ⟨2, ![1, 10800]⟩ .f32) (r : Fin 8320) (j : Fin 10800) (h : r.val < 8192) :
    proj xp xs w b r j = lin (fun k => xp (ix3 ⟨r.val / 4096, by omega⟩ ⟨r.val % 4096, by omega⟩ k)) w b j := by
  unfold proj
  exact congrArg (fun x => lin x w b j) (funext fun k => dif_pos h)

/-- and of a sample row. -/
theorem proj_sample (xp : FVec Ideal ⟨3, ![2, 4096, 2048]⟩ .f32) (xs : FVec Ideal ⟨3, ![32, 4, 2048]⟩ .f32) (w : FVec Ideal ⟨3, ![1, 2048, 10800]⟩ .f32)
    (b : FVec Ideal ⟨2, ![1, 10800]⟩ .f32) (r : Fin 8320) (j : Fin 10800) (h : ¬ r.val < 8192) :
    proj xp xs w b r j = lin (fun k => xs (ix3 ⟨(r.val - 8192) / 4, by omega⟩ ⟨(r.val - 8192) % 4, by omega⟩ k)) w b j := by
  unfold proj
  exact congrArg (fun x => lin x w b j) (funext fun k => dif_neg h)

end Cert.Rows

end
-- ==== Proof.H4In.lean ====
module

public import proofs.«01_k».proof.Proof.Gen.ProjH4Ideal.Frame
public import proofs.«01_k».proof.Proof.Rows

@[expose] public section

set_option maxRecDepth 16384
set_option Elab.async false

noncomputable section

/-! # The projection to the columns of HGRN2: one block, and the arrays read

A block of rows by a block of columns. Each element is the row's product with the column, plus the column's bias. -/

namespace Cert.ProjH4Ideal.H4

open Cert.ProjH4Ideal Cert.ProjH4Ideal.Gen Cert.Rows
open Idealize.ShloMosaic Idealize.SL.Sem
open Idealize.ShloMosaic.TcCoe Idealize.ShloMosaic.Tactic
open Idealize.ShloMosaic.Pipeline (Dat Cfg Window)

variable (x : FVec Ideal S1664x2048 .bf16) (w : FVec Ideal S2048x512 .bf16) (b : FVec Ideal S1x512 .f32)

/-- A row's product with a column, plus the column's bias. -/
def dot (r : Fin 1664) (j : Fin 512) : EReal := (∑ k : Fin 2048, x (ix2 r k) * w (ix2 k j)) + b (ix2 0 j)

/-- The output's block, element by element. -/
theorem out3_apply (r : Fin 1664) (j : Fin 512) : out0_3 (F := Ideal) x w b (ix2 r j) = dot x w b r j := by
  unfold out0_3
  frame_out
  pointwise [k0_pay1, dot]

variable (m : (ℓ : Loc nD τ sig) → Buf (Elt Ideal) ℓ)

/-- The rows the launch reads. -/
theorem V_rows (c : Dev nD) : V m c main_v3 = (truncf .bf16 (concatenate S8320x2048 0
    [⟨S8192x2048, shapeCast S8192x2048 (m ((c : Thread nD τ).loc main_arg0) : FVec Ideal S2x4096x2048 .f32) shapeCasts_S2x4096x2048_S8192x2048⟩,
     ⟨S128x2048, shapeCast S128x2048 (m ((c : Thread nD τ).loc main_arg1) : FVec Ideal S32x4x2048 .f32) shapeCasts_S32x4x2048_S128x2048⟩]
    concatenates_S8192x2048_S128x2048_S8320x2048_d0) bitsLt_bf16_f32 : FVec Ideal S8320x2048 .bf16) := by
  show StableHlo.after (List.flatten [hostOps0]) (fun b => m (c, b)) (Proc.devRef .tc _) = _
  simp only [hostOps0, List.flatten_cons, List.flatten_nil, List.append_nil]
  after_results_simp <;> rfl

/-- The weights the launch reads. -/
theorem V_cols (c : Dev nD) : V m c main_v8 = (truncf .bf16 (extractStridedSlice S2048x4096 ![0, 2608]
    (shapeCast S2048x10800 (m ((c : Thread nD τ).loc main_arg2) : FVec Ideal S1x2048x10800 .f32) shapeCasts_S1x2048x10800_S2048x10800)
    slices_S2048x10800_S2048x4096_0_2608) bitsLt_bf16_f32 : FVec Ideal S2048x4096 .bf16) := by
  show StableHlo.after (List.flatten [hostOps0]) (fun b => m (c, b)) (Proc.devRef .tc _) = _
  simp only [hostOps0, List.flatten_cons, List.flatten_nil, List.append_nil]
  after_results_simp <;> rfl

/-- The bias the launch reads. -/
theorem V_bias (c : Dev nD) : V m c main_v9 = (shapeCast S1x4096 (extractStridedSlice S4096 ![2608]
    (shapeCast S10800 (m ((c : Thread nD τ).loc main_arg3) : FVec Ideal S1x10800 .f32) shapeCasts_S1x10800_S10800)
    slices_S10800_S4096_2608) shapeCasts_S4096_S1x4096 : FVec Ideal S1x4096 .f32) := by
  show StableHlo.after (List.flatten [hostOps0]) (fun b => m (c, b)) (Proc.devRef .tc _) = _
  simp only [hostOps0, List.flatten_cons, List.flatten_nil, List.append_nil]
  after_results_simp <;> rfl

/-- A row's element. -/
theorem rows_apply (xp : FVec Ideal S2x4096x2048 .f32) (xs : FVec Ideal S32x4x2048 .f32) (r : Fin 8320) (k : Fin 2048) :
    (truncf .bf16 (concatenate S8320x2048 0 [⟨S8192x2048, shapeCast S8192x2048 xp shapeCasts_S2x4096x2048_S8192x2048⟩,
      ⟨S128x2048, shapeCast S128x2048 xs shapeCasts_S32x4x2048_S128x2048⟩] concatenates_S8192x2048_S128x2048_S8320x2048_d0) bitsLt_bf16_f32
      : FVec Ideal S8320x2048 .bf16) (ix2 r k) = row xp xs r k := by
  pointwise
  rfl

/-- A weight. -/
theorem cols_apply (w : FVec Ideal S1x2048x10800 .f32) (k : Fin 2048) (j : Fin 4096) :
    (truncf .bf16 (extractStridedSlice S2048x4096 ![0, 2608] (shapeCast S2048x10800 w shapeCasts_S1x2048x10800_S2048x10800)
      slices_S2048x10800_S2048x4096_0_2608) bitsLt_bf16_f32 : FVec Ideal S2048x4096 .bf16) (ix2 k j) = w (ix3 0 k ⟨2608 + j.val, by omega⟩) := by
  pointwise

/-- A bias. -/
theorem bias_apply (b : FVec Ideal S1x10800 .f32) (j : Fin 4096) :
    (shapeCast S1x4096 (extractStridedSlice S4096 ![2608] (shapeCast S10800 b shapeCasts_S1x10800_S10800)
      slices_S10800_S4096_2608) shapeCasts_S4096_S1x4096 : FVec Ideal S1x4096 .f32) (ix2 0 j) = b (ix2 0 ⟨2608 + j.val, by omega⟩) := by
  pointwise

end Cert.ProjH4Ideal.H4

end
-- ==== Proof.H4Arr.lean ====
module

public import proofs.«01_k».proof.Proof.H4In

@[expose] public section

set_option maxRecDepth 16384
set_option Elab.async false

noncomputable section

/-! # The projection to the columns of HGRN2: the array after the launch

Every point writes its block of rows by its block of columns, so the array holds the projection. -/

namespace Cert.ProjH4Ideal.H4

open Cert.ProjH4Ideal Cert.ProjH4Ideal.Gen Cert.Rows
open Idealize.ShloMosaic Idealize.SL.Sem
open Idealize.ShloMosaic.TcCoe Idealize.ShloMosaic.Tactic
open Idealize.ShloMosaic.Pipeline (Dat Cfg Window)

variable (m : (ℓ : Loc nD τ sig) → Buf (Elt Ideal) ℓ)

/-- The projection's element at a row and one of these columns. -/
def el (c : Dev nD) (r : Fin 8320) (j : Fin 4096) : EReal :=
  proj (m ((c : Thread nD τ).loc main_arg0)) (m ((c : Thread nD τ).loc main_arg1)) (m ((c : Thread nD τ).loc main_arg2))
    (m ((c : Thread nD τ).loc main_arg3)) r ⟨2608 + j.val, by omega⟩

/-- The block indices of the windows at a point. -/
theorem idx : ∀ t : Fin cfg0.N, (cfg0.win 0).index t = ![t.val / 8, 0] ∧ (cfg0.win 1).index t = ![0, t.val % 8]
    ∧ (cfg0.win 2).index t = ![0, t.val % 8] ∧ (cfg0.win 3).index t = ![t.val / 8, t.val % 8] := by decide +kernel

/-- The rows of a point's block. -/
theorem blk_rows (c : Dev nD) (t : Fin cfg0.N) (r : Fin 1664) (k : Fin 2048) (R : Fin 8320) (hR : R.val = 1664 * (t.val / 8) + r.val) :
    iblk m c 0 t (ix2 r k) = row (m ((c : Thread nD τ).loc main_arg0)) (m ((c : Thread nD τ).loc main_arg1)) R k := by
  rw [← rows_apply, ← V_rows]
  refine congrArg (V m c main_v3) (funext fun a => Fin.ext ?_)
  refine (Pipeline.Window.rect_emb_val (cfg0.win 0) t (ix2 r k) a).trans ?_
  rw [(idx t).1]
  match a with
  | ⟨0, _⟩ => show t.val / 8 * 1664 + r.val = R.val; omega
  | ⟨1, _⟩ => show 0 * 2048 + k.val = k.val; omega

/-- The columns of a point's block. -/
theorem blk_cols (c : Dev nD) (t : Fin cfg0.N) (k : Fin 2048) (j : Fin 512) (J : Fin 4096) (hJ : J.val = 512 * (t.val % 8) + j.val) :
    iblk m c 1 t (ix2 k j) = (m ((c : Thread nD τ).loc main_arg2) : FVec Ideal S1x2048x10800 .f32) (ix3 0 k ⟨2608 + J.val, by omega⟩) := by
  refine Eq.trans (congrArg (V m c main_v8) (funext fun a => Fin.ext ?_)) ((congrFun (V_cols m c) (ix2 k J)).trans (cols_apply _ k J))
  refine (Pipeline.Window.rect_emb_val (cfg0.win 1) t (ix2 k j) a).trans ?_
  rw [(idx t).2.1]
  match a with
  | ⟨0, _⟩ => show 0 * 2048 + k.val = k.val; omega
  | ⟨1, _⟩ => show t.val % 8 * 512 + j.val = J.val; omega

/-- The bias of a point's block. -/
theorem blk_bias (c : Dev nD) (t : Fin cfg0.N) (j : Fin 512) (J : Fin 4096) (hJ : J.val = 512 * (t.val % 8) + j.val) :
    iblk m c 2 t (ix2 0 j) = (m ((c : Thread nD τ).loc main_arg3) : FVec Ideal S1x10800 .f32) (ix2 0 ⟨2608 + J.val, by omega⟩) := by
  refine Eq.trans (congrArg (V m c main_v9) (funext fun a => Fin.ext ?_)) ((congrFun (V_bias m c) (ix2 0 J)).trans (bias_apply _  J))
  refine (Pipeline.Window.rect_emb_val (cfg0.win 2) t (ix2 0 j) a).trans ?_
  rw [(idx t).2.2.1]
  match a with
  | ⟨0, _⟩ => rfl
  | ⟨1, _⟩ => show t.val % 8 * 512 + j.val = J.val; omega

/-- A point's block holds the projection there. -/
theorem blk_dot (c : Dev nD) (t : Fin cfg0.N) (r : Fin 1664) (j : Fin 512) (R : Fin 8320) (J : Fin 4096)
    (hR : R.val = 1664 * (t.val / 8) + r.val) (hJ : J.val = 512 * (t.val % 8) + j.val) :
    dot (iblk m c 0 t) (iblk m c 1 t) (iblk m c 2 t) r j = el m c R J := by
  unfold dot el proj lin
  refine congrArg₂ (· + ·) (Finset.sum_congr rfl fun k _ => congrArg₂ (· * ·) (blk_rows m c t r k R hR) (blk_cols m c t k j J hJ)) (blk_bias m c t j J hJ)

/-- The projection, rows by columns. -/
def flat (c : Dev nD) : S8320x4096.Idx → EReal := fun i => el m c (i 0) (i 1)

/-- What a point leaves in its block is the projection there. -/
theorem flat_at (c : Dev nD) (t : Fin cfg0.N) (y : S1664x512.Idx) (i : S8320x4096.Idx)
    (h0 : (i 0).val = t.val / 8 * 1664 + (y 0).val) (h1 : (i 1).val = t.val % 8 * 512 + (y 1).val) :
    out0_3 (F := Ideal) (iblk m c 0 t) (iblk m c 1 t) (iblk m c 2 t) y = flat m c i := by
  obtain ⟨r, j, rfl⟩ : ∃ (r : Fin 1664) (j : Fin 512), y = ix2 r j := ⟨y 0, y 1, eq_ix2 y⟩
  have h0' : (i 0).val = t.val / 8 * 1664 + r.val := h0
  have h1' : (i 1).val = t.val % 8 * 512 + j.val := h1
  exact (out3_apply _ _ _ r j).trans (blk_dot m c t r j (i 0) (i 1) (by omega) (by omega))

/-- The output's blocks cover it. -/
theorem cov3 : (cfg0.win 3).Covers := by decide +kernel

/-- The output after the launch. -/
theorem arr_flat (c : Dev nD) : (dats m 0 c).arrAt 3 cfg0.N = flat m c := by
  refine Dat.arrAt_eq_of_covers (dats m 0 c) 3 (flat m c) cov3 ?_ (Memref.isWhole_whole _)
  intro t hf y
  blk_simp
  rw [after0_3]
  have e0 := Pipeline.Window.rect_emb_val (cfg0.win 3) t y 0
  have e1 := Pipeline.Window.rect_emb_val (cfg0.win 3) t y 1
  rw [(idx t).2.2.2] at e0 e1
  exact flat_at m c t y _ e0 e1

/-- The kernel ends with the projection in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v10) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h c).1 3).trans (arr_flat m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩)
    (run_main m g)

end Cert.ProjH4Ideal.H4

end
-- ==== Proof.H4Ref.lean ====
module

public import proofs.«01_k».proof.Proof.Rows
public import proofs.«01_k».proof.Proof.Gen.ProjH4RefIdeal.Run

@[expose] public section

set_option maxRecDepth 16384
set_option Elab.async false

noncomputable section

/-! # The projection to the columns of HGRN2 in the reference, element by element

The reference projects prompt and sample each by itself on all the columns and keeps the columns of HGRN2. -/

namespace Cert.ProjH4RefIdeal.Ref

open Cert.ProjH4RefIdeal Cert.ProjH4RefIdeal.Gen Cert.Rows
open Idealize.ShloMosaic Idealize.ShloMosaic.Tactic

/-- The prompt's part of the projection. -/
def partP (x : FVec Ideal S2x4096x2048 .f32) (w : FVec Ideal S1x2048x10800 .f32) (b : FVec Ideal S1x10800 .f32) : FVec Ideal S2x4096x4096 .f32 :=
  extractStridedSlice S2x4096x4096 ![0, 0, 2608] (addf (Host.dotGeneral dot_S2x4096x2048_S2048x10800_S2x4096x10800_2_0_01_1_n_n none x (shapeCast S2048x10800 w shapeCasts_S1x2048x10800_S2048x10800)) (broadcastInDim S2x4096x10800 ![0, 1, 2] bcast_S1x1x10800_S2x4096x10800_0_1_2 (broadcastInDim S1x1x10800 ![2] bcast_S10800_S1x1x10800_2 (shapeCast S10800 b shapeCasts_S1x10800_S10800)))) slices_S2x4096x10800_S2x4096x4096_0_0_2608

/-- The prompt's part, element by element. -/
theorem partP_apply (x : FVec Ideal S2x4096x2048 .f32) (w : FVec Ideal S1x2048x10800 .f32) (b : FVec Ideal S1x10800 .f32)
    (e : Fin 2) (t : Fin 4096) (j : Fin 4096) : partP x w b (ix3 e t j) = lin (fun k => x (ix3 e t k)) w b ⟨2608 + j.val, by omega⟩ := by
  pointwise [partP, lin]

/-- The sample's part of the projection. -/
def partS (x : FVec Ideal S32x4x2048 .f32) (w : FVec Ideal S1x2048x10800 .f32) (b : FVec Ideal S1x10800 .f32) : FVec Ideal S32x4x4096 .f32 :=
  extractStridedSlice S32x4x4096 ![0, 0, 2608] (addf (Host.dotGeneral dot_S32x4x2048_S2048x10800_S32x4x10800_2_0_01_1_n_n none x (shapeCast S2048x10800 w shapeCasts_S1x2048x10800_S2048x10800)) (broadcastInDim S32x4x10800 ![0, 1, 2] bcast_S1x1x10800_S32x4x10800_0_1_2 (broadcastInDim S1x1x10800 ![2] bcast_S10800_S1x1x10800_2 (shapeCast S10800 b shapeCasts_S1x10800_S10800)))) slices_S32x4x10800_S32x4x4096_0_0_2608

/-- The sample's part, element by element. -/
theorem partS_apply (x : FVec Ideal S32x4x2048 .f32) (w : FVec Ideal S1x2048x10800 .f32) (b : FVec Ideal S1x10800 .f32)
    (e : Fin 32) (t : Fin 4) (j : Fin 4096) : partS x w b (ix3 e t j) = lin (fun k => x (ix3 e t k)) w b ⟨2608 + j.val, by omega⟩ := by
  pointwise [partS, lin]

/-- Prompt and sample one after the other. -/
def both (P : FVec Ideal S2x4096x4096 .f32) (S : FVec Ideal S32x4x4096 .f32) : FVec Ideal S8320x4096 .f32 :=
  concatenate S8320x4096 0 [⟨S8192x4096, (shapeCast S8192x4096 P shapeCasts_S2x4096x4096_S8192x4096)⟩, ⟨S128x4096, (shapeCast S128x4096 S shapeCasts_S32x4x4096_S128x4096)⟩] concatenates_S8192x4096_S128x4096_S8320x4096_d0

/-- The rows one after the other, element by element. -/
theorem both_apply (P : FVec Ideal S2x4096x4096 .f32) (S : FVec Ideal S32x4x4096 .f32) (r : Fin 8320) (j : Fin 4096) :
    both P S (ix2 r j) = if h : r.val < 8192 then P (ix3 ⟨r.val / 4096, by omega⟩ ⟨r.val % 4096, by omega⟩ j)
      else S (ix3 ⟨(r.val - 8192) / 4, by omega⟩ ⟨(r.val - 8192) % 4, by omega⟩ j) := by
  pointwise [both]

/-- The rows are the projection. -/
theorem both_eq (xp : FVec Ideal S2x4096x2048 .f32) (xs : FVec Ideal S32x4x2048 .f32) (w : FVec Ideal S1x2048x10800 .f32) (b : FVec Ideal S1x10800 .f32) (r : Fin 8320) (j : Fin 4096) :
    both (partP xp w b) (partS xs w b) (ix2 r j) = proj xp xs w b r ⟨2608 + j.val, by omega⟩ := by
  refine (both_apply _ _ r j).trans ?_
  by_cases h : r.val < 8192
  · rw [dif_pos h, partP_apply, proj_prompt _ _ _ _ _ _ h]
  · rw [dif_neg h, partS_apply, proj_sample _ _ _ _ _ _ h]

end Cert.ProjH4RefIdeal.Ref

end
-- ==== Proof.H4Same.lean ====
module

public import proofs.«01_k».proof.Proof.H4Arr
public import proofs.«01_k».proof.Proof.H4Ref

@[expose] public section

set_option maxRecDepth 16384
set_option Elab.async false

noncomputable section

/-! # The projection to the columns of HGRN2: kernel and reference agree -/

namespace Cert.H4Same

open Cert.ProjH4Ideal Cert.ProjH4Ideal.Gen Cert.ProjH4Ideal.H4 Cert.Rows
open Idealize.ShloMosaic
open Idealize.ShloMosaic.TcCoe Idealize.ShloMosaic.Tactic
open Cert.ProjH4RefIdeal.Ref (both both_eq partP partS)

variable (m : (ℓ : Loc nD τ sig) → Buf (Elt Ideal) ℓ)

/-- The reference's result is the kernel's. -/
theorem eq (c : Dev nD) : both (partP (m ((c : Thread nD τ).loc main_arg0)) (m ((c : Thread nD τ).loc main_arg2)) (m ((c : Thread nD τ).loc main_arg3)))
    (partS (m ((c : Thread nD τ).loc main_arg1)) (m ((c : Thread nD τ).loc main_arg2)) (m ((c : Thread nD τ).loc main_arg3))) = flat m c := by
  funext i
  obtain ⟨r, j, rfl⟩ : ∃ (r : Fin 8320) (j : Fin 4096), i = ix2 r j := ⟨i 0, i 1, eq_ix2 i⟩
  exact both_eq _ _ _ _ r j

end Cert.H4Same

end
-- ==== Proof.MgIn.lean ====
module

public import proofs.«01_k».proof.Proof.Gen.ProjMgIdeal.Frame
public import proofs.«01_k».proof.Proof.Rows

@[expose] public section

set_option maxRecDepth 16384
set_option Elab.async false

noncomputable section

/-! # The projection to the merge gates: one block, and the arrays read

A block of rows by a block of columns. Each element is the row's product with the column, plus the column's bias. -/

namespace Cert.ProjMgIdeal.Mg

open Cert.ProjMgIdeal Cert.ProjMgIdeal.Gen Cert.Rows
open Idealize.ShloMosaic Idealize.SL.Sem
open Idealize.ShloMosaic.TcCoe Idealize.ShloMosaic.Tactic
open Idealize.ShloMosaic.Pipeline (Dat Cfg Window)

variable (x : FVec Ideal S1664x2048 .bf16) (w : FVec Ideal S2048x512 .bf16) (b : FVec Ideal S1x512 .f32)

/-- A row's product with a column, plus the column's bias. -/
def dot (r : Fin 1664) (j : Fin 512) : EReal := (∑ k : Fin 2048, x (ix2 r k) * w (ix2 k j)) + b (ix2 0 j)

/-- The output's block, element by element. -/
theorem out3_apply (r : Fin 1664) (j : Fin 512) : out0_3 (F := Ideal) x w b (ix2 r j) = dot x w b r j := by
  unfold out0_3
  frame_out
  pointwise [k0_pay1, dot]

variable (m : (ℓ : Loc nD τ sig) → Buf (Elt Ideal) ℓ)

/-- The rows the launch reads. -/
theorem V_rows (c : Dev nD) : V m c main_v3 = (truncf .bf16 (concatenate S8320x2048 0
    [⟨S8192x2048, shapeCast S8192x2048 (m ((c : Thread nD τ).loc main_arg0) : FVec Ideal S2x4096x2048 .f32) shapeCasts_S2x4096x2048_S8192x2048⟩,
     ⟨S128x2048, shapeCast S128x2048 (m ((c : Thread nD τ).loc main_arg1) : FVec Ideal S32x4x2048 .f32) shapeCasts_S32x4x2048_S128x2048⟩]
    concatenates_S8192x2048_S128x2048_S8320x2048_d0) bitsLt_bf16_f32 : FVec Ideal S8320x2048 .bf16) := by
  show StableHlo.after (List.flatten [hostOps0]) (fun b => m (c, b)) (Proc.devRef .tc _) = _
  simp only [hostOps0, List.flatten_cons, List.flatten_nil, List.append_nil]
  after_results_simp <;> rfl

/-- The weights the launch reads. -/
theorem V_cols (c : Dev nD) : V m c main_v8 = (truncf .bf16 (extractStridedSlice S2048x4096 ![0, 6704]
    (shapeCast S2048x10800 (m ((c : Thread nD τ).loc main_arg2) : FVec Ideal S1x2048x10800 .f32) shapeCasts_S1x2048x10800_S2048x10800)
    slices_S2048x10800_S2048x4096_0_6704) bitsLt_bf16_f32 : FVec Ideal S2048x4096 .bf16) := by
  show StableHlo.after (List.flatten [hostOps0]) (fun b => m (c, b)) (Proc.devRef .tc _) = _
  simp only [hostOps0, List.flatten_cons, List.flatten_nil, List.append_nil]
  after_results_simp <;> rfl

/-- The bias the launch reads. -/
theorem V_bias (c : Dev nD) : V m c main_v9 = (shapeCast S1x4096 (extractStridedSlice S4096 ![6704]
    (shapeCast S10800 (m ((c : Thread nD τ).loc main_arg3) : FVec Ideal S1x10800 .f32) shapeCasts_S1x10800_S10800)
    slices_S10800_S4096_6704) shapeCasts_S4096_S1x4096 : FVec Ideal S1x4096 .f32) := by
  show StableHlo.after (List.flatten [hostOps0]) (fun b => m (c, b)) (Proc.devRef .tc _) = _
  simp only [hostOps0, List.flatten_cons, List.flatten_nil, List.append_nil]
  after_results_simp <;> rfl

/-- A row's element. -/
theorem rows_apply (xp : FVec Ideal S2x4096x2048 .f32) (xs : FVec Ideal S32x4x2048 .f32) (r : Fin 8320) (k : Fin 2048) :
    (truncf .bf16 (concatenate S8320x2048 0 [⟨S8192x2048, shapeCast S8192x2048 xp shapeCasts_S2x4096x2048_S8192x2048⟩,
      ⟨S128x2048, shapeCast S128x2048 xs shapeCasts_S32x4x2048_S128x2048⟩] concatenates_S8192x2048_S128x2048_S8320x2048_d0) bitsLt_bf16_f32
      : FVec Ideal S8320x2048 .bf16) (ix2 r k) = row xp xs r k := by
  pointwise
  rfl

/-- A weight. -/
theorem cols_apply (w : FVec Ideal S1x2048x10800 .f32) (k : Fin 2048) (j : Fin 4096) :
    (truncf .bf16 (extractStridedSlice S2048x4096 ![0, 6704] (shapeCast S2048x10800 w shapeCasts_S1x2048x10800_S2048x10800)
      slices_S2048x10800_S2048x4096_0_6704) bitsLt_bf16_f32 : FVec Ideal S2048x4096 .bf16) (ix2 k j) = w (ix3 0 k ⟨6704 + j.val, by omega⟩) := by
  pointwise

/-- A bias. -/
theorem bias_apply (b : FVec Ideal S1x10800 .f32) (j : Fin 4096) :
    (shapeCast S1x4096 (extractStridedSlice S4096 ![6704] (shapeCast S10800 b shapeCasts_S1x10800_S10800)
      slices_S10800_S4096_6704) shapeCasts_S4096_S1x4096 : FVec Ideal S1x4096 .f32) (ix2 0 j) = b (ix2 0 ⟨6704 + j.val, by omega⟩) := by
  pointwise

end Cert.ProjMgIdeal.Mg

end
-- ==== Proof.MgArr.lean ====
module

public import proofs.«01_k».proof.Proof.MgIn

@[expose] public section

set_option maxRecDepth 16384
set_option Elab.async false

noncomputable section

/-! # The projection to the merge gates: the array after the launch

Every point writes its block of rows by its block of columns, so the array holds the projection. -/

namespace Cert.ProjMgIdeal.Mg

open Cert.ProjMgIdeal Cert.ProjMgIdeal.Gen Cert.Rows
open Idealize.ShloMosaic Idealize.SL.Sem
open Idealize.ShloMosaic.TcCoe Idealize.ShloMosaic.Tactic
open Idealize.ShloMosaic.Pipeline (Dat Cfg Window)

variable (m : (ℓ : Loc nD τ sig) → Buf (Elt Ideal) ℓ)

/-- The projection's element at a row and one of these columns. -/
def el (c : Dev nD) (r : Fin 8320) (j : Fin 4096) : EReal :=
  proj (m ((c : Thread nD τ).loc main_arg0)) (m ((c : Thread nD τ).loc main_arg1)) (m ((c : Thread nD τ).loc main_arg2))
    (m ((c : Thread nD τ).loc main_arg3)) r ⟨6704 + j.val, by omega⟩

/-- The block indices of the windows at a point. -/
theorem idx : ∀ t : Fin cfg0.N, (cfg0.win 0).index t = ![t.val / 8, 0] ∧ (cfg0.win 1).index t = ![0, t.val % 8]
    ∧ (cfg0.win 2).index t = ![0, t.val % 8] ∧ (cfg0.win 3).index t = ![t.val / 8, t.val % 8] := by decide +kernel

/-- The rows of a point's block. -/
theorem blk_rows (c : Dev nD) (t : Fin cfg0.N) (r : Fin 1664) (k : Fin 2048) (R : Fin 8320) (hR : R.val = 1664 * (t.val / 8) + r.val) :
    iblk m c 0 t (ix2 r k) = row (m ((c : Thread nD τ).loc main_arg0)) (m ((c : Thread nD τ).loc main_arg1)) R k := by
  rw [← rows_apply, ← V_rows]
  refine congrArg (V m c main_v3) (funext fun a => Fin.ext ?_)
  refine (Pipeline.Window.rect_emb_val (cfg0.win 0) t (ix2 r k) a).trans ?_
  rw [(idx t).1]
  match a with
  | ⟨0, _⟩ => show t.val / 8 * 1664 + r.val = R.val; omega
  | ⟨1, _⟩ => show 0 * 2048 + k.val = k.val; omega

/-- The columns of a point's block. -/
theorem blk_cols (c : Dev nD) (t : Fin cfg0.N) (k : Fin 2048) (j : Fin 512) (J : Fin 4096) (hJ : J.val = 512 * (t.val % 8) + j.val) :
    iblk m c 1 t (ix2 k j) = (m ((c : Thread nD τ).loc main_arg2) : FVec Ideal S1x2048x10800 .f32) (ix3 0 k ⟨6704 + J.val, by omega⟩) := by
  refine Eq.trans (congrArg (V m c main_v8) (funext fun a => Fin.ext ?_)) ((congrFun (V_cols m c) (ix2 k J)).trans (cols_apply _ k J))
  refine (Pipeline.Window.rect_emb_val (cfg0.win 1) t (ix2 k j) a).trans ?_
  rw [(idx t).2.1]
  match a with
  | ⟨0, _⟩ => show 0 * 2048 + k.val = k.val; omega
  | ⟨1, _⟩ => show t.val % 8 * 512 + j.val = J.val; omega

/-- The bias of a point's block. -/
theorem blk_bias (c : Dev nD) (t : Fin cfg0.N) (j : Fin 512) (J : Fin 4096) (hJ : J.val = 512 * (t.val % 8) + j.val) :
    iblk m c 2 t (ix2 0 j) = (m ((c : Thread nD τ).loc main_arg3) : FVec Ideal S1x10800 .f32) (ix2 0 ⟨6704 + J.val, by omega⟩) := by
  refine Eq.trans (congrArg (V m c main_v9) (funext fun a => Fin.ext ?_)) ((congrFun (V_bias m c) (ix2 0 J)).trans (bias_apply _  J))
  refine (Pipeline.Window.rect_emb_val (cfg0.win 2) t (ix2 0 j) a).trans ?_
  rw [(idx t).2.2.1]
  match a with
  | ⟨0, _⟩ => rfl
  | ⟨1, _⟩ => show t.val % 8 * 512 + j.val = J.val; omega

/-- A point's block holds the projection there. -/
theorem blk_dot (c : Dev nD) (t : Fin cfg0.N) (r : Fin 1664) (j : Fin 512) (R : Fin 8320) (J : Fin 4096)
    (hR : R.val = 1664 * (t.val / 8) + r.val) (hJ : J.val = 512 * (t.val % 8) + j.val) :
    dot (iblk m c 0 t) (iblk m c 1 t) (iblk m c 2 t) r j = el m c R J := by
  unfold dot el proj lin
  refine congrArg₂ (· + ·) (Finset.sum_congr rfl fun k _ => congrArg₂ (· * ·) (blk_rows m c t r k R hR) (blk_cols m c t k j J hJ)) (blk_bias m c t j J hJ)

/-- The projection, rows by columns. -/
def flat (c : Dev nD) : S8320x4096.Idx → EReal := fun i => el m c (i 0) (i 1)

/-- What a point leaves in its block is the projection there. -/
theorem flat_at (c : Dev nD) (t : Fin cfg0.N) (y : S1664x512.Idx) (i : S8320x4096.Idx)
    (h0 : (i 0).val = t.val / 8 * 1664 + (y 0).val) (h1 : (i 1).val = t.val % 8 * 512 + (y 1).val) :
    out0_3 (F := Ideal) (iblk m c 0 t) (iblk m c 1 t) (iblk m c 2 t) y = flat m c i := by
  obtain ⟨r, j, rfl⟩ : ∃ (r : Fin 1664) (j : Fin 512), y = ix2 r j := ⟨y 0, y 1, eq_ix2 y⟩
  have h0' : (i 0).val = t.val / 8 * 1664 + r.val := h0
  have h1' : (i 1).val = t.val % 8 * 512 + j.val := h1
  exact (out3_apply _ _ _ r j).trans (blk_dot m c t r j (i 0) (i 1) (by omega) (by omega))

/-- The output's blocks cover it. -/
theorem cov3 : (cfg0.win 3).Covers := by decide +kernel

/-- The output after the launch. -/
theorem arr_flat (c : Dev nD) : (dats m 0 c).arrAt 3 cfg0.N = flat m c := by
  refine Dat.arrAt_eq_of_covers (dats m 0 c) 3 (flat m c) cov3 ?_ (Memref.isWhole_whole _)
  intro t hf y
  blk_simp
  rw [after0_3]
  have e0 := Pipeline.Window.rect_emb_val (cfg0.win 3) t y 0
  have e1 := Pipeline.Window.rect_emb_val (cfg0.win 3) t y 1
  rw [(idx t).2.2.2] at e0 e1
  exact flat_at m c t y _ e0 e1

/-- The kernel ends with the projection in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v10) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h c).1 3).trans (arr_flat m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩)
    (run_main m g)

end Cert.ProjMgIdeal.Mg

end
-- ==== Proof.MgRef.lean ====
module

public import proofs.«01_k».proof.Proof.Rows
public import proofs.«01_k».proof.Proof.Gen.ProjMgRefIdeal.Run

@[expose] public section

set_option maxRecDepth 16384
set_option Elab.async false

noncomputable section

/-! # The projection to the merge gates in the reference, element by element

The reference projects prompt and sample each by itself on all the columns and keeps the merge gates. -/

namespace Cert.ProjMgRefIdeal.Ref

open Cert.ProjMgRefIdeal Cert.ProjMgRefIdeal.Gen Cert.Rows
open Idealize.ShloMosaic Idealize.ShloMosaic.Tactic

/-- The prompt's part of the projection. -/
def partP (x : FVec Ideal S2x4096x2048 .f32) (w : FVec Ideal S1x2048x10800 .f32) (b : FVec Ideal S1x10800 .f32) : FVec Ideal S2x4096x4096 .f32 :=
  extractStridedSlice S2x4096x4096 ![0, 0, 6704] (addf (Host.dotGeneral dot_S2x4096x2048_S2048x10800_S2x4096x10800_2_0_01_1_n_n none x (shapeCast S2048x10800 w shapeCasts_S1x2048x10800_S2048x10800)) (broadcastInDim S2x4096x10800 ![0, 1, 2] bcast_S1x1x10800_S2x4096x10800_0_1_2 (broadcastInDim S1x1x10800 ![2] bcast_S10800_S1x1x10800_2 (shapeCast S10800 b shapeCasts_S1x10800_S10800)))) slices_S2x4096x10800_S2x4096x4096_0_0_6704

/-- The prompt's part, element by element. -/
theorem partP_apply (x : FVec Ideal S2x4096x2048 .f32) (w : FVec Ideal S1x2048x10800 .f32) (b : FVec Ideal S1x10800 .f32)
    (e : Fin 2) (t : Fin 4096) (j : Fin 4096) : partP x w b (ix3 e t j) = lin (fun k => x (ix3 e t k)) w b ⟨6704 + j.val, by omega⟩ := by
  pointwise [partP, lin]

/-- The sample's part of the projection. -/
def partS (x : FVec Ideal S32x4x2048 .f32) (w : FVec Ideal S1x2048x10800 .f32) (b : FVec Ideal S1x10800 .f32) : FVec Ideal S32x4x4096 .f32 :=
  extractStridedSlice S32x4x4096 ![0, 0, 6704] (addf (Host.dotGeneral dot_S32x4x2048_S2048x10800_S32x4x10800_2_0_01_1_n_n none x (shapeCast S2048x10800 w shapeCasts_S1x2048x10800_S2048x10800)) (broadcastInDim S32x4x10800 ![0, 1, 2] bcast_S1x1x10800_S32x4x10800_0_1_2 (broadcastInDim S1x1x10800 ![2] bcast_S10800_S1x1x10800_2 (shapeCast S10800 b shapeCasts_S1x10800_S10800)))) slices_S32x4x10800_S32x4x4096_0_0_6704

/-- The sample's part, element by element. -/
theorem partS_apply (x : FVec Ideal S32x4x2048 .f32) (w : FVec Ideal S1x2048x10800 .f32) (b : FVec Ideal S1x10800 .f32)
    (e : Fin 32) (t : Fin 4) (j : Fin 4096) : partS x w b (ix3 e t j) = lin (fun k => x (ix3 e t k)) w b ⟨6704 + j.val, by omega⟩ := by
  pointwise [partS, lin]

/-- Prompt and sample one after the other. -/
def both (P : FVec Ideal S2x4096x4096 .f32) (S : FVec Ideal S32x4x4096 .f32) : FVec Ideal S8320x4096 .f32 :=
  concatenate S8320x4096 0 [⟨S8192x4096, (shapeCast S8192x4096 P shapeCasts_S2x4096x4096_S8192x4096)⟩, ⟨S128x4096, (shapeCast S128x4096 S shapeCasts_S32x4x4096_S128x4096)⟩] concatenates_S8192x4096_S128x4096_S8320x4096_d0

/-- The rows one after the other, element by element. -/
theorem both_apply (P : FVec Ideal S2x4096x4096 .f32) (S : FVec Ideal S32x4x4096 .f32) (r : Fin 8320) (j : Fin 4096) :
    both P S (ix2 r j) = if h : r.val < 8192 then P (ix3 ⟨r.val / 4096, by omega⟩ ⟨r.val % 4096, by omega⟩ j)
      else S (ix3 ⟨(r.val - 8192) / 4, by omega⟩ ⟨(r.val - 8192) % 4, by omega⟩ j) := by
  pointwise [both]

/-- The rows are the projection. -/
theorem both_eq (xp : FVec Ideal S2x4096x2048 .f32) (xs : FVec Ideal S32x4x2048 .f32) (w : FVec Ideal S1x2048x10800 .f32) (b : FVec Ideal S1x10800 .f32) (r : Fin 8320) (j : Fin 4096) :
    both (partP xp w b) (partS xs w b) (ix2 r j) = proj xp xs w b r ⟨6704 + j.val, by omega⟩ := by
  refine (both_apply _ _ r j).trans ?_
  by_cases h : r.val < 8192
  · rw [dif_pos h, partP_apply, proj_prompt _ _ _ _ _ _ h]
  · rw [dif_neg h, partS_apply, proj_sample _ _ _ _ _ _ h]

end Cert.ProjMgRefIdeal.Ref

end
-- ==== Proof.MgSame.lean ====
module

public import proofs.«01_k».proof.Proof.MgArr
public import proofs.«01_k».proof.Proof.MgRef

@[expose] public section

set_option maxRecDepth 16384
set_option Elab.async false

noncomputable section

/-! # The projection to the merge gates: kernel and reference agree -/

namespace Cert.MgSame

open Cert.ProjMgIdeal Cert.ProjMgIdeal.Gen Cert.ProjMgIdeal.Mg Cert.Rows
open Idealize.ShloMosaic
open Idealize.ShloMosaic.TcCoe Idealize.ShloMosaic.Tactic
open Cert.ProjMgRefIdeal.Ref (both both_eq partP partS)

variable (m : (ℓ : Loc nD τ sig) → Buf (Elt Ideal) ℓ)

/-- The reference's result is the kernel's. -/
theorem eq (c : Dev nD) : both (partP (m ((c : Thread nD τ).loc main_arg0)) (m ((c : Thread nD τ).loc main_arg2)) (m ((c : Thread nD τ).loc main_arg3)))
    (partS (m ((c : Thread nD τ).loc main_arg1)) (m ((c : Thread nD τ).loc main_arg2)) (m ((c : Thread nD τ).loc main_arg3))) = flat m c := by
  funext i
  obtain ⟨r, j, rfl⟩ : ∃ (r : Fin 8320) (j : Fin 4096), i = ix2 r j := ⟨i 0, i 1, eq_ix2 i⟩
  exact both_eq _ _ _ _ r j

end Cert.MgSame

end
-- ==== Proof.QIn.lean ====
module

public import proofs.«01_k».proof.Proof.Gen.ProjQIdeal.Frame
public import proofs.«01_k».proof.Proof.Rows

@[expose] public section

set_option maxRecDepth 16384
set_option Elab.async false

noncomputable section

/-! # The projection to the queries: one block, and the arrays read

A block of rows by a block of columns. Each element is the row's product with the column, plus the column's bias. -/

namespace Cert.ProjQIdeal.Q

open Cert.ProjQIdeal Cert.ProjQIdeal.Gen Cert.Rows
open Idealize.ShloMosaic Idealize.SL.Sem
open Idealize.ShloMosaic.TcCoe Idealize.ShloMosaic.Tactic
open Idealize.ShloMosaic.Pipeline (Dat Cfg Window)

variable (x : FVec Ideal S1664x2048 .bf16) (w : FVec Ideal S2048x512 .bf16) (b : FVec Ideal S1x512 .f32)

/-- A row's product with a column, plus the column's bias. -/
def dot (r : Fin 1664) (j : Fin 512) : EReal := (∑ k : Fin 2048, x (ix2 r k) * w (ix2 k j)) + b (ix2 0 j)

/-- The block's product is a sum over the row. -/
theorem pay5_apply (r : Fin 1664) (j : Fin 512) : k0_pay5 (F := Ideal) x w b (ix2 r j) = dot x w b r j := by
  pointwise [k0_pay5, dot]

/-- A load of a whole block is the block. -/
theorem ld_rows (x : Vec Ideal S1664x2048 .bf16) : View.ld (Val := Elt Ideal) x r0_0 = x := View.ld_unit_lit _ _ (by decide)
/-- The same for the weights, -/
theorem ld_cols (w : Vec Ideal S2048x512 .bf16) : View.ld (Val := Elt Ideal) w r0_1 = w := View.ld_unit_lit _ _ (by decide)
/-- and the bias. -/
theorem ld_bias (b : Vec Ideal S1x512 .f32) : View.ld (Val := Elt Ideal) b r0_2 = b := View.ld_unit_lit _ _ (by decide)

/-- A head cut out of the block: its column `d` is column `o + d`. -/
theorem head_apply (v : FVec Ideal S1664x512 .f32) (o : ℕ) (hs) (y : S1x1664x64.Idx) (r : Fin 1664) (j : Fin 512) (hr : r.val = (y 1).val)
    (hj : j.val = o + (y 2).val) :
    shapeCast S1x1664x64 (truncf .bf16 (extractStridedSlice S1664x64 ![0, o] v hs) bitsLt_bf16_f32 : FVec Ideal S1664x64 .bf16) shapeCasts_S1664x64_S1x1664x64 y
      = v (ix2 r j) := by
  obtain ⟨u, a, d, rfl⟩ : ∃ (u : Fin 1) (a : Fin 1664) (d : Fin 64), y = ix3 u a d := ⟨y 0, y 1, y 2, eq_ix3 y⟩
  pointwise
  refine congrArg v (congrArg₂ ix2 (Fin.ext ?_) (Fin.ext ?_))
  · exact hr.symm
  · exact hj.symm

/-- The output's block: head `h`'s column `d` is column `64 h + d`. -/
theorem out3_apply (h : Fin 8) (r : Fin 1664) (d : Fin 64) :
    out0_3 (F := Ideal) x w b (ix3 h r d) = dot x w b r ⟨64 * h.val + d.val, by omega⟩ := by
  unfold_out out0_3
  rw [← pay5_apply]
  canon_tiles y e
  all_goals
    rw [ld_rows, ld_cols, ld_bias]
    have e0' : h.val = _ := e0
    have e1' : r.val = _ := e1
    have e2' : d.val = _ := e2
    refine head_apply (k0_pay5 (F := Ideal) x w b) _ _ y r _ e1' ?_
    show 64 * h.val + d.val = _
    omega

variable (m : (ℓ : Loc nD τ sig) → Buf (Elt Ideal) ℓ)

/-- The rows the launch reads. -/
theorem V_rows (c : Dev nD) : V m c main_v3 = (truncf .bf16 (concatenate S8320x2048 0
    [⟨S8192x2048, shapeCast S8192x2048 (m ((c : Thread nD τ).loc main_arg0) : FVec Ideal S2x4096x2048 .f32) shapeCasts_S2x4096x2048_S8192x2048⟩,
     ⟨S128x2048, shapeCast S128x2048 (m ((c : Thread nD τ).loc main_arg1) : FVec Ideal S32x4x2048 .f32) shapeCasts_S32x4x2048_S128x2048⟩]
    concatenates_S8192x2048_S128x2048_S8320x2048_d0) bitsLt_bf16_f32 : FVec Ideal S8320x2048 .bf16) := by
  show StableHlo.after (List.flatten [hostOps0]) (fun b => m (c, b)) (Proc.devRef .tc _) = _
  simp only [hostOps0, List.flatten_cons, List.flatten_nil, List.append_nil]
  after_results_simp <;> rfl

/-- The weights the launch reads. -/
theorem V_cols (c : Dev nD) : V m c main_v8 = (truncf .bf16 (extractStridedSlice S2048x1024 ![0, 0]
    (shapeCast S2048x10800 (m ((c : Thread nD τ).loc main_arg2) : FVec Ideal S1x2048x10800 .f32) shapeCasts_S1x2048x10800_S2048x10800)
    slices_S2048x10800_S2048x1024_0_0) bitsLt_bf16_f32 : FVec Ideal S2048x1024 .bf16) := by
  show StableHlo.after (List.flatten [hostOps0]) (fun b => m (c, b)) (Proc.devRef .tc _) = _
  simp only [hostOps0, List.flatten_cons, List.flatten_nil, List.append_nil]
  after_results_simp <;> rfl

/-- The bias the launch reads. -/
theorem V_bias (c : Dev nD) : V m c main_v9 = (shapeCast S1x1024 (extractStridedSlice S1024 ![0]
    (shapeCast S10800 (m ((c : Thread nD τ).loc main_arg3) : FVec Ideal S1x10800 .f32) shapeCasts_S1x10800_S10800)
    slices_S10800_S1024_0) shapeCasts_S1024_S1x1024 : FVec Ideal S1x1024 .f32) := by
  show StableHlo.after (List.flatten [hostOps0]) (fun b => m (c, b)) (Proc.devRef .tc _) = _
  simp only [hostOps0, List.flatten_cons, List.flatten_nil, List.append_nil]
  after_results_simp <;> rfl

/-- A row's element. -/
theorem rows_apply (xp : FVec Ideal S2x4096x2048 .f32) (xs : FVec Ideal S32x4x2048 .f32) (r : Fin 8320) (k : Fin 2048) :
    (truncf .bf16 (concatenate S8320x2048 0 [⟨S8192x2048, shapeCast S8192x2048 xp shapeCasts_S2x4096x2048_S8192x2048⟩,
      ⟨S128x2048, shapeCast S128x2048 xs shapeCasts_S32x4x2048_S128x2048⟩] concatenates_S8192x2048_S128x2048_S8320x2048_d0) bitsLt_bf16_f32
      : FVec Ideal S8320x2048 .bf16) (ix2 r k) = row xp xs r k := by
  pointwise
  rfl

/-- A weight. -/
theorem cols_apply (w : FVec Ideal S1x2048x10800 .f32) (k : Fin 2048) (j : Fin 1024) :
    (truncf .bf16 (extractStridedSlice S2048x1024 ![0, 0] (shapeCast S2048x10800 w shapeCasts_S1x2048x10800_S2048x10800)
      slices_S2048x10800_S2048x1024_0_0) bitsLt_bf16_f32 : FVec Ideal S2048x1024 .bf16) (ix2 k j) = w (ix3 0 k ⟨j.val, by omega⟩) := by
  pointwise

/-- A bias. -/
theorem bias_apply (b : FVec Ideal S1x10800 .f32) (j : Fin 1024) :
    (shapeCast S1x1024 (extractStridedSlice S1024 ![0] (shapeCast S10800 b shapeCasts_S1x10800_S10800)
      slices_S10800_S1024_0) shapeCasts_S1024_S1x1024 : FVec Ideal S1x1024 .f32) (ix2 0 j) = b (ix2 0 ⟨j.val, by omega⟩) := by
  pointwise

end Cert.ProjQIdeal.Q

end
-- ==== Proof.QArr.lean ====
module

public import proofs.«01_k».proof.Proof.QIn

@[expose] public section

set_option maxRecDepth 16384
set_option Elab.async false

noncomputable section

/-! # The projection to the queries: the array after the launch

Every point writes its block of rows by its block of columns, so the array holds the projection. -/

namespace Cert.ProjQIdeal.Q

open Cert.ProjQIdeal Cert.ProjQIdeal.Gen Cert.Rows
open Idealize.ShloMosaic Idealize.SL.Sem
open Idealize.ShloMosaic.TcCoe Idealize.ShloMosaic.Tactic
open Idealize.ShloMosaic.Pipeline (Dat Cfg Window)

variable (m : (ℓ : Loc nD τ sig) → Buf (Elt Ideal) ℓ)

/-- The projection's element at a row and one of these columns. -/
def el (c : Dev nD) (r : Fin 8320) (j : Fin 1024) : EReal :=
  proj (m ((c : Thread nD τ).loc main_arg0)) (m ((c : Thread nD τ).loc main_arg1)) (m ((c : Thread nD τ).loc main_arg2))
    (m ((c : Thread nD τ).loc main_arg3)) r ⟨j.val, by omega⟩

/-- The block indices of the windows at a point. -/
theorem idx : ∀ t : Fin cfg0.N, (cfg0.win 0).index t = ![t.val / 2, 0] ∧ (cfg0.win 1).index t = ![0, t.val % 2]
    ∧ (cfg0.win 2).index t = ![0, t.val % 2] ∧ (cfg0.win 3).index t = ![t.val % 2, t.val / 2, 0] := by decide +kernel

/-- The rows of a point's block. -/
theorem blk_rows (c : Dev nD) (t : Fin cfg0.N) (r : Fin 1664) (k : Fin 2048) (R : Fin 8320) (hR : R.val = 1664 * (t.val / 2) + r.val) :
    iblk m c 0 t (ix2 r k) = row (m ((c : Thread nD τ).loc main_arg0)) (m ((c : Thread nD τ).loc main_arg1)) R k := by
  rw [← rows_apply, ← V_rows]
  refine congrArg (V m c main_v3) (funext fun a => Fin.ext ?_)
  refine (Pipeline.Window.rect_emb_val (cfg0.win 0) t (ix2 r k) a).trans ?_
  rw [(idx t).1]
  match a with
  | ⟨0, _⟩ => show t.val / 2 * 1664 + r.val = R.val; omega
  | ⟨1, _⟩ => show 0 * 2048 + k.val = k.val; omega

/-- The columns of a point's block. -/
theorem blk_cols (c : Dev nD) (t : Fin cfg0.N) (k : Fin 2048) (j : Fin 512) (J : Fin 1024) (hJ : J.val = 512 * (t.val % 2) + j.val) :
    iblk m c 1 t (ix2 k j) = (m ((c : Thread nD τ).loc main_arg2) : FVec Ideal S1x2048x10800 .f32) (ix3 0 k ⟨J.val, by omega⟩) := by
  refine Eq.trans (congrArg (V m c main_v8) (funext fun a => Fin.ext ?_)) ((congrFun (V_cols m c) (ix2 k J)).trans (cols_apply _ k J))
  refine (Pipeline.Window.rect_emb_val (cfg0.win 1) t (ix2 k j) a).trans ?_
  rw [(idx t).2.1]
  match a with
  | ⟨0, _⟩ => show 0 * 2048 + k.val = k.val; omega
  | ⟨1, _⟩ => show t.val % 2 * 512 + j.val = J.val; omega

/-- The bias of a point's block. -/
theorem blk_bias (c : Dev nD) (t : Fin cfg0.N) (j : Fin 512) (J : Fin 1024) (hJ : J.val = 512 * (t.val % 2) + j.val) :
    iblk m c 2 t (ix2 0 j) = (m ((c : Thread nD τ).loc main_arg3) : FVec Ideal S1x10800 .f32) (ix2 0 ⟨J.val, by omega⟩) := by
  refine Eq.trans (congrArg (V m c main_v9) (funext fun a => Fin.ext ?_)) ((congrFun (V_bias m c) (ix2 0 J)).trans (bias_apply _  J))
  refine (Pipeline.Window.rect_emb_val (cfg0.win 2) t (ix2 0 j) a).trans ?_
  rw [(idx t).2.2.1]
  match a with
  | ⟨0, _⟩ => rfl
  | ⟨1, _⟩ => show t.val % 2 * 512 + j.val = J.val; omega

/-- A point's block holds the projection there. -/
theorem blk_dot (c : Dev nD) (t : Fin cfg0.N) (r : Fin 1664) (j : Fin 512) (R : Fin 8320) (J : Fin 1024)
    (hR : R.val = 1664 * (t.val / 2) + r.val) (hJ : J.val = 512 * (t.val % 2) + j.val) :
    dot (iblk m c 0 t) (iblk m c 1 t) (iblk m c 2 t) r j = el m c R J := by
  unfold dot el proj lin
  refine congrArg₂ (· + ·) (Finset.sum_congr rfl fun k _ => congrArg₂ (· * ·) (blk_rows m c t r k R hR) (blk_cols m c t k j J hJ)) (blk_bias m c t j J hJ)

/-- The column that a head's column is. -/
def headCol (h : Fin 16) (d : Fin 64) : Fin 1024 := ⟨64 * h.val + d.val, by omega⟩

/-- The projection by heads. -/
def heads (c : Dev nD) : S16x8320x64.Idx → EReal := fun i => el m c (i 1) (headCol (i 0) (i 2))

/-- What a point leaves in its block is the projection there. -/
theorem heads_at (c : Dev nD) (t : Fin cfg0.N) (y : S8x1664x64.Idx) (i : S16x8320x64.Idx)
    (h0 : (i 0).val = t.val % 2 * 8 + (y 0).val) (h1 : (i 1).val = t.val / 2 * 1664 + (y 1).val) (h2 : (i 2).val = 0 * 64 + (y 2).val) :
    out0_3 (F := Ideal) (iblk m c 0 t) (iblk m c 1 t) (iblk m c 2 t) y = heads m c i := by
  obtain ⟨h, r, d, rfl⟩ : ∃ (h : Fin 8) (r : Fin 1664) (d : Fin 64), y = ix3 h r d := ⟨y 0, y 1, y 2, eq_ix3 y⟩
  have h0' : (i 0).val = t.val % 2 * 8 + h.val := h0
  have h1' : (i 1).val = t.val / 2 * 1664 + r.val := h1
  have h2' : (i 2).val = 0 * 64 + d.val := h2
  refine (out3_apply _ _ _ h r d).trans (blk_dot m c t r _ (i 1) (headCol (i 0) (i 2)) (by omega) ?_)
  show 64 * (i 0).val + (i 2).val = 512 * (t.val % 2) + (64 * h.val + d.val)
  omega

/-- The output's blocks cover it. -/
theorem cov3 : (cfg0.win 3).Covers := by decide +kernel

/-- The output after the launch. -/
theorem arr_heads (c : Dev nD) : (dats m 0 c).arrAt 3 cfg0.N = heads m c := by
  refine Dat.arrAt_eq_of_covers (dats m 0 c) 3 (heads m c) cov3 ?_ (Memref.isWhole_whole _)
  intro t hf y
  blk_simp
  rw [after0_3]
  have e0 := Pipeline.Window.rect_emb_val (cfg0.win 3) t y 0
  have e1 := Pipeline.Window.rect_emb_val (cfg0.win 3) t y 1
  have e2 := Pipeline.Window.rect_emb_val (cfg0.win 3) t y 2
  rw [(idx t).2.2.2] at e0 e1 e2
  exact heads_at m c t y _ e0 e1 e2

/-- The kernel ends with the projection in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v10) = heads m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h c).1 3).trans (arr_heads m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩)
    (run_main m g)

end Cert.ProjQIdeal.Q

end
-- ==== Proof.QRef.lean ====
module

public import proofs.«01_k».proof.Proof.Rows
public import proofs.«01_k».proof.Proof.Gen.ProjQRefIdeal.Run

@[expose] public section

set_option maxRecDepth 16384
set_option Elab.async false

noncomputable section

/-! # The projection to the queries in the reference, element by element

The reference projects prompt and sample each by itself on all the columns and keeps the queries. -/

namespace Cert.ProjQRefIdeal.Ref

open Cert.ProjQRefIdeal Cert.ProjQRefIdeal.Gen Cert.Rows
open Idealize.ShloMosaic Idealize.ShloMosaic.Tactic

/-- The prompt's part of the projection. -/
def partP (x : FVec Ideal S2x4096x2048 .f32) (w : FVec Ideal S1x2048x10800 .f32) (b : FVec Ideal S1x10800 .f32) : FVec Ideal S2x4096x1024 .f32 :=
  extractStridedSlice S2x4096x1024 ![0, 0, 0] (addf (Host.dotGeneral dot_S2x4096x2048_S2048x10800_S2x4096x10800_2_0_01_1_n_n none x (shapeCast S2048x10800 w shapeCasts_S1x2048x10800_S2048x10800)) (broadcastInDim S2x4096x10800 ![0, 1, 2] bcast_S1x1x10800_S2x4096x10800_0_1_2 (broadcastInDim S1x1x10800 ![2] bcast_S10800_S1x1x10800_2 (shapeCast S10800 b shapeCasts_S1x10800_S10800)))) slices_S2x4096x10800_S2x4096x1024_0_0_0

/-- The prompt's part, element by element. -/
theorem partP_apply (x : FVec Ideal S2x4096x2048 .f32) (w : FVec Ideal S1x2048x10800 .f32) (b : FVec Ideal S1x10800 .f32)
    (e : Fin 2) (t : Fin 4096) (j : Fin 1024) : partP x w b (ix3 e t j) = lin (fun k => x (ix3 e t k)) w b ⟨j.val, by omega⟩ := by
  pointwise [partP, lin]

/-- The sample's part of the projection. -/
def partS (x : FVec Ideal S32x4x2048 .f32) (w : FVec Ideal S1x2048x10800 .f32) (b : FVec Ideal S1x10800 .f32) : FVec Ideal S32x4x1024 .f32 :=
  extractStridedSlice S32x4x1024 ![0, 0, 0] (addf (Host.dotGeneral dot_S32x4x2048_S2048x10800_S32x4x10800_2_0_01_1_n_n none x (shapeCast S2048x10800 w shapeCasts_S1x2048x10800_S2048x10800)) (broadcastInDim S32x4x10800 ![0, 1, 2] bcast_S1x1x10800_S32x4x10800_0_1_2 (broadcastInDim S1x1x10800 ![2] bcast_S10800_S1x1x10800_2 (shapeCast S10800 b shapeCasts_S1x10800_S10800)))) slices_S32x4x10800_S32x4x1024_0_0_0

/-- The sample's part, element by element. -/
theorem partS_apply (x : FVec Ideal S32x4x2048 .f32) (w : FVec Ideal S1x2048x10800 .f32) (b : FVec Ideal S1x10800 .f32)
    (e : Fin 32) (t : Fin 4) (j : Fin 1024) : partS x w b (ix3 e t j) = lin (fun k => x (ix3 e t k)) w b ⟨j.val, by omega⟩ := by
  pointwise [partS, lin]

/-- Prompt and sample one after the other. -/
def both (P : FVec Ideal S2x4096x1024 .f32) (S : FVec Ideal S32x4x1024 .f32) : FVec Ideal S8320x1024 .f32 :=
  concatenate S8320x1024 0 [⟨S8192x1024, (shapeCast S8192x1024 P shapeCasts_S2x4096x1024_S8192x1024)⟩, ⟨S128x1024, (shapeCast S128x1024 S shapeCasts_S32x4x1024_S128x1024)⟩] concatenates_S8192x1024_S128x1024_S8320x1024_d0

/-- The rows one after the other, element by element. -/
theorem both_apply (P : FVec Ideal S2x4096x1024 .f32) (S : FVec Ideal S32x4x1024 .f32) (r : Fin 8320) (j : Fin 1024) :
    both P S (ix2 r j) = if h : r.val < 8192 then P (ix3 ⟨r.val / 4096, by omega⟩ ⟨r.val % 4096, by omega⟩ j)
      else S (ix3 ⟨(r.val - 8192) / 4, by omega⟩ ⟨(r.val - 8192) % 4, by omega⟩ j) := by
  pointwise [both]

/-- The rows are the projection. -/
theorem both_eq (xp : FVec Ideal S2x4096x2048 .f32) (xs : FVec Ideal S32x4x2048 .f32) (w : FVec Ideal S1x2048x10800 .f32) (b : FVec Ideal S1x10800 .f32) (r : Fin 8320) (j : Fin 1024) :
    both (partP xp w b) (partS xs w b) (ix2 r j) = proj xp xs w b r ⟨j.val, by omega⟩ := by
  refine (both_apply _ _ r j).trans ?_
  by_cases h : r.val < 8192
  · rw [dif_pos h, partP_apply, proj_prompt _ _ _ _ _ _ h]
  · rw [dif_neg h, partS_apply, proj_sample _ _ _ _ _ _ h]

/-- The rows by heads. -/
def byHead (A : FVec Ideal S8320x1024 .f32) : FVec Ideal S16x8320x64 .bf16 :=
  truncf .bf16 (transpose S16x8320x64 [1, 0, 2] (shapeCast S8320x16x64 A shapeCasts_S8320x1024_S8320x16x64) transposes_S8320x16x64_S16x8320x64_1_0_2) bitsLt_bf16_f32

/-- The rows by heads, element by element. -/
theorem byHead_apply (A : FVec Ideal S8320x1024 .f32) (h : Fin 16) (r : Fin 8320) (d : Fin 64) :
    byHead A (ix3 h r d) = A (ix2 r ⟨h.val * 64 + d.val, by omega⟩) := by
  pointwise [byHead]

end Cert.ProjQRefIdeal.Ref

end
-- ==== Proof.QSame.lean ====
module

public import proofs.«01_k».proof.Proof.QArr
public import proofs.«01_k».proof.Proof.QRef

@[expose] public section

set_option maxRecDepth 16384
set_option Elab.async false

noncomputable section

/-! # The projection to the queries: kernel and reference agree -/

namespace Cert.QSame

open Cert.ProjQIdeal Cert.ProjQIdeal.Gen Cert.ProjQIdeal.Q Cert.Rows
open Idealize.ShloMosaic
open Idealize.ShloMosaic.TcCoe Idealize.ShloMosaic.Tactic
open Cert.ProjQRefIdeal.Ref (both both_eq partP partS byHead byHead_apply)

variable (m : (ℓ : Loc nD τ sig) → Buf (Elt Ideal) ℓ)

/-- The reference's result is the kernel's. -/
theorem eq (c : Dev nD) : byHead (both (partP (m ((c : Thread nD τ).loc main_arg0)) (m ((c : Thread nD τ).loc main_arg2)) (m ((c : Thread nD τ).loc main_arg3)))
    (partS (m ((c : Thread nD τ).loc main_arg1)) (m ((c : Thread nD τ).loc main_arg2)) (m ((c : Thread nD τ).loc main_arg3)))) = heads m c := by
  funext i
  obtain ⟨h, r, d, rfl⟩ : ∃ (h : Fin 16) (r : Fin 8320) (d : Fin 64), i = ix3 h r d := ⟨i 0, i 1, i 2, eq_ix3 i⟩
  refine (byHead_apply _ h r d).trans ((both_eq _ _ _ _ r _).trans ?_)
  exact congrArg (proj _ _ _ _ r) (Fin.ext (by show h.val * 64 + d.val = 64 * h.val + d.val; omega))

end Cert.QSame

end
-- ==== Proof.MixSpec.lean ====
module

public import Idealize.ShloMosaic.Lib.Pipeline.ValueKit

@[expose] public section

set_option maxRecDepth 16384
set_option Elab.async false

noncomputable section

/-! # The mathematics of the merge

Each of the two mixers' outputs goes through its weights; the two products are added, each times the logistic function
of its merge gate. -/

namespace Cert.MixSpec

open Idealize.ShloMosaic

/-- The logistic function. -/
def sg (x : EReal) : EReal := Ideal.div 1 (1 + Ideal.exp (-x))

/-- Two products of rows with columns, each times the logistic function of its gate, added. -/
def mix (g h : EReal) (a u b v : Fin 1024 → EReal) : EReal := sg g * (∑ k : Fin 1024, a k * u k) + sg h * ∑ k : Fin 1024, b k * v k

/-- The merge at a row and a column. The gates of the first mixer are in the first 2048 columns, those of the second in
the others. -/
def el (oa ob : FVec Ideal ⟨2, ![8320, 1024]⟩ .bf16) (mg : FVec Ideal ⟨2, ![8320, 4096]⟩ .f32)
    (wa wb : FVec Ideal ⟨3, ![1, 1024, 2048]⟩ .f32) (r : Fin 8320) (j : Fin 2048) : EReal :=
  mix (mg (ix2 r ⟨j.val, by omega⟩)) (mg (ix2 r ⟨2048 + j.val, by omega⟩)) (fun k => oa (ix2 r k)) (fun k => wa (ix3 0 k j))
    (fun k => ob (ix2 r k)) (fun k => wb (ix3 0 k j))

end Cert.MixSpec

end
-- ==== Proof.MixIn.lean ====
module

public import proofs.«01_k».proof.Proof.Gen.TailMixIdeal.Frame
public import proofs.«01_k».proof.Proof.MixSpec

@[expose] public section

set_option maxRecDepth 16384
set_option Elab.async false

noncomputable section

/-! # The merge: one block, and the weights read

A block is 320 rows. Each element is the merge of the row's two products with the column. -/

namespace Cert.TailMixIdeal.Mix

open Cert.TailMixIdeal Cert.TailMixIdeal.Gen Cert.MixSpec
open Idealize.ShloMosaic Idealize.SL.Sem
open Idealize.ShloMosaic.TcCoe Idealize.ShloMosaic.Tactic
open Idealize.ShloMosaic.Pipeline (Dat Cfg Window)

/-- The output's block, element by element. -/
theorem out6_apply (a b : FVec Ideal S320x1024 .bf16) (g h : FVec Ideal S320x2048 .f32) (u v : FVec Ideal S1024x2048 .bf16)
    (r : Fin 320) (j : Fin 2048) : out0_6 (F := Ideal) a b g h u v (ix2 r j)
      = mix (g (ix2 r j)) (h (ix2 r j)) (fun k => a (ix2 r k)) (fun k => u (ix2 k j)) (fun k => b (ix2 r k)) (fun k => v (ix2 k j)) := by
  unfold out0_6
  frame_out
  pointwise [k0_pay1, mix, sg]
  rw [zero_sub, zero_sub]

variable (m : (ℓ : Loc nD τ sig) → Buf (Elt Ideal) ℓ)

/-- The first mixer's weights as the launch reads them. -/
theorem V_wa (c : Dev nD) : V m c main_v1 = (truncf .bf16
    (shapeCast S1024x2048 (m ((c : Thread nD τ).loc main_arg3) : FVec Ideal S1x1024x2048 .f32) shapeCasts_S1x1024x2048_S1024x2048)
    bitsLt_bf16_f32 : FVec Ideal S1024x2048 .bf16) := by
  show StableHlo.after (List.flatten [hostOps0]) (fun b => m (c, b)) (Proc.devRef .tc _) = _
  simp only [hostOps0, List.flatten_cons, List.flatten_nil, List.append_nil]
  after_results_simp <;> rfl

/-- The second mixer's weights as the launch reads them. -/
theorem V_wb (c : Dev nD) : V m c main_v3 = (truncf .bf16
    (shapeCast S1024x2048 (m ((c : Thread nD τ).loc main_arg4) : FVec Ideal S1x1024x2048 .f32) shapeCasts_S1x1024x2048_S1024x2048)
    bitsLt_bf16_f32 : FVec Ideal S1024x2048 .bf16) := by
  show StableHlo.after (List.flatten [hostOps0]) (fun b => m (c, b)) (Proc.devRef .tc _) = _
  simp only [hostOps0, List.flatten_cons, List.flatten_nil, List.append_nil]
  after_results_simp <;> rfl

/-- A weight. -/
theorem w_apply (w : FVec Ideal S1x1024x2048 .f32) (k : Fin 1024) (j : Fin 2048) :
    (truncf .bf16 (shapeCast S1024x2048 w shapeCasts_S1x1024x2048_S1024x2048) bitsLt_bf16_f32 : FVec Ideal S1024x2048 .bf16) (ix2 k j)
      = w (ix3 0 k j) := by
  pointwise

end Cert.TailMixIdeal.Mix

end
-- ==== Proof.MixArr.lean ====
module

public import proofs.«01_k».proof.Proof.MixIn

@[expose] public section

set_option maxRecDepth 16384
set_option Elab.async false

noncomputable section

/-! # The merge: the array after the launch

Every point writes its block of rows, so the array holds the merge. -/

namespace Cert.TailMixIdeal.Mix

open Cert.TailMixIdeal Cert.TailMixIdeal.Gen Cert.MixSpec
open Idealize.ShloMosaic Idealize.SL.Sem
open Idealize.ShloMosaic.TcCoe Idealize.ShloMosaic.Tactic
open Idealize.ShloMosaic.Pipeline (Dat Cfg Window)

variable (m : (ℓ : Loc nD τ sig) → Buf (Elt Ideal) ℓ)

/-- The block indices of the windows at a point. -/
theorem idx : ∀ t : Fin cfg0.N, (cfg0.win 0).index t = ![t.val, 0] ∧ (cfg0.win 1).index t = ![t.val, 0]
    ∧ (cfg0.win 2).index t = ![t.val, 0] ∧ (cfg0.win 3).index t = ![t.val, 1] ∧ (cfg0.win 4).index t = ![0, 0]
    ∧ (cfg0.win 5).index t = ![0, 0] ∧ (cfg0.win 6).index t = ![t.val, 0] := by decide +kernel

/-- The first mixer's rows of a point's block. -/
theorem blk_oa (c : Dev nD) (t : Fin cfg0.N) (r : Fin 320) (k : Fin 1024) (R : Fin 8320) (hR : R.val = 320 * t.val + r.val) :
    iblk m c 0 t (ix2 r k) = (m ((c : Thread nD τ).loc main_arg0) : FVec Ideal S8320x1024 .bf16) (ix2 R k) := by
  refine Eq.trans (congrArg (V m c main_arg0) (funext fun a => Fin.ext ?_)) (congrFun (V_main_arg0 m c) (ix2 R k))
  refine (Pipeline.Window.rect_emb_val (cfg0.win 0) t (ix2 r k) a).trans ?_
  rw [(idx t).1]
  match a with
  | ⟨0, _⟩ => show t.val * 320 + r.val = R.val; omega
  | ⟨1, _⟩ => show 0 * 1024 + k.val = k.val; omega

/-- The second mixer's rows of a point's block. -/
theorem blk_ob (c : Dev nD) (t : Fin cfg0.N) (r : Fin 320) (k : Fin 1024) (R : Fin 8320) (hR : R.val = 320 * t.val + r.val) :
    iblk m c 1 t (ix2 r k) = (m ((c : Thread nD τ).loc main_arg1) : FVec Ideal S8320x1024 .bf16) (ix2 R k) := by
  refine Eq.trans (congrArg (V m c main_arg1) (funext fun a => Fin.ext ?_)) (congrFun (V_main_arg1 m c) (ix2 R k))
  refine (Pipeline.Window.rect_emb_val (cfg0.win 1) t (ix2 r k) a).trans ?_
  rw [(idx t).2.1]
  match a with
  | ⟨0, _⟩ => show t.val * 320 + r.val = R.val; omega
  | ⟨1, _⟩ => show 0 * 1024 + k.val = k.val; omega

/-- The first mixer's gates of a point's block. -/
theorem blk_ga (c : Dev nD) (t : Fin cfg0.N) (r : Fin 320) (j : Fin 2048) (R : Fin 8320) (hR : R.val = 320 * t.val + r.val) :
    iblk m c 2 t (ix2 r j) = (m ((c : Thread nD τ).loc main_arg2) : FVec Ideal S8320x4096 .f32) (ix2 R ⟨j.val, by omega⟩) := by
  refine Eq.trans (congrArg (V m c main_arg2) (funext fun a => Fin.ext ?_)) (congrFun (V_main_arg2 m c) (ix2 R ⟨j.val, by omega⟩))
  refine (Pipeline.Window.rect_emb_val (cfg0.win 2) t (ix2 r j) a).trans ?_
  rw [(idx t).2.2.1]
  match a with
  | ⟨0, _⟩ => show t.val * 320 + r.val = R.val; omega
  | ⟨1, _⟩ => show 0 * 2048 + j.val = j.val; omega

/-- The second mixer's gates of a point's block. -/
theorem blk_gb (c : Dev nD) (t : Fin cfg0.N) (r : Fin 320) (j : Fin 2048) (R : Fin 8320) (hR : R.val = 320 * t.val + r.val) :
    iblk m c 3 t (ix2 r j) = (m ((c : Thread nD τ).loc main_arg2) : FVec Ideal S8320x4096 .f32) (ix2 R ⟨2048 + j.val, by omega⟩) := by
  refine Eq.trans (congrArg (V m c main_arg2) (funext fun a => Fin.ext ?_)) (congrFun (V_main_arg2 m c) (ix2 R ⟨2048 + j.val, by omega⟩))
  refine (Pipeline.Window.rect_emb_val (cfg0.win 3) t (ix2 r j) a).trans ?_
  rw [(idx t).2.2.2.1]
  match a with
  | ⟨0, _⟩ => show t.val * 320 + r.val = R.val; omega
  | ⟨1, _⟩ => show 1 * 2048 + j.val = 2048 + j.val; omega

/-- The first mixer's weights at a point. -/
theorem blk_wa (c : Dev nD) (t : Fin cfg0.N) (k : Fin 1024) (j : Fin 2048) :
    iblk m c 4 t (ix2 k j) = (m ((c : Thread nD τ).loc main_arg3) : FVec Ideal S1x1024x2048 .f32) (ix3 0 k j) := by
  refine Eq.trans (congrArg (V m c main_v1) (funext fun a => Fin.ext ?_)) ((congrFun (V_wa m c) (ix2 k j)).trans (w_apply _ k j))
  refine (Pipeline.Window.rect_emb_val (cfg0.win 4) t (ix2 k j) a).trans ?_
  rw [(idx t).2.2.2.2.1]
  match a with
  | ⟨0, _⟩ => show 0 * 1024 + k.val = k.val; omega
  | ⟨1, _⟩ => show 0 * 2048 + j.val = j.val; omega

/-- The second mixer's weights at a point. -/
theorem blk_wb (c : Dev nD) (t : Fin cfg0.N) (k : Fin 1024) (j : Fin 2048) :
    iblk m c 5 t (ix2 k j) = (m ((c : Thread nD τ).loc main_arg4) : FVec Ideal S1x1024x2048 .f32) (ix3 0 k j) := by
  refine Eq.trans (congrArg (V m c main_v3) (funext fun a => Fin.ext ?_)) ((congrFun (V_wb m c) (ix2 k j)).trans (w_apply _ k j))
  refine (Pipeline.Window.rect_emb_val (cfg0.win 5) t (ix2 k j) a).trans ?_
  rw [(idx t).2.2.2.2.2.1]
  match a with
  | ⟨0, _⟩ => show 0 * 1024 + k.val = k.val; omega
  | ⟨1, _⟩ => show 0 * 2048 + j.val = j.val; omega

/-- The merge, rows by columns. -/
def flat (c : Dev nD) : S8320x2048.Idx → EReal := fun i =>
  el (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- Equal gates, rows and columns give equal merges. -/
theorem mix_congr {g g' h h' : EReal} {a a' u u' b b' v v' : Fin 1024 → EReal} (hg : g = g') (hh : h = h')
    (ha : ∀ k, a k = a' k) (hu : ∀ k, u k = u' k) (hb : ∀ k, b k = b' k) (hv : ∀ k, v k = v' k) : mix g h a u b v = mix g' h' a' u' b' v' := by
  obtain rfl := funext ha
  obtain rfl := funext hu
  obtain rfl := funext hb
  obtain rfl := funext hv
  rw [hg, hh]

/-- What a point leaves in its block is the merge there. -/
theorem flat_at (c : Dev nD) (t : Fin cfg0.N) (y : S320x2048.Idx) (i : S8320x2048.Idx)
    (h0 : (i 0).val = t.val * 320 + (y 0).val) (h1 : (i 1).val = 0 * 2048 + (y 1).val) :
    out0_6 (F := Ideal) (iblk m c 0 t) (iblk m c 1 t) (iblk m c 2 t) (iblk m c 3 t) (iblk m c 4 t) (iblk m c 5 t) y = flat m c i := by
  obtain ⟨r, j, rfl⟩ : ∃ (r : Fin 320) (j : Fin 2048), y = ix2 r j := ⟨y 0, y 1, eq_ix2 y⟩
  obtain ⟨R, J, rfl⟩ : ∃ (R : Fin 8320) (J : Fin 2048), i = ix2 R J := ⟨i 0, i 1, eq_ix2 i⟩
  have hR : R.val = 320 * t.val + r.val := by have h : R.val = t.val * 320 + r.val := h0; omega
  have hJ : j = J := by have h : J.val = 0 * 2048 + j.val := h1; exact Fin.ext (by omega)
  subst hJ
  exact (out6_apply _ _ _ _ _ _ r j).trans (mix_congr (blk_ga m c t r j R hR) (blk_gb m c t r j R hR) (fun k => blk_oa m c t r k R hR)
    (fun k => blk_wa m c t k j) (fun k => blk_ob m c t r k R hR) (fun k => blk_wb m c t k j))

/-- The output's blocks cover it. -/
theorem cov6 : (cfg0.win 6).Covers := by decide +kernel

/-- The output after the launch. -/
theorem arr_flat (c : Dev nD) : (dats m 0 c).arrAt 6 cfg0.N = flat m c := by
  refine Dat.arrAt_eq_of_covers (dats m 0 c) 6 (flat m c) cov6 ?_ (Memref.isWhole_whole _)
  intro t hf y
  blk_simp
  rw [after0_6]
  have e0 := Pipeline.Window.rect_emb_val (cfg0.win 6) t y 0
  have e1 := Pipeline.Window.rect_emb_val (cfg0.win 6) t y 1
  rw [(idx t).2.2.2.2.2.2] at e0 e1
  exact flat_at m c t y _ e0 e1

/-- The kernel ends with the merge in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).1 6).trans (arr_flat m c), h.2 c⟩) (θ_run_and (run_main m g) (unchanged m g))

end Cert.TailMixIdeal.Mix

end
-- ==== Proof.MixRef.lean ====
module

public import proofs.«01_k».proof.Proof.MixSpec
public import proofs.«01_k».proof.Proof.Gen.TailMixRefIdeal.Run

@[expose] public section

set_option maxRecDepth 16384
set_option Elab.async false

noncomputable section

/-! # The merge in the reference, element by element -/

namespace Cert.TailMixRefIdeal.Ref

open Cert.TailMixRefIdeal Cert.TailMixRefIdeal.Gen Cert.MixSpec
open Idealize.ShloMosaic Idealize.ShloMosaic.Tactic

/-- The logistic function of the first mixer's gates. -/
def ga (mg : FVec Ideal S8320x4096 .f32) : FVec Ideal S8320x2048 .f32 :=
  Host.divf (broadcastInDim S8320x2048 ![] bcast_S_S8320x2048 (constant S_ .f32 0x3F800000#32)) (addf (broadcastInDim S8320x2048 ![] bcast_S_S8320x2048 (constant S_ .f32 0x3F800000#32)) (Host.exp (Host.negf (shapeCast S8320x2048 (extractStridedSlice S8320x1x2048 ![0, 0, 0] (shapeCast S8320x2x2048 mg shapeCasts_S8320x4096_S8320x2x2048) slices_S8320x2x2048_S8320x1x2048_0_0_0) shapeCasts_S8320x1x2048_S8320x2048))))

/-- The logistic function of the second mixer's gates. -/
def gb (mg : FVec Ideal S8320x4096 .f32) : FVec Ideal S8320x2048 .f32 :=
  Host.divf (broadcastInDim S8320x2048 ![] bcast_S_S8320x2048 (constant S_ .f32 0x3F800000#32)) (addf (broadcastInDim S8320x2048 ![] bcast_S_S8320x2048 (constant S_ .f32 0x3F800000#32)) (Host.exp (Host.negf (shapeCast S8320x2048 (extractStridedSlice S8320x1x2048 ![0, 1, 0] (shapeCast S8320x2x2048 mg shapeCasts_S8320x4096_S8320x2x2048) slices_S8320x2x2048_S8320x1x2048_0_1_0) shapeCasts_S8320x1x2048_S8320x2048))))

/-- A mixer's rows through its weights. -/
def pr (o : FVec Ideal S8320x1024 .bf16) (w : FVec Ideal S1x1024x2048 .f32) : FVec Ideal S8320x2048 .f32 :=
  Host.dotGeneral dot_S8320x1024_S1024x2048_S8320x2048_1_0_0_1_n_n none (extf .f32 o bitsLt_bf16_f32) (shapeCast S1024x2048 w shapeCasts_S1x1024x2048_S1024x2048)

/-- The merge. -/
def merge (oa ob : FVec Ideal S8320x1024 .bf16) (mg : FVec Ideal S8320x4096 .f32) (wa wb : FVec Ideal S1x1024x2048 .f32) : FVec Ideal S8320x2048 .bf16 :=
  truncf .bf16 (addf (mulf (ga mg) (pr oa wa)) (mulf (gb mg) (pr ob wb))) bitsLt_bf16_f32

/-- A gate of the first mixer. -/
theorem ga_apply (mg : FVec Ideal S8320x4096 .f32) (r : Fin 8320) (j : Fin 2048) : ga mg (ix2 r j) = sg (mg (ix2 r ⟨j.val, by omega⟩)) := by
  pointwise [ga, sg]

/-- A gate of the second mixer. -/
theorem gb_apply (mg : FVec Ideal S8320x4096 .f32) (r : Fin 8320) (j : Fin 2048) : gb mg (ix2 r j) = sg (mg (ix2 r ⟨2048 + j.val, by omega⟩)) := by
  pointwise [gb, sg]

/-- A product of a row and a column. -/
theorem pr_apply (o : FVec Ideal S8320x1024 .bf16) (w : FVec Ideal S1x1024x2048 .f32) (r : Fin 8320) (j : Fin 2048) :
    pr o w (ix2 r j) = ∑ k : Fin 1024, o (ix2 r k) * w (ix3 0 k j) := by
  pointwise [pr]

/-- The merge, element by element. -/
theorem merge_apply (oa ob : FVec Ideal S8320x1024 .bf16) (mg : FVec Ideal S8320x4096 .f32) (wa wb : FVec Ideal S1x1024x2048 .f32)
    (r : Fin 8320) (j : Fin 2048) : merge oa ob mg wa wb (ix2 r j) = el oa ob mg wa wb r j := by
  have h : merge oa ob mg wa wb (ix2 r j) = ga mg (ix2 r j) * pr oa wa (ix2 r j) + gb mg (ix2 r j) * pr ob wb (ix2 r j) := rfl
  rw [h, ga_apply, gb_apply, pr_apply, pr_apply]
  rfl

end Cert.TailMixRefIdeal.Ref

end
-- ==== Proof.MixSame.lean ====
module

public import proofs.«01_k».proof.Proof.MixArr
public import proofs.«01_k».proof.Proof.MixRef

@[expose] public section

set_option maxRecDepth 16384
set_option Elab.async false

noncomputable section

/-! # The merge: kernel and reference agree -/

namespace Cert.MixSame

open Cert.TailMixIdeal Cert.TailMixIdeal.Gen Cert.TailMixIdeal.Mix Cert.MixSpec
open Idealize.ShloMosaic
open Idealize.ShloMosaic.TcCoe Idealize.ShloMosaic.Tactic
open Cert.TailMixRefIdeal.Ref (merge merge_apply)

variable (m : (ℓ : Loc nD τ sig) → Buf (Elt Ideal) ℓ)

/-- The reference's result is the kernel's. -/
theorem eq (c : Dev nD) : merge (m ((c : Thread nD τ).loc main_arg0)) (m ((c : Thread nD τ).loc main_arg1)) (m ((c : Thread nD τ).loc main_arg2))
    (m ((c : Thread nD τ).loc main_arg3)) (m ((c : Thread nD τ).loc main_arg4)) = flat m c := by
  funext i
  obtain ⟨r, j, rfl⟩ : ∃ (r : Fin 8320) (j : Fin 2048), i = ix2 r j := ⟨i 0, i 1, eq_ix2 i⟩
  exact merge_apply _ _ _ _ _ r j

end Cert.MixSame

end
-- ==== Proof.NgIn.lean ====
module

public import proofs.«01_k».proof.Proof.Gen.ProjNgIdeal.Frame
public import proofs.«01_k».proof.Proof.Rows
public import Idealize.ShloMosaic.Lib.KernelVsHost

@[expose] public section

set_option maxRecDepth 16384
set_option Elab.async false

noncomputable section

/-! # The projection to the attention gates: one block, and the arrays read

The weights and the bias of the 48 columns are padded with zeros to 128. A block of rows has all of these columns. -/

namespace Cert.ProjNgIdeal.Ng

open Cert.ProjNgIdeal Cert.ProjNgIdeal.Gen Cert.Rows
open Idealize.ShloMosaic Idealize.SL.Sem
open Idealize.ShloMosaic.TcCoe Idealize.ShloMosaic.Tactic
open Idealize.ShloMosaic.Pipeline (Dat Cfg Window)

/-- The output's block: each element is the row's product with the column, plus the column's bias. -/
theorem out3_apply (x : FVec Ideal S1664x2048 .bf16) (w : FVec Ideal S2048x128 .bf16) (b : FVec Ideal S1x128 .f32) (r : Fin 1664) (j : Fin 128) :
    out0_3 (F := Ideal) x w b (ix2 r j) = (∑ k : Fin 2048, x (ix2 r k) * w (ix2 k j) : EReal) + b (ix2 0 j) := by
  unfold out0_3
  frame_out
  pointwise [k0_pay1]

/-- Prompt and sample one after the other. -/
def rows (xp : FVec Ideal S2x4096x2048 .f32) (xs : FVec Ideal S32x4x2048 .f32) : FVec Ideal S8320x2048 .bf16 :=
  truncf .bf16 (concatenate S8320x2048 0 [⟨S8192x2048, shapeCast S8192x2048 xp shapeCasts_S2x4096x2048_S8192x2048⟩,
    ⟨S128x2048, shapeCast S128x2048 xs shapeCasts_S32x4x2048_S128x2048⟩] concatenates_S8192x2048_S128x2048_S8320x2048_d0) bitsLt_bf16_f32

/-- The weights, padded. -/
def cols (w : FVec Ideal S1x2048x10800 .f32) : FVec Ideal S2048x128 .bf16 :=
  truncf .bf16 (pad S2048x128 ![0, 0] ![0, 80] ![0, 0] (extractStridedSlice S2048x48 ![0, 2560]
    (shapeCast S2048x10800 w shapeCasts_S1x2048x10800_S2048x10800) slices_S2048x10800_S2048x48_0_2560)
    (sitofp .f32 (constantI S_ 32 0#32) : FVec Ideal S_ .f32) pads_S2048x48_S2048x128_000_0800 h_S_) bitsLt_bf16_f32

/-- The bias, padded. -/
def bias (b : FVec Ideal S1x10800 .f32) : FVec Ideal S1x128 .f32 :=
  shapeCast S1x128 (pad S128 ![0] ![80] ![0] (extractStridedSlice S48 ![2560]
    (shapeCast S10800 b shapeCasts_S1x10800_S10800) slices_S10800_S48_2560)
    (sitofp .f32 (constantI S_ 32 0#32) : FVec Ideal S_ .f32) pads_S48_S128_0800 h_S_) shapeCasts_S128_S1x128

/-- A row's element. -/
theorem rows_apply (xp : FVec Ideal S2x4096x2048 .f32) (xs : FVec Ideal S32x4x2048 .f32) (r : Fin 8320) (k : Fin 2048) :
    rows xp xs (ix2 r k) = row xp xs r k := by
  pointwise [rows]
  rfl

/-- A weight of one of the 48 columns. -/
theorem cols_apply (w : FVec Ideal S1x2048x10800 .f32) (k : Fin 2048) (j : Fin 48) :
    cols w (ix2 k ⟨j.val, by omega⟩) = w (ix3 0 k ⟨2560 + j.val, by omega⟩) := by
  refine (pad_apply_of_inside (s := S2048x48) ![0, 0] ![0, 80] ![0, 0] _ _ pads_S2048x48_S2048x128_000_0800 h_S_ (ix2 k ⟨j.val, by omega⟩) (ix2 k j) ?_).trans ?_
  · intro a
    match a with
    | ⟨0, _⟩ => show k.val = 0 + k.val * (0 + 1); omega
    | ⟨1, _⟩ => show j.val = 0 + j.val * (0 + 1); omega
  · pointwise

/-- A bias of one of the 48 columns. -/
theorem bias_apply (b : FVec Ideal S1x10800 .f32) (j : Fin 48) :
    bias b (ix2 0 ⟨j.val, by omega⟩) = b (ix2 0 ⟨2560 + j.val, by omega⟩) := by
  have h : ∀ z : FVec Ideal S128 .f32, shapeCast S1x128 z shapeCasts_S128_S1x128 (ix2 0 ⟨j.val, by omega⟩) = z (ix1 ⟨j.val, by omega⟩) := fun z => by
    pointwise
  refine (h _).trans ((pad_apply_of_inside (s := S48) ![0] ![80] ![0] _ _ pads_S48_S128_0800 h_S_ (ix1 ⟨j.val, by omega⟩) (ix1 j) ?_).trans ?_)
  · intro a
    match a with
    | ⟨0, _⟩ => show j.val = 0 + j.val * (0 + 1); omega
  · pointwise

variable (m : (ℓ : Loc nD τ sig) → Buf (Elt Ideal) ℓ)

/-- The rows the launch reads. -/
theorem V_rows (c : Dev nD) : V m c main_v3 = rows (m ((c : Thread nD τ).loc main_arg0)) (m ((c : Thread nD τ).loc main_arg1)) := by
  sl_kernel_rfl

/-- The weights the launch reads. -/
theorem V_cols (c : Dev nD) : V m c main_v10 = cols (m ((c : Thread nD τ).loc main_arg2)) := by
  sl_kernel_rfl

/-- The bias the launch reads. -/
theorem V_bias (c : Dev nD) : V m c main_v11 = bias (m ((c : Thread nD τ).loc main_arg3)) := by
  sl_kernel_rfl

end Cert.ProjNgIdeal.Ng

end
-- ==== Proof.NgArr.lean ====
module

public import proofs.«01_k».proof.Proof.NgIn

@[expose] public section

set_option maxRecDepth 16384
set_option Elab.async false

noncomputable section

/-! # The projection to the attention gates: the array after the launch, and the results cut from it

Every point writes its block of rows, so the array holds the projection on the padded columns. The results are the
first 48 columns, of the prompt's rows and of the sample's. -/

namespace Cert.ProjNgIdeal.Ng

open Cert.ProjNgIdeal Cert.ProjNgIdeal.Gen Cert.Rows
open Idealize.ShloMosaic Idealize.SL.Sem
open Idealize.ShloMosaic.TcCoe Idealize.ShloMosaic.Tactic
open Idealize.ShloMosaic.Pipeline (Dat Cfg Window)

variable (m : (ℓ : Loc nD τ sig) → Buf (Elt Ideal) ℓ)

/-- The projection on the padded columns, from the arrays the launch reads. -/
def flat (c : Dev nD) : S8320x128.Idx → EReal := fun i =>
  (∑ k : Fin 2048, rows (m ((c : Thread nD τ).loc main_arg0)) (m ((c : Thread nD τ).loc main_arg1)) (ix2 (i 0) k) * cols (m ((c : Thread nD τ).loc main_arg2)) (ix2 k (i 1)) : EReal) + bias (m ((c : Thread nD τ).loc main_arg3)) (ix2 0 (i 1))

/-- On the 48 columns it is the projection. -/
theorem flat_apply (c : Dev nD) (r : Fin 8320) (j : Fin 48) : flat m c (ix2 r ⟨j.val, by omega⟩)
    = proj (m ((c : Thread nD τ).loc main_arg0)) (m ((c : Thread nD τ).loc main_arg1)) (m ((c : Thread nD τ).loc main_arg2)) (m ((c : Thread nD τ).loc main_arg3)) r ⟨2560 + j.val, by omega⟩ := by
  unfold proj lin
  exact congrArg₂ (· + ·) (Finset.sum_congr rfl fun k _ => congrArg₂ (· * ·) (rows_apply _ _ r k) (cols_apply _ k j)) (bias_apply _ j)

/-- The block indices of the windows at a point. -/
theorem idx : ∀ t : Fin cfg0.N, (cfg0.win 0).index t = ![t.val, 0] ∧ (cfg0.win 1).index t = ![0, 0]
    ∧ (cfg0.win 2).index t = ![0, 0] ∧ (cfg0.win 3).index t = ![t.val, 0] := by decide +kernel

/-- The rows of a point's block. -/
theorem blk_rows (c : Dev nD) (t : Fin cfg0.N) (r : Fin 1664) (k : Fin 2048) (R : Fin 8320) (hR : R.val = t.val * 1664 + r.val) :
    iblk m c 0 t (ix2 r k) = rows (m ((c : Thread nD τ).loc main_arg0)) (m ((c : Thread nD τ).loc main_arg1)) (ix2 R k) := by
  refine Eq.trans (congrArg (V m c main_v3) (funext fun a => Fin.ext ?_)) (congrFun (V_rows m c) (ix2 R k))
  refine (Pipeline.Window.rect_emb_val (cfg0.win 0) t (ix2 r k) a).trans ?_
  rw [(idx t).1]
  match a with
  | ⟨0, _⟩ => show t.val * 1664 + r.val = R.val; omega
  | ⟨1, _⟩ => show 0 * 2048 + k.val = k.val; omega

/-- The columns of a point's block. -/
theorem blk_cols (c : Dev nD) (t : Fin cfg0.N) (k : Fin 2048) (j : Fin 128) :
    iblk m c 1 t (ix2 k j) = cols (m ((c : Thread nD τ).loc main_arg2)) (ix2 k j) := by
  refine Eq.trans (congrArg (V m c main_v10) (funext fun a => Fin.ext ?_)) (congrFun (V_cols m c) (ix2 k j))
  refine (Pipeline.Window.rect_emb_val (cfg0.win 1) t (ix2 k j) a).trans ?_
  rw [(idx t).2.1]
  match a with
  | ⟨0, _⟩ => show 0 * 2048 + k.val = k.val; omega
  | ⟨1, _⟩ => show 0 * 128 + j.val = j.val; omega

/-- The bias of a point's block. -/
theorem blk_bias (c : Dev nD) (t : Fin cfg0.N) (j : Fin 128) :
    iblk m c 2 t (ix2 0 j) = bias (m ((c : Thread nD τ).loc main_arg3)) (ix2 0 j) := by
  refine Eq.trans (congrArg (V m c main_v11) (funext fun a => Fin.ext ?_)) (congrFun (V_bias m c) (ix2 0 j))
  refine (Pipeline.Window.rect_emb_val (cfg0.win 2) t (ix2 0 j) a).trans ?_
  rw [(idx t).2.2.1]
  match a with
  | ⟨0, _⟩ => rfl
  | ⟨1, _⟩ => show 0 * 128 + j.val = j.val; omega

/-- What a point leaves in its block is the projection there. -/
theorem flat_at (c : Dev nD) (t : Fin cfg0.N) (y : S1664x128.Idx) (i : S8320x128.Idx)
    (h0 : (i 0).val = t.val * 1664 + (y 0).val) (h1 : (i 1).val = 0 * 128 + (y 1).val) :
    out0_3 (F := Ideal) (iblk m c 0 t) (iblk m c 1 t) (iblk m c 2 t) y = flat m c i := by
  obtain ⟨r, j, rfl⟩ : ∃ (r : Fin 1664) (j : Fin 128), y = ix2 r j := ⟨y 0, y 1, eq_ix2 y⟩
  obtain ⟨R, J, rfl⟩ : ∃ (R : Fin 8320) (J : Fin 128), i = ix2 R J := ⟨i 0, i 1, eq_ix2 i⟩
  have h0' : R.val = t.val * 1664 + r.val := h0
  have h1' : J.val = 0 * 128 + j.val := h1
  obtain rfl : J = j := Fin.ext (by omega)
  exact (out3_apply _ _ _ r J).trans (congrArg₂ (· + ·) (Finset.sum_congr rfl fun k _ =>
    congrArg₂ (· * ·) (blk_rows m c t r k R h0') (blk_cols m c t k J)) (blk_bias m c t J))

/-- The output's blocks cover it. -/
theorem cov3 : (cfg0.win 3).Covers := by decide +kernel

/-- The output after the launch. -/
theorem arr_flat (c : Dev nD) : (dats m 0 c).arrAt 3 cfg0.N = flat m c := by
  refine Dat.arrAt_eq_of_covers (dats m 0 c) 3 (flat m c) cov3 ?_ (Memref.isWhole_whole _)
  intro t hf y
  blk_simp
  rw [after0_3]
  have e0 := Pipeline.Window.rect_emb_val (cfg0.win 3) t y 0
  have e1 := Pipeline.Window.rect_emb_val (cfg0.win 3) t y 1
  rw [(idx t).2.2.2] at e0 e1
  exact flat_at m c t y _ e0 e1

/-- The prompt's rows of the 48 columns. -/
def cutP (A : FVec Ideal S8320x128 .f32) : FVec Ideal S8192x48 .f32 := extractStridedSlice S8192x48 ![0, 0] A slices_S8320x128_S8192x48_0_0

/-- The sample's rows of the 48 columns. -/
def cutS (A : FVec Ideal S8320x128 .f32) : FVec Ideal S128x48 .f32 := extractStridedSlice S128x48 ![8192, 0] A slices_S8320x128_S128x48_8192_0

/-- The prompt's rows, element by element. -/
theorem cutP_apply (A : FVec Ideal S8320x128 .f32) (r : Fin 8192) (j : Fin 48) : cutP A (ix2 r j) = A (ix2 ⟨r.val, by omega⟩ ⟨j.val, by omega⟩) := by
  pointwise [cutP]

/-- The sample's rows, element by element. -/
theorem cutS_apply (A : FVec Ideal S8320x128 .f32) (r : Fin 128) (j : Fin 48) : cutS A (ix2 r j) = A (ix2 ⟨8192 + r.val, by omega⟩ ⟨j.val, by omega⟩) := by
  pointwise [cutS]

/-- After the launch the output's array is the projection. -/
theorem with_flat (c : Dev nD) : Pipeline.withArrays (cfgs 0).spec c (V0 m c) (fun w => (dats m 0 c).arrAt w (cfgs 0).N)
    (Proc.tc.devRef main_v12) = flat m c :=
  (Pipeline.withArrays_arr spec0 (by decide) c (V0 m c) (fun w => (dats m 0 c).arrAt w (cfgs 0).N) 3).trans (arr_flat m c)

/-- The prompt's attention gates. -/
theorem tail_v13 (c : Dev nD) : Pipeline.afterTail₀ cfgs (dats m) 0 (V0 m) [hostOps1] c main_v13 = cutP (flat m c) := by
  rw [← with_flat m c]
  unfold Pipeline.afterTail₀
  simp only [hostOps1, List.flatten_cons, List.flatten_nil, List.append_nil]
  after_results_simp <;> rfl

/-- The sample's attention gates. -/
theorem tail_v14 (c : Dev nD) : Pipeline.afterTail₀ cfgs (dats m) 0 (V0 m) [hostOps1] c main_v14 = cutS (flat m c) := by
  rw [← with_flat m c]
  unfold Pipeline.afterTail₀
  simp only [hostOps1, List.flatten_cons, List.flatten_nil, List.append_nil]
  after_results_simp <;> rfl

/-- The kernel ends with the attention gates in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v13) = cutP (flat m c)
      ∧ r.2.mem ((c.tc : Thread nD τ).loc main_v14) = cutS (flat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨
     ((h c).2 main_v13 (Pipeline.mem_restRefs_of main_v13 (by decide) (by decide))).trans (tail_v13 m c),
     ((h c).2 main_v14 (Pipeline.mem_restRefs_of main_v14 (by decide) (by decide))).trans (tail_v14 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m g)

end Cert.ProjNgIdeal.Ng

end
-- ==== Proof.NgSame.lean ====
module

public import proofs.«01_k».proof.Proof.NgArr
public import proofs.«01_k».proof.Proof.Gen.ProjNgRefIdeal.Run

@[expose] public section

set_option maxRecDepth 16384
set_option Elab.async false

noncomputable section

/-! # The projection to the attention gates: the reference, and its agreement with the kernel

The reference projects prompt and sample each by itself on all the columns and keeps the 48 of the attention gates. -/

namespace Cert.ProjNgRefIdeal.Ref

open Cert.ProjNgRefIdeal Cert.ProjNgRefIdeal.Gen Cert.Rows
open Idealize.ShloMosaic Idealize.ShloMosaic.Tactic

/-- The prompt's attention gates. -/
def partP (x : FVec Ideal S2x4096x2048 .f32) (w : FVec Ideal S1x2048x10800 .f32) (b : FVec Ideal S1x10800 .f32) : FVec Ideal S8192x48 .f32 :=
  shapeCast S8192x48 (extractStridedSlice S2x4096x48 ![0, 0, 2560] (addf (Host.dotGeneral dot_S2x4096x2048_S2048x10800_S2x4096x10800_2_0_01_1_n_n none x (shapeCast S2048x10800 w shapeCasts_S1x2048x10800_S2048x10800)) (broadcastInDim S2x4096x10800 ![0, 1, 2] bcast_S1x1x10800_S2x4096x10800_0_1_2 (broadcastInDim S1x1x10800 ![2] bcast_S10800_S1x1x10800_2 (shapeCast S10800 b shapeCasts_S1x10800_S10800)))) slices_S2x4096x10800_S2x4096x48_0_0_2560) shapeCasts_S2x4096x48_S8192x48

/-- The prompt's attention gates, element by element. -/
theorem partP_apply (x : FVec Ideal S2x4096x2048 .f32) (w : FVec Ideal S1x2048x10800 .f32) (b : FVec Ideal S1x10800 .f32) (r : Fin 8192) (j : Fin 48) :
    partP x w b (ix2 r j) = lin (fun k => x (ix3 ⟨r.val / 4096, by omega⟩ ⟨r.val % 4096, by omega⟩ k)) w b ⟨2560 + j.val, by omega⟩ := by
  pointwise [partP, lin]

/-- The sample's attention gates. -/
def partS (x : FVec Ideal S32x4x2048 .f32) (w : FVec Ideal S1x2048x10800 .f32) (b : FVec Ideal S1x10800 .f32) : FVec Ideal S128x48 .f32 :=
  shapeCast S128x48 (extractStridedSlice S32x4x48 ![0, 0, 2560] (addf (Host.dotGeneral dot_S32x4x2048_S2048x10800_S32x4x10800_2_0_01_1_n_n none x (shapeCast S2048x10800 w shapeCasts_S1x2048x10800_S2048x10800)) (broadcastInDim S32x4x10800 ![0, 1, 2] bcast_S1x1x10800_S32x4x10800_0_1_2 (broadcastInDim S1x1x10800 ![2] bcast_S10800_S1x1x10800_2 (shapeCast S10800 b shapeCasts_S1x10800_S10800)))) slices_S32x4x10800_S32x4x48_0_0_2560) shapeCasts_S32x4x48_S128x48

/-- The sample's attention gates, element by element. -/
theorem partS_apply (x : FVec Ideal S32x4x2048 .f32) (w : FVec Ideal S1x2048x10800 .f32) (b : FVec Ideal S1x10800 .f32) (r : Fin 128) (j : Fin 48) :
    partS x w b (ix2 r j) = lin (fun k => x (ix3 ⟨r.val / 4, by omega⟩ ⟨r.val % 4, by omega⟩ k)) w b ⟨2560 + j.val, by omega⟩ := by
  pointwise [partS, lin]

end Cert.ProjNgRefIdeal.Ref

namespace Cert.NgSame

open Cert.ProjNgIdeal Cert.ProjNgIdeal.Gen Cert.ProjNgIdeal.Ng Cert.Rows
open Idealize.ShloMosaic
open Idealize.ShloMosaic.TcCoe Idealize.ShloMosaic.Tactic
open Cert.ProjNgRefIdeal.Ref (partP partP_apply partS partS_apply)

variable (m : (ℓ : Loc nD τ sig) → Buf (Elt Ideal) ℓ)

/-- The prompt's attention gates are the kernel's. -/
theorem eqP (c : Dev nD) : partP (m ((c : Thread nD τ).loc main_arg0)) (m ((c : Thread nD τ).loc main_arg2)) (m ((c : Thread nD τ).loc main_arg3)) = cutP (flat m c) := by
  funext i
  obtain ⟨r, j, rfl⟩ : ∃ (r : Fin 8192) (j : Fin 48), i = ix2 r j := ⟨i 0, i 1, eq_ix2 i⟩
  refine (partP_apply _ _ _ r j).trans (Eq.trans ?_ ((cutP_apply _ r j).trans (flat_apply m c ⟨r.val, by omega⟩ j)).symm)
  exact (proj_prompt _ _ _ _ ⟨r.val, by omega⟩ _ r.isLt).symm

/-- The sample's attention gates are the kernel's. -/
theorem eqS (c : Dev nD) : partS (m ((c : Thread nD τ).loc main_arg1)) (m ((c : Thread nD τ).loc main_arg2)) (m ((c : Thread nD τ).loc main_arg3)) = cutS (flat m c) := by
  funext i
  obtain ⟨r, j, rfl⟩ : ∃ (r : Fin 128) (j : Fin 48), i = ix2 r j := ⟨i 0, i 1, eq_ix2 i⟩
  refine (partS_apply _ _ _ r j).trans (Eq.trans ?_ ((cutS_apply _ r j).trans (flat_apply m c ⟨8192 + r.val, by omega⟩ j)).symm)
  refine Eq.trans ?_ (proj_sample _ _ _ _ ⟨8192 + r.val, by omega⟩ _ (by show ¬ 8192 + r.val < 8192; omega)).symm
  refine congrArg (fun x => lin x _ _ _) (funext fun k => ?_)
  refine congrArg _ (congrArg₂ (fun a b => ix3 a b k) (Fin.ext ?_) (Fin.ext ?_))
  · show r.val / 4 = (8192 + r.val - 8192) / 4; omega
  · show r.val % 4 = (8192 + r.val - 8192) % 4; omega

end Cert.NgSame

end
-- ==== Proof.BitsRuns.lean ====
module

public import proofs.«01_k».proof.Proof.Gen.MoeFfn.Skeleton
public import proofs.«01_k».proof.Proof.Gen.MoeFfn.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

/-! # One point of the expert launch, path by path

At a point the body may first cast the expert's three weight blocks into its scratch buffers
(`Loads`), and then either multiplies the tile's rows through them (`Live`) or stores zeros
(`Spare`). Each of the four combinations is run here on symbolic operands. -/

namespace Cert.MoeFfn.Moe

open Cert.MoeFfn Cert.MoeFfn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The table of experts, one word per tile, whole. -/
abbrev tabE : Memref sig .tc .smem S97 .i32 := Memref.whole main_arg0
/-- The number of tiles used, whole. -/
abbrev tabN : Memref sig .tc .smem S1 .i32 := Memref.whole main_arg1
/-- The scratch holding the expert's gate weights, whole. -/
abbrev scG : Memref sig .tc .vmem S2048x512 .bf16 := Memref.whole cc0_scratch0
/-- The scratch holding the expert's up weights, whole. -/
abbrev scU : Memref sig .tc .vmem S2048x512 .bf16 := Memref.whole cc0_scratch1
/-- The scratch holding the expert's down weights, whole. -/
abbrev scD : Memref sig .tc .vmem S512x2048 .bf16 := Memref.whole cc0_scratch2

/-- The word of the expert table the body reads at offset `k`. -/
abbrev word (T : S97.Idx → Elt Bits .i32) (k : Fin 1 → ℕ) (h : ∀ a, k a + S1.size a ≤ S97.size a) : Elt Bits .i32 :=
  View.readAt (Elt Bits) tabE.view (Rect.unit (s := S97) k S1.size h).toLoadRect T (Shape.Idx.first (numel1_S1.symm ▸ Nat.one_pos))

/-- The number of tiles used, as the body reads it. -/
abbrev used (T : S1.Idx → Elt Bits .i32) : Elt Bits .i32 :=
  View.readAt (Elt Bits) tabN.view (Rect.unit (s := S1) ![0] S1.size inb_S1_S1_0).toLoadRect T (Shape.Idx.first (numel1_S1.symm ▸ Nat.one_pos))

/-- The body casts the weights at this point: it is the first, or its expert is not the one before. -/
abbrev Loads (i : grid0.Coords) (T0 : S97.Idx → Elt Bits .i32) : Prop :=
  Scalar.cmpi .ne (Scalar.extui (Scalar.ori (Scalar.cmpi .eq (BitVec.ofNat 32 (i 0).val) 0#32)
    (Scalar.cmpi .ne (word T0 (k0_off1 i) (k0_off1_inb i)) (word T0 (k0_off2 i) (k0_off2_inb i))))) 0#32 = 1#1

/-- The tile is used. -/
abbrev Live (i : grid0.Coords) (T1 : S1.Idx → Elt Bits .i32) : Prop := k0_cond2 i (used T1) = 1#1
/-- The tile is not used. -/
abbrev Spare (i : grid0.Coords) (T1 : S1.Idx → Elt Bits .i32) : Prop := k0_cond3 i (used T1) = 1#1

set_option backward.proofsInPublic true in
set_option maxHeartbeats 8000000 in
/-- A used tile whose expert is new. The pieces left in the output block and the
scratch contents are read off the run. -/
noncomputable def runLA (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Bits .i32) (T1 : S1.Idx → Elt Bits .i32)
    (x0 : S4096x128.Idx → Elt Bits .f32) (x1 : S1x2048x512.Idx → Elt Bits .f32) (x2 : S1x2048x512.Idx → Elt Bits .f32) (x3 : S1x512x2048.Idx → Elt Bits .f32)

    (hc0 : Loads i T0) (h2 : Live i T1) (h3 : ¬Spare i T1) :
    Σ' (out0 : List (View.Piece (Elt Bits) S4096x128 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Bits) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Bits)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun xa0 xa1 xa2 K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = Scalar.cmpi = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An unused tile whose expert is new. The pieces left in the output block and the
scratch contents are read off the run. -/
noncomputable def runLZ (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Bits .i32) (T1 : S1.Idx → Elt Bits .i32)
    (x0 : S4096x128.Idx → Elt Bits .f32) (x1 : S1x2048x512.Idx → Elt Bits .f32) (x2 : S1x2048x512.Idx → Elt Bits .f32) (x3 : S1x512x2048.Idx → Elt Bits .f32)

    (hc0 : Loads i T0) (h2 : ¬Live i T1) (h3 : Spare i T1) :
    Σ' (out0 : List (View.Piece (Elt Bits) S4096x128 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Bits) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Bits)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun xa0 xa1 xa2 K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = Scalar.cmpi = _; exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- A used tile whose expert is that of the tile before. The pieces left in the output block and the
scratch contents are read off the run. -/
noncomputable def runKA (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Bits .i32) (T1 : S1.Idx → Elt Bits .i32)
    (x0 : S4096x128.Idx → Elt Bits .f32) (x1 : S1x2048x512.Idx → Elt Bits .f32) (x2 : S1x2048x512.Idx → Elt Bits .f32) (x3 : S1x512x2048.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : ¬Loads i T0) (h2 : Live i T1) (h3 : ¬Spare i T1) :
    Σ' (out0 : List (View.Piece (Elt Bits) S4096x128 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Bits) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Bits)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = ¬(Scalar.cmpi = _); exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

set_option backward.proofsInPublic true in
set_option maxHeartbeats 8000000 in
/-- An unused tile whose expert is that of the tile before. The pieces left in the output block and the
scratch contents are read off the run. -/
noncomputable def runKZ (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Bits .i32) (T1 : S1.Idx → Elt Bits .i32)
    (x0 : S4096x128.Idx → Elt Bits .f32) (x1 : S1x2048x512.Idx → Elt Bits .f32) (x2 : S1x2048x512.Idx → Elt Bits .f32) (x3 : S1x512x2048.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : ¬Loads i T0) (h2 : ¬Live i T1) (h3 : Spare i T1) :
    Σ' (out0 : List (View.Piece (Elt Bits) S4096x128 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (scG.view.loc (c : Thread nD τ) ↦{fullShare} xa0)
          ∗ (scU.view.loc (c : Thread nD τ) ↦{fullShare} xa1)
          ∗ (scD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Bits) f out0)
              ∗ (scG.view.loc (c : Thread nD τ) ↦{fullShare} out1)
              ∗ (scU.view.loc (c : Thread nD τ) ↦{fullShare} out2)
              ∗ (scD.view.loc (c : Thread nD τ) ↦{fullShare} out3)) -∗ K ⟨⟩))
          ⊢ wp frame (wpE (defs₀ (F := Bits)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K } :=
  ⟨_, _, _, _, fun K => by
    unfold owns
    rw [cc0_moe_ffn_eq_skeleton]; unfold cc0_moe_ffn_skel
    iintro ⟨H0, H1, H2, H3, HT0, HT1, ⟨%d4, %f4, -, HO4⟩, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first | (guard_target = ¬(Scalar.cmpi = _); exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

end Cert.MoeFfn.Moe

end
-- ==== Proof.BitsTile.lean ====
module

public import proofs.«01_k».proof.Proof.BitsRuns
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Mathlib.Tactic.IntervalCases
public import Idealize.ShloMosaic.Adequacy
public import Idealize.ShloMosaic.Init

@[expose] public section

set_option maxRecDepth 16384
set_option Elab.async false

noncomputable section

/-! # What one point computes, as functions of the blocks

A row of the tile lies in sixteen strips of 128 lanes: strip `k` of row `r` is row `16 r + k` of
the block. The body gathers the strips into rows of 2048, multiplies them through the expert's
weights, and lays the result out in strips again. -/

namespace Cert.MoeFfn.Moe

open Cert.MoeFfn Cert.MoeFfn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- Strip `k` of every row of a block. -/
def strip (k : ℕ) (h : ∀ a, S256x128.size a = 0 ∨ (![k, 0] : Fin 2 → ℕ) a + (![16, 1] : Fin 2 → ℕ) a * (S256x128.size a - 1) < S4096x128.size a)
    (x : S4096x128.Idx → Elt Bits .f32) : S256x128.Idx → Elt Bits .f32 :=
  fun y => x ((⟨![k, 0], S256x128.size, ![16, 1], h⟩ : LoadRect S4096x128).idx y)

/-- The tile's rows through one expert, the scratch buffers holding its weights. -/
def expert (x : S4096x128.Idx → Elt Bits .f32) (g u : FVec Bits S2048x512 .bf16) (d : FVec Bits S512x2048 .bf16) : FVec Bits S256x2048 .f32 :=
  k0_pay30 (k0_pay15 (strip 0 inb_S4096x128_S256x128_0_0_s_16_1 x)) (k0_pay16 (strip 1 inb_S4096x128_S256x128_1_0_s_16_1 x)) (k0_pay17 (strip 2 inb_S4096x128_S256x128_2_0_s_16_1 x)) (k0_pay18 (strip 3 inb_S4096x128_S256x128_3_0_s_16_1 x)) (k0_pay19 (strip 4 inb_S4096x128_S256x128_4_0_s_16_1 x)) (k0_pay20 (strip 5 inb_S4096x128_S256x128_5_0_s_16_1 x)) (k0_pay21 (strip 6 inb_S4096x128_S256x128_6_0_s_16_1 x)) (k0_pay22 (strip 7 inb_S4096x128_S256x128_7_0_s_16_1 x)) (k0_pay23 (strip 8 inb_S4096x128_S256x128_8_0_s_16_1 x)) (k0_pay24 (strip 9 inb_S4096x128_S256x128_9_0_s_16_1 x)) (k0_pay25 (strip 10 inb_S4096x128_S256x128_10_0_s_16_1 x)) (k0_pay26 (strip 11 inb_S4096x128_S256x128_11_0_s_16_1 x)) (k0_pay27 (strip 12 inb_S4096x128_S256x128_12_0_s_16_1 x)) (k0_pay28 (strip 13 inb_S4096x128_S256x128_13_0_s_16_1 x)) (k0_pay29 (strip 14 inb_S4096x128_S256x128_14_0_s_16_1 x))
    (strip 15 inb_S4096x128_S256x128_15_0_s_16_1 x) g u d

/-- Rows of 2048 laid out in strips of 128. -/
def strips (E : FVec Bits S256x2048 .f32) : S4096x128.Idx → Elt Bits .f32 := fun y =>
  E (fun a => match a with
    | ⟨0, _⟩ => (⟨(y 0).val / 16, Nat.div_lt_of_lt_mul (y 0).isLt⟩ : Fin 256)
    | ⟨1, _⟩ => (⟨128 * ((y 0).val % 16) + (y 1).val, by
        have h1 : (y 1).val < 128 := (y 1).isLt
        have h0 := Nat.mod_lt (y 0).val (show 0 < 16 by decide)
        omega⟩ : Fin 2048))

/-- The gate weights as the scratch holds them. -/
def castG (x : S1x2048x512.Idx → Elt Bits .f32) : FVec Bits S2048x512 .bf16 := k0_pay1 (F := Bits) x
/-- The up weights as the scratch holds them. -/
def castU (x : S1x2048x512.Idx → Elt Bits .f32) : FVec Bits S2048x512 .bf16 := k0_pay2 (F := Bits) x
/-- The down weights as the scratch holds them. -/
def castD (x : S1x512x2048.Idx → Elt Bits .f32) : FVec Bits S512x2048 .bf16 := k0_pay3 (F := Bits) x

/-- The rectangle the body stores strip `k` to. -/
abbrev rect (k : ℕ) (h : ∀ a, S256x128.size a = 0 ∨ (![k, 0] : Fin 2 → ℕ) a + (![16, 1] : Fin 2 → ℕ) a * (S256x128.size a - 1) < S4096x128.size a) : Rect S4096x128 :=
  ⟨⟨![k, 0], S256x128.size, ![16, 1], h⟩, spos_16_1⟩

/-- The sixteen stores of a computed tile, the last first. -/
def pieces (E : FVec Bits S256x2048 .f32) : List (View.Piece (Elt Bits) S4096x128 .f32) :=
  [⟨rect 15 inb_S4096x128_S256x128_15_0_s_16_1, extractStridedSlice S256x128 ![0, 1920] E slices_S256x2048_o0_1920_S256x128⟩,
   ⟨rect 14 inb_S4096x128_S256x128_14_0_s_16_1, extractStridedSlice S256x128 ![0, 1792] E slices_S256x2048_o0_1792_S256x128⟩,
   ⟨rect 13 inb_S4096x128_S256x128_13_0_s_16_1, extractStridedSlice S256x128 ![0, 1664] E slices_S256x2048_o0_1664_S256x128⟩,
   ⟨rect 12 inb_S4096x128_S256x128_12_0_s_16_1, extractStridedSlice S256x128 ![0, 1536] E slices_S256x2048_o0_1536_S256x128⟩,
   ⟨rect 11 inb_S4096x128_S256x128_11_0_s_16_1, extractStridedSlice S256x128 ![0, 1408] E slices_S256x2048_o0_1408_S256x128⟩,
   ⟨rect 10 inb_S4096x128_S256x128_10_0_s_16_1, extractStridedSlice S256x128 ![0, 1280] E slices_S256x2048_o0_1280_S256x128⟩,
   ⟨rect 9 inb_S4096x128_S256x128_9_0_s_16_1, extractStridedSlice S256x128 ![0, 1152] E slices_S256x2048_o0_1152_S256x128⟩,
   ⟨rect 8 inb_S4096x128_S256x128_8_0_s_16_1, extractStridedSlice S256x128 ![0, 1024] E slices_S256x2048_o0_1024_S256x128⟩,
   ⟨rect 7 inb_S4096x128_S256x128_7_0_s_16_1, extractStridedSlice S256x128 ![0, 896] E slices_S256x2048_o0_896_S256x128⟩,
   ⟨rect 6 inb_S4096x128_S256x128_6_0_s_16_1, extractStridedSlice S256x128 ![0, 768] E slices_S256x2048_o0_768_S256x128⟩,
   ⟨rect 5 inb_S4096x128_S256x128_5_0_s_16_1, extractStridedSlice S256x128 ![0, 640] E slices_S256x2048_o0_640_S256x128⟩,
   ⟨rect 4 inb_S4096x128_S256x128_4_0_s_16_1, extractStridedSlice S256x128 ![0, 512] E slices_S256x2048_o0_512_S256x128⟩,
   ⟨rect 3 inb_S4096x128_S256x128_3_0_s_16_1, extractStridedSlice S256x128 ![0, 384] E slices_S256x2048_o0_384_S256x128⟩,
   ⟨rect 2 inb_S4096x128_S256x128_2_0_s_16_1, extractStridedSlice S256x128 ![0, 256] E slices_S256x2048_o0_256_S256x128⟩,
   ⟨rect 1 inb_S4096x128_S256x128_1_0_s_16_1, extractStridedSlice S256x128 ![0, 128] E slices_S256x2048_o0_128_S256x128⟩,
   ⟨rect 0 inb_S4096x128_S256x128_0_0_s_16_1, extractStridedSlice S256x128 ![0, 0] E slices_S256x2048_o0_0_S256x128⟩]

/-- Strip `k` of a computed tile, where it is stored, is the tile laid out in strips. -/
theorem piece_apply (E : FVec Bits S256x2048 .f32) (k o : ℕ) (hk : k < 16) (ho : o = 128 * k) (h) (hs : S256x2048.Slices ![0, o] S256x128)
    (x : (rect k h).shape.Idx) : extractStridedSlice S256x128 ![0, o] E hs x = strips E ((rect k h).emb x) := by
  unfold strips
  unfold extractStridedSlice
  refine congrArg E (funext fun a => Fin.ext (Eq.symm ?_))
  have e0 : ((rect k h).emb x 0).val = k + 16 * (x 0).val := rfl
  have e1 : ((rect k h).emb x 1).val = 0 + 1 * (x 1).val := rfl
  match a with
  | ⟨0, _⟩ =>
    show ((rect k h).emb x 0).val / 16 = 0 + (x 0).val
    rw [e0]; omega
  | ⟨1, _⟩ =>
    show 128 * (((rect k h).emb x 0).val % 16) + ((rect k h).emb x 1).val = o + (x 1).val
    rw [e0, e1]; omega

/-- Row `16 r + k` of a block is in the rectangle of strip `k`. -/
theorem mem_rect (y : S4096x128.Idx) (k : ℕ) (hk : (y 0).val % 16 = k) (h) : y ∈ (rect k h).set := by
  refine (LoadRect.mem_set _).mpr fun a => ?_
  have h0 : (y 0).val < 4096 := (y 0).isLt
  have h1 : (y 1).val < 128 := (y 1).isLt
  match a with
  | ⟨0, _⟩ =>
    refine ⟨(y 0).val / 16, ?_, ?_⟩
    · show (y 0).val / 16 < 256
      omega
    · show (y 0).val = k + 16 * ((y 0).val / 16)
      omega
  | ⟨1, _⟩ =>
    refine ⟨(y 1).val, h1, ?_⟩
    show (y 1).val = 0 + 1 * (y 1).val
    omega

/-- The sixteen stores leave the tile in strips, whatever the block held. -/
theorem read_pieces {sig' : RefSig} {κ : Kind} {sp : Space} (v : View sig' κ sp S4096x128 .f32) (f : v.ty.Contents (Elt Bits)) (E : FVec Bits S256x2048 .f32) :
    v.read (Elt Bits) (v.writes (Elt Bits) f (pieces E)) = strips E := by
  funext y
  refine View.read_writes_apply_of_pieces v f (strips E) (pieces E) ?_ y ?_
  · unfold pieces
    refine List.forall_mem_cons.mpr ⟨piece_apply E 15 1920 (by decide) rfl inb_S4096x128_S256x128_15_0_s_16_1 slices_S256x2048_o0_1920_S256x128, ?_⟩
    refine List.forall_mem_cons.mpr ⟨piece_apply E 14 1792 (by decide) rfl inb_S4096x128_S256x128_14_0_s_16_1 slices_S256x2048_o0_1792_S256x128, ?_⟩
    refine List.forall_mem_cons.mpr ⟨piece_apply E 13 1664 (by decide) rfl inb_S4096x128_S256x128_13_0_s_16_1 slices_S256x2048_o0_1664_S256x128, ?_⟩
    refine List.forall_mem_cons.mpr ⟨piece_apply E 12 1536 (by decide) rfl inb_S4096x128_S256x128_12_0_s_16_1 slices_S256x2048_o0_1536_S256x128, ?_⟩
    refine List.forall_mem_cons.mpr ⟨piece_apply E 11 1408 (by decide) rfl inb_S4096x128_S256x128_11_0_s_16_1 slices_S256x2048_o0_1408_S256x128, ?_⟩
    refine List.forall_mem_cons.mpr ⟨piece_apply E 10 1280 (by decide) rfl inb_S4096x128_S256x128_10_0_s_16_1 slices_S256x2048_o0_1280_S256x128, ?_⟩
    refine List.forall_mem_cons.mpr ⟨piece_apply E 9 1152 (by decide) rfl inb_S4096x128_S256x128_9_0_s_16_1 slices_S256x2048_o0_1152_S256x128, ?_⟩
    refine List.forall_mem_cons.mpr ⟨piece_apply E 8 1024 (by decide) rfl inb_S4096x128_S256x128_8_0_s_16_1 slices_S256x2048_o0_1024_S256x128, ?_⟩
    refine List.forall_mem_cons.mpr ⟨piece_apply E 7 896 (by decide) rfl inb_S4096x128_S256x128_7_0_s_16_1 slices_S256x2048_o0_896_S256x128, ?_⟩
    refine List.forall_mem_cons.mpr ⟨piece_apply E 6 768 (by decide) rfl inb_S4096x128_S256x128_6_0_s_16_1 slices_S256x2048_o0_768_S256x128, ?_⟩
    refine List.forall_mem_cons.mpr ⟨piece_apply E 5 640 (by decide) rfl inb_S4096x128_S256x128_5_0_s_16_1 slices_S256x2048_o0_640_S256x128, ?_⟩
    refine List.forall_mem_cons.mpr ⟨piece_apply E 4 512 (by decide) rfl inb_S4096x128_S256x128_4_0_s_16_1 slices_S256x2048_o0_512_S256x128, ?_⟩
    refine List.forall_mem_cons.mpr ⟨piece_apply E 3 384 (by decide) rfl inb_S4096x128_S256x128_3_0_s_16_1 slices_S256x2048_o0_384_S256x128, ?_⟩
    refine List.forall_mem_cons.mpr ⟨piece_apply E 2 256 (by decide) rfl inb_S4096x128_S256x128_2_0_s_16_1 slices_S256x2048_o0_256_S256x128, ?_⟩
    refine List.forall_mem_cons.mpr ⟨piece_apply E 1 128 (by decide) rfl inb_S4096x128_S256x128_1_0_s_16_1 slices_S256x2048_o0_128_S256x128, ?_⟩
    refine List.forall_mem_cons.mpr ⟨piece_apply E 0 0 (by decide) rfl inb_S4096x128_S256x128_0_0_s_16_1 slices_S256x2048_o0_0_S256x128, ?_⟩
    intro p hp; exact absurd hp List.not_mem_nil
  · have hlt := Nat.mod_lt (y 0).val (show 0 < 16 by decide)
    unfold pieces
    simp only [List.exists_mem_cons_iff]
    generalize hk : (y 0).val % 16 = k at hlt
    interval_cases k
    · exact Or.inr (Or.inr (Or.inr (Or.inr (Or.inr (Or.inr (Or.inr (Or.inr (Or.inr (Or.inr (Or.inr (Or.inr (Or.inr (Or.inr (Or.inr (Or.inl (mem_rect y 0 hk inb_S4096x128_S256x128_0_0_s_16_1))))))))))))))))
    · exact Or.inr (Or.inr (Or.inr (Or.inr (Or.inr (Or.inr (Or.inr (Or.inr (Or.inr (Or.inr (Or.inr (Or.inr (Or.inr (Or.inr (Or.inl (mem_rect y 1 hk inb_S4096x128_S256x128_1_0_s_16_1)))))))))))))))
    · exact Or.inr (Or.inr (Or.inr (Or.inr (Or.inr (Or.inr (Or.inr (Or.inr (Or.inr (Or.inr (Or.inr (Or.inr (Or.inr (Or.inl (mem_rect y 2 hk inb_S4096x128_S256x128_2_0_s_16_1))))))))))))))
    · exact Or.inr (Or.inr (Or.inr (Or.inr (Or.inr (Or.inr (Or.inr (Or.inr (Or.inr (Or.inr (Or.inr (Or.inr (Or.inl (mem_rect y 3 hk inb_S4096x128_S256x128_3_0_s_16_1)))))))))))))
    · exact Or.inr (Or.inr (Or.inr (Or.inr (Or.inr (Or.inr (Or.inr (Or.inr (Or.inr (Or.inr (Or.inr (Or.inl (mem_rect y 4 hk inb_S4096x128_S256x128_4_0_s_16_1))))))))))))
    · exact Or.inr (Or.inr (Or.inr (Or.inr (Or.inr (Or.inr (Or.inr (Or.inr (Or.inr (Or.inr (Or.inl (mem_rect y 5 hk inb_S4096x128_S256x128_5_0_s_16_1)))))))))))
    · exact Or.inr (Or.inr (Or.inr (Or.inr (Or.inr (Or.inr (Or.inr (Or.inr (Or.inr (Or.inl (mem_rect y 6 hk inb_S4096x128_S256x128_6_0_s_16_1))))))))))
    · exact Or.inr (Or.inr (Or.inr (Or.inr (Or.inr (Or.inr (Or.inr (Or.inr (Or.inl (mem_rect y 7 hk inb_S4096x128_S256x128_7_0_s_16_1)))))))))
    · exact Or.inr (Or.inr (Or.inr (Or.inr (Or.inr (Or.inr (Or.inr (Or.inl (mem_rect y 8 hk inb_S4096x128_S256x128_8_0_s_16_1))))))))
    · exact Or.inr (Or.inr (Or.inr (Or.inr (Or.inr (Or.inr (Or.inl (mem_rect y 9 hk inb_S4096x128_S256x128_9_0_s_16_1)))))))
    · exact Or.inr (Or.inr (Or.inr (Or.inr (Or.inr (Or.inl (mem_rect y 10 hk inb_S4096x128_S256x128_10_0_s_16_1))))))
    · exact Or.inr (Or.inr (Or.inr (Or.inr (Or.inl (mem_rect y 11 hk inb_S4096x128_S256x128_11_0_s_16_1)))))
    · exact Or.inr (Or.inr (Or.inr (Or.inl (mem_rect y 12 hk inb_S4096x128_S256x128_12_0_s_16_1))))
    · exact Or.inr (Or.inr (Or.inl (mem_rect y 13 hk inb_S4096x128_S256x128_13_0_s_16_1)))
    · exact Or.inr (Or.inl (mem_rect y 14 hk inb_S4096x128_S256x128_14_0_s_16_1))
    · exact Or.inl (mem_rect y 15 hk inb_S4096x128_S256x128_15_0_s_16_1)

end Cert.MoeFfn.Moe

end
-- ==== Proof.BitsBody.lean ====
module

public import proofs.«01_k».proof.Proof.BitsTile
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

/-! # One point's effect

Whatever the path, the scratch buffers end at the casts of the point's weight blocks and the output
block at the tile's rows through them, or at zeros where the tile is not used. -/

namespace Cert.MoeFfn.Moe

open Cert.MoeFfn Cert.MoeFfn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- A used tile is not an unused one. -/
theorem not_spare {i : grid0.Coords} {T1 : S1.Idx → Elt Bits .i32} (h : Live i T1) : ¬Spare i T1 := by
  revert h
  unfold Live Spare
  generalize (used T1 : BitVec 32) = w
  unfold k0_cond2 k0_cond3
  simp only [Scalar.cmpi, IntOp.cmpi, Scalar.extui]
  generalize BitVec.ofNat 32 (i 0).val = v
  rw [BitVec.sle_eq_not_slt]
  cases v.slt w <;> decide

/-- A tile that is not used is an unused one. -/
theorem spare_of_not_live {i : grid0.Coords} {T1 : S1.Idx → Elt Bits .i32} (h : ¬Live i T1) : Spare i T1 := by
  revert h
  unfold Live Spare
  generalize (used T1 : BitVec 32) = w
  unfold k0_cond2 k0_cond3
  simp only [Scalar.cmpi, IntOp.cmpi, Scalar.extui]
  generalize BitVec.ofNat 32 (i 0).val = v
  rw [BitVec.sle_eq_not_slt]
  cases v.slt w <;> decide

/-- The zeros an unused tile is filled with. -/
def zeros : S4096x128.Idx → Elt Bits .f32 := k0_pay14 (F := Bits)

open Classical in
/-- The output block a point leaves. -/
def tile (i : grid0.Coords) (T1 : S1.Idx → Elt Bits .i32) (x0 : S4096x128.Idx → Elt Bits .f32) (x1 x2 : S1x2048x512.Idx → Elt Bits .f32) (x3 : S1x512x2048.Idx → Elt Bits .f32) :
    S4096x128.Idx → Elt Bits .f32 :=
  if Live i T1 then strips (expert x0 (castG x1) (castU x2) (castD x3)) else zeros

/-- A view filled whole by one store is the representative of what was stored. -/
theorem writes_full {sig' : RefSig} {κ : Kind} {sp : Space} {s : Shape} {e : EltTy} (v : View sig' κ sp s e) {off : Fin s.rank → ℕ} {inb : ∀ a, off a + s.size a ≤ s.size a}
    (w : s.Idx → Elt Bits e) : v.writes (Elt Bits) v.junk [⟨Rect.unit off s.size inb, w⟩] = v.rep w := by
  have h0 : off = fun _ => 0 := funext fun a => by have := inb a; omega
  subst h0
  rfl

section
variable (c : Dev nD) (i : grid0.Coords) (arg3 : Memref sig .tc .vmem S4096x128 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S4096x128 .f32) (harg7 : arg7.IsWhole) (T0 : S97.Idx → Elt Bits .i32) (T1 : S1.Idx → Elt Bits .i32)
    (x0 : S4096x128.Idx → Elt Bits .f32) (x1 : S1x2048x512.Idx → Elt Bits .f32) (x2 : S1x2048x512.Idx → Elt Bits .f32) (x3 : S1x512x2048.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2))

/-- The stores of path `LA` are the computed tile's. -/
theorem storesLA (hc0 : Loads i T0) (h2 : Live i T1) (h3 : ¬Spare i T1) : (runLA c i arg3 harg3 arg4 harg4 arg5 harg5 arg6 harg6 arg7 harg7 T0 T1 x0 x1 x2 x3 hc0 h2 h3).1 = pieces (expert x0 (castG x1) (castU x2) (castD x3)) := by
  have e : (runLA c i arg3 harg3 arg4 harg4 arg5 harg5 arg6 harg6 arg7 harg7 T0 T1 x0 x1 x2 x3 hc0 h2 h3).1 = pieces (runLA.sl.r_3 arg3 arg4 arg5 arg6 x0 x1 x2 x3) := rfl
  rw [e]
  refine congrArg pieces ?_
  unfold runLA.sl.r_3 runLA.sl.v53 runLA.sl.v55 runLA.sl.v67 runLA.sl.HS0_1 runLA.sl.HS1_1 runLA.sl.HS2_1
  unfold runLA.sl.v20 runLA.sl.v22 runLA.sl.v24 runLA.sl.v26 runLA.sl.v28 runLA.sl.v30 runLA.sl.v32 runLA.sl.v34 runLA.sl.v36 runLA.sl.v38 runLA.sl.v40 runLA.sl.v42 runLA.sl.v44 runLA.sl.v46 runLA.sl.v48
  rw [View.readAt_rep_full, View.readAt_rep_full, View.readAt_rep_full, View.readCov_full, View.readCov_full, View.readCov_full]
  simp only [View.readAt_rep]
  rfl

/-- Path `LA` leaves the casts of the weight blocks in the scratch buffers. -/
theorem scratchLA (hc0 : Loads i T0) (h2 : Live i T1) (h3 : ¬Spare i T1) : (runLA c i arg3 harg3 arg4 harg4 arg5 harg5 arg6 harg6 arg7 harg7 T0 T1 x0 x1 x2 x3 hc0 h2 h3).2.1 = scG.view.rep (castG x1) ∧ (runLA c i arg3 harg3 arg4 harg4 arg5 harg5 arg6 harg6 arg7 harg7 T0 T1 x0 x1 x2 x3 hc0 h2 h3).2.2.1 = scU.view.rep (castU x2)
    ∧ (runLA c i arg3 harg3 arg4 harg4 arg5 harg5 arg6 harg6 arg7 harg7 T0 T1 x0 x1 x2 x3 hc0 h2 h3).2.2.2.1 = scD.view.rep (castD x3) := by
  have e0 : (runLA c i arg3 harg3 arg4 harg4 arg5 harg5 arg6 harg6 arg7 harg7 T0 T1 x0 x1 x2 x3 hc0 h2 h3).2.1 = scG.view.writes (Elt Bits) scG.view.junk (runLA.sl.HS0_1 arg4 x1) := by sl_kernel_rfl
  have e1 : (runLA c i arg3 harg3 arg4 harg4 arg5 harg5 arg6 harg6 arg7 harg7 T0 T1 x0 x1 x2 x3 hc0 h2 h3).2.2.1 = scU.view.writes (Elt Bits) scU.view.junk (runLA.sl.HS1_1 arg5 x2) := by sl_kernel_rfl
  have e2 : (runLA c i arg3 harg3 arg4 harg4 arg5 harg5 arg6 harg6 arg7 harg7 T0 T1 x0 x1 x2 x3 hc0 h2 h3).2.2.2.1 = scD.view.writes (Elt Bits) scD.view.junk (runLA.sl.HS2_1 arg6 x3) := by sl_kernel_rfl
  refine ⟨e0.trans ?_, e1.trans ?_, e2.trans ?_⟩
  · unfold runLA.sl.HS0_1; rw [View.readAt_rep_full]; exact writes_full _ _
  · unfold runLA.sl.HS1_1; rw [View.readAt_rep_full]; exact writes_full _ _
  · unfold runLA.sl.HS2_1; rw [View.readAt_rep_full]; exact writes_full _ _

/-- The store of path `LZ` fills the block with zeros. -/
theorem storesLZ (hc0 : Loads i T0) (h2 : ¬Live i T1) (h3 : Spare i T1) : (runLZ c i arg3 harg3 arg4 harg4 arg5 harg5 arg6 harg6 arg7 harg7 T0 T1 x0 x1 x2 x3 hc0 h2 h3).1 = [⟨Rect.unit ![0, 0] S4096x128.size inb_S4096x128_S4096x128_0_0, zeros⟩] := by sl_kernel_rfl

/-- Path `LZ` leaves the casts of the weight blocks in the scratch buffers. -/
theorem scratchLZ (hc0 : Loads i T0) (h2 : ¬Live i T1) (h3 : Spare i T1) : (runLZ c i arg3 harg3 arg4 harg4 arg5 harg5 arg6 harg6 arg7 harg7 T0 T1 x0 x1 x2 x3 hc0 h2 h3).2.1 = scG.view.rep (castG x1) ∧ (runLZ c i arg3 harg3 arg4 harg4 arg5 harg5 arg6 harg6 arg7 harg7 T0 T1 x0 x1 x2 x3 hc0 h2 h3).2.2.1 = scU.view.rep (castU x2)
    ∧ (runLZ c i arg3 harg3 arg4 harg4 arg5 harg5 arg6 harg6 arg7 harg7 T0 T1 x0 x1 x2 x3 hc0 h2 h3).2.2.2.1 = scD.view.rep (castD x3) := by
  have e0 : (runLZ c i arg3 harg3 arg4 harg4 arg5 harg5 arg6 harg6 arg7 harg7 T0 T1 x0 x1 x2 x3 hc0 h2 h3).2.1 = scG.view.writes (Elt Bits) scG.view.junk (runLZ.sl.HS0_1 arg4 x1) := by sl_kernel_rfl
  have e1 : (runLZ c i arg3 harg3 arg4 harg4 arg5 harg5 arg6 harg6 arg7 harg7 T0 T1 x0 x1 x2 x3 hc0 h2 h3).2.2.1 = scU.view.writes (Elt Bits) scU.view.junk (runLZ.sl.HS1_1 arg5 x2) := by sl_kernel_rfl
  have e2 : (runLZ c i arg3 harg3 arg4 harg4 arg5 harg5 arg6 harg6 arg7 harg7 T0 T1 x0 x1 x2 x3 hc0 h2 h3).2.2.2.1 = scD.view.writes (Elt Bits) scD.view.junk (runLZ.sl.HS2_1 arg6 x3) := by sl_kernel_rfl
  refine ⟨e0.trans ?_, e1.trans ?_, e2.trans ?_⟩
  · unfold runLZ.sl.HS0_1; rw [View.readAt_rep_full]; exact writes_full _ _
  · unfold runLZ.sl.HS1_1; rw [View.readAt_rep_full]; exact writes_full _ _
  · unfold runLZ.sl.HS2_1; rw [View.readAt_rep_full]; exact writes_full _ _

/-- The stores of path `KA` are the computed tile's, where the scratch holds the weights' casts. -/
theorem storesKA (hc0 : ¬Loads i T0) (h2 : Live i T1) (h3 : ¬Spare i T1) (e0 : xa0 = scG.view.rep (castG x1)) (e1 : xa1 = scU.view.rep (castU x2)) (e2 : xa2 = scD.view.rep (castD x3)) :
    (runKA c i arg3 harg3 arg4 harg4 arg5 harg5 arg6 harg6 arg7 harg7 T0 T1 x0 x1 x2 x3 xa0 xa1 xa2 hc0 h2 h3).1 = pieces (expert x0 (castG x1) (castU x2) (castD x3)) := by
  subst e0 e1 e2
  have e : (runKA c i arg3 harg3 arg4 harg4 arg5 harg5 arg6 harg6 arg7 harg7 T0 T1 x0 x1 x2 x3 (scG.view.rep (castG x1)) (scU.view.rep (castU x2)) (scD.view.rep (castD x3)) hc0 h2 h3).1
      = pieces (runKA.sl.r_3 c arg3 x0 (scG.view.rep (castG x1)) (scU.view.rep (castU x2)) (scD.view.rep (castD x3))) := rfl
  rw [e]
  refine congrArg pieces ?_
  unfold runKA.sl.r_3
  unfold runKA.sl.v20 runKA.sl.v22 runKA.sl.v24 runKA.sl.v26 runKA.sl.v28 runKA.sl.v30 runKA.sl.v32 runKA.sl.v34 runKA.sl.v36 runKA.sl.v38 runKA.sl.v40 runKA.sl.v42 runKA.sl.v44 runKA.sl.v46 runKA.sl.v48
  rw [View.readAt_rep_full, View.readAt_rep_full, View.readAt_rep_full]
  simp only [View.readAt_rep]
  rfl

/-- Path `KA` leaves the scratch buffers as they were. -/
theorem scratchKA (hc0 : ¬Loads i T0) (h2 : Live i T1) (h3 : ¬Spare i T1) : (runKA c i arg3 harg3 arg4 harg4 arg5 harg5 arg6 harg6 arg7 harg7 T0 T1 x0 x1 x2 x3 xa0 xa1 xa2 hc0 h2 h3).2.1 = xa0 ∧ (runKA c i arg3 harg3 arg4 harg4 arg5 harg5 arg6 harg6 arg7 harg7 T0 T1 x0 x1 x2 x3 xa0 xa1 xa2 hc0 h2 h3).2.2.1 = xa1 ∧ (runKA c i arg3 harg3 arg4 harg4 arg5 harg5 arg6 harg6 arg7 harg7 T0 T1 x0 x1 x2 x3 xa0 xa1 xa2 hc0 h2 h3).2.2.2.1 = xa2 := ⟨rfl, rfl, rfl⟩

/-- The store of path `KZ` fills the block with zeros. -/
theorem storesKZ (hc0 : ¬Loads i T0) (h2 : ¬Live i T1) (h3 : Spare i T1) : (runKZ c i arg3 harg3 arg4 harg4 arg5 harg5 arg6 harg6 arg7 harg7 T0 T1 x0 x1 x2 x3 xa0 xa1 xa2 hc0 h2 h3).1 = [⟨Rect.unit ![0, 0] S4096x128.size inb_S4096x128_S4096x128_0_0, zeros⟩] := by sl_kernel_rfl

/-- Path `KZ` leaves the scratch buffers as they were. -/
theorem scratchKZ (hc0 : ¬Loads i T0) (h2 : ¬Live i T1) (h3 : Spare i T1) : (runKZ c i arg3 harg3 arg4 harg4 arg5 harg5 arg6 harg6 arg7 harg7 T0 T1 x0 x1 x2 x3 xa0 xa1 xa2 hc0 h2 h3).2.1 = xa0 ∧ (runKZ c i arg3 harg3 arg4 harg4 arg5 harg5 arg6 harg6 arg7 harg7 T0 T1 x0 x1 x2 x3 xa0 xa1 xa2 hc0 h2 h3).2.2.1 = xa1 ∧ (runKZ c i arg3 harg3 arg4 harg4 arg5 harg5 arg6 harg6 arg7 harg7 T0 T1 x0 x1 x2 x3 xa0 xa1 xa2 hc0 h2 h3).2.2.2.1 = xa2 := ⟨rfl, rfl, rfl⟩

set_option maxHeartbeats 2000000 in
/-- One point of the launch: from its blocks, the tables, an output block holding anything and the
scratch buffers holding the weights' casts unless the point casts them anew, the body leaves the
output block at `tile` and the scratch buffers at the casts. -/
theorem point (hk : ¬Loads i T0 → xa0 = scG.view.rep (castG x1) ∧ xa1 = scU.view.rep (castU x2) ∧ xa2 = scD.view.rep (castD x3)) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tabE.view.loc (c : Thread nD τ) ↦{fullShare.right} T0)
      ∗ (tabN.view.loc (c : Thread nD τ) ↦{fullShare.right} T1)
      ∗ (∃ d, owns (c : Thread nD τ) arg7 fullShare d)
      ∗ (scG.view.loc (c : Thread nD τ) ↦{fullShare} xa0)
      ∗ (scU.view.loc (c : Thread nD τ) ↦{fullShare} xa1)
      ∗ (scD.view.loc (c : Thread nD τ) ↦{fullShare} xa2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ owns (c : Thread nD τ) arg7 fullShare (tile i T1 x0 x1 x2 x3)
          ∗ (scG.view.loc (c : Thread nD τ) ↦{fullShare} scG.view.rep (castG x1))
          ∗ (scU.view.loc (c : Thread nD τ) ↦{fullShare} scU.view.rep (castU x2))
          ∗ (scD.view.loc (c : Thread nD τ) ↦{fullShare} scD.view.rep (castD x3))) -∗ K ⟨⟩))
      ⊢ wp frame (wpE (defs₀ (F := Bits)) Variants.none c none) Set.univ (cc0_moe_ffn i tabE (Memref.isWhole_whole _) tabN (Memref.isWhole_whole _) arg3 harg3 arg4 harg4 arg5 harg5 arg6 harg6 arg7 harg7 scG (Memref.isWhole_whole _) scU (Memref.isWhole_whole _) scD (Memref.isWhole_whole _)) K := by
  by_cases hL : Loads i T0
  · by_cases hV : Live i T1
    · have hS : ¬Spare i T1 := not_spare hV
      have hst := storesLA c i arg3 harg3 arg4 harg4 arg5 harg5 arg6 harg6 arg7 harg7 T0 T1 x0 x1 x2 x3 hL hV hS
      have hsc := scratchLA c i arg3 harg3 arg4 harg4 arg5 harg5 arg6 harg6 arg7 harg7 T0 T1 x0 x1 x2 x3 hL hV hS
      generalize (runLA c i arg3 harg3 arg4 harg4 arg5 harg5 arg6 harg6 arg7 harg7 T0 T1 x0 x1 x2 x3 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run xa0 xa1 xa2 K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_pos hV]
          exact read_pieces _ _ _
      isplitl [HS0]; · iexact HS0
      isplitl [HS1]; · iexact HS1
      iexact HS2
    · have hS : Spare i T1 := spare_of_not_live hV
      have hst := storesLZ c i arg3 harg3 arg4 harg4 arg5 harg5 arg6 harg6 arg7 harg7 T0 T1 x0 x1 x2 x3 hL hV hS
      have hsc := scratchLZ c i arg3 harg3 arg4 harg4 arg5 harg5 arg6 harg6 arg7 harg7 T0 T1 x0 x1 x2 x3 hL hV hS
      generalize (runLZ c i arg3 harg3 arg4 harg4 arg5 harg5 arg6 harg6 arg7 harg7 T0 T1 x0 x1 x2 x3 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run xa0 xa1 xa2 K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_neg hV]
          exact View.read_writes_full _ _ _ _ _
      isplitl [HS0]; · iexact HS0
      isplitl [HS1]; · iexact HS1
      iexact HS2
  · by_cases hV : Live i T1
    · have hS : ¬Spare i T1 := not_spare hV
      have hst := storesKA c i arg3 harg3 arg4 harg4 arg5 harg5 arg6 harg6 arg7 harg7 T0 T1 x0 x1 x2 x3 xa0 xa1 xa2 hL hV hS (hk hL).1 (hk hL).2.1 (hk hL).2.2
      have hsc := scratchKA c i arg3 harg3 arg4 harg4 arg5 harg5 arg6 harg6 arg7 harg7 T0 T1 x0 x1 x2 x3 xa0 xa1 xa2 hL hV hS
      generalize (runKA c i arg3 harg3 arg4 harg4 arg5 harg5 arg6 harg6 arg7 harg7 T0 T1 x0 x1 x2 x3 xa0 xa1 xa2 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2, (hk hL).1, (hk hL).2.1, (hk hL).2.2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_pos hV]
          exact read_pieces _ _ _
      isplitl [HS0]; · iexact HS0
      isplitl [HS1]; · iexact HS1
      iexact HS2
    · have hS : Spare i T1 := spare_of_not_live hV
      have hst := storesKZ c i arg3 harg3 arg4 harg4 arg5 harg5 arg6 harg6 arg7 harg7 T0 T1 x0 x1 x2 x3 xa0 xa1 xa2 hL hV hS
      have hsc := scratchKZ c i arg3 harg3 arg4 harg4 arg5 harg5 arg6 harg6 arg7 harg7 T0 T1 x0 x1 x2 x3 xa0 xa1 xa2 hL hV hS
      generalize (runKZ c i arg3 harg3 arg4 harg4 arg5 harg5 arg6 harg6 arg7 harg7 T0 T1 x0 x1 x2 x3 xa0 xa1 xa2 hL hV hS) = R at hst hsc
      obtain ⟨o0, o1, o2, o3, run⟩ := R
      dsimp only at hst hsc
      obtain ⟨e0, e1, e2⟩ := hsc
      subst hst
      iintro ⟨H0, H1, H2, H3, HT0, HT1, H4, HS0, HS1, HS2, Hk⟩
      iapply (run K)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      rw [e0, e1, e2, (hk hL).1, (hk hL).2.1, (hk hL).2.2]
      iintro ⟨H0, H1, H2, H3, HT0, HT1, ⟨%e4, H4⟩, HS0, HS1, HS2⟩
      iapply Hk
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro
          unfold tile
          rw [if_neg hV]
          exact View.read_writes_full _ _ _ _ _
      isplitl [HS0]; · iexact HS0
      isplitl [HS1]; · iexact HS1
      iexact HS2

end

end Cert.MoeFfn.Moe

end
-- ==== Proof.BitsCfg.lean ====
module

public import proofs.«01_k».proof.Proof.BitsBody
public import Idealize.ShloMosaic.Lib.Pipeline.Frame
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

/-! # The launch at given tables

Which blocks the windows hold at a point, why they lie inside their arrays, and which points keep
the weights of the point before. -/

namespace Cert.MoeFfn.Moe

open Cert.MoeFfn Cert.MoeFfn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The index maps -/

/-- A point's coordinate is its number. -/
theorem coord_val : ∀ t : Fin grid0.N, ((grid0.coords t) 0).val = t.val := by decide +kernel

/-- The offset of the word before point `t`'s is the offset of point `t - 1`'s word. -/
theorem off2_eq : ∀ t : Fin grid0.N, t.val ≠ 0 → k0_off2 (grid0.coords t) = k0_off1 (grid0.coords ⟨t.val - 1, by omega⟩) := by decide +kernel

/-- A word depends on its offset alone. -/
theorem word_congr (T : S97.Idx → Elt Bits .i32) {k k' : Fin 1 → ℕ} (e : k = k') (h : ∀ a, k a + S1.size a ≤ S97.size a) (h' : ∀ a, k' a + S1.size a ≤ S97.size a) :
    word T k h = word T k' h' := by subst e; rfl

/-- The rows' window follows the tile, up to the last tile used. -/
theorem ix_rows (pf : pre0.Contents (Elt Bits)) (i : grid0.Coords) :
    cc0_transform_0 inb_S1_S1_0 numel1_S1 pf i = ![(Scalar.minsi (BitVec.ofNat 32 (i 0).val) (Scalar.subi (used (pf 1)) 1#32)).toNat, 0] := rfl
/-- The gate weights' window follows the expert; -/
theorem ix_gate (pf : pre0.Contents (Elt Bits)) (i : grid0.Coords) :
    cc0_transform_1 k0_off1_inb numel1_S1 pf i = ![(word (pf 0) (k0_off1 i) (k0_off1_inb i) : BitVec 32).toNat, 0, 0] := rfl
/-- so does the up weights' -/
theorem ix_up (pf : pre0.Contents (Elt Bits)) (i : grid0.Coords) :
    cc0_transform_2 k0_off1_inb numel1_S1 pf i = ![(word (pf 0) (k0_off1 i) (k0_off1_inb i) : BitVec 32).toNat, 0, 0] := rfl
/-- and the down weights'. -/
theorem ix_down (pf : pre0.Contents (Elt Bits)) (i : grid0.Coords) :
    cc0_transform_3 k0_off1_inb numel1_S1 pf i = ![(word (pf 0) (k0_off1 i) (k0_off1_inb i) : BitVec 32).toNat, 0, 0] := rfl

/-! ## Tables the launch runs at -/

/-- Every expert the table names exists, and at least one tile is used. -/
structure Sound (pf : pre0.Contents (Elt Bits)) : Prop where
  expert_lt : ∀ (k : Fin 1 → ℕ) (h : ∀ a, k a + S1.size a ≤ S97.size a), (word (pf 0) k h : BitVec 32).toNat < 32
  used_pos : 1 ≤ (used (pf 1) : BitVec 32).toNat
  used_lt : (used (pf 1) : BitVec 32).toNat < 2 ^ 31

/-- The row block a point reads is the smaller of its own number and the last tile used. -/
theorem rows_ix {w : BitVec 32} (h1 : 1 ≤ w.toNat) (h2 : w.toNat < 2 ^ 31) {n : ℕ} (hn : n < 97) :
    (Scalar.minsi (BitVec.ofNat 32 n) (Scalar.subi w 1#32) : BitVec 32).toNat = min n (w.toNat - 1) := by
  have e1 : (BitVec.ofNat 32 n).toNat = n := by rw [BitVec.toNat_ofNat]; exact Nat.mod_eq_of_lt (by omega)
  have e2 : (Scalar.subi w 1#32 : BitVec 32).toNat = w.toNat - 1 := by
    show (w - 1#32).toNat = _
    rw [BitVec.toNat_sub]; simp only [BitVec.toNat_ofNat]; omega
  have i1 : (BitVec.ofNat 32 n).toInt = n := by rw [BitVec.toInt_eq_toNat_of_lt (by omega), e1]
  have i2 : (Scalar.subi w 1#32 : BitVec 32).toInt = ((w.toNat - 1 : ℕ) : ℤ) := by rw [BitVec.toInt_eq_toNat_of_lt (by omega), e2]
  unfold Scalar.minsi IntOp.minsi
  rw [BitVec.slt_eq_decide, i1, i2]
  by_cases h : n < w.toNat - 1
  · simp only [Int.ofNat_lt, h, decide_true, ↓reduceIte, e1]; omega
  · simp only [Int.ofNat_lt, h, decide_false, Bool.false_eq_true, ↓reduceIte, e2]; omega

/-- At such tables every block lies inside its array. -/
theorem Sound.ok {pf : pre0.Contents (Elt Bits)} (h : Sound pf) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  · rw [ix_rows, rows_ix h.used_pos h.used_lt (show (i 0).val < 97 from (i 0).isLt)]
    have hi : (i 0).val < 97 := (i 0).isLt
    fin_cases a
    · show (min (i 0).val ((used (pf 1) : BitVec 32).toNat - 1) + 1) * 4096 ≤ 397312
      omega
    · show (0 + 1) * 128 ≤ 128
      omega
  · rw [ix_gate]
    have hw := h.expert_lt (k0_off1 i) (k0_off1_inb i)
    fin_cases a
    · show ((word (pf 0) (k0_off1 i) (k0_off1_inb i) : BitVec 32).toNat + 1) * 1 ≤ 32
      omega
    · show (0 + 1) * 2048 ≤ 2048
      omega
    · show (0 + 1) * 512 ≤ 512
      omega
  · rw [ix_up]
    have hw := h.expert_lt (k0_off1 i) (k0_off1_inb i)
    fin_cases a
    · show ((word (pf 0) (k0_off1 i) (k0_off1_inb i) : BitVec 32).toNat + 1) * 1 ≤ 32
      omega
    · show (0 + 1) * 2048 ≤ 2048
      omega
    · show (0 + 1) * 512 ≤ 512
      omega
  · rw [ix_down]
    have hw := h.expert_lt (k0_off1 i) (k0_off1_inb i)
    fin_cases a
    · show ((word (pf 0) (k0_off1 i) (k0_off1_inb i) : BitVec 32).toNat + 1) * 1 ≤ 32
      omega
    · show (0 + 1) * 512 ≤ 512
      omega
    · show (0 + 1) * 2048 ≤ 2048
      omega

/-! ## The pipeline at the tables -/

variable (a : (pcfg0 (F := Bits)).Adm)

/-- The pipeline at tables `a`. -/
abbrev cfgA : Cfg sig Λ₀ := cfg0 (F := Bits) a
/-- The same, as @main's one pipeline. -/
abbrev pcs : Fin 1 → Cfg sig Λ₀ := Pipeline.pin (pcfgs (F := Bits)) fun _ => a
/-- Point `t`'s coordinates. -/
abbrev crd (t : Fin (cfgA a).N) : (cfgA a).grid.Coords := (cfgA a).grid.coords t

variable (m : (ℓ : Loc nD τ sig) → Buf (Elt Bits) ℓ)

/-- What a buffer holds when the launch begins: after the reshapes of the arguments. -/
abbrev V (c : Dev nD) (b : Ref sig .tc) : Buf (Elt Bits) ((c : Thread nD τ).loc b) :=
  StableHlo.after hostOps0 (fun b => m (c, b)) b

/-- Window `w`'s block at point `t`. -/
def iblk (c : Dev nD) (w : Fin (cfgA a).W) (t : Fin (cfgA a).N) : (((cfgA a).win w).xblock (crd a t)).Idx → Elt Bits ((cfgA a).win w).elt :=
  (((cfgA a).win w).blk t).view.read (Elt Bits) (V m c (Pipeline.arrRef (cfgA a).spec w))

/-- The block of gate weights, as the part of the array it is. -/
theorem iblk1_eq (c : Dev nD) (t : Fin (cfgA a).N) : iblk a m c (1 : Fin 5) t
    = fun y => V m c main_v1 ((Rect.block (s := S32x2048x512) S1x2048x512.size (cc0_transform_1 k0_off1_inb numel1_S1 a.1 (crd a t)) (hinb0 a.1 a.2 1 (crd a t))).emb y) := rfl
/-- The block of up weights, likewise; -/
theorem iblk2_eq (c : Dev nD) (t : Fin (cfgA a).N) : iblk a m c (2 : Fin 5) t
    = fun y => V m c main_v2 ((Rect.block (s := S32x2048x512) S1x2048x512.size (cc0_transform_2 k0_off1_inb numel1_S1 a.1 (crd a t)) (hinb0 a.1 a.2 2 (crd a t))).emb y) := rfl
/-- of down weights; -/
theorem iblk3_eq (c : Dev nD) (t : Fin (cfgA a).N) : iblk a m c (3 : Fin 5) t
    = fun y => V m c main_v3 ((Rect.block (s := S32x512x2048) S1x512x2048.size (cc0_transform_3 k0_off1_inb numel1_S1 a.1 (crd a t)) (hinb0 a.1 a.2 3 (crd a t))).emb y) := rfl
/-- and of rows. -/
theorem iblk0_eq (c : Dev nD) (t : Fin (cfgA a).N) : iblk a m c (0 : Fin 5) t
    = fun y => V m c main_v0 ((Rect.block (s := S397312x128) S4096x128.size (cc0_transform_0 inb_S1_S1_0 numel1_S1 a.1 (crd a t)) (hinb0 a.1 a.2 0 (crd a t))).emb y) := rfl

/-- Blocks at equal indices are equal. -/
theorem block_congr {s : Shape} {size ix ix' : Fin s.rank → ℕ} (e : ix = ix') (h : ∀ a, (ix a + 1) * size a ≤ s.size a) (h' : ∀ a, (ix' a + 1) * size a ≤ s.size a) (y) :
    (Rect.block (s := s) size ix h).emb y = (Rect.block (s := s) size ix' h').emb y := by subst e; rfl

/-- A word the table repeats is a word the point before read. -/
theorem not_loads {e e' v : BitVec 32} (h : ¬Scalar.cmpi .ne (Scalar.extui (Scalar.ori (Scalar.cmpi .eq v 0#32) (Scalar.cmpi .ne e e'))) 0#32 = 1#1) :
    v ≠ 0#32 ∧ e = e' := by
  revert h
  simp only [Scalar.cmpi, IntOp.cmpi, Scalar.extui, Scalar.ori, IntOp.ori]
  cases h1 : (v == 0#32) <;> cases h2 : (e != e')
  · intro _
    exact ⟨fun h => by rw [h] at h1; exact absurd h1 (by decide), by rwa [bne_eq_false_iff_eq] at h2⟩
  all_goals intro h; exact absurd h (by decide)

/-- A point that casts nothing is not the first, and its expert's blocks are those of the point before. -/
theorem kept (c : Dev nD) (t : Fin (cfgA a).N) (h : ¬Loads (crd a t) (a.1 0)) :
    ∃ h0 : t.val ≠ 0, iblk a m c (1 : Fin 5) t = iblk a m c (1 : Fin 5) ⟨t.val - 1, by omega⟩ ∧ iblk a m c (2 : Fin 5) t = iblk a m c (2 : Fin 5) ⟨t.val - 1, by omega⟩
      ∧ iblk a m c (3 : Fin 5) t = iblk a m c (3 : Fin 5) ⟨t.val - 1, by omega⟩ := by
  obtain ⟨hv, he⟩ := not_loads h
  have h0 : t.val ≠ 0 := fun h0 => hv (by rw [show ((crd a t) 0).val = t.val from coord_val t, h0])
  refine ⟨h0, ?_⟩
  have hw : word (a.1 0) (k0_off1 (crd a t)) (k0_off1_inb _) = word (a.1 0) (k0_off1 (crd a ⟨t.val - 1, by omega⟩)) (k0_off1_inb _) :=
    he.trans (word_congr (a.1 0) (off2_eq t h0) _ _)
  rw [iblk1_eq, iblk1_eq, iblk2_eq, iblk2_eq, iblk3_eq, iblk3_eq]
  refine ⟨?_, ?_, ?_⟩
  · exact funext fun y => congrArg (V m c main_v1) (block_congr (by rw [ix_gate, ix_gate, hw]) _ _ y)
  · exact funext fun y => congrArg (V m c main_v2) (block_congr (by rw [ix_up, ix_up, hw]) _ _ y)
  · exact funext fun y => congrArg (V m c main_v3) (block_congr (by rw [ix_down, ix_down, hw]) _ _ y)

/-- No point leaves the output block alone. -/
theorem never_idle (t : Fin (cfgA a).N) : (cfgA a).idle (4 : Fin 5) ((cfgA a).grid.coords t) = false := by
  have e : (cfgA a).idle (4 : Fin 5) ((cfgA a).grid.coords t)
      = (!(k0_cond2 (crd a t) (used (a.1 1)) == 1#1) && !(k0_cond3 (crd a t) (used (a.1 1)) == 1#1)) := rfl
  rw [e]
  by_cases hV : Live (crd a t) (a.1 1)
  · rw [show k0_cond2 (crd a t) (used (a.1 1)) = 1#1 from hV]; rfl
  · rw [show k0_cond3 (crd a t) (used (a.1 1)) = 1#1 from spare_of_not_live hV]
    rw [Bool.and_eq_false_iff]; exact .inr rfl

end Cert.MoeFfn.Moe

end
-- ==== Proof.BitsFrame.lean ====
module

public import proofs.«01_k».proof.Proof.BitsCfg
public import Idealize.ShloMosaic.Lib.Pipeline.Frame
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

/-! # The whole launch

The proof data of the pipeline at given tables, the body obligation at every point, and the run of
the program from a memory holding those tables. -/

namespace Cert.MoeFfn.Moe

open Cert.MoeFfn Cert.MoeFfn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra the pipeline's rounds use. -/
abbrev EP : Emb (UR sig nD τ) 𝕄 := emb₁

variable (a : (pcfg0 (F := Bits)).Adm) (m : (ℓ : Loc nD τ sig) → Buf (Elt Bits) ℓ)

/-! ## Staging buffers at a point -/

/-- The staging buffer of window 0 at a point. -/
abbrev ms0 (t : Fin (cfgA a).N) : Memref sig .tc .vmem S4096x128 .f32 := spec0_0.stage ((cfgA a).slots t (0 : Fin 5))
/-- It is whole. -/
abbrev hs0 (t : Fin (cfgA a).N) : (ms0 a t).IsWhole := hstage0_0 (((cfgA a).slots t (0 : Fin 5)).cast nbuf0_0)
/-- The staging buffer of window 1 at a point. -/
abbrev ms1 (t : Fin (cfgA a).N) : Memref sig .tc .vmem S1x2048x512 .f32 := spec0_1.stage ((cfgA a).slots t (1 : Fin 5))
/-- It is whole. -/
abbrev hs1 (t : Fin (cfgA a).N) : (ms1 a t).IsWhole := hstage0_1 (((cfgA a).slots t (1 : Fin 5)).cast nbuf0_1)
/-- The staging buffer of window 2 at a point. -/
abbrev ms2 (t : Fin (cfgA a).N) : Memref sig .tc .vmem S1x2048x512 .f32 := spec0_2.stage ((cfgA a).slots t (2 : Fin 5))
/-- It is whole. -/
abbrev hs2 (t : Fin (cfgA a).N) : (ms2 a t).IsWhole := hstage0_2 (((cfgA a).slots t (2 : Fin 5)).cast nbuf0_2)
/-- The staging buffer of window 3 at a point. -/
abbrev ms3 (t : Fin (cfgA a).N) : Memref sig .tc .vmem S1x512x2048 .f32 := spec0_3.stage ((cfgA a).slots t (3 : Fin 5))
/-- It is whole. -/
abbrev hs3 (t : Fin (cfgA a).N) : (ms3 a t).IsWhole := hstage0_3 (((cfgA a).slots t (3 : Fin 5)).cast nbuf0_3)
/-- The staging buffer of window 4 at a point. -/
abbrev ms4 (t : Fin (cfgA a).N) : Memref sig .tc .vmem S4096x128 .f32 := spec0_4.stage ((cfgA a).slots t (4 : Fin 5))
/-- It is whole. -/
abbrev hs4 (t : Fin (cfgA a).N) : (ms4 a t).IsWhole := hstage0_4 (((cfgA a).slots t (4 : Fin 5)).cast nbuf0_4)

/-! ## The proof data -/

/-- What the output block holds after point `t`. -/
def outAt (c : Dev nD) (t : Fin (cfgA a).N) : S4096x128.Idx → Elt Bits .f32 :=
  tile (crd a t) (a.1 1) (iblk a m c (0 : Fin 5) t) (iblk a m c (1 : Fin 5) t) (iblk a m c (2 : Fin 5) t) (iblk a m c (3 : Fin 5) t)

/-- The scratch buffers hold the casts of the weight blocks of point `t`. -/
def Holds (c : Dev nD) (t : Fin (cfgA a).N) (xa0 : Buf (Elt Bits) (scG.view.loc (c : Thread nD τ))) (xa1 : Buf (Elt Bits) (scU.view.loc (c : Thread nD τ)))
    (xa2 : Buf (Elt Bits) (scD.view.loc (c : Thread nD τ))) : Prop :=
  xa0 = scG.view.rep (castG (iblk a m c (1 : Fin 5) t)) ∧ xa1 = scU.view.rep (castU (iblk a m c (2 : Fin 5) t)) ∧ xa2 = scD.view.rep (castD (iblk a m c (3 : Fin 5) t))

/-- The invariant before point `n`: the scratch buffers hold the casts the point before left (anything
before the first), the body its halves of the tables. -/
def Phi (c : Dev nD) (n : Fin ((cfgA a).N + 1)) : sProp 𝕄 :=
  iprop((∃ xa0 xa1 xa2, ⌜∀ h : n.val ≠ 0, Holds a m c ⟨n.val - 1, by omega⟩ xa0 xa1 xa2⌝
      ∗ (scG.view.loc (c : Thread nD τ) ↦{fullShare} xa0) ∗ (scU.view.loc (c : Thread nD τ) ↦{fullShare} xa1) ∗ (scD.view.loc (c : Thread nD τ) ↦{fullShare} xa2))
    ∗ (tabE.view.loc (c : Thread nD τ) ↦{fullShare.right} a.1 0) ∗ (tabN.view.loc (c : Thread nD τ) ↦{fullShare.right} a.1 1)
    ∗ (∃ ρ, prngReg c ρ))

/-- The proof data of the one pipeline on core `c`. -/
def dats (_ : Fin 1) (c : Dev nD) : Dat τ (Elt Bits) Unit ℕ (UR sig nD τ) ℕ (cfgA a) c where
  A w := V m c (Pipeline.arrRef (cfgA a).spec w)
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => outAt a m c t
  Φ t := Phi a m c t
  q _ := fullShare
  owed _ := 0

/-- What window 0 holds after a point. -/
theorem after0 (c : Dev nD) (t : Fin (cfgA a).N) : (dats a m 0 c).after (0 : Fin 5) t = iblk a m c (0 : Fin 5) t := rfl
/-- What window 1 holds after a point. -/
theorem after1 (c : Dev nD) (t : Fin (cfgA a).N) : (dats a m 0 c).after (1 : Fin 5) t = iblk a m c (1 : Fin 5) t := rfl
/-- What window 2 holds after a point. -/
theorem after2 (c : Dev nD) (t : Fin (cfgA a).N) : (dats a m 0 c).after (2 : Fin 5) t = iblk a m c (2 : Fin 5) t := rfl
/-- What window 3 holds after a point. -/
theorem after3 (c : Dev nD) (t : Fin (cfgA a).N) : (dats a m 0 c).after (3 : Fin 5) t = iblk a m c (3 : Fin 5) t := rfl
/-- What window 4 holds after a point. -/
theorem after4 (c : Dev nD) (t : Fin (cfgA a).N) : (dats a m 0 c).after (4 : Fin 5) t = outAt a m c t := rfl

/-- Input window 0 holds its block when the body runs. -/
theorem before0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input window 1 holds its block when the body runs. -/
theorem before1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input window 2 holds its block when the body runs. -/
theorem before2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input window 3 holds its block when the body runs. -/
theorem before3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body obligation -/

/-- The body at point `t` on its staging buffers. -/
abbrev bodyAt (t : Fin (cfgA a).N) : Prog (TpuEff nD τ sig (Elt Bits) Λ₀ .tc) PUnit :=
  cc0_moe_ffn (crd a t) tabE (Memref.isWhole_whole _) tabN (Memref.isWhole_whole _) (ms0 a t) (hs0 a t) (ms1 a t) (hs1 a t) (ms2 a t) (hs2 a t) (ms3 a t) (hs3 a t) (ms4 a t) (hs4 a t) scG (Memref.isWhole_whole _) scU (Memref.isWhole_whole _) scD (Memref.isWhole_whole _)

set_option maxHeartbeats 2000000 in
/-- The body obligation at point `t`. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 5) t d))
        ∗ (∃ d, owns (c : Thread nD τ) (ms1 a t) fullShare ((dats a m 0 c).before (1 : Fin 5) t d))
        ∗ (∃ d, owns (c : Thread nD τ) (ms2 a t) fullShare ((dats a m 0 c).before (2 : Fin 5) t d))
        ∗ (∃ d, owns (c : Thread nD τ) (ms3 a t) fullShare ((dats a m 0 c).before (3 : Fin 5) t d))
        ∗ (∃ d, owns (c : Thread nD τ) (ms4 a t) fullShare ((dats a m 0 c).before (4 : Fin 5) t d)))
      ⊢ wp frame (wpE (defs₀ (F := Bits)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [never_idle a t]
  simp only [before0, before1, before2, before3, after0, after1, after2, after3, after4]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨⟨%xa0, %xa1, %xa2, %hh, HS0, HS1, HS2⟩, HT0, HT1, HP⟩, Ho, ⟨%d0, H0⟩, ⟨%d1, H1⟩, ⟨%d2, H2⟩, ⟨%d3, H3⟩, ⟨%d4, H4⟩⟩
  have hk : ¬Loads (crd a t) (a.1 0) → Holds a m c t xa0 xa1 xa2 := fun hn => by
    obtain ⟨h0, e1, e2, e3⟩ := kept a m c t hn
    have := hh h0
    unfold Holds at this ⊢
    rw [e1, e2, e3]
    exact this
  iapply (point c (crd a t) (ms0 a t) (hs0 a t) (ms1 a t) (hs1 a t) (ms2 a t) (hs2 a t) (ms3 a t) (hs3 a t) (ms4 a t) (hs4 a t) (a.1 0) (a.1 1) (iblk a m c (0 : Fin 5) t) (iblk a m c (1 : Fin 5) t) (iblk a m c (2 : Fin 5) t) (iblk a m c (3 : Fin 5) t) xa0 xa1 xa2 hk _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1 HP]
  · isplitl [HS0 HS1 HS2]
    · iexists _, _, _; isplitr; swap
      · isplitl [HS0]; · iexact HS0
        isplitl [HS1]; · iexact HS1
        iexact HS2
      · ipureintro; intro _; exact ⟨rfl, rfl, rfl⟩
    isplitl [HT0]; · iexact HT0
    isplitl [HT1]; · iexact HT1
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-- The library's body obligation, at every point. -/
theorem body_obligation (c : Dev nD) : BodyObligation (dats a m 0 c) (defs₀ (F := Bits)) Variants.none () Set.univ := fun t => by
  rw [bigSep_W0]
  exact sound_body a m c t

/-! ## The launch -/

/-- Every array is held whole. -/
theorem share_eq (c : Dev nD) (w : Fin (cfgA a).W) : (dats a m 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi_first (c : Dev nD) :
    iprop(Pipeline.ΦA (cfgA a).spec c ∗ Pipeline.ΦT pre0 a.1 c) ⊢ (dats a m 0 c).Φ 0 := by
  rw [show (dats a m 0 c).Φ 0 = Phi a m c 0 from rfl]
  unfold Pipeline.ΦA Pipeline.ΦT
  rw [prefHeld_eq, show (Pipeline.scopedRest (Ix := Unit) (Name := ℕ) (U := UR sig nD τ) (Lvl := ℕ) (Val := Elt Bits) (cfgA a).spec c : sProp 𝕄) = Pipeline.scopedRest spec0 c from rfl, scopedRest0_eq]
  unfold Phi
  iintro ⟨⟨⟨⟨%a0, HS0⟩, ⟨%a1, HS1⟩, ⟨%a2, HS2⟩⟩, HP⟩, HT0, HT1⟩
  isplitl [HS0 HS1 HS2]
  · iexists a0, a1, a2; isplitr; swap
    · isplitl [HS0]; · iexact HS0
      isplitl [HS1]; · iexact HS1
      iexact HS2
    · ipureintro; intro h; exact absurd rfl h
  isplitl [HT0]; · iexact HT0
  isplitl [HT1]; · iexact HT1
  iexact HP

/-- at the last point it gives the scratch buffers back. -/
theorem phi_last (c : Dev nD) : (dats a m 0 c).Φ (Fin.last (cfgA a).N) ⊢ Pipeline.ΦA (cfgA a).spec c := by
  rw [show (dats a m 0 c).Φ (Fin.last (cfgA a).N) = Phi a m c (Fin.last _) from rfl]
  unfold Pipeline.ΦA
  rw [show (Pipeline.scopedRest (Ix := Unit) (Name := ℕ) (U := UR sig nD τ) (Lvl := ℕ) (Val := Elt Bits) (cfgA a).spec c : sProp 𝕄) = Pipeline.scopedRest spec0 c from rfl, scopedRest0_eq]
  unfold Phi
  iintro ⟨⟨%a0, %a1, %a2, -, HS0, HS1, HS2⟩, -, -, HP⟩
  isplitr [HP]
  · isplitl [HS0]
    · iexists a0; iexact HS0
    isplitl [HS1]
    · iexists a1; iexact HS1
    iexists a2; iexact HS2
  iexact HP

/-- The reshapes allocate nothing. -/
theorem hostOps0_fresh : (hostOps0 (F := Bits) : List (HloOp τ sig (Elt Bits))).Forall fun op => op.fresh = ∅ := by
  simp only [List.Forall]; repeat' constructor

/-- @main up to the launch. -/
theorem hmain : Pipeline.HMainP (Ix := Unit) (Name := ℕ) (U := UR sig nD τ) (Lvl := ℕ) (pcfgs (F := Bits)) 0 defs₀ Variants.none m (main (F := Bits)) (V m) :=
  Pipeline.hmainP_prefix (pcfgs (F := Bits)) 0 defs₀ Variants.none m main hostOps0 hostOps0_sub hostOps0_fresh main_chain

/-- A buffer no reshape writes is as launched. -/
theorem V_arg (c : Dev nD) (b : Ref sig .tc) (h0 : b ≠ main_v0) (h1 : b ≠ main_v1) (h2 : b ≠ main_v2) (h3 : b ≠ main_v3) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2, StableHlo.devRef_ne_of_ne h3⟩))

set_option backward.isDefEq.respectTransparency.types false in
set_option maxHeartbeats 4000000 in
/-- From a memory that holds tables `a`, the program terminates with every array at what the points
wrote, every other buffer as the launch found it, and no semaphore counter raised. -/
theorem run_main (g : Dev nD → PrngReg) (hp : ∀ (c : Dev nD) (k : Fin 2), m ((c : Thread nD τ).loc (pre0.ref k)) = a.1 k) :
    θ_run (defs (F := Bits)) (onTc (τ := τ) (main (F := Bits))) ⟨m, fun _ => 0, g⟩
      (fun r => Pipeline.FramePost (pcs a) (dats a m) 0 (V m) r ∧ r.2.sem = fun _ => 0) :=
  Pipeline.θ_run_frameP_track (pcfgs (F := Bits)) (fun _ => a) (dats a m) 0 launch0 defs₀ Variants.none m g main
    (fun c => (body_obligation a m c).loose) (share_eq a m) (fun _ _ => rfl) (V m) (hmain m) (fun _ _ => rfl)
    (fun c k => by
      fin_cases k
      · exact (V_arg m c main_arg0 (by decide) (by decide) (by decide) (by decide)).trans (hp c 0)
      · exact (V_arg m c main_arg1 (by decide) (by decide) (by decide) (by decide)).trans (hp c 1))
    (phi_first a m) (phi_last a m) (Q' := fun r => Pipeline.FramePost (pcs a) (dats a m) 0 (V m) r ∧ r.2.sem = fun _ => 0)

/-- The program leaves its arguments unchanged. -/
theorem frame_of (g : Dev nD → PrngReg) (hp : ∀ (c : Dev nD) (k : Fin 2), m ((c : Thread nD τ).loc (pre0.ref k)) = a.1 k) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c =>
    ⟨((h.1 c).2 main_arg0 (show main_arg0 ∈ Pipeline.restRefs sig spec0 from by decide)).trans (V_arg m c main_arg0 (by decide) (by decide) (by decide) (by decide)),
     ((h.1 c).2 main_arg1 (show main_arg1 ∈ Pipeline.restRefs sig spec0 from by decide)).trans (V_arg m c main_arg1 (by decide) (by decide) (by decide) (by decide)),
     ((h.1 c).2 main_arg2 (show main_arg2 ∈ Pipeline.restRefs sig spec0 from by decide)).trans (V_arg m c main_arg2 (by decide) (by decide) (by decide) (by decide)),
     ((h.1 c).2 main_arg3 (show main_arg3 ∈ Pipeline.restRefs sig spec0 from by decide)).trans (V_arg m c main_arg3 (by decide) (by decide) (by decide) (by decide)),
     ((h.1 c).2 main_arg4 (show main_arg4 ∈ Pipeline.restRefs sig spec0 from by decide)).trans (V_arg m c main_arg4 (by decide) (by decide) (by decide) (by decide)),
     ((h.1 c).2 main_arg5 (show main_arg5 ∈ Pipeline.restRefs sig spec0 from by decide)).trans (V_arg m c main_arg5 (by decide) (by decide) (by decide) (by decide))⟩, h.2⟩)
    (run_main a m g hp)

end Cert.MoeFfn.Moe

end
-- ==== Proof.BitsTables.lean ====
module

public import proofs.«01_k».proof.Proof.BitsFrame
public import proofs.«01_k».proof.Proof.MoePre

@[expose] public section

set_option maxRecDepth 16384
set_option Elab.async false

noncomputable section

/-! # The tables a memory holds

Under the precondition they are ones the launch runs at. -/

namespace Cert.MoeFfn.Moe

open Cert.MoeFfn Cert.MoeFfn.Gen
open Idealize.ShloMosaic
open Idealize.ShloMosaic.TcCoe Idealize.ShloMosaic.Tactic
open Idealize.SL.Sem

variable [Cert.Pre_experts_exist.Facts] (m : (ℓ : Loc nD τ sig) → Buf (Elt Bits) ℓ)

/-- The tables the memory holds. -/
def tabs : pre0.Contents (Elt Bits) := fun k => m (((0 : Dev nD) : Thread nD τ).loc (pre0.ref k))

/-- The precondition, of one device's arguments. -/
abbrev Good : Prop := ∀ c : Dev nD,
  Cert.Pre_experts_exist.fn (F := Bits) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) = fun _ => 1#1

variable {m}

/-- The tables of a memory under the precondition are sound. -/
theorem sound_tabs (h : Good m) : Sound (tabs m) := by
  obtain ⟨h0, h1⟩ := Cert.Pre_experts_exist.bounds _ _ _ _ _ _ (h 0)
  exact ⟨fun k hk => h0 _, (h1 _).1, (h1 _).2⟩

/-- The same, as tables every block of which lies inside its array. -/
def adm (h : Good m) : (pcfg0 (F := Bits)).Adm := ⟨tabs m, (sound_tabs h).ok⟩

/-- There is one device, so every device's tables are these. -/
theorem holds_tabs (h : Good m) (c : Dev nD) (k : Fin 2) : m ((c : Thread nD τ).loc (pre0.ref k)) = (adm h).1 k := by
  have : c = 0 := Fin.ext (by have h1 : c.val < 1 := c.isLt; show c.val = 0; omega)
  subst this; rfl

/-- Under the precondition the program terminates, leaves its arguments unchanged and every semaphore at zero. -/
theorem quiet (h : Good m) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_of (adm h) m g (holds_tabs h)

end Cert.MoeFfn.Moe

end
-- ==== Proof.lean ====
/- The proof of the certificate's claims (proofs.«01_k».proof.Defs).

   Eight kernels are certified, each against a reference of its own: the HGRN2 recurrence over the prompt
   (`HgrnPrompt`), the mixture of experts over its routed rows (`MoeFfn`), the projection of all rows on the
   keys and values, with the new cache rows cut from it (`ProjKv`), the projections on the columns of HGRN2
   (`ProjH4`), on the merge gates (`ProjMg`), on the queries (`ProjQ`) and on the attention gates (`ProjNg`),
   and the merge of the two mixers (`TailMix`). For each: both printings of
   the kernel and the reference run and leave their arguments unchanged with every semaphore at zero, the
   two printings are the same text, and kernel and reference compute the same results over the extended reals. -/
module

public import proofs.«01_k».proof.Defs
public import proofs.«01_k».proof.Proof.Gen.HgrnPrompt
public import proofs.«01_k».proof.Proof.Gen.HgrnPrompt.Skeleton
public import proofs.«01_k».proof.Proof.Gen.HgrnPrompt.Launch
public import proofs.«01_k».proof.Proof.Gen.HgrnPrompt.Points
public import proofs.«01_k».proof.Proof.Gen.HgrnPrompt.Frame
public import proofs.«01_k».proof.Proof.Gen.HgrnPromptIdeal
public import proofs.«01_k».proof.Proof.Gen.HgrnPromptIdeal.Skeleton
public import proofs.«01_k».proof.Proof.Gen.HgrnPromptIdeal.Launch
public import proofs.«01_k».proof.Proof.Gen.HgrnPromptIdeal.Points
public import proofs.«01_k».proof.Proof.Gen.HgrnPromptIdeal.Frame
public import proofs.«01_k».proof.Proof.Gen.HgrnPromptRefIdeal
public import proofs.«01_k».proof.Proof.Gen.MoeFfn
public import proofs.«01_k».proof.Proof.Gen.MoeFfn.Skeleton
public import proofs.«01_k».proof.Proof.Gen.MoeFfn.Launch
public import proofs.«01_k».proof.Proof.Gen.MoeFfnIdeal
public import proofs.«01_k».proof.Proof.Gen.MoeFfnIdeal.Skeleton
public import proofs.«01_k».proof.Proof.Gen.MoeFfnIdeal.Launch
public import proofs.«01_k».proof.Proof.Gen.MoeFfnRefIdeal
public import proofs.«01_k».proof.Proof.Gen.MoeFfnRefIdeal.Run
public import proofs.«01_k».proof.Proof.Gen.Pre_experts_exist
public import proofs.«01_k».proof.Proof.Gen.HgrnPromptIdeal.Value
public import proofs.«01_k».proof.Proof.RefRun
public import proofs.«01_k».proof.Proof.Same
public import proofs.«01_k».proof.Proof.MoeSame
public import proofs.«01_k».proof.Proof.Gen.ProjKv.Frame
public import proofs.«01_k».proof.Proof.Gen.ProjKvIdeal.Frame
public import proofs.«01_k».proof.Proof.Gen.ProjKvRefIdeal.Run
public import proofs.«01_k».proof.Proof.KvSame
public import proofs.«01_k».proof.Proof.Gen.ProjH4.Frame
public import proofs.«01_k».proof.Proof.Gen.ProjH4Ideal.Frame
public import proofs.«01_k».proof.Proof.Gen.ProjH4RefIdeal.Run
public import proofs.«01_k».proof.Proof.H4Same
public import proofs.«01_k».proof.Proof.Gen.ProjMg.Frame
public import proofs.«01_k».proof.Proof.Gen.ProjMgIdeal.Frame
public import proofs.«01_k».proof.Proof.Gen.ProjMgRefIdeal.Run
public import proofs.«01_k».proof.Proof.MgSame
public import proofs.«01_k».proof.Proof.Gen.ProjQ.Frame
public import proofs.«01_k».proof.Proof.Gen.ProjQIdeal.Frame
public import proofs.«01_k».proof.Proof.Gen.ProjQRefIdeal.Run
public import proofs.«01_k».proof.Proof.QSame
public import proofs.«01_k».proof.Proof.Gen.TailMix.Frame
public import proofs.«01_k».proof.Proof.Gen.TailMixIdeal.Frame
public import proofs.«01_k».proof.Proof.Gen.TailMixRefIdeal.Run
public import proofs.«01_k».proof.Proof.MixSame
public import proofs.«01_k».proof.Proof.Gen.ProjNg.Frame
public import proofs.«01_k».proof.Proof.Gen.ProjNgIdeal.Frame
public import proofs.«01_k».proof.Proof.Gen.ProjNgRefIdeal.Run
public import proofs.«01_k».proof.Proof.NgSame
public import proofs.«01_k».proof.Proof.BitsTables
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, with its arguments unchanged and no semaphore raised at the end. -/
theorem ref_frame : quiescent_HgrnPromptRefIdeal (hHgrnPromptRefIdeal := Cert.HgrnPromptRefIdeal.Gen.facts) := fun m' g' _ =>
  (θ_run _ _ _).mono (fun r h => ⟨fun c => (h.1 c).2.2, h.2⟩) (Cert.HgrnPromptRefIdeal.RefRun.run m' g')

/-- The kernel and the reference compute the same outputs and the same final states. -/
theorem same : algebraic_HgrnPromptIdeal_HgrnPromptRefIdeal (hHgrnPromptIdeal := Cert.HgrnPromptIdeal.Gen.facts) (hHgrnPromptRefIdeal := Cert.HgrnPromptRefIdeal.Gen.facts) := by
  intro m g m' g' _ hagree
  refine ⟨fun c => Cert.HgrnPromptIdeal.Value.G7 m c, fun c => Cert.HgrnPromptIdeal.Value.G8 m c, Cert.HgrnPromptIdeal.Value.run m g, ?_⟩
  refine (θ_run _ _ _).mono (fun r h c => ⟨(h.1 c).1.trans ?_, (h.1 c).2.1.trans ?_, (h.1 c).2.2⟩) (Cert.HgrnPromptRefIdeal.RefRun.run m' g')
  · rw [(hagree c).1, (hagree c).2.1, (hagree c).2.2]
    exact Cert.Same.outputs m c
  · rw [(hagree c).1, (hagree c).2.1]
    exact Cert.Same.states m c

/-- The experts' reference runs, with its arguments unchanged and no semaphore raised at the end. -/
theorem experts_ref_frame : quiescent_MoeFfnRefIdeal (hMoeFfnRefIdeal := Cert.MoeFfnRefIdeal.Gen.facts) (hPre_experts_exist := Cert.Pre_experts_exist.Gen.facts) := fun m' g' _ =>
  (θ_run _ _ _).mono (fun r h => ⟨fun c => (h c).2, sem_eq_zero_of_no_sems (by decide) _⟩) (Cert.MoeFfnRefIdeal.Value.run m' g')

/-- The experts' kernel and their reference compute the same rows. -/
theorem experts_same : algebraic_MoeFfnIdeal_MoeFfnRefIdeal (hMoeFfnIdeal := Cert.MoeFfnIdeal.Gen.facts) (hMoeFfnRefIdeal := Cert.MoeFfnRefIdeal.Gen.facts) (hPre_experts_exist := Cert.Pre_experts_exist.Gen.facts) := by
  intro m g m' g' hpre hagree
  refine ⟨fun c => Cert.MoeFfnIdeal.Moe.goal m c, Cert.MoeSame.kernel_run hpre g, ?_⟩
  refine (θ_run _ _ _).mono (fun r h c => ⟨(h c).1.trans ?_, (h c).2⟩) (Cert.MoeFfnRefIdeal.Value.run m' g')
  rw [(hagree c).1, (hagree c).2.1, (hagree c).2.2.1, (hagree c).2.2.2.1, (hagree c).2.2.2.2.1, (hagree c).2.2.2.2.2]
  exact Cert.MoeSame.reference_eq hpre c

/-- The projection's reference runs, with its arguments unchanged and no semaphore raised at the end. -/
theorem kv_ref_frame : quiescent_ProjKvRefIdeal (hProjKvRefIdeal := Cert.ProjKvRefIdeal.Gen.facts) := fun m' g' _ =>
  (θ_run _ _ _).mono (fun r h => ⟨fun c => (h c).2.2.2.2.2, sem_eq_zero_of_no_sems (by decide) _⟩) (Cert.ProjKvRefIdeal.Value.run m' g')

/-- The projection's kernel and its reference compute the same cache rows, windows and rows by heads. -/
theorem kv_same : algebraic_ProjKvIdeal_ProjKvRefIdeal (hProjKvIdeal := Cert.ProjKvIdeal.Gen.facts) (hProjKvRefIdeal := Cert.ProjKvRefIdeal.Gen.facts) := by
  intro m g m' g' _ hagree
  refine ⟨_, _, _, _, _, Cert.ProjKvIdeal.Kv.kernel_run m g, ?_⟩
  refine (θ_run _ _ _).mono (fun r h c => ⟨(h c).1.trans ?_, (h c).2.1.trans ?_, (h c).2.2.1.trans ?_, (h c).2.2.2.1.trans ?_,
    (h c).2.2.2.2.1.trans ?_, (h c).2.2.2.2.2⟩) (Cert.ProjKvRefIdeal.Value.run m' g')
  · rw [(hagree c).1, (hagree c).2.2.2.1, (hagree c).2.2.2.2]
    exact Cert.KvSame.slotsP_eq m c
  · rw [(hagree c).2.1, (hagree c).2.2.2.1, (hagree c).2.2.2.2]
    exact Cert.KvSame.slotsS_eq m c
  · rw [(hagree c).1, (hagree c).2.2.2.1, (hagree c).2.2.2.2]
    exact Cert.KvSame.winP_eq m c
  · rw [(hagree c).2.1, (hagree c).2.2.1, (hagree c).2.2.2.1, (hagree c).2.2.2.2]
    exact Cert.KvSame.winS_eq m c
  · rw [(hagree c).1, (hagree c).2.1, (hagree c).2.2.2.1, (hagree c).2.2.2.2]
    exact Cert.KvSame.heads_eq m c

/-- The reference of the projection to the columns of HGRN2 runs, with its arguments unchanged and no semaphore raised. -/
theorem h4_ref_frame : quiescent_ProjH4RefIdeal (hProjH4RefIdeal := Cert.ProjH4RefIdeal.Gen.facts) := fun m' g' _ =>
  (θ_run _ _ _).mono (fun r h => ⟨fun c => (h c).2, sem_eq_zero_of_no_sems (by decide) _⟩) (Cert.ProjH4RefIdeal.Value.run m' g')

/-- Kernel and reference compute the same columns of HGRN2. -/
theorem h4_same : algebraic_ProjH4Ideal_ProjH4RefIdeal (hProjH4Ideal := Cert.ProjH4Ideal.Gen.facts) (hProjH4RefIdeal := Cert.ProjH4RefIdeal.Gen.facts) := by
  intro m g m' g' _ hagree
  refine ⟨_, Cert.ProjH4Ideal.H4.kernel_run m g, ?_⟩
  refine (θ_run _ _ _).mono (fun r h c => ⟨(h c).1.trans ?_, (h c).2⟩) (Cert.ProjH4RefIdeal.Value.run m' g')
  rw [(hagree c).1, (hagree c).2.1, (hagree c).2.2.1, (hagree c).2.2.2]
  exact Cert.H4Same.eq m c

/-- The reference of the projection to the merge gates runs, with its arguments unchanged and no semaphore raised. -/
theorem mg_ref_frame : quiescent_ProjMgRefIdeal (hProjMgRefIdeal := Cert.ProjMgRefIdeal.Gen.facts) := fun m' g' _ =>
  (θ_run _ _ _).mono (fun r h => ⟨fun c => (h c).2, sem_eq_zero_of_no_sems (by decide) _⟩) (Cert.ProjMgRefIdeal.Value.run m' g')

/-- Kernel and reference compute the same merge gates. -/
theorem mg_same : algebraic_ProjMgIdeal_ProjMgRefIdeal (hProjMgIdeal := Cert.ProjMgIdeal.Gen.facts) (hProjMgRefIdeal := Cert.ProjMgRefIdeal.Gen.facts) := by
  intro m g m' g' _ hagree
  refine ⟨_, Cert.ProjMgIdeal.Mg.kernel_run m g, ?_⟩
  refine (θ_run _ _ _).mono (fun r h c => ⟨(h c).1.trans ?_, (h c).2⟩) (Cert.ProjMgRefIdeal.Value.run m' g')
  rw [(hagree c).1, (hagree c).2.1, (hagree c).2.2.1, (hagree c).2.2.2]
  exact Cert.MgSame.eq m c

/-- The reference of the projection to the queries runs, with its arguments unchanged and no semaphore raised. -/
theorem q_ref_frame : quiescent_ProjQRefIdeal (hProjQRefIdeal := Cert.ProjQRefIdeal.Gen.facts) := fun m' g' _ =>
  (θ_run _ _ _).mono (fun r h => ⟨fun c => (h c).2, sem_eq_zero_of_no_sems (by decide) _⟩) (Cert.ProjQRefIdeal.Value.run m' g')

/-- Kernel and reference compute the same queries. -/
theorem q_same : algebraic_ProjQIdeal_ProjQRefIdeal (hProjQIdeal := Cert.ProjQIdeal.Gen.facts) (hProjQRefIdeal := Cert.ProjQRefIdeal.Gen.facts) := by
  intro m g m' g' _ hagree
  refine ⟨_, Cert.ProjQIdeal.Q.kernel_run m g, ?_⟩
  refine (θ_run _ _ _).mono (fun r h c => ⟨(h c).1.trans ?_, (h c).2⟩) (Cert.ProjQRefIdeal.Value.run m' g')
  rw [(hagree c).1, (hagree c).2.1, (hagree c).2.2.1, (hagree c).2.2.2]
  exact Cert.QSame.eq m c

/-- The reference of the merge runs, with its arguments unchanged and no semaphore raised. -/
theorem mix_ref_frame : quiescent_TailMixRefIdeal (hTailMixRefIdeal := Cert.TailMixRefIdeal.Gen.facts) := fun m' g' _ =>
  (θ_run _ _ _).mono (fun r h => ⟨fun c => (h c).2, sem_eq_zero_of_no_sems (by decide) _⟩) (Cert.TailMixRefIdeal.Value.run m' g')

/-- Kernel and reference compute the same merge of the two mixers. -/
theorem mix_same : algebraic_TailMixIdeal_TailMixRefIdeal (hTailMixIdeal := Cert.TailMixIdeal.Gen.facts) (hTailMixRefIdeal := Cert.TailMixRefIdeal.Gen.facts) := by
  intro m g m' g' _ hagree
  refine ⟨_, Cert.TailMixIdeal.Mix.kernel_run m g, ?_⟩
  refine (θ_run _ _ _).mono (fun r h c => ⟨(h c).1.trans ?_, (h c).2⟩) (Cert.TailMixRefIdeal.Value.run m' g')
  rw [(hagree c).1, (hagree c).2.1, (hagree c).2.2.1, (hagree c).2.2.2.1, (hagree c).2.2.2.2]
  exact Cert.MixSame.eq m c

/-- The reference of the projection to the attention gates runs, with its arguments unchanged and no semaphore raised. -/
theorem ng_ref_frame : quiescent_ProjNgRefIdeal (hProjNgRefIdeal := Cert.ProjNgRefIdeal.Gen.facts) := fun m' g' _ =>
  (θ_run _ _ _).mono (fun r h => ⟨fun c => (h c).2.2, sem_eq_zero_of_no_sems (by decide) _⟩) (Cert.ProjNgRefIdeal.Value.run m' g')

/-- Kernel and reference compute the same attention gates, of the prompt and of the sample. -/
theorem ng_same : algebraic_ProjNgIdeal_ProjNgRefIdeal (hProjNgIdeal := Cert.ProjNgIdeal.Gen.facts) (hProjNgRefIdeal := Cert.ProjNgRefIdeal.Gen.facts) := by
  intro m g m' g' _ hagree
  refine ⟨_, _, Cert.ProjNgIdeal.Ng.kernel_run m g, ?_⟩
  refine (θ_run _ _ _).mono (fun r h c => ⟨(h c).1.trans ?_, (h c).2.1.trans ?_, (h c).2.2⟩) (Cert.ProjNgRefIdeal.Value.run m' g')
  · rw [(hagree c).1, (hagree c).2.2.1, (hagree c).2.2.2]
    exact Cert.NgSame.eqP m c
  · rw [(hagree c).2.1, (hagree c).2.2.1, (hagree c).2.2.2]
    exact Cert.NgSame.eqS m c

/-- The certificate's claims. -/
theorem claim : Cert.Claim := ⟨Cert.HgrnPrompt.Gen.facts, Cert.HgrnPromptIdeal.Gen.facts, Cert.HgrnPromptRefIdeal.Gen.facts,
  Cert.MoeFfn.Gen.facts, Cert.MoeFfnIdeal.Gen.facts, Cert.MoeFfnRefIdeal.Gen.facts,
  Cert.ProjKv.Gen.facts, Cert.ProjKvIdeal.Gen.facts, Cert.ProjKvRefIdeal.Gen.facts,
  Cert.ProjH4.Gen.facts, Cert.ProjH4Ideal.Gen.facts, Cert.ProjH4RefIdeal.Gen.facts,
  Cert.ProjMg.Gen.facts, Cert.ProjMgIdeal.Gen.facts, Cert.ProjMgRefIdeal.Gen.facts,
  Cert.ProjQ.Gen.facts, Cert.ProjQIdeal.Gen.facts, Cert.ProjQRefIdeal.Gen.facts,
  Cert.TailMix.Gen.facts, Cert.TailMixIdeal.Gen.facts, Cert.TailMixRefIdeal.Gen.facts,
  Cert.ProjNg.Gen.facts, Cert.ProjNgIdeal.Gen.facts, Cert.ProjNgRefIdeal.Gen.facts,
  Cert.Pre_experts_exist.Gen.facts,
  fun m ρ _ => Cert.HgrnPrompt.Gen.frame m ρ, fun m ρ _ => Cert.HgrnPromptIdeal.Gen.frame m ρ, ref_frame,
  fun _ ρ h => Cert.MoeFfn.Moe.quiet h ρ, fun _ ρ h => Cert.MoeFfnIdeal.Moe.quiet h ρ, experts_ref_frame,
  fun m ρ _ => Cert.ProjKv.Gen.frame m ρ, fun m ρ _ => Cert.ProjKvIdeal.Gen.frame m ρ, kv_ref_frame,
  fun m ρ _ => Cert.ProjH4.Gen.frame m ρ, fun m ρ _ => Cert.ProjH4Ideal.Gen.frame m ρ, h4_ref_frame,
  fun m ρ _ => Cert.ProjMg.Gen.frame m ρ, fun m ρ _ => Cert.ProjMgIdeal.Gen.frame m ρ, mg_ref_frame,
  fun m ρ _ => Cert.ProjQ.Gen.frame m ρ, fun m ρ _ => Cert.ProjQIdeal.Gen.frame m ρ, q_ref_frame,
  fun m ρ _ => Cert.TailMix.Gen.frame m ρ, fun m ρ _ => Cert.TailMixIdeal.Gen.frame m ρ, mix_ref_frame,
  fun m ρ _ => Cert.ProjNg.Gen.frame m ρ, fun m ρ _ => Cert.ProjNgIdeal.Gen.frame m ρ, ng_ref_frame,
  trivial, same, trivial, experts_same, trivial, kv_same, trivial, h4_same, trivial, mg_same, trivial, q_same, trivial, mix_same, trivial, ng_same⟩

end Cert.Proof

end
